-- ==== Defs.lean ====
def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2))) = (fun _ => 1#1)

def Pre_FfnLnBwd (m : (ℓ : Loc Cert.FfnLnBwd.nD Cert.FfnLnBwd.τ Cert.FfnLnBwd.sig) → Buf (Elt Bits) ℓ) : Prop :=
  True

def Pre_FfnLnBwdIdeal (m : (ℓ : Loc Cert.FfnLnBwdIdeal.nD Cert.FfnLnBwdIdeal.τ Cert.FfnLnBwdIdeal.sig) → Buf (Elt Ideal) ℓ) : Prop :=
  True

def Pre_FfnLnBwdIdeal_ffn_ln_finite [hPre_ffn_ln_finite : Cert.Pre_ffn_ln_finite.Facts] (m : (ℓ : Loc Cert.FfnLnBwdIdeal.nD Cert.FfnLnBwdIdeal.τ Cert.FfnLnBwdIdeal.sig) → Buf (Elt Ideal) ℓ) : Prop :=
  ∀ c : Dev Cert.FfnLnBwdIdeal.nD,
    (Cert.Pre_ffn_ln_finite.fn (F := Ideal) (m ((c.tc : Thread Cert.FfnLnBwdIdeal.nD Cert.FfnLnBwdIdeal.τ).loc Cert.FfnLnBwdIdeal.main_arg0)) (m ((c.tc : Thread Cert.FfnLnBwdIdeal.nD Cert.FfnLnBwdIdeal.τ).loc Cert.FfnLnBwdIdeal.main_arg1)) (m ((c.tc : Thread Cert.FfnLnBwdIdeal.nD Cert.FfnLnBwdIdeal.τ).loc Cert.FfnLnBwdIdeal.main_arg2)) (m ((c.tc : Thread Cert.FfnLnBwdIdeal.nD Cert.FfnLnBwdIdeal.τ).loc Cert.FfnLnBwdIdeal.main_arg3)) (m ((c.tc : Thread Cert.FfnLnBwdIdeal.nD Cert.FfnLnBwdIdeal.τ).loc Cert.FfnLnBwdIdeal.main_arg4)) (m ((c.tc : Thread Cert.FfnLnBwdIdeal.nD Cert.FfnLnBwdIdeal.τ).loc Cert.FfnLnBwdIdeal.main_arg5)) (m ((c.tc : Thread Cert.FfnLnBwdIdeal.nD Cert.FfnLnBwdIdeal.τ).loc Cert.FfnLnBwdIdeal.main_arg6)) (m ((c.tc : Thread Cert.FfnLnBwdIdeal.nD Cert.FfnLnBwdIdeal.τ).loc Cert.FfnLnBwdIdeal.main_arg7))) = (fun _ => 1#1)

def Pre_FfnLnRefIdeal (m : (ℓ : Loc Cert.FfnLnRefIdeal.nD Cert.FfnLnRefIdeal.τ Cert.FfnLnRefIdeal.sig) → Buf (Elt Ideal) ℓ) : Prop :=
  True

def Pre_FfnLnRefIdeal_ffn_ln_finite [hPre_ffn_ln_finite : Cert.Pre_ffn_ln_finite.Facts] (m : (ℓ : Loc Cert.FfnLnRefIdeal.nD Cert.FfnLnRefIdeal.τ Cert.FfnLnRefIdeal.sig) → Buf (Elt Ideal) ℓ) : Prop :=
  ∀ c : Dev Cert.FfnLnRefIdeal.nD,
    (Cert.Pre_ffn_ln_finite.fn (F := Ideal) (m ((c.tc : Thread Cert.FfnLnRefIdeal.nD Cert.FfnLnRefIdeal.τ).loc Cert.FfnLnRefIdeal.main_arg0)) (m ((c.tc : Thread Cert.FfnLnRefIdeal.nD Cert.FfnLnRefIdeal.τ).loc Cert.FfnLnRefIdeal.main_arg1)) (m ((c.tc : Thread Cert.FfnLnRefIdeal.nD Cert.FfnLnRefIdeal.τ).loc Cert.FfnLnRefIdeal.main_arg2)) (m ((c.tc : Thread Cert.FfnLnRefIdeal.nD Cert.FfnLnRefIdeal.τ).loc Cert.FfnLnRefIdeal.main_arg3)) (m ((c.tc : Thread Cert.FfnLnRefIdeal.nD Cert.FfnLnRefIdeal.τ).loc Cert.FfnLnRefIdeal.main_arg4)) (m ((c.tc : Thread Cert.FfnLnRefIdeal.nD Cert.FfnLnRefIdeal.τ).loc Cert.FfnLnRefIdeal.main_arg5)) (m ((c.tc : Thread Cert.FfnLnRefIdeal.nD Cert.FfnLnRefIdeal.τ).loc Cert.FfnLnRefIdeal.main_arg6)) (m ((c.tc : Thread Cert.FfnLnRefIdeal.nD Cert.FfnLnRefIdeal.τ).loc Cert.FfnLnRefIdeal.main_arg7))) = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_AttnLnBwd (m : (ℓ : Loc Cert.AttnLnBwd.nD Cert.AttnLnBwd.τ Cert.AttnLnBwd.sig) → Buf (Elt Bits) ℓ) : Prop :=
  True

def Pre_AttnLnBwdIdeal (m : (ℓ : Loc Cert.AttnLnBwdIdeal.nD Cert.AttnLnBwdIdeal.τ Cert.AttnLnBwdIdeal.sig) → Buf (Elt Ideal) ℓ) : Prop :=
  True

def Pre_AttnLnBwdIdeal_attn_ln_finite [hPre_attn_ln_finite : Cert.Pre_attn_ln_finite.Facts] (m : (ℓ : Loc Cert.AttnLnBwdIdeal.nD Cert.AttnLnBwdIdeal.τ Cert.AttnLnBwdIdeal.sig) → Buf (Elt Ideal) ℓ) : Prop :=
  ∀ c : Dev Cert.AttnLnBwdIdeal.nD,
    (Cert.Pre_attn_ln_finite.fn (F := Ideal) (m ((c.tc : Thread Cert.AttnLnBwdIdeal.nD Cert.AttnLnBwdIdeal.τ).loc Cert.AttnLnBwdIdeal.main_arg0)) (m ((c.tc : Thread Cert.AttnLnBwdIdeal.nD Cert.AttnLnBwdIdeal.τ).loc Cert.AttnLnBwdIdeal.main_arg1)) (m ((c.tc : Thread Cert.AttnLnBwdIdeal.nD Cert.AttnLnBwdIdeal.τ).loc Cert.AttnLnBwdIdeal.main_arg2)) (m ((c.tc : Thread Cert.AttnLnBwdIdeal.nD Cert.AttnLnBwdIdeal.τ).loc Cert.AttnLnBwdIdeal.main_arg3)) (m ((c.tc : Thread Cert.AttnLnBwdIdeal.nD Cert.AttnLnBwdIdeal.τ).loc Cert.AttnLnBwdIdeal.main_arg4)) (m ((c.tc : Thread Cert.AttnLnBwdIdeal.nD Cert.AttnLnBwdIdeal.τ).loc Cert.AttnLnBwdIdeal.main_arg5)) (m ((c.tc : Thread Cert.AttnLnBwdIdeal.nD Cert.AttnLnBwdIdeal.τ).loc Cert.AttnLnBwdIdeal.main_arg6)) (m ((c.tc : Thread Cert.AttnLnBwdIdeal.nD Cert.AttnLnBwdIdeal.τ).loc Cert.AttnLnBwdIdeal.main_arg7)) (m ((c.tc : Thread Cert.AttnLnBwdIdeal.nD Cert.AttnLnBwdIdeal.τ).loc Cert.AttnLnBwdIdeal.main_arg8)) (m ((c.tc : Thread Cert.AttnLnBwdIdeal.nD Cert.AttnLnBwdIdeal.τ).loc Cert.AttnLnBwdIdeal.main_arg9)) (m ((c.tc : Thread Cert.AttnLnBwdIdeal.nD Cert.AttnLnBwdIdeal.τ).loc Cert.AttnLnBwdIdeal.main_arg10)) (m ((c.tc : Thread Cert.AttnLnBwdIdeal.nD Cert.AttnLnBwdIdeal.τ).loc Cert.AttnLnBwdIdeal.main_arg11))) = (fun _ => 1#1)

def Pre_AttnLnRefIdeal (m : (ℓ : Loc Cert.AttnLnRefIdeal.nD Cert.AttnLnRefIdeal.τ Cert.AttnLnRefIdeal.sig) → Buf (Elt Ideal) ℓ) : Prop :=
  True

def Pre_AttnLnRefIdeal_attn_ln_finite [hPre_attn_ln_finite : Cert.Pre_attn_ln_finite.Facts] (m : (ℓ : Loc Cert.AttnLnRefIdeal.nD Cert.AttnLnRefIdeal.τ Cert.AttnLnRefIdeal.sig) → Buf (Elt Ideal) ℓ) : Prop :=
  ∀ c : Dev Cert.AttnLnRefIdeal.nD,
    (Cert.Pre_attn_ln_finite.fn (F := Ideal) (m ((c.tc : Thread Cert.AttnLnRefIdeal.nD Cert.AttnLnRefIdeal.τ).loc Cert.AttnLnRefIdeal.main_arg0)) (m ((c.tc : Thread Cert.AttnLnRefIdeal.nD Cert.AttnLnRefIdeal.τ).loc Cert.AttnLnRefIdeal.main_arg1)) (m ((c.tc : Thread Cert.AttnLnRefIdeal.nD Cert.AttnLnRefIdeal.τ).loc Cert.AttnLnRefIdeal.main_arg2)) (m ((c.tc : Thread Cert.AttnLnRefIdeal.nD Cert.AttnLnRefIdeal.τ).loc Cert.AttnLnRefIdeal.main_arg3)) (m ((c.tc : Thread Cert.AttnLnRefIdeal.nD Cert.AttnLnRefIdeal.τ).loc Cert.AttnLnRefIdeal.main_arg4)) (m ((c.tc : Thread Cert.AttnLnRefIdeal.nD Cert.AttnLnRefIdeal.τ).loc Cert.AttnLnRefIdeal.main_arg5)) (m ((c.tc : Thread Cert.AttnLnRefIdeal.nD Cert.AttnLnRefIdeal.τ).loc Cert.AttnLnRefIdeal.main_arg6)) (m ((c.tc : Thread Cert.AttnLnRefIdeal.nD Cert.AttnLnRefIdeal.τ).loc Cert.AttnLnRefIdeal.main_arg7)) (m ((c.tc : Thread Cert.AttnLnRefIdeal.nD Cert.AttnLnRefIdeal.τ).loc Cert.AttnLnRefIdeal.main_arg8)) (m ((c.tc : Thread Cert.AttnLnRefIdeal.nD Cert.AttnLnRefIdeal.τ).loc Cert.AttnLnRefIdeal.main_arg9)) (m ((c.tc : Thread Cert.AttnLnRefIdeal.nD Cert.AttnLnRefIdeal.τ).loc Cert.AttnLnRefIdeal.main_arg10)) (m ((c.tc : Thread Cert.AttnLnRefIdeal.nD Cert.AttnLnRefIdeal.τ).loc Cert.AttnLnRefIdeal.main_arg11))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_FfnLnBwd [hFfnLnBwd : Cert.FfnLnBwd.Facts] : Prop :=
  ∀ (m : (ℓ : Loc Cert.FfnLnBwd.nD Cert.FfnLnBwd.τ Cert.FfnLnBwd.sig) → Buf (Elt Bits) ℓ) (g : Dev Cert.FfnLnBwd.nD → PrngReg), Pre_FfnLnBwd m →
    θ_run (Cert.FfnLnBwd.defs (F := Bits)) (onTc (τ := Cert.FfnLnBwd.τ) (Cert.FfnLnBwd.main (F := Bits))) ⟨m, fun _ => 0, g⟩ (fun r => (∀ c : Dev Cert.FfnLnBwd.nD,
      r.2.mem ((c.tc : Thread Cert.FfnLnBwd.nD Cert.FfnLnBwd.τ).loc Cert.FfnLnBwd.main_arg0) = m ((c.tc : Thread Cert.FfnLnBwd.nD Cert.FfnLnBwd.τ).loc Cert.FfnLnBwd.main_arg0)
      ∧ r.2.mem ((c.tc : Thread Cert.FfnLnBwd.nD Cert.FfnLnBwd.τ).loc Cert.FfnLnBwd.main_arg1) = m ((c.tc : Thread Cert.FfnLnBwd.nD Cert.FfnLnBwd.τ).loc Cert.FfnLnBwd.main_arg1)
      ∧ r.2.mem ((c.tc : Thread Cert.FfnLnBwd.nD Cert.FfnLnBwd.τ).loc Cert.FfnLnBwd.main_arg2) = m ((c.tc : Thread Cert.FfnLnBwd.nD Cert.FfnLnBwd.τ).loc Cert.FfnLnBwd.main_arg2)
      ∧ r.2.mem ((c.tc : Thread Cert.FfnLnBwd.nD Cert.FfnLnBwd.τ).loc Cert.FfnLnBwd.main_arg3) = m ((c.tc : Thread Cert.FfnLnBwd.nD Cert.FfnLnBwd.τ).loc Cert.FfnLnBwd.main_arg3)
      ∧ r.2.mem ((c.tc : Thread Cert.FfnLnBwd.nD Cert.FfnLnBwd.τ).loc Cert.FfnLnBwd.main_arg4) = m ((c.tc : Thread Cert.FfnLnBwd.nD Cert.FfnLnBwd.τ).loc Cert.FfnLnBwd.main_arg4)
      ∧ r.2.mem ((c.tc : Thread Cert.FfnLnBwd.nD Cert.FfnLnBwd.τ).loc Cert.FfnLnBwd.main_arg5) = m ((c.tc : Thread Cert.FfnLnBwd.nD Cert.FfnLnBwd.τ).loc Cert.FfnLnBwd.main_arg5)
      ∧ r.2.mem ((c.tc : Thread Cert.FfnLnBwd.nD Cert.FfnLnBwd.τ).loc Cert.FfnLnBwd.main_arg6) = m ((c.tc : Thread Cert.FfnLnBwd.nD Cert.FfnLnBwd.τ).loc Cert.FfnLnBwd.main_arg6)
      ∧ r.2.mem ((c.tc : Thread Cert.FfnLnBwd.nD Cert.FfnLnBwd.τ).loc Cert.FfnLnBwd.main_arg7) = m ((c.tc : Thread Cert.FfnLnBwd.nD Cert.FfnLnBwd.τ).loc Cert.FfnLnBwd.main_arg7))
      ∧ r.2.sem = fun _ => 0)

def quiescent_FfnLnBwdIdeal [hFfnLnBwdIdeal : Cert.FfnLnBwdIdeal.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg), Pre_FfnLnBwdIdeal m →
    θ_run (Cert.FfnLnBwdIdeal.defs (F := Ideal)) (onTc (τ := Cert.FfnLnBwdIdeal.τ) (Cert.FfnLnBwdIdeal.main (F := Ideal))) ⟨m, fun _ => 0, g⟩ (fun r => (∀ c : Dev Cert.FfnLnBwdIdeal.nD,
      r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
      ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
      ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
      ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
      ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4)
      ∧ r.2.mem ((c.tc : Thread Cert.FfnLnBwdIdeal.nD Cert.FfnLnBwdIdeal.τ).loc Cert.FfnLnBwdIdeal.main_arg5) = m ((c.tc : Thread Cert.FfnLnBwdIdeal.nD Cert.FfnLnBwdIdeal.τ).loc Cert.FfnLnBwdIdeal.main_arg5)
      ∧ r.2.mem ((c.tc : Thread Cert.FfnLnBwdIdeal.nD Cert.FfnLnBwdIdeal.τ).loc Cert.FfnLnBwdIdeal.main_arg6) = m ((c.tc : Thread Cert.FfnLnBwdIdeal.nD Cert.FfnLnBwdIdeal.τ).loc Cert.FfnLnBwdIdeal.main_arg6)
      ∧ r.2.mem ((c.tc : Thread Cert.FfnLnBwdIdeal.nD Cert.FfnLnBwdIdeal.τ).loc Cert.FfnLnBwdIdeal.main_arg7) = m ((c.tc : Thread Cert.FfnLnBwdIdeal.nD Cert.FfnLnBwdIdeal.τ).loc Cert.FfnLnBwdIdeal.main_arg7))
      ∧ r.2.sem = fun _ => 0)

def quiescent_FfnLnBwdIdeal_pre_ffn_ln_finite [hFfnLnBwdIdeal : Cert.FfnLnBwdIdeal.Facts] [hPre_ffn_ln_finite : Cert.Pre_ffn_ln_finite.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg), Pre_FfnLnBwdIdeal_ffn_ln_finite m →
    θ_run (Cert.FfnLnBwdIdeal.defs (F := Ideal)) (onTc (τ := Cert.FfnLnBwdIdeal.τ) (Cert.FfnLnBwdIdeal.main (F := Ideal))) ⟨m, fun _ => 0, g⟩ (fun r => (∀ c : Dev Cert.FfnLnBwdIdeal.nD,
      r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
      ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
      ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
      ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
      ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4)
      ∧ r.2.mem ((c.tc : Thread Cert.FfnLnBwdIdeal.nD Cert.FfnLnBwdIdeal.τ).loc Cert.FfnLnBwdIdeal.main_arg5) = m ((c.tc : Thread Cert.FfnLnBwdIdeal.nD Cert.FfnLnBwdIdeal.τ).loc Cert.FfnLnBwdIdeal.main_arg5)
      ∧ r.2.mem ((c.tc : Thread Cert.FfnLnBwdIdeal.nD Cert.FfnLnBwdIdeal.τ).loc Cert.FfnLnBwdIdeal.main_arg6) = m ((c.tc : Thread Cert.FfnLnBwdIdeal.nD Cert.FfnLnBwdIdeal.τ).loc Cert.FfnLnBwdIdeal.main_arg6)
      ∧ r.2.mem ((c.tc : Thread Cert.FfnLnBwdIdeal.nD Cert.FfnLnBwdIdeal.τ).loc Cert.FfnLnBwdIdeal.main_arg7) = m ((c.tc : Thread Cert.FfnLnBwdIdeal.nD Cert.FfnLnBwdIdeal.τ).loc Cert.FfnLnBwdIdeal.main_arg7))
      ∧ r.2.sem = fun _ => 0)

def quiescent_FfnLnRefIdeal [hFfnLnRefIdeal : Cert.FfnLnRefIdeal.Facts] : Prop :=
  ∀ (m : (ℓ : Loc Cert.FfnLnRefIdeal.nD Cert.FfnLnRefIdeal.τ Cert.FfnLnRefIdeal.sig) → Buf (Elt Ideal) ℓ) (g : Dev Cert.FfnLnRefIdeal.nD → PrngReg), Pre_FfnLnRefIdeal m →
    θ_run (Cert.FfnLnRefIdeal.defs (F := Ideal)) (onTc (τ := Cert.FfnLnRefIdeal.τ) (Cert.FfnLnRefIdeal.main (F := Ideal))) ⟨m, fun _ => 0, g⟩ (fun r => (∀ c : Dev Cert.FfnLnRefIdeal.nD,
      r.2.mem ((c.tc : Thread Cert.FfnLnRefIdeal.nD Cert.FfnLnRefIdeal.τ).loc Cert.FfnLnRefIdeal.main_arg0) = m ((c.tc : Thread Cert.FfnLnRefIdeal.nD Cert.FfnLnRefIdeal.τ).loc Cert.FfnLnRefIdeal.main_arg0)
      ∧ r.2.mem ((c.tc : Thread Cert.FfnLnRefIdeal.nD Cert.FfnLnRefIdeal.τ).loc Cert.FfnLnRefIdeal.main_arg1) = m ((c.tc : Thread Cert.FfnLnRefIdeal.nD Cert.FfnLnRefIdeal.τ).loc Cert.FfnLnRefIdeal.main_arg1)
      ∧ r.2.mem ((c.tc : Thread Cert.FfnLnRefIdeal.nD Cert.FfnLnRefIdeal.τ).loc Cert.FfnLnRefIdeal.main_arg2) = m ((c.tc : Thread Cert.FfnLnRefIdeal.nD Cert.FfnLnRefIdeal.τ).loc Cert.FfnLnRefIdeal.main_arg2)
      ∧ r.2.mem ((c.tc : Thread Cert.FfnLnRefIdeal.nD Cert.FfnLnRefIdeal.τ).loc Cert.FfnLnRefIdeal.main_arg3) = m ((c.tc : Thread Cert.FfnLnRefIdeal.nD Cert.FfnLnRefIdeal.τ).loc Cert.FfnLnRefIdeal.main_arg3)
      ∧ r.2.mem ((c.tc : Thread Cert.FfnLnRefIdeal.nD Cert.FfnLnRefIdeal.τ).loc Cert.FfnLnRefIdeal.main_arg4) = m ((c.tc : Thread Cert.FfnLnRefIdeal.nD Cert.FfnLnRefIdeal.τ).loc Cert.FfnLnRefIdeal.main_arg4)
      ∧ r.2.mem ((c.tc : Thread Cert.FfnLnRefIdeal.nD Cert.FfnLnRefIdeal.τ).loc Cert.FfnLnRefIdeal.main_arg5) = m ((c.tc : Thread Cert.FfnLnRefIdeal.nD Cert.FfnLnRefIdeal.τ).loc Cert.FfnLnRefIdeal.main_arg5)
      ∧ r.2.mem ((c.tc : Thread Cert.FfnLnRefIdeal.nD Cert.FfnLnRefIdeal.τ).loc Cert.FfnLnRefIdeal.main_arg6) = m ((c.tc : Thread Cert.FfnLnRefIdeal.nD Cert.FfnLnRefIdeal.τ).loc Cert.FfnLnRefIdeal.main_arg6)
      ∧ r.2.mem ((c.tc : Thread Cert.FfnLnRefIdeal.nD Cert.FfnLnRefIdeal.τ).loc Cert.FfnLnRefIdeal.main_arg7) = m ((c.tc : Thread Cert.FfnLnRefIdeal.nD Cert.FfnLnRefIdeal.τ).loc Cert.FfnLnRefIdeal.main_arg7))
      ∧ r.2.sem = fun _ => 0)

def quiescent_FfnLnRefIdeal_pre_ffn_ln_finite [hFfnLnRefIdeal : Cert.FfnLnRefIdeal.Facts] [hPre_ffn_ln_finite : Cert.Pre_ffn_ln_finite.Facts] : Prop :=
  ∀ (m : (ℓ : Loc Cert.FfnLnRefIdeal.nD Cert.FfnLnRefIdeal.τ Cert.FfnLnRefIdeal.sig) → Buf (Elt Ideal) ℓ) (g : Dev Cert.FfnLnRefIdeal.nD → PrngReg), Pre_FfnLnRefIdeal_ffn_ln_finite m →
    θ_run (Cert.FfnLnRefIdeal.defs (F := Ideal)) (onTc (τ := Cert.FfnLnRefIdeal.τ) (Cert.FfnLnRefIdeal.main (F := Ideal))) ⟨m, fun _ => 0, g⟩ (fun r => (∀ c : Dev Cert.FfnLnRefIdeal.nD,
      r.2.mem ((c.tc : Thread Cert.FfnLnRefIdeal.nD Cert.FfnLnRefIdeal.τ).loc Cert.FfnLnRefIdeal.main_arg0) = m ((c.tc : Thread Cert.FfnLnRefIdeal.nD Cert.FfnLnRefIdeal.τ).loc Cert.FfnLnRefIdeal.main_arg0)
      ∧ r.2.mem ((c.tc : Thread Cert.FfnLnRefIdeal.nD Cert.FfnLnRefIdeal.τ).loc Cert.FfnLnRefIdeal.main_arg1) = m ((c.tc : Thread Cert.FfnLnRefIdeal.nD Cert.FfnLnRefIdeal.τ).loc Cert.FfnLnRefIdeal.main_arg1)
      ∧ r.2.mem ((c.tc : Thread Cert.FfnLnRefIdeal.nD Cert.FfnLnRefIdeal.τ).loc Cert.FfnLnRefIdeal.main_arg2) = m ((c.tc : Thread Cert.FfnLnRefIdeal.nD Cert.FfnLnRefIdeal.τ).loc Cert.FfnLnRefIdeal.main_arg2)
      ∧ r.2.mem ((c.tc : Thread Cert.FfnLnRefIdeal.nD Cert.FfnLnRefIdeal.τ).loc Cert.FfnLnRefIdeal.main_arg3) = m ((c.tc : Thread Cert.FfnLnRefIdeal.nD Cert.FfnLnRefIdeal.τ).loc Cert.FfnLnRefIdeal.main_arg3)
      ∧ r.2.mem ((c.tc : Thread Cert.FfnLnRefIdeal.nD Cert.FfnLnRefIdeal.τ).loc Cert.FfnLnRefIdeal.main_arg4) = m ((c.tc : Thread Cert.FfnLnRefIdeal.nD Cert.FfnLnRefIdeal.τ).loc Cert.FfnLnRefIdeal.main_arg4)
      ∧ r.2.mem ((c.tc : Thread Cert.FfnLnRefIdeal.nD Cert.FfnLnRefIdeal.τ).loc Cert.FfnLnRefIdeal.main_arg5) = m ((c.tc : Thread Cert.FfnLnRefIdeal.nD Cert.FfnLnRefIdeal.τ).loc Cert.FfnLnRefIdeal.main_arg5)
      ∧ r.2.mem ((c.tc : Thread Cert.FfnLnRefIdeal.nD Cert.FfnLnRefIdeal.τ).loc Cert.FfnLnRefIdeal.main_arg6) = m ((c.tc : Thread Cert.FfnLnRefIdeal.nD Cert.FfnLnRefIdeal.τ).loc Cert.FfnLnRefIdeal.main_arg6)
      ∧ r.2.mem ((c.tc : Thread Cert.FfnLnRefIdeal.nD Cert.FfnLnRefIdeal.τ).loc Cert.FfnLnRefIdeal.main_arg7) = m ((c.tc : Thread Cert.FfnLnRefIdeal.nD Cert.FfnLnRefIdeal.τ).loc Cert.FfnLnRefIdeal.main_arg7))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_AttnLnBwd [hAttnLnBwd : Cert.AttnLnBwd.Facts] : Prop :=
  ∀ (m : (ℓ : Loc Cert.AttnLnBwd.nD Cert.AttnLnBwd.τ Cert.AttnLnBwd.sig) → Buf (Elt Bits) ℓ) (g : Dev Cert.AttnLnBwd.nD → PrngReg), Pre_AttnLnBwd m →
    θ_run (Cert.AttnLnBwd.defs (F := Bits)) (onTc (τ := Cert.AttnLnBwd.τ) (Cert.AttnLnBwd.main (F := Bits))) ⟨m, fun _ => 0, g⟩ (fun r => (∀ c : Dev Cert.AttnLnBwd.nD,
      r.2.mem ((c.tc : Thread Cert.AttnLnBwd.nD Cert.AttnLnBwd.τ).loc Cert.AttnLnBwd.main_arg0) = m ((c.tc : Thread Cert.AttnLnBwd.nD Cert.AttnLnBwd.τ).loc Cert.AttnLnBwd.main_arg0)
      ∧ r.2.mem ((c.tc : Thread Cert.AttnLnBwd.nD Cert.AttnLnBwd.τ).loc Cert.AttnLnBwd.main_arg1) = m ((c.tc : Thread Cert.AttnLnBwd.nD Cert.AttnLnBwd.τ).loc Cert.AttnLnBwd.main_arg1)
      ∧ r.2.mem ((c.tc : Thread Cert.AttnLnBwd.nD Cert.AttnLnBwd.τ).loc Cert.AttnLnBwd.main_arg2) = m ((c.tc : Thread Cert.AttnLnBwd.nD Cert.AttnLnBwd.τ).loc Cert.AttnLnBwd.main_arg2)
      ∧ r.2.mem ((c.tc : Thread Cert.AttnLnBwd.nD Cert.AttnLnBwd.τ).loc Cert.AttnLnBwd.main_arg3) = m ((c.tc : Thread Cert.AttnLnBwd.nD Cert.AttnLnBwd.τ).loc Cert.AttnLnBwd.main_arg3)
      ∧ r.2.mem ((c.tc : Thread Cert.AttnLnBwd.nD Cert.AttnLnBwd.τ).loc Cert.AttnLnBwd.main_arg4) = m ((c.tc : Thread Cert.AttnLnBwd.nD Cert.AttnLnBwd.τ).loc Cert.AttnLnBwd.main_arg4)
      ∧ r.2.mem ((c.tc : Thread Cert.AttnLnBwd.nD Cert.AttnLnBwd.τ).loc Cert.AttnLnBwd.main_arg5) = m ((c.tc : Thread Cert.AttnLnBwd.nD Cert.AttnLnBwd.τ).loc Cert.AttnLnBwd.main_arg5)
      ∧ r.2.mem ((c.tc : Thread Cert.AttnLnBwd.nD Cert.AttnLnBwd.τ).loc Cert.AttnLnBwd.main_arg6) = m ((c.tc : Thread Cert.AttnLnBwd.nD Cert.AttnLnBwd.τ).loc Cert.AttnLnBwd.main_arg6)
      ∧ r.2.mem ((c.tc : Thread Cert.AttnLnBwd.nD Cert.AttnLnBwd.τ).loc Cert.AttnLnBwd.main_arg7) = m ((c.tc : Thread Cert.AttnLnBwd.nD Cert.AttnLnBwd.τ).loc Cert.AttnLnBwd.main_arg7)
      ∧ r.2.mem ((c.tc : Thread Cert.AttnLnBwd.nD Cert.AttnLnBwd.τ).loc Cert.AttnLnBwd.main_arg8) = m ((c.tc : Thread Cert.AttnLnBwd.nD Cert.AttnLnBwd.τ).loc Cert.AttnLnBwd.main_arg8)
      ∧ r.2.mem ((c.tc : Thread Cert.AttnLnBwd.nD Cert.AttnLnBwd.τ).loc Cert.AttnLnBwd.main_arg9) = m ((c.tc : Thread Cert.AttnLnBwd.nD Cert.AttnLnBwd.τ).loc Cert.AttnLnBwd.main_arg9)
      ∧ r.2.mem ((c.tc : Thread Cert.AttnLnBwd.nD Cert.AttnLnBwd.τ).loc Cert.AttnLnBwd.main_arg10) = m ((c.tc : Thread Cert.AttnLnBwd.nD Cert.AttnLnBwd.τ).loc Cert.AttnLnBwd.main_arg10)
      ∧ r.2.mem ((c.tc : Thread Cert.AttnLnBwd.nD Cert.AttnLnBwd.τ).loc Cert.AttnLnBwd.main_arg11) = m ((c.tc : Thread Cert.AttnLnBwd.nD Cert.AttnLnBwd.τ).loc Cert.AttnLnBwd.main_arg11))
      ∧ r.2.sem = fun _ => 0)

def quiescent_AttnLnBwdIdeal [hAttnLnBwdIdeal : Cert.AttnLnBwdIdeal.Facts] : Prop :=
  ∀ (m : (ℓ : Loc Cert.AttnLnBwdIdeal.nD Cert.AttnLnBwdIdeal.τ Cert.AttnLnBwdIdeal.sig) → Buf (Elt Ideal) ℓ) (g : Dev Cert.AttnLnBwdIdeal.nD → PrngReg), Pre_AttnLnBwdIdeal m →
    θ_run (Cert.AttnLnBwdIdeal.defs (F := Ideal)) (onTc (τ := Cert.AttnLnBwdIdeal.τ) (Cert.AttnLnBwdIdeal.main (F := Ideal))) ⟨m, fun _ => 0, g⟩ (fun r => (∀ c : Dev Cert.AttnLnBwdIdeal.nD,
      r.2.mem ((c.tc : Thread Cert.AttnLnBwdIdeal.nD Cert.AttnLnBwdIdeal.τ).loc Cert.AttnLnBwdIdeal.main_arg0) = m ((c.tc : Thread Cert.AttnLnBwdIdeal.nD Cert.AttnLnBwdIdeal.τ).loc Cert.AttnLnBwdIdeal.main_arg0)
      ∧ r.2.mem ((c.tc : Thread Cert.AttnLnBwdIdeal.nD Cert.AttnLnBwdIdeal.τ).loc Cert.AttnLnBwdIdeal.main_arg1) = m ((c.tc : Thread Cert.AttnLnBwdIdeal.nD Cert.AttnLnBwdIdeal.τ).loc Cert.AttnLnBwdIdeal.main_arg1)
      ∧ r.2.mem ((c.tc : Thread Cert.AttnLnBwdIdeal.nD Cert.AttnLnBwdIdeal.τ).loc Cert.AttnLnBwdIdeal.main_arg2) = m ((c.tc : Thread Cert.AttnLnBwdIdeal.nD Cert.AttnLnBwdIdeal.τ).loc Cert.AttnLnBwdIdeal.main_arg2)
      ∧ r.2.mem ((c.tc : Thread Cert.AttnLnBwdIdeal.nD Cert.AttnLnBwdIdeal.τ).loc Cert.AttnLnBwdIdeal.main_arg3) = m ((c.tc : Thread Cert.AttnLnBwdIdeal.nD Cert.AttnLnBwdIdeal.τ).loc Cert.AttnLnBwdIdeal.main_arg3)
      ∧ r.2.mem ((c.tc : Thread Cert.AttnLnBwdIdeal.nD Cert.AttnLnBwdIdeal.τ).loc Cert.AttnLnBwdIdeal.main_arg4) = m ((c.tc : Thread Cert.AttnLnBwdIdeal.nD Cert.AttnLnBwdIdeal.τ).loc Cert.AttnLnBwdIdeal.main_arg4)
      ∧ r.2.mem ((c.tc : Thread Cert.AttnLnBwdIdeal.nD Cert.AttnLnBwdIdeal.τ).loc Cert.AttnLnBwdIdeal.main_arg5) = m ((c.tc : Thread Cert.AttnLnBwdIdeal.nD Cert.AttnLnBwdIdeal.τ).loc Cert.AttnLnBwdIdeal.main_arg5)
      ∧ r.2.mem ((c.tc : Thread Cert.AttnLnBwdIdeal.nD Cert.AttnLnBwdIdeal.τ).loc Cert.AttnLnBwdIdeal.main_arg6) = m ((c.tc : Thread Cert.AttnLnBwdIdeal.nD Cert.AttnLnBwdIdeal.τ).loc Cert.AttnLnBwdIdeal.main_arg6)
      ∧ r.2.mem ((c.tc : Thread Cert.AttnLnBwdIdeal.nD Cert.AttnLnBwdIdeal.τ).loc Cert.AttnLnBwdIdeal.main_arg7) = m ((c.tc : Thread Cert.AttnLnBwdIdeal.nD Cert.AttnLnBwdIdeal.τ).loc Cert.AttnLnBwdIdeal.main_arg7)
      ∧ r.2.mem ((c.tc : Thread Cert.AttnLnBwdIdeal.nD Cert.AttnLnBwdIdeal.τ).loc Cert.AttnLnBwdIdeal.main_arg8) = m ((c.tc : Thread Cert.AttnLnBwdIdeal.nD Cert.AttnLnBwdIdeal.τ).loc Cert.AttnLnBwdIdeal.main_arg8)
      ∧ r.2.mem ((c.tc : Thread Cert.AttnLnBwdIdeal.nD Cert.AttnLnBwdIdeal.τ).loc Cert.AttnLnBwdIdeal.main_arg9) = m ((c.tc : Thread Cert.AttnLnBwdIdeal.nD Cert.AttnLnBwdIdeal.τ).loc Cert.AttnLnBwdIdeal.main_arg9)
      ∧ r.2.mem ((c.tc : Thread Cert.AttnLnBwdIdeal.nD Cert.AttnLnBwdIdeal.τ).loc Cert.AttnLnBwdIdeal.main_arg10) = m ((c.tc : Thread Cert.AttnLnBwdIdeal.nD Cert.AttnLnBwdIdeal.τ).loc Cert.AttnLnBwdIdeal.main_arg10)
      ∧ r.2.mem ((c.tc : Thread Cert.AttnLnBwdIdeal.nD Cert.AttnLnBwdIdeal.τ).loc Cert.AttnLnBwdIdeal.main_arg11) = m ((c.tc : Thread Cert.AttnLnBwdIdeal.nD Cert.AttnLnBwdIdeal.τ).loc Cert.AttnLnBwdIdeal.main_arg11))
      ∧ r.2.sem = fun _ => 0)

def quiescent_AttnLnBwdIdeal_pre_attn_ln_finite [hAttnLnBwdIdeal : Cert.AttnLnBwdIdeal.Facts] [hPre_attn_ln_finite : Cert.Pre_attn_ln_finite.Facts] : Prop :=
  ∀ (m : (ℓ : Loc Cert.AttnLnBwdIdeal.nD Cert.AttnLnBwdIdeal.τ Cert.AttnLnBwdIdeal.sig) → Buf (Elt Ideal) ℓ) (g : Dev Cert.AttnLnBwdIdeal.nD → PrngReg), Pre_AttnLnBwdIdeal_attn_ln_finite m →
    θ_run (Cert.AttnLnBwdIdeal.defs (F := Ideal)) (onTc (τ := Cert.AttnLnBwdIdeal.τ) (Cert.AttnLnBwdIdeal.main (F := Ideal))) ⟨m, fun _ => 0, g⟩ (fun r => (∀ c : Dev Cert.AttnLnBwdIdeal.nD,
      r.2.mem ((c.tc : Thread Cert.AttnLnBwdIdeal.nD Cert.AttnLnBwdIdeal.τ).loc Cert.AttnLnBwdIdeal.main_arg0) = m ((c.tc : Thread Cert.AttnLnBwdIdeal.nD Cert.AttnLnBwdIdeal.τ).loc Cert.AttnLnBwdIdeal.main_arg0)
      ∧ r.2.mem ((c.tc : Thread Cert.AttnLnBwdIdeal.nD Cert.AttnLnBwdIdeal.τ).loc Cert.AttnLnBwdIdeal.main_arg1) = m ((c.tc : Thread Cert.AttnLnBwdIdeal.nD Cert.AttnLnBwdIdeal.τ).loc Cert.AttnLnBwdIdeal.main_arg1)
      ∧ r.2.mem ((c.tc : Thread Cert.AttnLnBwdIdeal.nD Cert.AttnLnBwdIdeal.τ).loc Cert.AttnLnBwdIdeal.main_arg2) = m ((c.tc : Thread Cert.AttnLnBwdIdeal.nD Cert.AttnLnBwdIdeal.τ).loc Cert.AttnLnBwdIdeal.main_arg2)
      ∧ r.2.mem ((c.tc : Thread Cert.AttnLnBwdIdeal.nD Cert.AttnLnBwdIdeal.τ).loc Cert.AttnLnBwdIdeal.main_arg3) = m ((c.tc : Thread Cert.AttnLnBwdIdeal.nD Cert.AttnLnBwdIdeal.τ).loc Cert.AttnLnBwdIdeal.main_arg3)
      ∧ r.2.mem ((c.tc : Thread Cert.AttnLnBwdIdeal.nD Cert.AttnLnBwdIdeal.τ).loc Cert.AttnLnBwdIdeal.main_arg4) = m ((c.tc : Thread Cert.AttnLnBwdIdeal.nD Cert.AttnLnBwdIdeal.τ).loc Cert.AttnLnBwdIdeal.main_arg4)
      ∧ r.2.mem ((c.tc : Thread Cert.AttnLnBwdIdeal.nD Cert.AttnLnBwdIdeal.τ).loc Cert.AttnLnBwdIdeal.main_arg5) = m ((c.tc : Thread Cert.AttnLnBwdIdeal.nD Cert.AttnLnBwdIdeal.τ).loc Cert.AttnLnBwdIdeal.main_arg5)
      ∧ r.2.mem ((c.tc : Thread Cert.AttnLnBwdIdeal.nD Cert.AttnLnBwdIdeal.τ).loc Cert.AttnLnBwdIdeal.main_arg6) = m ((c.tc : Thread Cert.AttnLnBwdIdeal.nD Cert.AttnLnBwdIdeal.τ).loc Cert.AttnLnBwdIdeal.main_arg6)
      ∧ r.2.mem ((c.tc : Thread Cert.AttnLnBwdIdeal.nD Cert.AttnLnBwdIdeal.τ).loc Cert.AttnLnBwdIdeal.main_arg7) = m ((c.tc : Thread Cert.AttnLnBwdIdeal.nD Cert.AttnLnBwdIdeal.τ).loc Cert.AttnLnBwdIdeal.main_arg7)
      ∧ r.2.mem ((c.tc : Thread Cert.AttnLnBwdIdeal.nD Cert.AttnLnBwdIdeal.τ).loc Cert.AttnLnBwdIdeal.main_arg8) = m ((c.tc : Thread Cert.AttnLnBwdIdeal.nD Cert.AttnLnBwdIdeal.τ).loc Cert.AttnLnBwdIdeal.main_arg8)
      ∧ r.2.mem ((c.tc : Thread Cert.AttnLnBwdIdeal.nD Cert.AttnLnBwdIdeal.τ).loc Cert.AttnLnBwdIdeal.main_arg9) = m ((c.tc : Thread Cert.AttnLnBwdIdeal.nD Cert.AttnLnBwdIdeal.τ).loc Cert.AttnLnBwdIdeal.main_arg9)
      ∧ r.2.mem ((c.tc : Thread Cert.AttnLnBwdIdeal.nD Cert.AttnLnBwdIdeal.τ).loc Cert.AttnLnBwdIdeal.main_arg10) = m ((c.tc : Thread Cert.AttnLnBwdIdeal.nD Cert.AttnLnBwdIdeal.τ).loc Cert.AttnLnBwdIdeal.main_arg10)
      ∧ r.2.mem ((c.tc : Thread Cert.AttnLnBwdIdeal.nD Cert.AttnLnBwdIdeal.τ).loc Cert.AttnLnBwdIdeal.main_arg11) = m ((c.tc : Thread Cert.AttnLnBwdIdeal.nD Cert.AttnLnBwdIdeal.τ).loc Cert.AttnLnBwdIdeal.main_arg11))
      ∧ r.2.sem = fun _ => 0)

def quiescent_AttnLnRefIdeal [hAttnLnRefIdeal : Cert.AttnLnRefIdeal.Facts] : Prop :=
  ∀ (m : (ℓ : Loc Cert.AttnLnRefIdeal.nD Cert.AttnLnRefIdeal.τ Cert.AttnLnRefIdeal.sig) → Buf (Elt Ideal) ℓ) (g : Dev Cert.AttnLnRefIdeal.nD → PrngReg), Pre_AttnLnRefIdeal m →
    θ_run (Cert.AttnLnRefIdeal.defs (F := Ideal)) (onTc (τ := Cert.AttnLnRefIdeal.τ) (Cert.AttnLnRefIdeal.main (F := Ideal))) ⟨m, fun _ => 0, g⟩ (fun r => (∀ c : Dev Cert.AttnLnRefIdeal.nD,
      r.2.mem ((c.tc : Thread Cert.AttnLnRefIdeal.nD Cert.AttnLnRefIdeal.τ).loc Cert.AttnLnRefIdeal.main_arg0) = m ((c.tc : Thread Cert.AttnLnRefIdeal.nD Cert.AttnLnRefIdeal.τ).loc Cert.AttnLnRefIdeal.main_arg0)
      ∧ r.2.mem ((c.tc : Thread Cert.AttnLnRefIdeal.nD Cert.AttnLnRefIdeal.τ).loc Cert.AttnLnRefIdeal.main_arg1) = m ((c.tc : Thread Cert.AttnLnRefIdeal.nD Cert.AttnLnRefIdeal.τ).loc Cert.AttnLnRefIdeal.main_arg1)
      ∧ r.2.mem ((c.tc : Thread Cert.AttnLnRefIdeal.nD Cert.AttnLnRefIdeal.τ).loc Cert.AttnLnRefIdeal.main_arg2) = m ((c.tc : Thread Cert.AttnLnRefIdeal.nD Cert.AttnLnRefIdeal.τ).loc Cert.AttnLnRefIdeal.main_arg2)
      ∧ r.2.mem ((c.tc : Thread Cert.AttnLnRefIdeal.nD Cert.AttnLnRefIdeal.τ).loc Cert.AttnLnRefIdeal.main_arg3) = m ((c.tc : Thread Cert.AttnLnRefIdeal.nD Cert.AttnLnRefIdeal.τ).loc Cert.AttnLnRefIdeal.main_arg3)
      ∧ r.2.mem ((c.tc : Thread Cert.AttnLnRefIdeal.nD Cert.AttnLnRefIdeal.τ).loc Cert.AttnLnRefIdeal.main_arg4) = m ((c.tc : Thread Cert.AttnLnRefIdeal.nD Cert.AttnLnRefIdeal.τ).loc Cert.AttnLnRefIdeal.main_arg4)
      ∧ r.2.mem ((c.tc : Thread Cert.AttnLnRefIdeal.nD Cert.AttnLnRefIdeal.τ).loc Cert.AttnLnRefIdeal.main_arg5) = m ((c.tc : Thread Cert.AttnLnRefIdeal.nD Cert.AttnLnRefIdeal.τ).loc Cert.AttnLnRefIdeal.main_arg5)
      ∧ r.2.mem ((c.tc : Thread Cert.AttnLnRefIdeal.nD Cert.AttnLnRefIdeal.τ).loc Cert.AttnLnRefIdeal.main_arg6) = m ((c.tc : Thread Cert.AttnLnRefIdeal.nD Cert.AttnLnRefIdeal.τ).loc Cert.AttnLnRefIdeal.main_arg6)
      ∧ r.2.mem ((c.tc : Thread Cert.AttnLnRefIdeal.nD Cert.AttnLnRefIdeal.τ).loc Cert.AttnLnRefIdeal.main_arg7) = m ((c.tc : Thread Cert.AttnLnRefIdeal.nD Cert.AttnLnRefIdeal.τ).loc Cert.AttnLnRefIdeal.main_arg7)
      ∧ r.2.mem ((c.tc : Thread Cert.AttnLnRefIdeal.nD Cert.AttnLnRefIdeal.τ).loc Cert.AttnLnRefIdeal.main_arg8) = m ((c.tc : Thread Cert.AttnLnRefIdeal.nD Cert.AttnLnRefIdeal.τ).loc Cert.AttnLnRefIdeal.main_arg8)
      ∧ r.2.mem ((c.tc : Thread Cert.AttnLnRefIdeal.nD Cert.AttnLnRefIdeal.τ).loc Cert.AttnLnRefIdeal.main_arg9) = m ((c.tc : Thread Cert.AttnLnRefIdeal.nD Cert.AttnLnRefIdeal.τ).loc Cert.AttnLnRefIdeal.main_arg9)
      ∧ r.2.mem ((c.tc : Thread Cert.AttnLnRefIdeal.nD Cert.AttnLnRefIdeal.τ).loc Cert.AttnLnRefIdeal.main_arg10) = m ((c.tc : Thread Cert.AttnLnRefIdeal.nD Cert.AttnLnRefIdeal.τ).loc Cert.AttnLnRefIdeal.main_arg10)
      ∧ r.2.mem ((c.tc : Thread Cert.AttnLnRefIdeal.nD Cert.AttnLnRefIdeal.τ).loc Cert.AttnLnRefIdeal.main_arg11) = m ((c.tc : Thread Cert.AttnLnRefIdeal.nD Cert.AttnLnRefIdeal.τ).loc Cert.AttnLnRefIdeal.main_arg11))
      ∧ r.2.sem = fun _ => 0)

def quiescent_AttnLnRefIdeal_pre_attn_ln_finite [hAttnLnRefIdeal : Cert.AttnLnRefIdeal.Facts] [hPre_attn_ln_finite : Cert.Pre_attn_ln_finite.Facts] : Prop :=
  ∀ (m : (ℓ : Loc Cert.AttnLnRefIdeal.nD Cert.AttnLnRefIdeal.τ Cert.AttnLnRefIdeal.sig) → Buf (Elt Ideal) ℓ) (g : Dev Cert.AttnLnRefIdeal.nD → PrngReg), Pre_AttnLnRefIdeal_attn_ln_finite m →
    θ_run (Cert.AttnLnRefIdeal.defs (F := Ideal)) (onTc (τ := Cert.AttnLnRefIdeal.τ) (Cert.AttnLnRefIdeal.main (F := Ideal))) ⟨m, fun _ => 0, g⟩ (fun r => (∀ c : Dev Cert.AttnLnRefIdeal.nD,
      r.2.mem ((c.tc : Thread Cert.AttnLnRefIdeal.nD Cert.AttnLnRefIdeal.τ).loc Cert.AttnLnRefIdeal.main_arg0) = m ((c.tc : Thread Cert.AttnLnRefIdeal.nD Cert.AttnLnRefIdeal.τ).loc Cert.AttnLnRefIdeal.main_arg0)
      ∧ r.2.mem ((c.tc : Thread Cert.AttnLnRefIdeal.nD Cert.AttnLnRefIdeal.τ).loc Cert.AttnLnRefIdeal.main_arg1) = m ((c.tc : Thread Cert.AttnLnRefIdeal.nD Cert.AttnLnRefIdeal.τ).loc Cert.AttnLnRefIdeal.main_arg1)
      ∧ r.2.mem ((c.tc : Thread Cert.AttnLnRefIdeal.nD Cert.AttnLnRefIdeal.τ).loc Cert.AttnLnRefIdeal.main_arg2) = m ((c.tc : Thread Cert.AttnLnRefIdeal.nD Cert.AttnLnRefIdeal.τ).loc Cert.AttnLnRefIdeal.main_arg2)
      ∧ r.2.mem ((c.tc : Thread Cert.AttnLnRefIdeal.nD Cert.AttnLnRefIdeal.τ).loc Cert.AttnLnRefIdeal.main_arg3) = m ((c.tc : Thread Cert.AttnLnRefIdeal.nD Cert.AttnLnRefIdeal.τ).loc Cert.AttnLnRefIdeal.main_arg3)
      ∧ r.2.mem ((c.tc : Thread Cert.AttnLnRefIdeal.nD Cert.AttnLnRefIdeal.τ).loc Cert.AttnLnRefIdeal.main_arg4) = m ((c.tc : Thread Cert.AttnLnRefIdeal.nD Cert.AttnLnRefIdeal.τ).loc Cert.AttnLnRefIdeal.main_arg4)
      ∧ r.2.mem ((c.tc : Thread Cert.AttnLnRefIdeal.nD Cert.AttnLnRefIdeal.τ).loc Cert.AttnLnRefIdeal.main_arg5) = m ((c.tc : Thread Cert.AttnLnRefIdeal.nD Cert.AttnLnRefIdeal.τ).loc Cert.AttnLnRefIdeal.main_arg5)
      ∧ r.2.mem ((c.tc : Thread Cert.AttnLnRefIdeal.nD Cert.AttnLnRefIdeal.τ).loc Cert.AttnLnRefIdeal.main_arg6) = m ((c.tc : Thread Cert.AttnLnRefIdeal.nD Cert.AttnLnRefIdeal.τ).loc Cert.AttnLnRefIdeal.main_arg6)
      ∧ r.2.mem ((c.tc : Thread Cert.AttnLnRefIdeal.nD Cert.AttnLnRefIdeal.τ).loc Cert.AttnLnRefIdeal.main_arg7) = m ((c.tc : Thread Cert.AttnLnRefIdeal.nD Cert.AttnLnRefIdeal.τ).loc Cert.AttnLnRefIdeal.main_arg7)
      ∧ r.2.mem ((c.tc : Thread Cert.AttnLnRefIdeal.nD Cert.AttnLnRefIdeal.τ).loc Cert.AttnLnRefIdeal.main_arg8) = m ((c.tc : Thread Cert.AttnLnRefIdeal.nD Cert.AttnLnRefIdeal.τ).loc Cert.AttnLnRefIdeal.main_arg8)
      ∧ r.2.mem ((c.tc : Thread Cert.AttnLnRefIdeal.nD Cert.AttnLnRefIdeal.τ).loc Cert.AttnLnRefIdeal.main_arg9) = m ((c.tc : Thread Cert.AttnLnRefIdeal.nD Cert.AttnLnRefIdeal.τ).loc Cert.AttnLnRefIdeal.main_arg9)
      ∧ r.2.mem ((c.tc : Thread Cert.AttnLnRefIdeal.nD Cert.AttnLnRefIdeal.τ).loc Cert.AttnLnRefIdeal.main_arg10) = m ((c.tc : Thread Cert.AttnLnRefIdeal.nD Cert.AttnLnRefIdeal.τ).loc Cert.AttnLnRefIdeal.main_arg10)
      ∧ r.2.mem ((c.tc : Thread Cert.AttnLnRefIdeal.nD Cert.AttnLnRefIdeal.τ).loc Cert.AttnLnRefIdeal.main_arg11) = m ((c.tc : Thread Cert.AttnLnRefIdeal.nD Cert.AttnLnRefIdeal.τ).loc Cert.AttnLnRefIdeal.main_arg11))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_GateBwd_GateBwdIdeal : Prop :=
  True

def algebraic_GateBwdIdeal_GateRefIdeal_pre_gate_finite [hGateBwdIdeal : Cert.GateBwdIdeal.Facts] [hGateRefIdeal : Cert.GateRefIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBwdIdeal_gate_finite m →
    (∀ c : Dev Cert.GateBwdIdeal.nD,
      m' ((c.tc : Thread Cert.GateRefIdeal.nD Cert.GateRefIdeal.τ).loc Cert.GateRefIdeal.main_arg0) = m ((c.tc : Thread Cert.GateBwdIdeal.nD Cert.GateBwdIdeal.τ).loc Cert.GateBwdIdeal.main_arg0)
      ∧ m' ((c.tc : Thread Cert.GateRefIdeal.nD Cert.GateRefIdeal.τ).loc Cert.GateRefIdeal.main_arg1) = m ((c.tc : Thread Cert.GateBwdIdeal.nD Cert.GateBwdIdeal.τ).loc Cert.GateBwdIdeal.main_arg1)
      ∧ m' ((c.tc : Thread Cert.GateRefIdeal.nD Cert.GateRefIdeal.τ).loc Cert.GateRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v4_0)) (v1 : (c : Dev Cert.GateBwdIdeal.nD) → Buf (Elt Ideal) ((c.tc : Thread Cert.GateBwdIdeal.nD Cert.GateBwdIdeal.τ).loc Cert.GateBwdIdeal.main_v4_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v4_0) = v0 c
          ∧ r.2.mem ((c.tc : Thread Cert.GateBwdIdeal.nD Cert.GateBwdIdeal.τ).loc Cert.GateBwdIdeal.main_v4_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v11) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_FfnLnBwd_FfnLnBwdIdeal : Prop :=
  True

def algebraic_FfnLnBwdIdeal_FfnLnRefIdeal_pre_ffn_ln_finite [hFfnLnBwdIdeal : Cert.FfnLnBwdIdeal.Facts] [hFfnLnRefIdeal : Cert.FfnLnRefIdeal.Facts] [hPre_ffn_ln_finite : Cert.Pre_ffn_ln_finite.Facts] : Prop :=
  ∀ (m : (ℓ : Loc Cert.FfnLnBwdIdeal.nD Cert.FfnLnBwdIdeal.τ Cert.FfnLnBwdIdeal.sig) → Buf (Elt Ideal) ℓ) (g : Dev Cert.FfnLnBwdIdeal.nD → PrngReg)
    (m' : (ℓ : Loc Cert.FfnLnRefIdeal.nD Cert.FfnLnRefIdeal.τ Cert.FfnLnRefIdeal.sig) → Buf (Elt Ideal) ℓ) (g' : Dev Cert.FfnLnRefIdeal.nD → PrngReg), Pre_FfnLnBwdIdeal_ffn_ln_finite m →
    (∀ c : Dev Cert.FfnLnBwdIdeal.nD,
      m' ((c.tc : Thread Cert.FfnLnRefIdeal.nD Cert.FfnLnRefIdeal.τ).loc Cert.FfnLnRefIdeal.main_arg0) = m ((c.tc : Thread Cert.FfnLnBwdIdeal.nD Cert.FfnLnBwdIdeal.τ).loc Cert.FfnLnBwdIdeal.main_arg0)
      ∧ m' ((c.tc : Thread Cert.FfnLnRefIdeal.nD Cert.FfnLnRefIdeal.τ).loc Cert.FfnLnRefIdeal.main_arg1) = m ((c.tc : Thread Cert.FfnLnBwdIdeal.nD Cert.FfnLnBwdIdeal.τ).loc Cert.FfnLnBwdIdeal.main_arg1)
      ∧ m' ((c.tc : Thread Cert.FfnLnRefIdeal.nD Cert.FfnLnRefIdeal.τ).loc Cert.FfnLnRefIdeal.main_arg2) = m ((c.tc : Thread Cert.FfnLnBwdIdeal.nD Cert.FfnLnBwdIdeal.τ).loc Cert.FfnLnBwdIdeal.main_arg2)
      ∧ m' ((c.tc : Thread Cert.FfnLnRefIdeal.nD Cert.FfnLnRefIdeal.τ).loc Cert.FfnLnRefIdeal.main_arg3) = m ((c.tc : Thread Cert.FfnLnBwdIdeal.nD Cert.FfnLnBwdIdeal.τ).loc Cert.FfnLnBwdIdeal.main_arg3)
      ∧ m' ((c.tc : Thread Cert.FfnLnRefIdeal.nD Cert.FfnLnRefIdeal.τ).loc Cert.FfnLnRefIdeal.main_arg4) = m ((c.tc : Thread Cert.FfnLnBwdIdeal.nD Cert.FfnLnBwdIdeal.τ).loc Cert.FfnLnBwdIdeal.main_arg4)
      ∧ m' ((c.tc : Thread Cert.FfnLnRefIdeal.nD Cert.FfnLnRefIdeal.τ).loc Cert.FfnLnRefIdeal.main_arg5) = m ((c.tc : Thread Cert.FfnLnBwdIdeal.nD Cert.FfnLnBwdIdeal.τ).loc Cert.FfnLnBwdIdeal.main_arg5)
      ∧ m' ((c.tc : Thread Cert.FfnLnRefIdeal.nD Cert.FfnLnRefIdeal.τ).loc Cert.FfnLnRefIdeal.main_arg6) = m ((c.tc : Thread Cert.FfnLnBwdIdeal.nD Cert.FfnLnBwdIdeal.τ).loc Cert.FfnLnBwdIdeal.main_arg6)
      ∧ m' ((c.tc : Thread Cert.FfnLnRefIdeal.nD Cert.FfnLnRefIdeal.τ).loc Cert.FfnLnRefIdeal.main_arg7) = m ((c.tc : Thread Cert.FfnLnBwdIdeal.nD Cert.FfnLnBwdIdeal.τ).loc Cert.FfnLnBwdIdeal.main_arg7)) →
    ∃ (v0 : (c : Dev Cert.FfnLnBwdIdeal.nD) → Buf (Elt Ideal) ((c.tc : Thread Cert.FfnLnBwdIdeal.nD Cert.FfnLnBwdIdeal.τ).loc Cert.FfnLnBwdIdeal.main_v16_0)) (v1 : (c : Dev Cert.FfnLnBwdIdeal.nD) → Buf (Elt Ideal) ((c.tc : Thread Cert.FfnLnBwdIdeal.nD Cert.FfnLnBwdIdeal.τ).loc Cert.FfnLnBwdIdeal.main_v16_1)) (v2 : (c : Dev Cert.FfnLnBwdIdeal.nD) → Buf (Elt Ideal) ((c.tc : Thread Cert.FfnLnBwdIdeal.nD Cert.FfnLnBwdIdeal.τ).loc Cert.FfnLnBwdIdeal.main_v16_2)) (v3 : (c : Dev Cert.FfnLnBwdIdeal.nD) → Buf (Elt Ideal) ((c.tc : Thread Cert.FfnLnBwdIdeal.nD Cert.FfnLnBwdIdeal.τ).loc Cert.FfnLnBwdIdeal.main_v16_3)),
      θ_run (Cert.FfnLnBwdIdeal.defs (F := Ideal)) (onTc (τ := Cert.FfnLnBwdIdeal.τ) (Cert.FfnLnBwdIdeal.main (F := Ideal))) ⟨m, fun _ => 0, g⟩ (fun r => ∀ c : Dev Cert.FfnLnBwdIdeal.nD,
          r.2.mem ((c.tc : Thread Cert.FfnLnBwdIdeal.nD Cert.FfnLnBwdIdeal.τ).loc Cert.FfnLnBwdIdeal.main_v16_0) = v0 c
          ∧ r.2.mem ((c.tc : Thread Cert.FfnLnBwdIdeal.nD Cert.FfnLnBwdIdeal.τ).loc Cert.FfnLnBwdIdeal.main_v16_1) = v1 c
          ∧ r.2.mem ((c.tc : Thread Cert.FfnLnBwdIdeal.nD Cert.FfnLnBwdIdeal.τ).loc Cert.FfnLnBwdIdeal.main_v16_2) = v2 c
          ∧ r.2.mem ((c.tc : Thread Cert.FfnLnBwdIdeal.nD Cert.FfnLnBwdIdeal.τ).loc Cert.FfnLnBwdIdeal.main_v16_3) = v3 c
          ∧ r.2.mem ((c.tc : Thread Cert.FfnLnBwdIdeal.nD Cert.FfnLnBwdIdeal.τ).loc Cert.FfnLnBwdIdeal.main_arg0) = m ((c.tc : Thread Cert.FfnLnBwdIdeal.nD Cert.FfnLnBwdIdeal.τ).loc Cert.FfnLnBwdIdeal.main_arg0)
          ∧ r.2.mem ((c.tc : Thread Cert.FfnLnBwdIdeal.nD Cert.FfnLnBwdIdeal.τ).loc Cert.FfnLnBwdIdeal.main_arg1) = m ((c.tc : Thread Cert.FfnLnBwdIdeal.nD Cert.FfnLnBwdIdeal.τ).loc Cert.FfnLnBwdIdeal.main_arg1)
          ∧ r.2.mem ((c.tc : Thread Cert.FfnLnBwdIdeal.nD Cert.FfnLnBwdIdeal.τ).loc Cert.FfnLnBwdIdeal.main_arg2) = m ((c.tc : Thread Cert.FfnLnBwdIdeal.nD Cert.FfnLnBwdIdeal.τ).loc Cert.FfnLnBwdIdeal.main_arg2)
          ∧ r.2.mem ((c.tc : Thread Cert.FfnLnBwdIdeal.nD Cert.FfnLnBwdIdeal.τ).loc Cert.FfnLnBwdIdeal.main_arg3) = m ((c.tc : Thread Cert.FfnLnBwdIdeal.nD Cert.FfnLnBwdIdeal.τ).loc Cert.FfnLnBwdIdeal.main_arg3)
          ∧ r.2.mem ((c.tc : Thread Cert.FfnLnBwdIdeal.nD Cert.FfnLnBwdIdeal.τ).loc Cert.FfnLnBwdIdeal.main_arg4) = m ((c.tc : Thread Cert.FfnLnBwdIdeal.nD Cert.FfnLnBwdIdeal.τ).loc Cert.FfnLnBwdIdeal.main_arg4)
          ∧ r.2.mem ((c.tc : Thread Cert.FfnLnBwdIdeal.nD Cert.FfnLnBwdIdeal.τ).loc Cert.FfnLnBwdIdeal.main_arg5) = m ((c.tc : Thread Cert.FfnLnBwdIdeal.nD Cert.FfnLnBwdIdeal.τ).loc Cert.FfnLnBwdIdeal.main_arg5)
          ∧ r.2.mem ((c.tc : Thread Cert.FfnLnBwdIdeal.nD Cert.FfnLnBwdIdeal.τ).loc Cert.FfnLnBwdIdeal.main_arg6) = m ((c.tc : Thread Cert.FfnLnBwdIdeal.nD Cert.FfnLnBwdIdeal.τ).loc Cert.FfnLnBwdIdeal.main_arg6)
          ∧ r.2.mem ((c.tc : Thread Cert.FfnLnBwdIdeal.nD Cert.FfnLnBwdIdeal.τ).loc Cert.FfnLnBwdIdeal.main_arg7) = m ((c.tc : Thread Cert.FfnLnBwdIdeal.nD Cert.FfnLnBwdIdeal.τ).loc Cert.FfnLnBwdIdeal.main_arg7))
      ∧ θ_run (Cert.FfnLnRefIdeal.defs (F := Ideal)) (onTc (τ := Cert.FfnLnRefIdeal.τ) (Cert.FfnLnRefIdeal.main (F := Ideal))) ⟨m', fun _ => 0, g'⟩ (fun r => ∀ c : Dev Cert.FfnLnRefIdeal.nD,
          r.2.mem ((c.tc : Thread Cert.FfnLnRefIdeal.nD Cert.FfnLnRefIdeal.τ).loc Cert.FfnLnRefIdeal.main_v67) = v0 c
          ∧ r.2.mem ((c.tc : Thread Cert.FfnLnRefIdeal.nD Cert.FfnLnRefIdeal.τ).loc Cert.FfnLnRefIdeal.main_v68) = v1 c
          ∧ r.2.mem ((c.tc : Thread Cert.FfnLnRefIdeal.nD Cert.FfnLnRefIdeal.τ).loc Cert.FfnLnRefIdeal.main_v69) = v2 c
          ∧ r.2.mem ((c.tc : Thread Cert.FfnLnRefIdeal.nD Cert.FfnLnRefIdeal.τ).loc Cert.FfnLnRefIdeal.main_v70) = v3 c
          ∧ r.2.mem ((c.tc : Thread Cert.FfnLnRefIdeal.nD Cert.FfnLnRefIdeal.τ).loc Cert.FfnLnRefIdeal.main_arg0) = m' ((c.tc : Thread Cert.FfnLnRefIdeal.nD Cert.FfnLnRefIdeal.τ).loc Cert.FfnLnRefIdeal.main_arg0)
          ∧ r.2.mem ((c.tc : Thread Cert.FfnLnRefIdeal.nD Cert.FfnLnRefIdeal.τ).loc Cert.FfnLnRefIdeal.main_arg1) = m' ((c.tc : Thread Cert.FfnLnRefIdeal.nD Cert.FfnLnRefIdeal.τ).loc Cert.FfnLnRefIdeal.main_arg1)
          ∧ r.2.mem ((c.tc : Thread Cert.FfnLnRefIdeal.nD Cert.FfnLnRefIdeal.τ).loc Cert.FfnLnRefIdeal.main_arg2) = m' ((c.tc : Thread Cert.FfnLnRefIdeal.nD Cert.FfnLnRefIdeal.τ).loc Cert.FfnLnRefIdeal.main_arg2)
          ∧ r.2.mem ((c.tc : Thread Cert.FfnLnRefIdeal.nD Cert.FfnLnRefIdeal.τ).loc Cert.FfnLnRefIdeal.main_arg3) = m' ((c.tc : Thread Cert.FfnLnRefIdeal.nD Cert.FfnLnRefIdeal.τ).loc Cert.FfnLnRefIdeal.main_arg3)
          ∧ r.2.mem ((c.tc : Thread Cert.FfnLnRefIdeal.nD Cert.FfnLnRefIdeal.τ).loc Cert.FfnLnRefIdeal.main_arg4) = m' ((c.tc : Thread Cert.FfnLnRefIdeal.nD Cert.FfnLnRefIdeal.τ).loc Cert.FfnLnRefIdeal.main_arg4)
          ∧ r.2.mem ((c.tc : Thread Cert.FfnLnRefIdeal.nD Cert.FfnLnRefIdeal.τ).loc Cert.FfnLnRefIdeal.main_arg5) = m' ((c.tc : Thread Cert.FfnLnRefIdeal.nD Cert.FfnLnRefIdeal.τ).loc Cert.FfnLnRefIdeal.main_arg5)
          ∧ r.2.mem ((c.tc : Thread Cert.FfnLnRefIdeal.nD Cert.FfnLnRefIdeal.τ).loc Cert.FfnLnRefIdeal.main_arg6) = m' ((c.tc : Thread Cert.FfnLnRefIdeal.nD Cert.FfnLnRefIdeal.τ).loc Cert.FfnLnRefIdeal.main_arg6)
          ∧ r.2.mem ((c.tc : Thread Cert.FfnLnRefIdeal.nD Cert.FfnLnRefIdeal.τ).loc Cert.FfnLnRefIdeal.main_arg7) = m' ((c.tc : Thread Cert.FfnLnRefIdeal.nD Cert.FfnLnRefIdeal.τ).loc Cert.FfnLnRefIdeal.main_arg7))

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v9_0)) (v1 : (c : Dev Cert.LossBwdIdeal.nD) → Buf (Elt Ideal) ((c.tc : Thread Cert.LossBwdIdeal.nD Cert.LossBwdIdeal.τ).loc Cert.LossBwdIdeal.main_v9_1)) (v2 : (c : Dev Cert.LossBwdIdeal.nD) → Buf (Elt Ideal) ((c.tc : Thread Cert.LossBwdIdeal.nD Cert.LossBwdIdeal.τ).loc Cert.LossBwdIdeal.main_v9_2)) (v3 : (c : Dev Cert.LossBwdIdeal.nD) → Buf (Elt Ideal) ((c.tc : Thread Cert.LossBwdIdeal.nD Cert.LossBwdIdeal.τ).loc Cert.LossBwdIdeal.main_v9_3)) (v4 : (c : Dev Cert.LossBwdIdeal.nD) → Buf (Elt Ideal) ((c.tc : Thread Cert.LossBwdIdeal.nD Cert.LossBwdIdeal.τ).loc Cert.LossBwdIdeal.main_v9_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v9_0) = v0 c
          ∧ r.2.mem ((c.tc : Thread Cert.LossBwdIdeal.nD Cert.LossBwdIdeal.τ).loc Cert.LossBwdIdeal.main_v9_1) = v1 c
          ∧ r.2.mem ((c.tc : Thread Cert.LossBwdIdeal.nD Cert.LossBwdIdeal.τ).loc Cert.LossBwdIdeal.main_v9_2) = v2 c
          ∧ r.2.mem ((c.tc : Thread Cert.LossBwdIdeal.nD Cert.LossBwdIdeal.τ).loc Cert.LossBwdIdeal.main_v9_3) = v3 c
          ∧ r.2.mem ((c.tc : Thread Cert.LossBwdIdeal.nD Cert.LossBwdIdeal.τ).loc Cert.LossBwdIdeal.main_v9_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v77) = v0 c
          ∧ r.2.mem ((c.tc : Thread Cert.LossRefIdeal.nD Cert.LossRefIdeal.τ).loc Cert.LossRefIdeal.main_v78) = v1 c
          ∧ r.2.mem ((c.tc : Thread Cert.LossRefIdeal.nD Cert.LossRefIdeal.τ).loc Cert.LossRefIdeal.main_v79) = v2 c
          ∧ r.2.mem ((c.tc : Thread Cert.LossRefIdeal.nD Cert.LossRefIdeal.τ).loc Cert.LossRefIdeal.main_v80) = v3 c
          ∧ r.2.mem ((c.tc : Thread Cert.LossRefIdeal.nD Cert.LossRefIdeal.τ).loc Cert.LossRefIdeal.main_v81) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_AttnLnBwd_AttnLnBwdIdeal : Prop :=
  True

def algebraic_AttnLnBwdIdeal_AttnLnRefIdeal_pre_attn_ln_finite [hAttnLnBwdIdeal : Cert.AttnLnBwdIdeal.Facts] [hAttnLnRefIdeal : Cert.AttnLnRefIdeal.Facts] [hPre_attn_ln_finite : Cert.Pre_attn_ln_finite.Facts] : Prop :=
  ∀ (m : (ℓ : Loc Cert.AttnLnBwdIdeal.nD Cert.AttnLnBwdIdeal.τ Cert.AttnLnBwdIdeal.sig) → Buf (Elt Ideal) ℓ) (g : Dev Cert.AttnLnBwdIdeal.nD → PrngReg)
    (m' : (ℓ : Loc Cert.AttnLnRefIdeal.nD Cert.AttnLnRefIdeal.τ Cert.AttnLnRefIdeal.sig) → Buf (Elt Ideal) ℓ) (g' : Dev Cert.AttnLnRefIdeal.nD → PrngReg), Pre_AttnLnBwdIdeal_attn_ln_finite m →
    (∀ c : Dev Cert.AttnLnBwdIdeal.nD,
      m' ((c.tc : Thread Cert.AttnLnRefIdeal.nD Cert.AttnLnRefIdeal.τ).loc Cert.AttnLnRefIdeal.main_arg0) = m ((c.tc : Thread Cert.AttnLnBwdIdeal.nD Cert.AttnLnBwdIdeal.τ).loc Cert.AttnLnBwdIdeal.main_arg0)
      ∧ m' ((c.tc : Thread Cert.AttnLnRefIdeal.nD Cert.AttnLnRefIdeal.τ).loc Cert.AttnLnRefIdeal.main_arg1) = m ((c.tc : Thread Cert.AttnLnBwdIdeal.nD Cert.AttnLnBwdIdeal.τ).loc Cert.AttnLnBwdIdeal.main_arg1)
      ∧ m' ((c.tc : Thread Cert.AttnLnRefIdeal.nD Cert.AttnLnRefIdeal.τ).loc Cert.AttnLnRefIdeal.main_arg2) = m ((c.tc : Thread Cert.AttnLnBwdIdeal.nD Cert.AttnLnBwdIdeal.τ).loc Cert.AttnLnBwdIdeal.main_arg2)
      ∧ m' ((c.tc : Thread Cert.AttnLnRefIdeal.nD Cert.AttnLnRefIdeal.τ).loc Cert.AttnLnRefIdeal.main_arg3) = m ((c.tc : Thread Cert.AttnLnBwdIdeal.nD Cert.AttnLnBwdIdeal.τ).loc Cert.AttnLnBwdIdeal.main_arg3)
      ∧ m' ((c.tc : Thread Cert.AttnLnRefIdeal.nD Cert.AttnLnRefIdeal.τ).loc Cert.AttnLnRefIdeal.main_arg4) = m ((c.tc : Thread Cert.AttnLnBwdIdeal.nD Cert.AttnLnBwdIdeal.τ).loc Cert.AttnLnBwdIdeal.main_arg4)
      ∧ m' ((c.tc : Thread Cert.AttnLnRefIdeal.nD Cert.AttnLnRefIdeal.τ).loc Cert.AttnLnRefIdeal.main_arg5) = m ((c.tc : Thread Cert.AttnLnBwdIdeal.nD Cert.AttnLnBwdIdeal.τ).loc Cert.AttnLnBwdIdeal.main_arg5)
      ∧ m' ((c.tc : Thread Cert.AttnLnRefIdeal.nD Cert.AttnLnRefIdeal.τ).loc Cert.AttnLnRefIdeal.main_arg6) = m ((c.tc : Thread Cert.AttnLnBwdIdeal.nD Cert.AttnLnBwdIdeal.τ).loc Cert.AttnLnBwdIdeal.main_arg6)
      ∧ m' ((c.tc : Thread Cert.AttnLnRefIdeal.nD Cert.AttnLnRefIdeal.τ).loc Cert.AttnLnRefIdeal.main_arg7) = m ((c.tc : Thread Cert.AttnLnBwdIdeal.nD Cert.AttnLnBwdIdeal.τ).loc Cert.AttnLnBwdIdeal.main_arg7)
      ∧ m' ((c.tc : Thread Cert.AttnLnRefIdeal.nD Cert.AttnLnRefIdeal.τ).loc Cert.AttnLnRefIdeal.main_arg8) = m ((c.tc : Thread Cert.AttnLnBwdIdeal.nD Cert.AttnLnBwdIdeal.τ).loc Cert.AttnLnBwdIdeal.main_arg8)
      ∧ m' ((c.tc : Thread Cert.AttnLnRefIdeal.nD Cert.AttnLnRefIdeal.τ).loc Cert.AttnLnRefIdeal.main_arg9) = m ((c.tc : Thread Cert.AttnLnBwdIdeal.nD Cert.AttnLnBwdIdeal.τ).loc Cert.AttnLnBwdIdeal.main_arg9)
      ∧ m' ((c.tc : Thread Cert.AttnLnRefIdeal.nD Cert.AttnLnRefIdeal.τ).loc Cert.AttnLnRefIdeal.main_arg10) = m ((c.tc : Thread Cert.AttnLnBwdIdeal.nD Cert.AttnLnBwdIdeal.τ).loc Cert.AttnLnBwdIdeal.main_arg10)
      ∧ m' ((c.tc : Thread Cert.AttnLnRefIdeal.nD Cert.AttnLnRefIdeal.τ).loc Cert.AttnLnRefIdeal.main_arg11) = m ((c.tc : Thread Cert.AttnLnBwdIdeal.nD Cert.AttnLnBwdIdeal.τ).loc Cert.AttnLnBwdIdeal.main_arg11)) →
    ∃ (v0 : (c : Dev Cert.AttnLnBwdIdeal.nD) → Buf (Elt Ideal) ((c.tc : Thread Cert.AttnLnBwdIdeal.nD Cert.AttnLnBwdIdeal.τ).loc Cert.AttnLnBwdIdeal.main_v14_0)) (v1 : (c : Dev Cert.AttnLnBwdIdeal.nD) → Buf (Elt Ideal) ((c.tc : Thread Cert.AttnLnBwdIdeal.nD Cert.AttnLnBwdIdeal.τ).loc Cert.AttnLnBwdIdeal.main_v14_1)) (v2 : (c : Dev Cert.AttnLnBwdIdeal.nD) → Buf (Elt Ideal) ((c.tc : Thread Cert.AttnLnBwdIdeal.nD Cert.AttnLnBwdIdeal.τ).loc Cert.AttnLnBwdIdeal.main_v14_2)) (v3 : (c : Dev Cert.AttnLnBwdIdeal.nD) → Buf (Elt Ideal) ((c.tc : Thread Cert.AttnLnBwdIdeal.nD Cert.AttnLnBwdIdeal.τ).loc Cert.AttnLnBwdIdeal.main_v14_3)),
      θ_run (Cert.AttnLnBwdIdeal.defs (F := Ideal)) (onTc (τ := Cert.AttnLnBwdIdeal.τ) (Cert.AttnLnBwdIdeal.main (F := Ideal))) ⟨m, fun _ => 0, g⟩ (fun r => ∀ c : Dev Cert.AttnLnBwdIdeal.nD,
          r.2.mem ((c.tc : Thread Cert.AttnLnBwdIdeal.nD Cert.AttnLnBwdIdeal.τ).loc Cert.AttnLnBwdIdeal.main_v14_0) = v0 c
          ∧ r.2.mem ((c.tc : Thread Cert.AttnLnBwdIdeal.nD Cert.AttnLnBwdIdeal.τ).loc Cert.AttnLnBwdIdeal.main_v14_1) = v1 c
          ∧ r.2.mem ((c.tc : Thread Cert.AttnLnBwdIdeal.nD Cert.AttnLnBwdIdeal.τ).loc Cert.AttnLnBwdIdeal.main_v14_2) = v2 c
          ∧ r.2.mem ((c.tc : Thread Cert.AttnLnBwdIdeal.nD Cert.AttnLnBwdIdeal.τ).loc Cert.AttnLnBwdIdeal.main_v14_3) = v3 c
          ∧ r.2.mem ((c.tc : Thread Cert.AttnLnBwdIdeal.nD Cert.AttnLnBwdIdeal.τ).loc Cert.AttnLnBwdIdeal.main_arg0) = m ((c.tc : Thread Cert.AttnLnBwdIdeal.nD Cert.AttnLnBwdIdeal.τ).loc Cert.AttnLnBwdIdeal.main_arg0)
          ∧ r.2.mem ((c.tc : Thread Cert.AttnLnBwdIdeal.nD Cert.AttnLnBwdIdeal.τ).loc Cert.AttnLnBwdIdeal.main_arg1) = m ((c.tc : Thread Cert.AttnLnBwdIdeal.nD Cert.AttnLnBwdIdeal.τ).loc Cert.AttnLnBwdIdeal.main_arg1)
          ∧ r.2.mem ((c.tc : Thread Cert.AttnLnBwdIdeal.nD Cert.AttnLnBwdIdeal.τ).loc Cert.AttnLnBwdIdeal.main_arg2) = m ((c.tc : Thread Cert.AttnLnBwdIdeal.nD Cert.AttnLnBwdIdeal.τ).loc Cert.AttnLnBwdIdeal.main_arg2)
          ∧ r.2.mem ((c.tc : Thread Cert.AttnLnBwdIdeal.nD Cert.AttnLnBwdIdeal.τ).loc Cert.AttnLnBwdIdeal.main_arg3) = m ((c.tc : Thread Cert.AttnLnBwdIdeal.nD Cert.AttnLnBwdIdeal.τ).loc Cert.AttnLnBwdIdeal.main_arg3)
          ∧ r.2.mem ((c.tc : Thread Cert.AttnLnBwdIdeal.nD Cert.AttnLnBwdIdeal.τ).loc Cert.AttnLnBwdIdeal.main_arg4) = m ((c.tc : Thread Cert.AttnLnBwdIdeal.nD Cert.AttnLnBwdIdeal.τ).loc Cert.AttnLnBwdIdeal.main_arg4)
          ∧ r.2.mem ((c.tc : Thread Cert.AttnLnBwdIdeal.nD Cert.AttnLnBwdIdeal.τ).loc Cert.AttnLnBwdIdeal.main_arg5) = m ((c.tc : Thread Cert.AttnLnBwdIdeal.nD Cert.AttnLnBwdIdeal.τ).loc Cert.AttnLnBwdIdeal.main_arg5)
          ∧ r.2.mem ((c.tc : Thread Cert.AttnLnBwdIdeal.nD Cert.AttnLnBwdIdeal.τ).loc Cert.AttnLnBwdIdeal.main_arg6) = m ((c.tc : Thread Cert.AttnLnBwdIdeal.nD Cert.AttnLnBwdIdeal.τ).loc Cert.AttnLnBwdIdeal.main_arg6)
          ∧ r.2.mem ((c.tc : Thread Cert.AttnLnBwdIdeal.nD Cert.AttnLnBwdIdeal.τ).loc Cert.AttnLnBwdIdeal.main_arg7) = m ((c.tc : Thread Cert.AttnLnBwdIdeal.nD Cert.AttnLnBwdIdeal.τ).loc Cert.AttnLnBwdIdeal.main_arg7)
          ∧ r.2.mem ((c.tc : Thread Cert.AttnLnBwdIdeal.nD Cert.AttnLnBwdIdeal.τ).loc Cert.AttnLnBwdIdeal.main_arg8) = m ((c.tc : Thread Cert.AttnLnBwdIdeal.nD Cert.AttnLnBwdIdeal.τ).loc Cert.AttnLnBwdIdeal.main_arg8)
          ∧ r.2.mem ((c.tc : Thread Cert.AttnLnBwdIdeal.nD Cert.AttnLnBwdIdeal.τ).loc Cert.AttnLnBwdIdeal.main_arg9) = m ((c.tc : Thread Cert.AttnLnBwdIdeal.nD Cert.AttnLnBwdIdeal.τ).loc Cert.AttnLnBwdIdeal.main_arg9)
          ∧ r.2.mem ((c.tc : Thread Cert.AttnLnBwdIdeal.nD Cert.AttnLnBwdIdeal.τ).loc Cert.AttnLnBwdIdeal.main_arg10) = m ((c.tc : Thread Cert.AttnLnBwdIdeal.nD Cert.AttnLnBwdIdeal.τ).loc Cert.AttnLnBwdIdeal.main_arg10)
          ∧ r.2.mem ((c.tc : Thread Cert.AttnLnBwdIdeal.nD Cert.AttnLnBwdIdeal.τ).loc Cert.AttnLnBwdIdeal.main_arg11) = m ((c.tc : Thread Cert.AttnLnBwdIdeal.nD Cert.AttnLnBwdIdeal.τ).loc Cert.AttnLnBwdIdeal.main_arg11))
      ∧ θ_run (Cert.AttnLnRefIdeal.defs (F := Ideal)) (onTc (τ := Cert.AttnLnRefIdeal.τ) (Cert.AttnLnRefIdeal.main (F := Ideal))) ⟨m', fun _ => 0, g'⟩ (fun r => ∀ c : Dev Cert.AttnLnRefIdeal.nD,
          r.2.mem ((c.tc : Thread Cert.AttnLnRefIdeal.nD Cert.AttnLnRefIdeal.τ).loc Cert.AttnLnRefIdeal.main_v73) = v0 c
          ∧ r.2.mem ((c.tc : Thread Cert.AttnLnRefIdeal.nD Cert.AttnLnRefIdeal.τ).loc Cert.AttnLnRefIdeal.main_v74) = v1 c
          ∧ r.2.mem ((c.tc : Thread Cert.AttnLnRefIdeal.nD Cert.AttnLnRefIdeal.τ).loc Cert.AttnLnRefIdeal.main_v75) = v2 c
          ∧ r.2.mem ((c.tc : Thread Cert.AttnLnRefIdeal.nD Cert.AttnLnRefIdeal.τ).loc Cert.AttnLnRefIdeal.main_v76) = v3 c
          ∧ r.2.mem ((c.tc : Thread Cert.AttnLnRefIdeal.nD Cert.AttnLnRefIdeal.τ).loc Cert.AttnLnRefIdeal.main_arg0) = m' ((c.tc : Thread Cert.AttnLnRefIdeal.nD Cert.AttnLnRefIdeal.τ).loc Cert.AttnLnRefIdeal.main_arg0)
          ∧ r.2.mem ((c.tc : Thread Cert.AttnLnRefIdeal.nD Cert.AttnLnRefIdeal.τ).loc Cert.AttnLnRefIdeal.main_arg1) = m' ((c.tc : Thread Cert.AttnLnRefIdeal.nD Cert.AttnLnRefIdeal.τ).loc Cert.AttnLnRefIdeal.main_arg1)
          ∧ r.2.mem ((c.tc : Thread Cert.AttnLnRefIdeal.nD Cert.AttnLnRefIdeal.τ).loc Cert.AttnLnRefIdeal.main_arg2) = m' ((c.tc : Thread Cert.AttnLnRefIdeal.nD Cert.AttnLnRefIdeal.τ).loc Cert.AttnLnRefIdeal.main_arg2)
          ∧ r.2.mem ((c.tc : Thread Cert.AttnLnRefIdeal.nD Cert.AttnLnRefIdeal.τ).loc Cert.AttnLnRefIdeal.main_arg3) = m' ((c.tc : Thread Cert.AttnLnRefIdeal.nD Cert.AttnLnRefIdeal.τ).loc Cert.AttnLnRefIdeal.main_arg3)
          ∧ r.2.mem ((c.tc : Thread Cert.AttnLnRefIdeal.nD Cert.AttnLnRefIdeal.τ).loc Cert.AttnLnRefIdeal.main_arg4) = m' ((c.tc : Thread Cert.AttnLnRefIdeal.nD Cert.AttnLnRefIdeal.τ).loc Cert.AttnLnRefIdeal.main_arg4)
          ∧ r.2.mem ((c.tc : Thread Cert.AttnLnRefIdeal.nD Cert.AttnLnRefIdeal.τ).loc Cert.AttnLnRefIdeal.main_arg5) = m' ((c.tc : Thread Cert.AttnLnRefIdeal.nD Cert.AttnLnRefIdeal.τ).loc Cert.AttnLnRefIdeal.main_arg5)
          ∧ r.2.mem ((c.tc : Thread Cert.AttnLnRefIdeal.nD Cert.AttnLnRefIdeal.τ).loc Cert.AttnLnRefIdeal.main_arg6) = m' ((c.tc : Thread Cert.AttnLnRefIdeal.nD Cert.AttnLnRefIdeal.τ).loc Cert.AttnLnRefIdeal.main_arg6)
          ∧ r.2.mem ((c.tc : Thread Cert.AttnLnRefIdeal.nD Cert.AttnLnRefIdeal.τ).loc Cert.AttnLnRefIdeal.main_arg7) = m' ((c.tc : Thread Cert.AttnLnRefIdeal.nD Cert.AttnLnRefIdeal.τ).loc Cert.AttnLnRefIdeal.main_arg7)
          ∧ r.2.mem ((c.tc : Thread Cert.AttnLnRefIdeal.nD Cert.AttnLnRefIdeal.τ).loc Cert.AttnLnRefIdeal.main_arg8) = m' ((c.tc : Thread Cert.AttnLnRefIdeal.nD Cert.AttnLnRefIdeal.τ).loc Cert.AttnLnRefIdeal.main_arg8)
          ∧ r.2.mem ((c.tc : Thread Cert.AttnLnRefIdeal.nD Cert.AttnLnRefIdeal.τ).loc Cert.AttnLnRefIdeal.main_arg9) = m' ((c.tc : Thread Cert.AttnLnRefIdeal.nD Cert.AttnLnRefIdeal.τ).loc Cert.AttnLnRefIdeal.main_arg9)
          ∧ r.2.mem ((c.tc : Thread Cert.AttnLnRefIdeal.nD Cert.AttnLnRefIdeal.τ).loc Cert.AttnLnRefIdeal.main_arg10) = m' ((c.tc : Thread Cert.AttnLnRefIdeal.nD Cert.AttnLnRefIdeal.τ).loc Cert.AttnLnRefIdeal.main_arg10)
          ∧ r.2.mem ((c.tc : Thread Cert.AttnLnRefIdeal.nD Cert.AttnLnRefIdeal.τ).loc Cert.AttnLnRefIdeal.main_arg11) = m' ((c.tc : Thread Cert.AttnLnRefIdeal.nD Cert.AttnLnRefIdeal.τ).loc Cert.AttnLnRefIdeal.main_arg11))

def preserves_AttnBwd_AttnBwdIdeal : Prop :=
  True

def algebraic_AttnBwdIdeal_AttnRefIdeal_pre_attn_finite [hAttnBwdIdeal : Cert.AttnBwdIdeal.Facts] [hAttnRefIdeal : Cert.AttnRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v90_0)) (v1 : (c : Dev Cert.AttnBwdIdeal.nD) → Buf (Elt Ideal) ((c.tc : Thread Cert.AttnBwdIdeal.nD Cert.AttnBwdIdeal.τ).loc Cert.AttnBwdIdeal.main_v90_1)) (v2 : (c : Dev Cert.AttnBwdIdeal.nD) → Buf (Elt Ideal) ((c.tc : Thread Cert.AttnBwdIdeal.nD Cert.AttnBwdIdeal.τ).loc Cert.AttnBwdIdeal.main_v90_2)) (v3 : (c : Dev Cert.AttnBwdIdeal.nD) → Buf (Elt Ideal) ((c.tc : Thread Cert.AttnBwdIdeal.nD Cert.AttnBwdIdeal.τ).loc Cert.AttnBwdIdeal.main_v90_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v90_0) = v0 c
          ∧ r.2.mem ((c.tc : Thread Cert.AttnBwdIdeal.nD Cert.AttnBwdIdeal.τ).loc Cert.AttnBwdIdeal.main_v90_1) = v1 c
          ∧ r.2.mem ((c.tc : Thread Cert.AttnBwdIdeal.nD Cert.AttnBwdIdeal.τ).loc Cert.AttnBwdIdeal.main_v90_2) = v2 c
          ∧ r.2.mem ((c.tc : Thread Cert.AttnBwdIdeal.nD Cert.AttnBwdIdeal.τ).loc Cert.AttnBwdIdeal.main_v90_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v104) = v0 c
          ∧ r.2.mem ((c.tc : Thread Cert.AttnRefIdeal.nD Cert.AttnRefIdeal.τ).loc Cert.AttnRefIdeal.main_v107) = v1 c
          ∧ r.2.mem ((c.tc : Thread Cert.AttnRefIdeal.nD Cert.AttnRefIdeal.τ).loc Cert.AttnRefIdeal.main_v109) = v2 c
          ∧ r.2.mem ((c.tc : Thread Cert.AttnRefIdeal.nD Cert.AttnRefIdeal.τ).loc Cert.AttnRefIdeal.main_v114) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_PoolBwd_PoolBwdIdeal : Prop :=
  True

def preserves_ConvBwd_ConvBwdIdeal : Prop :=
  True

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v35_0)) (v1 : (c : Dev Cert.AttnFwdIdeal.nD) → Buf (Elt Ideal) ((c.tc : Thread Cert.AttnFwdIdeal.nD Cert.AttnFwdIdeal.τ).loc Cert.AttnFwdIdeal.main_v35_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v35_0) = v0 c
          ∧ r.2.mem ((c.tc : Thread Cert.AttnFwdIdeal.nD Cert.AttnFwdIdeal.τ).loc Cert.AttnFwdIdeal.main_v35_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v50) = v0 c
          ∧ r.2.mem ((c.tc : Thread Cert.AttnFwdRefIdeal.nD Cert.AttnFwdRefIdeal.τ).loc Cert.AttnFwdRefIdeal.main_v51) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hGateBwd : Cert.GateBwd.Facts) (hGateBwdIdeal : Cert.GateBwdIdeal.Facts) (hGateRefIdeal : Cert.GateRefIdeal.Facts) (hFfnLnBwd : Cert.FfnLnBwd.Facts) (hFfnLnBwdIdeal : Cert.FfnLnBwdIdeal.Facts) (hFfnLnRefIdeal : Cert.FfnLnRefIdeal.Facts) (hLossBwd : Cert.LossBwd.Facts) (hLossBwdIdeal : Cert.LossBwdIdeal.Facts) (hLossRefIdeal : Cert.LossRefIdeal.Facts) (hAttnLnBwd : Cert.AttnLnBwd.Facts) (hAttnLnBwdIdeal : Cert.AttnLnBwdIdeal.Facts) (hAttnLnRefIdeal : Cert.AttnLnRefIdeal.Facts) (hAttnBwd : Cert.AttnBwd.Facts) (hAttnBwdIdeal : Cert.AttnBwdIdeal.Facts) (hAttnRefIdeal : Cert.AttnRefIdeal.Facts) (hPoolBwd : Cert.PoolBwd.Facts) (hPoolBwdIdeal : Cert.PoolBwdIdeal.Facts) (hPoolRefIdeal : Cert.PoolRefIdeal.Facts) (hConvBwd : Cert.ConvBwd.Facts) (hConvBwdIdeal : Cert.ConvBwdIdeal.Facts) (hConvRefIdeal : Cert.ConvRefIdeal.Facts) (hAttnFwd : Cert.AttnFwd.Facts) (hAttnFwdIdeal : Cert.AttnFwdIdeal.Facts) (hAttnFwdRefIdeal : Cert.AttnFwdRefIdeal.Facts) (hPre_gate_finite : Cert.Pre_gate_finite.Facts) (hPre_ffn_ln_finite : Cert.Pre_ffn_ln_finite.Facts) (hPre_loss_finite : Cert.Pre_loss_finite.Facts) (hPre_attn_ln_finite : Cert.Pre_attn_ln_finite.Facts) (hPre_attn_finite : Cert.Pre_attn_finite.Facts) (hPre_attn_fwd_finite : Cert.Pre_attn_fwd_finite.Facts),
    quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_FfnLnBwd (hFfnLnBwd := hFfnLnBwd)
    ∧ quiescent_FfnLnBwdIdeal (hFfnLnBwdIdeal := hFfnLnBwdIdeal)
    ∧ quiescent_FfnLnBwdIdeal_pre_ffn_ln_finite (hFfnLnBwdIdeal := hFfnLnBwdIdeal) (hPre_ffn_ln_finite := hPre_ffn_ln_finite)
    ∧ quiescent_FfnLnRefIdeal (hFfnLnRefIdeal := hFfnLnRefIdeal)
    ∧ quiescent_FfnLnRefIdeal_pre_ffn_ln_finite (hFfnLnRefIdeal := hFfnLnRefIdeal) (hPre_ffn_ln_finite := hPre_ffn_ln_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_AttnLnBwd (hAttnLnBwd := hAttnLnBwd)
    ∧ quiescent_AttnLnBwdIdeal (hAttnLnBwdIdeal := hAttnLnBwdIdeal)
    ∧ quiescent_AttnLnBwdIdeal_pre_attn_ln_finite (hAttnLnBwdIdeal := hAttnLnBwdIdeal) (hPre_attn_ln_finite := hPre_attn_ln_finite)
    ∧ quiescent_AttnLnRefIdeal (hAttnLnRefIdeal := hAttnLnRefIdeal)
    ∧ quiescent_AttnLnRefIdeal_pre_attn_ln_finite (hAttnLnRefIdeal := hAttnLnRefIdeal) (hPre_attn_ln_finite := hPre_attn_ln_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_PoolBwd (hPoolBwd := hPoolBwd)
    ∧ quiescent_PoolBwdIdeal (hPoolBwdIdeal := hPoolBwdIdeal)
    ∧ quiescent_PoolRefIdeal (hPoolRefIdeal := hPoolRefIdeal)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ preserves_GateBwd_GateBwdIdeal
    ∧ algebraic_GateBwdIdeal_GateRefIdeal_pre_gate_finite (hGateBwdIdeal := hGateBwdIdeal) (hGateRefIdeal := hGateRefIdeal) (hPre_gate_finite := hPre_gate_finite)
    ∧ preserves_FfnLnBwd_FfnLnBwdIdeal
    ∧ algebraic_FfnLnBwdIdeal_FfnLnRefIdeal_pre_ffn_ln_finite (hFfnLnBwdIdeal := hFfnLnBwdIdeal) (hFfnLnRefIdeal := hFfnLnRefIdeal) (hPre_ffn_ln_finite := hPre_ffn_ln_finite)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_AttnLnBwd_AttnLnBwdIdeal
    ∧ algebraic_AttnLnBwdIdeal_AttnLnRefIdeal_pre_attn_ln_finite (hAttnLnBwdIdeal := hAttnLnBwdIdeal) (hAttnLnRefIdeal := hAttnLnRefIdeal) (hPre_attn_ln_finite := hPre_attn_ln_finite)
    ∧ preserves_AttnBwd_AttnBwdIdeal
    ∧ algebraic_AttnBwdIdeal_AttnRefIdeal_pre_attn_finite (hAttnBwdIdeal := hAttnBwdIdeal) (hAttnRefIdeal := hAttnRefIdeal) (hPre_attn_finite := hPre_attn_finite)
    ∧ preserves_PoolBwd_PoolBwdIdeal
    ∧ preserves_ConvBwd_ConvBwdIdeal
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
-- ==== Pre_attn_finite.lean ====
abbrev S8208x1024 : Shape := ⟨2, ![8208, 1024]⟩
abbrev S8208x16 : Shape := ⟨2, ![8208, 16]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8208x16 : S_.BroadcastsInDim S8208x16 (![] : Fin 0 → Fin S8208x16.rank)
  reducesTo_S8208x16_S_d0_1 : S8208x16.ReducesTo [0, 1] S_

variable [Facts]

def fn_part1 {F : FTy → Type} [FloatOps F] (main_arg4 : FVec F S8208x1024 .f32) (main_v13 : IVec S_ 1) (main_v16 : IVec S8208x16 1) : IVec S_ 1 :=
  let main_c_5 : IVec S_ 1 := constantI S_ 1 1#1
  let main_v17 : IVec S_ 1 := (fun x v => Host.reduce IntOp.andi x v reducesTo_S8208x16_S_d0_1 h_S_) main_v16 main_c_5
  let main_v18 : IVec S_ 1 := andi main_v13 main_v17
  let main_v19 : FVec F S8208x1024 .f32 := Host.absf main_arg4
  let main_cst_6 : FVec F S_ .f32 := constant S_ .f32 0x7F800000#32
  let main_v20 : FVec F S8208x1024 .f32 := broadcastInDim S8208x1024 ![] bcast_S_S8208x1024 main_cst_6
  let main_v21 : IVec S8208x1024 1 := cmpf .olt main_v19 main_v20
  let main_c_7 : IVec S_ 1 := constantI S_ 1 1#1
  let main_v22 : IVec S_ 1 := (fun x v => Host.reduce IntOp.andi x v reducesTo_S8208x1024_S_d0_1 h_S_) main_v21 main_c_7
  let main_v23 : IVec S_ 1 := andi main_v18 main_v22
  main_v23

def fn {F : FTy → Type} [FloatOps F] (main_arg0 : FVec F S8208x1024 .f32) (main_arg1 : FVec F S8208x1024 .f32) (main_arg2 : FVec F S8208x1024 .f32) (main_arg3 : FVec F S8208x16 .f32) (main_arg4 : FVec F S8208x1024 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x1024 .f32 := Host.absf main_arg1
  let main_cst_0 : FVec F S_ .f32 := constant S_ .f32 0x7F800000#32
  let main_v5 : FVec F S8208x1024 .f32 := broadcastInDim S8208x1024 ![] bcast_S_S8208x1024 main_cst_0
  let main_v6 : IVec S8208x1024 1 := cmpf .olt main_v4 main_v5
  let main_c_1 : IVec S_ 1 := constantI S_ 1 1#1
  let main_v7 : IVec S_ 1 := (fun x v => Host.reduce IntOp.andi x v reducesTo_S8208x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S8208x16 .f32 := Host.absf main_arg3
  let main_cst_4 : FVec F S_ .f32 := constant S_ .f32 0x7F800000#32
  let main_v15 : FVec F S8208x16 .f32 := broadcastInDim S8208x16 ![] bcast_S_S8208x16 main_cst_4
  let main_v16 : IVec S8208x16 1 := cmpf .olt main_v14 main_v15
  fn_part1 (F := F) main_arg4 main_v13 main_v16
-- ==== Pre_attn_fwd_finite.lean ====
abbrev S8208x1024 : Shape := ⟨2, ![8208, 1024]⟩
abbrev S8208x16 : Shape := ⟨2, ![8208, 16]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S8208x16 : S_.BroadcastsInDim S8208x16 (![] : Fin 0 → Fin S8208x16.rank)
  reducesTo_S8208x16_S_d0_1 : S8208x16.ReducesTo [0, 1] S_

variable [Facts]

def fn_part1 {F : FTy → Type} [FloatOps F] (main_v13 : IVec S_ 1) (main_v16 : IVec S8208x16 1) : IVec S_ 1 :=
  let main_c_5 : IVec S_ 1 := constantI S_ 1 1#1
  let main_v17 : IVec S_ 1 := (fun x v => Host.reduce IntOp.andi x v reducesTo_S8208x16_S_d0_1 h_S_) main_v16 main_c_5
  let main_v18 : IVec S_ 1 := andi main_v13 main_v17
  main_v18

def fn {F : FTy → Type} [FloatOps F] (main_arg0 : FVec F S8208x1024 .f32) (main_arg1 : FVec F S8208x1024 .f32) (main_arg2 : FVec F S8208x1024 .f32) (main_arg3 : FVec F S8208x16 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S8208x1024 .f32 := Host.absf main_arg1
  let main_cst_0 : FVec F S_ .f32 := constant S_ .f32 0x7F800000#32
  let main_v5 : FVec F S8208x1024 .f32 := broadcastInDim S8208x1024 ![] bcast_S_S8208x1024 main_cst_0
  let main_v6 : IVec S8208x1024 1 := cmpf .olt main_v4 main_v5
  let main_c_1 : IVec S_ 1 := constantI S_ 1 1#1
  let main_v7 : IVec S_ 1 := (fun x v => Host.reduce IntOp.andi x v reducesTo_S8208x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S8208x16 .f32 := Host.absf main_arg3
  let main_cst_4 : FVec F S_ .f32 := constant S_ .f32 0x7F800000#32
  let main_v15 : FVec F S8208x16 .f32 := broadcastInDim S8208x16 ![] bcast_S_S8208x16 main_cst_4
  let main_v16 : IVec S8208x16 1 := cmpf .olt main_v14 main_v15
  fn_part1 (F := F) main_v13 main_v16
-- ==== Pre_attn_ln_finite.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S1024x2048 : Shape := ⟨2, ![1024, 2048]⟩
abbrev S1024x1024 : Shape := ⟨2, ![1024, 1024]⟩
abbrev S1024x16 : Shape := ⟨2, ![1024, 16]⟩
abbrev S8208x2048 : Shape := ⟨2, ![8208, 2048]⟩
abbrev S8208x16 : Shape := ⟨2, ![8208, 16]⟩
abbrev S_ : Shape := ⟨0, ![]⟩

class Facts : Prop where
  bcast_S_S8208x2816 : S_.BroadcastsInDim S8208x2816 (![] : Fin 0 → Fin S8208x2816.rank)
  reducesTo_S8208x2816_S_d0_1 : S8208x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8208x1024 : S_.BroadcastsInDim S8208x1024 (![] : Fin 0 → Fin S8208x1024.rank)
  reducesTo_S8208x1024_S_d0_1 : S8208x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S8208x2048 : S_.BroadcastsInDim S8208x2048 (![] : Fin 0 → Fin S8208x2048.rank)
  reducesTo_S8208x2048_S_d0_1 : S8208x2048.ReducesTo [0, 1] S_
  bcast_S_S8208x16 : S_.BroadcastsInDim S8208x16 (![] : Fin 0 → Fin S8208x16.rank)
  reducesTo_S8208x16_S_d0_1 : S8208x16.ReducesTo [0, 1] S_

variable [Facts]

def fn_part3 {F : FTy → Type} [FloatOps F] (main_v48 : IVec S_ 1) (main_v49 : FVec F S8208x1024 .f32) (main_v50 : FVec F S8208x1024 .f32) : IVec S_ 1 :=
  let main_v51 : IVec S8208x1024 1 := cmpf .olt main_v49 main_v50
  let main_c_19 : IVec S_ 1 := constantI S_ 1 1#1
  let main_v52 : IVec S_ 1 := (fun x v => Host.reduce IntOp.andi x v reducesTo_S8208x1024_S_d0_1 h_S_) main_v51 main_c_19
  let main_v53 : IVec S_ 1 := andi main_v48 main_v52
  main_v53

def fn_part2 {F : FTy → Type} [FloatOps F] (main_arg8 : FVec F S8208x2048 .f32) (main_arg9 : FVec F S8208x1024 .f32) (main_arg10 : FVec F S8208x16 .f32) (main_arg11 : FVec F S8208x1024 .f32) (main_v33 : IVec S_ 1) : IVec S_ 1 :=
  let main_v34 : FVec F S8208x2048 .f32 := Host.absf main_arg8
  let main_cst_12 : FVec F S_ .f32 := constant S_ .f32 0x7F800000#32
  let main_v35 : FVec F S8208x2048 .f32 := broadcastInDim S8208x2048 ![] bcast_S_S8208x2048 main_cst_12
  let main_v36 : IVec S8208x2048 1 := cmpf .olt main_v34 main_v35
  let main_c_13 : IVec S_ 1 := constantI S_ 1 1#1
  let main_v37 : IVec S_ 1 := (fun x v => Host.reduce IntOp.andi x v reducesTo_S8208x2048_S_d0_1 h_S_) main_v36 main_c_13
  let main_v38 : IVec S_ 1 := andi main_v33 main_v37
  let main_v39 : FVec F S8208x1024 .f32 := Host.absf main_arg9
  let main_cst_14 : FVec F S_ .f32 := constant S_ .f32 0x7F800000#32
  let main_v40 : FVec F S8208x1024 .f32 := broadcastInDim S8208x1024 ![] bcast_S_S8208x1024 main_cst_14
  let main_v41 : IVec S8208x1024 1 := cmpf .olt main_v39 main_v40
  let main_c_15 : IVec S_ 1 := constantI S_ 1 1#1
  let main_v42 : IVec S_ 1 := (fun x v => Host.reduce IntOp.andi x v reducesTo_S8208x1024_S_d0_1 h_S_) main_v41 main_c_15
  let main_v43 : IVec S_ 1 := andi main_v38 main_v42
  let main_v44 : FVec F S8208x16 .f32 := Host.absf main_arg10
  let main_cst_16 : FVec F S_ .f32 := constant S_ .f32 0x7F800000#32
  let main_v45 : FVec F S8208x16 .f32 := broadcastInDim S8208x16 ![] bcast_S_S8208x16 main_cst_16
  let main_v46 : IVec S8208x16 1 := cmpf .olt main_v44 main_v45
  let main_c_17 : IVec S_ 1 := constantI S_ 1 1#1
  let main_v47 : IVec S_ 1 := (fun x v => Host.reduce IntOp.andi x v reducesTo_S8208x16_S_d0_1 h_S_) main_v46 main_c_17
  let main_v48 : IVec S_ 1 := andi main_v43 main_v47
  let main_v49 : FVec F S8208x1024 .f32 := Host.absf main_arg11
  let main_cst_18 : FVec F S_ .f32 := constant S_ .f32 0x7F800000#32
  let main_v50 : FVec F S8208x1024 .f32 := broadcastInDim S8208x1024 ![] bcast_S_S8208x1024 main_cst_18
  fn_part3 (F := F) main_v48 main_v49 main_v50

def fn_part1 {F : FTy → Type} [FloatOps F] (main_arg5 : FVec F S1024x2048 .f32) (main_arg6 : FVec F S1024x1024 .f32) (main_arg7 : FVec F S1024x16 .f32) (main_arg8 : FVec F S8208x2048 .f32) (main_arg9 : FVec F S8208x1024 .f32) (main_arg10 : FVec F S8208x16 .f32) (main_arg11 : FVec F S8208x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x16 .f32 := Host.absf main_arg7
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S8208x2816 .f32) (main_arg1 : FVec F S2816x1024 .f32) (main_arg2 : FVec F S8208x1024 .f32) (main_arg3 : FVec F S1024 .f32) (main_arg4 : FVec F S1024 .f32) (main_arg5 : FVec F S1024x2048 .f32) (main_arg6 : FVec F S1024x1024 .f32) (main_arg7 : FVec F S1024x16 .f32) (main_arg8 : FVec F S8208x2048 .f32) (main_arg9 : FVec F S8208x1024 .f32) (main_arg10 : FVec F S8208x16 .f32) (main_arg11 : FVec F S8208x1024 .f32) : IVec S_ 1 :=
  let main_v0 : FVec F S8208x2816 .f32 := Host.absf main_arg0
  let main_cst : FVec F S_ .f32 := constant S_ .f32 0x7F800000#32
  let main_v1 : FVec F S8208x2816 .f32 := broadcastInDim S8208x2816 ![] bcast_S_S8208x2816 main_cst
  let main_v2 : IVec S8208x2816 1 := cmpf .olt main_v0 main_v1
  let main_c : IVec S_ 1 := constantI S_ 1 1#1
  let main_v3 : IVec S_ 1 := (fun x v => Host.reduce IntOp.andi x v reducesTo_S8208x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_arg11 main_v13 main_v16
-- ==== Pre_ffn_ln_finite.lean ====
abbrev S8208x1024 : Shape := ⟨2, ![8208, 1024]⟩
abbrev S1024x1024 : Shape := ⟨2, ![1024, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩

class Facts : Prop where
  bcast_S_S8208x1024 : S_.BroadcastsInDim S8208x1024 (![] : Fin 0 → Fin S8208x1024.rank)
  reducesTo_S8208x1024_S_d0_1 : S8208x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S8208x5632 : S_.BroadcastsInDim S8208x5632 (![] : Fin 0 → Fin S8208x5632.rank)
  reducesTo_S8208x5632_S_d0_1 : S8208x5632.ReducesTo [0, 1] S_

variable [Facts]

def fn_part1 {F : FTy → Type} [FloatOps F] (main_arg5 : FVec F S1024x5632 .f32) (main_arg6 : FVec F S8208x5632 .f32) (main_arg7 : FVec F S8208x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x5632 .f32 := Host.absf main_arg5
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S8208x5632 .f32 := Host.absf main_arg6
  let main_cst_8 : FVec F S_ .f32 := constant S_ .f32 0x7F800000#32
  let main_v25 : FVec F S8208x5632 .f32 := broadcastInDim S8208x5632 ![] bcast_S_S8208x5632 main_cst_8
  let main_v26 : IVec S8208x5632 1 := cmpf .olt main_v24 main_v25
  let main_c_9 : IVec S_ 1 := constantI S_ 1 1#1
  let main_v27 : IVec S_ 1 := (fun x v => Host.reduce IntOp.andi x v reducesTo_S8208x5632_S_d0_1 h_S_) main_v26 main_c_9
  let main_v28 : IVec S_ 1 := andi main_v23 main_v27
  let main_v29 : FVec F S8208x1024 .f32 := Host.absf main_arg7
  let main_cst_10 : FVec F S_ .f32 := constant S_ .f32 0x7F800000#32
  let main_v30 : FVec F S8208x1024 .f32 := broadcastInDim S8208x1024 ![] bcast_S_S8208x1024 main_cst_10
  let main_v31 : IVec S8208x1024 1 := cmpf .olt main_v29 main_v30
  let main_c_11 : IVec S_ 1 := constantI S_ 1 1#1
  let main_v32 : IVec S_ 1 := (fun x v => Host.reduce IntOp.andi x v reducesTo_S8208x1024_S_d0_1 h_S_) main_v31 main_c_11
  let main_v33 : IVec S_ 1 := andi main_v28 main_v32
  main_v33

def fn {F : FTy → Type} [FloatOps F] (main_arg0 : FVec F S8208x1024 .f32) (main_arg1 : FVec F S1024x1024 .f32) (main_arg2 : FVec F S8208x1024 .f32) (main_arg3 : FVec F S1024 .f32) (main_arg4 : FVec F S1024 .f32) (main_arg5 : FVec F S1024x5632 .f32) (main_arg6 : FVec F S8208x5632 .f32) (main_arg7 : FVec F S8208x1024 .f32) : IVec S_ 1 :=
  let main_v0 : FVec F S8208x1024 .f32 := Host.absf main_arg0
  let main_cst : FVec F S_ .f32 := constant S_ .f32 0x7F800000#32
  let main_v1 : FVec F S8208x1024 .f32 := broadcastInDim S8208x1024 ![] bcast_S_S8208x1024 main_cst
  let main_v2 : IVec S8208x1024 1 := cmpf .olt main_v0 main_v1
  let main_c : IVec S_ 1 := constantI S_ 1 1#1
  let main_v3 : IVec S_ 1 := (fun x v => Host.reduce IntOp.andi x v reducesTo_S8208x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_v13 main_v16
-- ==== Pre_gate_finite.lean ====
abbrev S8208x16 : Shape := ⟨2, ![8208, 16]⟩
abbrev S16 : Shape := ⟨1, ![16]⟩
abbrev S_ : Shape := ⟨0, ![]⟩

class Facts : Prop where
  bcast_S_S8208x16 : S_.BroadcastsInDim S8208x16 (![] : Fin 0 → Fin S8208x16.rank)
  reducesTo_S8208x16_S_d0_1 : S8208x16.ReducesTo [0, 1] S_
  h_S_ : 0 < S_.numel

variable [Facts]

def fn {F : FTy → Type} [FloatOps F] (main_arg0 : FVec F S8208x16 .f32) (main_arg1 : FVec F S16 .f32) (main_arg2 : FVec F S8208x16 .f32) : IVec S_ 1 :=
  let main_v0 : FVec F S8208x16 .f32 := Host.absf main_arg2
  let main_cst : FVec F S_ .f32 := constant S_ .f32 0x7F800000#32
  let main_v1 : FVec F S8208x16 .f32 := broadcastInDim S8208x16 ![] bcast_S_S8208x16 main_cst
  let main_v2 : IVec S8208x16 1 := cmpf .olt main_v0 main_v1
  let main_c : IVec S_ 1 := constantI S_ 1 1#1
  let main_v3 : IVec S_ 1 := (fun x v => Host.reduce IntOp.andi x v reducesTo_S8208x16_S_d0_1 h_S_) main_v2 main_c
  main_v3
-- ==== Pre_loss_finite.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩

class Facts : Prop where
  bcast_S_S8208x2816 : S_.BroadcastsInDim S8208x2816 (![] : Fin 0 → Fin S8208x2816.rank)
  reducesTo_S8208x2816_S_d0_1 : S8208x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8208x1024 : S_.BroadcastsInDim S8208x1024 (![] : Fin 0 → Fin S8208x1024.rank)
  reducesTo_S8208x1024_S_d0_1 : S8208x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024 .f32) (main_arg5 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8208x2816 .f32) (main_arg1 : FVec F S2816x1024 .f32) (main_arg2 : FVec F S8208x1024 .f32) (main_arg3 : FVec F S1024 .f32) (main_arg4 : FVec F S1024 .f32) (main_arg5 : FVec F S8192x1024 .f32) : IVec S_ 1 :=
  let main_v0 : FVec F S8208x2816 .f32 := Host.absf main_arg0
  let main_cst : FVec F S_ .f32 := constant S_ .f32 0x7F800000#32
  let main_v1 : FVec F S8208x2816 .f32 := broadcastInDim S8208x2816 ![] bcast_S_S8208x2816 main_cst
  let main_v2 : IVec S8208x2816 1 := cmpf .olt main_v0 main_v1
  let main_c : IVec S_ 1 := constantI S_ 1 1#1
  let main_v3 : IVec S_ 1 := (fun x v => Host.reduce IntOp.andi x v reducesTo_S8208x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8208x1024 .f32 := Host.absf main_arg2
  let main_cst_2 : FVec F S_ .f32 := constant S_ .f32 0x7F800000#32
  let main_v10 : FVec F S8208x1024 .f32 := broadcastInDim S8208x1024 ![] bcast_S_S8208x1024 main_cst_2
  let main_v11 : IVec S8208x1024 1 := cmpf .olt main_v9 main_v10
  let main_c_3 : IVec S_ 1 := constantI S_ 1 1#1
  let main_v12 : IVec S_ 1 := (fun x v => Host.reduce IntOp.andi x v reducesTo_S8208x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== GateBwd.lean ====
abbrev S8208x16 : Shape := ⟨2, ![8208, 16]⟩
abbrev S16 : Shape := ⟨1, ![16]⟩
abbrev S_ : Shape := ⟨0, ![]⟩
abbrev S128 : Shape := ⟨1, ![128]⟩
abbrev S1x128 : Shape := ⟨2, ![1, 128]⟩
abbrev S8320x128 : Shape := ⟨2, ![8320, 128]⟩
abbrev S640x128 : Shape := ⟨2, ![640, 128]⟩
abbrev S640x640 : Shape := ⟨2, ![640, 640]⟩

abbrev nBuf : Space → Nat
  | .hbm => 15
  | .vmem => 10
  | .smem => 0
  | _ => 0

abbrev bufTy : (tb : Table) → Fin (tcTables nBuf tb) → BufTy
  | .hbm, ⟨0, _⟩ => ⟨S8208x16, .f32⟩
  | .hbm, ⟨1, _⟩ => ⟨S16, .f32⟩
  | .hbm, ⟨2, _⟩ => ⟨S8208x16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S8320x128, .f32⟩
  | .hbm, ⟨10, _⟩ => ⟨S_, .i32⟩
  | .hbm, ⟨11, _⟩ => ⟨S_, .f32⟩
  | .hbm, ⟨12, _⟩ => ⟨S8320x128, .f32⟩
  | .hbm, ⟨13, _⟩ => ⟨S8320x128, .bf16⟩
  | .hbm, ⟨14, _⟩ => ⟨S1x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S1x128, .f32⟩
  | .local _ .vmem, ⟨5, _⟩ => ⟨S640x128, .bf16⟩
  | .local _ .vmem, ⟨6, _⟩ => ⟨S640x128, .bf16⟩
  | .local _ .vmem, ⟨7, _⟩ => ⟨S1x128, .f32⟩
  | .local _ .vmem, ⟨8, _⟩ => ⟨S1x128, .f32⟩
  | .local _ .vmem, ⟨9, _⟩ => ⟨S640x128, .f32⟩
  | _, _ => ⟨S8208x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S8208x16 : Shape := ⟨2, ![8208, 16]⟩
abbrev S16 : Shape := ⟨1, ![16]⟩
abbrev S1x16 : Shape := ⟨2, ![1, 16]⟩
abbrev S_ : Shape := ⟨0, ![]⟩
abbrev S8320x128 : Shape := ⟨2, ![8320, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8208x16, .f32⟩
  | .hbm, ⟨1, _⟩ => ⟨S16, .f32⟩
  | .hbm, ⟨2, _⟩ => ⟨S8208x16, .f32⟩
  | .hbm, ⟨3, _⟩ => ⟨S1x16, .f32⟩
  | .hbm, ⟨4, _⟩ => ⟨S8208x16, .f32⟩
  | .hbm, ⟨5, _⟩ => ⟨S8208x16, .f32⟩
  | .hbm, ⟨6, _⟩ => ⟨S8208x16, .f32⟩
  | .hbm, ⟨7, _⟩ => ⟨S_, .f32⟩
  | .hbm, ⟨8, _⟩ => ⟨S8208x16, .f32⟩
  | .hbm, ⟨9, _⟩ => ⟨S8208x16, .f32⟩
  | .hbm, ⟨10, _⟩ => ⟨S8208x16, .f32⟩
  | .hbm, ⟨11, _⟩ => ⟨S8208x16, .f32⟩
  | .hbm, ⟨12, _⟩ => ⟨S8208x16, .i1⟩
  | .hbm, ⟨13, _⟩ => ⟨S8208x16, .f32⟩
  | .hbm, ⟨14, _⟩ => ⟨S8208x16, .f32⟩
  | .hbm, ⟨15, _⟩ => ⟨S8208x16, .f32⟩
  | .hbm, ⟨16, _⟩ => ⟨S8208x16, .f32⟩
  | .hbm, ⟨17, _⟩ => ⟨S8208x16, .f32⟩
  | .hbm, ⟨18, _⟩ => ⟨S8208x16, .f32⟩
  | .hbm, ⟨19, _⟩ => ⟨S8208x16, .f32⟩
  | .hbm, ⟨20, _⟩ => ⟨S8208x16, .f32⟩
  | .hbm, ⟨21, _⟩ => ⟨S_, .f32⟩
  | .hbm, ⟨22, _⟩ => ⟨S8208x16, .f32⟩
  | .hbm, ⟨23, _⟩ => ⟨S8208x16, .i1⟩
  | .hbm, ⟨24, _⟩ => ⟨S_, .f32⟩
  | .hbm, ⟨25, _⟩ => ⟨S8208x16, .f32⟩
  | .hbm, ⟨26, _⟩ => ⟨S8208x16, .f32⟩
  | .hbm, ⟨27, _⟩ => ⟨S_, .f32⟩
  | .hbm, ⟨28, _⟩ => ⟨S8208x16, .f32⟩
  | .hbm, ⟨29, _⟩ => ⟨S8208x16, .i1⟩
  | .hbm, ⟨30, _⟩ => ⟨S_, .f32⟩
  | .hbm, ⟨31, _⟩ => ⟨S8208x16, .f32⟩
  | .hbm, ⟨32, _⟩ => ⟨S8208x16, .f32⟩
  | .hbm, ⟨33, _⟩ => ⟨S8208x16, .f32⟩
  | .hbm, ⟨34, _⟩ => ⟨S8208x16, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8208x16, .f32⟩
  | .hbm, ⟨43, _⟩ => ⟨S8208x16, .i1⟩
  | .hbm, ⟨44, _⟩ => ⟨S_, .f32⟩
  | .hbm, ⟨45, _⟩ => ⟨S8208x16, .f32⟩
  | .hbm, ⟨46, _⟩ => ⟨S8208x16, .f32⟩
  | .hbm, ⟨47, _⟩ => ⟨S8208x16, .f32⟩
  | .hbm, ⟨48, _⟩ => ⟨S8208x16, .f32⟩
  | .hbm, ⟨49, _⟩ => ⟨S8208x16, .f32⟩
  | .hbm, ⟨50, _⟩ => ⟨S_, .f32⟩
  | .hbm, ⟨51, _⟩ => ⟨S8208x16, .f32⟩
  | .hbm, ⟨52, _⟩ => ⟨S8208x16, .f32⟩
  | .hbm, ⟨53, _⟩ => ⟨S8208x16, .f32⟩
  | .hbm, ⟨54, _⟩ => ⟨S_, .f32⟩
  | .hbm, ⟨55, _⟩ => ⟨S_, .f32⟩
  | .hbm, ⟨56, _⟩ => ⟨S8208x16, .f32⟩
  | .hbm, ⟨57, _⟩ => ⟨S_, .f32⟩
  | .hbm, ⟨58, _⟩ => ⟨S_, .f32⟩
  | .hbm, ⟨59, _⟩ => ⟨S8208x16, .f32⟩
  | .hbm, ⟨60, _⟩ => ⟨S8208x16, .f32⟩
  | .hbm, ⟨61, _⟩ => ⟨S8208x16, .f32⟩
  | .hbm, ⟨62, _⟩ => ⟨S8208x16, .f32⟩
  | .hbm, ⟨63, _⟩ => ⟨S_, .f32⟩
  | .hbm, ⟨64, _⟩ => ⟨S16, .f32⟩
  | .hbm, ⟨65, _⟩ => ⟨S1x16, .f32⟩
  | .hbm, ⟨66, _⟩ => ⟨S_, .f32⟩
  | .hbm, ⟨67, _⟩ => ⟨S16, .f32⟩
  | .hbm, ⟨68, _⟩ => ⟨S_, .i32⟩
  | .hbm, ⟨69, _⟩ => ⟨S_, .f32⟩
  | .hbm, ⟨70, _⟩ => ⟨S8320x128, .f32⟩
  | .hbm, ⟨71, _⟩ => ⟨S8320x128, .bf16⟩
  | .hbm, ⟨72, _⟩ => ⟨S1x16, .f32⟩
  | .hbm, ⟨73, _⟩ => ⟨S_, .i32⟩
  | .hbm, ⟨74, _⟩ => ⟨S_, .f32⟩
  | .hbm, ⟨75, _⟩ => ⟨S1x128, .f32⟩
  | _, _ => ⟨S8208x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩
abbrev main_c : Ref sig .tc := ⟨.hbm, 68, rfl⟩
abbrev main_call4_v0 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_1 : Ref sig .tc := ⟨.hbm, 73, rfl⟩
abbrev main_call5_v0 : Ref sig .tc := ⟨.hbm, 74, rfl⟩
abbrev main_v13 : Ref sig .tc := ⟨.hbm, 75, rfl⟩

abbrev nD : Nat := 1
abbrev τ : Topo := Topo.v7x

variable {F : FTy → Type} [FloatOps F]
-- ==== FfnLnBwd.lean ====
abbrev S8208x1024 : Shape := ⟨2, ![8208, 1024]⟩
abbrev S1024x1024 : Shape := ⟨2, ![1024, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S8208x2x11x256 : Shape := ⟨4, ![8208, 2, 11, 256]⟩
abbrev S8208x11x2x256 : Shape := ⟨4, ![8208, 11, 2, 256]⟩
abbrev S8320x5632 : Shape := ⟨2, ![8320, 5632]⟩
abbrev S1024x2x11x256 : Shape := ⟨4, ![1024, 2, 11, 256]⟩
abbrev S1024x11x2x256 : Shape := ⟨4, ![1024, 11, 2, 256]⟩
abbrev S8320x1024 : Shape := ⟨2, ![8320, 1024]⟩
abbrev S1x1024 : Shape := ⟨2, ![1, 1024]⟩
abbrev S640x2816 : Shape := ⟨2, ![640, 2816]⟩
abbrev S1024x2816 : Shape := ⟨2, ![1024, 2816]⟩
abbrev S640x1024 : Shape := ⟨2, ![640, 1024]⟩
abbrev S640 : Shape := ⟨1, ![640]⟩
abbrev S640x1 : Shape := ⟨2, ![640, 1]⟩

abbrev nBuf : Space → Nat
  | .hbm => 35
  | .vmem => 16
  | .smem => 0
  | _ => 0

abbrev bufTy : (tb : Table) → Fin (tcTables nBuf tb) → BufTy
  | .hbm, ⟨0, _⟩ => ⟨S8208x1024, .f32⟩
  | .hbm, ⟨1, _⟩ => ⟨S1024x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S8208x5632, .f32⟩
  | .hbm, ⟨7, _⟩ => ⟨S8208x1024, .f32⟩
  | .hbm, ⟨8, _⟩ => ⟨S_, .f32⟩
  | .hbm, ⟨9, _⟩ => ⟨S8208x1024, .f32⟩
  | .hbm, ⟨10, _⟩ => ⟨S8208x1024, .f32⟩
  | .hbm, ⟨11, _⟩ => ⟨S8208x1024, .f32⟩
  | .hbm, ⟨12, _⟩ => ⟨S8208x1024, .f32⟩
  | .hbm, ⟨13, _⟩ => ⟨S8208x2x11x256, .f32⟩
  | .hbm, ⟨14, _⟩ => ⟨S8208x11x2x256, .f32⟩
  | .hbm, ⟨15, _⟩ => ⟨S8208x5632, .f32⟩
  | .hbm, ⟨16, _⟩ => ⟨S_, .i32⟩
  | .hbm, ⟨17, _⟩ => ⟨S_, .f32⟩
  | .hbm, ⟨18, _⟩ => ⟨S8320x5632, .f32⟩
  | .hbm, ⟨19, _⟩ => ⟨S8320x5632, .bf16⟩
  | .hbm, ⟨20, _⟩ => ⟨S1024x2x11x256, .f32⟩
  | .hbm, ⟨21, _⟩ => ⟨S1024x11x2x256, .f32⟩
  | .hbm, ⟨22, _⟩ => ⟨S1024x5632, .f32⟩
  | .hbm, ⟨23, _⟩ => ⟨S1024x5632, .bf16⟩
  | .hbm, ⟨24, _⟩ => ⟨S_, .i32⟩
  | .hbm, ⟨25, _⟩ => ⟨S_, .f32⟩
  | .hbm, ⟨26, _⟩ => ⟨S8320x1024, .f32⟩
  | .hbm, ⟨27, _⟩ => ⟨S_, .i32⟩
  | .hbm, ⟨28, _⟩ => ⟨S_, .f32⟩
  | .hbm, ⟨29, _⟩ => ⟨S8320x1024, .f32⟩
  | .hbm, ⟨30, _⟩ => ⟨S1x1024, .f32⟩
  | .hbm, ⟨31, _⟩ => ⟨S8320x1024, .f32⟩
  | .hbm, ⟨32, _⟩ => ⟨S8320x1024, .bf16⟩
  | .hbm, ⟨33, _⟩ => ⟨S1x1024, .f32⟩
  | .hbm, ⟨34, _⟩ => ⟨S1x1024, .f32⟩
  | .local _ .vmem, ⟨0, _⟩ => ⟨S640x2816, .bf16⟩
  | .local _ .vmem, ⟨1, _⟩ => ⟨S640x2816, .bf16⟩
  | .local _ .vmem, ⟨2, _⟩ => ⟨S1024x2816, .bf16⟩
  | .local _ .vmem, ⟨3, _⟩ => ⟨S1024x2816, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S1x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | .local _ .vmem, ⟨13, _⟩ => ⟨S1x1024, .f32⟩
  | .local _ .vmem, ⟨14, _⟩ => ⟨S1x1024, .f32⟩
  | .local _ .vmem, ⟨15, _⟩ => ⟨S640x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_call1_v0 : Ref sig .tc := ⟨.hbm, 25, rfl⟩
abbrev main_v13 : Ref sig .tc := ⟨.hbm, 26, rfl⟩
abbrev main_c_1 : Ref sig .tc := ⟨.hbm, 27, rfl⟩
abbrev main_call2_v0 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![13, 2], ![false, false]⟩

def k0_cond4 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_9 : BitVec 32 := 0#32
  let v18 : BitVec 1 := Scalar.cmpi .ne v17 c0_i32_9
  v18

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_3 : BitVec 32 := 0#32
  let v6 : BitVec 1 := Scalar.cmpi .eq arg1 c0_i32_3
  let v7 : BitVec 1 := Scalar.andi v5 v6
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== FfnLnRefIdeal.lean ====
abbrev S8208x1024 : Shape := ⟨2, ![8208, 1024]⟩
abbrev S1024x1024 : Shape := ⟨2, ![1024, 1024]⟩
abbrev S1024 : Shape := ⟨1, ![1024]⟩
abbrev S1024x5632 : Shape := ⟨2, ![1024, 5632]⟩
abbrev S8208x5632 : Shape := ⟨2, ![8208, 5632]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8320x1024 : Shape := ⟨2, ![8320, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S8208x5632, .f32⟩
  | .hbm, ⟨7, _⟩ => ⟨S8208x1024, .f32⟩
  | .hbm, ⟨8, _⟩ => ⟨S_, .f32⟩
  | .hbm, ⟨9, _⟩ => ⟨S8208x1024, .f32⟩
  | .hbm, ⟨10, _⟩ => ⟨S8208x1024, .f32⟩
  | .hbm, ⟨11, _⟩ => ⟨S8208x1024, .f32⟩
  | .hbm, ⟨12, _⟩ => ⟨S8208x1024, .f32⟩
  | .hbm, ⟨13, _⟩ => ⟨S_, .f32⟩
  | .hbm, ⟨14, _⟩ => ⟨S8208, .f32⟩
  | .hbm, ⟨15, _⟩ => ⟨S8208x1, .f32⟩
  | .hbm, ⟨16, _⟩ => ⟨S_, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S_, .f32⟩
  | .hbm, ⟨23, _⟩ => ⟨S8208, .f32⟩
  | .hbm, ⟨24, _⟩ => ⟨S8208x1, .f32⟩
  | .hbm, ⟨25, _⟩ => ⟨S_, .f32⟩
  | .hbm, ⟨26, _⟩ => ⟨S8208x1, .f32⟩
  | .hbm, ⟨27, _⟩ => ⟨S8208x1, .f32⟩
  | .hbm, ⟨28, _⟩ => ⟨S_, .f32⟩
  | .hbm, ⟨29, _⟩ => ⟨S8208x1, .f32⟩
  | .hbm, ⟨30, _⟩ => ⟨S8208x1, .f32⟩
  | .hbm, ⟨31, _⟩ => ⟨S8208x1, .f32⟩
  | .hbm, ⟨32, _⟩ => ⟨S8208x1, .f32⟩
  | .hbm, ⟨33, _⟩ => ⟨S_, .f32⟩
  | .hbm, ⟨34, _⟩ => ⟨S8208x1, .f32⟩
  | .hbm, ⟨35, _⟩ => ⟨S8208x1, .f32⟩
  | .hbm, ⟨36, _⟩ => ⟨S8208x1024, .f32⟩
  | .hbm, ⟨37, _⟩ => ⟨S8208x1024, .f32⟩
  | .hbm, ⟨38, _⟩ => ⟨S1x1024, .f32⟩
  | .hbm, ⟨39, _⟩ => ⟨S8208x1024, .f32⟩
  | .hbm, ⟨40, _⟩ => ⟨S8208x1024, .f32⟩
  | .hbm, ⟨41, _⟩ => ⟨S1x1024, .f32⟩
  | .hbm, ⟨42, _⟩ => ⟨S8208x1024, .f32⟩
  | .hbm, ⟨43, _⟩ => ⟨S8208x1024, .f32⟩
  | .hbm, ⟨44, _⟩ => ⟨S8208x5632, .f32⟩
  | .hbm, ⟨45, _⟩ => ⟨S_, .f32⟩
  | .hbm, ⟨46, _⟩ => ⟨S8208x1024, .f32⟩
  | .hbm, ⟨47, _⟩ => ⟨S8208x1024, .f32⟩
  | .hbm, ⟨48, _⟩ => ⟨S_, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8208x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8208x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8208x1024, .f32⟩
  | .hbm, ⟨63, _⟩ => ⟨S8208x1024, .f32⟩
  | .hbm, ⟨64, _⟩ => ⟨S_, .f32⟩
  | .hbm, ⟨65, _⟩ => ⟨S1024, .f32⟩
  | .hbm, ⟨66, _⟩ => ⟨S8208x1024, .f32⟩
  | .hbm, ⟨67, _⟩ => ⟨S_, .f32⟩
  | .hbm, ⟨68, _⟩ => ⟨S8208, .f32⟩
  | .hbm, ⟨69, _⟩ => ⟨S8208x1, .f32⟩
  | .hbm, ⟨70, _⟩ => ⟨S8208x1024, .f32⟩
  | .hbm, ⟨71, _⟩ => ⟨S8208x1024, .f32⟩
  | .hbm, ⟨72, _⟩ => ⟨S8208x1, .f32⟩
  | .hbm, ⟨73, _⟩ => ⟨S_, .f32⟩
  | .hbm, ⟨74, _⟩ => ⟨S8208x1, .f32⟩
  | .hbm, ⟨75, _⟩ => ⟨S8208x1, .f32⟩
  | .hbm, ⟨76, _⟩ => ⟨S_, .f32⟩
  | .hbm, ⟨77, _⟩ => ⟨S8208, .f32⟩
  | .hbm, ⟨78, _⟩ => ⟨S8208x1024, .f32⟩
  | .hbm, ⟨79, _⟩ => ⟨S8208x1024, .f32⟩
  | .hbm, ⟨80, _⟩ => ⟨S8208x1024, .f32⟩
  | .hbm, ⟨81, _⟩ => ⟨S8208x1024, .f32⟩
  | .hbm, ⟨82, _⟩ => ⟨S8208x1024, .f32⟩
  | .hbm, ⟨83, _⟩ => ⟨S8208x1024, .f32⟩
  | .hbm, ⟨84, _⟩ => ⟨S_, .f32⟩
  | .hbm, ⟨85, _⟩ => ⟨S8208, .f32⟩
  | .hbm, ⟨86, _⟩ => ⟨S8208x1, .f32⟩
  | .hbm, ⟨87, _⟩ => ⟨S_, .f32⟩
  | .hbm, ⟨88, _⟩ => ⟨S8208x1, .f32⟩
  | .hbm, ⟨89, _⟩ => ⟨S8208x1, .f32⟩
  | .hbm, ⟨90, _⟩ => ⟨S_, .f32⟩
  | .hbm, ⟨91, _⟩ => ⟨S8208, .f32⟩
  | .hbm, ⟨92, _⟩ => ⟨S8208x1024, .f32⟩
  | .hbm, ⟨93, _⟩ => ⟨S8208x1024, .f32⟩
  | .hbm, ⟨94, _⟩ => ⟨S_, .i32⟩
  | .hbm, ⟨95, _⟩ => ⟨S_, .f32⟩
  | .hbm, ⟨96, _⟩ => ⟨S8320x1024, .f32⟩
  | .hbm, ⟨97, _⟩ => ⟨S8320x1024, .bf16⟩
  | .hbm, ⟨98, _⟩ => ⟨S1x1024, .f32⟩
  | .hbm, ⟨99, _⟩ => ⟨S1x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_cst_16 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call0_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== LossBwd.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S16x1024 : Shape := ⟨2, ![16, 1024]⟩
abbrev S112x1024 : Shape := ⟨2, ![112, 1024]⟩
abbrev S8320x1024 : Shape := ⟨2, ![8320, 1024]⟩
abbrev S8320x2816 : Shape := ⟨2, ![8320, 2816]⟩
abbrev S1x1024 : Shape := ⟨2, ![1, 1024]⟩
abbrev S8x128 : Shape := ⟨2, ![8, 128]⟩
abbrev S640x2816 : Shape := ⟨2, ![640, 2816]⟩
abbrev S640x1024 : Shape := ⟨2, ![640, 1024]⟩
abbrev S640 : Shape := ⟨1, ![640]⟩
abbrev S640x1 : Shape := ⟨2, ![640, 1]⟩
abbrev S1 : Shape := ⟨1, ![1]⟩
abbrev S1x1 : Shape := ⟨2, ![1, 1]⟩

abbrev nBuf : Space → Nat
  | .hbm => 26
  | .vmem => 16
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S16x1024, .f32⟩
  | .hbm, ⟨8, _⟩ => ⟨S_, .f32⟩
  | .hbm, ⟨9, _⟩ => ⟨S112x1024, .f32⟩
  | .hbm, ⟨10, _⟩ => ⟨S8320x1024, .f32⟩
  | .hbm, ⟨11, _⟩ => ⟨S_, .i32⟩
  | .hbm, ⟨12, _⟩ => ⟨S_, .f32⟩
  | .hbm, ⟨13, _⟩ => ⟨S8320x2816, .f32⟩
  | .hbm, ⟨14, _⟩ => ⟨S8320x2816, .bf16⟩
  | .hbm, ⟨15, _⟩ => ⟨S2816x1024, .bf16⟩
  | .hbm, ⟨16, _⟩ => ⟨S_, .i32⟩
  | .hbm, ⟨17, _⟩ => ⟨S_, .f32⟩
  | .hbm, ⟨18, _⟩ => ⟨S8320x1024, .f32⟩
  | .hbm, ⟨19, _⟩ => ⟨S1x1024, .f32⟩
  | .hbm, ⟨20, _⟩ => ⟨S1x1024, .f32⟩
  | .hbm, ⟨21, _⟩ => ⟨S8320x1024, .f32⟩
  | .hbm, ⟨22, _⟩ => ⟨S8320x1024, .bf16⟩
  | .hbm, ⟨23, _⟩ => ⟨S8x128, .f32⟩
  | .hbm, ⟨24, _⟩ => ⟨S1x1024, .f32⟩
  | .hbm, ⟨25, _⟩ => ⟨S1x1024, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S1x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x1024, .bf16⟩
  | .local _ .vmem, ⟨13, _⟩ => ⟨S8x128, .f32⟩
  | .local _ .vmem, ⟨14, _⟩ => ⟨S1x1024, .f32⟩
  | .local _ .vmem, ⟨15, _⟩ => ⟨S1x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S8192x1024 : Shape := ⟨2, ![8192, 1024]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8192 : Shape := ⟨1, ![8192]⟩
abbrev S8320x1024 : Shape := ⟨2, ![8320, 1024]⟩
abbrev S8x128 : Shape := ⟨2, ![8, 128]⟩

abbrev nBuf : Space → Nat
  | .hbm => 116
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8208x1024, .f32⟩
  | .hbm, ⟨8, _⟩ => ⟨S8208x1024, .f32⟩
  | .hbm, ⟨9, _⟩ => ⟨S8208x1024, .f32⟩
  | .hbm, ⟨10, _⟩ => ⟨S8208x1024, .f32⟩
  | .hbm, ⟨11, _⟩ => ⟨S_, .f32⟩
  | .hbm, ⟨12, _⟩ => ⟨S8208, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S_, .f32⟩
  | .hbm, ⟨21, _⟩ => ⟨S8208, .f32⟩
  | .hbm, ⟨22, _⟩ => ⟨S8208x1, .f32⟩
  | .hbm, ⟨23, _⟩ => ⟨S_, .f32⟩
  | .hbm, ⟨24, _⟩ => ⟨S8208x1, .f32⟩
  | .hbm, ⟨25, _⟩ => ⟨S8208x1, .f32⟩
  | .hbm, ⟨26, _⟩ => ⟨S_, .f32⟩
  | .hbm, ⟨27, _⟩ => ⟨S8208x1, .f32⟩
  | .hbm, ⟨28, _⟩ => ⟨S8208x1, .f32⟩
  | .hbm, ⟨29, _⟩ => ⟨S8208x1, .f32⟩
  | .hbm, ⟨30, _⟩ => ⟨S8208x1, .f32⟩
  | .hbm, ⟨31, _⟩ => ⟨S_, .f32⟩
  | .hbm, ⟨32, _⟩ => ⟨S8208x1, .f32⟩
  | .hbm, ⟨33, _⟩ => ⟨S8208x1, .f32⟩
  | .hbm, ⟨34, _⟩ => ⟨S8208x1024, .f32⟩
  | .hbm, ⟨35, _⟩ => ⟨S8208x1024, .f32⟩
  | .hbm, ⟨36, _⟩ => ⟨S1x1024, .f32⟩
  | .hbm, ⟨37, _⟩ => ⟨S8208x1024, .f32⟩
  | .hbm, ⟨38, _⟩ => ⟨S8208x1024, .f32⟩
  | .hbm, ⟨39, _⟩ => ⟨S1x1024, .f32⟩
  | .hbm, ⟨40, _⟩ => ⟨S8208x1024, .f32⟩
  | .hbm, ⟨41, _⟩ => ⟨S8208x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8208x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S8208x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8208x1024, .f32⟩
  | .hbm, ⟨78, _⟩ => ⟨S8208x1024, .f32⟩
  | .hbm, ⟨79, _⟩ => ⟨S_, .f32⟩
  | .hbm, ⟨80, _⟩ => ⟨S1024, .f32⟩
  | .hbm, ⟨81, _⟩ => ⟨S8208x1024, .f32⟩
  | .hbm, ⟨82, _⟩ => ⟨S_, .f32⟩
  | .hbm, ⟨83, _⟩ => ⟨S8208, .f32⟩
  | .hbm, ⟨84, _⟩ => ⟨S8208x1, .f32⟩
  | .hbm, ⟨85, _⟩ => ⟨S8208x1024, .f32⟩
  | .hbm, ⟨86, _⟩ => ⟨S8208x1024, .f32⟩
  | .hbm, ⟨87, _⟩ => ⟨S8208x1, .f32⟩
  | .hbm, ⟨88, _⟩ => ⟨S_, .f32⟩
  | .hbm, ⟨89, _⟩ => ⟨S8208x1, .f32⟩
  | .hbm, ⟨90, _⟩ => ⟨S8208x1, .f32⟩
  | .hbm, ⟨91, _⟩ => ⟨S_, .f32⟩
  | .hbm, ⟨92, _⟩ => ⟨S8208, .f32⟩
  | .hbm, ⟨93, _⟩ => ⟨S8208x1024, .f32⟩
  | .hbm, ⟨94, _⟩ => ⟨S8208x1024, .f32⟩
  | .hbm, ⟨95, _⟩ => ⟨S8208x1024, .f32⟩
  | .hbm, ⟨96, _⟩ => ⟨S8208x1024, .f32⟩
  | .hbm, ⟨97, _⟩ => ⟨S8208x1024, .f32⟩
  | .hbm, ⟨98, _⟩ => ⟨S8208x1024, .f32⟩
  | .hbm, ⟨99, _⟩ => ⟨S_, .f32⟩
  | .hbm, ⟨100, _⟩ => ⟨S8208, .f32⟩
  | .hbm, ⟨101, _⟩ => ⟨S8208x1, .f32⟩
  | .hbm, ⟨102, _⟩ => ⟨S_, .f32⟩
  | .hbm, ⟨103, _⟩ => ⟨S8208x1, .f32⟩
  | .hbm, ⟨104, _⟩ => ⟨S8208x1, .f32⟩
  | .hbm, ⟨105, _⟩ => ⟨S_, .f32⟩
  | .hbm, ⟨106, _⟩ => ⟨S8208, .f32⟩
  | .hbm, ⟨107, _⟩ => ⟨S8208x1024, .f32⟩
  | .hbm, ⟨108, _⟩ => ⟨S8208x1024, .f32⟩
  | .hbm, ⟨109, _⟩ => ⟨S_, .i32⟩
  | .hbm, ⟨110, _⟩ => ⟨S_, .f32⟩
  | .hbm, ⟨111, _⟩ => ⟨S8320x1024, .f32⟩
  | .hbm, ⟨112, _⟩ => ⟨S8320x1024, .bf16⟩
  | .hbm, ⟨113, _⟩ => ⟨S8x128, .f32⟩
  | .hbm, ⟨114, _⟩ => ⟨S1x1024, .f32⟩
  | .hbm, ⟨115, _⟩ => ⟨S1x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_cst_16 : Ref sig .tc := ⟨.hbm, 71, rfl⟩
abbrev main_v48 : Ref sig .tc := ⟨.hbm, 72, rfl⟩
abbrev main_v49 : Ref sig .tc := ⟨.hbm, 73, rfl⟩
abbrev main_cst_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_v55 : Ref sig .tc := ⟨.hbm, 81, rfl⟩
abbrev main_cst_19 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_v62 : Ref sig .tc := ⟨.hbm, 90, rfl⟩
abbrev main_cst_21 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_22 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_cst_24 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c : Ref sig .tc := ⟨.hbm, 109, rfl⟩
abbrev main_call0_v0 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩

abbrev nD : Nat := 1
abbrev τ : Topo := Topo.v7x

variable {F : FTy → Type} [FloatOps F]
-- ==== AttnLnBwd.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S1024x2048 : Shape := ⟨2, ![1024, 2048]⟩
abbrev S1024x1024 : Shape := ⟨2, ![1024, 1024]⟩
abbrev S1024x16 : Shape := ⟨2, ![1024, 16]⟩
abbrev S8208x2048 : Shape := ⟨2, ![8208, 2048]⟩
abbrev S8208x16 : Shape := ⟨2, ![8208, 16]⟩
abbrev S_ : Shape := ⟨0, ![]⟩
abbrev S1024x128 : Shape := ⟨2, ![1024, 128]⟩
abbrev S1024x3200 : Shape := ⟨2, ![1024, 3200]⟩
abbrev S8208x128 : Shape := ⟨2, ![8208, 128]⟩
abbrev S8208x3200 : Shape := ⟨2, ![8208, 3200]⟩
abbrev S8320x3200 : Shape := ⟨2, ![8320, 3200]⟩
abbrev S8320x1024 : Shape := ⟨2, ![8320, 1024]⟩
abbrev S1x1024 : Shape := ⟨2, ![1, 1024]⟩
abbrev S640x3200 : Shape := ⟨2, ![640, 3200]⟩
abbrev S640x1024 : Shape := ⟨2, ![640, 1024]⟩
abbrev S640 : Shape := ⟨1, ![640]⟩
abbrev S640x1 : Shape := ⟨2, ![640, 1]⟩

abbrev nBuf : Space → Nat
  | .hbm => 41
  | .vmem => 14
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S1024x1024, .f32⟩
  | .hbm, ⟨7, _⟩ => ⟨S1024x16, .f32⟩
  | .hbm, ⟨8, _⟩ => ⟨S8208x2048, .f32⟩
  | .hbm, ⟨9, _⟩ => ⟨S8208x1024, .f32⟩
  | .hbm, ⟨10, _⟩ => ⟨S8208x16, .f32⟩
  | .hbm, ⟨11, _⟩ => ⟨S8208x1024, .f32⟩
  | .hbm, ⟨12, _⟩ => ⟨S_, .f32⟩
  | .hbm, ⟨13, _⟩ => ⟨S8208x1024, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x3200, .f32⟩
  | .hbm, ⟨21, _⟩ => ⟨S1024x3200, .bf16⟩
  | .hbm, ⟨22, _⟩ => ⟨S_, .i32⟩
  | .hbm, ⟨23, _⟩ => ⟨S_, .f32⟩
  | .hbm, ⟨24, _⟩ => ⟨S8208x128, .f32⟩
  | .hbm, ⟨25, _⟩ => ⟨S8208x3200, .f32⟩
  | .hbm, ⟨26, _⟩ => ⟨S_, .i32⟩
  | .hbm, ⟨27, _⟩ => ⟨S_, .f32⟩
  | .hbm, ⟨28, _⟩ => ⟨S8320x3200, .f32⟩
  | .hbm, ⟨29, _⟩ => ⟨S8320x3200, .bf16⟩
  | .hbm, ⟨30, _⟩ => ⟨S_, .i32⟩
  | .hbm, ⟨31, _⟩ => ⟨S_, .f32⟩
  | .hbm, ⟨32, _⟩ => ⟨S8320x1024, .f32⟩
  | .hbm, ⟨33, _⟩ => ⟨S_, .i32⟩
  | .hbm, ⟨34, _⟩ => ⟨S_, .f32⟩
  | .hbm, ⟨35, _⟩ => ⟨S8320x1024, .f32⟩
  | .hbm, ⟨36, _⟩ => ⟨S1x1024, .f32⟩
  | .hbm, ⟨37, _⟩ => ⟨S8320x1024, .f32⟩
  | .hbm, ⟨38, _⟩ => ⟨S8320x1024, .bf16⟩
  | .hbm, ⟨39, _⟩ => ⟨S1x1024, .f32⟩
  | .hbm, ⟨40, _⟩ => ⟨S1x1024, .f32⟩
  | .local _ .vmem, ⟨0, _⟩ => ⟨S640x3200, .bf16⟩
  | .local _ .vmem, ⟨1, _⟩ => ⟨S640x3200, .bf16⟩
  | .local _ .vmem, ⟨2, _⟩ => ⟨S1024x3200, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S1x1024, .f32⟩
  | .local _ .vmem, ⟨13, _⟩ => ⟨S1x1024, .f32⟩
  | _, _ => ⟨S8208x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_call2_v0 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_call3_v0 : Ref sig .tc := ⟨.hbm, 31, rfl⟩
abbrev main_v11 : Ref sig .tc := ⟨.hbm, 32, rfl⟩
abbrev main_c_3 : Ref sig .tc := ⟨.hbm, 33, rfl⟩
abbrev main_call4_v0 : Ref sig .tc := ⟨.hbm, 34, rfl⟩
abbrev main_v12 : Ref sig .tc := ⟨.hbm, 35, rfl⟩
abbrev main_v13 : Ref sig .tc := ⟨.hbm, 36, rfl⟩
abbrev main_v14_0 : Ref sig .tc := ⟨.hbm, 37, rfl⟩
abbrev main_v14_1 : Ref sig .tc := ⟨.hbm, 38, rfl⟩
abbrev main_v14_2 : Ref sig .tc := ⟨.hbm, 39, rfl⟩
abbrev main_v14_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== AttnLnRefIdeal.lean ====
abbrev S8208x2816 : Shape := ⟨2, ![8208, 2816]⟩
abbrev S2816x1024 : Shape := ⟨2, ![2816, 1024]⟩
abbrev S8208x1024 : Shape := ⟨2, ![8208, 1024]⟩
abbrev S1024 : Shape := ⟨1, ![1024]⟩
abbrev S1024x2048 : Shape := ⟨2, ![1024, 2048]⟩
abbrev S1024x1024 : Shape := ⟨2, ![1024, 1024]⟩
abbrev S1024x16 : Shape := ⟨2, ![1024, 16]⟩
abbrev S8208x2048 : Shape := ⟨2, ![8208, 2048]⟩
abbrev S8208x16 : Shape := ⟨2, ![8208, 16]⟩
abbrev S_ : Shape := ⟨0, ![]⟩
abbrev S8208 : Shape := ⟨1, ![8208]⟩
abbrev S8208x1 : Shape := ⟨2, ![8208, 1]⟩
abbrev S1x1024 : Shape := ⟨2, ![1, 1024]⟩
abbrev S8320x1024 : Shape := ⟨2, ![8320, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8208x2816, .f32⟩
  | .hbm, ⟨1, _⟩ => ⟨S2816x1024, .f32⟩
  | .hbm, ⟨2, _⟩ => ⟨S8208x1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S1024x1024, .f32⟩
  | .hbm, ⟨7, _⟩ => ⟨S1024x16, .f32⟩
  | .hbm, ⟨8, _⟩ => ⟨S8208x2048, .f32⟩
  | .hbm, ⟨9, _⟩ => ⟨S8208x1024, .f32⟩
  | .hbm, ⟨10, _⟩ => ⟨S8208x16, .f32⟩
  | .hbm, ⟨11, _⟩ => ⟨S8208x1024, .f32⟩
  | .hbm, ⟨12, _⟩ => ⟨S_, .f32⟩
  | .hbm, ⟨13, _⟩ => ⟨S8208x1024, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S_, .f32⟩
  | .hbm, ⟨18, _⟩ => ⟨S8208, .f32⟩
  | .hbm, ⟨19, _⟩ => ⟨S8208x1, .f32⟩
  | .hbm, ⟨20, _⟩ => ⟨S_, .f32⟩
  | .hbm, ⟨21, _⟩ => ⟨S8208x1, .f32⟩
  | .hbm, ⟨22, _⟩ => ⟨S8208x1, .f32⟩
  | .hbm, ⟨23, _⟩ => ⟨S8208x1024, .f32⟩
  | .hbm, ⟨24, _⟩ => ⟨S8208x1024, .f32⟩
  | .hbm, ⟨25, _⟩ => ⟨S8208x1024, .f32⟩
  | .hbm, ⟨26, _⟩ => ⟨S_, .f32⟩
  | .hbm, ⟨27, _⟩ => ⟨S8208, .f32⟩
  | .hbm, ⟨28, _⟩ => ⟨S8208x1, .f32⟩
  | .hbm, ⟨29, _⟩ => ⟨S_, .f32⟩
  | .hbm, ⟨30, _⟩ => ⟨S8208x1, .f32⟩
  | .hbm, ⟨31, _⟩ => ⟨S8208x1, .f32⟩
  | .hbm, ⟨32, _⟩ => ⟨S_, .f32⟩
  | .hbm, ⟨33, _⟩ => ⟨S8208x1, .f32⟩
  | .hbm, ⟨34, _⟩ => ⟨S8208x1, .f32⟩
  | .hbm, ⟨35, _⟩ => ⟨S8208x1, .f32⟩
  | .hbm, ⟨36, _⟩ => ⟨S8208x1, .f32⟩
  | .hbm, ⟨37, _⟩ => ⟨S_, .f32⟩
  | .hbm, ⟨38, _⟩ => ⟨S8208x1, .f32⟩
  | .hbm, ⟨39, _⟩ => ⟨S8208x1, .f32⟩
  | .hbm, ⟨40, _⟩ => ⟨S8208x1024, .f32⟩
  | .hbm, ⟨41, _⟩ => ⟨S8208x1024, .f32⟩
  | .hbm, ⟨42, _⟩ => ⟨S1x1024, .f32⟩
  | .hbm, ⟨43, _⟩ => ⟨S8208x1024, .f32⟩
  | .hbm, ⟨44, _⟩ => ⟨S8208x1024, .f32⟩
  | .hbm, ⟨45, _⟩ => ⟨S1x1024, .f32⟩
  | .hbm, ⟨46, _⟩ => ⟨S8208x1024, .f32⟩
  | .hbm, ⟨47, _⟩ => ⟨S8208x1024, .f32⟩
  | .hbm, ⟨48, _⟩ => ⟨S8208x2048, .f32⟩
  | .hbm, ⟨49, _⟩ => ⟨S8208x1024, .f32⟩
  | .hbm, ⟨50, _⟩ => ⟨S8208x16, .f32⟩
  | .hbm, ⟨51, _⟩ => ⟨S_, .f32⟩
  | .hbm, ⟨52, _⟩ => ⟨S8208x1024, .f32⟩
  | .hbm, ⟨53, _⟩ => ⟨S8208x1024, .f32⟩
  | .hbm, ⟨54, _⟩ => ⟨S_, .f32⟩
  | .hbm, ⟨55, _⟩ => ⟨S8208x1024, .f32⟩
  | .hbm, ⟨56, _⟩ => ⟨S8208x1024, .f32⟩
  | .hbm, ⟨57, _⟩ => ⟨S8208x1024, .f32⟩
  | .hbm, ⟨58, _⟩ => ⟨S8208x1024, .f32⟩
  | .hbm, ⟨59, _⟩ => ⟨S8208x1024, .f32⟩
  | .hbm, ⟨60, _⟩ => ⟨S8208x1024, .f32⟩
  | .hbm, ⟨61, _⟩ => ⟨S8208x1024, .f32⟩
  | .hbm, ⟨62, _⟩ => ⟨S8208x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S8208x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8208x1024, .f32⟩
  | .hbm, ⟨73, _⟩ => ⟨S8208x1024, .f32⟩
  | .hbm, ⟨74, _⟩ => ⟨S_, .f32⟩
  | .hbm, ⟨75, _⟩ => ⟨S1024, .f32⟩
  | .hbm, ⟨76, _⟩ => ⟨S8208x1024, .f32⟩
  | .hbm, ⟨77, _⟩ => ⟨S_, .f32⟩
  | .hbm, ⟨78, _⟩ => ⟨S8208, .f32⟩
  | .hbm, ⟨79, _⟩ => ⟨S8208x1, .f32⟩
  | .hbm, ⟨80, _⟩ => ⟨S8208x1024, .f32⟩
  | .hbm, ⟨81, _⟩ => ⟨S8208x1024, .f32⟩
  | .hbm, ⟨82, _⟩ => ⟨S8208x1, .f32⟩
  | .hbm, ⟨83, _⟩ => ⟨S_, .f32⟩
  | .hbm, ⟨84, _⟩ => ⟨S8208x1, .f32⟩
  | .hbm, ⟨85, _⟩ => ⟨S8208x1, .f32⟩
  | .hbm, ⟨86, _⟩ => ⟨S_, .f32⟩
  | .hbm, ⟨87, _⟩ => ⟨S8208, .f32⟩
  | .hbm, ⟨88, _⟩ => ⟨S8208x1024, .f32⟩
  | .hbm, ⟨89, _⟩ => ⟨S8208x1024, .f32⟩
  | .hbm, ⟨90, _⟩ => ⟨S8208x1024, .f32⟩
  | .hbm, ⟨91, _⟩ => ⟨S8208x1024, .f32⟩
  | .hbm, ⟨92, _⟩ => ⟨S8208x1024, .f32⟩
  | .hbm, ⟨93, _⟩ => ⟨S8208x1024, .f32⟩
  | .hbm, ⟨94, _⟩ => ⟨S_, .f32⟩
  | .hbm, ⟨95, _⟩ => ⟨S8208, .f32⟩
  | .hbm, ⟨96, _⟩ => ⟨S8208x1, .f32⟩
  | .hbm, ⟨97, _⟩ => ⟨S_, .f32⟩
  | .hbm, ⟨98, _⟩ => ⟨S8208x1, .f32⟩
  | .hbm, ⟨99, _⟩ => ⟨S8208x1, .f32⟩
  | .hbm, ⟨100, _⟩ => ⟨S_, .f32⟩
  | .hbm, ⟨101, _⟩ => ⟨S8208, .f32⟩
  | .hbm, ⟨102, _⟩ => ⟨S8208x1024, .f32⟩
  | .hbm, ⟨103, _⟩ => ⟨S8208x1024, .f32⟩
  | .hbm, ⟨104, _⟩ => ⟨S_, .i32⟩
  | .hbm, ⟨105, _⟩ => ⟨S_, .f32⟩
  | .hbm, ⟨106, _⟩ => ⟨S8320x1024, .f32⟩
  | .hbm, ⟨107, _⟩ => ⟨S8320x1024, .bf16⟩
  | .hbm, ⟨108, _⟩ => ⟨S1x1024, .f32⟩
  | .hbm, ⟨109, _⟩ => ⟨S1x1024, .f32⟩
  | _, _ => ⟨S8208x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c : Ref sig .tc := ⟨.hbm, 104, rfl⟩
abbrev main_call0_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== AttnBwd.lean ====
abbrev S8208x1024 : Shape := ⟨2, ![8208, 1024]⟩
abbrev S8208x16 : Shape := ⟨2, ![8208, 16]⟩
abbrev S8208x16x64 : Shape := ⟨3, ![8208, 16, 64]⟩
abbrev S16x8208x64 : Shape := ⟨3, ![16, 8208, 64]⟩
abbrev S16x8208 : Shape := ⟨2, ![16, 8208]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x8320 : Shape := ⟨2, ![16, 8320]⟩
abbrev S16x8320x1 : Shape := ⟨3, ![16, 8320, 1]⟩
abbrev S16x8320x3 : Shape := ⟨3, ![16, 8320, 3]⟩
abbrev S8320x1024 : Shape := ⟨2, ![8320, 1024]⟩
abbrev S8320x16x64 : Shape := ⟨3, ![8320, 16, 64]⟩
abbrev S16x8320x64 : Shape := ⟨3, ![16, 8320, 64]⟩
abbrev S16x8320x58 : Shape := ⟨3, ![16, 8320, 58]⟩
abbrev S16x8320x128 : Shape := ⟨3, ![16, 8320, 128]⟩
abbrev S16x8320x61 : Shape := ⟨3, ![16, 8320, 61]⟩
abbrev S16x1x8320 : Shape := ⟨3, ![16, 1, 8320]⟩
abbrev S16x15x8320 : Shape := ⟨3, ![16, 15, 8320]⟩
abbrev S16x16x8320 : Shape := ⟨3, ![16, 16, 8320]⟩
abbrev S1024x8208 : Shape := ⟨2, ![1024, 8208]⟩
abbrev S1024x8320 : Shape := ⟨2, ![1024, 8320]⟩
abbrev S16x64x8320 : Shape := ⟨3, ![16, 64, 8320]⟩
abbrev S16x80x8320 : Shape := ⟨3, ![16, 80, 8320]⟩
abbrev S16x80x13x640 : Shape := ⟨4, ![16, 80, 13, 640]⟩
abbrev S16x13x80x640 : Shape := ⟨4, ![16, 13, 80, 640]⟩
abbrev S16x13x64x640 : Shape := ⟨4, ![16, 13, 64, 640]⟩
abbrev S1x64x640 : Shape := ⟨3, ![1, 64, 640]⟩
abbrev S1x1x640 : Shape := ⟨3, ![1, 1, 640]⟩
abbrev S1x8320x128 : Shape := ⟨3, ![1, 8320, 128]⟩
abbrev S1x13x80x640 : Shape := ⟨4, ![1, 13, 80, 640]⟩
abbrev S1x13x64x640 : Shape := ⟨4, ![1, 13, 64, 640]⟩
abbrev S64x640 : Shape := ⟨2, ![64, 640]⟩
abbrev S640 : Shape := ⟨1, ![640]⟩
abbrev S1x640 : Shape := ⟨2, ![1, 640]⟩
abbrev S3x640 : Shape := ⟨2, ![3, 640]⟩
abbrev S10x640 : Shape := ⟨2, ![10, 640]⟩
abbrev S16x640 : Shape := ⟨2, ![16, 640]⟩
abbrev S48x640 : Shape := ⟨2, ![48, 640]⟩
abbrev S128x640 : Shape := ⟨2, ![128, 640]⟩
abbrev S13x640 : Shape := ⟨2, ![13, 640]⟩
abbrev S15x640 : Shape := ⟨2, ![15, 640]⟩
abbrev S80x640 : Shape := ⟨2, ![80, 640]⟩
abbrev S1x640x128 : Shape := ⟨3, ![1, 640, 128]⟩
abbrev S640x128 : Shape := ⟨2, ![640, 128]⟩
abbrev S640x640 : Shape := ⟨2, ![640, 640]⟩
abbrev S1x1x64x640 : Shape := ⟨4, ![1, 1, 64, 640]⟩
abbrev S1x1x80x640 : Shape := ⟨4, ![1, 1, 80, 640]⟩

abbrev nBuf : Space → Nat
  | .hbm => 129
  | .vmem => 24
  | .smem => 0
  | _ => 0

abbrev hbmTy0_0 (i : Nat) : BufTy := match i % 128 with
  | 0 => ⟨S8208x1024, .f32⟩
  | 1 => ⟨S8208x1024, .f32⟩
  | 2 => ⟨S8208x1024, .f32⟩
  | 3 => ⟨S8208x16, .f32⟩
  | 4 => ⟨S8208x1024, .f32⟩
  | 5 => ⟨S8208x16x64, .f32⟩
  | 6 => ⟨S16x8208x64, .f32⟩
  | 7 => ⟨S8208x16x64, .f32⟩
  | 8 => ⟨S16x8208x64, .f32⟩
  | 9 => ⟨S16x8208, .f32⟩
  | 10 => ⟨S16x8208, .f32⟩
  | 11 => ⟨S16x8208x8208, .f32⟩
  | 12 => ⟨S_, .f32⟩
  | 13 => ⟨S16x8208x8208, .f32⟩
  | 14 => ⟨S16x8208x8208, .f32⟩
  | 15 => ⟨S16x8208x1, .f32⟩
  | 16 => ⟨S16x8208x8208, .f32⟩
  | 17 => ⟨S16x8208x8208, .f32⟩
  | 18 => ⟨S16x1x8208, .f32⟩
  | 19 => ⟨S16x8208x8208, .f32⟩
  | 20 => ⟨S16x8208x8208, .f32⟩
  | 21 => ⟨S8208, .i32⟩
  | 22 => ⟨S1x8208, .i32⟩
  | 23 => ⟨S8208x1, .i32⟩
  | 24 => ⟨S8208x8208, .i32⟩
  | 25 => ⟨S8208x8208, .i32⟩
  | 26 => ⟨S8208x8208, .i1⟩
  | 27 => ⟨S_, .f32⟩
  | 28 => ⟨S_, .f32⟩
  | 29 => ⟨S16x8208x8208, .i1⟩
  | 30 => ⟨S16x8208x8208, .f32⟩
  | 31 => ⟨S16x8208x8208, .f32⟩
  | 32 => ⟨S_, .f32⟩
  | 33 => ⟨S16x8208, .f32⟩
  | 34 => ⟨S16x8208x1, .f32⟩
  | 35 => ⟨S16x8208x8208, .f32⟩
  | 36 => ⟨S16x8208x8208, .f32⟩
  | 37 => ⟨S16x8208x8208, .f32⟩
  | 38 => ⟨S_, .f32⟩
  | 39 => ⟨S16x8208, .f32⟩
  | 40 => ⟨S16x8208x1, .f32⟩
  | 41 => ⟨S16x8208x8208, .f32⟩
  | 42 => ⟨S16x8208x8208, .f32⟩
  | 43 => ⟨S8208x16x64, .f32⟩
  | 44 => ⟨S16x8208x64, .f32⟩
  | 45 => ⟨S16x8208x64, .f32⟩
  | 46 => ⟨S8208x16x64, .f32⟩
  | 47 => ⟨S8208x1024, .f32⟩
  | 48 => ⟨S16x8208, .f32⟩
  | 49 => ⟨S16x8208, .f32⟩
  | 50 => ⟨S_, .i32⟩
  | 51 => ⟨S_, .f32⟩
  | 52 => ⟨S16x8320, .f32⟩
  | 53 => ⟨S16x8320x1, .f32⟩
  | 54 => ⟨S_, .bf16⟩
  | 55 => ⟨S16x8320x3, .bf16⟩
  | 56 => ⟨S_, .i32⟩
  | 57 => ⟨S_, .f32⟩
  | 58 => ⟨S8320x1024, .f32⟩
  | 59 => ⟨S8320x16x64, .f32⟩
  | 60 => ⟨S16x8320x64, .f32⟩
  | 61 => ⟨S16x8320x64, .bf16⟩
  | 62 => ⟨S16x8320x1, .bf16⟩
  | 63 => ⟨S16x8320x1, .f32⟩
  | 64 => ⟨S16x8320x1, .f32⟩
  | 65 => ⟨S16x8320x1, .bf16⟩
  | 66 => ⟨S16x8320x1, .f32⟩
  | 67 => ⟨S16x8320x1, .f32⟩
  | 68 => ⟨S16x8320x1, .bf16⟩
  | 69 => ⟨S_, .bf16⟩
  | 70 => ⟨S16x8320x58, .bf16⟩
  | 71 => ⟨S16x8320x128, .bf16⟩
  | 72 => ⟨S_, .i32⟩
  | 73 => ⟨S_, .f32⟩
  | 74 => ⟨S8320x1024, .f32⟩
  | 75 => ⟨S8320x16x64, .f32⟩
  | 76 => ⟨S16x8320x64, .f32⟩
  | 77 => ⟨S16x8320x64, .bf16⟩
  | 78 => ⟨S_, .bf16⟩
  | 79 => ⟨S16x8320x61, .bf16⟩
  | 80 => ⟨S16x8320x128, .bf16⟩
  | 81 => ⟨S_, .f32⟩
  | 82 => ⟨S16x1x8320, .f32⟩
  | 83 => ⟨S_, .f32⟩
  | 84 => ⟨S16x15x8320, .f32⟩
  | 85 => ⟨S16x16x8320, .f32⟩
  | 86 => ⟨S1024x8208, .f32⟩
  | 87 => ⟨S_, .i32⟩
  | 88 => ⟨S_, .f32⟩
  | 89 => ⟨S1024x8320, .f32⟩
  | 90 => ⟨S16x64x8320, .f32⟩
  | 91 => ⟨S16x80x8320, .f32⟩
  | 92 => ⟨S16x80x13x640, .f32⟩
  | 93 => ⟨S16x13x80x640, .f32⟩
  | 94 => ⟨S16x13x80x640, .bf16⟩
  | 95 => ⟨S1024x8208, .f32⟩
  | 96 => ⟨S_, .i32⟩
  | 97 => ⟨S_, .f32⟩
  | 98 => ⟨S1024x8320, .f32⟩
  | 99 => ⟨S16x64x8320, .f32⟩
  | 100 => ⟨S16x64x8320, .bf16⟩
  | 101 => ⟨S1024x8208, .f32⟩
  | 102 => ⟨S_, .i32⟩
  | 103 => ⟨S_, .f32⟩
  | 104 => ⟨S1024x8320, .f32⟩
  | 105 => ⟨S16x64x8320, .f32⟩
  | 106 => ⟨S16x64x8320, .bf16⟩
  | 107 => ⟨S1024x8208, .f32⟩
  | 108 => ⟨S_, .i32⟩
  | 109 => ⟨S_, .f32⟩
  | 110 => ⟨S1024x8320, .f32⟩
  | 111 => ⟨S16x64x8320, .f32⟩
  | 112 => ⟨S16x64x8320, .bf16⟩
  | 113 => ⟨S16x8208x1, .f32⟩
  | 114 => ⟨S16x8208x1, .f32⟩
  | 115 => ⟨S16x8208, .f32⟩
  | 116 => ⟨S_, .i32⟩
  | 117 => ⟨S_, .f32⟩
  | 118 => ⟨S16x8320, .f32⟩
  | 119 => ⟨S16x1x8320, .f32⟩
  | 120 => ⟨S16x8208, .f32⟩
  | 121 => ⟨S_, .i32⟩
  | 122 => ⟨S_, .f32⟩
  | 123 => ⟨S16x8320, .f32⟩
  | 124 => ⟨S16x1x8320, .f32⟩
  | 125 => ⟨S16x64x8320, .bf16⟩
  | 126 => ⟨S16x1x8320, .f32⟩
  | 127 => ⟨S16x13x80x640, .f32⟩
  | _ => ⟨S8208x1024, .f32⟩

abbrev hbmTy0_1 (i : Nat) : BufTy := match i % 128 with
  | 0 => ⟨S16x13x64x640, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | .local _ .vmem, ⟨0, _⟩ => ⟨S1x64x640, .bf16⟩
  | .local _ .vmem, ⟨1, _⟩ => ⟨S1x64x640, .bf16⟩
  | .local _ .vmem, ⟨2, _⟩ => ⟨S1x64x640, .bf16⟩
  | .local _ .vmem, ⟨3, _⟩ => ⟨S1x64x640, .bf16⟩
  | .local _ .vmem, ⟨4, _⟩ => ⟨S1x64x640, .bf16⟩
  | .local _ .vmem, ⟨5, _⟩ => ⟨S1x64x640, .bf16⟩
  | .local _ .vmem, ⟨6, _⟩ => ⟨S1x1x640, .f32⟩
  | .local _ .vmem, ⟨7, _⟩ => ⟨S1x1x640, .f32⟩
  | .local _ .vmem, ⟨8, _⟩ => ⟨S1x1x640, .f32⟩
  | .local _ .vmem, ⟨9, _⟩ => ⟨S1x1x640, .f32⟩
  | .local _ .vmem, ⟨10, _⟩ => ⟨S1x8320x128, .bf16⟩
  | .local _ .vmem, ⟨11, _⟩ => ⟨S1x8320x128, .bf16⟩
  | .local _ .vmem, ⟨12, _⟩ => ⟨S1x8320x128, .bf16⟩
  | .local _ .vmem, ⟨13, _⟩ => ⟨S1x8320x128, .bf16⟩
  | .local _ .vmem, ⟨14, _⟩ => ⟨S1x13x80x640, .bf16⟩
  | .local _ .vmem, ⟨15, _⟩ => ⟨S1x13x80x640, .bf16⟩
  | .local _ .vmem, ⟨16, _⟩ => ⟨S1x64x640, .bf16⟩
  | .local _ .vmem, ⟨17, _⟩ => ⟨S1x64x640, .bf16⟩
  | .local _ .vmem, ⟨18, _⟩ => ⟨S1x1x640, .f32⟩
  | .local _ .vmem, ⟨19, _⟩ => ⟨S1x1x640, .f32⟩
  | .local _ .vmem, ⟨20, _⟩ => ⟨S1x13x80x640, .f32⟩
  | .local _ .vmem, ⟨21, _⟩ => ⟨S1x13x80x640, .f32⟩
  | .local _ .vmem, ⟨22, _⟩ => ⟨S1x13x64x640, .f32⟩
  | .local _ .vmem, ⟨23, _⟩ => ⟨S1x13x64x640, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call1_v0 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_c_4 : Ref sig .tc := ⟨.hbm, 56, rfl⟩
abbrev main_call2_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_c_6 : Ref sig .tc := ⟨.hbm, 72, rfl⟩
abbrev main_call3_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_call4_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_call5_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_12 : Ref sig .tc := ⟨.hbm, 102, rfl⟩
abbrev main_call6_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_13 : Ref sig .tc := ⟨.hbm, 108, rfl⟩
abbrev main_call7_v0 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_14 : Ref sig .tc := ⟨.hbm, 116, rfl⟩
abbrev main_call8_v0 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_15 : Ref sig .tc := ⟨.hbm, 121, rfl⟩
abbrev main_call9_v0 : Ref sig .tc := ⟨.hbm, 122, rfl⟩
abbrev main_v88 : Ref sig .tc := ⟨.hbm, 123, rfl⟩
abbrev main_v89 : Ref sig .tc := ⟨.hbm, 124, rfl⟩
abbrev main_v90_0 : Ref sig .tc := ⟨.hbm, 125, rfl⟩
abbrev main_v90_1 : Ref sig .tc := ⟨.hbm, 126, rfl⟩
abbrev main_v90_2 : Ref sig .tc := ⟨.hbm, 127, rfl⟩
abbrev main_v90_3 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 13], ![false, false]⟩

@[reducible] def k0_t1_loop (i : grid0.Coords) : Scf.Loop 32 :=
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_31 : BitVec 32 := 1#32
  ⟨c0_i32_29, v72, c1_i32_31⟩
def k0_mult1 (i : grid0.Coords) (k0_t1 : Fin (k0_t1_loop i).trips) : BitVec 32 :=
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let c0_i32_77 : BitVec 32 := 0#32
  let v154 : BitVec 32 := Scalar.addi v153 c0_i32_77
  let c640_i32_78 : BitVec 32 := 640#32
  let v155 : BitVec 32 := Scalar.muli v154 c640_i32_78
  v155
def k0_off1 (i : grid0.Coords) (k0_t1 : Fin (k0_t1_loop i).trips) (c0_i32_77 : BitVec 32) : Fin 3 → Nat :=
  let c0_79 : Index := 0#32
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let v154 : BitVec 32 := Scalar.addi v153 c0_i32_77
  let c640_i32_78 : BitVec 32 := 640#32
  let v155 : BitVec 32 := Scalar.muli v154 c640_i32_78
  let v156 : BitVec 32 := v155
  let v157 : Index := Scalar.indexCast v156
  let c0_80 : Index := 0#32
  ![0, v157.toNat, 0]
def k0_off2 (i : grid0.Coords) (k0_t1 : Fin (k0_t1_loop i).trips) (c0_i32_77 : BitVec 32) : Fin 4 → Nat :=
  let c0_85 : Index := 0#32
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let v154 : BitVec 32 := Scalar.addi v153 c0_i32_77
  let v168 : Index := Scalar.indexCast v154
  let c0_86 : Index := 0#32
  let c0_87 : Index := 0#32
  ![0, v168.toNat, 0, 0]
def k0_off3 (i : grid0.Coords) (k0_t1 : Fin (k0_t1_loop i).trips) (c0_i32_77 : BitVec 32) : Fin 4 → Nat :=
  let c0_92 : Index := 0#32
  let c4_i32_76 : BitVec 32 := 4#32
  let c0_i32_29 : BitVec 32 := 0#32
  let c1_i32_31 : BitVec 32 := 1#32
  let arg14 : BitVec 32 := Scf.iv c0_i32_29 c1_i32_31 k0_t1
  let v153 : BitVec 32 := Scalar.muli c4_i32_76 arg14
  let v154 : BitVec 32 := Scalar.addi v153 c0_i32_77
  let v178 : Index := Scalar.indexCast v154
  let c0_93 : Index := 0#32
  let c0_94 : Index := 0#32
  ![0, v178.toNat, 0, 0]
def k0_mult2 (i : grid0.Coords) (k0_t1 : Fin (k0_t1_loop i).trips) : BitVec 32 :=
  let c4_i32_103 : BitVec 32 := 4#32
  let c0_i32_29 : BitVec 32 := 0#32
  let c1_i32_31 : BitVec 32 := 1#32
  let arg14 : BitVec 32 := Scf.iv c0_i32_29 c1_i32_31 k0_t1
  let v192 : BitVec 32 := Scalar.muli c4_i32_103 arg14
  let c1_i32_104 : BitVec 32 := 1#32
  let v193 : BitVec 32 := Scalar.addi v192 c1_i32_104
  let c640_i32_105 : BitVec 32 := 640#32
  let v194 : BitVec 32 := Scalar.muli v193 c640_i32_105
  v194
def k0_mult3 (i : grid0.Coords) (k0_t1 : Fin (k0_t1_loop i).trips) : BitVec 32 :=
  let c4_i32_130 : BitVec 32 := 4#32
  let c0_i32_29 : BitVec 32 := 0#32
  let c1_i32_31 : BitVec 32 := 1#32
  let arg14 : BitVec 32 := Scf.iv c0_i32_29 c1_i32_31 k0_t1
  let v231 : BitVec 32 := Scalar.muli c4_i32_130 arg14
  let c2_i32 : BitVec 32 := 2#32
  let v232 : BitVec 32 := Scalar.addi v231 c2_i32
  let c640_i32_131 : BitVec 32 := 640#32
  let v233 : BitVec 32 := Scalar.muli v232 c640_i32_131
  v233
def k0_mult4 (i : grid0.Coords) (k0_t1 : Fin (k0_t1_loop i).trips) : BitVec 32 :=
  let c4_i32_156 : BitVec 32 := 4#32
  let c0_i32_29 : BitVec 32 := 0#32
  let c1_i32_31 : BitVec 32 := 1#32
  let arg14 : BitVec 32 := Scf.iv c0_i32_29 c1_i32_31 k0_t1
  let v270 : BitVec 32 := Scalar.muli c4_i32_156 arg14
  let c3_i32 : BitVec 32 := 3#32
  let v271 : BitVec 32 := Scalar.addi v270 c3_i32
  let c640_i32_157 : BitVec 32 := 640#32
  let v272 : BitVec 32 := Scalar.muli v271 c640_i32_157
  v272
@[reducible] def k0_t2_loop (i : grid0.Coords) : Scf.Loop 32 :=
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let v69 : BitVec 32 := Scalar.addi c0_i32_29 v68
  let c1_i32_32 : BitVec 32 := 1#32
  ⟨v72, v69, c1_i32_32⟩
def k0_mult5 (i : grid0.Coords) (k0_t2 : Fin (k0_t2_loop i).trips) : BitVec 32 :=
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let c0_i32_77 : BitVec 32 := 0#32
  let v154 : BitVec 32 := Scalar.addi v153 c0_i32_77
  let c640_i32_78 : BitVec 32 := 640#32
  let v155 : BitVec 32 := Scalar.muli v154 c640_i32_78
  v155
def k0_off4 (i : grid0.Coords) (k0_t2 : Fin (k0_t2_loop i).trips) (c0_i32_77 : BitVec 32) : Fin 3 → Nat :=
  let c0_79 : Index := 0#32
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let v154 : BitVec 32 := Scalar.addi v153 c0_i32_77
  let c640_i32_78 : BitVec 32 := 640#32
  let v155 : BitVec 32 := Scalar.muli v154 c640_i32_78
  let v156 : BitVec 32 := v155
  let v157 : Index := Scalar.indexCast v156
  let c0_80 : Index := 0#32
  ![0, v157.toNat, 0]
def k0_off5 (i : grid0.Coords) (k0_t2 : Fin (k0_t2_loop i).trips) (c0_i32_77 : BitVec 32) : Fin 4 → Nat :=
  let c0_85 : Index := 0#32
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let v154 : BitVec 32 := Scalar.addi v153 c0_i32_77
  let v168 : Index := Scalar.indexCast v154
  let c0_86 : Index := 0#32
  let c0_87 : Index := 0#32
  ![0, v168.toNat, 0, 0]
def k0_off6 (i : grid0.Coords) (k0_t2 : Fin (k0_t2_loop i).trips) (c0_i32_77 : BitVec 32) : Fin 4 → Nat :=
  let c0_92 : Index := 0#32
  let c4_i32_76 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v153 : BitVec 32 := Scalar.muli c4_i32_76 arg14
  let v154 : BitVec 32 := Scalar.addi v153 c0_i32_77
  let v178 : Index := Scalar.indexCast v154
  let c0_93 : Index := 0#32
  let c0_94 : Index := 0#32
  ![0, v178.toNat, 0, 0]
def k0_mult6 (i : grid0.Coords) (k0_t2 : Fin (k0_t2_loop i).trips) : BitVec 32 :=
  let c4_i32_103 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v192 : BitVec 32 := Scalar.muli c4_i32_103 arg14
  let c1_i32_104 : BitVec 32 := 1#32
  let v193 : BitVec 32 := Scalar.addi v192 c1_i32_104
  let c640_i32_105 : BitVec 32 := 640#32
  let v194 : BitVec 32 := Scalar.muli v193 c640_i32_105
  v194
def k0_mult7 (i : grid0.Coords) (k0_t2 : Fin (k0_t2_loop i).trips) : BitVec 32 :=
  let c4_i32_130 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v231 : BitVec 32 := Scalar.muli c4_i32_130 arg14
  let c2_i32 : BitVec 32 := 2#32
  let v232 : BitVec 32 := Scalar.addi v231 c2_i32
  let c640_i32_131 : BitVec 32 := 640#32
  let v233 : BitVec 32 := Scalar.muli v232 c640_i32_131
  v233
def k0_mult8 (i : grid0.Coords) (k0_t2 : Fin (k0_t2_loop i).trips) : BitVec 32 :=
  let c4_i32_156 : BitVec 32 := 4#32
  let c0_i32_29 : BitVec 32 := 0#32
  let arg1 : BitVec 32 := BitVec.ofNat 32 (i 1).val
  let c0_i32_24 : BitVec 32 := 0#32
  let v52 : BitVec 1 := Scalar.cmpi .sgt arg1 c0_i32_24
  let v53 : BitVec 32 := Scalar.extui v52
  let c0_i32_25 : BitVec 32 := 0#32
  let v54 : BitVec 1 := Scalar.cmpi .slt arg1 c0_i32_25
  let v55 : BitVec 32 := Scalar.extui v54
  let v56 : BitVec 32 := Scalar.subi v53 v55
  let c4_i32 : BitVec 32 := 4#32
  let c0_i32_26 : BitVec 32 := 0#32
  let v57 : BitVec 1 := Scalar.cmpi .sgt c4_i32 c0_i32_26
  let v58 : BitVec 32 := Scalar.extui v57
  let c0_i32_27 : BitVec 32 := 0#32
  let v59 : BitVec 1 := Scalar.cmpi .slt c4_i32 c0_i32_27
  let v60 : BitVec 32 := Scalar.extui v59
  let v61 : BitVec 32 := Scalar.subi v58 v60
  let v62 : BitVec 1 := Scalar.cmpi .ne v56 v61
  let v63 : BitVec 32 := Scalar.remsi arg1 c4_i32
  let c0_i32_28 : BitVec 32 := 0#32
  let v64 : BitVec 1 := Scalar.cmpi .ne v63 c0_i32_28
  let v65 : BitVec 1 := Scalar.andi v62 v64
  let v51 : BitVec 32 := Scalar.divsi arg1 c4_i32
  let c1_i32 : BitVec 32 := 1#32
  let v66 : BitVec 32 := Scalar.subi v51 c1_i32
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg14 : BitVec 32 := Scf.iv v72 c1_i32_32 k0_t2
  let v270 : BitVec 32 := Scalar.muli c4_i32_156 arg14
  let c3_i32 : BitVec 32 := 3#32
  let v271 : BitVec 32 := Scalar.addi v270 c3_i32
  let c640_i32_157 : BitVec 32 := 640#32
  let v272 : BitVec 32 := Scalar.muli v271 c640_i32_157
  v272
@[reducible] def k0_t3_loop (i : grid0.Coords) : Scf.Loop 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_42 : BitVec 32 := 1#32
  ⟨v92, v97, c1_i32_42⟩
def k0_mult9 (i : grid0.Coords) (k0_t3 : Fin (k0_t3_loop i).trips) : BitVec 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let c640_i32_76 : BitVec 32 := 640#32
  let v153 : BitVec 32 := Scalar.muli arg14 c640_i32_76
  v153
def k0_off7 (i : grid0.Coords) (k0_t3 : Fin (k0_t3_loop i).trips) : Fin 3 → Nat :=
  let c0_77 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let c640_i32_76 : BitVec 32 := 640#32
  let v153 : BitVec 32 := Scalar.muli arg14 c640_i32_76
  let v154 : BitVec 32 := v153
  let v155 : Index := Scalar.indexCast v154
  let c0_78 : Index := 0#32
  ![0, v155.toNat, 0]
def k0_off8 (i : grid0.Coords) (k0_t3 : Fin (k0_t3_loop i).trips) : Fin 4 → Nat :=
  let c0_83 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let v166 : Index := Scalar.indexCast arg14
  let c0_84 : Index := 0#32
  let c0_85 : Index := 0#32
  ![0, v166.toNat, 0, 0]
def k0_off9 (i : grid0.Coords) (k0_t3 : Fin (k0_t3_loop i).trips) : Fin 4 → Nat :=
  let c0_90 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let c1_i32_42 : BitVec 32 := 1#32
  let arg14 : BitVec 32 := Scf.iv v92 c1_i32_42 k0_t3
  let v176 : Index := Scalar.indexCast arg14
  let c0_91 : Index := 0#32
  let c0_92 : Index := 0#32
  ![0, v176.toNat, 0, 0]
@[reducible] def k0_t4_loop (i : grid0.Coords) : Scf.Loop 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let v94 : BitVec 32 := Scalar.addi v92 v93
  let c1_i32_43 : BitVec 32 := 1#32
  ⟨v97, v94, c1_i32_43⟩
def k0_mult10 (i : grid0.Coords) (k0_t4 : Fin (k0_t4_loop i).trips) : BitVec 32 :=
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let c640_i32_76 : BitVec 32 := 640#32
  let v153 : BitVec 32 := Scalar.muli arg14 c640_i32_76
  v153
def k0_off10 (i : grid0.Coords) (k0_t4 : Fin (k0_t4_loop i).trips) : Fin 3 → Nat :=
  let c0_77 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let c640_i32_76 : BitVec 32 := 640#32
  let v153 : BitVec 32 := Scalar.muli arg14 c640_i32_76
  let v154 : BitVec 32 := v153
  let v155 : Index := Scalar.indexCast v154
  let c0_78 : Index := 0#32
  ![0, v155.toNat, 0]
def k0_off11 (i : grid0.Coords) (k0_t4 : Fin (k0_t4_loop i).trips) : Fin 4 → Nat :=
  let c0_83 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let v166 : Index := Scalar.indexCast arg14
  let c0_84 : Index := 0#32
  let c0_85 : Index := 0#32
  ![0, v166.toNat, 0, 0]
def k0_off12 (i : grid0.Coords) (k0_t4 : Fin (k0_t4_loop i).trips) : Fin 4 → Nat :=
  let c0_90 : Index := 0#32
  let c4_i32_40 : BitVec 32 := 4#32
  let arg1 : BitVec 32 := BitVec.ofNat 32 (i 1).val
  let c0_i32_34 : BitVec 32 := 0#32
  let v76 : BitVec 1 := Scalar.cmpi .sgt arg1 c0_i32_34
  let v77 : BitVec 32 := Scalar.extui v76
  let c0_i32_35 : BitVec 32 := 0#32
  let v78 : BitVec 1 := Scalar.cmpi .slt arg1 c0_i32_35
  let v79 : BitVec 32 := Scalar.extui v78
  let v80 : BitVec 32 := Scalar.subi v77 v79
  let c4_i32_33 : BitVec 32 := 4#32
  let c0_i32_36 : BitVec 32 := 0#32
  let v81 : BitVec 1 := Scalar.cmpi .sgt c4_i32_33 c0_i32_36
  let v82 : BitVec 32 := Scalar.extui v81
  let c0_i32_37 : BitVec 32 := 0#32
  let v83 : BitVec 1 := Scalar.cmpi .slt c4_i32_33 c0_i32_37
  let v84 : BitVec 32 := Scalar.extui v83
  let v85 : BitVec 32 := Scalar.subi v82 v84
  let v86 : BitVec 1 := Scalar.cmpi .ne v80 v85
  let v87 : BitVec 32 := Scalar.remsi arg1 c4_i32_33
  let c0_i32_38 : BitVec 32 := 0#32
  let v88 : BitVec 1 := Scalar.cmpi .ne v87 c0_i32_38
  let v89 : BitVec 1 := Scalar.andi v86 v88
  let v75 : BitVec 32 := Scalar.divsi arg1 c4_i32_33
  let c1_i32_39 : BitVec 32 := 1#32
  let v90 : BitVec 32 := Scalar.subi v75 c1_i32_39
  let v91 : BitVec 32 := Scalar.select v89 v90 v75
  let v92 : BitVec 32 := Scalar.muli c4_i32_40 v91
  let v93 : BitVec 32 := Scalar.subi arg1 v92
  let c1_i32_41 : BitVec 32 := 1#32
  let v95 : BitVec 32 := Scalar.divsi v93 c1_i32_41
  let v96 : BitVec 32 := Scalar.muli v95 c1_i32_41
  let v97 : BitVec 32 := Scalar.addi v92 v96
  let c1_i32_43 : BitVec 32 := 1#32
  let arg14 : BitVec 32 := Scf.iv v97 c1_i32_43 k0_t4
  let v176 : Index := Scalar.indexCast arg14
  let c0_91 : Index := 0#32
  let c0_92 : Index := 0#32
  ![0, v176.toNat, 0, 0]
def k0_mult11 (i : grid0.Coords) : BitVec 32 :=
  let arg1 : BitVec 32 := BitVec.ofNat 32 (i 1).val
  let c640_i32 : BitVec 32 := 640#32
  let v100 : BitVec 32 := Scalar.muli arg1 c640_i32
  v100
def k0_off13 (i : grid0.Coords) : Fin 3 → Nat :=
  let c0_44 : Index := 0#32
  let arg1 : BitVec 32 := BitVec.ofNat 32 (i 1).val
  let c640_i32 : BitVec 32 := 640#32
  let v100 : BitVec 32 := Scalar.muli arg1 c640_i32
  let v101 : BitVec 32 := v100
  let v102 : Index := Scalar.indexCast v101
  let c0_45 : Index := 0#32
  ![0, v102.toNat, 0]
def k0_off14 (i : grid0.Coords) : Fin 4 → Nat :=
  let c0_51 : Index := 0#32
  let arg1 : BitVec 32 := BitVec.ofNat 32 (i 1).val
  let v118 : Index := Scalar.indexCast arg1
  let c0_52 : Index := 0#32
  let c0_53 : Index := 0#32
  ![0, v118.toNat, 0, 0]
def k0_off15 (i : grid0.Coords) : Fin 4 → Nat :=
  let c0_58 : Index := 0#32
  let arg1 : BitVec 32 := BitVec.ofNat 32 (i 1).val
  let v128 : Index := Scalar.indexCast arg1
  let c0_59 : Index := 0#32
  let c0_60 : Index := 0#32
  ![0, v128.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8320x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8320x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x13x80x640 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x13x80x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x13x64x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnRefIdeal.lean ====
abbrev S8208x1024 : Shape := ⟨2, ![8208, 1024]⟩
abbrev S8208x16 : Shape := ⟨2, ![8208, 16]⟩
abbrev S8208x16x64 : Shape := ⟨3, ![8208, 16, 64]⟩
abbrev S16x8208x64 : Shape := ⟨3, ![16, 8208, 64]⟩
abbrev S16x8208 : Shape := ⟨2, ![16, 8208]⟩
abbrev S16x8208x8208 : Shape := ⟨3, ![16, 8208, 8208]⟩
abbrev S_ : Shape := ⟨0, ![]⟩
abbrev S16x8208x1 : Shape := ⟨3, ![16, 8208, 1]⟩
abbrev S16x1x8208 : Shape := ⟨3, ![16, 1, 8208]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S16x64x8208 : Shape := ⟨3, ![16, 64, 8208]⟩
abbrev S1024x8208 : Shape := ⟨2, ![1024, 8208]⟩
abbrev S1024x8320 : Shape := ⟨2, ![1024, 8320]⟩
abbrev S16x64x8320 : Shape := ⟨3, ![16, 64, 8320]⟩
abbrev S16x8320 : Shape := ⟨2, ![16, 8320]⟩
abbrev S16x1x8320 : Shape := ⟨3, ![16, 1, 8320]⟩
abbrev S16x15x8320 : Shape := ⟨3, ![16, 15, 8320]⟩
abbrev S16x80x8320 : Shape := ⟨3, ![16, 80, 8320]⟩
abbrev S16x80x13x640 : Shape := ⟨4, ![16, 80, 13, 640]⟩
abbrev S16x13x80x640 : Shape := ⟨4, ![16, 13, 80, 640]⟩
abbrev S16x64x13x640 : Shape := ⟨4, ![16, 64, 13, 640]⟩
abbrev S16x13x64x640 : Shape := ⟨4, ![16, 13, 64, 640]⟩

abbrev nBuf : Space → Nat
  | .hbm => 157
  | .vmem => 0
  | .smem => 0
  | _ => 0

abbrev hbmTy0_0 (i : Nat) : BufTy := match i % 128 with
  | 0 => ⟨S8208x1024, .f32⟩
  | 1 => ⟨S8208x1024, .f32⟩
  | 2 => ⟨S8208x1024, .f32⟩
  | 3 => ⟨S8208x16, .f32⟩
  | 4 => ⟨S8208x1024, .f32⟩
  | 5 => ⟨S8208x16x64, .f32⟩
  | 6 => ⟨S16x8208x64, .f32⟩
  | 7 => ⟨S8208x16x64, .f32⟩
  | 8 => ⟨S16x8208x64, .f32⟩
  | 9 => ⟨S8208x16x64, .f32⟩
  | 10 => ⟨S16x8208x64, .f32⟩
  | 11 => ⟨S16x8208, .f32⟩
  | 12 => ⟨S16x8208, .f32⟩
  | 13 => ⟨S16x8208x8208, .f32⟩
  | 14 => ⟨S_, .f32⟩
  | 15 => ⟨S16x8208x8208, .f32⟩
  | 16 => ⟨S16x8208x8208, .f32⟩
  | 17 => ⟨S16x8208x1, .f32⟩
  | 18 => ⟨S16x8208x8208, .f32⟩
  | 19 => ⟨S16x8208x8208, .f32⟩
  | 20 => ⟨S16x1x8208, .f32⟩
  | 21 => ⟨S16x8208x8208, .f32⟩
  | 22 => ⟨S16x8208x8208, .f32⟩
  | 23 => ⟨S8208, .i32⟩
  | 24 => ⟨S1x8208, .i32⟩
  | 25 => ⟨S8208x1, .i32⟩
  | 26 => ⟨S8208x8208, .i32⟩
  | 27 => ⟨S8208x8208, .i32⟩
  | 28 => ⟨S8208x8208, .i1⟩
  | 29 => ⟨S_, .f32⟩
  | 30 => ⟨S_, .f32⟩
  | 31 => ⟨S16x8208x8208, .i1⟩
  | 32 => ⟨S16x8208x8208, .f32⟩
  | 33 => ⟨S16x8208x8208, .f32⟩
  | 34 => ⟨S_, .f32⟩
  | 35 => ⟨S16x8208x8208, .f32⟩
  | 36 => ⟨S_, .f32⟩
  | 37 => ⟨S16x8208, .f32⟩
  | 38 => ⟨S16x8208x1, .f32⟩
  | 39 => ⟨S16x8208x8208, .f32⟩
  | 40 => ⟨S16x8208x8208, .i1⟩
  | 41 => ⟨S16x8208x8208, .f32⟩
  | 42 => ⟨S_, .f32⟩
  | 43 => ⟨S16x8208, .f32⟩
  | 44 => ⟨S_, .f32⟩
  | 45 => ⟨S16x8208, .f32⟩
  | 46 => ⟨S16x8208, .f32⟩
  | 47 => ⟨S_, .f32⟩
  | 48 => ⟨S16x8208, .f32⟩
  | 49 => ⟨S16x8208, .i1⟩
  | 50 => ⟨S_, .f32⟩
  | 51 => ⟨S16x8208, .f32⟩
  | 52 => ⟨S16x8208, .i1⟩
  | 53 => ⟨S_, .f32⟩
  | 54 => ⟨S16x8208, .f32⟩
  | 55 => ⟨S_, .f32⟩
  | 56 => ⟨S16x8208, .f32⟩
  | 57 => ⟨S_, .f32⟩
  | 58 => ⟨S16x8208, .f32⟩
  | 59 => ⟨S16x8208, .f32⟩
  | 60 => ⟨S16x8208, .f32⟩
  | 61 => ⟨S16x8208x1, .f32⟩
  | 62 => ⟨S16x8208x8208, .f32⟩
  | 63 => ⟨S16x8208x8208, .f32⟩
  | 64 => ⟨S16x8208x8208, .f32⟩
  | 65 => ⟨S_, .f32⟩
  | 66 => ⟨S16x8208, .f32⟩
  | 67 => ⟨S16x8208x1, .f32⟩
  | 68 => ⟨S16x8208x8208, .f32⟩
  | 69 => ⟨S16x8208x8208, .f32⟩
  | 70 => ⟨S16x8208x1, .f32⟩
  | 71 => ⟨S_, .f32⟩
  | 72 => ⟨S16x8208x1, .f32⟩
  | 73 => ⟨S16x8208x1, .f32⟩
  | 74 => ⟨S16x8208x64, .f32⟩
  | 75 => ⟨S8208x16x64, .f32⟩
  | 76 => ⟨S8208x1024, .f32⟩
  | 77 => ⟨S8208x16x64, .f32⟩
  | 78 => ⟨S16x8208x64, .f32⟩
  | 79 => ⟨S16x64x8208, .f32⟩
  | 80 => ⟨S16x8208x64, .f32⟩
  | 81 => ⟨S16x8208x8208, .f32⟩
  | 82 => ⟨S16x8208x8208, .f32⟩
  | 83 => ⟨S16x8208x8208, .f32⟩
  | 84 => ⟨S16x8208x8208, .f32⟩
  | 85 => ⟨S_, .f32⟩
  | 86 => ⟨S16x8208, .f32⟩
  | 87 => ⟨S16x8208x1, .f32⟩
  | 88 => ⟨S16x8208x1, .f32⟩
  | 89 => ⟨S16x8208x8208, .f32⟩
  | 90 => ⟨S16x8208x8208, .f32⟩
  | 91 => ⟨S_, .f32⟩
  | 92 => ⟨S16x8208, .f32⟩
  | 93 => ⟨S16x8208x8208, .f32⟩
  | 94 => ⟨S16x8208x8208, .f32⟩
  | 95 => ⟨S16x8208x8208, .f32⟩
  | 96 => ⟨S_, .f32⟩
  | 97 => ⟨S16x8208x8208, .f32⟩
  | 98 => ⟨S16x8208x8208, .f32⟩
  | 99 => ⟨S16x8208x8208, .f32⟩
  | 100 => ⟨S_, .f32⟩
  | 101 => ⟨S16x8208, .f32⟩
  | 102 => ⟨S16x1x8208, .f32⟩
  | 103 => ⟨S_, .f32⟩
  | 104 => ⟨S16x8208, .f32⟩
  | 105 => ⟨S_, .f32⟩
  | 106 => ⟨S16x8208, .f32⟩
  | 107 => ⟨S16x8208x1, .f32⟩
  | 108 => ⟨S_, .f32⟩
  | 109 => ⟨S16x8208, .f32⟩
  | 110 => ⟨S_, .f32⟩
  | 111 => ⟨S16x8208x8208, .f32⟩
  | 112 => ⟨S16x8208x8208, .f32⟩
  | 113 => ⟨S16x8208x64, .f32⟩
  | 114 => ⟨S16x8208x64, .f32⟩
  | 115 => ⟨S8208x16, .f32⟩
  | 116 => ⟨S8208x16, .f32⟩
  | 117 => ⟨S8208x16x64, .f32⟩
  | 118 => ⟨S8208x1024, .f32⟩
  | 119 => ⟨S8208x16x64, .f32⟩
  | 120 => ⟨S8208x1024, .f32⟩
  | 121 => ⟨S8208x16x64, .f32⟩
  | 122 => ⟨S8208x1024, .f32⟩
  | 123 => ⟨S1024x8208, .f32⟩
  | 124 => ⟨S_, .i32⟩
  | 125 => ⟨S_, .f32⟩
  | 126 => ⟨S1024x8320, .f32⟩
  | 127 => ⟨S16x64x8320, .f32⟩
  | _ => ⟨S8208x1024, .f32⟩

abbrev hbmTy0_1 (i : Nat) : BufTy := match i % 128 with
  | 0 => ⟨S8208x16, .f32⟩
  | 1 => ⟨S16x8208, .f32⟩
  | 2 => ⟨S_, .i32⟩
  | 3 => ⟨S_, .f32⟩
  | 4 => ⟨S16x8320, .f32⟩
  | 5 => ⟨S16x1x8320, .f32⟩
  | 6 => ⟨S_, .f32⟩
  | 7 => ⟨S16x15x8320, .f32⟩
  | 8 => ⟨S16x80x8320, .f32⟩
  | 9 => ⟨S1024x8208, .f32⟩
  | 10 => ⟨S_, .i32⟩
  | 11 => ⟨S_, .f32⟩
  | 12 => ⟨S1024x8320, .f32⟩
  | 13 => ⟨S16x64x8320, .f32⟩
  | 14 => ⟨S16x64x8320, .bf16⟩
  | 15 => ⟨S16x8208, .f32⟩
  | 16 => ⟨S_, .i32⟩
  | 17 => ⟨S_, .f32⟩
  | 18 => ⟨S16x8320, .f32⟩
  | 19 => ⟨S16x1x8320, .f32⟩
  | 20 => ⟨S16x80x13x640, .f32⟩
  | 21 => ⟨S16x13x80x640, .f32⟩
  | 22 => ⟨S1024x8208, .f32⟩
  | 23 => ⟨S_, .i32⟩
  | 24 => ⟨S_, .f32⟩
  | 25 => ⟨S1024x8320, .f32⟩
  | 26 => ⟨S16x64x8320, .f32⟩
  | 27 => ⟨S16x64x13x640, .f32⟩
  | 28 => ⟨S16x13x64x640, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_call2_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_call3_v0 : Ref sig .tc := ⟨.hbm, 131, rfl⟩
abbrev main_v97 : Ref sig .tc := ⟨.hbm, 132, rfl⟩
abbrev main_v98 : Ref sig .tc := ⟨.hbm, 133, rfl⟩
abbrev main_cst_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_20 : Ref sig .tc := ⟨.hbm, 138, rfl⟩
abbrev main_call4_v0 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_21 : Ref sig .tc := ⟨.hbm, 144, rfl⟩
abbrev main_call5_v0 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_22 : Ref sig .tc := ⟨.hbm, 151, rfl⟩
abbrev main_call6_v0 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]
-- ==== PoolBwd.lean ====
abbrev S8208x1024 : Shape := ⟨2, ![8208, 1024]⟩
abbrev S4x256x256 : Shape := ⟨3, ![4, 256, 256]⟩
abbrev S1024 : Shape := ⟨1, ![1024]⟩
abbrev S_ : Shape := ⟨0, ![]⟩
abbrev S1x1024 : Shape := ⟨2, ![1, 1024]⟩
abbrev S8209x1024 : Shape := ⟨2, ![8209, 1024]⟩
abbrev S8208 : Shape := ⟨1, ![8208]⟩
abbrev S8208x256 : Shape := ⟨2, ![8208, 256]⟩
abbrev S1x256 : Shape := ⟨2, ![1, 256]⟩
abbrev S8207x256 : Shape := ⟨2, ![8207, 256]⟩
abbrev S8208x1 : Shape := ⟨2, ![8208, 1]⟩
abbrev S3x256 : Shape := ⟨2, ![3, 256]⟩
abbrev S8205x256 : Shape := ⟨2, ![8205, 256]⟩
abbrev S7x256 : Shape := ⟨2, ![7, 256]⟩
abbrev S8201x256 : Shape := ⟨2, ![8201, 256]⟩
abbrev S15x256 : Shape := ⟨2, ![15, 256]⟩
abbrev S8193x256 : Shape := ⟨2, ![8193, 256]⟩
abbrev S8320x1024 : Shape := ⟨2, ![8320, 1024]⟩
abbrev S640x1024 : Shape := ⟨2, ![640, 1024]⟩
abbrev S16x1024 : Shape := ⟨2, ![16, 1024]⟩
abbrev S656x1024 : Shape := ⟨2, ![656, 1024]⟩
abbrev S656x1 : Shape := ⟨2, ![656, 1]⟩
abbrev S656x256 : Shape := ⟨2, ![656, 256]⟩
abbrev S1x256x256 : Shape := ⟨3, ![1, 256, 256]⟩
abbrev S256x256 : Shape := ⟨2, ![256, 256]⟩
abbrev S640x256 : Shape := ⟨2, ![640, 256]⟩
abbrev S256 : Shape := ⟨1, ![256]⟩

abbrev nBuf : Space → Nat
  | .hbm => 76
  | .vmem => 14
  | .smem => 0
  | _ => 0

abbrev bufTy : (tb : Table) → Fin (tcTables nBuf tb) → BufTy
  | .hbm, ⟨0, _⟩ => ⟨S8208x1024, .f32⟩
  | .hbm, ⟨1, _⟩ => ⟨S4x256x256, .f32⟩
  | .hbm, ⟨2, _⟩ => ⟨S1024, .f32⟩
  | .hbm, ⟨3, _⟩ => ⟨S8208x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S_, .f32⟩
  | .hbm, ⟨8, _⟩ => ⟨S8208x1024, .f32⟩
  | .hbm, ⟨9, _⟩ => ⟨S8209x1024, .f32⟩
  | .hbm, ⟨10, _⟩ => ⟨S8208, .f32⟩
  | .hbm, ⟨11, _⟩ => ⟨S_, .f32⟩
  | .hbm, ⟨12, _⟩ => ⟨S8208, .f32⟩
  | .hbm, ⟨13, _⟩ => ⟨S8208, .f32⟩
  | .hbm, ⟨14, _⟩ => ⟨S8208x256, .f32⟩
  | .hbm, ⟨15, _⟩ => ⟨S_, .f32⟩
  | .hbm, ⟨16, _⟩ => ⟨S1x256, .f32⟩
  | .hbm, ⟨17, _⟩ => ⟨S8207x256, .f32⟩
  | .hbm, ⟨18, _⟩ => ⟨S8208x256, .f32⟩
  | .hbm, ⟨19, _⟩ => ⟨S_, .f32⟩
  | .hbm, ⟨20, _⟩ => ⟨S8208, .f32⟩
  | .hbm, ⟨21, _⟩ => ⟨S8208, .f32⟩
  | .hbm, ⟨22, _⟩ => ⟨S8208x1, .f32⟩
  | .hbm, ⟨23, _⟩ => ⟨S8208x256, .f32⟩
  | .hbm, ⟨24, _⟩ => ⟨S8208x256, .f32⟩
  | .hbm, ⟨25, _⟩ => ⟨S8208x256, .f32⟩
  | .hbm, ⟨26, _⟩ => ⟨S8208x256, .f32⟩
  | .hbm, ⟨27, _⟩ => ⟨S_, .f32⟩
  | .hbm, ⟨28, _⟩ => ⟨S3x256, .f32⟩
  | .hbm, ⟨29, _⟩ => ⟨S8205x256, .f32⟩
  | .hbm, ⟨30, _⟩ => ⟨S8208x256, .f32⟩
  | .hbm, ⟨31, _⟩ => ⟨S_, .f32⟩
  | .hbm, ⟨32, _⟩ => ⟨S8208, .f32⟩
  | .hbm, ⟨33, _⟩ => ⟨S8208, .f32⟩
  | .hbm, ⟨34, _⟩ => ⟨S8208x1, .f32⟩
  | .hbm, ⟨35, _⟩ => ⟨S8208x256, .f32⟩
  | .hbm, ⟨36, _⟩ => ⟨S8208x256, .f32⟩
  | .hbm, ⟨37, _⟩ => ⟨S8208x256, .f32⟩
  | .hbm, ⟨38, _⟩ => ⟨S8208x256, .f32⟩
  | .hbm, ⟨39, _⟩ => ⟨S_, .f32⟩
  | .hbm, ⟨40, _⟩ => ⟨S7x256, .f32⟩
  | .hbm, ⟨41, _⟩ => ⟨S8201x256, .f32⟩
  | .hbm, ⟨42, _⟩ => ⟨S8208x256, .f32⟩
  | .hbm, ⟨43, _⟩ => ⟨S_, .f32⟩
  | .hbm, ⟨44, _⟩ => ⟨S8208, .f32⟩
  | .hbm, ⟨45, _⟩ => ⟨S8208, .f32⟩
  | .hbm, ⟨46, _⟩ => ⟨S8208x1, .f32⟩
  | .hbm, ⟨47, _⟩ => ⟨S8208x256, .f32⟩
  | .hbm, ⟨48, _⟩ => ⟨S8208x256, .f32⟩
  | .hbm, ⟨49, _⟩ => ⟨S8208x256, .f32⟩
  | .hbm, ⟨50, _⟩ => ⟨S8208x256, .f32⟩
  | .hbm, ⟨51, _⟩ => ⟨S_, .f32⟩
  | .hbm, ⟨52, _⟩ => ⟨S15x256, .f32⟩
  | .hbm, ⟨53, _⟩ => ⟨S8193x256, .f32⟩
  | .hbm, ⟨54, _⟩ => ⟨S8208x256, .f32⟩
  | .hbm, ⟨55, _⟩ => ⟨S_, .f32⟩
  | .hbm, ⟨56, _⟩ => ⟨S8208, .f32⟩
  | .hbm, ⟨57, _⟩ => ⟨S8208, .f32⟩
  | .hbm, ⟨58, _⟩ => ⟨S8208x1, .f32⟩
  | .hbm, ⟨59, _⟩ => ⟨S8208x256, .f32⟩
  | .hbm, ⟨60, _⟩ => ⟨S8208x256, .f32⟩
  | .hbm, ⟨61, _⟩ => ⟨S8208x256, .f32⟩
  | .hbm, ⟨62, _⟩ => ⟨S8208x1024, .f32⟩
  | .hbm, ⟨63, _⟩ => ⟨S8208x1024, .f32⟩
  | .hbm, ⟨64, _⟩ => ⟨S_, .i32⟩
  | .hbm, ⟨65, _⟩ => ⟨S_, .f32⟩
  | .hbm, ⟨66, _⟩ => ⟨S8320x1024, .f32⟩
  | .hbm, ⟨67, _⟩ => ⟨S8320x1024, .bf16⟩
  | .hbm, ⟨68, _⟩ => ⟨S_, .i32⟩
  | .hbm, ⟨69, _⟩ => ⟨S_, .f32⟩
  | .hbm, ⟨70, _⟩ => ⟨S8320x1024, .f32⟩
  | .hbm, ⟨71, _⟩ => ⟨S4x256x256, .bf16⟩
  | .hbm, ⟨72, _⟩ => ⟨S1x1024, .f32⟩
  | .hbm, ⟨73, _⟩ => ⟨S8320x1024, .f32⟩
  | .hbm, ⟨74, _⟩ => ⟨S4x256x256, .f32⟩
  | .hbm, ⟨75, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S16x1024, .f32⟩
  | .local _ .vmem, ⟨3, _⟩ => ⟨S16x1024, .f32⟩
  | .local _ .vmem, ⟨4, _⟩ => ⟨S640x1024, .bf16⟩
  | .local _ .vmem, ⟨5, _⟩ => ⟨S640x1024, .bf16⟩
  | .local _ .vmem, ⟨6, _⟩ => ⟨S4x256x256, .bf16⟩
  | .local _ .vmem, ⟨7, _⟩ => ⟨S1x1024, .f32⟩
  | .local _ .vmem, ⟨8, _⟩ => ⟨S640x1024, .f32⟩
  | .local _ .vmem, ⟨9, _⟩ => ⟨S640x1024, .f32⟩
  | .local _ .vmem, ⟨10, _⟩ => ⟨S4x256x256, .f32⟩
  | .local _ .vmem, ⟨11, _⟩ => ⟨S1x1024, .f32⟩
  | .local _ .vmem, ⟨12, _⟩ => ⟨S656x1024, .f32⟩
  | .local _ .vmem, ⟨13, _⟩ => ⟨S656x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_call1_v0 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_call2_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53_0 : Ref sig .tc := ⟨.hbm, 73, rfl⟩
abbrev main_v53_1 : Ref sig .tc := ⟨.hbm, 74, rfl⟩
abbrev main_v53_2 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c519_i32 : BitVec 32 := 519#32
  let v2 : BitVec 32 := Scalar.minsi v1 c519_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolRefIdeal.lean ====
abbrev S8208x1024 : Shape := ⟨2, ![8208, 1024]⟩
abbrev S4x256x256 : Shape := ⟨3, ![4, 256, 256]⟩
abbrev S1024 : Shape := ⟨1, ![1024]⟩
abbrev S_ : Shape := ⟨0, ![]⟩
abbrev S1x1024 : Shape := ⟨2, ![1, 1024]⟩
abbrev S8209x1024 : Shape := ⟨2, ![8209, 1024]⟩
abbrev S8208 : Shape := ⟨1, ![8208]⟩
abbrev S8208x256 : Shape := ⟨2, ![8208, 256]⟩
abbrev S1x256 : Shape := ⟨2, ![1, 256]⟩
abbrev S8207x256 : Shape := ⟨2, ![8207, 256]⟩
abbrev S8208x1 : Shape := ⟨2, ![8208, 1]⟩
abbrev S3x256 : Shape := ⟨2, ![3, 256]⟩
abbrev S8205x256 : Shape := ⟨2, ![8205, 256]⟩
abbrev S7x256 : Shape := ⟨2, ![7, 256]⟩
abbrev S8201x256 : Shape := ⟨2, ![8201, 256]⟩
abbrev S15x256 : Shape := ⟨2, ![15, 256]⟩
abbrev S8193x256 : Shape := ⟨2, ![8193, 256]⟩
abbrev S8208x4x256 : Shape := ⟨3, ![8208, 4, 256]⟩
abbrev S4x256x8208 : Shape := ⟨3, ![4, 256, 8208]⟩
abbrev S4x8208x256 : Shape := ⟨3, ![4, 8208, 256]⟩
abbrev S8320x1024 : Shape := ⟨2, ![8320, 1024]⟩

abbrev nBuf : Space → Nat
  | .hbm => 164
  | .vmem => 0
  | .smem => 0
  | _ => 0

abbrev hbmTy0_0 (i : Nat) : BufTy := match i % 128 with
  | 0 => ⟨S8208x1024, .f32⟩
  | 1 => ⟨S4x256x256, .f32⟩
  | 2 => ⟨S1024, .f32⟩
  | 3 => ⟨S8208x1024, .f32⟩
  | 4 => ⟨S_, .f32⟩
  | 5 => ⟨S1x1024, .f32⟩
  | 6 => ⟨S_, .f32⟩
  | 7 => ⟨S_, .f32⟩
  | 8 => ⟨S8208x1024, .f32⟩
  | 9 => ⟨S8209x1024, .f32⟩
  | 10 => ⟨S_, .f32⟩
  | 11 => ⟨S1x1024, .f32⟩
  | 12 => ⟨S8208, .f32⟩
  | 13 => ⟨S_, .f32⟩
  | 14 => ⟨S8208, .f32⟩
  | 15 => ⟨S8208, .f32⟩
  | 16 => ⟨S8208x256, .f32⟩
  | 17 => ⟨S_, .f32⟩
  | 18 => ⟨S1x256, .f32⟩
  | 19 => ⟨S8207x256, .f32⟩
  | 20 => ⟨S8208x256, .f32⟩
  | 21 => ⟨S_, .f32⟩
  | 22 => ⟨S1x256, .f32⟩
  | 23 => ⟨S_, .f32⟩
  | 24 => ⟨S8208, .f32⟩
  | 25 => ⟨S8208, .f32⟩
  | 26 => ⟨S8208x1, .f32⟩
  | 27 => ⟨S8208x256, .f32⟩
  | 28 => ⟨S8208x256, .f32⟩
  | 29 => ⟨S8208x256, .f32⟩
  | 30 => ⟨S8208x256, .f32⟩
  | 31 => ⟨S_, .f32⟩
  | 32 => ⟨S3x256, .f32⟩
  | 33 => ⟨S8205x256, .f32⟩
  | 34 => ⟨S8208x256, .f32⟩
  | 35 => ⟨S_, .f32⟩
  | 36 => ⟨S3x256, .f32⟩
  | 37 => ⟨S_, .f32⟩
  | 38 => ⟨S8208, .f32⟩
  | 39 => ⟨S8208, .f32⟩
  | 40 => ⟨S8208x1, .f32⟩
  | 41 => ⟨S8208x256, .f32⟩
  | 42 => ⟨S8208x256, .f32⟩
  | 43 => ⟨S8208x256, .f32⟩
  | 44 => ⟨S8208x256, .f32⟩
  | 45 => ⟨S_, .f32⟩
  | 46 => ⟨S7x256, .f32⟩
  | 47 => ⟨S8201x256, .f32⟩
  | 48 => ⟨S8208x256, .f32⟩
  | 49 => ⟨S_, .f32⟩
  | 50 => ⟨S7x256, .f32⟩
  | 51 => ⟨S_, .f32⟩
  | 52 => ⟨S8208, .f32⟩
  | 53 => ⟨S8208, .f32⟩
  | 54 => ⟨S8208x1, .f32⟩
  | 55 => ⟨S8208x256, .f32⟩
  | 56 => ⟨S8208x256, .f32⟩
  | 57 => ⟨S8208x256, .f32⟩
  | 58 => ⟨S8208x256, .f32⟩
  | 59 => ⟨S_, .f32⟩
  | 60 => ⟨S15x256, .f32⟩
  | 61 => ⟨S8193x256, .f32⟩
  | 62 => ⟨S8208x256, .f32⟩
  | 63 => ⟨S_, .f32⟩
  | 64 => ⟨S15x256, .f32⟩
  | 65 => ⟨S_, .f32⟩
  | 66 => ⟨S8208, .f32⟩
  | 67 => ⟨S8208, .f32⟩
  | 68 => ⟨S8208x1, .f32⟩
  | 69 => ⟨S8208x256, .f32⟩
  | 70 => ⟨S8208x256, .f32⟩
  | 71 => ⟨S8208x256, .f32⟩
  | 72 => ⟨S8208x1024, .f32⟩
  | 73 => ⟨S8208x1024, .f32⟩
  | 74 => ⟨S8208x4x256, .f32⟩
  | 75 => ⟨S4x256x8208, .f32⟩
  | 76 => ⟨S8208x4x256, .f32⟩
  | 77 => ⟨S8208x1024, .f32⟩
  | 78 => ⟨S_, .f32⟩
  | 79 => ⟨S8208x1024, .f32⟩
  | 80 => ⟨S8208x1024, .f32⟩
  | 81 => ⟨S1x1024, .f32⟩
  | 82 => ⟨S8208x1024, .f32⟩
  | 83 => ⟨S8208x1024, .f32⟩
  | 84 => ⟨S8208x1024, .f32⟩
  | 85 => ⟨S8208x1024, .f32⟩
  | 86 => ⟨S8208x1024, .f32⟩
  | 87 => ⟨S8208x1024, .f32⟩
  | 88 => ⟨S_, .f32⟩
  | 89 => ⟨S1024, .f32⟩
  | 90 => ⟨S1x1024, .f32⟩
  | 91 => ⟨S8208x1024, .f32⟩
  | 92 => ⟨S8208x1024, .f32⟩
  | 93 => ⟨S_, .f32⟩
  | 94 => ⟨S1024, .f32⟩
  | 95 => ⟨S_, .f32⟩
  | 96 => ⟨S8208x1024, .f32⟩
  | 97 => ⟨S8208x1024, .f32⟩
  | 98 => ⟨S8208x4x256, .f32⟩
  | 99 => ⟨S4x256x8208, .f32⟩
  | 100 => ⟨S4x8208x256, .f32⟩
  | 101 => ⟨S8208x4x256, .f32⟩
  | 102 => ⟨S4x256x256, .f32⟩
  | 103 => ⟨S4x256x256, .f32⟩
  | 104 => ⟨S8208x1024, .f32⟩
  | 105 => ⟨S8208x1024, .f32⟩
  | 106 => ⟨S8208x1024, .f32⟩
  | 107 => ⟨S8208x256, .f32⟩
  | 108 => ⟨S8208x256, .f32⟩
  | 109 => ⟨S8208x256, .f32⟩
  | 110 => ⟨S8208x256, .f32⟩
  | 111 => ⟨S8208x256, .f32⟩
  | 112 => ⟨S8208x256, .f32⟩
  | 113 => ⟨S8208x256, .f32⟩
  | 114 => ⟨S15x256, .f32⟩
  | 115 => ⟨S8193x256, .f32⟩
  | 116 => ⟨S_, .f32⟩
  | 117 => ⟨S8209x1024, .f32⟩
  | 118 => ⟨S_, .f32⟩
  | 119 => ⟨S8209x1024, .f32⟩
  | 120 => ⟨S8209x1024, .f32⟩
  | 121 => ⟨S8208x256, .f32⟩
  | 122 => ⟨S8208x256, .f32⟩
  | 123 => ⟨S8208x256, .f32⟩
  | 124 => ⟨S7x256, .f32⟩
  | 125 => ⟨S8201x256, .f32⟩
  | 126 => ⟨S_, .f32⟩
  | 127 => ⟨S8209x1024, .f32⟩
  | _ => ⟨S8208x1024, .f32⟩

abbrev hbmTy0_1 (i : Nat) : BufTy := match i % 128 with
  | 0 => ⟨S8209x1024, .f32⟩
  | 1 => ⟨S_, .f32⟩
  | 2 => ⟨S8209x1024, .f32⟩
  | 3 => ⟨S8209x1024, .f32⟩
  | 4 => ⟨S8208x256, .f32⟩
  | 5 => ⟨S8208x256, .f32⟩
  | 6 => ⟨S8208x256, .f32⟩
  | 7 => ⟨S3x256, .f32⟩
  | 8 => ⟨S8205x256, .f32⟩
  | 9 => ⟨S_, .f32⟩
  | 10 => ⟨S8209x1024, .f32⟩
  | 11 => ⟨S8209x1024, .f32⟩
  | 12 => ⟨S_, .f32⟩
  | 13 => ⟨S8209x1024, .f32⟩
  | 14 => ⟨S8209x1024, .f32⟩
  | 15 => ⟨S8208x256, .f32⟩
  | 16 => ⟨S8208x256, .f32⟩
  | 17 => ⟨S8208x256, .f32⟩
  | 18 => ⟨S1x256, .f32⟩
  | 19 => ⟨S8207x256, .f32⟩
  | 20 => ⟨S_, .f32⟩
  | 21 => ⟨S8209x1024, .f32⟩
  | 22 => ⟨S8209x1024, .f32⟩
  | 23 => ⟨S_, .f32⟩
  | 24 => ⟨S8209x1024, .f32⟩
  | 25 => ⟨S8209x1024, .f32⟩
  | 26 => ⟨S1x1024, .f32⟩
  | 27 => ⟨S8208x1024, .f32⟩
  | 28 => ⟨S_, .f32⟩
  | 29 => ⟨S_, .f32⟩
  | 30 => ⟨S8208x1024, .f32⟩
  | 31 => ⟨S8208x1024, .f32⟩
  | 32 => ⟨S_, .i32⟩
  | 33 => ⟨S_, .f32⟩
  | 34 => ⟨S8320x1024, .f32⟩
  | 35 => ⟨S1x1024, .f32⟩
  | _ => ⟨S8208x1024, .f32⟩

abbrev hbmTy (i : Nat) : BufTy := match i / 128 with
  | 0 => hbmTy0_0 i
  | 1 => hbmTy0_1 i
  | _ => ⟨S8208x1024, .f32⟩

abbrev bufTy : (tb : Table) → Fin (tcTables nBuf tb) → BufTy
  | .hbm, ⟨i, _⟩ => hbmTy i
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_cst_17 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_20 : Ref sig .tc := ⟨.hbm, 126, rfl⟩
abbrev main_v99 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_22 : Ref sig .tc := ⟨.hbm, 137, rfl⟩
abbrev main_v108 : Ref sig .tc := ⟨.hbm, 138, rfl⟩
abbrev main_v109 : Ref sig .tc := ⟨.hbm, 139, rfl⟩
abbrev main_cst_23 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_24 : Ref sig .tc := ⟨.hbm, 148, rfl⟩
abbrev main_v117 : Ref sig .tc := ⟨.hbm, 149, rfl⟩
abbrev main_v118 : Ref sig .tc := ⟨.hbm, 150, rfl⟩
abbrev main_cst_25 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_call1_call0_cst : Ref sig .tc := ⟨.hbm, 156, rfl⟩
abbrev main_call1_call0_v0 : Ref sig .tc := ⟨.hbm, 157, rfl⟩
abbrev main_v123 : Ref sig .tc := ⟨.hbm, 158, rfl⟩
abbrev main_v124 : Ref sig .tc := ⟨.hbm, 159, rfl⟩
abbrev main_c : Ref sig .tc := ⟨.hbm, 160, rfl⟩
abbrev main_call2_v0 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]
-- ==== ConvBwd.lean ====
abbrev S8208x5632 : Shape := ⟨2, ![8208, 5632]⟩
abbrev S3x5632 : Shape := ⟨2, ![3, 5632]⟩
abbrev S5632 : Shape := ⟨1, ![5632]⟩
abbrev S8208x2816 : Shape := ⟨2, ![8208, 2816]⟩
abbrev S_ : Shape := ⟨0, ![]⟩
abbrev S2x5632 : Shape := ⟨2, ![2, 5632]⟩
abbrev S8210x5632 : Shape := ⟨2, ![8210, 5632]⟩
abbrev S1x5632 : Shape := ⟨2, ![1, 5632]⟩
abbrev S8208x2x11x256 : Shape := ⟨4, ![8208, 2, 11, 256]⟩
abbrev S8208x11x2x256 : Shape := ⟨4, ![8208, 11, 2, 256]⟩
abbrev S8320x5632 : Shape := ⟨2, ![8320, 5632]⟩
abbrev S8320x2816 : Shape := ⟨2, ![8320, 2816]⟩
abbrev S3x2x11x256 : Shape := ⟨4, ![3, 2, 11, 256]⟩
abbrev S3x11x2x256 : Shape := ⟨4, ![3, 11, 2, 256]⟩
abbrev S1664x512 : Shape := ⟨2, ![1664, 512]⟩
abbrev S1664x256 : Shape := ⟨2, ![1664, 256]⟩
abbrev S3x512 : Shape := ⟨2, ![3, 512]⟩
abbrev S1x512 : Shape := ⟨2, ![1, 512]⟩
abbrev S1680x512 : Shape := ⟨2, ![1680, 512]⟩
abbrev S16x512 : Shape := ⟨2, ![16, 512]⟩
abbrev S8x512 : Shape := ⟨2, ![8, 512]⟩
abbrev S32x512 : Shape := ⟨2, ![32, 512]⟩
abbrev S32x256 : Shape := ⟨2, ![32, 256]⟩
abbrev S512 : Shape := ⟨1, ![512]⟩

abbrev nBuf : Space → Nat
  | .hbm => 57
  | .vmem => 16
  | .smem => 0
  | _ => 0

abbrev bufTy : (tb : Table) → Fin (tcTables nBuf tb) → BufTy
  | .hbm, ⟨0, _⟩ => ⟨S8208x5632, .f32⟩
  | .hbm, ⟨1, _⟩ => ⟨S3x5632, .f32⟩
  | .hbm, ⟨2, _⟩ => ⟨S5632, .f32⟩
  | .hbm, ⟨3, _⟩ => ⟨S8208x2816, .f32⟩
  | .hbm, ⟨4, _⟩ => ⟨S_, .f32⟩
  | .hbm, ⟨5, _⟩ => ⟨S2x5632, .f32⟩
  | .hbm, ⟨6, _⟩ => ⟨S8210x5632, .f32⟩
  | .hbm, ⟨7, _⟩ => ⟨S1x5632, .f32⟩
  | .hbm, ⟨8, _⟩ => ⟨S5632, .f32⟩
  | .hbm, ⟨9, _⟩ => ⟨S8208x5632, .f32⟩
  | .hbm, ⟨10, _⟩ => ⟨S1x5632, .f32⟩
  | .hbm, ⟨11, _⟩ => ⟨S8208x5632, .f32⟩
  | .hbm, ⟨12, _⟩ => ⟨S8208x5632, .f32⟩
  | .hbm, ⟨13, _⟩ => ⟨S_, .f32⟩
  | .hbm, ⟨14, _⟩ => ⟨S8208x5632, .f32⟩
  | .hbm, ⟨15, _⟩ => ⟨S8208x5632, .f32⟩
  | .hbm, ⟨16, _⟩ => ⟨S1x5632, .f32⟩
  | .hbm, ⟨17, _⟩ => ⟨S5632, .f32⟩
  | .hbm, ⟨18, _⟩ => ⟨S8208x5632, .f32⟩
  | .hbm, ⟨19, _⟩ => ⟨S1x5632, .f32⟩
  | .hbm, ⟨20, _⟩ => ⟨S8208x5632, .f32⟩
  | .hbm, ⟨21, _⟩ => ⟨S8208x5632, .f32⟩
  | .hbm, ⟨22, _⟩ => ⟨S8208x5632, .f32⟩
  | .hbm, ⟨23, _⟩ => ⟨S1x5632, .f32⟩
  | .hbm, ⟨24, _⟩ => ⟨S5632, .f32⟩
  | .hbm, ⟨25, _⟩ => ⟨S8208x5632, .f32⟩
  | .hbm, ⟨26, _⟩ => ⟨S1x5632, .f32⟩
  | .hbm, ⟨27, _⟩ => ⟨S8208x5632, .f32⟩
  | .hbm, ⟨28, _⟩ => ⟨S8208x5632, .f32⟩
  | .hbm, ⟨29, _⟩ => ⟨S8208x5632, .f32⟩
  | .hbm, ⟨30, _⟩ => ⟨S1x5632, .f32⟩
  | .hbm, ⟨31, _⟩ => ⟨S8208x5632, .f32⟩
  | .hbm, ⟨32, _⟩ => ⟨S8208x5632, .f32⟩
  | .hbm, ⟨33, _⟩ => ⟨S8208x2x11x256, .f32⟩
  | .hbm, ⟨34, _⟩ => ⟨S8208x11x2x256, .f32⟩
  | .hbm, ⟨35, _⟩ => ⟨S8208x5632, .f32⟩
  | .hbm, ⟨36, _⟩ => ⟨S_, .i32⟩
  | .hbm, ⟨37, _⟩ => ⟨S_, .f32⟩
  | .hbm, ⟨38, _⟩ => ⟨S8320x5632, .f32⟩
  | .hbm, ⟨39, _⟩ => ⟨S8320x5632, .bf16⟩
  | .hbm, ⟨40, _⟩ => ⟨S8208x2x11x256, .f32⟩
  | .hbm, ⟨41, _⟩ => ⟨S8208x11x2x256, .f32⟩
  | .hbm, ⟨42, _⟩ => ⟨S8208x5632, .f32⟩
  | .hbm, ⟨43, _⟩ => ⟨S_, .i32⟩
  | .hbm, ⟨44, _⟩ => ⟨S_, .f32⟩
  | .hbm, ⟨45, _⟩ => ⟨S8320x5632, .f32⟩
  | .hbm, ⟨46, _⟩ => ⟨S8320x5632, .bf16⟩
  | .hbm, ⟨47, _⟩ => ⟨S_, .i32⟩
  | .hbm, ⟨48, _⟩ => ⟨S_, .f32⟩
  | .hbm, ⟨49, _⟩ => ⟨S8320x2816, .f32⟩
  | .hbm, ⟨50, _⟩ => ⟨S8320x2816, .bf16⟩
  | .hbm, ⟨51, _⟩ => ⟨S3x2x11x256, .f32⟩
  | .hbm, ⟨52, _⟩ => ⟨S3x11x2x256, .f32⟩
  | .hbm, ⟨53, _⟩ => ⟨S3x5632, .f32⟩
  | .hbm, ⟨54, _⟩ => ⟨S8320x5632, .bf16⟩
  | .hbm, ⟨55, _⟩ => ⟨S3x5632, .f32⟩
  | .hbm, ⟨56, _⟩ => ⟨S1x5632, .f32⟩
  | .local _ .vmem, ⟨0, _⟩ => ⟨S1664x512, .bf16⟩
  | .local _ .vmem, ⟨1, _⟩ => ⟨S1664x512, .bf16⟩
  | .local _ .vmem, ⟨2, _⟩ => ⟨S1664x512, .bf16⟩
  | .local _ .vmem, ⟨3, _⟩ => ⟨S1664x512, .bf16⟩
  | .local _ .vmem, ⟨4, _⟩ => ⟨S1664x256, .bf16⟩
  | .local _ .vmem, ⟨5, _⟩ => ⟨S1664x256, .bf16⟩
  | .local _ .vmem, ⟨6, _⟩ => ⟨S3x512, .f32⟩
  | .local _ .vmem, ⟨7, _⟩ => ⟨S3x512, .f32⟩
  | .local _ .vmem, ⟨8, _⟩ => ⟨S1664x512, .bf16⟩
  | .local _ .vmem, ⟨9, _⟩ => ⟨S1664x512, .bf16⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1680x512, .f32⟩
  | .local _ .vmem, ⟨15, _⟩ => ⟨S16x512, .f32⟩
  | _, _ => ⟨S8208x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_call0_v0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_1 : Ref sig .tc := ⟨.hbm, 43, rfl⟩
abbrev main_call1_v0 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_call2_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![11, 5], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi c4_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S8208x5632 : Shape := ⟨2, ![8208, 5632]⟩
abbrev S3x5632 : Shape := ⟨2, ![3, 5632]⟩
abbrev S5632 : Shape := ⟨1, ![5632]⟩
abbrev S8208x2816 : Shape := ⟨2, ![8208, 2816]⟩
abbrev S_ : Shape := ⟨0, ![]⟩
abbrev S2x5632 : Shape := ⟨2, ![2, 5632]⟩
abbrev S8210x5632 : Shape := ⟨2, ![8210, 5632]⟩
abbrev S1x5632 : Shape := ⟨2, ![1, 5632]⟩
abbrev S8208x2x11x256 : Shape := ⟨4, ![8208, 2, 11, 256]⟩
abbrev S8208x11x2x256 : Shape := ⟨4, ![8208, 11, 2, 256]⟩
abbrev S3x2x11x256 : Shape := ⟨4, ![3, 2, 11, 256]⟩
abbrev S3x11x2x256 : Shape := ⟨4, ![3, 11, 2, 256]⟩
abbrev S1x2x11x256 : Shape := ⟨4, ![1, 2, 11, 256]⟩
abbrev S1x11x2x256 : Shape := ⟨4, ![1, 11, 2, 256]⟩
abbrev S8320x5632 : Shape := ⟨2, ![8320, 5632]⟩

abbrev nBuf : Space → Nat
  | .hbm => 121
  | .vmem => 0
  | .smem => 0
  | _ => 0

abbrev bufTy : (tb : Table) → Fin (tcTables nBuf tb) → BufTy
  | .hbm, ⟨0, _⟩ => ⟨S8208x5632, .f32⟩
  | .hbm, ⟨1, _⟩ => ⟨S3x5632, .f32⟩
  | .hbm, ⟨2, _⟩ => ⟨S5632, .f32⟩
  | .hbm, ⟨3, _⟩ => ⟨S8208x2816, .f32⟩
  | .hbm, ⟨4, _⟩ => ⟨S_, .f32⟩
  | .hbm, ⟨5, _⟩ => ⟨S2x5632, .f32⟩
  | .hbm, ⟨6, _⟩ => ⟨S8210x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S8208x5632, .f32⟩
  | .hbm, ⟨12, _⟩ => ⟨S1x5632, .f32⟩
  | .hbm, ⟨13, _⟩ => ⟨S8208x5632, .f32⟩
  | .hbm, ⟨14, _⟩ => ⟨S8208x5632, .f32⟩
  | .hbm, ⟨15, _⟩ => ⟨S_, .f32⟩
  | .hbm, ⟨16, _⟩ => ⟨S8208x5632, .f32⟩
  | .hbm, ⟨17, _⟩ => ⟨S8208x5632, .f32⟩
  | .hbm, ⟨18, _⟩ => ⟨S1x5632, .f32⟩
  | .hbm, ⟨19, _⟩ => ⟨S5632, .f32⟩
  | .hbm, ⟨20, _⟩ => ⟨S8208x5632, .f32⟩
  | .hbm, ⟨21, _⟩ => ⟨S1x5632, .f32⟩
  | .hbm, ⟨22, _⟩ => ⟨S8208x5632, .f32⟩
  | .hbm, ⟨23, _⟩ => ⟨S8208x5632, .f32⟩
  | .hbm, ⟨24, _⟩ => ⟨S8208x5632, .f32⟩
  | .hbm, ⟨25, _⟩ => ⟨S1x5632, .f32⟩
  | .hbm, ⟨26, _⟩ => ⟨S5632, .f32⟩
  | .hbm, ⟨27, _⟩ => ⟨S8208x5632, .f32⟩
  | .hbm, ⟨28, _⟩ => ⟨S1x5632, .f32⟩
  | .hbm, ⟨29, _⟩ => ⟨S8208x5632, .f32⟩
  | .hbm, ⟨30, _⟩ => ⟨S8208x5632, .f32⟩
  | .hbm, ⟨31, _⟩ => ⟨S8208x5632, .f32⟩
  | .hbm, ⟨32, _⟩ => ⟨S1x5632, .f32⟩
  | .hbm, ⟨33, _⟩ => ⟨S8208x5632, .f32⟩
  | .hbm, ⟨34, _⟩ => ⟨S8208x5632, .f32⟩
  | .hbm, ⟨35, _⟩ => ⟨S8208x2816, .f32⟩
  | .hbm, ⟨36, _⟩ => ⟨S8208x2816, .f32⟩
  | .hbm, ⟨37, _⟩ => ⟨S8208x2816, .f32⟩
  | .hbm, ⟨38, _⟩ => ⟨S8208x2816, .f32⟩
  | .hbm, ⟨39, _⟩ => ⟨S_, .f32⟩
  | .hbm, ⟨40, _⟩ => ⟨S8208x2816, .f32⟩
  | .hbm, ⟨41, _⟩ => ⟨S8208x2816, .f32⟩
  | .hbm, ⟨42, _⟩ => ⟨S_, .f32⟩
  | .hbm, ⟨43, _⟩ => ⟨S8208x2816, .f32⟩
  | .hbm, ⟨44, _⟩ => ⟨S8208x2816, .f32⟩
  | .hbm, ⟨45, _⟩ => ⟨S_, .f32⟩
  | .hbm, ⟨46, _⟩ => ⟨S8208x2816, .f32⟩
  | .hbm, ⟨47, _⟩ => ⟨S8208x2816, .f32⟩
  | .hbm, ⟨48, _⟩ => ⟨S8208x2816, .f32⟩
  | .hbm, ⟨49, _⟩ => ⟨S8208x2816, .f32⟩
  | .hbm, ⟨50, _⟩ => ⟨S8208x2816, .f32⟩
  | .hbm, ⟨51, _⟩ => ⟨S8208x2816, .f32⟩
  | .hbm, ⟨52, _⟩ => ⟨S8208x2816, .f32⟩
  | .hbm, ⟨53, _⟩ => ⟨S8208x2816, .f32⟩
  | .hbm, ⟨54, _⟩ => ⟨S8208x2816, .f32⟩
  | .hbm, ⟨55, _⟩ => ⟨S8208x2816, .f32⟩
  | .hbm, ⟨56, _⟩ => ⟨S8208x2816, .f32⟩
  | .hbm, ⟨57, _⟩ => ⟨S8208x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S_, .f32⟩
  | .hbm, ⟨62, _⟩ => ⟨S5632, .f32⟩
  | .hbm, ⟨63, _⟩ => ⟨S8208x5632, .f32⟩
  | .hbm, ⟨64, _⟩ => ⟨S8208x5632, .f32⟩
  | .hbm, ⟨65, _⟩ => ⟨S8208x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S5632, .f32⟩
  | .hbm, ⟨71, _⟩ => ⟨S_, .f32⟩
  | .hbm, ⟨72, _⟩ => ⟨S8210x5632, .f32⟩
  | .hbm, ⟨73, _⟩ => ⟨S1x5632, .f32⟩
  | .hbm, ⟨74, _⟩ => ⟨S_, .f32⟩
  | .hbm, ⟨75, _⟩ => ⟨S3x5632, .f32⟩
  | .hbm, ⟨76, _⟩ => ⟨S8208x5632, .f32⟩
  | .hbm, ⟨77, _⟩ => ⟨S8208x5632, .f32⟩
  | .hbm, ⟨78, _⟩ => ⟨S8208x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S5632, .f32⟩
  | .hbm, ⟨84, _⟩ => ⟨S_, .f32⟩
  | .hbm, ⟨85, _⟩ => ⟨S8210x5632, .f32⟩
  | .hbm, ⟨86, _⟩ => ⟨S8210x5632, .f32⟩
  | .hbm, ⟨87, _⟩ => ⟨S1x5632, .f32⟩
  | .hbm, ⟨88, _⟩ => ⟨S_, .f32⟩
  | .hbm, ⟨89, _⟩ => ⟨S3x5632, .f32⟩
  | .hbm, ⟨90, _⟩ => ⟨S3x5632, .f32⟩
  | .hbm, ⟨91, _⟩ => ⟨S8208x5632, .f32⟩
  | .hbm, ⟨92, _⟩ => ⟨S8208x5632, .f32⟩
  | .hbm, ⟨93, _⟩ => ⟨S8208x5632, .f32⟩
  | .hbm, ⟨94, _⟩ => ⟨S_, .f32⟩
  | .hbm, ⟨95, _⟩ => ⟨S5632, .f32⟩
  | .hbm, ⟨96, _⟩ => ⟨S1x5632, .f32⟩
  | .hbm, ⟨97, _⟩ => ⟨S_, .f32⟩
  | .hbm, ⟨98, _⟩ => ⟨S5632, .f32⟩
  | .hbm, ⟨99, _⟩ => ⟨S_, .f32⟩
  | .hbm, ⟨100, _⟩ => ⟨S8210x5632, .f32⟩
  | .hbm, ⟨101, _⟩ => ⟨S8210x5632, .f32⟩
  | .hbm, ⟨102, _⟩ => ⟨S1x5632, .f32⟩
  | .hbm, ⟨103, _⟩ => ⟨S_, .f32⟩
  | .hbm, ⟨104, _⟩ => ⟨S3x5632, .f32⟩
  | .hbm, ⟨105, _⟩ => ⟨S3x5632, .f32⟩
  | .hbm, ⟨106, _⟩ => ⟨S2x5632, .f32⟩
  | .hbm, ⟨107, _⟩ => ⟨S8208x5632, .f32⟩
  | .hbm, ⟨108, _⟩ => ⟨S8208x2x11x256, .f32⟩
  | .hbm, ⟨109, _⟩ => ⟨S8208x11x2x256, .f32⟩
  | .hbm, ⟨110, _⟩ => ⟨S8208x5632, .f32⟩
  | .hbm, ⟨111, _⟩ => ⟨S3x2x11x256, .f32⟩
  | .hbm, ⟨112, _⟩ => ⟨S3x11x2x256, .f32⟩
  | .hbm, ⟨113, _⟩ => ⟨S3x5632, .f32⟩
  | .hbm, ⟨114, _⟩ => ⟨S1x2x11x256, .f32⟩
  | .hbm, ⟨115, _⟩ => ⟨S1x11x2x256, .f32⟩
  | .hbm, ⟨116, _⟩ => ⟨S1x5632, .f32⟩
  | .hbm, ⟨117, _⟩ => ⟨S_, .i32⟩
  | .hbm, ⟨118, _⟩ => ⟨S_, .f32⟩
  | .hbm, ⟨119, _⟩ => ⟨S8320x5632, .f32⟩
  | .hbm, ⟨120, _⟩ => ⟨S8320x5632, .bf16⟩
  | _, _ => ⟨S8208x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c : Ref sig .tc := ⟨.hbm, 117, rfl⟩
abbrev main_call2_v0 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== AttnFwd.lean ====
abbrev S8208x1024 : Shape := ⟨2, ![8208, 1024]⟩
abbrev S8208x16 : Shape := ⟨2, ![8208, 16]⟩
abbrev S16x8208 : Shape := ⟨2, ![16, 8208]⟩
abbrev S_ : Shape := ⟨0, ![]⟩
abbrev S16x8320 : Shape := ⟨2, ![16, 8320]⟩
abbrev S16x8320x1 : Shape := ⟨3, ![16, 8320, 1]⟩
abbrev S16x8320x3 : Shape := ⟨3, ![16, 8320, 3]⟩
abbrev S8320x1024 : Shape := ⟨2, ![8320, 1024]⟩
abbrev S8320x16x64 : Shape := ⟨3, ![8320, 16, 64]⟩
abbrev S16x8320x64 : Shape := ⟨3, ![16, 8320, 64]⟩
abbrev S16x8320x58 : Shape := ⟨3, ![16, 8320, 58]⟩
abbrev S16x8320x128 : Shape := ⟨3, ![16, 8320, 128]⟩
abbrev S16x1x8320 : Shape := ⟨3, ![16, 1, 8320]⟩
abbrev S16x15x8320 : Shape := ⟨3, ![16, 15, 8320]⟩
abbrev S16x16x8320 : Shape := ⟨3, ![16, 16, 8320]⟩
abbrev S1024x8208 : Shape := ⟨2, ![1024, 8208]⟩
abbrev S1024x8320 : Shape := ⟨2, ![1024, 8320]⟩
abbrev S16x64x8320 : Shape := ⟨3, ![16, 64, 8320]⟩
abbrev S16x80x8320 : Shape := ⟨3, ![16, 80, 8320]⟩
abbrev S16x80x13x640 : Shape := ⟨4, ![16, 80, 13, 640]⟩
abbrev S16x13x80x640 : Shape := ⟨4, ![16, 13, 80, 640]⟩
abbrev S2x64x640 : Shape := ⟨3, ![2, 64, 640]⟩
abbrev S2x1x640 : Shape := ⟨3, ![2, 1, 640]⟩
abbrev S2x8320x128 : Shape := ⟨3, ![2, 8320, 128]⟩
abbrev S2x13x80x640 : Shape := ⟨4, ![2, 13, 80, 640]⟩
abbrev S3x640 : Shape := ⟨2, ![3, 640]⟩
abbrev S1x64x640 : Shape := ⟨3, ![1, 64, 640]⟩
abbrev S64x640 : Shape := ⟨2, ![64, 640]⟩
abbrev S1x1x640 : Shape := ⟨3, ![1, 1, 640]⟩
abbrev S1x640 : Shape := ⟨2, ![1, 640]⟩
abbrev S10x640 : Shape := ⟨2, ![10, 640]⟩
abbrev S16x640 : Shape := ⟨2, ![16, 640]⟩
abbrev S48x640 : Shape := ⟨2, ![48, 640]⟩
abbrev S128x640 : Shape := ⟨2, ![128, 640]⟩
abbrev S80x640 : Shape := ⟨2, ![80, 640]⟩
abbrev S1x640x128 : Shape := ⟨3, ![1, 640, 128]⟩
abbrev S640x128 : Shape := ⟨2, ![640, 128]⟩
abbrev S640x640 : Shape := ⟨2, ![640, 640]⟩
abbrev S640 : Shape := ⟨1, ![640]⟩
abbrev S1x1x80x640 : Shape := ⟨4, ![1, 1, 80, 640]⟩

abbrev nBuf : Space → Nat
  | .hbm => 55
  | .vmem => 12
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S16x8208, .f32⟩
  | .hbm, ⟨5, _⟩ => ⟨S16x8208, .f32⟩
  | .hbm, ⟨6, _⟩ => ⟨S_, .i32⟩
  | .hbm, ⟨7, _⟩ => ⟨S_, .f32⟩
  | .hbm, ⟨8, _⟩ => ⟨S16x8320, .f32⟩
  | .hbm, ⟨9, _⟩ => ⟨S16x8320x1, .f32⟩
  | .hbm, ⟨10, _⟩ => ⟨S_, .bf16⟩
  | .hbm, ⟨11, _⟩ => ⟨S16x8320x3, .bf16⟩
  | .hbm, ⟨12, _⟩ => ⟨S_, .i32⟩
  | .hbm, ⟨13, _⟩ => ⟨S_, .f32⟩
  | .hbm, ⟨14, _⟩ => ⟨S8320x1024, .f32⟩
  | .hbm, ⟨15, _⟩ => ⟨S8320x16x64, .f32⟩
  | .hbm, ⟨16, _⟩ => ⟨S16x8320x64, .f32⟩
  | .hbm, ⟨17, _⟩ => ⟨S16x8320x64, .bf16⟩
  | .hbm, ⟨18, _⟩ => ⟨S16x8320x1, .bf16⟩
  | .hbm, ⟨19, _⟩ => ⟨S16x8320x1, .f32⟩
  | .hbm, ⟨20, _⟩ => ⟨S16x8320x1, .f32⟩
  | .hbm, ⟨21, _⟩ => ⟨S16x8320x1, .bf16⟩
  | .hbm, ⟨22, _⟩ => ⟨S16x8320x1, .f32⟩
  | .hbm, ⟨23, _⟩ => ⟨S16x8320x1, .f32⟩
  | .hbm, ⟨24, _⟩ => ⟨S16x8320x1, .bf16⟩
  | .hbm, ⟨25, _⟩ => ⟨S_, .bf16⟩
  | .hbm, ⟨26, _⟩ => ⟨S16x8320x58, .bf16⟩
  | .hbm, ⟨27, _⟩ => ⟨S16x8320x128, .bf16⟩
  | .hbm, ⟨28, _⟩ => ⟨S_, .f32⟩
  | .hbm, ⟨29, _⟩ => ⟨S16x1x8320, .f32⟩
  | .hbm, ⟨30, _⟩ => ⟨S_, .f32⟩
  | .hbm, ⟨31, _⟩ => ⟨S16x15x8320, .f32⟩
  | .hbm, ⟨32, _⟩ => ⟨S16x16x8320, .f32⟩
  | .hbm, ⟨33, _⟩ => ⟨S1024x8208, .f32⟩
  | .hbm, ⟨34, _⟩ => ⟨S_, .i32⟩
  | .hbm, ⟨35, _⟩ => ⟨S_, .f32⟩
  | .hbm, ⟨36, _⟩ => ⟨S1024x8320, .f32⟩
  | .hbm, ⟨37, _⟩ => ⟨S16x64x8320, .f32⟩
  | .hbm, ⟨38, _⟩ => ⟨S16x80x8320, .f32⟩
  | .hbm, ⟨39, _⟩ => ⟨S16x80x13x640, .f32⟩
  | .hbm, ⟨40, _⟩ => ⟨S16x13x80x640, .f32⟩
  | .hbm, ⟨41, _⟩ => ⟨S16x13x80x640, .bf16⟩
  | .hbm, ⟨42, _⟩ => ⟨S1024x8208, .f32⟩
  | .hbm, ⟨43, _⟩ => ⟨S_, .i32⟩
  | .hbm, ⟨44, _⟩ => ⟨S_, .f32⟩
  | .hbm, ⟨45, _⟩ => ⟨S1024x8320, .f32⟩
  | .hbm, ⟨46, _⟩ => ⟨S16x64x8320, .f32⟩
  | .hbm, ⟨47, _⟩ => ⟨S16x64x8320, .bf16⟩
  | .hbm, ⟨48, _⟩ => ⟨S16x8208, .f32⟩
  | .hbm, ⟨49, _⟩ => ⟨S_, .i32⟩
  | .hbm, ⟨50, _⟩ => ⟨S_, .f32⟩
  | .hbm, ⟨51, _⟩ => ⟨S16x8320, .f32⟩
  | .hbm, ⟨52, _⟩ => ⟨S16x1x8320, .f32⟩
  | .hbm, ⟨53, _⟩ => ⟨S16x64x8320, .bf16⟩
  | .hbm, ⟨54, _⟩ => ⟨S16x1x8320, .f32⟩
  | .local _ .vmem, ⟨0, _⟩ => ⟨S2x64x640, .bf16⟩
  | .local _ .vmem, ⟨1, _⟩ => ⟨S2x64x640, .bf16⟩
  | .local _ .vmem, ⟨2, _⟩ => ⟨S2x1x640, .f32⟩
  | .local _ .vmem, ⟨3, _⟩ => ⟨S2x1x640, .f32⟩
  | .local _ .vmem, ⟨4, _⟩ => ⟨S2x8320x128, .bf16⟩
  | .local _ .vmem, ⟨5, _⟩ => ⟨S2x8320x128, .bf16⟩
  | .local _ .vmem, ⟨6, _⟩ => ⟨S2x13x80x640, .bf16⟩
  | .local _ .vmem, ⟨7, _⟩ => ⟨S2x13x80x640, .bf16⟩
  | .local _ .vmem, ⟨8, _⟩ => ⟨S2x64x640, .bf16⟩
  | .local _ .vmem, ⟨9, _⟩ => ⟨S2x64x640, .bf16⟩
  | .local _ .vmem, ⟨10, _⟩ => ⟨S2x1x640, .f32⟩
  | .local _ .vmem, ⟨11, _⟩ => ⟨S2x1x640, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_call3_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_call4_v0 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 13], ![false, false]⟩

@[reducible] def k0_t1_loop (i : grid0.Coords) : Scf.Loop 32 :=
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_26 : BitVec 32 := 1#32
  ⟨c0_i32_24, v60, c1_i32_26⟩
def k0_mult1 (i : grid0.Coords) (k0_t1 : Fin (k0_t1_loop i).trips) : BitVec 32 :=
  let c4_i32_69 : BitVec 32 := 4#32
  let c0_i32_24 : BitVec 32 := 0#32
  let c1_i32_26 : BitVec 32 := 1#32
  let arg8 : BitVec 32 := Scf.iv c0_i32_24 c1_i32_26 k0_t1
  let v166 : BitVec 32 := Scalar.muli c4_i32_69 arg8
  let c0_i32_70 : BitVec 32 := 0#32
  let v167 : BitVec 32 := Scalar.addi v166 c0_i32_70
  let c640_i32_71 : BitVec 32 := 640#32
  let v168 : BitVec 32 := Scalar.muli v167 c640_i32_71
  v168
def k0_off1 (i : grid0.Coords) (k0_t1 : Fin (k0_t1_loop i).trips) (c0_i32_70 : BitVec 32) : Fin 3 → Nat :=
  let c0_72 : Index := 0#32
  let c4_i32_69 : BitVec 32 := 4#32
  let c0_i32_24 : BitVec 32 := 0#32
  let c1_i32_26 : BitVec 32 := 1#32
  let arg8 : BitVec 32 := Scf.iv c0_i32_24 c1_i32_26 k0_t1
  let v166 : BitVec 32 := Scalar.muli c4_i32_69 arg8
  let v167 : BitVec 32 := Scalar.addi v166 c0_i32_70
  let c640_i32_71 : BitVec 32 := 640#32
  let v168 : BitVec 32 := Scalar.muli v167 c640_i32_71
  let v169 : BitVec 32 := v168
  let v170 : Index := Scalar.indexCast v169
  let c0_73 : Index := 0#32
  ![0, v170.toNat, 0]
def k0_off2 (i : grid0.Coords) (k0_t1 : Fin (k0_t1_loop i).trips) (c0_i32_70 : BitVec 32) : Fin 4 → Nat :=
  let c0_76 : Index := 0#32
  let c4_i32_69 : BitVec 32 := 4#32
  let c0_i32_24 : BitVec 32 := 0#32
  let c1_i32_26 : BitVec 32 := 1#32
  let arg8 : BitVec 32 := Scf.iv c0_i32_24 c1_i32_26 k0_t1
  let v166 : BitVec 32 := Scalar.muli c4_i32_69 arg8
  let v167 : BitVec 32 := Scalar.addi v166 c0_i32_70
  let v185 : Index := Scalar.indexCast v167
  let c0_77 : Index := 0#32
  let c0_78 : Index := 0#32
  ![0, v185.toNat, 0, 0]
def k0_off3 (i : grid0.Coords) (k0_t1 : Fin (k0_t1_loop i).trips) (c0_i32_70 : BitVec 32) : Fin 3 → Nat :=
  let c1_80 : Index := 1#32
  let c4_i32_69 : BitVec 32 := 4#32
  let c0_i32_24 : BitVec 32 := 0#32
  let c1_i32_26 : BitVec 32 := 1#32
  let arg8 : BitVec 32 := Scf.iv c0_i32_24 c1_i32_26 k0_t1
  let v166 : BitVec 32 := Scalar.muli c4_i32_69 arg8
  let v167 : BitVec 32 := Scalar.addi v166 c0_i32_70
  let c640_i32_71 : BitVec 32 := 640#32
  let v168 : BitVec 32 := Scalar.muli v167 c640_i32_71
  let v169 : BitVec 32 := v168
  let v190 : Index := Scalar.indexCast v169
  let c0_81 : Index := 0#32
  ![1, v190.toNat, 0]
def k0_off4 (i : grid0.Coords) (k0_t1 : Fin (k0_t1_loop i).trips) (c0_i32_70 : BitVec 32) : Fin 4 → Nat :=
  let c1_84 : Index := 1#32
  let c4_i32_69 : BitVec 32 := 4#32
  let c0_i32_24 : BitVec 32 := 0#32
  let c1_i32_26 : BitVec 32 := 1#32
  let arg8 : BitVec 32 := Scf.iv c0_i32_24 c1_i32_26 k0_t1
  let v166 : BitVec 32 := Scalar.muli c4_i32_69 arg8
  let v167 : BitVec 32 := Scalar.addi v166 c0_i32_70
  let v205 : Index := Scalar.indexCast v167
  let c0_85 : Index := 0#32
  let c0_86 : Index := 0#32
  ![1, v205.toNat, 0, 0]
def k0_mult2 (i : grid0.Coords) (k0_t1 : Fin (k0_t1_loop i).trips) : BitVec 32 :=
  let c4_i32_88 : BitVec 32 := 4#32
  let c0_i32_24 : BitVec 32 := 0#32
  let c1_i32_26 : BitVec 32 := 1#32
  let arg8 : BitVec 32 := Scf.iv c0_i32_24 c1_i32_26 k0_t1
  let v210 : BitVec 32 := Scalar.muli c4_i32_88 arg8
  let c1_i32_89 : BitVec 32 := 1#32
  let v211 : BitVec 32 := Scalar.addi v210 c1_i32_89
  let c640_i32_90 : BitVec 32 := 640#32
  let v212 : BitVec 32 := Scalar.muli v211 c640_i32_90
  v212
def k0_mult3 (i : grid0.Coords) (k0_t1 : Fin (k0_t1_loop i).trips) : BitVec 32 :=
  let c4_i32_107 : BitVec 32 := 4#32
  let c0_i32_24 : BitVec 32 := 0#32
  let c1_i32_26 : BitVec 32 := 1#32
  let arg8 : BitVec 32 := Scf.iv c0_i32_24 c1_i32_26 k0_t1
  let v254 : BitVec 32 := Scalar.muli c4_i32_107 arg8
  let c2_i32 : BitVec 32 := 2#32
  let v255 : BitVec 32 := Scalar.addi v254 c2_i32
  let c640_i32_108 : BitVec 32 := 640#32
  let v256 : BitVec 32 := Scalar.muli v255 c640_i32_108
  v256
def k0_mult4 (i : grid0.Coords) (k0_t1 : Fin (k0_t1_loop i).trips) : BitVec 32 :=
  let c4_i32_125 : BitVec 32 := 4#32
  let c0_i32_24 : BitVec 32 := 0#32
  let c1_i32_26 : BitVec 32 := 1#32
  let arg8 : BitVec 32 := Scf.iv c0_i32_24 c1_i32_26 k0_t1
  let v298 : BitVec 32 := Scalar.muli c4_i32_125 arg8
  let c3_i32 : BitVec 32 := 3#32
  let v299 : BitVec 32 := Scalar.addi v298 c3_i32
  let c640_i32_126 : BitVec 32 := 640#32
  let v300 : BitVec 32 := Scalar.muli v299 c640_i32_126
  v300
@[reducible] def k0_t2_loop (i : grid0.Coords) : Scf.Loop 32 :=
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let v57 : BitVec 32 := Scalar.addi c0_i32_24 v56
  let c1_i32_27 : BitVec 32 := 1#32
  ⟨v60, v57, c1_i32_27⟩
def k0_mult5 (i : grid0.Coords) (k0_t2 : Fin (k0_t2_loop i).trips) : BitVec 32 :=
  let c4_i32_69 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v166 : BitVec 32 := Scalar.muli c4_i32_69 arg8
  let c0_i32_70 : BitVec 32 := 0#32
  let v167 : BitVec 32 := Scalar.addi v166 c0_i32_70
  let c640_i32_71 : BitVec 32 := 640#32
  let v168 : BitVec 32 := Scalar.muli v167 c640_i32_71
  v168
def k0_off5 (i : grid0.Coords) (k0_t2 : Fin (k0_t2_loop i).trips) (c0_i32_70 : BitVec 32) : Fin 3 → Nat :=
  let c0_72 : Index := 0#32
  let c4_i32_69 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v166 : BitVec 32 := Scalar.muli c4_i32_69 arg8
  let v167 : BitVec 32 := Scalar.addi v166 c0_i32_70
  let c640_i32_71 : BitVec 32 := 640#32
  let v168 : BitVec 32 := Scalar.muli v167 c640_i32_71
  let v169 : BitVec 32 := v168
  let v170 : Index := Scalar.indexCast v169
  let c0_73 : Index := 0#32
  ![0, v170.toNat, 0]
def k0_off6 (i : grid0.Coords) (k0_t2 : Fin (k0_t2_loop i).trips) (c0_i32_70 : BitVec 32) : Fin 4 → Nat :=
  let c0_76 : Index := 0#32
  let c4_i32_69 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v166 : BitVec 32 := Scalar.muli c4_i32_69 arg8
  let v167 : BitVec 32 := Scalar.addi v166 c0_i32_70
  let v185 : Index := Scalar.indexCast v167
  let c0_77 : Index := 0#32
  let c0_78 : Index := 0#32
  ![0, v185.toNat, 0, 0]
def k0_off7 (i : grid0.Coords) (k0_t2 : Fin (k0_t2_loop i).trips) (c0_i32_70 : BitVec 32) : Fin 3 → Nat :=
  let c1_80 : Index := 1#32
  let c4_i32_69 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v166 : BitVec 32 := Scalar.muli c4_i32_69 arg8
  let v167 : BitVec 32 := Scalar.addi v166 c0_i32_70
  let c640_i32_71 : BitVec 32 := 640#32
  let v168 : BitVec 32 := Scalar.muli v167 c640_i32_71
  let v169 : BitVec 32 := v168
  let v190 : Index := Scalar.indexCast v169
  let c0_81 : Index := 0#32
  ![1, v190.toNat, 0]
def k0_off8 (i : grid0.Coords) (k0_t2 : Fin (k0_t2_loop i).trips) (c0_i32_70 : BitVec 32) : Fin 4 → Nat :=
  let c1_84 : Index := 1#32
  let c4_i32_69 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v166 : BitVec 32 := Scalar.muli c4_i32_69 arg8
  let v167 : BitVec 32 := Scalar.addi v166 c0_i32_70
  let v205 : Index := Scalar.indexCast v167
  let c0_85 : Index := 0#32
  let c0_86 : Index := 0#32
  ![1, v205.toNat, 0, 0]
def k0_mult6 (i : grid0.Coords) (k0_t2 : Fin (k0_t2_loop i).trips) : BitVec 32 :=
  let c4_i32_88 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v210 : BitVec 32 := Scalar.muli c4_i32_88 arg8
  let c1_i32_89 : BitVec 32 := 1#32
  let v211 : BitVec 32 := Scalar.addi v210 c1_i32_89
  let c640_i32_90 : BitVec 32 := 640#32
  let v212 : BitVec 32 := Scalar.muli v211 c640_i32_90
  v212
def k0_mult7 (i : grid0.Coords) (k0_t2 : Fin (k0_t2_loop i).trips) : BitVec 32 :=
  let c4_i32_107 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v254 : BitVec 32 := Scalar.muli c4_i32_107 arg8
  let c2_i32 : BitVec 32 := 2#32
  let v255 : BitVec 32 := Scalar.addi v254 c2_i32
  let c640_i32_108 : BitVec 32 := 640#32
  let v256 : BitVec 32 := Scalar.muli v255 c640_i32_108
  v256
def k0_mult8 (i : grid0.Coords) (k0_t2 : Fin (k0_t2_loop i).trips) : BitVec 32 :=
  let c4_i32_125 : BitVec 32 := 4#32
  let c0_i32_24 : BitVec 32 := 0#32
  let arg1 : BitVec 32 := BitVec.ofNat 32 (i 1).val
  let c0_i32 : BitVec 32 := 0#32
  let v40 : BitVec 1 := Scalar.cmpi .sgt arg1 c0_i32
  let v41 : BitVec 32 := Scalar.extui v40
  let c0_i32_20 : BitVec 32 := 0#32
  let v42 : BitVec 1 := Scalar.cmpi .slt arg1 c0_i32_20
  let v43 : BitVec 32 := Scalar.extui v42
  let v44 : BitVec 32 := Scalar.subi v41 v43
  let c4_i32 : BitVec 32 := 4#32
  let c0_i32_21 : BitVec 32 := 0#32
  let v45 : BitVec 1 := Scalar.cmpi .sgt c4_i32 c0_i32_21
  let v46 : BitVec 32 := Scalar.extui v45
  let c0_i32_22 : BitVec 32 := 0#32
  let v47 : BitVec 1 := Scalar.cmpi .slt c4_i32 c0_i32_22
  let v48 : BitVec 32 := Scalar.extui v47
  let v49 : BitVec 32 := Scalar.subi v46 v48
  let v50 : BitVec 1 := Scalar.cmpi .ne v44 v49
  let v51 : BitVec 32 := Scalar.remsi arg1 c4_i32
  let c0_i32_23 : BitVec 32 := 0#32
  let v52 : BitVec 1 := Scalar.cmpi .ne v51 c0_i32_23
  let v53 : BitVec 1 := Scalar.andi v50 v52
  let v39 : BitVec 32 := Scalar.divsi arg1 c4_i32
  let c1_i32 : BitVec 32 := 1#32
  let v54 : BitVec 32 := Scalar.subi v39 c1_i32
  let v55 : BitVec 32 := Scalar.select v53 v54 v39
  let v56 : BitVec 32 := Scalar.subi v55 c0_i32_24
  let c1_i32_25 : BitVec 32 := 1#32
  let v58 : BitVec 32 := Scalar.divsi v56 c1_i32_25
  let v59 : BitVec 32 := Scalar.muli v58 c1_i32_25
  let v60 : BitVec 32 := Scalar.addi c0_i32_24 v59
  let c1_i32_27 : BitVec 32 := 1#32
  let arg8 : BitVec 32 := Scf.iv v60 c1_i32_27 k0_t2
  let v298 : BitVec 32 := Scalar.muli c4_i32_125 arg8
  let c3_i32 : BitVec 32 := 3#32
  let v299 : BitVec 32 := Scalar.addi v298 c3_i32
  let c640_i32_126 : BitVec 32 := 640#32
  let v300 : BitVec 32 := Scalar.muli v299 c640_i32_126
  v300
@[reducible] def k0_t3_loop (i : grid0.Coords) : Scf.Loop 32 :=
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let c1_i32_37 : BitVec 32 := 1#32
  ⟨v80, v85, c1_i32_37⟩
def k0_mult9 (i : grid0.Coords) (k0_t3 : Fin (k0_t3_loop i).trips) : BitVec 32 :=
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let c1_i32_37 : BitVec 32 := 1#32
  let arg8 : BitVec 32 := Scf.iv v80 c1_i32_37 k0_t3
  let c640_i32_69 : BitVec 32 := 640#32
  let v166 : BitVec 32 := Scalar.muli arg8 c640_i32_69
  v166
def k0_off9 (i : grid0.Coords) (k0_t3 : Fin (k0_t3_loop i).trips) : Fin 3 → Nat :=
  let c0_70 : Index := 0#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let c1_i32_37 : BitVec 32 := 1#32
  let arg8 : BitVec 32 := Scf.iv v80 c1_i32_37 k0_t3
  let c640_i32_69 : BitVec 32 := 640#32
  let v166 : BitVec 32 := Scalar.muli arg8 c640_i32_69
  let v167 : BitVec 32 := v166
  let v168 : Index := Scalar.indexCast v167
  let c0_71 : Index := 0#32
  ![0, v168.toNat, 0]
def k0_off10 (i : grid0.Coords) (k0_t3 : Fin (k0_t3_loop i).trips) : Fin 4 → Nat :=
  let c0_74 : Index := 0#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let c1_i32_37 : BitVec 32 := 1#32
  let arg8 : BitVec 32 := Scf.iv v80 c1_i32_37 k0_t3
  let v183 : Index := Scalar.indexCast arg8
  let c0_75 : Index := 0#32
  let c0_76 : Index := 0#32
  ![0, v183.toNat, 0, 0]
def k0_off11 (i : grid0.Coords) (k0_t3 : Fin (k0_t3_loop i).trips) : Fin 3 → Nat :=
  let c1_78 : Index := 1#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let c1_i32_37 : BitVec 32 := 1#32
  let arg8 : BitVec 32 := Scf.iv v80 c1_i32_37 k0_t3
  let c640_i32_69 : BitVec 32 := 640#32
  let v166 : BitVec 32 := Scalar.muli arg8 c640_i32_69
  let v167 : BitVec 32 := v166
  let v188 : Index := Scalar.indexCast v167
  let c0_79 : Index := 0#32
  ![1, v188.toNat, 0]
def k0_off12 (i : grid0.Coords) (k0_t3 : Fin (k0_t3_loop i).trips) : Fin 4 → Nat :=
  let c1_82 : Index := 1#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let c1_i32_37 : BitVec 32 := 1#32
  let arg8 : BitVec 32 := Scf.iv v80 c1_i32_37 k0_t3
  let v203 : Index := Scalar.indexCast arg8
  let c0_83 : Index := 0#32
  let c0_84 : Index := 0#32
  ![1, v203.toNat, 0, 0]
@[reducible] def k0_t4_loop (i : grid0.Coords) : Scf.Loop 32 :=
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let v82 : BitVec 32 := Scalar.addi v80 v81
  let c1_i32_38 : BitVec 32 := 1#32
  ⟨v85, v82, c1_i32_38⟩
def k0_mult10 (i : grid0.Coords) (k0_t4 : Fin (k0_t4_loop i).trips) : BitVec 32 :=
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let c1_i32_38 : BitVec 32 := 1#32
  let arg8 : BitVec 32 := Scf.iv v85 c1_i32_38 k0_t4
  let c640_i32_69 : BitVec 32 := 640#32
  let v166 : BitVec 32 := Scalar.muli arg8 c640_i32_69
  v166
def k0_off13 (i : grid0.Coords) (k0_t4 : Fin (k0_t4_loop i).trips) : Fin 3 → Nat :=
  let c0_70 : Index := 0#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let c1_i32_38 : BitVec 32 := 1#32
  let arg8 : BitVec 32 := Scf.iv v85 c1_i32_38 k0_t4
  let c640_i32_69 : BitVec 32 := 640#32
  let v166 : BitVec 32 := Scalar.muli arg8 c640_i32_69
  let v167 : BitVec 32 := v166
  let v168 : Index := Scalar.indexCast v167
  let c0_71 : Index := 0#32
  ![0, v168.toNat, 0]
def k0_off14 (i : grid0.Coords) (k0_t4 : Fin (k0_t4_loop i).trips) : Fin 4 → Nat :=
  let c0_74 : Index := 0#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let c1_i32_38 : BitVec 32 := 1#32
  let arg8 : BitVec 32 := Scf.iv v85 c1_i32_38 k0_t4
  let v183 : Index := Scalar.indexCast arg8
  let c0_75 : Index := 0#32
  let c0_76 : Index := 0#32
  ![0, v183.toNat, 0, 0]
def k0_off15 (i : grid0.Coords) (k0_t4 : Fin (k0_t4_loop i).trips) : Fin 3 → Nat :=
  let c1_78 : Index := 1#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let c1_i32_38 : BitVec 32 := 1#32
  let arg8 : BitVec 32 := Scf.iv v85 c1_i32_38 k0_t4
  let c640_i32_69 : BitVec 32 := 640#32
  let v166 : BitVec 32 := Scalar.muli arg8 c640_i32_69
  let v167 : BitVec 32 := v166
  let v188 : Index := Scalar.indexCast v167
  let c0_79 : Index := 0#32
  ![1, v188.toNat, 0]
def k0_off16 (i : grid0.Coords) (k0_t4 : Fin (k0_t4_loop i).trips) : Fin 4 → Nat :=
  let c1_82 : Index := 1#32
  let c4_i32_35 : BitVec 32 := 4#32
  let arg1 : BitVec 32 := BitVec.ofNat 32 (i 1).val
  let c0_i32_29 : BitVec 32 := 0#32
  let v64 : BitVec 1 := Scalar.cmpi .sgt arg1 c0_i32_29
  let v65 : BitVec 32 := Scalar.extui v64
  let c0_i32_30 : BitVec 32 := 0#32
  let v66 : BitVec 1 := Scalar.cmpi .slt arg1 c0_i32_30
  let v67 : BitVec 32 := Scalar.extui v66
  let v68 : BitVec 32 := Scalar.subi v65 v67
  let c4_i32_28 : BitVec 32 := 4#32
  let c0_i32_31 : BitVec 32 := 0#32
  let v69 : BitVec 1 := Scalar.cmpi .sgt c4_i32_28 c0_i32_31
  let v70 : BitVec 32 := Scalar.extui v69
  let c0_i32_32 : BitVec 32 := 0#32
  let v71 : BitVec 1 := Scalar.cmpi .slt c4_i32_28 c0_i32_32
  let v72 : BitVec 32 := Scalar.extui v71
  let v73 : BitVec 32 := Scalar.subi v70 v72
  let v74 : BitVec 1 := Scalar.cmpi .ne v68 v73
  let v75 : BitVec 32 := Scalar.remsi arg1 c4_i32_28
  let c0_i32_33 : BitVec 32 := 0#32
  let v76 : BitVec 1 := Scalar.cmpi .ne v75 c0_i32_33
  let v77 : BitVec 1 := Scalar.andi v74 v76
  let v63 : BitVec 32 := Scalar.divsi arg1 c4_i32_28
  let c1_i32_34 : BitVec 32 := 1#32
  let v78 : BitVec 32 := Scalar.subi v63 c1_i32_34
  let v79 : BitVec 32 := Scalar.select v77 v78 v63
  let v80 : BitVec 32 := Scalar.muli c4_i32_35 v79
  let v81 : BitVec 32 := Scalar.subi arg1 v80
  let c1_i32_36 : BitVec 32 := 1#32
  let v83 : BitVec 32 := Scalar.divsi v81 c1_i32_36
  let v84 : BitVec 32 := Scalar.muli v83 c1_i32_36
  let v85 : BitVec 32 := Scalar.addi v80 v84
  let c1_i32_38 : BitVec 32 := 1#32
  let arg8 : BitVec 32 := Scf.iv v85 c1_i32_38 k0_t4
  let v203 : Index := Scalar.indexCast arg8
  let c0_83 : Index := 0#32
  let c0_84 : Index := 0#32
  ![1, v203.toNat, 0, 0]
def k0_mult11 (i : grid0.Coords) : BitVec 32 :=
  let arg1 : BitVec 32 := BitVec.ofNat 32 (i 1).val
  let c640_i32 : BitVec 32 := 640#32
  let v88 : BitVec 32 := Scalar.muli arg1 c640_i32
  v88
def k0_off17 (i : grid0.Coords) : Fin 3 → Nat :=
  let c0_39 : Index := 0#32
  let arg1 : BitVec 32 := BitVec.ofNat 32 (i 1).val
  let c640_i32 : BitVec 32 := 640#32
  let v88 : BitVec 32 := Scalar.muli arg1 c640_i32
  let v89 : BitVec 32 := v88
  let v90 : Index := Scalar.indexCast v89
  let c0_40 : Index := 0#32
  ![0, v90.toNat, 0]
def k0_off18 (i : grid0.Coords) : Fin 4 → Nat :=
  let c0_44 : Index := 0#32
  let arg1 : BitVec 32 := BitVec.ofNat 32 (i 1).val
  let v110 : Index := Scalar.indexCast arg1
  let c0_45 : Index := 0#32
  let c0_46 : Index := 0#32
  ![0, v110.toNat, 0, 0]
def k0_off19 (i : grid0.Coords) : Fin 3 → Nat :=
  let c1_48 : Index := 1#32
  let arg1 : BitVec 32 := BitVec.ofNat 32 (i 1).val
  let c640_i32 : BitVec 32 := 640#32
  let v88 : BitVec 32 := Scalar.muli arg1 c640_i32
  let v89 : BitVec 32 := v88
  let v115 : Index := Scalar.indexCast v89
  let c0_49 : Index := 0#32
  ![1, v115.toNat, 0]
def k0_off20 (i : grid0.Coords) : Fin 4 → Nat :=
  let c1_53 : Index := 1#32
  let arg1 : BitVec 32 := BitVec.ofNat 32 (i 1).val
  let v135 : Index := Scalar.indexCast arg1
  let c0_54 : Index := 0#32
  let c0_55 : Index := 0#32
  ![1, v135.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x64x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8320x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x13x80x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x64x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S8208x1024 : Shape := ⟨2, ![8208, 1024]⟩
abbrev S8208x16 : Shape := ⟨2, ![8208, 16]⟩
abbrev S_ : Shape := ⟨0, ![]⟩
abbrev S8320x1024 : Shape := ⟨2, ![8320, 1024]⟩
abbrev S8320x16 : Shape := ⟨2, ![8320, 16]⟩
abbrev S8320x16x64 : Shape := ⟨3, ![8320, 16, 64]⟩
abbrev S16x8320x64 : Shape := ⟨3, ![16, 8320, 64]⟩
abbrev S16x8320 : Shape := ⟨2, ![16, 8320]⟩
abbrev S16x8320x8320 : Shape := ⟨3, ![16, 8320, 8320]⟩
abbrev S16x8320x1 : Shape := ⟨3, ![16, 8320, 1]⟩
abbrev S16x1x8320 : Shape := ⟨3, ![16, 1, 8320]⟩
abbrev S8320 : Shape := ⟨1, ![8320]⟩
abbrev S1x8320 : Shape := ⟨2, ![1, 8320]⟩
abbrev S8320x1 : Shape := ⟨2, ![8320, 1]⟩
abbrev S8320x8320 : Shape := ⟨2, ![8320, 8320]⟩
abbrev S16x64x8320 : Shape := ⟨3, ![16, 64, 8320]⟩

abbrev nBuf : Space → Nat
  | .hbm => 74
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S8208x1024, .f32⟩
  | .hbm, ⟨3, _⟩ => ⟨S8208x16, .f32⟩
  | .hbm, ⟨4, _⟩ => ⟨S_, .i32⟩
  | .hbm, ⟨5, _⟩ => ⟨S_, .f32⟩
  | .hbm, ⟨6, _⟩ => ⟨S8320x1024, .f32⟩
  | .hbm, ⟨7, _⟩ => ⟨S_, .i32⟩
  | .hbm, ⟨8, _⟩ => ⟨S_, .f32⟩
  | .hbm, ⟨9, _⟩ => ⟨S8320x1024, .f32⟩
  | .hbm, ⟨10, _⟩ => ⟨S_, .i32⟩
  | .hbm, ⟨11, _⟩ => ⟨S_, .f32⟩
  | .hbm, ⟨12, _⟩ => ⟨S8320x1024, .f32⟩
  | .hbm, ⟨13, _⟩ => ⟨S_, .i32⟩
  | .hbm, ⟨14, _⟩ => ⟨S_, .f32⟩
  | .hbm, ⟨15, _⟩ => ⟨S8320x16, .f32⟩
  | .hbm, ⟨16, _⟩ => ⟨S8320x16x64, .f32⟩
  | .hbm, ⟨17, _⟩ => ⟨S16x8320x64, .f32⟩
  | .hbm, ⟨18, _⟩ => ⟨S8320x16x64, .f32⟩
  | .hbm, ⟨19, _⟩ => ⟨S16x8320x64, .f32⟩
  | .hbm, ⟨20, _⟩ => ⟨S16x8320, .f32⟩
  | .hbm, ⟨21, _⟩ => ⟨S16x8320, .f32⟩
  | .hbm, ⟨22, _⟩ => ⟨S16x8320x8320, .f32⟩
  | .hbm, ⟨23, _⟩ => ⟨S_, .f32⟩
  | .hbm, ⟨24, _⟩ => ⟨S16x8320x8320, .f32⟩
  | .hbm, ⟨25, _⟩ => ⟨S16x8320x8320, .f32⟩
  | .hbm, ⟨26, _⟩ => ⟨S16x8320x1, .f32⟩
  | .hbm, ⟨27, _⟩ => ⟨S16x8320x8320, .f32⟩
  | .hbm, ⟨28, _⟩ => ⟨S16x8320x8320, .f32⟩
  | .hbm, ⟨29, _⟩ => ⟨S16x1x8320, .f32⟩
  | .hbm, ⟨30, _⟩ => ⟨S16x8320x8320, .f32⟩
  | .hbm, ⟨31, _⟩ => ⟨S16x8320x8320, .f32⟩
  | .hbm, ⟨32, _⟩ => ⟨S8320, .i32⟩
  | .hbm, ⟨33, _⟩ => ⟨S1x8320, .i32⟩
  | .hbm, ⟨34, _⟩ => ⟨S8320x1, .i32⟩
  | .hbm, ⟨35, _⟩ => ⟨S8320x8320, .i32⟩
  | .hbm, ⟨36, _⟩ => ⟨S8320x8320, .i32⟩
  | .hbm, ⟨37, _⟩ => ⟨S8320x8320, .i1⟩
  | .hbm, ⟨38, _⟩ => ⟨S_, .f32⟩
  | .hbm, ⟨39, _⟩ => ⟨S_, .f32⟩
  | .hbm, ⟨40, _⟩ => ⟨S16x8320x8320, .i1⟩
  | .hbm, ⟨41, _⟩ => ⟨S16x8320x8320, .f32⟩
  | .hbm, ⟨42, _⟩ => ⟨S16x8320x8320, .f32⟩
  | .hbm, ⟨43, _⟩ => ⟨S_, .f32⟩
  | .hbm, ⟨44, _⟩ => ⟨S16x8320, .f32⟩
  | .hbm, ⟨45, _⟩ => ⟨S_, .f32⟩
  | .hbm, ⟨46, _⟩ => ⟨S16x8320, .f32⟩
  | .hbm, ⟨47, _⟩ => ⟨S16x8320, .f32⟩
  | .hbm, ⟨48, _⟩ => ⟨S16x8320x1, .f32⟩
  | .hbm, ⟨49, _⟩ => ⟨S16x8320x8320, .f32⟩
  | .hbm, ⟨50, _⟩ => ⟨S16x8320x8320, .f32⟩
  | .hbm, ⟨51, _⟩ => ⟨S16x8320x8320, .f32⟩
  | .hbm, ⟨52, _⟩ => ⟨S_, .f32⟩
  | .hbm, ⟨53, _⟩ => ⟨S16x8320, .f32⟩
  | .hbm, ⟨54, _⟩ => ⟨S16x8320x1, .f32⟩
  | .hbm, ⟨55, _⟩ => ⟨S16x8320x8320, .f32⟩
  | .hbm, ⟨56, _⟩ => ⟨S16x8320x8320, .f32⟩
  | .hbm, ⟨57, _⟩ => ⟨S8320x16x64, .f32⟩
  | .hbm, ⟨58, _⟩ => ⟨S16x8320x64, .f32⟩
  | .hbm, ⟨59, _⟩ => ⟨S16x8320x64, .f32⟩
  | .hbm, ⟨60, _⟩ => ⟨S_, .f32⟩
  | .hbm, ⟨61, _⟩ => ⟨S16x8320, .f32⟩
  | .hbm, ⟨62, _⟩ => ⟨S16x8320x1, .f32⟩
  | .hbm, ⟨63, _⟩ => ⟨S16x8320x8320, .f32⟩
  | .hbm, ⟨64, _⟩ => ⟨S16x8320x8320, .f32⟩
  | .hbm, ⟨65, _⟩ => ⟨S16x8320x8320, .f32⟩
  | .hbm, ⟨66, _⟩ => ⟨S_, .f32⟩
  | .hbm, ⟨67, _⟩ => ⟨S16x8320, .f32⟩
  | .hbm, ⟨68, _⟩ => ⟨S16x8320x1, .f32⟩
  | .hbm, ⟨69, _⟩ => ⟨S16x8320x1, .f32⟩
  | .hbm, ⟨70, _⟩ => ⟨S16x8320x1, .f32⟩
  | .hbm, ⟨71, _⟩ => ⟨S16x64x8320, .f32⟩
  | .hbm, ⟨72, _⟩ => ⟨S16x64x8320, .bf16⟩
  | .hbm, ⟨73, _⟩ => ⟨S16x1x8320, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Proof.Math.lean ====
/-
  Small facts about the extended reals and finite sums that the value proofs share: a finite element minus
  itself is zero, a triangular block of a sum is a segment of it, an order comparison of two indices read
  as a number is a zero or a one.
-/
module

public import Idealize.ShloMosaic.Lib.Pipeline.ValueKit
public import Idealize.ShloMosaic.Lib.Pointwise
public import Idealize.ShloMosaic.Lib.WordCmp

@[expose] public section

set_option maxRecDepth 16384

noncomputable section

namespace Cert.Math

open Idealize.ShloMosaic

/-- An extended real that is a real number. -/
def Real (x : EReal) : Prop := ∃ r : ℝ, x = (r : EReal)

theorem Real.coe (r : ℝ) : Real (r : EReal) := ⟨r, rfl⟩
theorem Real.zero : Real 0 := ⟨0, rfl⟩
theorem Real.one : Real 1 := ⟨1, rfl⟩

theorem Real.add {x y : EReal} (hx : Real x) (hy : Real y) : Real (x + y) := by
  obtain ⟨a, rfl⟩ := hx; obtain ⟨b, rfl⟩ := hy; exact ⟨a + b, (EReal.coe_add a b).symm⟩

theorem Real.sub {x y : EReal} (hx : Real x) (hy : Real y) : Real (x - y) := by
  obtain ⟨a, rfl⟩ := hx; obtain ⟨b, rfl⟩ := hy; exact ⟨a - b, (EReal.coe_sub a b).symm⟩

theorem Real.mul {x y : EReal} (hx : Real x) (hy : Real y) : Real (x * y) := by
  obtain ⟨a, rfl⟩ := hx; obtain ⟨b, rfl⟩ := hy; exact ⟨a * b, (EReal.coe_mul a b).symm⟩

theorem Real.neg {x : EReal} (hx : Real x) : Real (-x) := by
  obtain ⟨a, rfl⟩ := hx; exact ⟨-a, (EReal.coe_neg a).symm⟩

theorem Real.sum {ι : Type} (s : Finset ι) {f : ι → EReal} (h : ∀ i ∈ s, Real (f i)) : Real (∑ i ∈ s, f i) :=
  Finset.sum_induction f Real (fun _ _ => Real.add) Real.zero h

/-- A finite element minus itself. -/
theorem Real.sub_self {x : EReal} (h : Real x) : x - x = 0 := by
  obtain ⟨r, rfl⟩ := h; rw [← EReal.coe_sub, _root_.sub_self]; rfl

/-- The magnitude comparison a precondition states says that the element is a real number. -/
theorem Real.of_abs_lt_top {x : EReal} (h : max x (-x) < ⊤) : Real x := by
  induction x with
  | bot => simp at h
  | top => simp at h
  | coe r => exact ⟨r, rfl⟩

/-- Where a comparison of absolute values with infinity holds, the element is a real number. -/
theorem Real.of_cmp {s : Shape} {φ : FTy} (x y : FVec Ideal s φ) (i) (hy : y i = (⊤ : EReal))
    (h : cmpf .olt (Host.absf x) y i = 1#1) : Real (x i) := by
  have h' : Ideal.cmp .olt (max (x i) (-(x i)) : EReal) (y i) = 1 := h
  rw [Ideal.cmp_olt_eq_one, hy] at h'
  exact Real.of_abs_lt_top h'

/-- A conjunction of two bits that holds has both. -/
theorem and_one {s : Shape} (a b : IVec s 1) (i) (h : andi a b i = 1#1) : a i = 1#1 ∧ b i = 1#1 :=
  (by decide : ∀ x y : BitVec 1, x &&& y = 1#1 → x = 1#1 ∧ y = 1#1) _ _ h

/-- The real sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A block's part of a suffix: the elements at or after position `r` of a block of `T` that starts at `o`. -/
theorem sum_suffix_block (g : ℕ → EReal) (T o r : ℕ) :
    ∑ k : Fin T, (if r ≤ k.val then g (o + k.val) else 0) = ∑ k ∈ Finset.Ico (o + r) (o + T), g k := by
  rw [Fin.sum_univ_eq_sum_range (fun k => if r ≤ k then g (o + k) else 0) T, ← Finset.sum_filter]
  have : (Finset.range T).filter (fun k => r ≤ k) = Finset.Ico r T := by
    ext k; simp [Finset.mem_Ico, and_comm]
  rw [this, Finset.sum_Ico_add g, Nat.add_comm r, Nat.add_comm T]

/-- A block's sum and the sum over the later rows. -/
theorem sum_block_add (g : ℕ → EReal) (T o N : ℕ) (h : o + T ≤ N) :
    (∑ k ∈ Finset.Ico (o + T) N, g k) + ∑ k : Fin T, g (o + k.val) = ∑ k ∈ Finset.Ico o N, g k := by
  have e := sum_suffix_block g T o 0
  simp only [Nat.zero_le, if_true, Nat.add_zero] at e
  rw [e, add_comm]
  exact Finset.sum_Ico_consecutive _ (by omega) h

/-- A sum of the terms before a block, and the block's, is the sum of the terms up to the block's end. -/
theorem sum_block_after (g : ℕ → EReal) (T o : ℕ) :
    (∑ k ∈ Finset.range o, g k) + ∑ k : Fin T, g (o + k.val) = ∑ k ∈ Finset.range (o + T), g k := by
  rw [Finset.sum_range_add, ← Fin.sum_univ_eq_sum_range (fun k => g (o + k)) T]

/-- A sum over all padded rows, of terms that vanish past the last row, is the sum over the rows. -/
theorem sum_range_rows (g : ℕ → EReal) (L M : ℕ) (h : L ≤ M) (hz : ∀ k, L ≤ k → g k = 0) :
    ∑ k ∈ Finset.range M, g k = ∑ k : Fin L, g k.val := by
  rw [Fin.sum_univ_eq_sum_range g L]
  exact (Finset.sum_subset (Finset.range_subset_range.mpr h) fun k _ hk => hz k (by simpa using hk)).symm

/-- The order of two small indices, compared as words and read as a number: one where `b ≤ a`, else zero. -/
theorem mask_sge {φ : FTy} (a b : ℕ) (ha : a < 2 ^ 31) (hb : b < 2 ^ 31) :
    FloatOps.sitofp (F := Ideal) φ (BitVec.setWidth 32 (IntOp.cmpi .sge (BitVec.ofNat 32 a) (BitVec.ofNat 32 b)))
      = if b ≤ a then (1 : EReal) else 0 := by
  have e : (BitVec.ofNat 32 b).sle (BitVec.ofNat 32 a) = decide (b ≤ a) := by
    have h1 : (BitVec.ofNat 32 a).toInt = a := by rw [BitVec.toInt_ofNat', Int.bmod_def]; omega
    have h2 : (BitVec.ofNat 32 b).toInt = b := by rw [BitVec.toInt_ofNat', Int.bmod_def]; omega
    rw [BitVec.sle, h1, h2]
    simp
  show (((BitVec.setWidth 32 (BitVec.ofBool ((BitVec.ofNat 32 b).sle (BitVec.ofNat 32 a)))).toInt : ℝ) : EReal) = _
  rw [e]
  by_cases h : b ≤ a
  · simp [h]
  · simp [h]

/-- A real factor over a sum of real numbers. -/
theorem mul_sum_real {ι : Type} (s : Finset ι) {c : EReal} (hc : Real c) {f : ι → EReal} (hf : ∀ i, Real (f i)) :
    ∑ i ∈ s, c * f i = c * ∑ i ∈ s, f i := by
  obtain ⟨c, rfl⟩ := hc
  choose f' hf' using hf
  simp only [hf', ← EReal.coe_mul, ← coe_sum, Finset.mul_sum]

/-- The sums of consecutive blocks add up to the sum of all. -/
theorem sum_blocks (g : ℕ → EReal) (T n : ℕ) :
    ∑ i ∈ Finset.range n, ∑ k : Fin T, g (i * T + k.val) = ∑ k ∈ Finset.range (n * T), g k := by
  induction n with
  | zero => simp
  | succ n ih => rw [Finset.sum_range_succ, ih, sum_block_after, Nat.succ_mul]

/-- A row's number as a word: the block's number times the block's height, plus the place in the block. -/
theorem word_row (a T r : ℕ) :
    IntOp.addi (Scalar.muli (BitVec.ofNat 32 a) (BitVec.ofNat 32 T)) (BitVec.ofNat 32 r) = BitVec.ofNat 32 (a * T + r) := by
  show BitVec.ofNat 32 a * BitVec.ofNat 32 T + BitVec.ofNat 32 r = _
  rw [← BitVec.ofNat_mul, ← BitVec.ofNat_add]

/-- A choice by whether a small index lies between two bounds. -/
theorem select_band {α : Type} (n lo hi : ℕ) (hn : n < 2 ^ 31) (hl : lo < 2 ^ 31) (hh : hi < 2 ^ 31) (x y : α) :
    Scalar.select (IntOp.andi (IntOp.cmpi .sge (BitVec.ofNat 32 n) (BitVec.ofNat 32 lo)) (IntOp.cmpi .slt (BitVec.ofNat 32 n) (BitVec.ofNat 32 hi))) x y
      = if lo ≤ n ∧ n < hi then x else y := by
  have e : ∀ k : ℕ, k < 2 ^ 31 → (BitVec.ofNat 32 k).toInt = k := fun k hk => by rw [BitVec.toInt_ofNat', Int.bmod_def]; omega
  have h : ∀ p q : Bool, Scalar.select (IntOp.andi (BitVec.ofBool p) (BitVec.ofBool q)) x y = if p = true ∧ q = true then x else y := by
    intro p q; cases p <;> cases q <;> rfl
  rw [show IntOp.cmpi .sge (BitVec.ofNat 32 n) (BitVec.ofNat 32 lo) = BitVec.ofBool (decide ((BitVec.ofNat 32 lo).toInt ≤ (BitVec.ofNat 32 n).toInt)) from rfl,
    show IntOp.cmpi .slt (BitVec.ofNat 32 n) (BitVec.ofNat 32 hi) = BitVec.ofBool (decide ((BitVec.ofNat 32 n).toInt < (BitVec.ofNat 32 hi).toInt)) from rfl,
    h, e n hn, e lo hl, e hi hh]
  simp

theorem sitofp_zero {φ : FTy} : FloatOps.sitofp (F := Ideal) φ (0#32) = (0 : EReal) := by
  show (((0#32 : BitVec 32).toInt : ℝ) : EReal) = 0
  simp

/-- A left fold by addition is the sum. -/
theorem foldl_add {N : ℕ} (g : Fin N → EReal) : (List.finRange N).foldl (fun s n => s + g n) 0 = ∑ n, g n := by
  rw [Fin.sum_univ_def, List.sum_eq_foldl, List.foldl_map]

theorem ofBits_inf : Ideal.ofBits .f32 0x7F800000#32 = ⊤ := by
  simp [Ideal.ofBits, Ideal.ieee]

/-- The derivative of the soft plus, as its rule writes it with its guards, is the logistic function. -/
theorem softplus_deriv (x : EReal) :
    Ideal.exp ((if x = ⊤ then 0 else x)
      - (if max x 0 + Ideal.log1p (Ideal.exp (-(max x (-x)))) = ⊤ then 0 else max x 0 + Ideal.log1p (Ideal.exp (-(max x (-x))))))
      = Ideal.logistic x := by
  induction x using EReal.rec with
  | bot => simp [Ideal.log1p]
  | top =>
    have h : Ideal.log (1 : EReal) = 0 := by rw [← EReal.coe_one, Ideal.log_coe, if_neg (by norm_num), Real.log_one, EReal.coe_zero]
    have h0 : Ideal.exp (0 : EReal) = 1 := by rw [← EReal.coe_zero, Ideal.exp_coe, Real.exp_zero, EReal.coe_one]
    simp [Ideal.log1p, h, h0]
  | coe x =>
    have h1 : (max (x : EReal) (-(x : EReal))) = ((|x| : ℝ) : EReal) := by rw [← EReal.coe_neg]; exact (EReal.coe_strictMono.monotone.map_max).symm
    have h2 : Ideal.log1p (Ideal.exp (-((|x| : ℝ) : EReal))) = ((Real.log (1 + Real.exp (-|x|)) : ℝ) : EReal) := by
      have hp : 0 < 1 + Real.exp (-|x|) := by positivity
      rw [← EReal.coe_neg, Ideal.exp_coe, Ideal.log1p, ← EReal.coe_one, ← EReal.coe_add, Ideal.log_coe, if_neg (not_le.mpr hp)]
    have h3 : max (x : EReal) 0 = ((max x 0 : ℝ) : EReal) := by exact (EReal.coe_strictMono.monotone.map_max).symm
    rw [h1, h2, h3, ← EReal.coe_add, if_neg (EReal.coe_ne_top _), if_neg (EReal.coe_ne_top _), ← EReal.coe_sub, Ideal.exp_coe, Ideal.logistic_coe]
    congr 1
    have hp : 0 < 1 + Real.exp (-|x|) := by positivity
    rw [show x - (max x 0 + Real.log (1 + Real.exp (-|x|))) = (x - max x 0) - Real.log (1 + Real.exp (-|x|)) by ring, Real.exp_sub, Real.exp_log hp]
    rcases le_total 0 x with h | h
    · rw [max_eq_left h, abs_of_nonneg h, sub_self, Real.exp_zero, one_div]
    · rw [max_eq_right h, abs_of_nonpos h, sub_zero, neg_neg, Real.exp_neg]
      field_simp
      ring

end Cert.Math

end
-- ==== Proof.Gate.Body.lean ====
/-
  The forget-gate backward kernel, one grid point: what its body leaves in the two results' buffers and
  in the carried row, as a function of the blocks it reads.
-/
module

public import proofs.«01_k».proof.Proof.Gen.GateBwdIdeal.Value
public import proofs.«01_k».proof.Proof.Math

@[expose] public section

set_option maxRecDepth 16384

noncomputable section

namespace Cert.GateBwdIdeal.Value

open Cert.GateBwdIdeal Cert.GateBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The block's suffix sums over the carried row: the triangular product of the first of the three parts the
    gradient is split into; the other two parts of a finite element are zero. -/
theorem hpay6 (v9 : FVec Ideal S640x128 .f32) (v25 : FVec Ideal S1x128 .f32) (hv : ∀ k l, Real (v9 (ix2 k l))) (r : Fin 640) (l : Fin 128) :
    k0_pay6 (F := Ideal) v9 v25 (ix2 r l) = ∑ k : Fin 640, (if r.val ≤ k.val then v9 (ix2 k l) else 0) + v25 (ix2 0 l) := by
  pointwise [k0_pay6]
  refine congrArg (· + v25 (ix2 0 l)) ?_
  have hz : ∀ k : Fin 640, v9 (ix2 k l) - v9 (ix2 k l) = 0 := fun k => (hv k l).sub_self
  simp only [hz, sub_zero, mul_zero, Finset.sum_const_zero, add_zero]
  refine Finset.sum_congr rfl fun k _ => ?_
  rw [mask_sge _ _ (by omega) (by omega)]
  split <;> simp

/-- The gradient of the pre-activation: the suffix sum times the logistic of minus the pre-activation. -/
theorem hpay1 (v35 v36 : FVec Ideal S640x128 .f32) (v38 : FVec Ideal S1x128 .f32) (r : Fin 640) (l : Fin 128) :
    k0_pay1 (F := Ideal) v35 v36 v38 (ix2 r l) = v35 (ix2 r l) * Ideal.logistic (0 - (v36 (ix2 r l) + v38 (ix2 0 l))) := by
  pointwise [k0_pay1]

theorem hpay2 (v35 v36 : FVec Ideal S640x128 .f32) (v38 : FVec Ideal S1x128 .f32) (r : Fin 640) (l : Fin 128) :
    k0_pay2 (F := Ideal) v35 v36 v38 (ix2 r l) = v35 (ix2 r l) * Ideal.logistic (0 - (v36 (ix2 r l) + v38 (ix2 0 l))) := by
  pointwise [k0_pay2, k0_pay1]

/-- The bias's gradient: what was there plus the block's column sums. -/
theorem hpay3 (v35 v36 : FVec Ideal S640x128 .f32) (v38 v48 : FVec Ideal S1x128 .f32) (l : Fin 128) :
    k0_pay3 (F := Ideal) v35 v36 v38 v48 (ix2 0 l)
      = v48 (ix2 0 l) + ∑ r : Fin 640, v35 (ix2 r l) * Ideal.logistic (0 - (v36 (ix2 r l) + v38 (ix2 0 l))) := by
  pointwise [k0_pay3, k0_pay1]

theorem hpay4 (l : Fin 128) : k0_pay4 (F := Ideal) (ix2 0 l) = 0 := by pointwise [k0_pay4]
theorem hpay5 (l : Fin 128) : k0_pay5 (F := Ideal) (ix2 0 l) = 0 := by pointwise [k0_pay5]

/-- The carried row becomes the block's first row of suffix sums. -/
theorem hpay7 (v : FVec Ideal S640x128 .f32) (s : View sig .tc .vmem S640x128 .f32) (h1 h2) (l : Fin 128) :
    k0_pay7 (F := Ideal) (s.readCov [⟨Rect.unit ![0, 0] ![640, 128] h1, v⟩] (Rect.unit ![0, 0] ![1, 128] h2).toLoadRect) (ix2 0 l)
      = v (ix2 0 l) := by
  pointwise [k0_pay7]
  rw [View.readCov_eq_canon', View.canon_unit_zero (S := S640x128) (funext fun a => by fin_cases a <;> rfl)]
  refine congrArg v (funext fun a => Fin.ext ?_)
  fin_cases a <;> simp [Rect.unit, LoadRect.idx, Rect.toLoadRect]

theorem idx : ∀ t : Fin cfg0.N, win0_0.index t = ![12 - t.val, 0] ∧ win0_1.index t = ![12 - t.val, 0] ∧ win0_2.index t = ![0, 0] ∧ win0_3.index t = ![12 - t.val, 0] ∧ win0_4.index t = ![0, 0] :=
  (by decide +kernel : ∀ t : Fin grid0.N, _)

/-- The arguments, padded with zeros, at any row number. -/
def D (c : Dev nD) (n : ℕ) (l : Fin 128) : EReal :=
  if h : n < 8208 ∧ l.val < 16 then m ((c : Thread nD τ).loc main_arg2) (ix2 ⟨n, h.1⟩ ⟨l.val, h.2⟩) else 0
def P (c : Dev nD) (n : ℕ) (l : Fin 128) : EReal :=
  if h : n < 8208 ∧ l.val < 16 then m ((c : Thread nD τ).loc main_arg0) (ix2 ⟨n, h.1⟩ ⟨l.val, h.2⟩) else 0
def B (c : Dev nD) (l : Fin 128) : EReal :=
  if h : l.val < 16 then m ((c : Thread nD τ).loc main_arg1) (ix1 ⟨l.val, h⟩) else 0

/-- An argument of the kernel: the rows padded with zeros to whole blocks, the columns to whole lanes. -/
abbrev padded (x : FVec Ideal S8208x16 .f32) : FVec Ideal S8320x128 .f32 :=
  pad S8320x128 ![0, 0] ![112, 112] ![0, 0] x (sitofp .f32 (constantI S_ 32 0#32) : FVec Ideal S_ .f32) pads_S8208x16_S8320x128_01120_01120 h_S_

theorem V_v2 (c : Dev nD) : V m c main_v2 = padded (m ((c : Thread nD τ).loc main_arg2)) := by
  simp only [V, hostOps0, hostOps0_1, hostOps0_2, hostOps0_3, hostOps0_4, hostOps0_5, List.flatten_cons, List.flatten_nil, List.cons_append, List.nil_append]
  after_results_simp
  rfl

theorem V_v3 (c : Dev nD) : V m c main_v3 = padded (m ((c : Thread nD τ).loc main_arg0)) := by
  simp only [V, hostOps0, hostOps0_1, hostOps0_2, hostOps0_3, hostOps0_4, hostOps0_5, List.flatten_cons, List.flatten_nil, List.cons_append, List.nil_append]
  after_results_simp
  rfl

theorem V_v1 (c : Dev nD) : V m c main_v1 = broadcastInDim S1x128 ![1] bcast_S128_S1x128_1 (pad S128 ![0] ![112] ![0] (m ((c : Thread nD τ).loc main_arg1) : FVec Ideal S16 .f32) (sitofp .f32 (constantI S_ 32 0#32) : FVec Ideal S_ .f32) pads_S16_S128_01120 h_S_) := by
  simp only [V, hostOps0, hostOps0_1, hostOps0_2, hostOps0_3, hostOps0_4, hostOps0_5, List.flatten_cons, List.flatten_nil, List.cons_append, List.nil_append]
  after_results_simp
  rfl

theorem padded_apply (x : FVec Ideal S8208x16 .f32) (r : Fin 8320) (l : Fin 128) : padded x (ix2 r l) = if h : r.val < 8208 ∧ l.val < 16 then x (ix2 ⟨r, h.1⟩ ⟨l, h.2⟩) else 0 := by
  pointwise [padded]
  rw [sitofp_zero]

theorem bias_apply (x : FVec Ideal S16 .f32) (l : Fin 128) :
    broadcastInDim S1x128 ![1] bcast_S128_S1x128_1 (pad S128 ![0] ![112] ![0] x (sitofp .f32 (constantI S_ 32 0#32) : FVec Ideal S_ .f32) pads_S16_S128_01120 h_S_) (ix2 0 l)
      = if h : l.val < 16 then x (ix1 ⟨l, h⟩) else 0 := by
  pointwise
  rw [sitofp_zero]

theorem lt_N (t : Fin cfg0.N) : t.val < 13 := lt_of_lt_of_eq t.isLt (show cfg0.N = 13 from N_0)

/-- The blocks a grid point reads, at their own types. -/
abbrev blkD (c : Dev nD) (t : Fin cfg0.N) : FVec Ideal S640x128 .f32 := iblk m c 0 t
abbrev blkP (c : Dev nD) (t : Fin cfg0.N) : FVec Ideal S640x128 .f32 := iblk m c 1 t
abbrev blkB (c : Dev nD) (t : Fin cfg0.N) : FVec Ideal S1x128 .f32 := iblk m c 2 t

theorem iblk0 (c : Dev nD) (t : Fin cfg0.N) (r : Fin 640) (l : Fin 128) :
    blkD m c t (ix2 r l) = D m c ((12 - t.val) * 640 + r.val) l := by
  have hN := lt_N t
  have e : blkD m c t (ix2 r l) = (V m c main_v2 : FVec Ideal S8320x128 .f32) (ix2 ⟨(12 - t.val) * 640 + r.val, by omega⟩ l) := by
    blk_ext [blkD, blkP, blkB, iblk, idx t]
  rw [e, V_v2, padded_apply]; rfl

theorem iblk1 (c : Dev nD) (t : Fin cfg0.N) (r : Fin 640) (l : Fin 128) :
    blkP m c t (ix2 r l) = P m c ((12 - t.val) * 640 + r.val) l := by
  have hN := lt_N t
  have e : blkP m c t (ix2 r l) = (V m c main_v3 : FVec Ideal S8320x128 .f32) (ix2 ⟨(12 - t.val) * 640 + r.val, by omega⟩ l) := by
    blk_ext [blkD, blkP, blkB, iblk, idx t]
  rw [e, V_v3, padded_apply]; rfl

theorem iblk2 (c : Dev nD) (t : Fin cfg0.N) (l : Fin 128) : blkB m c t (ix2 0 l) = B m c l := by
  have e : blkB m c t (ix2 0 l) = (V m c main_v1 : FVec Ideal S1x128 .f32) (ix2 0 l) := by
    blk_ext [blkD, blkP, blkB, iblk, idx t]
  rw [e, V_v1, bias_apply]; rfl

/-- The sum of the gradients from a row on, over the padded rows. -/
def suffix (c : Dev nD) (k : ℕ) (l : Fin 128) : EReal := ∑ j ∈ Finset.Ico k 8320, D m c j l

/-- The gradient of the pre-activation at a padded row. -/
def grad (c : Dev nD) (k : ℕ) (l : Fin 128) : EReal := suffix m c k l * Ideal.logistic (0 - (P m c k l + B m c l))

/-- A block's suffix sums, given the suffix sum after the block. -/
theorem sums_at (c : Dev nD) (hD : ∀ k l, Real (D m c k l)) (t : Fin cfg0.N) (v : FVec Ideal S1x128 .f32)
    (hv : ∀ l, v (ix2 0 l) = suffix m c ((12 - t.val) * 640 + 640) l) (r : Fin 640) (l : Fin 128) :
    k0_pay6 (F := Ideal) (blkD m c t) v (ix2 r l) = suffix m c ((12 - t.val) * 640 + r.val) l := by
  have hN := lt_N t
  rw [hpay6 _ _ (fun k l => by rw [iblk0]; exact hD _ _), hv]
  simp only [iblk0]
  rw [sum_suffix_block (fun j => D m c j l)]
  exact Finset.sum_Ico_consecutive _ (by omega) (by omega)

end Cert.GateBwdIdeal.Value

end
-- ==== Proof.Gate.Run.lean ====
/-
  The forget-gate backward kernel: its two result arrays after the run.
-/
module

public import proofs.«01_k».proof.Proof.Gate.Body
public import Idealize.ShloMosaic.Lib.Pipeline.ReadBack

@[expose] public section

set_option maxRecDepth 16384

noncomputable section

namespace Cert.GateBwdIdeal.Value

open Cert.GateBwdIdeal Cert.GateBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The block's gradients and their column sums, from its suffix sums. -/
theorem grads_at (c : Dev nD) (t : Fin cfg0.N) (v : FVec Ideal S640x128 .f32)
    (hv : ∀ r l, v (ix2 r l) = suffix m c ((12 - t.val) * 640 + r.val) l) (r : Fin 640) (l : Fin 128) :
    v (ix2 r l) * Ideal.logistic (0 - (blkP m c t (ix2 r l) + blkB m c t (ix2 0 l)))
      = grad m c ((12 - t.val) * 640 + r.val) l := by
  rw [hv, iblk1, iblk2]; rfl

/-- What point `n` leaves: the block's gradients, the column sums from the block on, and the suffix sum from the block on. -/
def Left (c : Dev nD) (n : ℕ) (o : Vec Ideal S640x128 .bf16 × Vec Ideal S1x128 .f32 × Vec Ideal S1x128 .f32) : Prop :=
  (∀ r l, o.1 (ix2 r l) = grad m c ((12 - n) * 640 + r.val) l) ∧
  (∀ l, o.2.1 (ix2 0 l) = ∑ k ∈ Finset.Ico ((12 - n) * 640) 8320, grad m c k l) ∧
  ∀ l, o.2.2 (ix2 0 l) = suffix m c ((12 - n) * 640) l

theorem left_of (c : Dev nD) (hD : ∀ k l, Real (D m c k l)) (t : Fin cfg0.N) (v : FVec Ideal S1x128 .f32) (w : FVec Ideal S1x128 .f32)
    (hv : ∀ l, v (ix2 0 l) = suffix m c ((12 - t.val) * 640 + 640) l)
    (hw : ∀ l, w (ix2 0 l) = ∑ k ∈ Finset.Ico ((12 - t.val) * 640 + 640) 8320, grad m c k l) :
    (∀ r l, k0_pay2 (F := Ideal) (k0_pay6 (F := Ideal) (blkD m c t) v) (blkP m c t) (blkB m c t) (ix2 r l) = grad m c ((12 - t.val) * 640 + r.val) l) ∧
    (∀ l, k0_pay3 (F := Ideal) (k0_pay6 (F := Ideal) (blkD m c t) v) (blkP m c t) (blkB m c t) w (ix2 0 l) = ∑ k ∈ Finset.Ico ((12 - t.val) * 640) 8320, grad m c k l) ∧
    ∀ l, k0_pay6 (F := Ideal) (blkD m c t) v (ix2 0 l) = suffix m c ((12 - t.val) * 640) l := by
  have hN := lt_N t
  have h6 := sums_at m c hD t v hv
  refine ⟨fun r l => ?_, fun l => ?_, fun l => ?_⟩
  · rw [hpay2]; exact grads_at m c t _ h6 r l
  · rw [hpay3, hw]
    simp only [grads_at m c t _ h6]
    exact sum_block_add (fun k => grad m c k l) 640 _ 8320 (by omega)
  · exact (h6 0 l).trans (by simp)

theorem left (c : Dev nD) (hD : ∀ k l, Real (D m c k l)) : ∀ (n : ℕ) (hn : n < cfg0.N), Left m c n (outsAt0 m c n hn) := by
  intro n
  induction n with
  | zero =>
    intro hn
    have h := left_of m c hD ⟨0, hn⟩ (k0_pay4 (F := Ideal)) (k0_pay5 (F := Ideal)) (fun l => by rw [hpay4]; simp [suffix]) (fun l => by rw [hpay5]; simp)
    rw [outsAt0_A m c ⟨0, hn⟩ (Nat.zero_mod _)]
    refine ⟨fun r l => ?_, fun l => ?_, fun l => ?_⟩
    · dsimp only; frame_out; exact h.1 r l
    · dsimp only; frame_out; exact h.2.1 l
    · dsimp only; frame_out; rw [hpay7]; exact h.2.2 l
  | succ n ih =>
    intro hn
    obtain ⟨i1, i2, i3⟩ := ih (by omega)
    have hN := lt_N ⟨n + 1, hn⟩
    dsimp only at hN
    have e : (12 - (n + 1)) * 640 + 640 = (12 - n) * 640 := by omega
    have h := left_of m c hD ⟨n + 1, hn⟩ (outsAt0 m c n (by omega)).2.2 (outsAt0 m c n (by omega)).2.1 (fun l => by rw [i3]; exact congrArg (suffix m c · l) e.symm) (fun l => by rw [i2]; dsimp only; rw [e])
    rw [outsAt0_B m c ⟨n + 1, hn⟩ (by dsimp only; omega)]
    refine ⟨fun r l => ?_, fun l => ?_, fun l => ?_⟩
    · dsimp only; frame_out; rw [read_unread_whole]; exact h.1 r l
    · dsimp only; frame_out; rw [read_unread_whole]; exact h.2.1 l
    · dsimp only; frame_out; rw [hpay7, read_unread_whole]; exact h.2.2 l

/-- The gradients' array, and the bias's row, as functions of the arguments. -/
def Grads (c : Dev nD) : FVec Ideal S8320x128 .bf16 := fun j => grad m c (j 0).val (j 1)
def Bias (c : Dev nD) : FVec Ideal S1x128 .f32 := fun j => ∑ k ∈ Finset.Ico 0 8320, grad m c k (j 1)

theorem final3 (c : Dev nD) (hD : ∀ k l, Real (D m c k l)) : (dats m 0 c).arrAt 3 cfg0.N = Grads m c := by
  refine (dats m 0 c).arrAt_eq_of_covers 3 _ (by decide +kernel) fun t _ y => ?_
  blk_simp
  rw [after0_3]
  idx_vars y
  refine ((left m c hD t.val t.isLt).1 y0 y1).trans ?_
  have hN := lt_N t
  have e : ((View.whole main_v4_0).slice (win0_3.rect t)).emb (ix2 y0 y1) = (ix2 ⟨(12 - t.val) * 640 + y0.val, by omega⟩ y1 : S8320x128.Idx) := by
    blk_ext [idx t]
  rw [e]; rfl

theorem final4 (c : Dev nD) (hD : ∀ k l, Real (D m c k l)) : (dats m 0 c).arrAt 4 cfg0.N = Bias m c := by
  refine (dats m 0 c).arrAt_eq_of_after_last 4 t0_12 (by decide +kernel) _ fun j => ?_
  blk_simp
  rw [after0_4]
  idx_vars j
  obtain rfl : j0 = 0 := Subsingleton.elim _ _
  have h := (left m c hD t0_12.val t0_12.isLt).2.1 j1
  rw [show (12 - t0_12.val) * 640 = 0 from rfl] at h
  exact h

end Cert.GateBwdIdeal.Value

end
-- ==== Proof.RevSum.lean ====
/-
  A reversed running sum along the rows of an array, as the host's windowed sum states it, read at an index.
-/
module

public import proofs.«01_k».proof.Proof.Math

@[expose] public section

noncomputable section

namespace Cert.Math

open Idealize.ShloMosaic

/-- Windows of all rows, padded after the last: element `r` is the sum of the rows from `r` on. -/
theorem revsum {n k e : ℕ} {φ : FTy} (x : FVec Ideal ⟨2, ![n, k]⟩ φ) (z : FVec Ideal ⟨0, ![]⟩ φ)
    (h : (⟨2, ![n, k]⟩ : Shape).ReduceWindows ![n, 1] ![1, 1] ![0, 0] ![e, 0] ⟨2, ![n, k]⟩) (hu : 0 < (⟨0, ![]⟩ : Shape).numel)
    (hz : ∀ i, z i = (0 : EReal)) (X : ℕ → EReal) (r : Fin n) (l : Fin k) (hX : ∀ i : Fin n, x (ix2 i l) = X i.val) :
    (Host.reduceWindowAdd ![n, 1] ![1, 1] ![0, 0] ![e, 0] x z h hu : FVec Ideal ⟨2, ![n, k]⟩ φ) (ix2 r l) = ∑ i ∈ Finset.Ico r.val n, X i := by
  let W : Shape := ⟨2, ![n, 1]⟩
  let G : W.Idx → EReal := fun p => if r.val + (p 0).val < n then X (r.val + (p 0).val) else 0
  have h1 : (Host.reduceWindowAdd ![n, 1] ![1, 1] ![0, 0] ![e, 0] x z h hu : FVec Ideal ⟨2, ![n, k]⟩ φ) (ix2 r l)
      = (List.finRange W.numel).foldl (fun s n => s + G (W.rowMajor.symm n)) 0 := by
    show (List.finRange W.numel).foldl _ (z _) = _
    rw [hz]
    congr 1
    funext s q
    refine congrArg (s + ·) ?_
    have hp1 : (W.rowMajor.symm q 1).val = 0 := by
      have : (W.rowMajor.symm q 1).val < 1 := (W.rowMajor.symm q 1).isLt
      omega
    by_cases hr : r.val + (W.rowMajor.symm q 0).val < n
    · rw [show G (W.rowMajor.symm q) = _ from if_pos hr]
      refine (dif_pos (by
        intro a
        fin_cases a
        · exact ⟨Nat.zero_le _, by simpa using hr⟩
        · refine ⟨Nat.zero_le _, ?_⟩
          show l.val * 1 + (W.rowMajor.symm q 1).val - 0 < k
          rw [hp1]; simp)).trans ((congrArg x ?_).trans (hX ⟨_, hr⟩))
      funext a
      fin_cases a
      · apply Fin.ext; show r.val * 1 + (W.rowMajor.symm q 0).val - 0 = _; simp
      · apply Fin.ext; show l.val * 1 + (W.rowMajor.symm q 1).val - 0 = _; rw [hp1]; simp
    · rw [show G (W.rowMajor.symm q) = _ from if_neg hr]
      refine (dif_neg (by
        intro hin
        have := (hin 0).2
        apply hr
        have e : r.val * 1 + (W.rowMajor.symm q 0).val - 0 < n := this
        simpa using e)).trans (hz (Shape.Idx.first hu) ▸ rfl)
  rw [h1, foldl_add, Equiv.sum_comp W.rowMajor.symm G]
  have h2 : ∑ p : W.Idx, G p = ∑ k : Fin n, if r.val + k.val < n then X (r.val + k.val) else 0 := by
    refine (Fintype.sum_bijective (fun k : Fin n => (ix2 k 0 : W.Idx)) ?_ _ _ fun k => rfl).symm
    constructor
    · intro a b h; exact congrFun h 0
    · intro p
      refine ⟨p 0, ?_⟩
      funext a
      fin_cases a
      · rfl
      · exact Subsingleton.elim (α := Fin 1) _ _
  rw [h2, Fin.sum_univ_eq_sum_range (fun k => if r.val + k < n then X (r.val + k) else 0) n, ← Finset.sum_filter, Finset.sum_Ico_eq_sum_range]
  refine Finset.sum_congr ?_ fun _ _ => rfl
  ext j
  simp only [Finset.mem_filter, Finset.mem_range]
  omega

end Cert.Math

end
-- ==== Proof.Gate.Ref.lean ====
/-
  The forget-gate backward reference read at an index: the reversed running sum is the sum from the row on, and the
  derivative of log-sigmoid is the logistic of minus its argument.
-/
module

public import proofs.«01_k».proof.Proof.Gen.GateRefIdeal.Read
public import proofs.«01_k».proof.Proof.RevSum
public import Idealize.ShloMosaic.Lib.Pipeline.ValueKit
public import Idealize.ShloMosaic.Lib.Pointwise

@[expose] public section

set_option maxRecDepth 16384

noncomputable section

namespace Cert.GateRefIdeal.Read

open Cert.GateRefIdeal Cert.GateRefIdeal.Gen Idealize.ShloMosaic Idealize.ShloMosaic.TcCoe Idealize.SL.Sem
open Cert.Math

theorem v3_1_apply (x0 : FVec Ideal S8208x16 .f32) (x1 : FVec Ideal S16 .f32) (r : Fin 8208) (l : Fin 16) :
    val_main_v3_1 (F := Ideal) x0 x1 (ix2 r l) = Ideal.logistic (0 - (x0 (ix2 r l) + x1 (ix1 l))) := by
  pointwise [val_main_v3_1, val_main_call0_call0_v21, val_main_call0_call0_v16, val_main_call0_call0_v20, val_main_call0_v1_0, val_main_call0_v0, val_main_v2, val_main_v1, val_main_v0, val_main_call0_call0_v18, val_main_call0_call0_v14, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v0, val_main_call0_call0_v5, val_main_call0_call0_v13, val_main_call0_call0_v15, val_main_call0_call0_v17, val_main_call0_call0_v19, val_main_call0_call0_cst, val_main_call0_call0_cst_0, val_main_call0_call0_cst_1, val_main_call0_call0_cst_2, val_main_call0_call0_cst_3]
  rw [ofBits_inf, zero_sub]
  generalize -(x0 (ix2 r l) + x1 (ix1 l)) = x
  simp only [ne_eq, not_true_eq_false, if_false]
  exact softplus_deriv x

theorem v5_apply (x2 : FVec Ideal S8208x16 .f32) (X : ℕ → EReal) (r : Fin 8208) (l : Fin 16) (hX : ∀ i : Fin 8208, x2 (ix2 i l) = X i.val) :
    val_main_v5 (F := Ideal) x2 (ix2 r l) = ∑ i ∈ Finset.Ico r.val 8208, X i :=
  revsum x2 _ _ _ (fun i => by pointwise [val_main_call2_call0_v0, val_main_call2_call0_cst]) X r l hX

theorem v11_apply (x0 : FVec Ideal S8208x16 .f32) (x1 : FVec Ideal S16 .f32) (x2 : FVec Ideal S8208x16 .f32) (r : Fin 8320) (l : Fin 128) :
    val_main_v11 (F := Ideal) x0 x1 x2 (ix2 r l)
      = if h : r.val < 8208 ∧ l.val < 16 then val_main_v5 (F := Ideal) x2 (ix2 ⟨r, h.1⟩ ⟨l, h.2⟩) * Ideal.logistic (0 - (x0 (ix2 ⟨r, h.1⟩ ⟨l, h.2⟩) + x1 (ix1 ⟨l, h.2⟩))) else 0 := by
  pointwise [val_main_v11, val_main_v10, val_main_call4_v0, val_main_v6, val_main_c,  val_main_call3_v1, val_main_call3_v0]
  rw [sitofp_zero]
  simp only [v3_1_apply, EReal.neg_mul, neg_neg]

theorem v13_apply (x0 : FVec Ideal S8208x16 .f32) (x1 : FVec Ideal S16 .f32) (x2 : FVec Ideal S8208x16 .f32) (r : Fin 1) (l : Fin 128) :
    val_main_v13 (F := Ideal) x0 x1 x2 (ix2 r l)
      = if h : l.val < 16 then ∑ k : Fin 8208, val_main_v5 (F := Ideal) x2 (ix2 k ⟨l, h⟩) * Ideal.logistic (0 - (x0 (ix2 k ⟨l, h⟩) + x1 (ix1 ⟨l, h⟩))) else 0 := by
  pointwise [val_main_v13, val_main_call5_v0, val_main_v12, val_main_v9, val_main_v8, val_main_v7, val_main_v6, val_main_c_1, val_main_cst, val_main_cst_0, val_main_call3_v1, val_main_call3_v0]
  rw [sitofp_zero]
  simp only [v3_1_apply, EReal.neg_mul, neg_neg, Fin.sum_univ_one, Finset.univ_unique, Finset.sum_singleton]

end Cert.GateRefIdeal.Read

end
-- ==== Proof.Gate.Claim.lean ====
/-
  The forget-gate backward kernel against its reference, on equal arguments, the incoming gradient finite.
-/
module

public import proofs.«01_k».proof.Proof.Gate.Run
public import proofs.«01_k».proof.Proof.Gate.Ref
public import Idealize.ShloMosaic.Lib.Pipeline.ReadBack

@[expose] public section

set_option maxRecDepth 16384

noncomputable section

namespace Cert.GateBwdIdeal.Value

open Cert.GateBwdIdeal Cert.GateBwdIdeal.Gen Idealize.ShloMosaic Idealize.ShloMosaic.TcCoe Idealize.SL.Sem
open Idealize.ShloMosaic.Pipeline (Dat)
open Cert.Math

open Cert.GateRefIdeal.Read

variable (m : (ℓ : Loc nD τ sig) → Buf (Elt Ideal) ℓ)

/-- The arguments at their own types. -/
abbrev aPre (c : Dev nD) : FVec Ideal S8208x16 .f32 := m ((c : Thread nD τ).loc main_arg0)
abbrev aB (c : Dev nD) : FVec Ideal S16 .f32 := m ((c : Thread nD τ).loc main_arg1)
abbrev aDc (c : Dev nD) : FVec Ideal S8208x16 .f32 := m ((c : Thread nD τ).loc main_arg2)

/-- Past the argument's last row, and off its lanes, the padded gradient adds nothing. -/
theorem suffix_eq (c : Dev nD) (k : ℕ) (hk : k < 8208) (l : Fin 128) : suffix m c k l = ∑ j ∈ Finset.Ico k 8208, D m c j l := by
  unfold suffix
  rw [← Finset.sum_Ico_consecutive _ (show k ≤ 8208 by omega) (show 8208 ≤ 8320 by omega)]
  rw [Finset.sum_eq_zero (s := Finset.Ico 8208 8320) (fun j hj => ?_), add_zero]
  exact dif_neg (fun h => by have := (Finset.mem_Ico.mp hj).1; omega)

theorem suffix_zero (c : Dev nD) (k : ℕ) (l : Fin 128) (h : ¬ (k < 8208 ∧ l.val < 16)) : suffix m c k l = 0 := by
  refine Finset.sum_eq_zero fun j hj => dif_neg fun h' => h ⟨?_, h'.2⟩
  have := (Finset.mem_Ico.mp hj).1
  omega

theorem grad_zero (c : Dev nD) (k : ℕ) (l : Fin 128) (h : ¬ (k < 8208 ∧ l.val < 16)) : grad m c k l = 0 := by
  unfold grad; rw [suffix_zero m c k l h, zero_mul]

theorem grad_eq (c : Dev nD) (k : Fin 8208) (l : Fin 128) (hl : l.val < 16) :
    grad m c k l = val_main_v5 (F := Ideal) (aDc m c) (ix2 k ⟨l, hl⟩)
      * Ideal.logistic (0 - (aPre m c (ix2 k ⟨l, hl⟩) + aB m c (ix1 ⟨l, hl⟩))) := by
  rw [v5_apply (aDc m c) (fun i => D m c i l) k ⟨l, hl⟩ (fun i => (show D m c i l = _ from dif_pos (And.intro i.isLt hl)).symm)]
  unfold grad
  rw [suffix_eq m c k k.isLt l, show P m c k l = _ from dif_pos ⟨k.isLt, hl⟩, show B m c l = _ from dif_pos hl]

theorem grads_ref (c : Dev nD) : Grads m c = val_main_v11 (F := Ideal) (aPre m c) (aB m c) (aDc m c) := by
  funext j
  idx_vars j
  refine Eq.trans ?_ (v11_apply _ _ _ j0 j1).symm
  show grad m c j0 j1 = _
  split
  · next h => exact grad_eq m c ⟨j0, h.1⟩ j1 h.2
  · next h => exact grad_zero m c j0 j1 h

theorem bias_ref (c : Dev nD) : Bias m c = val_main_v13 (F := Ideal) (aPre m c) (aB m c) (aDc m c) := by
  funext j
  idx_vars j
  refine Eq.trans ?_ (v13_apply _ _ _ j0 j1).symm
  show ∑ k ∈ Finset.Ico 0 8320, grad m c k j1 = _
  split
  · next h =>
    rw [← Finset.sum_Ico_consecutive _ (show 0 ≤ 8208 by omega) (show 8208 ≤ 8320 by omega)]
    rw [Finset.sum_eq_zero (s := Finset.Ico 8208 8320) (fun k hk => grad_zero m c k j1 (fun h' => by have := (Finset.mem_Ico.mp hk).1; omega)), add_zero,
      ← Finset.range_eq_Ico, ← Fin.sum_univ_eq_sum_range (fun k => grad m c k j1) 8208]
    exact Finset.sum_congr rfl fun k _ => grad_eq m c k j1 h
  · next h => exact Finset.sum_eq_zero fun k _ => grad_zero m c k j1 fun h' => h h'.2

end Cert.GateBwdIdeal.Value

end
-- ==== Proof.Gate.Conjuncts.lean ====
/-
  The claims about the forget-gate backward kernel and its reference.
-/
module

public import proofs.«01_k».proof.Defs
public import proofs.«01_k».proof.Proof.Gate.Claim
public import proofs.«01_k».proof.Proof.Gen.GateBwd.Frame
public import proofs.«01_k».proof.Proof.Gen.Pre_gate_finite
public import Idealize.ShloMosaic.Lib.Claim
public import Idealize.ShloMosaic.Lib.ReduceAll

@[expose] public section

set_option maxRecDepth 16384

noncomputable section

namespace Cert.Gate

open Idealize.ShloMosaic Idealize.ShloMosaic.TcCoe Idealize.SL.Sem

theorem frame_bits : Cert.quiescent_GateBwd := fun m ρ _ => Cert.GateBwd.Gen.frame m ρ
theorem frame_ideal : Cert.quiescent_GateBwdIdeal := fun m ρ _ => Cert.GateBwdIdeal.Gen.frame m ρ
theorem frame_ideal_pre : Cert.quiescent_GateBwdIdeal_pre_gate_finite := fun m ρ _ => Cert.GateBwdIdeal.Gen.frame m ρ
theorem frame_ref : Cert.quiescent_GateRefIdeal := fun m g _ =>
  (θ_run Cert.GateRefIdeal.defs _ _).mono (fun r h => ⟨fun c => (h c).2.2, sem_eq_zero_of_no_sems (by decide) r.2⟩)
    (Cert.GateRefIdeal.Value.run (F := Ideal) m g)
theorem frame_ref_pre : Cert.quiescent_GateRefIdeal_pre_gate_finite := fun m g _ => frame_ref m g trivial

open Cert.GateBwdIdeal Cert.GateBwdIdeal.Value in
/-- Under the precondition every element of the incoming gradient, padded, is a real number. -/
theorem finite (m : (ℓ : Loc nD τ sig) → Buf (Elt Ideal) ℓ) (h : Cert.Pre_GateBwdIdeal_gate_finite m) (c : Dev nD) (k : ℕ) (l : Fin 128) :
    Math.Real (D m c k l) := by
  have h1 := h c
  unfold D
  split
  · next hk =>
    have e := Host.reduce_andi_all _ _ _ _ _ (congrFun h1 (fun a => a.elim0)) (ix2 ⟨k, hk.1⟩ ⟨l.val, hk.2⟩)
    exact Math.Real.of_cmp _ _ _ Math.ofBits_inf e
  · exact Math.Real.zero

open Cert.GateBwdIdeal.Value in
theorem value : Cert.algebraic_GateBwdIdeal_GateRefIdeal_pre_gate_finite := by
  pair_intro
  · run_from Cert.GateBwdIdeal.Gen.run_main m g
    · exact Cert.GateBwdIdeal.Gen.V_main_arg0 m c
    · exact Cert.GateBwdIdeal.Gen.V_main_arg1 m c
    · exact Cert.GateBwdIdeal.Gen.V_main_arg2 m c
  · run_from Cert.GateRefIdeal.Value.run m' g'
    · rw [Cert.GateRefIdeal.Read.val_main_v11_eq, (hagree c).1, (hagree c).2.1, (hagree c).2.2]
      exact ((final3 m c (finite m hpre c)).trans (grads_ref m c)).symm
    · rw [Cert.GateRefIdeal.Read.val_main_v13_eq, (hagree c).1, (hagree c).2.1, (hagree c).2.2]
      exact ((final4 m c (finite m hpre c)).trans (bias_ref m c)).symm

end Cert.Gate

end
-- ==== Proof.LayerNorm.lean ====
/-
  The derivative of a layer norm over one row of real numbers: the compact form the kernels compute, and the form
  that differentiating the norm line by line gives, are equal.
-/
module

public import proofs.«01_k».proof.Proof.Math

@[expose] public section

set_option maxRecDepth 16384

noncomputable section

namespace Cert.LN

open Idealize.ShloMosaic Cert.Math

variable {n : ℕ} (N E : EReal)

def mean (f : Fin n → EReal) : EReal := Ideal.div (∑ k, f k) N
def xc (z : Fin n → EReal) (j : Fin n) : EReal := z j - mean N z
def rstd (z : Fin n → EReal) : EReal := Ideal.rsqrt (mean N (fun k => xc N z k * xc N z k) + E)
def xhat (z : Fin n → EReal) (j : Fin n) : EReal := xc N z j * rstd N E z

/-- The gradient at the row, as the kernels compute it. -/
def dz (g z dy : Fin n → EReal) (j : Fin n) : EReal :=
  rstd N E z * ((dy j * g j - mean N (fun k => dy k * g k)) - xhat N E z j * mean N (fun k => dy k * g k * xhat N E z k))

/-- The gradient at the row, as the derivative of the norm's lines composes it: the mean's and the variance's
    cotangents spread over the row. `H` is the constant minus one half. -/
def spread (H : EReal) (z d : Fin n → EReal) : EReal :=
  Ideal.div ((∑ k, xc N z k * d k) * (H * Ideal.div (rstd N E z) (mean N (fun k => xc N z k * xc N z k) + E))) N
def pulled (H : EReal) (z d : Fin n → EReal) (j : Fin n) : EReal :=
  d j * rstd N E z + xc N z j * spread N E H z d + spread N E H z d * xc N z j
def dzLines (H : EReal) (z d : Fin n → EReal) (j : Fin n) : EReal :=
  pulled N E H z d j + Ideal.div (∑ k, -(pulled N E H z d k)) N

/-- A row of real numbers. -/
theorem lift {ι : Type} {f : ι → EReal} (h : ∀ k, Real (f k)) : ∃ f' : ι → ℝ, f = fun k => (f' k : EReal) :=
  ⟨fun k => (h k).choose, funext fun k => (h k).choose_spec⟩

section Reals
variable {a e : ℝ} (hN : N = (a : EReal)) (ha : a ≠ 0) (hE : E = (e : EReal)) (he : 0 < e)

/-- The mean, the centred row, the inverse deviation and the normalized row over the reals. -/
def meanR (a : ℝ) (f : Fin n → ℝ) : ℝ := (∑ k, f k) * (1 / a)
def xcR (a : ℝ) (z : Fin n → ℝ) (j : Fin n) : ℝ := z j - meanR a z
def varR (a e : ℝ) (z : Fin n → ℝ) : ℝ := meanR a (fun k => xcR a z k * xcR a z k) + e
def rstdR (a e : ℝ) (z : Fin n → ℝ) : ℝ := (Real.sqrt (varR a e z))⁻¹

include hN ha in
theorem mean_coe (f : Fin n → ℝ) : mean N (fun k => (f k : EReal)) = (meanR a f : EReal) := by
  rw [mean, hN, Ideal.div_coe ha, ← coe_sum, ← EReal.coe_mul]; rfl

include hN ha in
theorem xc_coe (z : Fin n → ℝ) (j : Fin n) : xc N (fun k => (z k : EReal)) j = (xcR a z j : EReal) := by
  rw [xc, mean_coe N hN ha, ← EReal.coe_sub]; rfl

include hN ha hE in
theorem var_coe (z : Fin n → ℝ) :
    mean N (fun k => xc N (fun k => (z k : EReal)) k * xc N (fun k => (z k : EReal)) k) + E = (varR a e z : EReal) := by
  simp only [xc_coe N hN ha, ← EReal.coe_mul]
  rw [mean_coe N hN ha, hE, ← EReal.coe_add]; rfl

theorem varR_pos (hp : 0 < a) (he : 0 < e) (z : Fin n → ℝ) : 0 < varR a e z := by
  have : 0 ≤ meanR a (fun k => xcR a z k * xcR a z k) :=
    mul_nonneg (Finset.sum_nonneg fun k _ => mul_self_nonneg _) (by positivity)
  unfold varR; linarith

include hN hE he in
theorem rstd_coe (hp : 0 < a) (z : Fin n → ℝ) : rstd N E (fun k => (z k : EReal)) = (rstdR a e z : EReal) := by
  have h := varR_pos hp he z
  rw [rstd, var_coe N E hN hp.ne' hE, Ideal.rsqrt_coe, if_neg (not_lt.mpr h.le), if_neg h.ne']; rfl

theorem rstdR_sq (hp : 0 < a) (he : 0 < e) (z : Fin n → ℝ) : rstdR a e z * rstdR a e z * varR a e z = 1 := by
  have h := varR_pos hp he z
  have h2 : Real.sqrt (varR a e z) ≠ 0 := (Real.sqrt_pos.mpr h).ne'
  have h3 := Real.mul_self_sqrt h.le
  unfold rstdR
  field_simp
  rw [pow_two]; exact h3.symm

theorem sum_xcR (hp : 0 < a) (hn : a = n) (z : Fin n → ℝ) : ∑ k, xcR a z k = 0 := by
  simp only [xcR, Finset.sum_sub_distrib, Finset.sum_const, Finset.card_univ, Fintype.card_fin, nsmul_eq_mul, meanR, ← hn]
  field_simp
  ring

/-- The gradient over the reals. -/
def dzR (a e : ℝ) (z d : Fin n → ℝ) (j : Fin n) : ℝ :=
  rstdR a e z * ((d j - meanR a d) - xcR a z j * rstdR a e z * meanR a (fun k => d k * (xcR a z k * rstdR a e z)))

include hN hE he in
theorem dz_coe (hp : 0 < a) (g z dy : Fin n → ℝ) (j : Fin n) :
    dz N E (fun k => (g k : EReal)) (fun k => (z k : EReal)) (fun k => (dy k : EReal)) j = (dzR a e z (fun k => dy k * g k) j : EReal) := by
  simp only [dz, xhat, xc_coe N hN hp.ne', rstd_coe N E hN hE he hp, ← EReal.coe_mul]
  simp only [mean_coe N hN hp.ne', ← EReal.coe_mul, ← EReal.coe_sub]
  rfl

theorem lines_real (hp : 0 < a) (hn : a = n) (he : 0 < e) (z d : Fin n → ℝ) (j : Fin n) (w : ℝ)
    (hw : w = (∑ k, xcR a z k * d k) * (-(1 / 2) * (rstdR a e z * (1 / varR a e z))) * (1 / a)) :
    d j * rstdR a e z + xcR a z j * w + w * xcR a z j
      + (∑ k, -(d k * rstdR a e z + xcR a z k * w + w * xcR a z k)) * (1 / a) = dzR a e z d j := by
  have hv := (varR_pos hp he z).ne'
  have h1 : 1 / varR a e z = rstdR a e z * rstdR a e z := by
    rw [div_eq_iff hv]; exact (rstdR_sq hp he z).symm
  have h2 : ∑ k, -(d k * rstdR a e z + xcR a z k * w + w * xcR a z k) = -((∑ k, d k) * rstdR a e z) := by
    have : ∀ k, -(d k * rstdR a e z + xcR a z k * w + w * xcR a z k) = -(d k * rstdR a e z) + (-(2 * w)) * xcR a z k := fun k => by ring
    simp only [this, Finset.sum_add_distrib, ← Finset.mul_sum, sum_xcR hp hn, Finset.sum_neg_distrib, ← Finset.sum_mul]
    ring
  have h3 : ∑ k, d k * (xcR a z k * rstdR a e z) = (∑ k, xcR a z k * d k) * rstdR a e z := by
    rw [Finset.sum_mul]; exact Finset.sum_congr rfl fun k _ => by ring
  rw [h2, hw, h1, dzR]
  simp only [meanR, h3]
  ring

include hN hE he in
/-- On rows of real numbers the two forms of the gradient agree. -/
theorem dzLines_eq (hp : 0 < a) (hn : a = n) {H : EReal} (hH : H = ((-(1 / 2) : ℝ) : EReal)) (g z dy : Fin n → EReal)
    (hg : ∀ k, Real (g k)) (hz : ∀ k, Real (z k)) (hd : ∀ k, Real (dy k)) (j : Fin n) :
    dzLines N E H z (fun k => dy k * g k) j = dz N E g z dy j := by
  obtain ⟨g, rfl⟩ := lift hg; obtain ⟨z, rfl⟩ := lift hz; obtain ⟨dy, rfl⟩ := lift hd
  have hv := (varR_pos hp he z).ne'
  rw [dz_coe N E hN hE he hp, ← lines_real hp hn he z _ j _ rfl]
  simp only [dzLines, pulled, spread, var_coe N E hN hp.ne' hE]
  simp only [xc_coe N hN hp.ne', rstd_coe N E hN hE he hp, hH, ← EReal.coe_mul, Ideal.div_coe hv,
    ← coe_sum]
  rw [hN]
  simp only [Ideal.div_coe hp.ne', ← EReal.coe_mul, ← EReal.coe_add, ← EReal.coe_neg, ← coe_sum]

include hN hE he in
theorem dz_isReal (hp : 0 < a) (g z dy : Fin n → EReal)
    (hg : ∀ k, Real (g k)) (hz : ∀ k, Real (z k)) (hd : ∀ k, Real (dy k)) (j : Fin n) : Real (dz N E g z dy j) := by
  obtain ⟨g, rfl⟩ := lift hg; obtain ⟨z, rfl⟩ := lift hz; obtain ⟨dy, rfl⟩ := lift hd
  rw [dz_coe N E hN hE he hp]; exact ⟨_, rfl⟩

include hN hE he in
theorem xhat_isReal (hp : 0 < a) (z : Fin n → EReal) (hz : ∀ k, Real (z k)) (j : Fin n) : Real (xhat N E z j) := by
  obtain ⟨z, rfl⟩ := lift hz
  rw [xhat, xc_coe N hN hp.ne', rstd_coe N E hN hE he hp, ← EReal.coe_mul]; exact ⟨_, rfl⟩

end Reals

/-- A row of zeros with no gradient coming in has the gradient zero, whatever the gain. -/
theorem dz_zero {a : ℝ} (hN : N = (a : EReal)) (ha : a ≠ 0) (g : Fin n → EReal) (j : Fin n) :
    dz N E g (fun _ => 0) (fun _ => 0) j = 0 := by
  have h : Ideal.div 0 N = 0 := by rw [hN, Ideal.div_coe ha, zero_mul]
  simp [dz, xhat, xc, mean, h]

/-- A quotient of a real number by a row's length is real. -/
theorem div_isReal {a : ℝ} (hN : N = (a : EReal)) (ha : a ≠ 0) {x : EReal} (hx : Real x) : Real (Ideal.div x N) := by
  rw [hN, Ideal.div_coe ha]; exact hx.mul (Real.coe _)

/-- The constants the norms are printed with: the row's length, the variance's floor, minus one half. -/
theorem ofBits_1024 : Ideal.ofBits .f32 1149239296#32 = ((1024 : ℝ) : EReal) := by
  simp [Ideal.ofBits, Ideal.ieee]; rw [← EReal.coe_mul]; norm_num
theorem ofBits_eps : ∃ e : ℝ, 0 < e ∧ Ideal.ofBits .f32 925353388#32 = (e : EReal) := by
  refine ⟨_, ?_, by simp [Ideal.ofBits, Ideal.ieee]; rfl⟩
  norm_num
theorem ofBits_half : Ideal.ofBits .f32 1056964608#32 = ((1 / 2 : ℝ) : EReal) := by
  simp [Ideal.ofBits, Ideal.ieee]; rw [← EReal.coe_mul]; norm_num
theorem ofBits_two : Ideal.ofBits .f32 1073741824#32 = ((2 : ℝ) : EReal) := by
  simp [Ideal.ofBits, Ideal.ieee]; rw [← EReal.coe_mul]; norm_num
theorem ofBits_mhalf : Ideal.ofBits .f32 0xBF000000#32 = ((-(1 / 2) : ℝ) : EReal) := by
  simp [Ideal.ofBits, Ideal.ieee]; rw [← EReal.coe_mul]; norm_num

end Cert.LN

end
-- ==== Proof.Ffn.Body.lean ====
/-
  The first layer norm's backward kernel, one grid point.
-/
module

public import proofs.«01_k».proof.Proof.Gen.FfnLnBwdIdeal.Value
public import proofs.«01_k».proof.Proof.LayerNorm

@[expose] public section

set_option maxRecDepth 16384

noncomputable section

namespace Cert.FfnLnBwdIdeal.Value

open Cert.FfnLnBwdIdeal Cert.FfnLnBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The constants: the row length, the variance's floor, the residual's factor. -/
abbrev cN : EReal := Ideal.ofBits .f32 1149239296#32
abbrev cE : EReal := Ideal.ofBits .f32 925353388#32
abbrev cA : EReal := Ideal.ofBits .f32 1068827891#32

/-- The gradient at the norm's output: the accumulated product plus the residual's part. -/
theorem hpay10 (v19 v20 : FVec Ideal S640x1024 .f32) (r : Fin 640) (l : Fin 1024) :
    k0_pay10 (F := Ideal) v19 v20 (ix2 r l) = v19 (ix2 r l) + cA * v20 (ix2 r l) := by
  pointwise [k0_pay10]

theorem hpay13 (v : FVec Ideal S640x1024 .f32) (r : Fin 640) (l : Fin 1024) :
    k0_pay13 (F := Ideal) v (ix2 r l) = LN.xhat cN cE (fun k => v (ix2 r k)) l := by
  pointwise [k0_pay13, k0_pay12, k0_pay11]
  rfl

theorem hpay6 (v19 v20 v25 : FVec Ideal S640x1024 .f32) (v27 : FVec Ideal S1x1024 .f32) (r : Fin 640) (l : Fin 1024) :
    k0_pay6 (F := Ideal) (k0_pay12 v25) (k0_pay14 v19 v20 v25 v27) (ix2 r l)
      = LN.dz cN cE (fun k => v27 (ix2 0 k)) (fun k => v25 (ix2 r k)) (fun k => v19 (ix2 r k) + cA * v20 (ix2 r k)) l := by
  pointwise [k0_pay6, k0_pay14, k0_pay13, k0_pay12, k0_pay11, k0_pay10]
  rfl

theorem hpay7 (v : FVec Ideal S640x1 .f32) (w : FVec Ideal S640x1024 .f32) (r : Fin 640) (l : Fin 1024) :
    k0_pay7 (F := Ideal) v w (ix2 r l) = k0_pay6 (F := Ideal) v w (ix2 r l) := by
  pointwise [k0_pay7]

theorem hpay4 (a : FVec Ideal S640x2816 .bf16) (b : FVec Ideal S1024x2816 .bf16) (r : Fin 640) (l : Fin 1024) :
    k0_pay4 (F := Ideal) a b (ix2 r l) = ∑ x, a (ix2 r x) * b (ix2 l x) := by
  pointwise [k0_pay4, k0_pay1]

theorem hpay5 (a : FVec Ideal S640x2816 .bf16) (b : FVec Ideal S1024x2816 .bf16) (v : FVec Ideal S640x1024 .f32) (r : Fin 640) (l : Fin 1024) :
    k0_pay5 (F := Ideal) a b v (ix2 r l) = v (ix2 r l) + ∑ x, a (ix2 r x) * b (ix2 l x) := by
  pointwise [k0_pay5, k0_pay1]

theorem hpay8 (a b : FVec Ideal S640x1024 .f32) (v : FVec Ideal S1x1024 .f32) (l : Fin 1024) :
    k0_pay8 (F := Ideal) a b v (ix2 0 l) = v (ix2 0 l) + ∑ x, a (ix2 x l) * b (ix2 x l) := by
  pointwise [k0_pay8]

theorem hpay9 (a : FVec Ideal S640x1024 .f32) (v : FVec Ideal S1x1024 .f32) (l : Fin 1024) :
    k0_pay9 (F := Ideal) a v (ix2 0 l) = v (ix2 0 l) + ∑ x, a (ix2 x l) := by
  pointwise [k0_pay9]

theorem hpay2 (l : Fin 1024) : k0_pay2 (F := Ideal) (ix2 0 l) = 0 := by pointwise [k0_pay2]
theorem hpay3 (l : Fin 1024) : k0_pay3 (F := Ideal) (ix2 0 l) = 0 := by pointwise [k0_pay3]

/-- The column of the plain order that the kernel's interleaved order holds at a place. -/
def col (x : Fin 5632) : Fin 5632 := ⟨x.val / 256 % 2 * 2816 + x.val / 512 * 256 + x.val % 256, by omega⟩

theorem col_bijective : Function.Bijective col :=
  Finite.injective_iff_bijective.mp fun x y h => by
    have h := congrArg Fin.val h
    simp only [col] at h
    have hx := x.isLt
    have hy := y.isLt
    have ex : x.val / 256 = 2 * (x.val / 512) + x.val / 256 % 2 := by
      rw [show 512 = 256 * 2 from rfl, ← Nat.div_div_eq_div_mul]; omega
    have ey : y.val / 256 = 2 * (y.val / 512) + y.val / 256 % 2 := by
      rw [show 512 = 256 * 2 from rfl, ← Nat.div_div_eq_div_mul]; omega
    have h1 : x.val / 256 % 2 = y.val / 256 % 2 := by omega
    have h2 : x.val / 512 = y.val / 512 := by omega
    exact Fin.ext (by omega)

/-- An argument's rows padded with zeros. -/
abbrev padRows (x : FVec Ideal S8208x1024 .f32) : FVec Ideal S8320x1024 .f32 :=
  pad S8320x1024 ![0, 0] ![112, 0] ![0, 0] x (sitofp .f32 (constantI S_ 32 0#32) : FVec Ideal S_ .f32) pads_S8208x1024_S8320x1024_01120_000 h_S_

abbrev duCols (x : FVec Ideal S8208x5632 .f32) : FVec Ideal S8320x5632 .bf16 :=
  truncf .bf16 (pad S8320x5632 ![0, 0] ![112, 0] ![0, 0] (shapeCast S8208x5632 (transpose S8208x11x2x256 [0, 2, 1, 3] (shapeCast S8208x2x11x256 x shapeCasts_S8208x5632_S8208x2x11x256) transposes_S8208x2x11x256_S8208x11x2x256_0_2_1_3) shapeCasts_S8208x11x2x256_S8208x5632) (sitofp .f32 (constantI S_ 32 0#32) : FVec Ideal S_ .f32) pads_S8208x5632_S8320x5632_01120_000 h_S_) bitsLt_bf16_f32

abbrev wCols (x : FVec Ideal S1024x5632 .f32) : FVec Ideal S1024x5632 .bf16 :=
  truncf .bf16 (shapeCast S1024x5632 (transpose S1024x11x2x256 [0, 2, 1, 3] (shapeCast S1024x2x11x256 x shapeCasts_S1024x5632_S1024x2x11x256) transposes_S1024x2x11x256_S1024x11x2x256_0_2_1_3) shapeCasts_S1024x11x2x256_S1024x5632 : FVec Ideal S1024x5632 .f32) bitsLt_bf16_f32

theorem padRows_apply (x : FVec Ideal S8208x1024 .f32) (r : Fin 8320) (l : Fin 1024) : padRows x (ix2 r l) = if h : r.val < 8208 then x (ix2 ⟨r, h⟩ l) else 0 := by
  pointwise [padRows]
  rw [sitofp_zero]

theorem duCols_apply (x : FVec Ideal S8208x5632 .f32) (r : Fin 8320) (l : Fin 5632) : duCols x (ix2 r l) = if h : r.val < 8208 then x (ix2 ⟨r, h⟩ (col l)) else 0 := by
  pointwise [duCols]
  rw [sitofp_zero]
  rfl

theorem wCols_apply (x : FVec Ideal S1024x5632 .f32) (r : Fin 1024) (l : Fin 5632) : wCols x (ix2 r l) = x (ix2 r (col l)) := by
  pointwise [wCols]
  rfl

/-- The norm's input, from the output projection's lines. -/
abbrev aO (c : Dev nD) : FVec Ideal S8208x1024 .f32 := m ((c : Thread nD τ).loc main_arg0)
abbrev aWo (c : Dev nD) : FVec Ideal S1024x1024 .f32 := m ((c : Thread nD τ).loc main_arg1)
abbrev aH (c : Dev nD) : FVec Ideal S8208x1024 .f32 := m ((c : Thread nD τ).loc main_arg2)
abbrev aZ (c : Dev nD) : FVec Ideal S8208x1024 .f32 :=
  addf (mulf (broadcastInDim S8208x1024 ![] bcast_S_S8208x1024 (constant S_ .f32 0x3FB504F3#32 : FVec Ideal S_ .f32)) (aH m c))
    (Host.dotGeneral dot_S8208x1024_S1024x1024_S8208x1024_1_0_0_1_n_n none (aO m c) (aWo m c))

theorem V_v14 (c : Dev nD) : V m c main_v14 = padRows (aZ m c) := by
  simp only [V, hostOps0, hostOps0_1, hostOps0_2, hostOps0_3, hostOps0_4, hostOps0_5, hostOps0_6, List.flatten_cons, List.flatten_nil, List.cons_append, List.nil_append]
  after_results_simp
  rfl
theorem V_v13 (c : Dev nD) : V m c main_v13 = padRows (m ((c : Thread nD τ).loc main_arg7)) := by
  simp only [V, hostOps0, hostOps0_1, hostOps0_2, hostOps0_3, hostOps0_4, hostOps0_5, hostOps0_6, List.flatten_cons, List.flatten_nil, List.cons_append, List.nil_append]
  after_results_simp
  rfl
theorem V_v8 (c : Dev nD) : V m c main_v8 = duCols (m ((c : Thread nD τ).loc main_arg6)) := by
  simp only [V, hostOps0, hostOps0_1, hostOps0_2, hostOps0_3, hostOps0_4, hostOps0_5, hostOps0_6, List.flatten_cons, List.flatten_nil, List.cons_append, List.nil_append]
  after_results_simp
  rfl
theorem V_v12 (c : Dev nD) : V m c main_v12 = wCols (m ((c : Thread nD τ).loc main_arg5)) := by
  simp only [V, hostOps0, hostOps0_1, hostOps0_2, hostOps0_3, hostOps0_4, hostOps0_5, hostOps0_6, List.flatten_cons, List.flatten_nil, List.cons_append, List.nil_append]
  after_results_simp
  rfl
theorem V_v15 (c : Dev nD) : V m c main_v15 = broadcastInDim S1x1024 ![1] bcast_S1024_S1x1024_1 (m ((c : Thread nD τ).loc main_arg3) : FVec Ideal S1024 .f32) := by
  simp only [V, hostOps0, hostOps0_1, hostOps0_2, hostOps0_3, hostOps0_4, hostOps0_5, hostOps0_6, List.flatten_cons, List.flatten_nil, List.cons_append, List.nil_append]
  after_results_simp

theorem g_apply (x : FVec Ideal S1024 .f32) (l : Fin 1024) : broadcastInDim S1x1024 ![1] bcast_S1024_S1x1024_1 x (ix2 0 l) = x (ix1 l) := by
  pointwise

theorem idx : ∀ t : Fin cfg0.N, win0_0.index t = ![t.val / 2, t.val % 2] ∧ win0_1.index t = ![0, t.val % 2] ∧ win0_2.index t = ![t.val / 2, 0] ∧ win0_3.index t = ![t.val / 2, 0] ∧ win0_4.index t = ![0, 0] ∧ win0_5.index t = ![t.val / 2, 0] ∧ win0_6.index t = ![t.val / 2, 0] ∧ win0_7.index t = ![0, 0] ∧ win0_8.index t = ![0, 0] :=
  (by decide +kernel : ∀ t : Fin grid0.N, _)
theorem lt_N (t : Fin cfg0.N) : t.val < 26 := lt_of_lt_of_eq t.isLt (show cfg0.N = 26 from N_0)

/-- The arguments at their own types. -/
abbrev aG (c : Dev nD) : FVec Ideal S1024 .f32 := m ((c : Thread nD τ).loc main_arg3)
abbrev aW (c : Dev nD) : FVec Ideal S1024x5632 .f32 := m ((c : Thread nD τ).loc main_arg5)
abbrev aDu (c : Dev nD) : FVec Ideal S8208x5632 .f32 := m ((c : Thread nD τ).loc main_arg6)
abbrev aNx (c : Dev nD) : FVec Ideal S8208x1024 .f32 := m ((c : Thread nD τ).loc main_arg7)

/-- The arguments padded with zero rows, at any row number. -/
def Z (c : Dev nD) (n : ℕ) (l : Fin 1024) : EReal := if h : n < 8208 then aZ m c (ix2 ⟨n, h⟩ l) else 0
def NX (c : Dev nD) (n : ℕ) (l : Fin 1024) : EReal := if h : n < 8208 then aNx m c (ix2 ⟨n, h⟩ l) else 0
def DU (c : Dev nD) (n : ℕ) (x : Fin 5632) : EReal := if h : n < 8208 then aDu m c (ix2 ⟨n, h⟩ x) else 0
def G (c : Dev nD) (l : Fin 1024) : EReal := aG m c (ix1 l)

/-- The blocks a grid point reads, at their own types. -/
abbrev blkA (c : Dev nD) (t : Fin cfg0.N) : FVec Ideal S640x2816 .bf16 := iblk m c 0 t
abbrev blkW (c : Dev nD) (t : Fin cfg0.N) : FVec Ideal S1024x2816 .bf16 := iblk m c 1 t
abbrev blkN (c : Dev nD) (t : Fin cfg0.N) : FVec Ideal S640x1024 .f32 := iblk m c 2 t
abbrev blkZ (c : Dev nD) (t : Fin cfg0.N) : FVec Ideal S640x1024 .f32 := iblk m c 3 t
abbrev blkG (c : Dev nD) (t : Fin cfg0.N) : FVec Ideal S1x1024 .f32 := iblk m c 4 t

theorem blkA_apply (c : Dev nD) (t : Fin cfg0.N) (r : Fin 640) (x : Fin 2816) :
    blkA m c t (ix2 r x) = DU m c (t.val / 2 * 640 + r.val) (col ⟨t.val % 2 * 2816 + x.val, by omega⟩) := by
  have hN := lt_N t
  have e : blkA m c t (ix2 r x) = (V m c main_v8 : FVec Ideal S8320x5632 .bf16) (ix2 ⟨t.val / 2 * 640 + r.val, by omega⟩ ⟨t.val % 2 * 2816 + x.val, by omega⟩) := by
    blk_ext [blkA, iblk, idx t]
  rw [e, V_v8, duCols_apply]; rfl
theorem blkW_apply (c : Dev nD) (t : Fin cfg0.N) (r : Fin 1024) (x : Fin 2816) :
    blkW m c t (ix2 r x) = aW m c (ix2 r (col ⟨t.val % 2 * 2816 + x.val, by omega⟩)) := by
  have hN := lt_N t
  have e : blkW m c t (ix2 r x) = (V m c main_v12 : FVec Ideal S1024x5632 .bf16) (ix2 r ⟨t.val % 2 * 2816 + x.val, by omega⟩) := by
    blk_ext [blkW, iblk, idx t]
  rw [e, V_v12, wCols_apply]
theorem blkN_apply (c : Dev nD) (t : Fin cfg0.N) (r : Fin 640) (l : Fin 1024) :
    blkN m c t (ix2 r l) = NX m c (t.val / 2 * 640 + r.val) l := by
  have hN := lt_N t
  have e : blkN m c t (ix2 r l) = (V m c main_v13 : FVec Ideal S8320x1024 .f32) (ix2 ⟨t.val / 2 * 640 + r.val, by omega⟩ l) := by
    blk_ext [blkN, iblk, idx t]
  rw [e, V_v13, padRows_apply]; rfl
theorem blkZ_apply (c : Dev nD) (t : Fin cfg0.N) (r : Fin 640) (l : Fin 1024) :
    blkZ m c t (ix2 r l) = Z m c (t.val / 2 * 640 + r.val) l := by
  have hN := lt_N t
  have e : blkZ m c t (ix2 r l) = (V m c main_v14 : FVec Ideal S8320x1024 .f32) (ix2 ⟨t.val / 2 * 640 + r.val, by omega⟩ l) := by
    blk_ext [blkZ, iblk, idx t]
  rw [e, V_v14, padRows_apply]; rfl
theorem blkG_apply (c : Dev nD) (t : Fin cfg0.N) (l : Fin 1024) : blkG m c t (ix2 0 l) = G m c l := by
  have e : blkG m c t (ix2 0 l) = (V m c main_v15 : FVec Ideal S1x1024 .f32) (ix2 0 l) := by
    blk_ext [blkG, iblk, idx t]
  rw [e, V_v15, g_apply]; rfl

end Cert.FfnLnBwdIdeal.Value

end
-- ==== Proof.Ffn.Run.lean ====
/-
  The first layer norm's backward kernel over its grid: what each point leaves, and the four results' arrays.
-/
module

public import proofs.«01_k».proof.Proof.Ffn.Body
public import Idealize.ShloMosaic.Lib.Pipeline.ReadBack

@[expose] public section

set_option maxRecDepth 16384

noncomputable section

namespace Cert.FfnLnBwdIdeal.Value

open Cert.FfnLnBwdIdeal Cert.FfnLnBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- Half `k` of the product of a row with the weights: the interleaved columns from `k * 2816` on. -/
def part (c : Dev nD) (k : ℕ) (hk : k < 2) (n : ℕ) (l : Fin 1024) : EReal :=
  ∑ x : Fin 2816, DU m c n (col ⟨k * 2816 + x.val, by omega⟩) * aW m c (ix2 l (col ⟨k * 2816 + x.val, by omega⟩))

/-- The gradient at the norm's output. -/
def dh (c : Dev nD) (n : ℕ) (l : Fin 1024) : EReal := ∑ x : Fin 5632, DU m c n x * aW m c (ix2 l x) + cA * NX m c n l

theorem parts (c : Dev nD) (n : ℕ) (l : Fin 1024) :
    part m c 0 (by omega) n l + part m c 1 (by omega) n l = ∑ x : Fin 5632, DU m c n x * aW m c (ix2 l x) := by
  rw [← col_bijective.sum_comp (fun x => DU m c n x * aW m c (ix2 l x))]
  refine ((Fin.sum_univ_add (a := 2816) (b := 2816) (fun x : Fin 5632 => DU m c n (col x) * aW m c (ix2 l (col x)))).trans ?_).symm
  unfold part
  refine congrArg₂ (· + ·) (Finset.sum_congr rfl fun x _ => ?_) (Finset.sum_congr rfl fun x _ => ?_)
  · have e : (Fin.castAdd 2816 x : Fin 5632) = ⟨0 * 2816 + x.val, by omega⟩ := Fin.ext (by simp)
    rw [← e]
  · have e : (Fin.natAdd 2816 x : Fin 5632) = ⟨1 * 2816 + x.val, by omega⟩ := Fin.ext (by simp [add_comm])
    rw [← e]

/-- The rows' gradients, and the terms of the gain's gradient. -/
def dzAt (c : Dev nD) (n : ℕ) (l : Fin 1024) : EReal := LN.dz cN cE (G m c) (Z m c n) (dh m c n) l
def dgAt (c : Dev nD) (n : ℕ) (l : Fin 1024) : EReal := dh m c n l * LN.xhat cN cE (Z m c n) l

theorem prod_at (c : Dev nD) (t : Fin cfg0.N) (r : Fin 640) (l : Fin 1024) :
    ∑ x, blkA m c t (ix2 r x) * blkW m c t (ix2 l x) = part m c (t.val % 2) (by omega) (t.val / 2 * 640 + r.val) l := by
  simp only [blkA_apply, blkW_apply]; rfl

/-- What point `n` leaves: at an odd point the rows' gradients, at an even point the product's first half in the scratch; the
    gain's and the bias's sums over the rows done. -/
def Left (c : Dev nD) (n : ℕ) (o : Vec Ideal S640x1024 .f32 × Vec Ideal S640x1024 .bf16 × Vec Ideal S1x1024 .f32 × Vec Ideal S1x1024 .f32 × Vec Ideal S640x1024 .f32) : Prop :=
  (n % 2 = 1 → (∀ r l, o.1 (ix2 r l) = dzAt m c (n / 2 * 640 + r.val) l) ∧ ∀ r l, o.2.1 (ix2 r l) = dzAt m c (n / 2 * 640 + r.val) l) ∧
  (∀ l, o.2.2.1 (ix2 0 l) = ∑ k ∈ Finset.range ((n + 1) / 2 * 640), dgAt m c k l) ∧
  (∀ l, o.2.2.2.1 (ix2 0 l) = ∑ k ∈ Finset.range ((n + 1) / 2 * 640), dh m c k l) ∧
  (n % 2 = 0 → ∀ r l, o.2.2.2.2 (ix2 r l) = part m c 0 (by omega) (n / 2 * 640 + r.val) l)

/-- The last step of a block of rows, from the product's first half and the sums before the block. -/
theorem last_of (c : Dev nD) (t : Fin cfg0.N) (ht : t.val % 2 = 1) (s : FVec Ideal S640x1024 .f32) (g b : FVec Ideal S1x1024 .f32)
    (hs : ∀ r l, s (ix2 r l) = part m c 0 (by omega) (t.val / 2 * 640 + r.val) l)
    (hg : ∀ l, g (ix2 0 l) = ∑ k ∈ Finset.range (t.val / 2 * 640), dgAt m c k l)
    (hb : ∀ l, b (ix2 0 l) = ∑ k ∈ Finset.range (t.val / 2 * 640), dh m c k l) :
    let acc := k0_pay5 (F := Ideal) (blkA m c t) (blkW m c t) s
    (∀ r l, k0_pay6 (F := Ideal) (k0_pay12 (blkZ m c t)) (k0_pay14 acc (blkN m c t) (blkZ m c t) (blkG m c t)) (ix2 r l) = dzAt m c (t.val / 2 * 640 + r.val) l) ∧
    (∀ l, k0_pay8 (F := Ideal) (k0_pay10 acc (blkN m c t)) (k0_pay13 (blkZ m c t)) g (ix2 0 l) = ∑ k ∈ Finset.range ((t.val + 1) / 2 * 640), dgAt m c k l) ∧
    (∀ l, k0_pay9 (F := Ideal) (k0_pay10 acc (blkN m c t)) b (ix2 0 l) = ∑ k ∈ Finset.range ((t.val + 1) / 2 * 640), dh m c k l) := by
  intro acc
  have hacc : ∀ r l, acc (ix2 r l) + cA * blkN m c t (ix2 r l) = dh m c (t.val / 2 * 640 + r.val) l := by
    intro r l
    have e : acc (ix2 r l) = _ := hpay5 _ _ _ r l
    rw [e, prod_at, hs, blkN_apply]
    have : part m c (t.val % 2) (by omega) (t.val / 2 * 640 + r.val) l = part m c 1 (by omega) (t.val / 2 * 640 + r.val) l := by
      congr 1
    rw [this, parts]; rfl
  have e : (t.val + 1) / 2 * 640 = t.val / 2 * 640 + 640 := by omega
  refine ⟨fun r l => ?_, fun l => ?_, fun l => ?_⟩
  · rw [hpay6]
    simp only [hacc, blkZ_apply, blkG_apply]; rfl
  · rw [hpay8, hg, e, ← sum_block_after]
    simp only [hpay10, hpay13, hacc, blkZ_apply]; rfl
  · rw [hpay9, hb, e, ← sum_block_after]
    simp only [hpay10, hacc]

theorem left (c : Dev nD) : ∀ (n : ℕ) (hn : n < cfg0.N), Left m c n (outsAt0 m c n hn) := by
  intro n
  induction n with
  | zero =>
    intro hn
    rw [outsAt0_A m c ⟨0, hn⟩ rfl rfl (fun h => absurd h (by simp)) (fun h => absurd h (by simp))]
    refine ⟨fun h => absurd h (by decide), fun l => ?_, fun l => ?_, fun _ r l => ?_⟩
    · dsimp only; frame_out; rw [hpay2]; simp
    · dsimp only; frame_out; rw [hpay3]; simp
    · dsimp only; frame_out; rw [hpay4]; exact prod_at m c ⟨0, hn⟩ r l
  | succ n ih =>
    intro hn
    obtain ⟨i1, i2, i3, i4⟩ := ih (by omega)
    have hN := lt_N ⟨n + 1, hn⟩
    dsimp only at hN
    rcases Nat.mod_two_eq_zero_or_one (n + 1) with h | h
    · rw [outsAt0_C m c ⟨n + 1, hn⟩ (by dsimp only; omega) h (by dsimp only; omega) (by dsimp only; omega)]
      have e : (n + 1 + 1) / 2 = (n + 1) / 2 := by omega
      refine ⟨fun h' => absurd h' (by omega), fun l => ?_, fun l => ?_, fun _ r l => ?_⟩
      · rw [e]; exact i2 l
      · rw [e]; exact i3 l
      · dsimp only; frame_out; rw [hpay4]
        exact (prod_at m c ⟨n + 1, hn⟩ r l).trans (by congr 1)
    · rw [outsAt0_B m c ⟨n + 1, hn⟩ (by dsimp only; omega) (by dsimp only; omega) h h]
      have e : n / 2 = (n + 1) / 2 := by omega
      have h := last_of m c ⟨n + 1, hn⟩ h (outsAt0 m c n (by omega)).2.2.2.2 (outsAt0 m c n (by omega)).2.2.1 (outsAt0 m c n (by omega)).2.2.2.1
        (fun r l => by rw [i4 (by omega), e]) i2 i3
      refine ⟨fun _ => ⟨fun r l => ?_, fun r l => ?_⟩, fun l => ?_, fun l => ?_, fun h' => absurd h' (by omega)⟩
      · dsimp only; frame_out; rw [read_unread_whole]; exact h.1 r l
      · dsimp only; frame_out; rw [hpay7]; rw [read_unread_whole]; exact h.1 r l
      · dsimp only; frame_out; rw [read_unread_whole]; exact h.2.1 l
      · dsimp only; frame_out; rw [read_unread_whole]; exact h.2.2 l

/-- The results' arrays as functions of the arguments. -/
def Dz (c : Dev nD) : FVec Ideal S8320x1024 .f32 := fun j => dzAt m c (j 0).val (j 1)
def Dzb (c : Dev nD) : FVec Ideal S8320x1024 .bf16 := fun j => dzAt m c (j 0).val (j 1)
def Dg (c : Dev nD) : FVec Ideal S1x1024 .f32 := fun j => ∑ k ∈ Finset.range 8320, dgAt m c k (j 1)
def Db (c : Dev nD) : FVec Ideal S1x1024 .f32 := fun j => ∑ k ∈ Finset.range 8320, dh m c k (j 1)

/-- The last grid point. -/
def last : Fin cfg0.N := ⟨25, by rw [show cfg0.N = 26 from N_0]; decide⟩

theorem flush5 : ∀ t : Fin cfg0.N, (cfg0.win 5).flush t = true → t.val % 2 = 1 := (by decide +kernel : ∀ t : Fin grid0.N, _)
theorem flush6 : ∀ t : Fin cfg0.N, (cfg0.win 6).flush t = true → t.val % 2 = 1 := (by decide +kernel : ∀ t : Fin grid0.N, _)

theorem result5 (c : Dev nD) : (dats m 0 c).arrAt 5 cfg0.N = Dz m c := by
  refine (dats m 0 c).arrAt_eq_of_covers 5 _ (by decide +kernel) fun t hf y => ?_
  have ht := flush5 t hf
  blk_simp
  rw [after0_5]
  idx_vars y
  refine (((left m c t.val t.isLt).1 ht).1 y0 y1).trans ?_
  have hN := lt_N t
  have e : ((View.whole main_v16_0).slice (win0_5.rect t)).emb (ix2 y0 y1) = (ix2 ⟨t.val / 2 * 640 + y0.val, by omega⟩ y1 : S8320x1024.Idx) := by
    blk_ext [idx t]
  rw [e]; rfl

theorem result6 (c : Dev nD) : (dats m 0 c).arrAt 6 cfg0.N = Dzb m c := by
  refine (dats m 0 c).arrAt_eq_of_covers 6 _ (by decide +kernel) fun t hf y => ?_
  have ht := flush6 t hf
  blk_simp
  rw [after0_6]
  idx_vars y
  refine (((left m c t.val t.isLt).1 ht).2 y0 y1).trans ?_
  have hN := lt_N t
  have e : ((View.whole main_v16_1).slice (win0_6.rect t)).emb (ix2 y0 y1) = (ix2 ⟨t.val / 2 * 640 + y0.val, by omega⟩ y1 : S8320x1024.Idx) := by
    blk_ext [idx t]
  rw [e]; rfl

theorem result7 (c : Dev nD) : (dats m 0 c).arrAt 7 cfg0.N = Dg m c := by
  refine (dats m 0 c).arrAt_eq_of_after_last 7 last (by decide +kernel) _ fun j => ?_
  blk_simp
  rw [after0_7]
  idx_vars j
  obtain rfl : j0 = 0 := Subsingleton.elim _ _
  exact (left m c last.val last.isLt).2.1 j1

theorem result8 (c : Dev nD) : (dats m 0 c).arrAt 8 cfg0.N = Db m c := by
  refine (dats m 0 c).arrAt_eq_of_after_last 8 last (by decide +kernel) _ fun j => ?_
  blk_simp
  rw [after0_8]
  idx_vars j
  obtain rfl : j0 = 0 := Subsingleton.elim _ _
  exact (left m c last.val last.isLt).2.2.1 j1

end Cert.FfnLnBwdIdeal.Value

end
-- ==== Proof.Ffn.Ref.lean ====
/-
  The reference's derivative of the first layer norm, read at an index.
-/
module

public import proofs.«01_k».proof.Proof.Gen.FfnLnRefIdeal.Read
public import proofs.«01_k».proof.Proof.LayerNorm

@[expose] public section

set_option maxRecDepth 16384

noncomputable section

namespace Cert.FfnLnRefIdeal.Read

open Cert.FfnLnRefIdeal Idealize.ShloMosaic Idealize.ShloMosaic.TcCoe

variable (o : FVec Ideal S8208x1024 .f32) (wo : FVec Ideal S1024x1024 .f32) (h : FVec Ideal S8208x1024 .f32) (g : FVec Ideal S1024 .f32) (w : FVec Ideal S1024x5632 .f32)
  (du : FVec Ideal S8208x5632 .f32) (nx : FVec Ideal S8208x1024 .f32)

abbrev cN : EReal := Ideal.ofBits .f32 1149239296#32
abbrev cE : EReal := Ideal.ofBits .f32 925353388#32
abbrev cA : EReal := Ideal.ofBits .f32 1068827891#32
abbrev cH : EReal := Ideal.ofBits .f32 0xBF000000#32

/-- The norm's input: the residual's part plus the product. -/
theorem v3_apply (r : Fin 8208) (l : Fin 1024) :
    val_main_v3 (F := Ideal) o wo h (ix2 r l) = cA * h (ix2 r l) + ∑ x, o (ix2 r x) * wo (ix2 x l) := by
  pointwise [val_main_v3, val_main_v2, val_main_v1, val_main_v0, val_main_cst]

theorem v35_apply (r : Fin 8208) (l : Fin 1024) :
    val_main_v35 (F := Ideal) w du nx (ix2 r l) = cA * nx (ix2 r l) + ∑ x, du (ix2 r x) * w (ix2 l x) := by
  pointwise [val_main_v35, val_main_v34, val_main_v33, val_main_v32, val_main_cst_7]

theorem v9_apply (r : Fin 8208) (l : Fin 1024) :
    val_main_v9 (F := Ideal) o wo h (ix2 r l) = LN.xc cN (fun k => val_main_v3 (F := Ideal) o wo h (ix2 r k)) l := by
  pointwise [val_main_v9, val_main_v8, val_main_v7, val_main_v6, val_main_v5, val_main_v4, val_main_cst_0, val_main_cst_1]
  rfl

theorem v16_apply (r : Fin 8208) (l : Fin 1) :
    val_main_v16 (F := Ideal) o wo h (ix2 r l) = LN.mean cN (fun k => LN.xc cN (fun k => val_main_v3 (F := Ideal) o wo h (ix2 r k)) k * LN.xc cN (fun k => val_main_v3 (F := Ideal) o wo h (ix2 r k)) k) + cE := by
  pointwise [val_main_v16, val_main_v15, val_main_v14, val_main_v13, val_main_v12, val_main_v11, val_main_v10, val_main_cst_2, val_main_cst_3, val_main_cst_4, v9_apply]
  rfl

theorem v22_apply (r : Fin 8208) (l : Fin 1024) :
    val_main_v22 (F := Ideal) o wo h (ix2 r l) = LN.xhat cN cE (fun k => val_main_v3 (F := Ideal) o wo h (ix2 r k)) l := by
  pointwise [val_main_v22, val_main_v21, val_main_v17, v16_apply, v9_apply]
  rfl

theorem v43_apply (r : Fin 8208) (l : Fin 1024) :
    val_main_v43 (F := Ideal) g w du nx (ix2 r l) = val_main_v35 (F := Ideal) w du nx (ix2 r l) * g (ix1 l) := by
  pointwise [val_main_v43, val_main_v42, val_main_v23]

theorem v54_apply (r : Fin 8208) (l : Fin 1024) :
    val_main_v54 (F := Ideal) o wo h g w du nx (ix2 r l) = LN.spread cN cE cH (fun k => val_main_v3 (F := Ideal) o wo h (ix2 r k)) (fun k => val_main_v43 (F := Ideal) g w du nx (ix2 r k)) := by
  pointwise [val_main_v54, val_main_v53, val_main_v52, val_main_v51, val_main_v50, val_main_v47, val_main_v46, val_main_v45, val_main_v20, val_main_v19, val_main_v18, val_main_v17,
    val_main_cst_5, val_main_cst_12, val_main_cst_13, val_main_cst_14, v9_apply, v16_apply]
  rw [Fin.sum_univ_one]
  rfl

theorem v58_apply (r : Fin 8208) (l : Fin 1024) :
    val_main_v58 (F := Ideal) o wo h g w du nx (ix2 r l) = LN.pulled cN cE cH (fun k => val_main_v3 (F := Ideal) o wo h (ix2 r k)) (fun k => val_main_v43 (F := Ideal) g w du nx (ix2 r k)) l := by
  pointwise [val_main_v58, val_main_v57, val_main_v56, val_main_v55, val_main_v49, val_main_v48, val_main_v17, v9_apply, v16_apply, v54_apply]
  rfl

theorem v66_apply (r : Fin 8208) (l : Fin 1024) :
    val_main_v66 (F := Ideal) o wo h g w du nx (ix2 r l) = LN.dzLines cN cE cH (fun k => val_main_v3 (F := Ideal) o wo h (ix2 r k)) (fun k => val_main_v43 (F := Ideal) g w du nx (ix2 r k)) l := by
  pointwise [val_main_v66, val_main_v65, val_main_v64, val_main_v63, val_main_v62, val_main_v61, val_main_v60, val_main_v59, val_main_cst_15, val_main_cst_16, val_main_cst_17, v58_apply]
  rw [Fin.sum_univ_one]
  rfl

theorem v67_apply (r : Fin 8320) (l : Fin 1024) :
    val_main_v67 (F := Ideal) o wo h g w du nx (ix2 r l) = if hr : r.val < 8208 then val_main_v66 (F := Ideal) o wo h g w du nx (ix2 ⟨r, hr⟩ l) else 0 := by
  pointwise [val_main_v67, val_main_call0_v0, val_main_c]
  rw [Math.sitofp_zero]

theorem v68_apply (r : Fin 8320) (l : Fin 1024) :
    val_main_v68 (F := Ideal) o wo h g w du nx (ix2 r l) = val_main_v67 (F := Ideal) o wo h g w du nx (ix2 r l) := by
  pointwise [val_main_v68]

theorem v69_apply (l : Fin 1024) :
    val_main_v69 (F := Ideal) o wo h w du nx (ix2 0 l) = ∑ r, val_main_v22 (F := Ideal) o wo h (ix2 r l) * val_main_v35 (F := Ideal) w du nx (ix2 r l) := by
  pointwise [val_main_v69, val_main_v44, val_main_v41, val_main_v40, val_main_v39, val_main_cst_10, val_main_cst_11]
  rw [Fin.sum_univ_one]

theorem v70_apply (l : Fin 1024) :
    val_main_v70 (F := Ideal) w du nx (ix2 0 l) = ∑ r, val_main_v35 (F := Ideal) w du nx (ix2 r l) := by
  pointwise [val_main_v70, val_main_v38, val_main_v37, val_main_v36, val_main_cst_8, val_main_cst_9]
  rw [Fin.sum_univ_one]

end Cert.FfnLnRefIdeal.Read

end
-- ==== Proof.Ffn.Claim.lean ====
/-
  The claims about the first layer norm's backward kernel and its reference: the four results agree.
-/
module

public import proofs.«01_k».proof.Defs
public import proofs.«01_k».proof.Proof.Ffn.Run
public import proofs.«01_k».proof.Proof.Ffn.Ref
public import proofs.«01_k».proof.Proof.Gen.FfnLnBwd.Frame
public import proofs.«01_k».proof.Proof.Gen.Pre_ffn_ln_finite
public import Idealize.ShloMosaic.Lib.Claim
public import Idealize.ShloMosaic.Lib.ReduceAll

@[expose] public section

set_option maxRecDepth 16384

noncomputable section

namespace Cert.FfnLnBwdIdeal.Value

open Cert.FfnLnBwdIdeal Cert.FfnLnBwdIdeal.Gen Idealize.ShloMosaic Idealize.ShloMosaic.TcCoe Idealize.SL.Sem
open Cert.Math
open Cert.FfnLnRefIdeal.Read (v3_apply v35_apply v43_apply v22_apply v66_apply v67_apply v68_apply v69_apply v70_apply)

variable (m : (ℓ : Loc nD τ sig) → Buf (Elt Ideal) ℓ)

/-- The arguments the derivative depends on are real numbers. -/
structure Finite (c : Dev nD) : Prop where
  o : ∀ i, Real (aO m c i)
  wo : ∀ i, Real (aWo m c i)
  h : ∀ i, Real (aH m c i)
  g : ∀ i, Real (aG m c i)
  w : ∀ i, Real (aW m c i)
  du : ∀ i, Real (aDu m c i)
  nx : ∀ i, Real (aNx m c i)

theorem cA_real : Real cA := ⟨_, by simp [cA, Ideal.ofBits, Ideal.ieee]; rw [← EReal.coe_mul]⟩

theorem aZ_eq (c : Dev nD) : aZ m c = FfnLnRefIdeal.Read.val_main_v3 (F := Ideal) (aO m c) (aWo m c) (aH m c) := rfl

theorem aZ_real (c : Dev nD) (h : Finite m c) (r : Fin 8208) (l : Fin 1024) : Real (aZ m c (ix2 r l)) := by
  rw [aZ_eq, v3_apply]
  exact (cA_real.mul (h.h _)).add (Real.sum _ fun x _ => (h.o _).mul (h.wo _))

theorem Z_row (c : Dev nD) (n : Fin 8208) : Z m c n.val = fun l => aZ m c (ix2 n l) := funext fun l => dif_pos n.isLt
theorem dh_row (c : Dev nD) (n : Fin 8208) (l : Fin 1024) :
    dh m c n.val l = FfnLnRefIdeal.Read.val_main_v35 (F := Ideal) (aW m c) (aDu m c) (aNx m c) (ix2 n l) := by
  rw [v35_apply, add_comm]
  unfold dh
  rw [show NX m c n.val l = _ from dif_pos n.isLt]
  refine congrArg (· + _) (Finset.sum_congr rfl fun x _ => ?_)
  rw [show DU m c n.val x = _ from dif_pos n.isLt]

theorem dh_real (c : Dev nD) (h : Finite m c) (n : Fin 8208) (l : Fin 1024) : Real (dh m c n.val l) := by
  rw [dh_row, v35_apply]
  exact (cA_real.mul (h.nx _)).add (Real.sum _ fun x _ => (h.du _).mul (h.w _))

theorem dh_zero (c : Dev nD) (n : ℕ) (hn : 8208 ≤ n) (l : Fin 1024) : dh m c n l = 0 := by
  unfold dh
  rw [show NX m c n l = 0 from dif_neg (by omega), mul_zero, add_zero]
  exact Finset.sum_eq_zero fun x _ => by rw [show DU m c n x = 0 from dif_neg (by omega), zero_mul]

theorem dgAt_zero (c : Dev nD) (n : ℕ) (hn : 8208 ≤ n) (l : Fin 1024) : dgAt m c n l = 0 := by
  unfold dgAt; rw [dh_zero m c n hn, zero_mul]

theorem dzAt_zero (c : Dev nD) (n : ℕ) (hn : 8208 ≤ n) (l : Fin 1024) : dzAt m c n l = 0 := by
  unfold dzAt
  rw [show dh m c n = fun _ => 0 from funext (dh_zero m c n hn), show Z m c n = fun _ => 0 from funext fun _ => dif_neg (by omega)]
  exact LN.dz_zero _ _ LN.ofBits_1024 (by norm_num) _ l

theorem dzAt_row (c : Dev nD) (h : Finite m c) (n : Fin 8208) (l : Fin 1024) :
    dzAt m c n.val l = FfnLnRefIdeal.Read.val_main_v66 (F := Ideal) (aO m c) (aWo m c) (aH m c) (aG m c) (aW m c) (aDu m c) (aNx m c) (ix2 n l) := by
  obtain ⟨e, he, hE⟩ := LN.ofBits_eps
  rw [v66_apply]
  simp only [v43_apply, ← dh_row]
  refine Eq.trans ?_ (LN.dzLines_eq _ _ LN.ofBits_1024 hE he (by norm_num) (by norm_num) LN.ofBits_mhalf (fun k => aG m c (ix1 k))
    (fun k => aZ m c (ix2 n k)) (fun k => dh m c n.val k) (fun k => h.g _) (fun k => aZ_real m c h n k) (fun k => dh_real m c h n k) l).symm
  unfold dzAt
  rw [Z_row]; rfl

theorem dz_ref (c : Dev nD) (h : Finite m c) :
    Dz m c = FfnLnRefIdeal.Read.val_main_v67 (F := Ideal) (aO m c) (aWo m c) (aH m c) (aG m c) (aW m c) (aDu m c) (aNx m c) := by
  funext j
  idx_vars j
  refine Eq.trans ?_ (v67_apply _ _ _ _ _ _ _ j0 j1).symm
  show dzAt m c j0 j1 = _
  split
  · next hj => exact dzAt_row m c h ⟨j0, hj⟩ j1
  · next hj => exact dzAt_zero m c j0 (by omega) j1

theorem dzb_ref (c : Dev nD) (h : Finite m c) :
    Dzb m c = FfnLnRefIdeal.Read.val_main_v68 (F := Ideal) (aO m c) (aWo m c) (aH m c) (aG m c) (aW m c) (aDu m c) (aNx m c) := by
  funext j
  idx_vars j
  exact (congrFun (dz_ref m c h) (ix2 j0 j1)).trans (v68_apply _ _ _ _ _ _ _ j0 j1).symm

theorem dg_ref (c : Dev nD) :
    Dg m c = FfnLnRefIdeal.Read.val_main_v69 (F := Ideal) (aO m c) (aWo m c) (aH m c) (aW m c) (aDu m c) (aNx m c) := by
  funext j
  idx_vars j
  obtain rfl : j0 = 0 := Subsingleton.elim _ _
  refine ((sum_range_rows (fun k => dgAt m c k j1) 8208 8320 (by omega) fun k hk => dgAt_zero m c k hk j1).trans ?_).trans (v69_apply _ _ _ _ _ _ j1).symm
  refine Finset.sum_congr rfl fun n _ => ?_
  rw [v22_apply, ← dh_row, mul_comm]
  unfold dgAt
  rw [Z_row]; rfl

theorem db_ref (c : Dev nD) :
    Db m c = FfnLnRefIdeal.Read.val_main_v70 (F := Ideal) (aW m c) (aDu m c) (aNx m c) := by
  funext j
  idx_vars j
  obtain rfl : j0 = 0 := Subsingleton.elim _ _
  refine ((sum_range_rows (fun k => dh m c k j1) 8208 8320 (by omega) fun k hk => dh_zero m c k hk j1).trans ?_).trans (v70_apply _ _ _ j1).symm
  exact Finset.sum_congr rfl fun n _ => dh_row m c n j1

end Cert.FfnLnBwdIdeal.Value

namespace Cert.Ffn

open Idealize.ShloMosaic Idealize.ShloMosaic.TcCoe Idealize.SL.Sem

theorem frame_bits : Cert.quiescent_FfnLnBwd := fun m ρ _ => Cert.FfnLnBwd.Gen.frame m ρ
theorem frame_ideal : Cert.quiescent_FfnLnBwdIdeal := fun m ρ _ => Cert.FfnLnBwdIdeal.Gen.frame m ρ
theorem frame_ideal_pre : Cert.quiescent_FfnLnBwdIdeal_pre_ffn_ln_finite := fun m ρ _ => Cert.FfnLnBwdIdeal.Gen.frame m ρ
theorem frame_ref : Cert.quiescent_FfnLnRefIdeal := fun m g _ =>
  (θ_run Cert.FfnLnRefIdeal.defs _ _).mono (fun r h => ⟨fun c => (h c).2.2.2.2, sem_eq_zero_of_no_sems (by decide) r.2⟩)
    (Cert.FfnLnRefIdeal.Value.run (F := Ideal) m g)
theorem frame_ref_pre : Cert.quiescent_FfnLnRefIdeal_pre_ffn_ln_finite := fun m g _ => frame_ref m g trivial

open Cert.FfnLnBwdIdeal Cert.FfnLnBwdIdeal.Value Cert.Math in
/-- The precondition says that the arguments are real numbers. -/
theorem finite (m : (ℓ : Loc nD τ sig) → Buf (Elt Ideal) ℓ) (h : Cert.Pre_FfnLnBwdIdeal_ffn_ln_finite m) (c : Dev nD) : Finite m c := by
  have h1 := congrFun (h c) (fun a => a.elim0)
  obtain ⟨h1, h7⟩ := and_one _ _ _ h1
  obtain ⟨h1, h6⟩ := and_one _ _ _ h1
  obtain ⟨h1, h5⟩ := and_one _ _ _ h1
  obtain ⟨h1, h3⟩ := and_one _ _ _ h1
  obtain ⟨h1, h2⟩ := and_one _ _ _ h1
  obtain ⟨h0, h1⟩ := and_one _ _ _ h1
  exact ⟨fun i => Real.of_cmp _ _ _ ofBits_inf (Host.reduce_andi_all _ _ _ _ _ h0 i),
    fun i => Real.of_cmp _ _ _ ofBits_inf (Host.reduce_andi_all _ _ _ _ _ h1 i),
    fun i => Real.of_cmp _ _ _ ofBits_inf (Host.reduce_andi_all _ _ _ _ _ h2 i),
    fun i => Real.of_cmp _ _ _ ofBits_inf (Host.reduce_andi_all _ _ _ _ _ h3 i),
    fun i => Real.of_cmp _ _ _ ofBits_inf (Host.reduce_andi_all _ _ _ _ _ h5 i),
    fun i => Real.of_cmp _ _ _ ofBits_inf (Host.reduce_andi_all _ _ _ _ _ h6 i),
    fun i => Real.of_cmp _ _ _ ofBits_inf (Host.reduce_andi_all _ _ _ _ _ h7 i)⟩

set_option maxHeartbeats 4000000 in
open Cert.FfnLnBwdIdeal.Value in
theorem value : Cert.algebraic_FfnLnBwdIdeal_FfnLnRefIdeal_pre_ffn_ln_finite := by
  pair_intro
  · run_from Cert.FfnLnBwdIdeal.Gen.run_main m g
    · exact Cert.FfnLnBwdIdeal.Gen.V_main_arg0 m c
    · exact Cert.FfnLnBwdIdeal.Gen.V_main_arg1 m c
    · exact Cert.FfnLnBwdIdeal.Gen.V_main_arg2 m c
    · exact Cert.FfnLnBwdIdeal.Gen.V_main_arg3 m c
    · exact Cert.FfnLnBwdIdeal.Gen.V_main_arg4 m c
    · exact Cert.FfnLnBwdIdeal.Gen.V_main_arg5 m c
    · exact Cert.FfnLnBwdIdeal.Gen.V_main_arg6 m c
    · exact Cert.FfnLnBwdIdeal.Gen.V_main_arg7 m c
  · run_from Cert.FfnLnRefIdeal.Value.run m' g'
    all_goals obtain ⟨e0, e1, e2, e3, e4, e5, e6, e7⟩ := hagree c
    · rw [Cert.FfnLnRefIdeal.Read.val_main_v67_eq, e0, e1, e2, e3, e5, e6, e7]
      exact ((result5 m c).trans (dz_ref m c (Ffn.finite m hpre c))).symm
    · rw [Cert.FfnLnRefIdeal.Read.val_main_v68_eq, e0, e1, e2, e3, e5, e6, e7]
      exact ((result6 m c).trans (dzb_ref m c (Ffn.finite m hpre c))).symm
    · rw [Cert.FfnLnRefIdeal.Read.val_main_v69_eq]
      exact ((result7 m c).trans (dg_ref m c)).symm
    · rw [Cert.FfnLnRefIdeal.Read.val_main_v70_eq]
      exact ((result8 m c).trans (db_ref m c)).symm

end Cert.Ffn

end
-- ==== Proof.Loss.Body.lean ====
/-
  The loss kernel with the last layer norm's gradient, one grid point.
-/
module

public import proofs.«01_k».proof.Proof.Gen.LossBwdIdeal.Value
public import proofs.«01_k».proof.Proof.LayerNorm

@[expose] public section

set_option maxRecDepth 16384

noncomputable section

namespace Cert.LossBwdIdeal.Value

open Cert.LossBwdIdeal Cert.LossBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The constants: the row length, the variance's floor, the residual's factor, one half. -/
abbrev cN : EReal := Ideal.ofBits .f32 1149239296#32
abbrev cE : EReal := Ideal.ofBits .f32 925353388#32
abbrev cA : EReal := Ideal.ofBits .f32 1068827891#32
abbrev cHalf : EReal := Ideal.ofBits .f32 1056964608#32

theorem hpay2 (h : FVec Ideal S640x1024 .f32) (a : FVec Ideal S640x2816 .bf16) (w : FVec Ideal S2816x1024 .bf16) (r : Fin 640) (l : Fin 1024) :
    k0_pay2 (F := Ideal) h a w (ix2 r l) = cA * h (ix2 r l) + ∑ x, a (ix2 r x) * w (ix2 x l) := by
  pointwise [k0_pay2]

theorem hpay3 (h : FVec Ideal S640x1024 .f32) (a : FVec Ideal S640x2816 .bf16) (w : FVec Ideal S2816x1024 .bf16) (g b : FVec Ideal S1x1024 .f32) (r : Fin 640) (l : Fin 1024) :
    k0_pay3 (F := Ideal) h a w g b (ix2 r l) = LN.xhat cN cE (fun k => k0_pay2 (F := Ideal) h a w (ix2 r k)) l * g (ix2 0 l) + b (ix2 0 l) := by
  pointwise [k0_pay3]
  rfl

/-- The difference from the target on the rows that hold a token, zero on the others. -/
theorem hpay6 (i : grid0.Coords) (y t : FVec Ideal S640x1024 .f32) (r : Fin 640) (l : Fin 1024) :
    k0_pay6 (F := Ideal) y (k0_pay4 i) (k0_pay5 i) t (ix2 r l)
      = if 16 ≤ (i 0).val * 640 + r.val ∧ (i 0).val * 640 + r.val < 8208 then y (ix2 r l) - t (ix2 r l) else 0 := by
  have hi : (i 0).val < 13 := (i 0).isLt
  pointwise [k0_pay6, k0_pay5, k0_pay4]
  rw [show (640#32 : BitVec 32) = BitVec.ofNat 32 640 from rfl, word_row]
  exact select_band _ 16 8208 (by omega) (by omega) (by omega) _ _

theorem hpay7 (y t : FVec Ideal S640x1024 .f32) (p : IVec S640x1 32) (q : IVec S640x1 1) (r : Fin 640) (l : Fin 1024) :
    k0_pay7 (F := Ideal) y p q t (ix2 r l) = Ideal.div (k0_pay6 (F := Ideal) y p q t (ix2 r l)) cN := by
  pointwise [k0_pay7]

theorem hpay10 (v : FVec Ideal S640x1024 .f32) (r : Fin 640) (l : Fin 1024) :
    k0_pay10 (F := Ideal) v (ix2 r l) = LN.xhat cN cE (fun k => v (ix2 r k)) l := by
  pointwise [k0_pay10, k0_pay9, k0_pay8]
  rfl

theorem hpay14 (v y t : FVec Ideal S640x1024 .f32) (p : IVec S640x1 32) (q : IVec S640x1 1) (g : FVec Ideal S1x1024 .f32) (r : Fin 640) (l : Fin 1024) :
    k0_pay14 (F := Ideal) (k0_pay9 v) (k0_pay10 v) (k0_pay12 y p q t g) (k0_pay13 v y p q t g) (ix2 r l)
      = LN.dz cN cE (fun k => g (ix2 0 k)) (fun k => v (ix2 r k)) (fun k => k0_pay7 (F := Ideal) y p q t (ix2 r k)) l := by
  pointwise [k0_pay14, k0_pay13, k0_pay12, k0_pay11, k0_pay10, k0_pay9, k0_pay8]
  rfl

theorem hpay15 (v : FVec Ideal S640x1 .f32) (a b c : FVec Ideal S640x1024 .f32) (r : Fin 640) (l : Fin 1024) :
    k0_pay15 (F := Ideal) v a b c (ix2 r l) = k0_pay14 (F := Ideal) v a b c (ix2 r l) := by
  pointwise [k0_pay15]

/-- The loss's running sum: half of the rows' mean squares. -/
theorem hpay19 (e : FVec Ideal S640x1024 .f32) (v : FVec Ideal S8x128 .f32) (r : Fin 8) (l : Fin 128) :
    k0_pay19 (F := Ideal) e v (ix2 r l) = v (ix2 r l) + cHalf * ∑ k : Fin 640, Ideal.div (∑ x : Fin 1024, e (ix2 k x) * e (ix2 k x)) cN := by
  pointwise [k0_pay19]

theorem hpay20 (a b : FVec Ideal S640x1024 .f32) (v : FVec Ideal S1x1024 .f32) (l : Fin 1024) :
    k0_pay20 (F := Ideal) a b v (ix2 0 l) = v (ix2 0 l) + ∑ x, a (ix2 x l) * b (ix2 x l) := by
  pointwise [k0_pay20]

theorem hpay1 (a : FVec Ideal S640x1024 .f32) (v : FVec Ideal S1x1024 .f32) (l : Fin 1024) :
    k0_pay1 (F := Ideal) a (k0_pay21 v) (ix2 0 l) = v (ix2 0 l) + ∑ x, a (ix2 x l) := by
  pointwise [k0_pay1, k0_pay21]

theorem hpay16 (r : Fin 8) (l : Fin 128) : k0_pay16 (F := Ideal) (ix2 r l) = 0 := by pointwise [k0_pay16]
theorem hpay17 (l : Fin 1024) : k0_pay17 (F := Ideal) (ix2 0 l) = 0 := by pointwise [k0_pay17]
theorem hpay18 (l : Fin 1024) : k0_pay18 (F := Ideal) (ix2 0 l) = 0 := by pointwise [k0_pay18]

/-- The arguments as the region finds them. -/
abbrev padRows (x : FVec Ideal S8208x1024 .f32) : FVec Ideal S8320x1024 .f32 :=
  pad S8320x1024 ![0, 0] ![112, 0] ![0, 0] x (sitofp .f32 (constantI S_ 32 0#32) : FVec Ideal S_ .f32) pads_S8208x1024_S8320x1024_01120_000 h_S_
abbrev padAct (x : FVec Ideal S8208x2816 .f32) : FVec Ideal S8320x2816 .bf16 :=
  truncf .bf16 (pad S8320x2816 ![0, 0] ![112, 0] ![0, 0] x (sitofp .f32 (constantI S_ 32 0#32) : FVec Ideal S_ .f32) pads_S8208x2816_S8320x2816_01120_000 h_S_) bitsLt_bf16_f32
abbrev target (x : FVec Ideal S8192x1024 .f32) : FVec Ideal S8320x1024 .f32 :=
  concatenate S8320x1024 0 [⟨S16x1024, (broadcastInDim S16x1024 ![] bcast_S_S16x1024 (constant S_ .f32 0x00000000#32 : FVec Ideal S_ .f32) : FVec Ideal S16x1024 .f32)⟩, ⟨S8192x1024, x⟩,
    ⟨S112x1024, (broadcastInDim S112x1024 ![] bcast_S_S112x1024 (constant S_ .f32 0x00000000#32 : FVec Ideal S_ .f32) : FVec Ideal S112x1024 .f32)⟩] concatenates_S16x1024_S8192x1024_S112x1024_S8320x1024_d0

theorem padRows_apply (x : FVec Ideal S8208x1024 .f32) (r : Fin 8320) (l : Fin 1024) : padRows x (ix2 r l) = if h : r.val < 8208 then x (ix2 ⟨r, h⟩ l) else 0 := by
  pointwise [padRows]
  rw [sitofp_zero]
theorem padAct_apply (x : FVec Ideal S8208x2816 .f32) (r : Fin 8320) (l : Fin 2816) : padAct x (ix2 r l) = if h : r.val < 8208 then x (ix2 ⟨r, h⟩ l) else 0 := by
  pointwise [padAct]
  rw [sitofp_zero]
theorem target_apply (x : FVec Ideal S8192x1024 .f32) (r : Fin 8320) (l : Fin 1024) : target x (ix2 r l) = if h : 16 ≤ r.val ∧ r.val < 8208 then x (ix2 ⟨r - 16, by omega⟩ l) else 0 := by
  pointwise [target]
  by_cases h1 : r.val < 16
  · rw [dif_pos h1, dif_neg (by omega)]
  · rw [dif_neg h1]
    by_cases h2 : r.val < 8208
    · rw [dif_pos (by omega), dif_pos (by omega)]
    · rw [dif_neg (by omega), dif_neg (by omega)]
theorem row_apply (x : FVec Ideal S1024 .f32) (l : Fin 1024) : broadcastInDim S1x1024 ![1] bcast_S1024_S1x1024_1 x (ix2 0 l) = x (ix1 l) := by
  pointwise

theorem V_v2 (c : Dev nD) : V m c main_v2 = target (m ((c : Thread nD τ).loc main_arg5)) := by
  simp only [V, hostOps0, hostOps0_1, hostOps0_2, hostOps0_3, hostOps0_4, List.flatten_cons, List.flatten_nil, List.cons_append, List.nil_append]
  after_results_simp
  try rfl

theorem V_v4 (c : Dev nD) : V m c main_v4 = padAct (m ((c : Thread nD τ).loc main_arg0)) := by
  simp only [V, hostOps0, hostOps0_1, hostOps0_2, hostOps0_3, hostOps0_4, List.flatten_cons, List.flatten_nil, List.cons_append, List.nil_append]
  after_results_simp
  try rfl

theorem V_v5 (c : Dev nD) : V m c main_v5 = (truncf .bf16 (m ((c : Thread nD τ).loc main_arg1) : FVec Ideal S2816x1024 .f32) bitsLt_bf16_f32 : FVec Ideal S2816x1024 .bf16) := by
  simp only [V, hostOps0, hostOps0_1, hostOps0_2, hostOps0_3, hostOps0_4, List.flatten_cons, List.flatten_nil, List.cons_append, List.nil_append]
  after_results_simp
  try rfl

theorem V_v6 (c : Dev nD) : V m c main_v6 = padRows (m ((c : Thread nD τ).loc main_arg2)) := by
  simp only [V, hostOps0, hostOps0_1, hostOps0_2, hostOps0_3, hostOps0_4, List.flatten_cons, List.flatten_nil, List.cons_append, List.nil_append]
  after_results_simp
  try rfl

theorem V_v7 (c : Dev nD) : V m c main_v7 = broadcastInDim S1x1024 ![1] bcast_S1024_S1x1024_1 (m ((c : Thread nD τ).loc main_arg3) : FVec Ideal S1024 .f32) := by
  simp only [V, hostOps0, hostOps0_1, hostOps0_2, hostOps0_3, hostOps0_4, List.flatten_cons, List.flatten_nil, List.cons_append, List.nil_append]
  after_results_simp
  try rfl

theorem V_v8 (c : Dev nD) : V m c main_v8 = broadcastInDim S1x1024 ![1] bcast_S1024_S1x1024_1 (m ((c : Thread nD τ).loc main_arg4) : FVec Ideal S1024 .f32) := by
  simp only [V, hostOps0, hostOps0_1, hostOps0_2, hostOps0_3, hostOps0_4, List.flatten_cons, List.flatten_nil, List.cons_append, List.nil_append]
  after_results_simp
  try rfl

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0] ∧ win0_10.index t = ![0, 0] ∧ (grid0.coords t 0).val = t.val :=
  (by decide +kernel : ∀ t : Fin grid0.N, _)
theorem lt_N (t : Fin cfg0.N) : t.val < 13 := lt_of_lt_of_eq t.isLt (show cfg0.N = 13 from N_0)

/-- The arguments at their own types. -/
abbrev aAct (c : Dev nD) : FVec Ideal S8208x2816 .f32 := m ((c : Thread nD τ).loc main_arg0)
abbrev aW (c : Dev nD) : FVec Ideal S2816x1024 .f32 := m ((c : Thread nD τ).loc main_arg1)
abbrev aH (c : Dev nD) : FVec Ideal S8208x1024 .f32 := m ((c : Thread nD τ).loc main_arg2)
abbrev aG (c : Dev nD) : FVec Ideal S1024 .f32 := m ((c : Thread nD τ).loc main_arg3)
abbrev aB (c : Dev nD) : FVec Ideal S1024 .f32 := m ((c : Thread nD τ).loc main_arg4)
abbrev aT (c : Dev nD) : FVec Ideal S8192x1024 .f32 := m ((c : Thread nD τ).loc main_arg5)

/-- The arguments padded with zero rows, at any row number. -/
def ACT (c : Dev nD) (n : ℕ) (x : Fin 2816) : EReal := if h : n < 8208 then aAct m c (ix2 ⟨n, h⟩ x) else 0
def HH (c : Dev nD) (n : ℕ) (l : Fin 1024) : EReal := if h : n < 8208 then aH m c (ix2 ⟨n, h⟩ l) else 0
def TT (c : Dev nD) (n : ℕ) (l : Fin 1024) : EReal := if h : 16 ≤ n ∧ n < 8208 then aT m c (ix2 ⟨n - 16, by omega⟩ l) else 0
def G (c : Dev nD) (l : Fin 1024) : EReal := aG m c (ix1 l)
def B (c : Dev nD) (l : Fin 1024) : EReal := aB m c (ix1 l)

/-- The blocks a grid point reads, at their own types. -/
abbrev blkA (c : Dev nD) (t : Fin cfg0.N) : FVec Ideal S640x2816 .bf16 := iblk m c 0 t
abbrev blkW (c : Dev nD) (t : Fin cfg0.N) : FVec Ideal S2816x1024 .bf16 := iblk m c 1 t
abbrev blkH (c : Dev nD) (t : Fin cfg0.N) : FVec Ideal S640x1024 .f32 := iblk m c 2 t
abbrev blkG (c : Dev nD) (t : Fin cfg0.N) : FVec Ideal S1x1024 .f32 := iblk m c 3 t
abbrev blkB (c : Dev nD) (t : Fin cfg0.N) : FVec Ideal S1x1024 .f32 := iblk m c 4 t
abbrev blkT (c : Dev nD) (t : Fin cfg0.N) : FVec Ideal S640x1024 .f32 := iblk m c 5 t

theorem blkA_apply (c : Dev nD) (t : Fin cfg0.N) (r : Fin 640) (x : Fin 2816) :
    blkA m c t (ix2 r x) = ACT m c (t.val * 640 + r.val) x := by
  have hN := lt_N t
  have e : blkA m c t (ix2 r x) = (V m c main_v4 : FVec Ideal S8320x2816 .bf16) (ix2 ⟨t.val * 640 + r.val, by omega⟩ x) := by
    blk_ext [blkA, iblk, idx t]
  rw [e, V_v4, padAct_apply]; rfl
theorem blkW_apply (c : Dev nD) (t : Fin cfg0.N) (x : Fin 2816) (l : Fin 1024) : blkW m c t (ix2 x l) = aW m c (ix2 x l) := by
  have e : blkW m c t (ix2 x l) = (V m c main_v5 : FVec Ideal S2816x1024 .bf16) (ix2 x l) := by
    blk_ext [blkW, iblk, idx t]
  rw [e, V_v5]; rfl
theorem blkH_apply (c : Dev nD) (t : Fin cfg0.N) (r : Fin 640) (l : Fin 1024) :
    blkH m c t (ix2 r l) = HH m c (t.val * 640 + r.val) l := by
  have hN := lt_N t
  have e : blkH m c t (ix2 r l) = (V m c main_v6 : FVec Ideal S8320x1024 .f32) (ix2 ⟨t.val * 640 + r.val, by omega⟩ l) := by
    blk_ext [blkH, iblk, idx t]
  rw [e, V_v6, padRows_apply]; rfl
theorem blkT_apply (c : Dev nD) (t : Fin cfg0.N) (r : Fin 640) (l : Fin 1024) :
    blkT m c t (ix2 r l) = TT m c (t.val * 640 + r.val) l := by
  have hN := lt_N t
  have e : blkT m c t (ix2 r l) = (V m c main_v2 : FVec Ideal S8320x1024 .f32) (ix2 ⟨t.val * 640 + r.val, by omega⟩ l) := by
    blk_ext [blkT, iblk, idx t]
  rw [e, V_v2, target_apply]; rfl
theorem blkG_apply (c : Dev nD) (t : Fin cfg0.N) (l : Fin 1024) : blkG m c t (ix2 0 l) = G m c l := by
  have e : blkG m c t (ix2 0 l) = (V m c main_v7 : FVec Ideal S1x1024 .f32) (ix2 0 l) := by
    blk_ext [blkG, iblk, idx t]
  rw [e, V_v7, row_apply]; rfl
theorem blkB_apply (c : Dev nD) (t : Fin cfg0.N) (l : Fin 1024) : blkB m c t (ix2 0 l) = B m c l := by
  have e : blkB m c t (ix2 0 l) = (V m c main_v8 : FVec Ideal S1x1024 .f32) (ix2 0 l) := by
    blk_ext [blkB, iblk, idx t]
  rw [e, V_v8, row_apply]; rfl

end Cert.LossBwdIdeal.Value

end
-- ==== Proof.Loss.Run.lean ====
/-
  The loss kernel over its grid: what each point leaves, and the five results' arrays.
-/
module

public import proofs.«01_k».proof.Proof.Loss.Body
public import Idealize.ShloMosaic.Lib.Pipeline.ReadBack

@[expose] public section

set_option maxRecDepth 16384

noncomputable section

namespace Cert.LossBwdIdeal.Value

open Cert.LossBwdIdeal Cert.LossBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The norm's input row, its output's difference from the target on the token rows, and that difference's gradient. -/
def Z (c : Dev nD) (n : ℕ) (l : Fin 1024) : EReal := cA * HH m c n l + ∑ x, ACT m c n x * aW m c (ix2 x l)
def Err (c : Dev nD) (n : ℕ) (l : Fin 1024) : EReal :=
  if 16 ≤ n ∧ n < 8208 then LN.xhat cN cE (Z m c n) l * G m c l + B m c l - TT m c n l else 0
def Dy (c : Dev nD) (n : ℕ) (l : Fin 1024) : EReal := Ideal.div (Err m c n l) cN

/-- The rows' gradients, the terms of the gain's gradient, a row's mean square, a block's part of the loss. -/
def dzAt (c : Dev nD) (n : ℕ) (l : Fin 1024) : EReal := LN.dz cN cE (G m c) (Z m c n) (Dy m c n) l
def dgAt (c : Dev nD) (n : ℕ) (l : Fin 1024) : EReal := Dy m c n l * LN.xhat cN cE (Z m c n) l
def Sq (c : Dev nD) (n : ℕ) : EReal := Ideal.div (∑ x, Err m c n x * Err m c n x) cN
def lossBlk (c : Dev nD) (i : ℕ) : EReal := cHalf * ∑ k : Fin 640, Sq m c (i * 640 + k.val)

/-- The norm's input, its output and the masked difference of a block. -/
abbrev zBlk (c : Dev nD) (t : Fin cfg0.N) : FVec Ideal S640x1024 .f32 := k0_pay2 (F := Ideal) (blkH m c t) (blkA m c t) (blkW m c t)
abbrev yBlk (c : Dev nD) (t : Fin cfg0.N) : FVec Ideal S640x1024 .f32 := k0_pay3 (F := Ideal) (blkH m c t) (blkA m c t) (blkW m c t) (blkG m c t) (blkB m c t)
abbrev eBlk (c : Dev nD) (t : Fin cfg0.N) : FVec Ideal S640x1024 .f32 := k0_pay6 (F := Ideal) (yBlk m c t) (k0_pay4 (grid0.coords t)) (k0_pay5 (grid0.coords t)) (blkT m c t)
abbrev dBlk (c : Dev nD) (t : Fin cfg0.N) : FVec Ideal S640x1024 .f32 := k0_pay7 (F := Ideal) (yBlk m c t) (k0_pay4 (grid0.coords t)) (k0_pay5 (grid0.coords t)) (blkT m c t)
abbrev dzBlk (c : Dev nD) (t : Fin cfg0.N) : FVec Ideal S640x1024 .f32 :=
  k0_pay14 (F := Ideal) (k0_pay9 (zBlk m c t)) (k0_pay10 (zBlk m c t)) (k0_pay12 (yBlk m c t) (k0_pay4 (grid0.coords t)) (k0_pay5 (grid0.coords t)) (blkT m c t) (blkG m c t))
    (k0_pay13 (zBlk m c t) (yBlk m c t) (k0_pay4 (grid0.coords t)) (k0_pay5 (grid0.coords t)) (blkT m c t) (blkG m c t))

theorem zBlk_apply (c : Dev nD) (t : Fin cfg0.N) (r : Fin 640) (l : Fin 1024) : zBlk m c t (ix2 r l) = Z m c (t.val * 640 + r.val) l := by
  refine (hpay2 _ _ _ r l).trans ?_; simp only [blkH_apply, blkA_apply, blkW_apply]; rfl
theorem yBlk_apply (c : Dev nD) (t : Fin cfg0.N) (r : Fin 640) (l : Fin 1024) :
    yBlk m c t (ix2 r l) = LN.xhat cN cE (Z m c (t.val * 640 + r.val)) l * G m c l + B m c l := by
  refine (hpay3 _ _ _ _ _ r l).trans ?_
  show LN.xhat cN cE (fun k => zBlk m c t (ix2 r k)) l * blkG m c t (ix2 0 l) + blkB m c t (ix2 0 l) = _
  simp only [zBlk_apply, blkG_apply, blkB_apply]
theorem eBlk_apply (c : Dev nD) (t : Fin cfg0.N) (r : Fin 640) (l : Fin 1024) : eBlk m c t (ix2 r l) = Err m c (t.val * 640 + r.val) l := by
  refine (hpay6 _ _ _ r l).trans ?_
  simp only [(idx t).2.2.2.2.2.2.2.2.2.2.2, yBlk_apply, blkT_apply]; rfl
theorem dBlk_apply (c : Dev nD) (t : Fin cfg0.N) (r : Fin 640) (l : Fin 1024) : dBlk m c t (ix2 r l) = Dy m c (t.val * 640 + r.val) l := by
  exact (hpay7 _ _ _ _ r l).trans (congrArg (Ideal.div · cN) (eBlk_apply m c t r l))
theorem dzBlk_apply (c : Dev nD) (t : Fin cfg0.N) (r : Fin 640) (l : Fin 1024) : dzBlk m c t (ix2 r l) = dzAt m c (t.val * 640 + r.val) l := by
  refine (hpay14 _ _ _ _ _ _ r l).trans ?_; simp only [zBlk_apply, dBlk_apply, blkG_apply]; rfl

/-- What point `n` leaves: its rows' gradients; the loss's, the gain's and the bias's sums over the rows done. -/
def Left (c : Dev nD) (n : ℕ) (o : Vec Ideal S640x1024 .f32 × Vec Ideal S640x1024 .bf16 × Vec Ideal S8x128 .f32 × Vec Ideal S1x1024 .f32 × Vec Ideal S1x1024 .f32) : Prop :=
  (∀ r l, o.1 (ix2 r l) = dzAt m c (n * 640 + r.val) l) ∧
  (∀ r l, o.2.1 (ix2 r l) = dzAt m c (n * 640 + r.val) l) ∧
  (∀ r l, o.2.2.1 (ix2 r l) = ∑ i ∈ Finset.range (n + 1), lossBlk m c i) ∧
  (∀ l, o.2.2.2.1 (ix2 0 l) = ∑ k ∈ Finset.range ((n + 1) * 640), dgAt m c k l) ∧
  (∀ l, o.2.2.2.2 (ix2 0 l) = ∑ k ∈ Finset.range ((n + 1) * 640), Dy m c k l)

/-- The three sums' step at a point. -/
theorem sums_of (c : Dev nD) (t : Fin cfg0.N) (s : FVec Ideal S8x128 .f32) (g b : FVec Ideal S1x1024 .f32)
    (hs : ∀ r l, s (ix2 r l) = ∑ i ∈ Finset.range t.val, lossBlk m c i)
    (hg : ∀ l, g (ix2 0 l) = ∑ k ∈ Finset.range (t.val * 640), dgAt m c k l)
    (hb : ∀ l, b (ix2 0 l) = ∑ k ∈ Finset.range (t.val * 640), Dy m c k l) :
    (∀ r l, k0_pay19 (F := Ideal) (eBlk m c t) s (ix2 r l) = ∑ i ∈ Finset.range (t.val + 1), lossBlk m c i) ∧
    (∀ l, k0_pay20 (F := Ideal) (dBlk m c t) (k0_pay10 (zBlk m c t)) g (ix2 0 l) = ∑ k ∈ Finset.range ((t.val + 1) * 640), dgAt m c k l) ∧
    (∀ l, k0_pay1 (F := Ideal) (dBlk m c t) (k0_pay21 b) (ix2 0 l) = ∑ k ∈ Finset.range ((t.val + 1) * 640), Dy m c k l) := by
  have e : (t.val + 1) * 640 = t.val * 640 + 640 := by omega
  refine ⟨fun r l => ?_, fun l => ?_, fun l => ?_⟩
  · rw [hpay19, hs, Finset.sum_range_succ]
    simp only [eBlk_apply]; rfl
  · rw [hpay20, hg, e, ← sum_block_after]
    simp only [hpay10, dBlk_apply, zBlk_apply]; rfl
  · rw [hpay1, hb, e, ← sum_block_after]
    simp only [dBlk_apply]

theorem left (c : Dev nD) : ∀ (n : ℕ) (hn : n < cfg0.N), Left m c n (outsAt0 m c n hn) := by
  intro n
  induction n with
  | zero =>
    intro hn
    rw [outsAt0_A m c ⟨0, hn⟩ rfl]
    have h := sums_of m c ⟨0, hn⟩ (k0_pay16 (F := Ideal)) (k0_pay17 (F := Ideal)) (k0_pay18 (F := Ideal)) (fun r l => by rw [hpay16]; simp) (fun l => by rw [hpay17]; simp) (fun l => by rw [hpay18]; simp)
    refine ⟨fun r l => ?_, fun r l => ?_, fun r l => ?_, fun l => ?_, fun l => ?_⟩
    · dsimp only; frame_out; exact dzBlk_apply m c ⟨0, hn⟩ r l
    · dsimp only; frame_out; rw [hpay15]; exact dzBlk_apply m c ⟨0, hn⟩ r l
    · dsimp only; frame_out; exact h.1 r l
    · dsimp only; frame_out; exact h.2.1 l
    · dsimp only; frame_out; exact h.2.2 l
  | succ n ih =>
    intro hn
    obtain ⟨i1, i2, i3, i4, i5⟩ := ih (by omega)
    have hN := lt_N ⟨n + 1, hn⟩
    dsimp only at hN
    rw [outsAt0_B m c ⟨n + 1, hn⟩ (by dsimp only; omega)]
    have h := sums_of m c ⟨n + 1, hn⟩ (outsAt0 m c n (by omega)).2.2.1 (outsAt0 m c n (by omega)).2.2.2.1 (outsAt0 m c n (by omega)).2.2.2.2 i3 i4 i5
    refine ⟨fun r l => ?_, fun r l => ?_, fun r l => ?_, fun l => ?_, fun l => ?_⟩
    · dsimp only; frame_out; exact dzBlk_apply m c ⟨n + 1, hn⟩ r l
    · dsimp only; frame_out; rw [hpay15]; exact dzBlk_apply m c ⟨n + 1, hn⟩ r l
    · dsimp only; frame_out; exact h.1 r l
    · dsimp only; frame_out; exact h.2.1 l
    · dsimp only; frame_out; exact h.2.2 l

/-- The results' arrays as functions of the arguments. -/
def Dz (c : Dev nD) : FVec Ideal S8320x1024 .f32 := fun j => dzAt m c (j 0).val (j 1)
def Dzb (c : Dev nD) : FVec Ideal S8320x1024 .bf16 := fun j => dzAt m c (j 0).val (j 1)
def Loss (c : Dev nD) : FVec Ideal S8x128 .f32 := fun _ => ∑ i ∈ Finset.range 13, lossBlk m c i
def Dg (c : Dev nD) : FVec Ideal S1x1024 .f32 := fun j => ∑ k ∈ Finset.range 8320, dgAt m c k (j 1)
def Db (c : Dev nD) : FVec Ideal S1x1024 .f32 := fun j => ∑ k ∈ Finset.range 8320, Dy m c k (j 1)

/-- The last grid point. -/
def last : Fin cfg0.N := ⟨12, by rw [show cfg0.N = 13 from N_0]; decide⟩

theorem result6 (c : Dev nD) : (dats m 0 c).arrAt 6 cfg0.N = Dz m c := by
  refine (dats m 0 c).arrAt_eq_of_covers 6 _ (by decide +kernel) fun t hf y => ?_
  blk_simp
  rw [after0_6]
  idx_vars y
  refine ((left m c t.val t.isLt).1 y0 y1).trans ?_
  have hN := lt_N t
  have e : ((View.whole main_v9_0).slice (win0_6.rect t)).emb (ix2 y0 y1) = (ix2 ⟨t.val * 640 + y0.val, by omega⟩ y1 : S8320x1024.Idx) := by
    blk_ext [idx t]
  rw [e]; rfl

theorem result7 (c : Dev nD) : (dats m 0 c).arrAt 7 cfg0.N = Dzb m c := by
  refine (dats m 0 c).arrAt_eq_of_covers 7 _ (by decide +kernel) fun t hf y => ?_
  blk_simp
  rw [after0_7]
  idx_vars y
  refine ((left m c t.val t.isLt).2.1 y0 y1).trans ?_
  have hN := lt_N t
  have e : ((View.whole main_v9_1).slice (win0_7.rect t)).emb (ix2 y0 y1) = (ix2 ⟨t.val * 640 + y0.val, by omega⟩ y1 : S8320x1024.Idx) := by
    blk_ext [idx t]
  rw [e]; rfl

theorem result8 (c : Dev nD) : (dats m 0 c).arrAt 8 cfg0.N = Loss m c := by
  refine (dats m 0 c).arrAt_eq_of_after_last 8 last (by decide +kernel) _ fun j => ?_
  blk_simp
  rw [after0_8]
  idx_vars j
  exact (left m c last.val last.isLt).2.2.1 j0 j1

theorem result9 (c : Dev nD) : (dats m 0 c).arrAt 9 cfg0.N = Dg m c := by
  refine (dats m 0 c).arrAt_eq_of_after_last 9 last (by decide +kernel) _ fun j => ?_
  blk_simp
  rw [after0_9]
  idx_vars j
  obtain rfl : j0 = 0 := Subsingleton.elim _ _
  exact (left m c last.val last.isLt).2.2.2.1 j1

theorem result10 (c : Dev nD) : (dats m 0 c).arrAt 10 cfg0.N = Db m c := by
  refine (dats m 0 c).arrAt_eq_of_after_last 10 last (by decide +kernel) _ fun j => ?_
  blk_simp
  rw [after0_10]
  idx_vars j
  obtain rfl : j0 = 0 := Subsingleton.elim _ _
  exact (left m c last.val last.isLt).2.2.2.2 j1

end Cert.LossBwdIdeal.Value

end
-- ==== Proof.Loss.Ref.lean ====
/-
  The reference's loss and its derivative at the last layer norm, read at an index.
-/
module

public import proofs.«01_k».proof.Proof.Gen.LossRefIdeal.Read
public import proofs.«01_k».proof.Proof.LayerNorm

@[expose] public section

set_option maxRecDepth 16384

noncomputable section

namespace Cert.LossRefIdeal.Read

open Cert.LossRefIdeal Idealize.ShloMosaic Idealize.ShloMosaic.TcCoe

variable (a : FVec Ideal S8208x2816 .f32) (w : FVec Ideal S2816x1024 .f32) (h : FVec Ideal S8208x1024 .f32)
  (g b : FVec Ideal S1024 .f32) (t : FVec Ideal S8192x1024 .f32)

abbrev cN : EReal := Ideal.ofBits .f32 1149239296#32
abbrev cE : EReal := Ideal.ofBits .f32 925353388#32
abbrev cA : EReal := Ideal.ofBits .f32 1068827891#32
abbrev cH : EReal := Ideal.ofBits .f32 0xBF000000#32
abbrev cHalf : EReal := Ideal.ofBits .f32 1056964608#32
abbrev cTwo : EReal := Ideal.ofBits .f32 1073741824#32

/-- The norm's input. -/
abbrev z : FVec Ideal S8208x1024 .f32 := val_main_v3 (F := Ideal) a w h

theorem v3_apply (r : Fin 8208) (l : Fin 1024) :
    z a w h (ix2 r l) = cA * h (ix2 r l) + ∑ x, a (ix2 r x) * w (ix2 x l) := by
  pointwise [z, val_main_v3, val_main_v2, val_main_v1, val_main_v0, val_main_cst]

theorem v9_apply (r : Fin 8208) (l : Fin 1024) :
    val_main_v9 (F := Ideal) a w h (ix2 r l) = LN.xc cN (fun k => z a w h (ix2 r k)) l := by
  pointwise [val_main_v9, val_main_v8, val_main_v7, val_main_v6, val_main_v5, val_main_v4, val_main_cst_0, val_main_cst_1]
  rfl

theorem v16_apply (r : Fin 8208) (l : Fin 1) :
    val_main_v16 (F := Ideal) a w h (ix2 r l) = LN.mean cN (fun k => LN.xc cN (fun k => z a w h (ix2 r k)) k * LN.xc cN (fun k => z a w h (ix2 r k)) k) + cE := by
  pointwise [val_main_v16, val_main_v15, val_main_v14, val_main_v13, val_main_v12, val_main_v11, val_main_v10, val_main_cst_2, val_main_cst_3, val_main_cst_4, v9_apply]
  rfl

theorem v22_apply (r : Fin 8208) (l : Fin 1024) :
    val_main_v22 (F := Ideal) a w h (ix2 r l) = LN.xhat cN cE (fun k => z a w h (ix2 r k)) l := by
  pointwise [val_main_v22, val_main_v21, val_main_v17, v16_apply, v9_apply]
  rfl

/-- The output's difference from the target. -/
theorem v30_apply (r : Fin 8192) (l : Fin 1024) :
    val_main_v30 (F := Ideal) a w h g b t (ix2 r l)
      = val_main_v22 (F := Ideal) a w h (ix2 ⟨16 + r.val, by omega⟩ l) * g (ix1 l) + b (ix1 l) - t (ix2 r l) := by
  pointwise [val_main_v30, val_main_v29, val_main_v28, val_main_v27, val_main_v26, val_main_v25, val_main_v24, val_main_v23]

theorem v38_apply : val_main_v38 (F := Ideal) a w h g b t ix0
      = cHalf * ∑ r, Ideal.div (∑ x, val_main_v30 (F := Ideal) a w h g b t (ix2 r x) * val_main_v30 (F := Ideal) a w h g b t (ix2 r x)) cN := by
  pointwise [val_main_v38, val_main_v37, val_main_v36, val_main_v35, val_main_v34, val_main_v31, val_main_cst_7, val_main_cst_8, val_main_cst_9, val_main_cst_10]

theorem v79_apply (r : Fin 8) (l : Fin 128) : val_main_v79 (F := Ideal) a w h g b t (ix2 r l) = val_main_v38 (F := Ideal) a w h g b t ix0 := by
  pointwise [val_main_v79]

theorem v45_apply (r : Fin 8208) (l : Fin 1024) :
    val_main_v45 (F := Ideal) a w h g b t (ix2 r l)
      = if hr : 16 ≤ r.val then Ideal.div cHalf cN * (cTwo * val_main_v30 (F := Ideal) a w h g b t (ix2 ⟨r.val - 16, by omega⟩ l)) else 0 := by
  pointwise [val_main_v45, val_main_v44, val_main_v43, val_main_v42, val_main_v41, val_main_v40, val_main_v39, val_main_v33, val_main_v32, val_main_cst_6, val_main_cst_11, val_main_cst_12, val_main_cst_13, val_main_cst_14]
  by_cases hr : 16 ≤ r.val
  · rw [dif_pos ⟨hr, by omega⟩, dif_pos hr]
  · rw [dif_neg (fun h => hr h.1), dif_neg hr]

theorem v53_apply (r : Fin 8208) (l : Fin 1024) :
    val_main_v53 (F := Ideal) a w h g b t (ix2 r l) = val_main_v45 (F := Ideal) a w h g b t (ix2 r l) * g (ix1 l) := by
  pointwise [val_main_v53, val_main_v52, val_main_v23]

theorem v64_apply (r : Fin 8208) (l : Fin 1024) :
    val_main_v64 (F := Ideal) a w h g b t (ix2 r l) = LN.spread cN cE cH (fun k => z a w h (ix2 r k)) (fun k => val_main_v53 (F := Ideal) a w h g b t (ix2 r k)) := by
  pointwise [val_main_v64, val_main_v63, val_main_v62, val_main_v61, val_main_v60, val_main_v57, val_main_v56, val_main_v55, val_main_v20, val_main_v19, val_main_v18, val_main_v17,
    val_main_cst_5, val_main_cst_19, val_main_cst_20, val_main_cst_21, v9_apply, v16_apply]
  rw [Fin.sum_univ_one]
  rfl

theorem v68_apply (r : Fin 8208) (l : Fin 1024) :
    val_main_v68 (F := Ideal) a w h g b t (ix2 r l) = LN.pulled cN cE cH (fun k => z a w h (ix2 r k)) (fun k => val_main_v53 (F := Ideal) a w h g b t (ix2 r k)) l := by
  pointwise [val_main_v68, val_main_v67, val_main_v66, val_main_v65, val_main_v59, val_main_v58, val_main_v17, v9_apply, v16_apply, v64_apply]
  rfl

theorem v76_apply (r : Fin 8208) (l : Fin 1024) :
    val_main_v76 (F := Ideal) a w h g b t (ix2 r l) = LN.dzLines cN cE cH (fun k => z a w h (ix2 r k)) (fun k => val_main_v53 (F := Ideal) a w h g b t (ix2 r k)) l := by
  pointwise [val_main_v76, val_main_v75, val_main_v74, val_main_v73, val_main_v72, val_main_v71, val_main_v70, val_main_v69, val_main_cst_22, val_main_cst_23, val_main_cst_24, v68_apply]
  rw [Fin.sum_univ_one]
  rfl

theorem v77_apply (r : Fin 8320) (l : Fin 1024) :
    val_main_v77 (F := Ideal) a w h g b t (ix2 r l) = if hr : r.val < 8208 then val_main_v76 (F := Ideal) a w h g b t (ix2 ⟨r, hr⟩ l) else 0 := by
  pointwise [val_main_v77, val_main_call0_v0, val_main_c]
  rw [Math.sitofp_zero]

theorem v78_apply (r : Fin 8320) (l : Fin 1024) :
    val_main_v78 (F := Ideal) a w h g b t (ix2 r l) = val_main_v77 (F := Ideal) a w h g b t (ix2 r l) := by
  pointwise [val_main_v78]

theorem v80_apply (l : Fin 1024) :
    val_main_v80 (F := Ideal) a w h g b t (ix2 0 l) = ∑ r, val_main_v22 (F := Ideal) a w h (ix2 r l) * val_main_v45 (F := Ideal) a w h g b t (ix2 r l) := by
  pointwise [val_main_v80, val_main_v54, val_main_v51, val_main_v50, val_main_v49, val_main_cst_17, val_main_cst_18]
  rw [Fin.sum_univ_one]

theorem v81_apply (l : Fin 1024) :
    val_main_v81 (F := Ideal) a w h g b t (ix2 0 l) = ∑ r, val_main_v45 (F := Ideal) a w h g b t (ix2 r l) := by
  pointwise [val_main_v81, val_main_v48, val_main_v47, val_main_v46, val_main_cst_15, val_main_cst_16]
  rw [Fin.sum_univ_one]

end Cert.LossRefIdeal.Read

end
-- ==== Proof.Loss.Claim.lean ====
/-
  The claims about the loss kernel and its reference: the loss and the four gradients agree.
-/
module

public import proofs.«01_k».proof.Defs
public import proofs.«01_k».proof.Proof.Loss.Run
public import proofs.«01_k».proof.Proof.Loss.Ref
public import proofs.«01_k».proof.Proof.Gen.LossBwd.Frame
public import proofs.«01_k».proof.Proof.Gen.Pre_loss_finite
public import Idealize.ShloMosaic.Lib.Claim
public import Idealize.ShloMosaic.Lib.ReduceAll

@[expose] public section

set_option maxRecDepth 16384

noncomputable section

namespace Cert.LossBwdIdeal.Value

open Cert.LossBwdIdeal Cert.LossBwdIdeal.Gen Idealize.ShloMosaic Idealize.ShloMosaic.TcCoe Idealize.SL.Sem
open Cert.Math
open Cert.LossRefIdeal.Read

variable (m : (ℓ : Loc nD τ sig) → Buf (Elt Ideal) ℓ)

/-- The arguments are real numbers. -/
structure Finite (c : Dev nD) : Prop where
  a : ∀ i, Real (aAct m c i)
  w : ∀ i, Real (aW m c i)
  h : ∀ i, Real (aH m c i)
  g : ∀ i, Real (aG m c i)
  b : ∀ i, Real (aB m c i)
  t : ∀ i, Real (aT m c i)

theorem cA_real : Real Value.cA := ⟨_, by simp [Value.cA, Ideal.ofBits, Ideal.ieee]; rw [← EReal.coe_mul]⟩

theorem Z_row (c : Dev nD) (n : Fin 8208) : Z m c n.val = fun l => z (aAct m c) (aW m c) (aH m c) (ix2 n l) := by
  funext l
  rw [v3_apply]
  unfold Z
  rw [show HH m c n.val l = _ from dif_pos n.isLt]
  refine congrArg (_ + ·) (Finset.sum_congr rfl fun x _ => ?_)
  rw [show ACT m c n.val x = _ from dif_pos n.isLt]

theorem Z_real (c : Dev nD) (h : Finite m c) (n : Fin 8208) (l : Fin 1024) : Real (Z m c n.val l) := by
  rw [Z_row]; show Real (z (aAct m c) (aW m c) (aH m c) (ix2 n l)); rw [v3_apply]
  exact (cA_real.mul (h.h _)).add (Real.sum _ fun x _ => (h.a _).mul (h.w _))

theorem Z_zero (c : Dev nD) (n : ℕ) (hn : 8208 ≤ n) : Z m c n = fun _ => 0 := by
  funext l
  unfold Z
  rw [show HH m c n l = 0 from dif_neg (by omega), mul_zero, zero_add]
  exact Finset.sum_eq_zero fun x _ => by rw [show ACT m c n x = 0 from dif_neg (by omega), zero_mul]

theorem Err_row (c : Dev nD) (r : Fin 8192) (l : Fin 1024) :
    Err m c (16 + r.val) l = val_main_v30 (F := Ideal) (aAct m c) (aW m c) (aH m c) (aG m c) (aB m c) (aT m c) (ix2 r l) := by
  rw [v30_apply, v22_apply, ← Z_row m c ⟨16 + r.val, by omega⟩]
  unfold Err
  rw [if_pos (by omega)]
  congr 1
  refine (dif_pos (show 16 ≤ 16 + r.val ∧ 16 + r.val < 8208 by omega)).trans ?_
  congr 2
  exact Fin.ext (show 16 + r.val - 16 = r.val by omega)

theorem Err_real (c : Dev nD) (h : Finite m c) (n : ℕ) (l : Fin 1024) : Real (Err m c n l) := by
  unfold Err
  split
  · next hn =>
    obtain ⟨e, he, hE⟩ := LN.ofBits_eps
    refine (((LN.xhat_isReal _ _ LN.ofBits_1024 hE he (by norm_num) _ (fun k => Z_real m c h ⟨n, hn.2⟩ k) l).mul (h.g _)).add (h.b _)).sub ?_
    rw [show TT m c n l = _ from dif_pos hn]; exact h.t _
  · exact Real.zero

theorem Err_zero (c : Dev nD) (n : ℕ) (hn : ¬(16 ≤ n ∧ n < 8208)) (l : Fin 1024) : Err m c n l = 0 := if_neg hn

theorem div_zero_N : Ideal.div 0 Value.cN = 0 := by
  rw [show Value.cN = _ from LN.ofBits_1024, Ideal.div_coe (by norm_num), zero_mul]

theorem Dy_zero (c : Dev nD) (n : ℕ) (hn : ¬(16 ≤ n ∧ n < 8208)) (l : Fin 1024) : Dy m c n l = 0 := by
  unfold Dy; rw [Err_zero m c n hn]; exact div_zero_N

theorem Dy_real (c : Dev nD) (h : Finite m c) (n : ℕ) (l : Fin 1024) : Real (Dy m c n l) :=
  LN.div_isReal _ LN.ofBits_1024 (by norm_num) (Err_real m c h n l)

/-- The gradient at the norm's output, half times two over the row's length times the difference. -/
theorem Dy_row (c : Dev nD) (n : Fin 8208) (l : Fin 1024) :
    Dy m c n.val l = val_main_v45 (F := Ideal) (aAct m c) (aW m c) (aH m c) (aG m c) (aB m c) (aT m c) (ix2 n l) := by
  rw [v45_apply]
  split
  · next hr =>
    rw [← Err_row]
    rw [show 16 + (⟨n.val - 16, by omega⟩ : Fin 8192).val = n.val by show 16 + (n.val - 16) = n.val; omega]
    unfold Dy
    rw [show Value.cN = _ from LN.ofBits_1024, show LossRefIdeal.Read.cHalf = _ from LN.ofBits_half, show cTwo = _ from LN.ofBits_two, show LossRefIdeal.Read.cN = _ from LN.ofBits_1024,
      Ideal.div_coe (by norm_num), Ideal.div_coe (by norm_num), ← EReal.coe_mul, ← mul_assoc, ← EReal.coe_mul, mul_comm]
    norm_num
  · next hr => exact Dy_zero m c n.val (fun h => hr h.1) l

theorem dgAt_zero (c : Dev nD) (n : ℕ) (hn : 8208 ≤ n) (l : Fin 1024) : dgAt m c n l = 0 := by
  unfold dgAt; rw [Dy_zero m c n (by omega), zero_mul]

theorem dzAt_zero (c : Dev nD) (n : ℕ) (hn : 8208 ≤ n) (l : Fin 1024) : dzAt m c n l = 0 := by
  unfold dzAt
  rw [show Dy m c n = fun _ => 0 from funext (Dy_zero m c n (by omega)), Z_zero m c n hn]
  exact LN.dz_zero _ _ LN.ofBits_1024 (by norm_num) _ l

theorem dzAt_row (c : Dev nD) (h : Finite m c) (n : Fin 8208) (l : Fin 1024) :
    dzAt m c n.val l = val_main_v76 (F := Ideal) (aAct m c) (aW m c) (aH m c) (aG m c) (aB m c) (aT m c) (ix2 n l) := by
  obtain ⟨e, he, hE⟩ := LN.ofBits_eps
  rw [v76_apply]
  simp only [v53_apply, ← Dy_row]
  rw [← Z_row]
  exact (LN.dzLines_eq _ _ LN.ofBits_1024 hE he (by norm_num) (by norm_num) LN.ofBits_mhalf (fun k => aG m c (ix1 k))
    (Z m c n.val) (fun k => Dy m c n.val k) (fun k => h.g _) (Z_real m c h n) (fun k => Dy_real m c h n.val k) l).symm

theorem dz_ref (c : Dev nD) (h : Finite m c) :
    Dz m c = val_main_v77 (F := Ideal) (aAct m c) (aW m c) (aH m c) (aG m c) (aB m c) (aT m c) := by
  funext j
  idx_vars j
  refine Eq.trans ?_ (v77_apply _ _ _ _ _ _ j0 j1).symm
  show dzAt m c j0 j1 = _
  split
  · next hj => exact dzAt_row m c h ⟨j0, hj⟩ j1
  · next hj => exact dzAt_zero m c j0 (by omega) j1

theorem dzb_ref (c : Dev nD) (h : Finite m c) :
    Dzb m c = val_main_v78 (F := Ideal) (aAct m c) (aW m c) (aH m c) (aG m c) (aB m c) (aT m c) := by
  funext j
  idx_vars j
  exact (congrFun (dz_ref m c h) (ix2 j0 j1)).trans (v78_apply _ _ _ _ _ _ j0 j1).symm

theorem Sq_real (c : Dev nD) (h : Finite m c) (n : ℕ) : Real (Sq m c n) :=
  LN.div_isReal _ LN.ofBits_1024 (by norm_num) (Real.sum _ fun x _ => (Err_real m c h n x).mul (Err_real m c h n x))

theorem Sq_zero (c : Dev nD) (n : ℕ) (hn : ¬(16 ≤ n ∧ n < 8208)) : Sq m c n = 0 := by
  unfold Sq
  rw [Finset.sum_eq_zero fun x _ => by rw [Err_zero m c n hn, zero_mul]]
  exact div_zero_N

theorem loss_eq (c : Dev nD) (h : Finite m c) :
    ∑ i ∈ Finset.range 13, lossBlk m c i
      = val_main_v38 (F := Ideal) (aAct m c) (aW m c) (aH m c) (aG m c) (aB m c) (aT m c) ix0 := by
  unfold lossBlk
  rw [mul_sum_real _ ⟨_, LN.ofBits_half⟩ (fun i => Real.sum _ fun k _ => Sq_real m c h _), sum_blocks, v38_apply]
  refine congrArg (_ * ·) ?_
  rw [show 13 * 640 = 16 + 8304 from rfl, Finset.sum_range_add, Finset.sum_eq_zero (s := Finset.range 16) (fun k hk => Sq_zero m c k (by have := Finset.mem_range.mp hk; omega)), zero_add]
  refine (sum_range_rows (fun k => Sq m c (16 + k)) 8192 8304 (by omega) fun k hk => Sq_zero m c _ (by omega)).trans ?_
  refine Finset.sum_congr rfl fun r _ => ?_
  simp only [← Err_row]; rfl

theorem loss_ref (c : Dev nD) (h : Finite m c) :
    Loss m c = val_main_v79 (F := Ideal) (aAct m c) (aW m c) (aH m c) (aG m c) (aB m c) (aT m c) := by
  funext j
  idx_vars j
  exact (loss_eq m c h).trans (v79_apply _ _ _ _ _ _ j0 j1).symm

theorem dg_ref (c : Dev nD) :
    Dg m c = val_main_v80 (F := Ideal) (aAct m c) (aW m c) (aH m c) (aG m c) (aB m c) (aT m c) := by
  funext j
  idx_vars j
  obtain rfl : j0 = 0 := Subsingleton.elim _ _
  refine ((sum_range_rows (fun k => dgAt m c k j1) 8208 8320 (by omega) fun k hk => dgAt_zero m c k hk j1).trans ?_).trans (v80_apply _ _ _ _ _ _ j1).symm
  refine Finset.sum_congr rfl fun n _ => ?_
  rw [v22_apply, ← Dy_row, mul_comm, ← Z_row]; rfl

theorem db_ref (c : Dev nD) :
    Db m c = val_main_v81 (F := Ideal) (aAct m c) (aW m c) (aH m c) (aG m c) (aB m c) (aT m c) := by
  funext j
  idx_vars j
  obtain rfl : j0 = 0 := Subsingleton.elim _ _
  refine ((sum_range_rows (fun k => Dy m c k j1) 8208 8320 (by omega) fun k hk => Dy_zero m c k (by omega) j1).trans ?_).trans (v81_apply _ _ _ _ _ _ j1).symm
  exact Finset.sum_congr rfl fun n _ => Dy_row m c n j1

end Cert.LossBwdIdeal.Value

namespace Cert.Loss

open Idealize.ShloMosaic Idealize.ShloMosaic.TcCoe Idealize.SL.Sem

theorem frame_bits : Cert.quiescent_LossBwd := fun m ρ _ => Cert.LossBwd.Gen.frame m ρ
theorem frame_ideal : Cert.quiescent_LossBwdIdeal := fun m ρ _ => Cert.LossBwdIdeal.Gen.frame m ρ
theorem frame_ideal_pre : Cert.quiescent_LossBwdIdeal_pre_loss_finite := fun m ρ _ => Cert.LossBwdIdeal.Gen.frame m ρ
theorem frame_ref : Cert.quiescent_LossRefIdeal := fun m g _ =>
  (θ_run Cert.LossRefIdeal.defs _ _).mono (fun r h => ⟨fun c => (h c).2.2.2.2.2, sem_eq_zero_of_no_sems (by decide) r.2⟩)
    (Cert.LossRefIdeal.Value.run (F := Ideal) m g)
theorem frame_ref_pre : Cert.quiescent_LossRefIdeal_pre_loss_finite := fun m g _ => frame_ref m g trivial

open Cert.LossBwdIdeal Cert.LossBwdIdeal.Value Cert.Math in
/-- The precondition says that the arguments are real numbers. -/
theorem finite (m : (ℓ : Loc nD τ sig) → Buf (Elt Ideal) ℓ) (h : Cert.Pre_LossBwdIdeal_loss_finite m) (c : Dev nD) : Finite m c := by
  have h1 := congrFun (h c) (fun a => a.elim0)
  obtain ⟨h1, h5⟩ := and_one _ _ _ h1
  obtain ⟨h1, h4⟩ := and_one _ _ _ h1
  obtain ⟨h1, h3⟩ := and_one _ _ _ h1
  obtain ⟨h1, h2⟩ := and_one _ _ _ h1
  obtain ⟨h0, h1⟩ := and_one _ _ _ h1
  exact ⟨fun i => Real.of_cmp _ _ _ ofBits_inf (Host.reduce_andi_all _ _ _ _ _ h0 i),
    fun i => Real.of_cmp _ _ _ ofBits_inf (Host.reduce_andi_all _ _ _ _ _ h1 i),
    fun i => Real.of_cmp _ _ _ ofBits_inf (Host.reduce_andi_all _ _ _ _ _ h2 i),
    fun i => Real.of_cmp _ _ _ ofBits_inf (Host.reduce_andi_all _ _ _ _ _ h3 i),
    fun i => Real.of_cmp _ _ _ ofBits_inf (Host.reduce_andi_all _ _ _ _ _ h4 i),
    fun i => Real.of_cmp _ _ _ ofBits_inf (Host.reduce_andi_all _ _ _ _ _ h5 i)⟩

open Cert.LossBwdIdeal.Value in
set_option maxHeartbeats 4000000 in
theorem value : Cert.algebraic_LossBwdIdeal_LossRefIdeal_pre_loss_finite := by
  pair_intro
  · run_from Cert.LossBwdIdeal.Gen.run_main m g
    · exact Cert.LossBwdIdeal.Gen.V_main_arg0 m c
    · exact Cert.LossBwdIdeal.Gen.V_main_arg1 m c
    · exact Cert.LossBwdIdeal.Gen.V_main_arg2 m c
    · exact Cert.LossBwdIdeal.Gen.V_main_arg3 m c
    · exact Cert.LossBwdIdeal.Gen.V_main_arg4 m c
    · exact Cert.LossBwdIdeal.Gen.V_main_arg5 m c
  · run_from Cert.LossRefIdeal.Value.run m' g'
    all_goals obtain ⟨e0, e1, e2, e3, e4, e5⟩ := hagree c
    · rw [Cert.LossRefIdeal.Read.val_main_v77_eq, e0, e1, e2, e3, e4, e5]
      exact ((result6 m c).trans (dz_ref m c (Loss.finite m hpre c))).symm
    · rw [Cert.LossRefIdeal.Read.val_main_v78_eq, e0, e1, e2, e3, e4, e5]
      exact ((result7 m c).trans (dzb_ref m c (Loss.finite m hpre c))).symm
    · rw [Cert.LossRefIdeal.Read.val_main_v79_eq, e0, e1, e2, e3, e4, e5]
      exact ((result8 m c).trans (loss_ref m c (Loss.finite m hpre c))).symm
    · rw [Cert.LossRefIdeal.Read.val_main_v80_eq, e0, e1, e2, e3, e4, e5]
      exact ((result9 m c).trans (dg_ref m c)).symm
    · rw [Cert.LossRefIdeal.Read.val_main_v81_eq, e0, e1, e2, e3, e4, e5]
      exact ((result10 m c).trans (db_ref m c)).symm

end Cert.Loss

end
-- ==== Proof.AttnLn.Body.lean ====
/-
  The backward kernel of the norm before the attention block, one grid point.
-/
module

public import proofs.«01_k».proof.Proof.Gen.AttnLnBwdIdeal.Value
public import proofs.«01_k».proof.Proof.LayerNorm

@[expose] public section

set_option maxRecDepth 16384

noncomputable section

namespace Cert.AttnLnBwdIdeal.Value

open Cert.AttnLnBwdIdeal Cert.AttnLnBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The constants: the row length, the variance's floor, the residual's factor. -/
abbrev cN : EReal := Ideal.ofBits .f32 1149239296#32
abbrev cE : EReal := Ideal.ofBits .f32 925353388#32
abbrev cA : EReal := Ideal.ofBits .f32 1068827891#32

/-- The gradient at the norm's output: the product plus the residual's part. -/
theorem hpay7 (a : FVec Ideal S640x3200 .bf16) (b : FVec Ideal S1024x3200 .bf16) (v : FVec Ideal S640x1024 .f32) (r : Fin 640) (l : Fin 1024) :
    k0_pay7 (F := Ideal) a b v (ix2 r l) = (∑ x, a (ix2 r x) * b (ix2 l x)) + cA * v (ix2 r l) := by
  pointwise [k0_pay7]

theorem hpay10 (v : FVec Ideal S640x1024 .f32) (r : Fin 640) (l : Fin 1024) :
    k0_pay10 (F := Ideal) v (ix2 r l) = LN.xhat cN cE (fun k => v (ix2 r k)) l := by
  pointwise [k0_pay10, k0_pay9, k0_pay8]
  rfl

theorem hpay1 (a : FVec Ideal S640x3200 .bf16) (b : FVec Ideal S1024x3200 .bf16) (v z : FVec Ideal S640x1024 .f32) (g : FVec Ideal S1x1024 .f32)
    (r : Fin 640) (l : Fin 1024) :
    k0_pay1 (F := Ideal) (k0_pay9 z) (k0_pay10 z) (k0_pay11 a b v g) (ix2 r l)
      = LN.dz cN cE (fun k => g (ix2 0 k)) (fun k => z (ix2 r k)) (fun k => k0_pay7 (F := Ideal) a b v (ix2 r k)) l := by
  pointwise [k0_pay1, k0_pay11, k0_pay10, k0_pay9, k0_pay8]
  rfl

theorem hpay2 (u : FVec Ideal S640x1 .f32) (v w : FVec Ideal S640x1024 .f32) (r : Fin 640) (l : Fin 1024) :
    k0_pay2 (F := Ideal) u v w (ix2 r l) = k0_pay1 (F := Ideal) u v w (ix2 r l) := by
  pointwise [k0_pay2]

theorem hpay3 (a b : FVec Ideal S640x1024 .f32) (v : FVec Ideal S1x1024 .f32) (l : Fin 1024) :
    k0_pay3 (F := Ideal) a b v (ix2 0 l) = v (ix2 0 l) + ∑ x, a (ix2 x l) * b (ix2 x l) := by
  pointwise [k0_pay3]

theorem hpay4 (a : FVec Ideal S640x1024 .f32) (v : FVec Ideal S1x1024 .f32) (l : Fin 1024) :
    k0_pay4 (F := Ideal) a v (ix2 0 l) = v (ix2 0 l) + ∑ x, a (ix2 x l) := by
  pointwise [k0_pay4]

theorem hpay5 (l : Fin 1024) : k0_pay5 (F := Ideal) (ix2 0 l) = 0 := by pointwise [k0_pay5]
theorem hpay6 (l : Fin 1024) : k0_pay6 (F := Ideal) (ix2 0 l) = 0 := by pointwise [k0_pay6]

/-- Keys' and values' columns, queries' columns, the gates' columns and zeros, side by side. -/
def side (a : Fin 2048 → EReal) (b : Fin 1024 → EReal) (c : Fin 16 → EReal) (x : Fin 3200) : EReal :=
  if h : x.val < 2048 then a ⟨x.val, h⟩ else if h : x.val - 2048 < 1024 then b ⟨x.val - 2048, h⟩
  else if h : x.val - 2048 - 1024 < 16 then c ⟨x.val - 2048 - 1024, h⟩ else 0

theorem sum_side (a a' : Fin 2048 → EReal) (b b' : Fin 1024 → EReal) (c c' : Fin 16 → EReal) :
    ∑ x, side a b c x * side a' b' c' x = ∑ x, a x * a' x + ∑ x, b x * b' x + ∑ x, c x * c' x := by
  have split : ∀ f : Fin 3200 → EReal, ∑ x, f x = ∑ x : Fin 2048, f ⟨x.val, by omega⟩ + ∑ x : Fin 1024, f ⟨x.val + 2048, by omega⟩
      + (∑ x : Fin 16, f ⟨x.val + 3072, by omega⟩ + ∑ x : Fin 112, f ⟨x.val + 3088, by omega⟩) := by
    intro f
    refine (Fin.sum_univ_add (a := 3072) (b := 128) f).trans ?_
    refine congrArg₂ (· + ·) ((Fin.sum_univ_add (a := 2048) (b := 1024) _).trans ?_) ((Fin.sum_univ_add (a := 16) (b := 112) _).trans ?_)
    · exact congrArg₂ (· + ·) (Finset.sum_congr rfl fun x _ => rfl) (Finset.sum_congr rfl fun x _ => congrArg f (Fin.ext (by simp [add_comm])))
    · exact congrArg₂ (· + ·) (Finset.sum_congr rfl fun x _ => congrArg f (Fin.ext (by simp [add_comm])))
        (Finset.sum_congr rfl fun x _ => congrArg f (Fin.ext (by simp; omega)))
  rw [split]
  have z : ∑ x : Fin 112, side a b c ⟨x.val + 3088, by omega⟩ * side a' b' c' ⟨x.val + 3088, by omega⟩ = 0 :=
    Finset.sum_eq_zero fun x _ => by
      rw [show side a b c ⟨x.val + 3088, by omega⟩ = 0 by
        unfold side; rw [dif_neg (by dsimp only; omega), dif_neg (by dsimp only; omega), dif_neg (by dsimp only; omega)]]
      exact zero_mul _
  rw [z, add_zero]
  refine congrArg₂ (· + ·) (congrArg₂ (· + ·) (Finset.sum_congr rfl fun x _ => ?_) (Finset.sum_congr rfl fun x _ => ?_)) (Finset.sum_congr rfl fun x _ => ?_)
  · unfold side; rw [dif_pos (show x.val < 2048 from x.isLt), dif_pos (show x.val < 2048 from x.isLt)]
  · have e : ∀ a b c, side a b c ⟨x.val + 2048, by omega⟩ = b x := fun a b c => by
      unfold side
      rw [dif_neg (by dsimp only; omega), dif_pos (by dsimp only; omega)]
      exact congrArg b (Fin.ext (by dsimp only; omega))
    rw [e, e]
  · have e : ∀ a b c, side a b c ⟨x.val + 3072, by omega⟩ = c x := fun a b c => by
      unfold side
      rw [dif_neg (by dsimp only; omega), dif_neg (by dsimp only; omega), dif_pos (by dsimp only; omega)]
      exact congrArg c (Fin.ext (by dsimp only; omega))
    rw [e, e]

/-- An argument's rows padded with zeros, and the columns' gradients and weights side by side. -/
abbrev padRows (x : FVec Ideal S8208x1024 .f32) : FVec Ideal S8320x1024 .f32 :=
  pad S8320x1024 ![0, 0] ![112, 0] ![0, 0] x (sitofp .f32 (constantI S_ 32 0#32) : FVec Ideal S_ .f32) pads_S8208x1024_S8320x1024_01120_000 h_S_

abbrev padD (d : FVec Ideal S8208x16 .f32) : FVec Ideal S8208x128 .f32 :=
  pad S8208x128 ![0, 0] ![0, 112] ![0, 0] d (sitofp .f32 (constantI S_ 32 0#32) : FVec Ideal S_ .f32) pads_S8208x16_S8208x128_000_01120 h_S_

abbrev padW (d : FVec Ideal S1024x16 .f32) : FVec Ideal S1024x128 .f32 :=
  pad S1024x128 ![0, 0] ![0, 112] ![0, 0] d (sitofp .f32 (constantI S_ 32 0#32) : FVec Ideal S_ .f32) pads_S1024x16_S1024x128_000_01120 h_S_

abbrev catD (a : FVec Ideal S8208x2048 .f32) (b : FVec Ideal S8208x1024 .f32) (d : FVec Ideal S8208x128 .f32) : FVec Ideal S8208x3200 .f32 :=
  concatenate S8208x3200 1 [⟨S8208x2048, a⟩, ⟨S8208x1024, b⟩, ⟨S8208x128, d⟩] concatenates_S8208x2048_S8208x1024_S8208x128_S8208x3200_d1

abbrev catW (a : FVec Ideal S1024x2048 .f32) (b : FVec Ideal S1024x1024 .f32) (d : FVec Ideal S1024x128 .f32) : FVec Ideal S1024x3200 .f32 :=
  concatenate S1024x3200 1 [⟨S1024x2048, a⟩, ⟨S1024x1024, b⟩, ⟨S1024x128, d⟩] concatenates_S1024x2048_S1024x1024_S1024x128_S1024x3200_d1

abbrev rowsD (x : FVec Ideal S8208x3200 .f32) : FVec Ideal S8320x3200 .f32 :=
  pad S8320x3200 ![0, 0] ![112, 0] ![0, 0] x (sitofp .f32 (constantI S_ 32 0#32) : FVec Ideal S_ .f32) pads_S8208x3200_S8320x3200_01120_000 h_S_

abbrev dCols (a : FVec Ideal S8208x2048 .f32) (b : FVec Ideal S8208x1024 .f32) (d : FVec Ideal S8208x16 .f32) : FVec Ideal S8320x3200 .bf16 :=
  truncf .bf16 (rowsD (catD a b (padD d))) bitsLt_bf16_f32

abbrev wCols (a : FVec Ideal S1024x2048 .f32) (b : FVec Ideal S1024x1024 .f32) (d : FVec Ideal S1024x16 .f32) : FVec Ideal S1024x3200 .bf16 :=
  truncf .bf16 (catW a b (padW d)) bitsLt_bf16_f32

theorem padRows_apply (x : FVec Ideal S8208x1024 .f32) (r : Fin 8320) (l : Fin 1024) : padRows x (ix2 r l) = if h : r.val < 8208 then x (ix2 ⟨r, h⟩ l) else 0 := by
  pointwise [padRows]
  rw [sitofp_zero]

theorem padD_apply (d : FVec Ideal S8208x16 .f32) (r : Fin 8208) (l : Fin 128) : padD d (ix2 r l) = if h : l.val < 16 then d (ix2 r ⟨l, h⟩) else 0 := by
  pointwise [padD]
  rw [sitofp_zero]

theorem padW_apply (d : FVec Ideal S1024x16 .f32) (r : Fin 1024) (l : Fin 128) : padW d (ix2 r l) = if h : l.val < 16 then d (ix2 r ⟨l, h⟩) else 0 := by
  pointwise [padW]
  rw [sitofp_zero]

theorem rowsD_apply (x : FVec Ideal S8208x3200 .f32) (r : Fin 8320) (l : Fin 3200) : rowsD x (ix2 r l) = if h : r.val < 8208 then x (ix2 ⟨r, h⟩ l) else 0 := by
  pointwise [rowsD]
  rw [sitofp_zero]

theorem wCols_apply (a : FVec Ideal S1024x2048 .f32) (b : FVec Ideal S1024x1024 .f32) (d : FVec Ideal S1024x16 .f32) (r : Fin 1024) (l : Fin 3200) :
    wCols a b d (ix2 r l) = side (fun k => a (ix2 r k)) (fun k => b (ix2 r k)) (fun k => d (ix2 r k)) l := by
  unfold wCols
  generalize hd : padW d = d'
  pointwise [catW]
  subst hd
  unfold side
  simp only [padW_apply]

theorem dCols_apply (a : FVec Ideal S8208x2048 .f32) (b : FVec Ideal S8208x1024 .f32) (d : FVec Ideal S8208x16 .f32) (r : Fin 8320) (l : Fin 3200) :
    dCols a b d (ix2 r l) = if h : r.val < 8208 then side (fun k => a (ix2 ⟨r, h⟩ k)) (fun k => b (ix2 ⟨r, h⟩ k)) (fun k => d (ix2 ⟨r, h⟩ k)) l else 0 := by
  refine (rowsD_apply _ r l).trans ?_
  refine dite_congr rfl (fun h => ?_) fun _ => rfl
  generalize hd : padD d = d'
  pointwise [catD]
  subst hd
  unfold side
  simp only [padD_apply]

/-- The norm's input, from the down projection's lines. -/
abbrev aO (c : Dev nD) : FVec Ideal S8208x2816 .f32 := m ((c : Thread nD τ).loc main_arg0)
abbrev aWo (c : Dev nD) : FVec Ideal S2816x1024 .f32 := m ((c : Thread nD τ).loc main_arg1)
abbrev aH (c : Dev nD) : FVec Ideal S8208x1024 .f32 := m ((c : Thread nD τ).loc main_arg2)
abbrev aZ (c : Dev nD) : FVec Ideal S8208x1024 .f32 :=
  addf (mulf (broadcastInDim S8208x1024 ![] bcast_S_S8208x1024 (constant S_ .f32 0x3FB504F3#32 : FVec Ideal S_ .f32)) (aH m c))
    (Host.dotGeneral dot_S8208x2816_S2816x1024_S8208x1024_1_0_0_1_n_n none (aO m c) (aWo m c))

/-- The arguments at their own types. -/
abbrev aG (c : Dev nD) : FVec Ideal S1024 .f32 := m ((c : Thread nD τ).loc main_arg3)
abbrev aWkv (c : Dev nD) : FVec Ideal S1024x2048 .f32 := m ((c : Thread nD τ).loc main_arg5)
abbrev aWq (c : Dev nD) : FVec Ideal S1024x1024 .f32 := m ((c : Thread nD τ).loc main_arg6)
abbrev aWf (c : Dev nD) : FVec Ideal S1024x16 .f32 := m ((c : Thread nD τ).loc main_arg7)
abbrev aDkv (c : Dev nD) : FVec Ideal S8208x2048 .f32 := m ((c : Thread nD τ).loc main_arg8)
abbrev aDq (c : Dev nD) : FVec Ideal S8208x1024 .f32 := m ((c : Thread nD τ).loc main_arg9)
abbrev aDp (c : Dev nD) : FVec Ideal S8208x16 .f32 := m ((c : Thread nD τ).loc main_arg10)
abbrev aNx (c : Dev nD) : FVec Ideal S8208x1024 .f32 := m ((c : Thread nD τ).loc main_arg11)

theorem V_v12 (c : Dev nD) : V m c main_v12 = padRows (aZ m c) := by
  simp only [V, hostOps0, List.flatten_cons, List.flatten_nil, List.cons_append, List.nil_append]
  after_results_simp
  rfl
theorem V_v11 (c : Dev nD) : V m c main_v11 = padRows (aNx m c) := by
  simp only [V, hostOps0, List.flatten_cons, List.flatten_nil, List.cons_append, List.nil_append]
  after_results_simp
  rfl
theorem V_v10 (c : Dev nD) : V m c main_v10 = dCols (aDkv m c) (aDq m c) (aDp m c) := by
  simp only [V, hostOps0, List.flatten_cons, List.flatten_nil, List.cons_append, List.nil_append]
  after_results_simp
  rfl
theorem V_v6 (c : Dev nD) : V m c main_v6 = wCols (aWkv m c) (aWq m c) (aWf m c) := by
  simp only [V, hostOps0, List.flatten_cons, List.flatten_nil, List.cons_append, List.nil_append]
  after_results_simp
  rfl
theorem V_v13 (c : Dev nD) : V m c main_v13 = broadcastInDim S1x1024 ![1] bcast_S1024_S1x1024_1 (aG m c) := by
  simp only [V, hostOps0, List.flatten_cons, List.flatten_nil, List.cons_append, List.nil_append]
  after_results_simp

theorem g_apply (x : FVec Ideal S1024 .f32) (l : Fin 1024) : broadcastInDim S1x1024 ![1] bcast_S1024_S1x1024_1 x (ix2 0 l) = x (ix1 l) := by
  pointwise

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![0, 0] :=
  (by decide +kernel : ∀ t : Fin grid0.N, _)
theorem lt_N (t : Fin cfg0.N) : t.val < 13 := lt_of_lt_of_eq t.isLt (show cfg0.N = 13 from N_0)

/-- The arguments padded with zero rows, at any row number; the weights' columns side by side. -/
def Z (c : Dev nD) (n : ℕ) (l : Fin 1024) : EReal := if h : n < 8208 then aZ m c (ix2 ⟨n, h⟩ l) else 0
def NX (c : Dev nD) (n : ℕ) (l : Fin 1024) : EReal := if h : n < 8208 then aNx m c (ix2 ⟨n, h⟩ l) else 0
def D (c : Dev nD) (n : ℕ) (x : Fin 3200) : EReal :=
  if h : n < 8208 then side (fun k => aDkv m c (ix2 ⟨n, h⟩ k)) (fun k => aDq m c (ix2 ⟨n, h⟩ k)) (fun k => aDp m c (ix2 ⟨n, h⟩ k)) x else 0
def W (c : Dev nD) (l : Fin 1024) (x : Fin 3200) : EReal :=
  side (fun k => aWkv m c (ix2 l k)) (fun k => aWq m c (ix2 l k)) (fun k => aWf m c (ix2 l k)) x
def G (c : Dev nD) (l : Fin 1024) : EReal := aG m c (ix1 l)

/-- The blocks a grid point reads, at their own types. -/
abbrev blkA (c : Dev nD) (t : Fin cfg0.N) : FVec Ideal S640x3200 .bf16 := iblk m c 0 t
abbrev blkW (c : Dev nD) (t : Fin cfg0.N) : FVec Ideal S1024x3200 .bf16 := iblk m c 1 t
abbrev blkN (c : Dev nD) (t : Fin cfg0.N) : FVec Ideal S640x1024 .f32 := iblk m c 2 t
abbrev blkZ (c : Dev nD) (t : Fin cfg0.N) : FVec Ideal S640x1024 .f32 := iblk m c 3 t
abbrev blkG (c : Dev nD) (t : Fin cfg0.N) : FVec Ideal S1x1024 .f32 := iblk m c 4 t

theorem blkA_apply (c : Dev nD) (t : Fin cfg0.N) (r : Fin 640) (x : Fin 3200) : blkA m c t (ix2 r x) = D m c (t.val * 640 + r.val) x := by
  have hN := lt_N t
  have e : blkA m c t (ix2 r x) = (V m c main_v10 : FVec Ideal S8320x3200 .bf16) (ix2 ⟨t.val * 640 + r.val, by omega⟩ x) := by
    blk_ext [blkA, iblk, idx t]
  rw [e, V_v10, dCols_apply]; rfl
theorem blkW_apply (c : Dev nD) (t : Fin cfg0.N) (r : Fin 1024) (x : Fin 3200) : blkW m c t (ix2 r x) = W m c r x := by
  have e : blkW m c t (ix2 r x) = (V m c main_v6 : FVec Ideal S1024x3200 .bf16) (ix2 r x) := by
    blk_ext [blkW, iblk, idx t]
  rw [e, V_v6, wCols_apply]; rfl
theorem blkN_apply (c : Dev nD) (t : Fin cfg0.N) (r : Fin 640) (l : Fin 1024) : blkN m c t (ix2 r l) = NX m c (t.val * 640 + r.val) l := by
  have hN := lt_N t
  have e : blkN m c t (ix2 r l) = (V m c main_v11 : FVec Ideal S8320x1024 .f32) (ix2 ⟨t.val * 640 + r.val, by omega⟩ l) := by
    blk_ext [blkN, iblk, idx t]
  rw [e, V_v11, padRows_apply]; rfl
theorem blkZ_apply (c : Dev nD) (t : Fin cfg0.N) (r : Fin 640) (l : Fin 1024) : blkZ m c t (ix2 r l) = Z m c (t.val * 640 + r.val) l := by
  have hN := lt_N t
  have e : blkZ m c t (ix2 r l) = (V m c main_v12 : FVec Ideal S8320x1024 .f32) (ix2 ⟨t.val * 640 + r.val, by omega⟩ l) := by
    blk_ext [blkZ, iblk, idx t]
  rw [e, V_v12, padRows_apply]; rfl
theorem blkG_apply (c : Dev nD) (t : Fin cfg0.N) (l : Fin 1024) : blkG m c t (ix2 0 l) = G m c l := by
  have e : blkG m c t (ix2 0 l) = (V m c main_v13 : FVec Ideal S1x1024 .f32) (ix2 0 l) := by
    blk_ext [blkG, iblk, idx t]
  rw [e, V_v13, g_apply]; rfl

end Cert.AttnLnBwdIdeal.Value

end
-- ==== Proof.AttnLn.Run.lean ====
/-
  The backward kernel of the norm before the attention block over its grid: what each point leaves, and the four results' arrays.
-/
module

public import proofs.«01_k».proof.Proof.AttnLn.Body
public import Idealize.ShloMosaic.Lib.Pipeline.ReadBack

@[expose] public section

set_option maxRecDepth 16384

noncomputable section

namespace Cert.AttnLnBwdIdeal.Value

open Cert.AttnLnBwdIdeal Cert.AttnLnBwdIdeal.Gen Idealize.ShloMosaic Idealize.ShloMosaic.TcCoe Idealize.SL.Sem
open Idealize.ShloMosaic.Pipeline (Dat)
open Cert.Math

variable (m : (ℓ : Loc nD τ sig) → Buf (Elt Ideal) ℓ)

/-- The gradient at the norm's output. -/
def dh (c : Dev nD) (n : ℕ) (l : Fin 1024) : EReal := ∑ x : Fin 3200, D m c n x * W m c l x + cA * NX m c n l

/-- The rows' gradients, and the terms of the gain's gradient. -/
def dzAt (c : Dev nD) (n : ℕ) (l : Fin 1024) : EReal := LN.dz cN cE (G m c) (Z m c n) (dh m c n) l
def dgAt (c : Dev nD) (n : ℕ) (l : Fin 1024) : EReal := dh m c n l * LN.xhat cN cE (Z m c n) l

theorem dh_at (c : Dev nD) (t : Fin cfg0.N) (r : Fin 640) (l : Fin 1024) :
    k0_pay7 (F := Ideal) (blkA m c t) (blkW m c t) (blkN m c t) (ix2 r l) = dh m c (t.val * 640 + r.val) l := by
  refine (hpay7 _ _ _ r l).trans ?_
  simp only [blkA_apply, blkW_apply, blkN_apply]; rfl

/-- What point `n` leaves: the rows' gradients, and the gain's and the bias's sums over the rows done. -/
def Left (c : Dev nD) (n : ℕ) (o : Vec Ideal S640x1024 .f32 × Vec Ideal S640x1024 .bf16 × Vec Ideal S1x1024 .f32 × Vec Ideal S1x1024 .f32) : Prop :=
  (∀ r l, o.1 (ix2 r l) = dzAt m c (n * 640 + r.val) l) ∧ (∀ r l, o.2.1 (ix2 r l) = dzAt m c (n * 640 + r.val) l) ∧
  (∀ l, o.2.2.1 (ix2 0 l) = ∑ k ∈ Finset.range (n * 640 + 640), dgAt m c k l) ∧
  (∀ l, o.2.2.2 (ix2 0 l) = ∑ k ∈ Finset.range (n * 640 + 640), dh m c k l)

theorem dz_at (c : Dev nD) (t : Fin cfg0.N) (r : Fin 640) (l : Fin 1024) :
    k0_pay1 (F := Ideal) (k0_pay9 (blkZ m c t)) (k0_pay10 (blkZ m c t)) (k0_pay11 (blkA m c t) (blkW m c t) (blkN m c t) (blkG m c t)) (ix2 r l) = dzAt m c (t.val * 640 + r.val) l := by
  refine (hpay1 _ _ _ _ _ r l).trans ?_
  simp only [dh_at, blkZ_apply, blkG_apply]; rfl

theorem dg_at (c : Dev nD) (t : Fin cfg0.N) (g : FVec Ideal S1x1024 .f32) (l : Fin 1024) (hg : g (ix2 0 l) = ∑ k ∈ Finset.range (t.val * 640), dgAt m c k l) :
    k0_pay3 (F := Ideal) (k0_pay7 (blkA m c t) (blkW m c t) (blkN m c t)) (k0_pay10 (blkZ m c t)) g (ix2 0 l) = ∑ k ∈ Finset.range (t.val * 640 + 640), dgAt m c k l := by
  refine (hpay3 _ _ _ l).trans ?_
  rw [hg, ← sum_block_after]
  simp only [dh_at, hpay10, blkZ_apply]; rfl

theorem db_at (c : Dev nD) (t : Fin cfg0.N) (b : FVec Ideal S1x1024 .f32) (l : Fin 1024) (hb : b (ix2 0 l) = ∑ k ∈ Finset.range (t.val * 640), dh m c k l) :
    k0_pay4 (F := Ideal) (k0_pay7 (blkA m c t) (blkW m c t) (blkN m c t)) b (ix2 0 l) = ∑ k ∈ Finset.range (t.val * 640 + 640), dh m c k l := by
  refine (hpay4 _ _ l).trans ?_
  rw [hb, ← sum_block_after]
  simp only [dh_at]

theorem left (c : Dev nD) : ∀ (n : ℕ) (hn : n < cfg0.N), Left m c n (outsAt0 m c n hn) := by
  intro n
  induction n with
  | zero =>
    intro hn
    rw [outsAt0_A m c ⟨0, hn⟩ rfl]
    refine ⟨fun r l => ?_, fun r l => ?_, fun l => ?_, fun l => ?_⟩
    · dsimp only; frame_out; exact dz_at m c ⟨0, hn⟩ r l
    · dsimp only; frame_out; exact (hpay2 _ _ _ r l).trans (dz_at m c ⟨0, hn⟩ r l)
    · dsimp only; frame_out; exact dg_at m c ⟨0, hn⟩ _ l ((hpay5 l).trans (by simp))
    · dsimp only; frame_out; exact db_at m c ⟨0, hn⟩ _ l ((hpay6 l).trans (by simp))
  | succ n ih =>
    intro hn
    obtain ⟨-, -, i3, i4⟩ := ih (by omega)
    have hN := lt_N ⟨n + 1, hn⟩
    dsimp only at hN
    have e : (n + 1) * 640 = n * 640 + 640 := by omega
    rw [outsAt0_B m c ⟨n + 1, hn⟩ (by dsimp only; omega)]
    refine ⟨fun r l => ?_, fun r l => ?_, fun l => ?_, fun l => ?_⟩
    · dsimp only; frame_out; exact dz_at m c ⟨n + 1, hn⟩ r l
    · dsimp only; frame_out; exact (hpay2 _ _ _ r l).trans (dz_at m c ⟨n + 1, hn⟩ r l)
    · dsimp only; frame_out; exact dg_at m c ⟨n + 1, hn⟩ _ l ((i3 l).trans (by dsimp only; rw [e]))
    · dsimp only; frame_out; exact db_at m c ⟨n + 1, hn⟩ _ l ((i4 l).trans (by dsimp only; rw [e]))

/-- The results' arrays as functions of the arguments. -/
def Dz (c : Dev nD) : FVec Ideal S8320x1024 .f32 := fun j => dzAt m c (j 0).val (j 1)
def Dzb (c : Dev nD) : FVec Ideal S8320x1024 .bf16 := fun j => dzAt m c (j 0).val (j 1)
def Dg (c : Dev nD) : FVec Ideal S1x1024 .f32 := fun j => ∑ k ∈ Finset.range 8320, dgAt m c k (j 1)
def Db (c : Dev nD) : FVec Ideal S1x1024 .f32 := fun j => ∑ k ∈ Finset.range 8320, dh m c k (j 1)

/-- The last grid point. -/
def last : Fin cfg0.N := ⟨12, by rw [show cfg0.N = 13 from N_0]; decide⟩

theorem result5 (c : Dev nD) : (dats m 0 c).arrAt 5 cfg0.N = Dz m c := by
  refine (dats m 0 c).arrAt_eq_of_covers 5 _ (by decide +kernel) fun t hf y => ?_
  blk_simp
  rw [after0_5]
  idx_vars y
  refine ((left m c t.val t.isLt).1 y0 y1).trans ?_
  have hN := lt_N t
  have e : ((View.whole main_v14_0).slice (win0_5.rect t)).emb (ix2 y0 y1) = (ix2 ⟨t.val * 640 + y0.val, by omega⟩ y1 : S8320x1024.Idx) := by
    blk_ext [idx t]
  rw [e]; rfl

theorem result6 (c : Dev nD) : (dats m 0 c).arrAt 6 cfg0.N = Dzb m c := by
  refine (dats m 0 c).arrAt_eq_of_covers 6 _ (by decide +kernel) fun t hf y => ?_
  blk_simp
  rw [after0_6]
  idx_vars y
  refine ((left m c t.val t.isLt).2.1 y0 y1).trans ?_
  have hN := lt_N t
  have e : ((View.whole main_v14_1).slice (win0_6.rect t)).emb (ix2 y0 y1) = (ix2 ⟨t.val * 640 + y0.val, by omega⟩ y1 : S8320x1024.Idx) := by
    blk_ext [idx t]
  rw [e]; rfl

theorem result7 (c : Dev nD) : (dats m 0 c).arrAt 7 cfg0.N = Dg m c := by
  refine (dats m 0 c).arrAt_eq_of_after_last 7 last (by decide +kernel) _ fun j => ?_
  blk_simp
  rw [after0_7]
  idx_vars j
  obtain rfl : j0 = 0 := Subsingleton.elim _ _
  exact (left m c last.val last.isLt).2.2.1 j1

theorem result8 (c : Dev nD) : (dats m 0 c).arrAt 8 cfg0.N = Db m c := by
  refine (dats m 0 c).arrAt_eq_of_after_last 8 last (by decide +kernel) _ fun j => ?_
  blk_simp
  rw [after0_8]
  idx_vars j
  obtain rfl : j0 = 0 := Subsingleton.elim _ _
  exact (left m c last.val last.isLt).2.2.2 j1

end Cert.AttnLnBwdIdeal.Value

end
-- ==== Proof.AttnLn.Ref.lean ====
/-
  The reference's derivative of the norm before the attention block, read at an index.
-/
module

public import proofs.«01_k».proof.Proof.Gen.AttnLnRefIdeal.Read
public import proofs.«01_k».proof.Proof.LayerNorm

@[expose] public section

set_option maxRecDepth 16384

noncomputable section

namespace Cert.AttnLnRefIdeal.Read

open Cert.AttnLnRefIdeal Idealize.ShloMosaic Idealize.ShloMosaic.TcCoe

variable (o : FVec Ideal S8208x2816 .f32) (wo : FVec Ideal S2816x1024 .f32) (h : FVec Ideal S8208x1024 .f32) (g : FVec Ideal S1024 .f32)
  (wkv : FVec Ideal S1024x2048 .f32) (wq : FVec Ideal S1024x1024 .f32) (wf : FVec Ideal S1024x16 .f32)
  (dkv : FVec Ideal S8208x2048 .f32) (dq : FVec Ideal S8208x1024 .f32) (dp : FVec Ideal S8208x16 .f32) (nx : FVec Ideal S8208x1024 .f32)

abbrev cN : EReal := Ideal.ofBits .f32 1149239296#32
abbrev cE : EReal := Ideal.ofBits .f32 925353388#32
abbrev cA : EReal := Ideal.ofBits .f32 1068827891#32
abbrev cH : EReal := Ideal.ofBits .f32 0xBF000000#32

/-- The norm's input: the residual's part plus the product. -/
theorem v3_apply (r : Fin 8208) (l : Fin 1024) :
    val_main_v3 (F := Ideal) o wo h (ix2 r l) = cA * h (ix2 r l) + ∑ x, o (ix2 r x) * wo (ix2 x l) := by
  pointwise [val_main_v3, val_main_v2, val_main_v1, val_main_v0, val_main_cst]

theorem v41_apply (r : Fin 8208) (l : Fin 1024) :
    val_main_v41 (F := Ideal) wkv wq wf dkv dq dp nx (ix2 r l) = ((cA * nx (ix2 r l) + ∑ x, dp (ix2 r x) * wf (ix2 l x))
      + ∑ x, dq (ix2 r x) * wq (ix2 l x)) + ∑ x, dkv (ix2 r x) * wkv (ix2 l x) := by
  pointwise [val_main_v41, val_main_v40, val_main_v39, val_main_v38, val_main_v37, val_main_v36, val_main_v35, val_main_v34, val_main_v33, val_main_v32, val_main_cst_7]

theorem v9_apply (r : Fin 8208) (l : Fin 1024) :
    val_main_v9 (F := Ideal) o wo h (ix2 r l) = LN.xc cN (fun k => val_main_v3 (F := Ideal) o wo h (ix2 r k)) l := by
  pointwise [val_main_v9, val_main_v8, val_main_v7, val_main_v6, val_main_v5, val_main_v4, val_main_cst_0, val_main_cst_1]
  rfl

theorem v16_apply (r : Fin 8208) (l : Fin 1) :
    val_main_v16 (F := Ideal) o wo h (ix2 r l) = LN.mean cN (fun k => LN.xc cN (fun k => val_main_v3 (F := Ideal) o wo h (ix2 r k)) k * LN.xc cN (fun k => val_main_v3 (F := Ideal) o wo h (ix2 r k)) k) + cE := by
  pointwise [val_main_v16, val_main_v15, val_main_v14, val_main_v13, val_main_v12, val_main_v11, val_main_v10, val_main_cst_2, val_main_cst_3, val_main_cst_4, v9_apply]
  rfl

theorem v22_apply (r : Fin 8208) (l : Fin 1024) :
    val_main_v22 (F := Ideal) o wo h (ix2 r l) = LN.xhat cN cE (fun k => val_main_v3 (F := Ideal) o wo h (ix2 r k)) l := by
  pointwise [val_main_v22, val_main_v21, val_main_v17, v16_apply, v9_apply]
  rfl

theorem v49_apply (r : Fin 8208) (l : Fin 1024) :
    val_main_v49 (F := Ideal) g wkv wq wf dkv dq dp nx (ix2 r l) = val_main_v41 (F := Ideal) wkv wq wf dkv dq dp nx (ix2 r l) * g (ix1 l) := by
  pointwise [val_main_v49, val_main_v48, val_main_v23]

theorem v60_apply (r : Fin 8208) (l : Fin 1024) :
    val_main_v60 (F := Ideal) o wo h g wkv wq wf dkv dq dp nx (ix2 r l) = LN.spread cN cE cH (fun k => val_main_v3 (F := Ideal) o wo h (ix2 r k)) (fun k => val_main_v49 (F := Ideal) g wkv wq wf dkv dq dp nx (ix2 r k)) := by
  pointwise [val_main_v60, val_main_v59, val_main_v58, val_main_v57, val_main_v56, val_main_v53, val_main_v52, val_main_v51, val_main_v20, val_main_v19, val_main_v18, val_main_v17,
    val_main_cst_5, val_main_cst_12, val_main_cst_13, val_main_cst_14, v9_apply, v16_apply]
  rw [Fin.sum_univ_one]
  rfl

theorem v64_apply (r : Fin 8208) (l : Fin 1024) :
    val_main_v64 (F := Ideal) o wo h g wkv wq wf dkv dq dp nx (ix2 r l) = LN.pulled cN cE cH (fun k => val_main_v3 (F := Ideal) o wo h (ix2 r k)) (fun k => val_main_v49 (F := Ideal) g wkv wq wf dkv dq dp nx (ix2 r k)) l := by
  pointwise [val_main_v64, val_main_v63, val_main_v62, val_main_v61, val_main_v55, val_main_v54, val_main_v17, v9_apply, v16_apply, v60_apply]
  rfl

theorem v72_apply (r : Fin 8208) (l : Fin 1024) :
    val_main_v72 (F := Ideal) o wo h g wkv wq wf dkv dq dp nx (ix2 r l) = LN.dzLines cN cE cH (fun k => val_main_v3 (F := Ideal) o wo h (ix2 r k)) (fun k => val_main_v49 (F := Ideal) g wkv wq wf dkv dq dp nx (ix2 r k)) l := by
  pointwise [val_main_v72, val_main_v71, val_main_v70, val_main_v69, val_main_v68, val_main_v67, val_main_v66, val_main_v65, val_main_cst_15, val_main_cst_16, val_main_cst_17, v64_apply]
  rw [Fin.sum_univ_one]
  rfl

theorem v73_apply (r : Fin 8320) (l : Fin 1024) :
    val_main_v73 (F := Ideal) o wo h g wkv wq wf dkv dq dp nx (ix2 r l) = if hr : r.val < 8208 then val_main_v72 (F := Ideal) o wo h g wkv wq wf dkv dq dp nx (ix2 ⟨r, hr⟩ l) else 0 := by
  pointwise [val_main_v73, val_main_call0_v0, val_main_c]
  rw [Math.sitofp_zero]

theorem v74_apply (r : Fin 8320) (l : Fin 1024) :
    val_main_v74 (F := Ideal) o wo h g wkv wq wf dkv dq dp nx (ix2 r l) = val_main_v73 (F := Ideal) o wo h g wkv wq wf dkv dq dp nx (ix2 r l) := by
  pointwise [val_main_v74]

theorem v75_apply (l : Fin 1024) :
    val_main_v75 (F := Ideal) o wo h wkv wq wf dkv dq dp nx (ix2 0 l) = ∑ r, val_main_v22 (F := Ideal) o wo h (ix2 r l) * val_main_v41 (F := Ideal) wkv wq wf dkv dq dp nx (ix2 r l) := by
  pointwise [val_main_v75, val_main_v50, val_main_v47, val_main_v46, val_main_v45, val_main_cst_10, val_main_cst_11]
  rw [Fin.sum_univ_one]

theorem v76_apply (l : Fin 1024) :
    val_main_v76 (F := Ideal) wkv wq wf dkv dq dp nx (ix2 0 l) = ∑ r, val_main_v41 (F := Ideal) wkv wq wf dkv dq dp nx (ix2 r l) := by
  pointwise [val_main_v76, val_main_v44, val_main_v43, val_main_v42, val_main_cst_8, val_main_cst_9]
  rw [Fin.sum_univ_one]

end Cert.AttnLnRefIdeal.Read

end
-- ==== Proof.AttnLn.Claim.lean ====
/-
  The claims about the backward kernel of the norm before the attention block and its reference: the four results agree.
-/
module

public import proofs.«01_k».proof.Defs
public import proofs.«01_k».proof.Proof.AttnLn.Run
public import proofs.«01_k».proof.Proof.AttnLn.Ref
public import proofs.«01_k».proof.Proof.Gen.AttnLnBwd.Frame
public import proofs.«01_k».proof.Proof.Gen.Pre_attn_ln_finite
public import Idealize.ShloMosaic.Lib.Claim
public import Idealize.ShloMosaic.Lib.ReduceAll

@[expose] public section

set_option maxRecDepth 16384

noncomputable section

namespace Cert.AttnLnBwdIdeal.Value

open Cert.AttnLnBwdIdeal Cert.AttnLnBwdIdeal.Gen Idealize.ShloMosaic Idealize.ShloMosaic.TcCoe Idealize.SL.Sem
open Cert.Math
open Cert.AttnLnRefIdeal.Read (v3_apply v41_apply v49_apply v22_apply v72_apply v73_apply v74_apply v75_apply v76_apply)

variable (m : (ℓ : Loc nD τ sig) → Buf (Elt Ideal) ℓ)

/-- The arguments the derivative depends on are real numbers. -/
structure Finite (c : Dev nD) : Prop where
  o : ∀ i, Real (aO m c i)
  wo : ∀ i, Real (aWo m c i)
  h : ∀ i, Real (aH m c i)
  g : ∀ i, Real (aG m c i)
  wkv : ∀ i, Real (aWkv m c i)
  wq : ∀ i, Real (aWq m c i)
  wf : ∀ i, Real (aWf m c i)
  dkv : ∀ i, Real (aDkv m c i)
  dq : ∀ i, Real (aDq m c i)
  dp : ∀ i, Real (aDp m c i)
  nx : ∀ i, Real (aNx m c i)

theorem cA_real : Real cA := ⟨_, by simp [cA, Ideal.ofBits, Ideal.ieee]; rw [← EReal.coe_mul]⟩

theorem aZ_eq (c : Dev nD) : aZ m c = AttnLnRefIdeal.Read.val_main_v3 (F := Ideal) (aO m c) (aWo m c) (aH m c) := rfl

theorem aZ_real (c : Dev nD) (h : Finite m c) (r : Fin 8208) (l : Fin 1024) : Real (aZ m c (ix2 r l)) := by
  rw [aZ_eq, v3_apply]
  exact (cA_real.mul (h.h _)).add (Real.sum _ fun x _ => (h.o _).mul (h.wo _))

theorem Z_row (c : Dev nD) (n : Fin 8208) : Z m c n.val = fun l => aZ m c (ix2 n l) := funext fun l => dif_pos n.isLt
theorem dh_row (c : Dev nD) (n : Fin 8208) (l : Fin 1024) :
    dh m c n.val l = AttnLnRefIdeal.Read.val_main_v41 (F := Ideal) (aWkv m c) (aWq m c) (aWf m c) (aDkv m c) (aDq m c) (aDp m c) (aNx m c) (ix2 n l) := by
  rw [v41_apply]
  unfold dh
  rw [show NX m c n.val l = _ from dif_pos n.isLt,
    show D m c n.val = side (fun k => aDkv m c (ix2 n k)) (fun k => aDq m c (ix2 n k)) (fun k => aDp m c (ix2 n k)) from funext fun x => dif_pos n.isLt,
    show W m c l = side (fun k => aWkv m c (ix2 l k)) (fun k => aWq m c (ix2 l k)) (fun k => aWf m c (ix2 l k)) from rfl]
  rw [sum_side]
  show _ + cA * aNx m c (ix2 n l) = _
  abel

theorem dh_real (c : Dev nD) (h : Finite m c) (n : Fin 8208) (l : Fin 1024) : Real (dh m c n.val l) := by
  rw [dh_row, v41_apply]
  exact (((cA_real.mul (h.nx _)).add (Real.sum _ fun x _ => (h.dp _).mul (h.wf _))).add (Real.sum _ fun x _ => (h.dq _).mul (h.wq _))).add
    (Real.sum _ fun x _ => (h.dkv _).mul (h.wkv _))

theorem dh_zero (c : Dev nD) (n : ℕ) (hn : 8208 ≤ n) (l : Fin 1024) : dh m c n l = 0 := by
  unfold dh
  rw [show NX m c n l = 0 from dif_neg (by omega), mul_zero, add_zero]
  exact Finset.sum_eq_zero fun x _ => by rw [show D m c n x = 0 from dif_neg (by omega), zero_mul]

theorem dgAt_zero (c : Dev nD) (n : ℕ) (hn : 8208 ≤ n) (l : Fin 1024) : dgAt m c n l = 0 := by
  unfold dgAt; rw [dh_zero m c n hn, zero_mul]

theorem dzAt_zero (c : Dev nD) (n : ℕ) (hn : 8208 ≤ n) (l : Fin 1024) : dzAt m c n l = 0 := by
  unfold dzAt
  rw [show dh m c n = fun _ => 0 from funext (dh_zero m c n hn), show Z m c n = fun _ => 0 from funext fun _ => dif_neg (by omega)]
  exact LN.dz_zero _ _ LN.ofBits_1024 (by norm_num) _ l

theorem dzAt_row (c : Dev nD) (h : Finite m c) (n : Fin 8208) (l : Fin 1024) :
    dzAt m c n.val l = AttnLnRefIdeal.Read.val_main_v72 (F := Ideal) (aO m c) (aWo m c) (aH m c) (aG m c) (aWkv m c) (aWq m c) (aWf m c) (aDkv m c) (aDq m c) (aDp m c) (aNx m c) (ix2 n l) := by
  obtain ⟨e, he, hE⟩ := LN.ofBits_eps
  rw [v72_apply]
  simp only [v49_apply, ← dh_row]
  refine Eq.trans ?_ (LN.dzLines_eq _ _ LN.ofBits_1024 hE he (by norm_num) (by norm_num) LN.ofBits_mhalf (fun k => aG m c (ix1 k))
    (fun k => aZ m c (ix2 n k)) (fun k => dh m c n.val k) (fun k => h.g _) (fun k => aZ_real m c h n k) (fun k => dh_real m c h n k) l).symm
  unfold dzAt
  rw [Z_row]; rfl

theorem dz_ref (c : Dev nD) (h : Finite m c) :
    Dz m c = AttnLnRefIdeal.Read.val_main_v73 (F := Ideal) (aO m c) (aWo m c) (aH m c) (aG m c) (aWkv m c) (aWq m c) (aWf m c) (aDkv m c) (aDq m c) (aDp m c) (aNx m c) := by
  funext j
  idx_vars j
  refine Eq.trans ?_ (v73_apply _ _ _ _ _ _ _ _ _ _ _ j0 j1).symm
  show dzAt m c j0 j1 = _
  split
  · next hj => exact dzAt_row m c h ⟨j0, hj⟩ j1
  · next hj => exact dzAt_zero m c j0 (by omega) j1

theorem dzb_ref (c : Dev nD) (h : Finite m c) :
    Dzb m c = AttnLnRefIdeal.Read.val_main_v74 (F := Ideal) (aO m c) (aWo m c) (aH m c) (aG m c) (aWkv m c) (aWq m c) (aWf m c) (aDkv m c) (aDq m c) (aDp m c) (aNx m c) := by
  funext j
  idx_vars j
  exact (congrFun (dz_ref m c h) (ix2 j0 j1)).trans (v74_apply _ _ _ _ _ _ _ _ _ _ _ j0 j1).symm

theorem dg_ref (c : Dev nD) :
    Dg m c = AttnLnRefIdeal.Read.val_main_v75 (F := Ideal) (aO m c) (aWo m c) (aH m c) (aWkv m c) (aWq m c) (aWf m c) (aDkv m c) (aDq m c) (aDp m c) (aNx m c) := by
  funext j
  idx_vars j
  obtain rfl : j0 = 0 := Subsingleton.elim _ _
  refine ((sum_range_rows (fun k => dgAt m c k j1) 8208 8320 (by omega) fun k hk => dgAt_zero m c k hk j1).trans ?_).trans (v75_apply _ _ _ _ _ _ _ _ _ _ j1).symm
  refine Finset.sum_congr rfl fun n _ => ?_
  rw [v22_apply, ← dh_row, mul_comm]
  unfold dgAt
  rw [Z_row]; rfl

theorem db_ref (c : Dev nD) :
    Db m c = AttnLnRefIdeal.Read.val_main_v76 (F := Ideal) (aWkv m c) (aWq m c) (aWf m c) (aDkv m c) (aDq m c) (aDp m c) (aNx m c) := by
  funext j
  idx_vars j
  obtain rfl : j0 = 0 := Subsingleton.elim _ _
  refine ((sum_range_rows (fun k => dh m c k j1) 8208 8320 (by omega) fun k hk => dh_zero m c k hk j1).trans ?_).trans (v76_apply _ _ _ _ _ _ _ j1).symm
  exact Finset.sum_congr rfl fun n _ => dh_row m c n j1

end Cert.AttnLnBwdIdeal.Value

namespace Cert.AttnLn

open Idealize.ShloMosaic Idealize.ShloMosaic.TcCoe Idealize.SL.Sem

theorem frame_bits : Cert.quiescent_AttnLnBwd := fun m ρ _ => Cert.AttnLnBwd.Gen.frame m ρ
theorem frame_ideal : Cert.quiescent_AttnLnBwdIdeal := fun m ρ _ => Cert.AttnLnBwdIdeal.Gen.frame m ρ
theorem frame_ideal_pre : Cert.quiescent_AttnLnBwdIdeal_pre_attn_ln_finite := fun m ρ _ => Cert.AttnLnBwdIdeal.Gen.frame m ρ
theorem frame_ref : Cert.quiescent_AttnLnRefIdeal := fun m g _ =>
  (θ_run Cert.AttnLnRefIdeal.defs _ _).mono (fun r h => ⟨fun c => (h c).2.2.2.2, sem_eq_zero_of_no_sems (by decide) r.2⟩)
    (Cert.AttnLnRefIdeal.Value.run (F := Ideal) m g)
theorem frame_ref_pre : Cert.quiescent_AttnLnRefIdeal_pre_attn_ln_finite := fun m g _ => frame_ref m g trivial

open Cert.AttnLnBwdIdeal Cert.AttnLnBwdIdeal.Value Cert.Math in
/-- The precondition says that the arguments are real numbers. -/
theorem finite (m : (ℓ : Loc nD τ sig) → Buf (Elt Ideal) ℓ) (h : Cert.Pre_AttnLnBwdIdeal_attn_ln_finite m) (c : Dev nD) : Finite m c := by
  have h1 := congrFun (h c) (fun a => a.elim0)
  obtain ⟨h1, h11⟩ := and_one _ _ _ h1
  obtain ⟨h1, h10⟩ := and_one _ _ _ h1
  obtain ⟨h1, h9⟩ := and_one _ _ _ h1
  obtain ⟨h1, h8⟩ := and_one _ _ _ h1
  obtain ⟨h1, h7⟩ := and_one _ _ _ h1
  obtain ⟨h1, h6⟩ := and_one _ _ _ h1
  obtain ⟨h1, h5⟩ := and_one _ _ _ h1
  obtain ⟨h1, h3⟩ := and_one _ _ _ h1
  obtain ⟨h1, h2⟩ := and_one _ _ _ h1
  obtain ⟨h0, h1⟩ := and_one _ _ _ h1
  exact ⟨fun i => Real.of_cmp _ _ _ ofBits_inf (Host.reduce_andi_all _ _ _ _ _ h0 i), fun i => Real.of_cmp _ _ _ ofBits_inf (Host.reduce_andi_all _ _ _ _ _ h1 i), fun i => Real.of_cmp _ _ _ ofBits_inf (Host.reduce_andi_all _ _ _ _ _ h2 i), fun i => Real.of_cmp _ _ _ ofBits_inf (Host.reduce_andi_all _ _ _ _ _ h3 i), fun i => Real.of_cmp _ _ _ ofBits_inf (Host.reduce_andi_all _ _ _ _ _ h5 i), fun i => Real.of_cmp _ _ _ ofBits_inf (Host.reduce_andi_all _ _ _ _ _ h6 i), fun i => Real.of_cmp _ _ _ ofBits_inf (Host.reduce_andi_all _ _ _ _ _ h7 i), fun i => Real.of_cmp _ _ _ ofBits_inf (Host.reduce_andi_all _ _ _ _ _ h8 i), fun i => Real.of_cmp _ _ _ ofBits_inf (Host.reduce_andi_all _ _ _ _ _ h9 i), fun i => Real.of_cmp _ _ _ ofBits_inf (Host.reduce_andi_all _ _ _ _ _ h10 i), fun i => Real.of_cmp _ _ _ ofBits_inf (Host.reduce_andi_all _ _ _ _ _ h11 i)⟩

set_option maxHeartbeats 4000000 in
open Cert.AttnLnBwdIdeal.Value in
theorem value : Cert.algebraic_AttnLnBwdIdeal_AttnLnRefIdeal_pre_attn_ln_finite := by
  pair_intro
  · run_from Cert.AttnLnBwdIdeal.Gen.run_main m g
    · exact Cert.AttnLnBwdIdeal.Gen.V_main_arg0 m c
    · exact Cert.AttnLnBwdIdeal.Gen.V_main_arg1 m c
    · exact Cert.AttnLnBwdIdeal.Gen.V_main_arg2 m c
    · exact Cert.AttnLnBwdIdeal.Gen.V_main_arg3 m c
    · exact Cert.AttnLnBwdIdeal.Gen.V_main_arg4 m c
    · exact Cert.AttnLnBwdIdeal.Gen.V_main_arg5 m c
    · exact Cert.AttnLnBwdIdeal.Gen.V_main_arg6 m c
    · exact Cert.AttnLnBwdIdeal.Gen.V_main_arg7 m c
    · exact Cert.AttnLnBwdIdeal.Gen.V_main_arg8 m c
    · exact Cert.AttnLnBwdIdeal.Gen.V_main_arg9 m c
    · exact Cert.AttnLnBwdIdeal.Gen.V_main_arg10 m c
    · exact Cert.AttnLnBwdIdeal.Gen.V_main_arg11 m c
  · run_from Cert.AttnLnRefIdeal.Value.run m' g'
    all_goals obtain ⟨e0, e1, e2, e3, e4, e5, e6, e7, e8, e9, e10, e11⟩ := hagree c
    · rw [Cert.AttnLnRefIdeal.Read.val_main_v73_eq, e0, e1, e2, e3, e5, e6, e7, e8, e9, e10, e11]
      exact ((result5 m c).trans (dz_ref m c (AttnLn.finite m hpre c))).symm
    · rw [Cert.AttnLnRefIdeal.Read.val_main_v74_eq, e0, e1, e2, e3, e5, e6, e7, e8, e9, e10, e11]
      exact ((result6 m c).trans (dzb_ref m c (AttnLn.finite m hpre c))).symm
    · rw [Cert.AttnLnRefIdeal.Read.val_main_v75_eq]
      exact ((result7 m c).trans (dg_ref m c)).symm
    · rw [Cert.AttnLnRefIdeal.Read.val_main_v76_eq]
      exact ((result8 m c).trans (db_ref m c)).symm

end Cert.AttnLn

end
-- ==== Proof.Attn.Blocks.lean ====
/-
  The blocks of the attention backward kernel: the rows of one key block, the tile of one key block, and what the
  kernel does with one key block - it adds to that block's tile of dk and of dv, and to the running dq.
-/
module

public import proofs.«01_k».proof.Proof.Gen.AttnBwdIdeal.Frame
public import proofs.«01_k».proof.Proof.Gen.AttnBwdIdeal.Loops
public import Idealize.ShloMosaic.Lib.VecWindow
public import Idealize.ShloMosaic.Lib.Pipeline.TableIdle

@[expose] public section

set_option maxRecDepth 16384

noncomputable section

namespace Cert.Attn

open Idealize.ShloMosaic Idealize.ShloMosaic.TcCoe Idealize.ShloMosaic.Tactic
open Cert.AttnBwdIdeal Cert.AttnBwdIdeal.Gen

variable {F : FTy → Type} [FloatOps F]

/-! ## Where the loop over the key blocks reads and writes -/

theorem k0_off1_eq : ∀ (i : grid0.Coords) (k : Fin (k0_t1_loop i).trips) (w : Fin 4),
    k0_off1 i k (BitVec.ofNat 32 w.val) = ![0, 640 * (4 * k.val + w.val), 0] := by decide +kernel
theorem k0_off2_eq : ∀ (i : grid0.Coords) (k : Fin (k0_t1_loop i).trips) (w : Fin 4),
    k0_off2 i k (BitVec.ofNat 32 w.val) = ![0, 4 * k.val + w.val, 0, 0] := by decide +kernel
theorem k0_off3_eq : ∀ (i : grid0.Coords) (k : Fin (k0_t1_loop i).trips) (w : Fin 4),
    k0_off3 i k (BitVec.ofNat 32 w.val) = ![0, 4 * k.val + w.val, 0, 0] := by decide +kernel
theorem trips1 : ∀ i : grid0.Coords, (k0_t1_loop i).trips = (i 1).val / 4 := by decide +kernel
theorem trips3 : ∀ i : grid0.Coords, (k0_t3_loop i).trips = (i 1).val % 4 := by decide +kernel
theorem k0_off7_eq : ∀ (i : grid0.Coords) (k : Fin (k0_t3_loop i).trips),
    k0_off7 i k = ![0, 640 * (4 * ((i 1).val / 4) + k.val), 0] := by decide +kernel
theorem k0_off8_eq : ∀ (i : grid0.Coords) (k : Fin (k0_t3_loop i).trips),
    k0_off8 i k = ![0, 4 * ((i 1).val / 4) + k.val, 0, 0] := by decide +kernel
theorem k0_off9_eq : ∀ (i : grid0.Coords) (k : Fin (k0_t3_loop i).trips),
    k0_off9 i k = ![0, 4 * ((i 1).val / 4) + k.val, 0, 0] := by decide +kernel
theorem k0_off13_eq : ∀ i : grid0.Coords, k0_off13 i = ![0, 640 * (i 1).val, 0] := by decide +kernel
theorem k0_off14_eq : ∀ i : grid0.Coords, k0_off14 i = ![0, (i 1).val, 0, 0] := by decide +kernel
theorem k0_off15_eq : ∀ i : grid0.Coords, k0_off15 i = ![0, (i 1).val, 0, 0] := by decide +kernel

instance (i : grid0.Coords) (k : Fin (k0_t1_loop i).trips) : ClosedOff (k0_off2 i k 0#32) := ⟨_, k0_off2_eq i k 0⟩
instance (i : grid0.Coords) (k : Fin (k0_t1_loop i).trips) : ClosedOff (k0_off2 i k 1#32) := ⟨_, k0_off2_eq i k 1⟩
instance (i : grid0.Coords) (k : Fin (k0_t1_loop i).trips) : ClosedOff (k0_off2 i k 2#32) := ⟨_, k0_off2_eq i k 2⟩
instance (i : grid0.Coords) (k : Fin (k0_t1_loop i).trips) : ClosedOff (k0_off2 i k 3#32) := ⟨_, k0_off2_eq i k 3⟩
instance (i : grid0.Coords) (k : Fin (k0_t1_loop i).trips) : ClosedOff (k0_off3 i k 0#32) := ⟨_, k0_off3_eq i k 0⟩
instance (i : grid0.Coords) (k : Fin (k0_t1_loop i).trips) : ClosedOff (k0_off3 i k 1#32) := ⟨_, k0_off3_eq i k 1⟩
instance (i : grid0.Coords) (k : Fin (k0_t1_loop i).trips) : ClosedOff (k0_off3 i k 2#32) := ⟨_, k0_off3_eq i k 2⟩
instance (i : grid0.Coords) (k : Fin (k0_t1_loop i).trips) : ClosedOff (k0_off3 i k 3#32) := ⟨_, k0_off3_eq i k 3⟩

/-! ## The blocks -/

/-- The 640 rows of key block `j`. -/
def rows (x : Vec F S1x8320x128 .bf16) (j : ℕ) : Vec F S1x640x128 .bf16 :=
  fun y => x (fun a => match a with
    | ⟨0, _⟩ => y 0
    | ⟨1, _⟩ => ⟨(640 * j + (y 1).val) % 8320, Nat.mod_lt _ (by decide)⟩
    | ⟨2, _⟩ => y 2)

/-- Key block `j`'s tile of 80 rows. -/
def tile80 {e : EltTy} (x : Vec F S1x13x80x640 e) (j : ℕ) : Vec F S1x1x80x640 e :=
  fun y => x (fun a => match a with
    | ⟨0, _⟩ => y 0
    | ⟨1, _⟩ => ⟨j % 13, Nat.mod_lt _ (by decide)⟩
    | ⟨2, _⟩ => y 2
    | ⟨3, _⟩ => y 3)

/-- Key block `j`'s tile of 64 rows. -/
def tile64 {e : EltTy} (x : Vec F S1x13x64x640 e) (j : ℕ) : Vec F S1x1x64x640 e :=
  fun y => x (fun a => match a with
    | ⟨0, _⟩ => y 0
    | ⟨1, _⟩ => ⟨j % 13, Nat.mod_lt _ (by decide)⟩
    | ⟨2, _⟩ => y 2
    | ⟨3, _⟩ => y 3)

theorem window_rows (x : Vec F S1x8320x128 .bf16) (j : ℕ) (inb) :
    VecWindow.window x ![0, 640 * j, 0] S1x640x128.size inb = rows x j := by
  funext y
  refine congrArg x (funext fun a => Fin.ext ?_)
  have h := inb 1
  fin_cases a
  · show 0 + 1 * (y 0).val = (y 0).val; omega
  · show 640 * j + 1 * (y 1).val = (640 * j + (y 1).val) % 8320
    have := (y 1).isLt
    have h2 : 640 * j + 640 ≤ 8320 := h
    have h3 : (y 1).val < 640 := this
    omega
  · show 0 + 1 * (y 2).val = (y 2).val; omega

theorem window_tile80 {e : EltTy} (x : Vec F S1x13x80x640 e) (j : ℕ) (inb) :
    VecWindow.window x ![0, j, 0, 0] S1x1x80x640.size inb = tile80 x j := by
  funext y
  refine congrArg x (funext fun a => Fin.ext ?_)
  have h := inb 1
  fin_cases a
  · show 0 + 1 * (y 0).val = (y 0).val; omega
  · show j + 1 * (y 1).val = j % 13
    have := (y 1).isLt
    have h2 : j + 1 ≤ 13 := h
    have h3 : (y 1).val < 1 := this
    omega
  · show 0 + 1 * (y 2).val = (y 2).val; omega
  · show 0 + 1 * (y 3).val = (y 3).val; omega

theorem window_tile64 {e : EltTy} (x : Vec F S1x13x64x640 e) (j : ℕ) (inb) :
    VecWindow.window x ![0, j, 0, 0] S1x1x64x640.size inb = tile64 x j := by
  funext y
  refine congrArg x (funext fun a => Fin.ext ?_)
  have h := inb 1
  fin_cases a
  · show 0 + 1 * (y 0).val = (y 0).val; omega
  · show j + 1 * (y 1).val = j % 13
    have := (y 1).isLt
    have h2 : j + 1 ≤ 13 := h
    have h3 : (y 1).val < 1 := this
    omega
  · show 0 + 1 * (y 2).val = (y 2).val; omega
  · show 0 + 1 * (y 3).val = (y 3).val; omega

/-! ## One key block -/

/-- What a key block adds to dk's tile: the tile at block `j` replaced by itself plus the block's part. -/
def dkStep (v32 v45 : FVec F S128x640 .bf16) (v49 : FVec F S80x640 .bf16) (x7 x8 : Vec F S1x8320x128 .bf16)
    (j : ℕ) (a : Vec F S1x13x80x640 .f32) : Vec F S1x13x80x640 .f32 :=
  VecWindow.put a ![0, j, 0, 0] S1x1x80x640.size (k0_pay5 v32 v45 v49 (rows x7 j) (rows x8 j) (tile80 a j))

/-- What a key block adds to dv's tile. -/
def dvStep (v8 : FVec F S64x640 .bf16) (v32 : FVec F S128x640 .bf16) (x7 : Vec F S1x8320x128 .bf16)
    (j : ℕ) (b : Vec F S1x13x64x640 .f32) : Vec F S1x13x64x640 .f32 :=
  VecWindow.put b ![0, j, 0, 0] S1x1x64x640.size (k0_pay4 v8 v32 (rows x7 j) (tile64 b j))

/-- What a key block adds to the running dq. -/
def dqStep (v32 v45 : FVec F S128x640 .bf16) (x7 x8 : Vec F S1x8320x128 .bf16) (x9 : Vec F S1x13x80x640 .bf16)
    (j : ℕ) (acc : FVec F S80x640 .f32) : FVec F S80x640 .f32 :=
  k0_pay6 acc (k0_pay3 v32 v45 (rows x7 j) (rows x8 j)) (tile80 x9 j)

/-- The blocks before `n`, one after another. -/
def run {α : Type} (f : ℕ → α → α) : ℕ → α → α
  | 0, a => a
  | n + 1, a => f n (run f n a)

theorem run_succ {α : Type} (f : ℕ → α → α) (n : ℕ) (a : α) : run f (n + 1) a = f n (run f n a) := rfl

theorem tile80_put {e : EltTy} (x : Vec F S1x13x80x640 e) (j j' : ℕ) (w) (hj : j < 13) (hj' : j' < 13) (h : j ≠ j') :
    tile80 (VecWindow.put x ![0, j, 0, 0] S1x1x80x640.size w : Vec F S1x13x80x640 e) j' = tile80 x j' := by
  have inb : ∀ a, (![0, j', 0, 0] : Fin 4 → ℕ) a + S1x1x80x640.size a ≤ S1x13x80x640.size a := by
    intro a
    fin_cases a
    · show 0 + 1 ≤ 1; omega
    · show j' + 1 ≤ 13; omega
    · show 0 + 80 ≤ 80; omega
    · show 0 + 640 ≤ 640; omega
  rw [← window_tile80 _ j' inb, ← window_tile80 x j' inb]
  refine VecWindow.window_put_of_disjoint x _ _ _ _ inb w 1 ?_
  show j' + 1 ≤ j ∨ j + 1 ≤ j'
  omega

theorem tile64_put {e : EltTy} (x : Vec F S1x13x64x640 e) (j j' : ℕ) (w) (hj : j < 13) (hj' : j' < 13) (h : j ≠ j') :
    tile64 (VecWindow.put x ![0, j, 0, 0] S1x1x64x640.size w : Vec F S1x13x64x640 e) j' = tile64 x j' := by
  have inb : ∀ a, (![0, j', 0, 0] : Fin 4 → ℕ) a + S1x1x64x640.size a ≤ S1x13x64x640.size a := by
    intro a
    fin_cases a
    · show 0 + 1 ≤ 1; omega
    · show j' + 1 ≤ 13; omega
    · show 0 + 64 ≤ 64; omega
    · show 0 + 640 ≤ 640; omega
  rw [← window_tile64 _ j' inb, ← window_tile64 x j' inb]
  refine VecWindow.window_put_of_disjoint x _ _ _ _ inb w 1 ?_
  show j' + 1 ≤ j ∨ j + 1 ≤ j'
  omega

end Cert.Attn
-- ==== Proof.Attn.Loops.lean ====
/-
  One trip of the kernel's loop over groups of four key blocks, and the loop: from what the buffers hold, what they
  hold after, as plain functions of vectors.
-/
module

public import proofs.«01_k».proof.Proof.Attn.Blocks

@[expose] public section

set_option maxRecDepth 16384

noncomputable section

namespace Cert.Attn

open Idealize.ShloMosaic Idealize.ShloMosaic.TcCoe Idealize.ShloMosaic.Tactic
open Cert.AttnBwdIdeal Cert.AttnBwdIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The five buffers the loops touch, at the values they hold. -/
abbrev Held (c : Dev nD) (arg7 arg8 : Memref sig .tc .vmem S1x8320x128 .bf16) (arg9 : Memref sig .tc .vmem S1x13x80x640 .bf16)
    (arg12 : Memref sig .tc .vmem S1x13x80x640 .f32) (arg13 : Memref sig .tc .vmem S1x13x64x640 .f32)
    (x7 x8 : Vec F S1x8320x128 .bf16) (x9 : Vec F S1x13x80x640 .bf16) (a : Vec F S1x13x80x640 .f32) (b : Vec F S1x13x64x640 .f32) : sProp 𝕄 :=
  iprop((arg7.view.loc (c : Thread nD τ) ↦[arg7.view.set]{fullShare} arg7.view.rep x7)
    ∗ (arg8.view.loc (c : Thread nD τ) ↦[arg8.view.set]{fullShare} arg8.view.rep x8)
    ∗ (arg9.view.loc (c : Thread nD τ) ↦[arg9.view.set]{fullShare} arg9.view.rep x9)
    ∗ (arg12.view.loc (c : Thread nD τ) ↦[arg12.view.set]{fullShare} arg12.view.rep a)
    ∗ (arg13.view.loc (c : Thread nD τ) ↦[arg13.view.set]{fullShare} arg13.view.rep b))

/-- A whole buffer's contents are the ones that stand for what it reads. -/
theorem eq_rep {s : Shape} {e : EltTy} {m : Memref sig .tc .vmem s e} (h : m.IsWhole) (f : m.view.ty.Contents (Elt F)) :
    f = m.view.rep (m.view.read (Elt F) f) :=
  (h.eq_unread rfl).trans (h.eq_unread (View.read_rep m.view _)).symm

/-! ## Reading a block and writing a tile -/

theorem read_rows {o : Fin S1x8320x128.rank → ℕ} {j : ℕ} (h : o = ![0, 640 * j, 0]) (m : Memref sig .tc .vmem S1x8320x128 .bf16) (x : Vec F S1x8320x128 .bf16) (inb) :
    View.readAt (Elt F) m.view (Rect.unit (s := S1x8320x128) o S1x640x128.size inb).toLoadRect (m.view.rep x) = rows x j := by
  subst h
  exact (View.readAt_rep_unit _ _ _ rfl inb).trans (window_rows _ _ _)

theorem read_rows' {o : Fin S1x8320x128.rank → ℕ} {j : ℕ} (h : o = ![0, 640 * j, 0]) (m : Memref sig .tc .vmem S1x8320x128 .bf16) (x : Vec F S1x8320x128 .bf16) (inb) :
    View.readAt (Elt F) m.view (Rect.unit (s := S1x8320x128) o ![1, 640, 128] inb).toLoadRect (m.view.rep x) = rows x j := by
  subst h
  exact (View.readAt_rep_unit _ _ _ rfl inb).trans (window_rows _ _ _)

theorem read_tile80 {e : EltTy} {o : Fin S1x13x80x640.rank → ℕ} {j : ℕ} (h : o = ![0, j, 0, 0]) (m : Memref sig .tc .vmem S1x13x80x640 e) (f : m.view.ty.Contents (Elt F)) (inb) :
    View.readAt (Elt F) m.view (Rect.unit (s := S1x13x80x640) o S1x1x80x640.size inb).toLoadRect f = tile80 (m.view.read (Elt F) f) j := by
  subst h
  exact (View.readAt_unit _ _ _ rfl inb).trans (window_tile80 _ _ _)

theorem read_tile80' {e : EltTy} {o : Fin S1x13x80x640.rank → ℕ} {j : ℕ} (h : o = ![0, j, 0, 0]) (m : Memref sig .tc .vmem S1x13x80x640 e) (f : m.view.ty.Contents (Elt F)) (inb) :
    View.readAt (Elt F) m.view (Rect.unit (s := S1x13x80x640) o ![1, 1, 80, 640] inb).toLoadRect f = tile80 (m.view.read (Elt F) f) j := by
  subst h
  exact (View.readAt_unit _ _ _ rfl inb).trans (window_tile80 _ _ _)

theorem read_tile64 {e : EltTy} {o : Fin S1x13x64x640.rank → ℕ} {j : ℕ} (h : o = ![0, j, 0, 0]) (m : Memref sig .tc .vmem S1x13x64x640 e) (f : m.view.ty.Contents (Elt F)) (inb) :
    View.readAt (Elt F) m.view (Rect.unit (s := S1x13x64x640) o S1x1x64x640.size inb).toLoadRect f = tile64 (m.view.read (Elt F) f) j := by
  subst h
  exact (View.readAt_unit _ _ _ rfl inb).trans (window_tile64 _ _ _)

theorem read_tile64' {e : EltTy} {o : Fin S1x13x64x640.rank → ℕ} {j : ℕ} (h : o = ![0, j, 0, 0]) (m : Memref sig .tc .vmem S1x13x64x640 e) (f : m.view.ty.Contents (Elt F)) (inb) :
    View.readAt (Elt F) m.view (Rect.unit (s := S1x13x64x640) o ![1, 1, 64, 640] inb).toLoadRect f = tile64 (m.view.read (Elt F) f) j := by
  subst h
  exact (View.readAt_unit _ _ _ rfl inb).trans (window_tile64 _ _ _)

theorem put_tile80 {o : Fin S1x13x80x640.rank → ℕ} {j : ℕ} (h : o = ![0, j, 0, 0]) (m : Memref sig .tc .vmem S1x13x80x640 .f32) (f : m.view.ty.Contents (Elt F)) (inb)
    (u : Vec F S1x1x80x640 .f32) (L : List (View.Piece (Elt F) S1x13x80x640 .f32)) :
    m.view.read (Elt F) (m.view.writes (Elt F) f (⟨Rect.unit (s := S1x13x80x640) o S1x1x80x640.size inb, u⟩ :: L))
      = VecWindow.put (m.view.read (Elt F) (m.view.writes (Elt F) f L)) ![0, j, 0, 0] S1x1x80x640.size u :=
  View.read_writes_cons_put _ _ _ _ _ h

theorem put_tile80' {o : Fin S1x13x80x640.rank → ℕ} {j : ℕ} (h : o = ![0, j, 0, 0]) (m : Memref sig .tc .vmem S1x13x80x640 .f32) (f : m.view.ty.Contents (Elt F)) (inb)
    (u : Vec F S1x1x80x640 .f32) (L : List (View.Piece (Elt F) S1x13x80x640 .f32)) :
    m.view.read (Elt F) (m.view.writes (Elt F) f (⟨Rect.unit (s := S1x13x80x640) o ![1, 1, 80, 640] inb, u⟩ :: L))
      = VecWindow.put (m.view.read (Elt F) (m.view.writes (Elt F) f L)) ![0, j, 0, 0] S1x1x80x640.size u :=
  View.read_writes_cons_put _ _ _ _ _ h

theorem put_tile64 {o : Fin S1x13x64x640.rank → ℕ} {j : ℕ} (h : o = ![0, j, 0, 0]) (m : Memref sig .tc .vmem S1x13x64x640 .f32) (f : m.view.ty.Contents (Elt F)) (inb)
    (u : Vec F S1x1x64x640 .f32) (L : List (View.Piece (Elt F) S1x13x64x640 .f32)) :
    m.view.read (Elt F) (m.view.writes (Elt F) f (⟨Rect.unit (s := S1x13x64x640) o S1x1x64x640.size inb, u⟩ :: L))
      = VecWindow.put (m.view.read (Elt F) (m.view.writes (Elt F) f L)) ![0, j, 0, 0] S1x1x64x640.size u :=
  View.read_writes_cons_put _ _ _ _ _ h

theorem put_tile64' {o : Fin S1x13x64x640.rank → ℕ} {j : ℕ} (h : o = ![0, j, 0, 0]) (m : Memref sig .tc .vmem S1x13x64x640 .f32) (f : m.view.ty.Contents (Elt F)) (inb)
    (u : Vec F S1x1x64x640 .f32) (L : List (View.Piece (Elt F) S1x13x64x640 .f32)) :
    m.view.read (Elt F) (m.view.writes (Elt F) f (⟨Rect.unit (s := S1x13x64x640) o ![1, 1, 64, 640] inb, u⟩ :: L))
      = VecWindow.put (m.view.read (Elt F) (m.view.writes (Elt F) f L)) ![0, j, 0, 0] S1x1x64x640.size u :=
  View.read_writes_cons_put _ _ _ _ _ h

theorem off1_0 (i : grid0.Coords) (k : Fin (k0_t1_loop i).trips) : k0_off1 i k 0#32 = ![0, 640 * (4 * k.val + 0), 0] := k0_off1_eq i k 0
theorem off2_0 (i : grid0.Coords) (k : Fin (k0_t1_loop i).trips) : k0_off2 i k 0#32 = ![0, 4 * k.val + 0, 0, 0] := k0_off2_eq i k 0
theorem off3_0 (i : grid0.Coords) (k : Fin (k0_t1_loop i).trips) : k0_off3 i k 0#32 = ![0, 4 * k.val + 0, 0, 0] := k0_off3_eq i k 0
theorem off1_1 (i : grid0.Coords) (k : Fin (k0_t1_loop i).trips) : k0_off1 i k 1#32 = ![0, 640 * (4 * k.val + 1), 0] := k0_off1_eq i k 1
theorem off2_1 (i : grid0.Coords) (k : Fin (k0_t1_loop i).trips) : k0_off2 i k 1#32 = ![0, 4 * k.val + 1, 0, 0] := k0_off2_eq i k 1
theorem off3_1 (i : grid0.Coords) (k : Fin (k0_t1_loop i).trips) : k0_off3 i k 1#32 = ![0, 4 * k.val + 1, 0, 0] := k0_off3_eq i k 1
theorem off1_2 (i : grid0.Coords) (k : Fin (k0_t1_loop i).trips) : k0_off1 i k 2#32 = ![0, 640 * (4 * k.val + 2), 0] := k0_off1_eq i k 2
theorem off2_2 (i : grid0.Coords) (k : Fin (k0_t1_loop i).trips) : k0_off2 i k 2#32 = ![0, 4 * k.val + 2, 0, 0] := k0_off2_eq i k 2
theorem off3_2 (i : grid0.Coords) (k : Fin (k0_t1_loop i).trips) : k0_off3 i k 2#32 = ![0, 4 * k.val + 2, 0, 0] := k0_off3_eq i k 2
theorem off1_3 (i : grid0.Coords) (k : Fin (k0_t1_loop i).trips) : k0_off1 i k 3#32 = ![0, 640 * (4 * k.val + 3), 0] := k0_off1_eq i k 3
theorem off2_3 (i : grid0.Coords) (k : Fin (k0_t1_loop i).trips) : k0_off2 i k 3#32 = ![0, 4 * k.val + 3, 0, 0] := k0_off2_eq i k 3
theorem off3_3 (i : grid0.Coords) (k : Fin (k0_t1_loop i).trips) : k0_off3 i k 3#32 = ![0, 4 * k.val + 3, 0, 0] := k0_off3_eq i k 3

/-- Four blocks, one after another, from block `n`. -/
def four {α : Type} (f : ℕ → α → α) (n : ℕ) (a : α) : α := f (n + 3) (f (n + 2) (f (n + 1) (f (n + 0) a)))

set_option maxHeartbeats 4000000 in
theorem trip1 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32)
    (v6 : FVec F S64x640 .bf16) (v8 : FVec F S64x640 .bf16) (v15 : FVec F S1x640 .f32) (v16 : FVec F S3x640 .bf16) (v32 : FVec F S128x640 .bf16) (v33 : FVec F S1x640 .f32)
    (x7 x8 : Vec F S1x8320x128 .bf16) (x9 : Vec F S1x13x80x640 .bf16) (a : Vec F S1x13x80x640 .f32) (b : Vec F S1x13x64x640 .f32)
    (k : Fin (k0_t1_loop i).trips) (acc : FVec F S80x640 .f32) :
    Held (F := F) c arg7 arg8 arg9 arg12 arg13 x7 x8 x9 a b
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg1 v6 v8 v15 v16 v32 v33 k acc)
          (fun yld => iprop(⌜yld = four (dqStep v32 (k0_pay56 v8 v15 v33) x7 x8 x9) (4 * k.val) acc⌝
            ∗ Held (F := F) c arg7 arg8 arg9 arg12 arg13 x7 x8 x9
                (four (dkStep v32 (k0_pay56 v8 v15 v33) (k0_pay57 v6 v16) x7 x8) (4 * k.val) a)
                (four (dvStep v8 v32 x7) (4 * k.val) b))) := by
  unfold k0_t1_body
  simp only [k0_part1_eq_skeleton, k0_part2_eq_skeleton, k0_part3_eq_skeleton, k0_part4_eq_skeleton]
  iintro ⟨H7, H8, H9, H12, H13⟩
  sl_exec
  sl_step
  rw [eq_rep harg12 (View.writes _ _ _ _), eq_rep harg13 (View.writes _ _ _ _)]
  delta trip1.sl.H12_3 trip1.sl.H13_3 trip1.sl.r_8 trip1.sl.r_7 trip1.sl.r_6 trip1.sl.v296
  delta trip1.sl.H12_2 trip1.sl.H13_2 trip1.sl.r_5 trip1.sl.r_4
  delta trip1.sl.H12_1 trip1.sl.H13_1 trip1.sl.r_1 trip1.sl.r_2 trip1.sl.r_3 trip1.sl.r
  simp only [read_rows (off1_0 i k), read_tile80 (off3_0 i k), read_tile64 (off2_0 i k), put_tile80 (off3_0 i k), put_tile64 (off2_0 i k), read_rows' (off1_0 i k), read_tile80' (off3_0 i k), read_tile64' (off2_0 i k), put_tile80' (off3_0 i k), put_tile64' (off2_0 i k), read_rows (off1_1 i k), read_tile80 (off3_1 i k), read_tile64 (off2_1 i k), put_tile80 (off3_1 i k), put_tile64 (off2_1 i k), read_rows' (off1_1 i k), read_tile80' (off3_1 i k), read_tile64' (off2_1 i k), put_tile80' (off3_1 i k), put_tile64' (off2_1 i k), read_rows (off1_2 i k), read_tile80 (off3_2 i k), read_tile64 (off2_2 i k), put_tile80 (off3_2 i k), put_tile64 (off2_2 i k), read_rows' (off1_2 i k), read_tile80' (off3_2 i k), read_tile64' (off2_2 i k), put_tile80' (off3_2 i k), put_tile64' (off2_2 i k), read_rows (off1_3 i k), read_tile80 (off3_3 i k), read_tile64 (off2_3 i k), put_tile80 (off3_3 i k), put_tile64 (off2_3 i k), read_rows' (off1_3 i k), read_tile80' (off3_3 i k), read_tile64' (off2_3 i k), put_tile80' (off3_3 i k), put_tile64' (off2_3 i k),
    View.writes_nil, View.read_rep]
  isplitr
  · ipureintro; rfl
  · isplitl [H7]; · iexact H7
    isplitl [H8]; · iexact H8
    isplitl [H9]; · iexact H9
    isplitl [H12]; · iexact H12
    iexact H13

end Cert.Attn
-- ==== Proof.Attn.Parts.lean ====
/-
  The parts of the attention backward kernel's body: from what the buffers hold, what they hold after, as plain
  functions of vectors.
-/
module

public import proofs.«01_k».proof.Proof.Attn.Loops
public import Idealize.ShloMosaic.Lib.LoopRemainder

@[expose] public section

set_option maxRecDepth 16384

noncomputable section

namespace Cert.Attn

open Idealize.ShloMosaic Idealize.ShloMosaic.TcCoe Idealize.ShloMosaic.Tactic
open Cert.AttnBwdIdeal Cert.AttnBwdIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Runs of blocks -/

theorem four_run {α : Type} (f : ℕ → α → α) (n : ℕ) (a : α) : four f (4 * n) (run f (4 * n) a) = run f (4 * (n + 1)) a := rfl

theorem run_add {α : Type} (f : ℕ → α → α) (n m : ℕ) (a : α) : run (fun j => f (n + j)) m (run f n a) = run f (n + m) a := by
  induction m with
  | zero => rfl
  | succ m ih => rw [run_succ, ih]; rfl

/-! ## Groups of four blocks -/

set_option warn.classDefReducibility false in
/-- The loop over groups of four key blocks, by its invariant. -/
@[sl_loop] def loop1 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v6 : FVec F S64x640 .bf16) (v8 : FVec F S64x640 .bf16) (v15 : FVec F S1x640 .f32) (v16 : FVec F S3x640 .bf16) (v32 : FVec F S128x640 .bf16) (v33 : FVec F S1x640 .f32) (x7 x8 : Vec F S1x8320x128 .bf16) (x9 : Vec F S1x13x80x640 .bf16) (a : Vec F S1x13x80x640 .f32) (b : Vec F S1x13x64x640 .f32) (init : FVec F S80x640 .f32) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v6 v8 v15 v16 v32 v33 init where
  inv k acc := iprop((arg7.view.loc (c : Thread nD τ) ↦[arg7.view.set]{fullShare} arg7.view.rep x7)
      ∗ (arg8.view.loc (c : Thread nD τ) ↦[arg8.view.set]{fullShare} arg8.view.rep x8)
      ∗ (arg9.view.loc (c : Thread nD τ) ↦[arg9.view.set]{fullShare} arg9.view.rep x9)
      ∗ (∃ f, (arg12.view.loc (c : Thread nD τ) ↦[arg12.view.set]{fullShare} f) ∗ ⌜f = arg12.view.rep (run (dkStep v32 (k0_pay56 v8 v15 v33) (k0_pay57 v6 v16) x7 x8) (4 * k) a)⌝)
      ∗ (∃ f, (arg13.view.loc (c : Thread nD τ) ↦[arg13.view.set]{fullShare} f) ∗ ⌜f = arg13.view.rep (run (dvStep v8 v32 x7) (4 * k) b)⌝)
      ∗ ⌜acc = run (dqStep v32 (k0_pay56 v8 v15 v33) x7 x8 x9) (4 * k) init⌝)
  step k acc := by
    iintro ⟨H7, H8, H9, ⟨%f12, H12, %h12⟩, ⟨%f13, H13, %h13⟩, %hacc⟩
    subst h12 h13 hacc
    iapply (wp_wand_r Idealize.ShloMosaic.frame (wpE (defs₀ (F := F)) 𝒱 (c : Thread nD τ) bd) E)
    isplitl [H7 H8 H9 H12 H13]
    · iapply (trip1 𝒱 c bd E i arg2 harg2 arg3 harg3 arg4 harg4 arg5 harg5 arg6 harg6 arg7 harg7 arg8 harg8 arg9 harg9 arg10 harg10 arg11 harg11 arg12 harg12 arg13 harg13 arg1 v6 v8 v15 v16 v32 v33 x7 x8 x9 _ _ k _)
      isplitl [H7]; · iexact H7
      isplitl [H8]; · iexact H8
      isplitl [H9]; · iexact H9
      isplitl [H12]; · iexact H12
      iexact H13
    · iintro %yld ⟨%hy, H7, H8, H9, H12, H13⟩
      isplitl [H7]; · iexact H7
      isplitl [H8]; · iexact H8
      isplitl [H9]; · iexact H9
      isplitl [H12]
      · iexists _; isplitl [H12]; · iexact H12
        ipureintro; rfl
      isplitl [H13]
      · iexists _; isplitl [H13]; · iexact H13
        ipureintro; rfl
      ipureintro; exact hy

set_option maxHeartbeats 4000000 in
/-- The part that prepares the second operand and goes through the groups of four key blocks. -/
theorem part12 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v6 : FVec F S64x640 .bf16) (v8 : FVec F S64x640 .bf16) (v15 : FVec F S1x640 .f32) (v16 : FVec F S3x640 .bf16) (v32 : FVec F S128x640 .bf16) (v33 : FVec F S1x640 .f32) (x7 x8 : Vec F S1x8320x128 .bf16) (x9 : Vec F S1x13x80x640 .bf16) (a : Vec F S1x13x80x640 .f32) (b : Vec F S1x13x64x640 .f32) :
    Held (F := F) c arg7 arg8 arg9 arg12 arg13 x7 x8 x9 a b
      ⊢ wp frame (wpE (defs₀ (F := F)) 𝒱 (c : Thread nD τ) bd) E (k0_part12 (F := F) i arg2 harg2 arg3 harg3 arg4 harg4 arg5 harg5 arg6 harg6 arg7 harg7 arg8 harg8 arg9 harg9 arg10 harg10 arg11 harg11 arg12 harg12 arg13 harg13 arg1 v6 v8 v15 v16 v32 v33)
          (fun r => iprop(⌜r = ⟨k0_pay56 v8 v15 v33, k0_pay57 v6 v16, run (dqStep v32 (k0_pay56 v8 v15 v33) x7 x8 x9) (4 * ((i 1).val / 4)) (k0_pay58 (F := F)), 4#32, Scalar.divsi arg1 4#32, Scalar.cmpi .sgt arg1 0#32⟩⌝
            ∗ Held (F := F) c arg7 arg8 arg9 arg12 arg13 x7 x8 x9 (run (dkStep v32 (k0_pay56 v8 v15 v33) (k0_pay57 v6 v16) x7 x8) (4 * ((i 1).val / 4)) a) (run (dvStep v8 v32 x7) (4 * ((i 1).val / 4)) b))) := by
  rw [k0_part12_eq_skeleton]
  unfold k0_part12_skel
  iintro ⟨H7, H8, H9, H12, H13⟩
  have ht : Scf.trips (k0_t1_loop i).lb (k0_t1_loop i).ub (k0_t1_loop i).st = (i 1).val / 4 := trips1 i
  sl_exec
  sl_step
  rw [ht]
  isplitr
  · ipureintro; rfl
  · isplitl [H7]; · iexact H7
    isplitl [H8]; · iexact H8
    isplitl [H9]; · iexact H9
    isplitl [H12]; · iexact H12
    iexact H13

/-! ## The blocks after the last group of four -/

set_option maxHeartbeats 4000000 in
theorem trip3 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v8 : FVec F S64x640 .bf16) (v32 : FVec F S128x640 .bf16) (v45 : FVec F S128x640 .bf16) (v49 : FVec F S80x640 .bf16) (v74 : FVec F S80x640 .f32) (c4_i32_33 : BitVec 32) (v75 : BitVec 32) (v76 : BitVec 1) (v92 : BitVec 32) (x7 x8 : Vec F S1x8320x128 .bf16) (x9 : Vec F S1x13x80x640 .bf16) (a : Vec F S1x13x80x640 .f32) (b : Vec F S1x13x64x640 .f32) (k : Fin (k0_t3_loop i).trips) (acc : FVec F S80x640 .f32) :
    Held (F := F) c arg7 arg8 arg9 arg12 arg13 x7 x8 x9 a b
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76 v92 k acc)
          (fun yld => iprop(⌜yld = (dqStep v32 v45 x7 x8 x9) (4 * ((i 1).val / 4) + k.val) acc⌝ ∗ Held (F := F) c arg7 arg8 arg9 arg12 arg13 x7 x8 x9 ((dkStep v32 v45 v49 x7 x8) (4 * ((i 1).val / 4) + k.val) a) ((dvStep v8 v32 x7) (4 * ((i 1).val / 4) + k.val) b))) := by
  unfold k0_t3_body
  simp only [k0_part9_eq_skeleton]
  iintro ⟨H7, H8, H9, H12, H13⟩
  sl_exec
  sl_step
  rw [eq_rep harg12 (View.writes _ _ _ _), eq_rep harg13 (View.writes _ _ _ _)]
  simp only [read_rows (k0_off7_eq i k), read_rows' (k0_off7_eq i k), read_tile80 (k0_off9_eq i k), read_tile80' (k0_off9_eq i k),
    read_tile64 (k0_off8_eq i k), read_tile64' (k0_off8_eq i k), put_tile80 (k0_off9_eq i k), put_tile80' (k0_off9_eq i k),
    put_tile64 (k0_off8_eq i k), put_tile64' (k0_off8_eq i k), View.writes_nil, View.read_rep]
  delta trip3.sl.r
  simp only [read_rows (k0_off7_eq i k), read_rows' (k0_off7_eq i k)]
  isplitr
  · ipureintro; rfl
  · isplitl [H7]; · iexact H7
    isplitl [H8]; · iexact H8
    isplitl [H9]; · iexact H9
    isplitl [H12]; · iexact H12
    iexact H13

set_option warn.classDefReducibility false in
/-- The loop over the blocks after the last group of four, by its invariant. -/
@[sl_loop] def loop3 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v8 : FVec F S64x640 .bf16) (v32 : FVec F S128x640 .bf16) (v45 : FVec F S128x640 .bf16) (v49 : FVec F S80x640 .bf16) (v74 : FVec F S80x640 .f32) (c4_i32_33 : BitVec 32) (v75 : BitVec 32) (v76 : BitVec 1) (v92 : BitVec 32) (x7 x8 : Vec F S1x8320x128 .bf16) (x9 : Vec F S1x13x80x640 .bf16) (a : Vec F S1x13x80x640 .f32) (b : Vec F S1x13x64x640 .f32) (init : FVec F S80x640 .f32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76 v92 init where
  inv k acc := iprop((arg7.view.loc (c : Thread nD τ) ↦[arg7.view.set]{fullShare} arg7.view.rep x7)
      ∗ (arg8.view.loc (c : Thread nD τ) ↦[arg8.view.set]{fullShare} arg8.view.rep x8)
      ∗ (arg9.view.loc (c : Thread nD τ) ↦[arg9.view.set]{fullShare} arg9.view.rep x9)
      ∗ (∃ f, (arg12.view.loc (c : Thread nD τ) ↦[arg12.view.set]{fullShare} f) ∗ ⌜f = arg12.view.rep (run (fun j => (dkStep v32 v45 v49 x7 x8) (4 * ((i 1).val / 4) + j)) k a)⌝)
      ∗ (∃ f, (arg13.view.loc (c : Thread nD τ) ↦[arg13.view.set]{fullShare} f) ∗ ⌜f = arg13.view.rep (run (fun j => (dvStep v8 v32 x7) (4 * ((i 1).val / 4) + j)) k b)⌝)
      ∗ ⌜acc = run (fun j => (dqStep v32 v45 x7 x8 x9) (4 * ((i 1).val / 4) + j)) k init⌝)
  step k acc := by
    iintro ⟨H7, H8, H9, ⟨%f12, H12, %h12⟩, ⟨%f13, H13, %h13⟩, %hacc⟩
    subst h12 h13 hacc
    iapply (wp_wand_r Idealize.ShloMosaic.frame (wpE (defs₀ (F := F)) 𝒱 (c : Thread nD τ) bd) E)
    isplitl [H7 H8 H9 H12 H13]
    · iapply (trip3 𝒱 c bd E i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76 v92 x7 x8 x9 _ _ k _)
      isplitl [H7]; · iexact H7
      isplitl [H8]; · iexact H8
      isplitl [H9]; · iexact H9
      isplitl [H12]; · iexact H12
      iexact H13
    · iintro %yld ⟨%hy, H7, H8, H9, H12, H13⟩
      isplitl [H7]; · iexact H7
      isplitl [H8]; · iexact H8
      isplitl [H9]; · iexact H9
      isplitl [H12]
      · iexists _; isplitl [H12]; · iexact H12
        ipureintro; rfl
      isplitl [H13]
      · iexists _; isplitl [H13]; · iexact H13
        ipureintro; rfl
      ipureintro; exact hy

set_option maxHeartbeats 4000000 in
/-- The part that goes through the blocks after the last group of four and then reads the diagonal block. -/
theorem part13 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v8 : FVec F S64x640 .bf16) (v32 : FVec F S128x640 .bf16) (v45 : FVec F S128x640 .bf16) (v49 : FVec F S80x640 .bf16) (v74 : FVec F S80x640 .f32) (c4_i32_33 : BitVec 32) (v75 : BitVec 32) (v76 : BitVec 1) (x7 x8 : Vec F S1x8320x128 .bf16) (x9 : Vec F S1x13x80x640 .bf16) (a : Vec F S1x13x80x640 .f32) (b : Vec F S1x13x64x640 .f32) :
    Held (F := F) c arg7 arg8 arg9 arg12 arg13 x7 x8 x9 a b
      ⊢ wp frame (wpE (defs₀ (F := F)) 𝒱 (c : Thread nD τ) bd) E (k0_part13 (F := F) i arg2 harg2 arg3 harg3 arg4 harg4 arg5 harg5 arg6 harg6 arg7 harg7 arg8 harg8 arg9 harg9 arg10 harg10 arg11 harg11 arg12 harg12 arg13 harg13 arg1 v8 v32 v45 v49 v74 c4_i32_33 v75 v76)
          (fun r => iprop(⌜r = ⟨run (fun j => (dqStep v32 v45 x7 x8 x9) (4 * ((i 1).val / 4) + j)) ((i 1).val % 4) v74, k0_pay67 v32 (rows x7 (i 1).val), k0_pay68 v32 v45 (rows x7 (i 1).val) (rows x8 (i 1).val)⟩⌝
            ∗ Held (F := F) c arg7 arg8 arg9 arg12 arg13 x7 x8 x9 (run (fun j => (dkStep v32 v45 v49 x7 x8) (4 * ((i 1).val / 4) + j)) ((i 1).val % 4) a) (run (fun j => (dvStep v8 v32 x7) (4 * ((i 1).val / 4) + j)) ((i 1).val % 4) b))) := by
  rw [k0_part13_eq_skeleton]
  unfold k0_part13_skel
  iintro ⟨H7, H8, H9, H12, H13⟩
  have ht : Scf.trips (k0_t3_loop i).lb (k0_t3_loop i).ub (k0_t3_loop i).st = (i 1).val % 4 := trips3 i
  sl_exec
  sl_step
  rw [ht]
  simp only [read_rows (k0_off13_eq i), read_rows' (k0_off13_eq i)]
  isplitr
  · ipureintro; first | rfl | trivial
  · isplitl [H7]; · iexact H7
    isplitl [H8]; · iexact H8
    isplitl [H9]; · iexact H9
    isplitl [H12]; · iexact H12
    iexact H13

end Cert.Attn
-- ==== Proof.Attn.Ends.lean ====
/-
  The parts of the attention backward kernel's body: from what the buffers hold, what they hold after, as plain
  functions of vectors.
-/
module

public import proofs.«01_k».proof.Proof.Attn.Parts
public import Idealize.ShloMosaic.Lib.LoopRemainder

@[expose] public section

set_option maxRecDepth 16384

noncomputable section

namespace Cert.Attn

open Idealize.ShloMosaic Idealize.ShloMosaic.TcCoe Idealize.ShloMosaic.Tactic
open Cert.AttnBwdIdeal Cert.AttnBwdIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The part that adds the diagonal block and writes dq. -/
theorem part14 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (arg1 : BitVec 32) (v8 : FVec F S64x640 .bf16) (v49 : FVec F S80x640 .bf16) (v99 : FVec F S80x640 .f32) (v111 : FVec F S640x640 .f32) (v117 : FVec F S640x640 .bf16)
    (x9 : Vec F S1x13x80x640 .bf16) (a : Vec F S1x13x80x640 .f32) (b : Vec F S1x13x64x640 .f32) (f10 : arg10.view.ty.Contents (Elt F)) (f11 : arg11.view.ty.Contents (Elt F)) :
    (iprop((arg9.view.loc (c : Thread nD τ) ↦[arg9.view.set]{fullShare} arg9.view.rep x9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} arg12.view.rep a) ∗ (arg13.view.loc (c : Thread nD τ) ↦[arg13.view.set]{fullShare} arg13.view.rep b)) : sProp 𝕄)
      ⊢ wp frame (wpE (defs₀ (F := F)) 𝒱 (c : Thread nD τ) bd) E (k0_part14 (F := F) i arg2 harg2 arg3 harg3 arg4 harg4 arg5 harg5 arg6 harg6 arg7 harg7 arg8 harg8 arg9 harg9 arg10 harg10 arg11 harg11 arg12 harg12 arg13 harg13 arg1 v8 v49 v99 v111 v117)
          (fun r => iprop(⌜r = k0_pay73 v99 v117 (tile80 x9 (i 1).val)⌝
            ∗ (arg9.view.loc (c : Thread nD τ) ↦[arg9.view.set]{fullShare} arg9.view.rep x9) ∗ (arg10.view.loc (c : Thread nD τ) ↦[arg10.view.set]{fullShare} arg10.view.rep (k0_pay72 v99 v117 (tile80 x9 (i 1).val))) ∗ (arg11.view.loc (c : Thread nD τ) ↦[arg11.view.set]{fullShare} f11)
            ∗ (arg12.view.loc (c : Thread nD τ) ↦[arg12.view.set]{fullShare} arg12.view.rep (VecWindow.put a ![0, (i 1).val, 0, 0] S1x1x80x640.size (k0_pay70 v49 v117 (tile80 a (i 1).val)))) ∗ (arg13.view.loc (c : Thread nD τ) ↦[arg13.view.set]{fullShare} arg13.view.rep (VecWindow.put b ![0, (i 1).val, 0, 0] S1x1x64x640.size (k0_pay69 v8 v111 (tile64 b (i 1).val)))))) := by
  rw [k0_part14_eq_skeleton]
  unfold k0_part14_skel
  iintro ⟨H9, H10, H11, H12, H13⟩
  sl_exec
  sl_step
  rw [eq_rep harg12 (View.writes _ _ _ _), eq_rep harg13 (View.writes _ _ _ _), eq_rep harg10 (View.writes _ _ _ _)]
  rw [View.read_writes_full arg10.view]
  simp only [read_tile80 (k0_off15_eq i), read_tile80' (k0_off15_eq i),
    read_tile64 (k0_off14_eq i), read_tile64' (k0_off14_eq i), put_tile80 (k0_off15_eq i), put_tile80' (k0_off15_eq i),
    put_tile64 (k0_off14_eq i), put_tile64' (k0_off14_eq i), View.writes_nil, View.read_rep]
  isplitr
  · ipureintro; first | rfl | trivial
  · isplitl [H9]; · iexact H9
    isplitl [H10]; · iexact H10
    isplitl [H11]; · iexact H11
    isplitl [H12]; · iexact H12
    iexact H13

set_option maxHeartbeats 4000000 in
/-- The part that reads the query block; at the first query block of a head it clears dk and dv. -/
theorem part11 (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (x2 x3 x4 : Vec F S1x64x640 .bf16) (x5 x6 : Vec F S1x1x640 .f32) (a : Vec F S1x13x80x640 .f32) (b : Vec F S1x13x64x640 .f32) :
    (iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg12.view.loc (c : Thread nD τ) ↦[arg12.view.set]{fullShare} arg12.view.rep a) ∗ (arg13.view.loc (c : Thread nD τ) ↦[arg13.view.set]{fullShare} arg13.view.rep b)) : sProp 𝕄)
      ⊢ wp frame (wpE (defs₀ (F := F)) 𝒱 (c : Thread nD τ) bd) E (k0_part11 (F := F) i arg2 harg2 arg3 harg3 arg4 harg4 arg5 harg5 arg6 harg6 arg7 harg7 arg8 harg8 arg9 harg9 arg10 harg10 arg11 harg11 arg12 harg12 arg13 harg13)
          (fun r => iprop(⌜r = ⟨BitVec.ofNat 32 (i 1).val, k0_pay50 x2, k0_pay51 x4, k0_pay52 x4 x3, k0_pay53 (F := F), k0_pay54 x2 x6 x5, k0_pay55 (F := F)⟩⌝
            ∗ (arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6)
            ∗ (arg12.view.loc (c : Thread nD τ) ↦[arg12.view.set]{fullShare} arg12.view.rep (if (i 1).val = 0 then k0_pay48 (F := F) else a)) ∗ (arg13.view.loc (c : Thread nD τ) ↦[arg13.view.set]{fullShare} arg13.view.rep (if (i 1).val = 0 then k0_pay49 (F := F) else b)))) := by
  rw [k0_part11_eq_skeleton]
  unfold k0_part11_skel
  iintro ⟨H2, H3, H4, H5, H6, H12, H13⟩
  have hc : ∀ i : grid0.Coords, (Scalar.cmpi .ne (Scalar.extui (Scalar.cmpi .eq (BitVec.ofNat 32 (i 1).val) 0#32) : BitVec 32) 0#32 = 1#1) = ((i 1).val = 0) := by decide +kernel
  by_cases h : (i 1).val = 0
  · have h0 := (hc i).mpr h
    rw [if_pos h, if_pos h]
    sl_exec
    sl_step
    rw [eq_rep harg12 (View.writes _ _ _ _), eq_rep harg13 (View.writes _ _ _ _)]
    rw [View.readAt_rep_full arg2.view, View.readAt_rep_full arg3.view, View.readAt_rep_full arg4.view, View.readAt_rep_full arg5.view, View.readAt_rep_full arg6.view]
    rw [View.read_writes_full arg12.view, View.read_writes_full arg13.view]
    isplitr
    · ipureintro; first | rfl | trivial
    · isplitl [H2]; · iexact H2
      isplitl [H3]; · iexact H3
      isplitl [H4]; · iexact H4
      isplitl [H5]; · iexact H5
      isplitl [H6]; · iexact H6
      isplitl [H12]; · iexact H12
      iexact H13
  · have h0 := mt (hc i).mp h
    rw [if_neg h, if_neg h]
    sl_exec
    sl_step
    rw [View.readAt_rep_full arg2.view, View.readAt_rep_full arg3.view, View.readAt_rep_full arg4.view, View.readAt_rep_full arg5.view, View.readAt_rep_full arg6.view]
    isplitr
    · ipureintro; first | rfl | trivial
    · isplitl [H2]; · iexact H2
      isplitl [H3]; · iexact H3
      isplitl [H4]; · iexact H4
      isplitl [H5]; · iexact H5
      isplitl [H6]; · iexact H6
      isplitl [H12]; · iexact H12
      iexact H13

/-! ## The whole body -/

/-- The first operand of the scores: the scaled queries over `ones, cq - lse` and zeros. -/
def qAug (x2 : Vec F S1x64x640 .bf16) (x5 x6 : Vec F S1x1x640 .f32) : FVec F S128x640 .bf16 := k0_pay54 x2 x6 x5
/-- The operand of `v · do - delta`. -/
def doAug (x3 x4 : Vec F S1x64x640 .bf16) : FVec F S128x640 .bf16 := k0_pay56 (k0_pay51 x4) (k0_pay52 x4 x3) (k0_pay55 (F := F))
/-- The scaled queries over a row of ones. -/
def qOnes (x2 : Vec F S1x64x640 .bf16) : FVec F S80x640 .bf16 := k0_pay57 (k0_pay50 x2) (k0_pay53 (F := F))
/-- The diagonal block's ds. -/
def dsDiag (j : ℕ) (x2 x3 x4 : Vec F S1x64x640 .bf16) (x5 x6 : Vec F S1x1x640 .f32) (x7 x8 : Vec F S1x8320x128 .bf16) (x9 : Vec F S1x13x80x640 .bf16) : FVec F S640x640 .bf16 := k0_pay68 (qAug x2 x5 x6) (doAug x3 x4) (rows x7 j) (rows x8 j)
/-- dq over the key blocks before `j`. -/
def dqRun (j : ℕ) (x2 x3 x4 : Vec F S1x64x640 .bf16) (x5 x6 : Vec F S1x1x640 .f32) (x7 x8 : Vec F S1x8320x128 .bf16) (x9 : Vec F S1x13x80x640 .bf16) : FVec F S80x640 .f32 := run (dqStep (qAug x2 x5 x6) (doAug x3 x4) x7 x8 x9) j (k0_pay58 (F := F))
/-- dk over the key blocks before `j`. -/
def dkRun (j : ℕ) (x2 x3 x4 : Vec F S1x64x640 .bf16) (x5 x6 : Vec F S1x1x640 .f32) (x7 x8 : Vec F S1x8320x128 .bf16) (x9 : Vec F S1x13x80x640 .bf16) (a : Vec F S1x13x80x640 .f32) : Vec F S1x13x80x640 .f32 := run (dkStep (qAug x2 x5 x6) (doAug x3 x4) (qOnes x2) x7 x8) j a
/-- dv over the key blocks before `j`. -/
def dvRun (j : ℕ) (x2 x3 x4 : Vec F S1x64x640 .bf16) (x5 x6 : Vec F S1x1x640 .f32) (x7 x8 : Vec F S1x8320x128 .bf16) (x9 : Vec F S1x13x80x640 .bf16) (b : Vec F S1x13x64x640 .f32) : Vec F S1x13x64x640 .f32 := run (dvStep (k0_pay51 x4) (qAug x2 x5 x6) x7) j b
/-- The first result's block. -/
def out10 (j : ℕ) (x2 x3 x4 : Vec F S1x64x640 .bf16) (x5 x6 : Vec F S1x1x640 .f32) (x7 x8 : Vec F S1x8320x128 .bf16) (x9 : Vec F S1x13x80x640 .bf16) : Vec F S1x64x640 .bf16 := k0_pay72 (dqRun j x2 x3 x4 x5 x6 x7 x8 x9) (dsDiag j x2 x3 x4 x5 x6 x7 x8 x9) (tile80 x9 j)
/-- The second result's block. -/
def out11 (j : ℕ) (x2 x3 x4 : Vec F S1x64x640 .bf16) (x5 x6 : Vec F S1x1x640 .f32) (x7 x8 : Vec F S1x8320x128 .bf16) (x9 : Vec F S1x13x80x640 .bf16) : Vec F S1x1x640 .f32 := k0_pay1 (k0_pay73 (dqRun j x2 x3 x4 x5 x6 x7 x8 x9) (dsDiag j x2 x3 x4 x5 x6 x7 x8 x9) (tile80 x9 j))
/-- dk after the query block `j`, from dk before it. -/
def out12 (j : ℕ) (x2 x3 x4 : Vec F S1x64x640 .bf16) (x5 x6 : Vec F S1x1x640 .f32) (x7 x8 : Vec F S1x8320x128 .bf16) (x9 : Vec F S1x13x80x640 .bf16) (a : Vec F S1x13x80x640 .f32) : Vec F S1x13x80x640 .f32 :=
  VecWindow.put (dkRun j x2 x3 x4 x5 x6 x7 x8 x9 a) ![0, j, 0, 0] S1x1x80x640.size (k0_pay70 (qOnes x2) (dsDiag j x2 x3 x4 x5 x6 x7 x8 x9) (tile80 (dkRun j x2 x3 x4 x5 x6 x7 x8 x9 a) j))
/-- dv after the query block `j`, from dv before it. -/
def out13 (j : ℕ) (x2 x3 x4 : Vec F S1x64x640 .bf16) (x5 x6 : Vec F S1x1x640 .f32) (x7 x8 : Vec F S1x8320x128 .bf16) (x9 : Vec F S1x13x80x640 .bf16) (b : Vec F S1x13x64x640 .f32) : Vec F S1x13x64x640 .f32 :=
  VecWindow.put (dvRun j x2 x3 x4 x5 x6 x7 x8 x9 b) ![0, j, 0, 0] S1x1x64x640.size (k0_pay69 (k0_pay51 x4) (k0_pay67 (qAug x2 x5 x6) (rows x7 j)) (tile64 (dvRun j x2 x3 x4 x5 x6 x7 x8 x9 b) j))

set_option maxHeartbeats 4000000 in
/-- One grid point: from the blocks of the inputs and what the outputs held to what the outputs hold. -/
theorem whole (𝒱 : Variants) (c : Dev nD) (bd : Option 𝒱.V) (E : Set ℕ) (i : grid0.Coords) (arg2 : Memref sig .tc .vmem S1x64x640 .bf16) (harg2 : arg2.IsWhole) (arg3 : Memref sig .tc .vmem S1x64x640 .bf16) (harg3 : arg3.IsWhole) (arg4 : Memref sig .tc .vmem S1x64x640 .bf16) (harg4 : arg4.IsWhole) (arg5 : Memref sig .tc .vmem S1x1x640 .f32) (harg5 : arg5.IsWhole) (arg6 : Memref sig .tc .vmem S1x1x640 .f32) (harg6 : arg6.IsWhole) (arg7 : Memref sig .tc .vmem S1x8320x128 .bf16) (harg7 : arg7.IsWhole) (arg8 : Memref sig .tc .vmem S1x8320x128 .bf16) (harg8 : arg8.IsWhole) (arg9 : Memref sig .tc .vmem S1x13x80x640 .bf16) (harg9 : arg9.IsWhole) (arg10 : Memref sig .tc .vmem S1x64x640 .bf16) (harg10 : arg10.IsWhole) (arg11 : Memref sig .tc .vmem S1x1x640 .f32) (harg11 : arg11.IsWhole) (arg12 : Memref sig .tc .vmem S1x13x80x640 .f32) (harg12 : arg12.IsWhole) (arg13 : Memref sig .tc .vmem S1x13x64x640 .f32) (harg13 : arg13.IsWhole) (x2 x3 x4 : Vec F S1x64x640 .bf16) (x5 x6 : Vec F S1x1x640 .f32) (x7 x8 : Vec F S1x8320x128 .bf16) (x9 : Vec F S1x13x80x640 .bf16) (a : Vec F S1x13x80x640 .f32) (b : Vec F S1x13x64x640 .f32) (f10 : arg10.view.ty.Contents (Elt F)) (f11 : arg11.view.ty.Contents (Elt F)) :
    (iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} arg12.view.rep a) ∗ (arg13.view.loc (c : Thread nD τ) ↦[arg13.view.set]{fullShare} arg13.view.rep b)) : sProp 𝕄)
      ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} arg2.view.rep x2) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) ∗ (arg8.view.loc (c : Thread nD τ) ↦[arg8.view.set]{fullShare} arg8.view.rep x8) ∗ (arg9.view.loc (c : Thread nD τ) ↦[arg9.view.set]{fullShare} arg9.view.rep x9) ∗ (arg10.view.loc (c : Thread nD τ) ↦[arg10.view.set]{fullShare} arg10.view.rep (out10 (i 1).val x2 x3 x4 x5 x6 x7 x8 x9)) ∗ (arg11.view.loc (c : Thread nD τ) ↦[arg11.view.set]{fullShare} arg11.view.rep (out11 (i 1).val x2 x3 x4 x5 x6 x7 x8 x9))
            ∗ (arg12.view.loc (c : Thread nD τ) ↦[arg12.view.set]{fullShare} arg12.view.rep (out12 (i 1).val x2 x3 x4 x5 x6 x7 x8 x9 (if (i 1).val = 0 then k0_pay48 (F := F) else a))) ∗ (arg13.view.loc (c : Thread nD τ) ↦[arg13.view.set]{fullShare} arg13.view.rep (out13 (i 1).val x2 x3 x4 x5 x6 x7 x8 x9 (if (i 1).val = 0 then k0_pay49 (F := F) else b))))) := by
  rw [cc0_attn_bwd_eq_skeleton]
  unfold cc0_attn_bwd_skel
  iintro ⟨H2, H3, H4, H5, H6, H7, H8, H9, H10, H11, H12, H13⟩
  have c11 := part11 (F := F) 𝒱 c bd E i arg2 harg2 arg3 harg3 arg4 harg4 arg5 harg5 arg6 harg6 arg7 harg7 arg8 harg8 arg9 harg9 arg10 harg10 arg11 harg11 arg12 harg12 arg13 harg13 x2 x3 x4 x5 x6 a b
  have c12 := fun arg1 v6 v8 v15 v16 v32 v33 => part12 (F := F) 𝒱 c bd E i arg2 harg2 arg3 harg3 arg4 harg4 arg5 harg5 arg6 harg6 arg7 harg7 arg8 harg8 arg9 harg9 arg10 harg10 arg11 harg11 arg12 harg12 arg13 harg13 arg1 v6 v8 v15 v16 v32 v33 x7 x8 x9 (if (i 1).val = 0 then k0_pay48 (F := F) else a) (if (i 1).val = 0 then k0_pay49 (F := F) else b)
  have c13 := fun arg1 v8 v32 v45 v49 v74 c4 v75 v76 a b => part13 (F := F) 𝒱 c bd E i arg2 harg2 arg3 harg3 arg4 harg4 arg5 harg5 arg6 harg6 arg7 harg7 arg8 harg8 arg9 harg9 arg10 harg10 arg11 harg11 arg12 harg12 arg13 harg13 arg1 v8 v32 v45 v49 v74 c4 v75 v76 x7 x8 x9 a b
  have c14 := fun arg1 v8 v49 v99 v111 v117 a b => part14 (F := F) 𝒱 c bd E i arg2 harg2 arg3 harg3 arg4 harg4 arg5 harg5 arg6 harg6 arg7 harg7 arg8 harg8 arg9 harg9 arg10 harg10 arg11 harg11 arg12 harg12 arg13 harg13 arg1 v8 v49 v99 v111 v117 x9 a b f10 f11
  sl_exec
  sl_step
  cases hk0_part11_0; cases hk0_part12_0; cases hk0_part13_0; cases hk0_part14_0
  rw [eq_rep harg11 (View.writes _ _ _ _), View.read_writes_full arg11.view]
  have hj : 4 * ((i 1).val / 4) + (i 1).val % 4 = (i 1).val := Nat.div_add_mod _ _
  have rq := run_add (dqStep (qAug x2 x5 x6) (doAug x3 x4) x7 x8 x9) (4 * ((i 1).val / 4)) ((i 1).val % 4) (k0_pay58 (F := F))
  have rk := run_add (dkStep (qAug x2 x5 x6) (doAug x3 x4) (qOnes x2) x7 x8) (4 * ((i 1).val / 4)) ((i 1).val % 4) (if (i 1).val = 0 then k0_pay48 (F := F) else a)
  have rv := run_add (dvStep (k0_pay51 x4) (qAug x2 x5 x6) x7) (4 * ((i 1).val / 4)) ((i 1).val % 4) (if (i 1).val = 0 then k0_pay49 (F := F) else b)
  rw [hj] at rq rk rv
  unfold out10 out11 out12 out13 dqRun dkRun dvRun
  rw [← rq, ← rk, ← rv]
  unfold dsDiag qAug doAug qOnes
  isplitl [Hk0_part11_1]; · iexact Hk0_part11_1
  isplitl [Hk0_part11_2]; · iexact Hk0_part11_2
  isplitl [Hk0_part11_3]; · iexact Hk0_part11_3
  isplitl [Hk0_part11_4]; · iexact Hk0_part11_4
  isplitl [Hk0_part11_5]; · iexact Hk0_part11_5
  isplitl [Hk0_part13_1]; · iexact Hk0_part13_1
  isplitl [Hk0_part13_2]; · iexact Hk0_part13_2
  isplitl [Hk0_part14_1]; · iexact Hk0_part14_1
  isplitl [Hk0_part14_2]; · iexact Hk0_part14_2
  isplitl [Hk0_part14_3]; · iexact Hk0_part14_3
  isplitl [Hk0_part14_4]; · iexact Hk0_part14_4
  iexact Hk0_part14_5

end Cert.Attn
-- ==== Proof.Attn.Frame.lean ====
/-
  The frame of the attention backward kernel: what each grid point leaves, the proof data of the pipeline, the body's
  obligation, and the run of the whole program.
-/
module

public import proofs.«01_k».proof.Proof.Attn.Ends
public import proofs.«01_k».proof.Proof.Gen.AttnBwdIdeal.Points
public import Idealize.ShloMosaic.Lib.Claim

@[expose] public section

set_option maxRecDepth 16384

noncomputable section

namespace Cert.Attn

open Idealize.ShloMosaic Idealize.ShloMosaic.TcCoe Idealize.ShloMosaic.Tactic
open Cert.AttnBwdIdeal Cert.AttnBwdIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query block of a grid point. -/
theorem coords1 : ∀ t : Fin cfg0.N, (grid0.coords t 1).val = t.val % 13 := by decide +kernel

/-! ## What dk and dv hold, point by point -/

/-- One grid point's step of dk and dv. -/
def stepAB (c : Dev nD) (t : Fin cfg0.N) (p : Vec F S1x13x80x640 .f32 × Vec F S1x13x64x640 .f32) :
    Vec F S1x13x80x640 .f32 × Vec F S1x13x64x640 .f32 :=
  (out12 (grid0.coords t 1).val (iblk m c 0 t) (iblk m c 1 t) (iblk m c 2 t) (iblk m c 3 t) (iblk m c 4 t) (iblk m c 5 t) (iblk m c 6 t) (iblk m c 7 t) (if (grid0.coords t 1).val = 0 then k0_pay48 (F := F) else p.1),
   out13 (grid0.coords t 1).val (iblk m c 0 t) (iblk m c 1 t) (iblk m c 2 t) (iblk m c 3 t) (iblk m c 4 t) (iblk m c 5 t) (iblk m c 6 t) (iblk m c 7 t) (if (grid0.coords t 1).val = 0 then k0_pay49 (F := F) else p.2))

/-- dk and dv after the grid point `n`. -/
def accAB (c : Dev nD) : (n : ℕ) → n < cfg0.N → Vec F S1x13x80x640 .f32 × Vec F S1x13x64x640 .f32
  | 0, h => stepAB m c ⟨0, h⟩ (k0_pay48 (F := F), k0_pay49 (F := F))
  | n + 1, h => stepAB m c ⟨n + 1, h⟩ (accAB c n (Nat.lt_of_succ_lt h))

/-- At the first query block of a head what was there before does not matter. -/
theorem stepAB_first (c : Dev nD) (t : Fin cfg0.N) (h : (grid0.coords t 1).val = 0) (p q) : stepAB m c t p = stepAB m c t q := by
  unfold stepAB; rw [if_pos h, if_pos h, if_pos h, if_pos h]

theorem accAB_first (c : Dev nD) (t : Fin cfg0.N) (h : t.val % 13 = 0) (p) : accAB m c t.val t.isLt = stepAB m c t p := by
  obtain ⟨n, hn⟩ := t
  cases n with
  | zero => exact stepAB_first m c ⟨0, hn⟩ ((coords1 _).trans h) _ _
  | succ n => exact stepAB_first m c ⟨n + 1, hn⟩ ((coords1 _).trans h) _ _

theorem accAB_next (c : Dev nD) (t : Fin cfg0.N) (h : ¬t.val % 13 = 0) :
    accAB m c t.val t.isLt = stepAB m c t (accAB m c (t.val - 1) (Nat.lt_of_le_of_lt (Nat.sub_le _ _) t.isLt)) := by
  obtain ⟨n, hn⟩ := t
  cases n with
  | zero => exact absurd rfl h
  | succ n => rfl

/-! ## The pipeline's proof data -/

/-- The arrays as the region finds them; after a grid point the inputs' buffers at their blocks and the outputs' at
    what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out10 (grid0.coords t 1).val (iblk m c 0 t) (iblk m c 1 t) (iblk m c 2 t) (iblk m c 3 t) (iblk m c 4 t) (iblk m c 5 t) (iblk m c 6 t) (iblk m c 7 t)
    | ⟨9, _⟩ => out11 (grid0.coords t 1).val (iblk m c 0 t) (iblk m c 1 t) (iblk m c 2 t) (iblk m c 3 t) (iblk m c 4 t) (iblk m c 5 t) (iblk m c 6 t) (iblk m c 7 t)
    | ⟨10, _⟩ => (accAB m c t.val t.isLt).1
    | ⟨11, _⟩ => (accAB m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out10 (grid0.coords t 1).val (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out11 (grid0.coords t 1).val (iblk m c 0 t) (iblk m c 1 t) (iblk m c 2 t) (iblk m c 3 t) (iblk m c 4 t) (iblk m c 5 t) (iblk m c 6 t) (iblk m c 7 t) := by dsimp only [dats]
theorem after10 (c : Dev nD) (t : Fin cfg0.N) : (dats m 0 c).after 10 t = (accAB m c t.val t.isLt).1 := by dsimp only [dats]
theorem after11 (c : Dev nD) (t : Fin cfg0.N) : (dats m 0 c).after 11 t = (accAB m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

theorem before10 (c : Dev nD) (t : Fin cfg0.N) (h0 : ¬t.val % 13 = 0) (d) :
    (dats m 0 c).before 10 t d = (accAB m c (t.val - 1) (Nat.lt_of_le_of_lt (Nat.sub_le _ _) t.isLt)).1 := by
  have hN : t.val < 208 := lt_of_lt_of_eq t.isLt (show cfg0.N = 208 from N_0)
  rw [Dat.before_out_kept _ 10 rfl t (by omega) (Bool.eq_false_iff.mpr fun h => by have := (flush0_10 _).mp h; dsimp only at this; omega)
    (fun _ => rfl) (fun _ _ => rfl)]
  dsimp only [dats]

theorem before11 (c : Dev nD) (t : Fin cfg0.N) (h0 : ¬t.val % 13 = 0) (d) :
    (dats m 0 c).before 11 t d = (accAB m c (t.val - 1) (Nat.lt_of_le_of_lt (Nat.sub_le _ _) t.isLt)).2 := by
  have hN : t.val < 208 := lt_of_lt_of_eq t.isLt (show cfg0.N = 208 from N_0)
  rw [Dat.before_out_kept _ 11 rfl t (by omega) (Bool.eq_false_iff.mpr fun h => by have := (flush0_11 _).mp h; dsimp only at this; omega)
    (fun _ => rfl) (fun _ _ => rfl)]
  dsimp only [dats]

/-- dk and dv after a point, from what the point finds. -/
theorem accAB_eq (c : Dev nD) (t : Fin cfg0.N) (d10 d11) :
    accAB m c t.val t.isLt = stepAB m c t ((dats m 0 c).before 10 t d10, (dats m 0 c).before 11 t d11) := by
  by_cases h : t.val % 13 = 0
  · exact accAB_first m c t h _
  · rw [before10 m c t h, before11 m c t h]; exact accAB_next m c t h

/-! ## The body's obligation -/

/-- What the body is given, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [accAB_eq m c t d10 d11]
  unfold stepAB
  dsimp only
  simp only [owns_eq_rep]
  iapply (wp_wand_r Idealize.ShloMosaic.frame (wpE (defs₀ (F := F)) Variants.none c none) Set.univ)
  isplitl [H0 H1 H2 H3 H4 H5 H6 H7 H8 H9 H10 H11]
  · iapply (whole (F := F) Variants.none c none Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 10 t d10) ((dats m 0 c).before 11 t d11) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_u ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The launch, with the semaphore counters at zero at the end. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution of the program ends, and every array of the pipeline ends at what the proof data say. -/
theorem run_main : θ_run defs (onTc (τ := τ) (main (F := F))) (s₀ m ρ) (Pipeline.FramePost cfgs (dats m) 0 (V m)) :=
  (θ_run defs _ _).mono (fun _ h => h.1) (run_quiescent m ρ)

end Cert.Attn
-- ==== Proof.Attn.Frames.lean ====
/-
  The frame claims of the attention call's backward pass. The program and its idealization have the same text, so the
  one run (`Cert.Attn.run_main`, over any float values) gives both.
-/
module

public import proofs.«01_k».proof.Defs
public import proofs.«01_k».proof.Proof.Attn.Frame
public import proofs.«01_k».proof.Proof.Gen.AttnBwd.Frame
public import proofs.«01_k».proof.Proof.Gen.AttnRefIdeal.Run
public import proofs.«01_k».proof.Proof.Gen.Pre_attn_finite
public import Idealize.ShloMosaic.Lib.Claim

@[expose] public section

set_option maxRecDepth 16384

noncomputable section

namespace Cert.Attn

open Idealize.ShloMosaic Idealize.ShloMosaic.TcCoe Idealize.SL.Sem Idealize.ShloMosaic.StableHlo Cert.AttnBwdIdeal Cert.AttnBwdIdeal.Gen

variable {F : FTy → Type} [FloatOps F] (m : (ℓ : Loc nD τ sig) → Buf (Elt F) ℓ) (ρ : Dev nD → PrngReg)

/-- The run leaves the argument arrays unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame over any float values: from any memory the run ends with the argument arrays unchanged and every
    semaphore at zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet (F : FTy → Type) [FloatOps F] : Quiet F := fun m ρ _ =>
  θ_run_and (unchanged m ρ) ((θ_run defs _ _).mono (fun _ h => h.2) (run_quiescent m ρ))

/-- The two programs are the same text, so the claims are the same proposition. -/
theorem quiet_bits : Quiet Bits = Cert.quiescent_AttnBwd := by sl_kernel_rfl

theorem frame_bits : Cert.quiescent_AttnBwd := quiet_bits.mp (quiet Bits)
theorem frame_ideal : Cert.quiescent_AttnBwdIdeal := fun m ρ _ => quiet Ideal m ρ trivial
theorem frame_ideal_pre : Cert.quiescent_AttnBwdIdeal_pre_attn_finite := fun m ρ _ => quiet Ideal m ρ trivial

theorem frame_ref : Cert.quiescent_AttnRefIdeal := fun m g _ =>
  (θ_run Cert.AttnRefIdeal.defs _ _).mono (fun r h => ⟨fun c => (h c).2.2.2.2, sem_eq_zero_of_no_sems (by decide) r.2⟩)
    (Cert.AttnRefIdeal.Value.run (F := Ideal) m g)
theorem frame_ref_pre : Cert.quiescent_AttnRefIdeal_pre_attn_finite := fun m g _ => frame_ref m g trivial

end Cert.Attn

end
-- ==== Proof.Attn.Model.lean ====
/-
  The derivative of one head's causal attention over the real numbers: the weights, the gradient of the scores, and
  the two ways to write them - with a row's maximum taken off before the exponential, and with the logarithm of the
  row's sum taken off inside it.
-/
module

public import proofs.«01_k».proof.Proof.Math

@[expose] public section

noncomputable section

namespace Cert.AttnModel

open Cert.Math Idealize.ShloMosaic

variable {L : ℕ} (q k v g : Fin L → Fin 64 → ℝ) (c : Fin L → ℝ)

/-- The score of query `t` against key `s`. -/
def sc (t s : Fin L) : ℝ := (∑ d, q t d * k s d) * (1 / 8) + c t - c s
/-- The sum of a row's exponentials. -/
def Z (t : Fin L) : ℝ := ∑ s, if s.val ≤ t.val then Real.exp (sc q k c t s) else 0
/-- The weights. -/
def Y (t s : Fin L) : ℝ := if s.val ≤ t.val then Real.exp (sc q k c t s) / Z q k c t else 0
/-- The weights' gradient. -/
def G (t s : Fin L) : ℝ := ∑ d, g t d * v s d
/-- The scores' gradient. -/
def DS (t s : Fin L) : ℝ := Y q k c t s * (G v g t s - ∑ s', G v g t s' * Y q k c t s')
/-- The output. -/
def O (t : Fin L) (d : Fin 64) : ℝ := ∑ s, Y q k c t s * v s d

theorem Z_pos (t : Fin L) : 0 < Z q k c t := by
  refine Finset.sum_pos' (fun s _ => ?_) ⟨t, Finset.mem_univ _, ?_⟩
  · split
    · exact (Real.exp_pos _).le
    · exact le_refl _
  · rw [if_pos (le_refl _)]; exact Real.exp_pos _

/-- The exponentials with `M` taken off. -/
def E (M : ℝ) (t s : Fin L) : ℝ := if s.val ≤ t.val then Real.exp (sc q k c t s - M) else 0

theorem E_eq (M : ℝ) (t s : Fin L) : E q k c M t s = Y q k c t s * (Z q k c t * Real.exp (-M)) := by
  unfold E Y
  have hz := (Z_pos q k c t).ne'
  split
  · rw [sub_eq_add_neg, Real.exp_add]; field_simp
  · rw [zero_mul]

theorem sum_Y (t : Fin L) : ∑ s, Y q k c t s = 1 := by
  have hz := (Z_pos q k c t).ne'
  have : ∀ s, Y q k c t s = (if s.val ≤ t.val then Real.exp (sc q k c t s) else 0) / Z q k c t := fun s => by
    unfold Y; split
    · rfl
    · rw [zero_div]
  simp only [this, ← Finset.sum_div]
  exact div_self hz

theorem sum_E (M : ℝ) (t : Fin L) : ∑ s, E q k c M t s = Z q k c t * Real.exp (-M) := by
  simp only [E_eq, ← Finset.sum_mul, sum_Y, one_mul]

theorem sum_E_pos (M : ℝ) (t : Fin L) : 0 < ∑ s, E q k c M t s := by
  rw [sum_E]; exact mul_pos (Z_pos q k c t) (Real.exp_pos _)

theorem E_div (M : ℝ) (t s : Fin L) : E q k c M t s * (1 / ∑ s', E q k c M t s') = Y q k c t s := by
  rw [sum_E, E_eq]
  have hz := (Z_pos q k c t).ne'
  have he := (Real.exp_pos (-M)).ne'
  field_simp

/-- The derivative of the weights, line by line, is the compact form. -/
theorem DS_lines (M : ℝ) (t s : Fin L) :
    (G v g t s * (1 / ∑ s', E q k c M t s') + -(∑ s', G v g t s' * (1 * (1 / ((∑ s', E q k c M t s') * (∑ s', E q k c M t s')))) * E q k c M t s')) * E q k c M t s = DS q k v g c t s := by
  have hw := (sum_E_pos q k c M t).ne'
  have e : ∀ s', G v g t s' * (1 * (1 / ((∑ s', E q k c M t s') * (∑ s', E q k c M t s')))) * E q k c M t s'
      = G v g t s' * Y q k c t s' * (1 / ∑ s', E q k c M t s') := fun s' => by
    rw [← E_div q k c M t s']; field_simp
  simp only [e, ← Finset.sum_mul]
  rw [DS, ← E_div q k c M t s]
  ring

/-- The weights with the logarithm of the row's sum taken off inside the exponential. -/
theorem exp_lse (M : ℝ) (t s : Fin L) (h : s.val ≤ t.val) :
    Real.exp ((∑ d, k s d * (q t d * (1 / 8))) + (c t - (M + Real.log (∑ s', E q k c M t s'))) + -c s) = Y q k c t s := by
  have e : (∑ d, k s d * (q t d * (1 / 8))) = (∑ d, q t d * k s d) * (1 / 8) := by
    rw [Finset.sum_mul]; exact Finset.sum_congr rfl fun d _ => by ring
  have hp := sum_E_pos q k c M t
  rw [e, show (∑ d, q t d * k s d) * (1 / 8) + (c t - (M + Real.log (∑ s', E q k c M t s'))) + -c s
    = (sc q k c t s - M) - Real.log (∑ s', E q k c M t s') from by unfold sc; ring, Real.exp_sub, Real.exp_log hp, ← E_div q k c M t s, E, if_pos h]
  ring

/-- The gradient's inner product with the output is the weighted sum of the weights' gradient. -/
theorem delta (t : Fin L) : ∑ d, g t d * O q k v c t d = ∑ s, G v g t s * Y q k c t s := by
  simp only [O, G, Finset.mul_sum, Finset.sum_mul]
  rw [Finset.sum_comm]
  exact Finset.sum_congr rfl fun s _ => Finset.sum_congr rfl fun d _ => by ring

theorem Y_masked (t s : Fin L) (h : ¬s.val ≤ t.val) : Y q k c t s = 0 := if_neg h
theorem DS_masked (t s : Fin L) (h : ¬s.val ≤ t.val) : DS q k v g c t s = 0 := by rw [DS, Y_masked q k c t s h, zero_mul]

/-- A choice by a comparison of positions. -/
theorem select_le {α : Type} (n m : ℕ) (hn : n < 2 ^ 31) (hm : m < 2 ^ 31) (x y : α) :
    Scalar.select (IntOp.cmpi .sle (BitVec.ofNat 32 n) (BitVec.ofNat 32 m)) x y = if n ≤ m then x else y := by
  have e : ∀ k : ℕ, k < 2 ^ 31 → (BitVec.ofNat 32 k).toInt = k := fun k hk => by rw [BitVec.toInt_ofNat', Int.bmod_def]; omega
  have h : ∀ p : Bool, Scalar.select (BitVec.ofBool p) x y = if p = true then x else y := by
    intro p; cases p <;> rfl
  rw [show IntOp.cmpi .sle (BitVec.ofNat 32 n) (BitVec.ofNat 32 m) = BitVec.ofBool (decide ((BitVec.ofNat 32 n).toInt ≤ (BitVec.ofNat 32 m).toInt)) from rfl,
    h, e n hn, e m hm]
  simp

theorem ofBits_neg_inf : Ideal.ofBits .f32 4286578688#32 = ⊥ := by
  simp [Ideal.ofBits, Ideal.ieee]

/-- The greatest of finitely many numbers that are real or −∞, one of them real, is real. -/
theorem real_fold_max {ι : Type} (s : Finset ι) (f : ι → EReal) (h : ∀ i ∈ s, f i < ⊤) (i : ι) (hi : i ∈ s) (hr : ⊥ < f i) :
    Real (s.fold max ⊥ f) := by
  classical
  have h1 : s.fold max ⊥ f < ⊤ := by
    clear hi hr
    induction s using Finset.induction_on with
    | empty => rw [Finset.fold_empty]; exact bot_lt_top
    | insert a s ha ih =>
      rw [Finset.fold_insert ha]
      exact max_lt (h a (Finset.mem_insert_self a s)) (ih fun i hi => h i (Finset.mem_insert_of_mem hi))
  have h2 : ⊥ < s.fold max ⊥ f := by
    rw [← Finset.insert_erase hi, Finset.fold_insert (Finset.notMem_erase i s)]
    exact lt_max_of_lt_left hr
  exact ⟨_, (EReal.coe_toReal h1.ne h2.ne').symm⟩

/-- A sum over a 128-wide row of which the first 64 places, place 64 and place 67 count. -/
theorem sum128 (f : Fin 128 → EReal) (a : Fin 64 → EReal) (u w : EReal) (h0 : ∀ d : Fin 64, f ⟨d.val, by omega⟩ = a d)
    (h1 : f 64 = u) (h2 : f 67 = w) (h3 : ∀ x : Fin 128, 64 < x.val → x.val ≠ 67 → f x = 0) :
    ∑ x, f x = ∑ d, a d + u + w := by
  have e := Fin.sum_univ_add (a := 64) (b := 64) (fun x : Fin (64 + 64) => f x)
  refine e.trans ?_
  rw [add_assoc]
  refine congrArg₂ (· + ·) (Finset.sum_congr rfl fun d _ => h0 d) ?_
  rw [Fintype.sum_eq_add (0 : Fin 64) 3 (by decide) (fun x hx => h3 _ (by have := hx.1; have : x.val ≠ 0 := fun h => hx.1 (Fin.ext h); simp; omega)
    (by have : x.val ≠ 3 := fun h => hx.2 (Fin.ext h); simp; omega))]
  exact congrArg₂ (· + ·) h1 h2

end Cert.AttnModel

end
-- ==== Proof.Attn.Pay.lean ====
/-
  The attention backward kernel's vector operations, read at an index, over the extended reals.
-/
module

public import proofs.«01_k».proof.Proof.Attn.Frame
public import proofs.«01_k».proof.Proof.Attn.Model

@[expose] public section

set_option maxRecDepth 16384

noncomputable section

namespace Cert.Attn

open Idealize.ShloMosaic Idealize.ShloMosaic.TcCoe
open Cert.AttnBwdIdeal Cert.AttnBwdIdeal.Gen Cert.Math Cert.AttnModel

/-- One eighth, as the kernel's and the host's literals spell it, and one. -/
abbrev e8 : EReal := Ideal.ofBits .bf16 15872#16
abbrev e8f : EReal := Ideal.ofBits .f32 1040187392#32
abbrev one16 : EReal := Ideal.ofBits .bf16 16256#16

theorem hpay2 (v32 : FVec Ideal S128x640 .bf16) (k : Vec Ideal S1x640x128 .bf16) (s t : Fin 640) :
    k0_pay2 (F := Ideal) v32 k (ix2 s t) = Ideal.exp (∑ x, k (ix3 0 s x) * v32 (ix2 x t)) := by
  pointwise [k0_pay2]

theorem hpay3 (v32 v45 : FVec Ideal S128x640 .bf16) (k v : Vec Ideal S1x640x128 .bf16) (s t : Fin 640) :
    k0_pay3 (F := Ideal) v32 v45 k v (ix2 s t) = k0_pay2 (F := Ideal) v32 k (ix2 s t) * ∑ x, v (ix3 0 s x) * v45 (ix2 x t) := by
  pointwise [k0_pay3]

theorem hpay4 (v8 : FVec Ideal S64x640 .bf16) (v32 : FVec Ideal S128x640 .bf16) (k : Vec Ideal S1x640x128 .bf16) (w : Vec Ideal S1x1x64x640 .f32) (d : Fin 64) (s : Fin 640) :
    k0_pay4 (F := Ideal) v8 v32 k w (ix4 0 0 d s) = w (ix4 0 0 d s) + ∑ t, v8 (ix2 d t) * k0_pay2 (F := Ideal) v32 k (ix2 s t) := by
  pointwise [k0_pay4]

theorem hpay5 (v32 v45 : FVec Ideal S128x640 .bf16) (v49 : FVec Ideal S80x640 .bf16) (k v : Vec Ideal S1x640x128 .bf16) (w : Vec Ideal S1x1x80x640 .f32) (d : Fin 80) (s : Fin 640) :
    k0_pay5 (F := Ideal) v32 v45 v49 k v w (ix4 0 0 d s) = w (ix4 0 0 d s) + ∑ t, v49 (ix2 d t) * k0_pay3 (F := Ideal) v32 v45 k v (ix2 s t) := by
  pointwise [k0_pay5]

theorem hpay6 (acc : FVec Ideal S80x640 .f32) (ds : FVec Ideal S640x640 .bf16) (w : Vec Ideal S1x1x80x640 .bf16) (d : Fin 80) (t : Fin 640) :
    k0_pay6 (F := Ideal) acc ds w (ix2 d t) = acc (ix2 d t) + ∑ s, w (ix4 0 0 d s) * ds (ix2 s t) := by
  pointwise [k0_pay6]

theorem hpay67 (v32 : FVec Ideal S128x640 .bf16) (k : Vec Ideal S1x640x128 .bf16) (s t : Fin 640) :
    k0_pay67 (F := Ideal) v32 k (ix2 s t) = if s.val ≤ t.val then k0_pay2 (F := Ideal) v32 k (ix2 s t) else 0 := by
  pointwise [k0_pay67]
  rw [select_le _ _ (by omega) (by omega)]
  exact if_congr Iff.rfl (hpay2 v32 k s t).symm rfl

theorem hpay68 (v32 v45 : FVec Ideal S128x640 .bf16) (k v : Vec Ideal S1x640x128 .bf16) (s t : Fin 640) :
    k0_pay68 (F := Ideal) v32 v45 k v (ix2 s t) = k0_pay67 (F := Ideal) v32 k (ix2 s t) * ∑ x, v (ix3 0 s x) * v45 (ix2 x t) := by
  pointwise [k0_pay68]

theorem hpay69 (v8 : FVec Ideal S64x640 .bf16) (p : FVec Ideal S640x640 .f32) (w : Vec Ideal S1x1x64x640 .f32) (d : Fin 64) (s : Fin 640) :
    k0_pay69 (F := Ideal) v8 p w (ix4 0 0 d s) = w (ix4 0 0 d s) + ∑ t, v8 (ix2 d t) * p (ix2 s t) := by
  pointwise [k0_pay69]

theorem hpay70 (v49 : FVec Ideal S80x640 .bf16) (ds : FVec Ideal S640x640 .bf16) (w : Vec Ideal S1x1x80x640 .f32) (d : Fin 80) (s : Fin 640) :
    k0_pay70 (F := Ideal) v49 ds w (ix4 0 0 d s) = w (ix4 0 0 d s) + ∑ t, v49 (ix2 d t) * ds (ix2 s t) := by
  pointwise [k0_pay70]

theorem hpay71 (acc : FVec Ideal S80x640 .f32) (ds : FVec Ideal S640x640 .bf16) (w : Vec Ideal S1x1x80x640 .bf16) (d : Fin 80) (t : Fin 640) :
    k0_pay71 (F := Ideal) acc ds w (ix2 d t) = acc (ix2 d t) + ∑ s, w (ix4 0 0 d s) * ds (ix2 s t) := by
  pointwise [k0_pay71]

theorem hpay72 (acc : FVec Ideal S80x640 .f32) (ds : FVec Ideal S640x640 .bf16) (w : Vec Ideal S1x1x80x640 .bf16) (d : Fin 64) (t : Fin 640) :
    k0_pay72 (F := Ideal) acc ds w (ix3 0 d t) = k0_pay71 (F := Ideal) acc ds w (ix2 ⟨d.val, by omega⟩ t) * e8f := by
  pointwise [k0_pay72]

theorem hpay73 (acc : FVec Ideal S80x640 .f32) (ds : FVec Ideal S640x640 .bf16) (w : Vec Ideal S1x1x80x640 .bf16) (t : Fin 640) :
    k0_pay1 (F := Ideal) (k0_pay73 (F := Ideal) acc ds w) (ix3 0 0 t) = k0_pay71 (F := Ideal) acc ds w (ix2 64 t) := by
  pointwise [k0_pay1, k0_pay73]

theorem hpay48 (j : Fin 13) (d : Fin 80) (t : Fin 640) : k0_pay48 (F := Ideal) (ix4 0 j d t) = 0 := by pointwise [k0_pay48]
theorem hpay49 (j : Fin 13) (d : Fin 64) (t : Fin 640) : k0_pay49 (F := Ideal) (ix4 0 j d t) = 0 := by pointwise [k0_pay49]
theorem hpay58 (d : Fin 80) (t : Fin 640) : k0_pay58 (F := Ideal) (ix2 d t) = 0 := by pointwise [k0_pay58]
theorem hpay51 (x : Vec Ideal S1x64x640 .bf16) (d : Fin 64) (t : Fin 640) : k0_pay51 (F := Ideal) x (ix2 d t) = x (ix3 0 d t) := by pointwise [k0_pay51]

/-- The scaled queries over a row of ones and fifteen of zeros. -/
theorem hqOnes (x : Vec Ideal S1x64x640 .bf16) (r : Fin 80) (t : Fin 640) :
    qOnes (F := Ideal) x (ix2 r t) = if h : r.val < 64 then x (ix3 0 ⟨r.val, h⟩ t) * e8 else if r.val = 64 then 1 else 0 := by
  pointwise [qOnes, k0_pay57, k0_pay50, k0_pay53]
  by_cases e1 : r.val < 64
  · rw [dif_pos e1, dif_pos e1]
  rw [dif_neg e1, dif_neg e1]
  by_cases e2 : r.val = 64
  · rw [dif_pos (by omega), if_pos e2]
  · rw [dif_neg (by omega), if_neg e2]

/-- The scores' second operand: the scaled queries, the query's gate less its log-sum with what rounding left of it, three ones, zeros. -/
theorem hqAug (x2 : Vec Ideal S1x64x640 .bf16) (x5 x6 : Vec Ideal S1x1x640 .f32) (r : Fin 128) (t : Fin 640) (hu : Real (x6 (ix3 0 0 t) - x5 (ix3 0 0 t))) :
    qAug (F := Ideal) x2 x5 x6 (ix2 r t) = if h : r.val < 64 then x2 (ix3 0 ⟨r.val, h⟩ t) * e8 else if r.val = 64 then x6 (ix3 0 0 t) - x5 (ix3 0 0 t) else if 67 ≤ r.val ∧ r.val < 70 then 1 else 0 := by
  pointwise [qAug, k0_pay54, k0_pay50, k0_pay53]
  generalize x6 (ix3 0 0 t) - x5 (ix3 0 0 t) = u at hu ⊢
  have z1 : u - u = 0 := hu.sub_self
  rw [z1, sub_zero]
  by_cases e1 : r.val < 64
  · rw [dif_pos e1, dif_pos e1]
  rw [dif_neg e1, dif_neg e1]
  by_cases e2 : r.val - 64 < 16
  · rw [dif_pos e2]
    by_cases e3 : r.val = 64
    · rw [dif_pos (by omega), if_pos e3]
    rw [dif_neg (by omega), if_neg e3]
    by_cases e4 : r.val = 65
    · rw [dif_pos (by omega)]; rw [if_neg (by omega)]
    rw [dif_neg (by omega)]
    by_cases e5 : r.val = 66
    · rw [dif_pos (by omega)]; rw [if_neg (by omega)]
    rw [dif_neg (by omega)]
    exact dite_congr (by rw [eq_iff_iff]; omega) (fun _ => rfl) fun _ => rfl
  · rw [dif_neg e2, if_neg (by omega)]; rw [if_neg (by omega)]

/-- The other product's second operand: the gradient's channels, the negated inner product of the gradient and the output with what rounding left of it, zeros. -/
theorem hdoAug (x3 x4 : Vec Ideal S1x64x640 .bf16) (r : Fin 128) (t : Fin 640) (hu : Real (0 - ∑ d, x4 (ix3 0 d t) * x3 (ix3 0 d t))) :
    doAug (F := Ideal) x3 x4 (ix2 r t) = if h : r.val < 64 then x4 (ix3 0 ⟨r.val, h⟩ t) else if r.val = 64 then 0 - ∑ d, x4 (ix3 0 d t) * x3 (ix3 0 d t) else 0 := by
  pointwise [doAug, k0_pay56, k0_pay51, k0_pay52, k0_pay55]
  generalize 0 - ∑ d, x4 (ix3 0 d t) * x3 (ix3 0 d t) = u at hu ⊢
  have z1 : u - u = 0 := hu.sub_self
  rw [z1, sub_zero]
  by_cases e1 : r.val < 64
  · rw [dif_pos e1, dif_pos e1]
  rw [dif_neg e1, dif_neg e1]
  by_cases e2 : r.val - 64 < 16
  · rw [dif_pos e2]
    by_cases e3 : r.val = 64
    · rw [dif_pos (by omega), if_pos e3]
    rw [dif_neg (by omega), if_neg e3]
    by_cases e4 : r.val = 65
    · rw [dif_pos (by omega)]
    rw [dif_neg (by omega)]
    by_cases e5 : r.val = 66
    · rw [dif_pos (by omega)]
    rw [dif_neg (by omega)]
  · rw [dif_neg e2, if_neg (by omega)]

end Cert.Attn

end
-- ==== Proof.Attn.Acc.lean ====
/-
  One grid point of the attention backward kernel over the extended reals, in terms of the padded rows' numbers: what
  its loop over the key blocks and its diagonal block leave in dq, dk and dv.
-/
module

public import proofs.«01_k».proof.Proof.Attn.Pay

@[expose] public section

set_option maxRecDepth 16384

noncomputable section

namespace Cert.Attn

open Idealize.ShloMosaic Idealize.ShloMosaic.TcCoe
open Cert.AttnBwdIdeal Cert.AttnBwdIdeal.Gen Cert.Math Cert.AttnModel

/-- Row `s` of block `j`, among all padded rows. -/
def pos (j : ℕ) (s : Fin 640) : Fin 8320 := ⟨(640 * j + s.val) % 8320, Nat.mod_lt _ (by decide)⟩

theorem pos_val (j : ℕ) (hj : j < 13) (s : Fin 640) : (pos j s).val = 640 * j + s.val := by
  unfold pos; dsimp only; omega

/-- A sum over the blocks and a block's rows is a sum over all rows. -/
theorem sum_pos (f : Fin 8320 → EReal) : ∑ i ∈ Finset.range 13, ∑ s : Fin 640, f (pos i s) = ∑ u, f u := by
  have e := sum_blocks (fun k => if h : k < 8320 then f ⟨k, h⟩ else 0) 640 13
  have e1 : ∑ u, f u = ∑ u : Fin 8320, (fun k => if h : k < 8320 then f ⟨k, h⟩ else 0) u.val :=
    Finset.sum_congr rfl fun u _ => by dsimp only; rw [dif_pos u.isLt]
  rw [e1, Fin.sum_univ_eq_sum_range (fun k => if h : k < 8320 then f ⟨k, h⟩ else 0) 8320, ← e]
  refine Finset.sum_congr rfl fun i hi => Finset.sum_congr rfl fun s _ => ?_
  have hi' : i < 13 := Finset.mem_range.mp hi
  rw [dif_pos (by omega)]
  exact congrArg f (Fin.ext (by rw [pos_val i hi']; dsimp only; omega))

/-- One row's sum over a key's and a query's channels. -/
def inner (A B : Fin 8320 → Fin 128 → EReal) (s t : Fin 8320) : EReal := ∑ l, A s l * B t l

/-- The weights, zero at later keys. -/
def wt (KA QA : Fin 8320 → Fin 128 → EReal) (s t : Fin 8320) : EReal :=
  if s.val ≤ t.val then Ideal.exp (inner KA QA s t) else 0

/-- The scores' gradient. -/
def ds (KA QA VA DA : Fin 8320 → Fin 128 → EReal) (s t : Fin 8320) : EReal := wt KA QA s t * inner VA DA s t

theorem ds_later (KA QA VA DA : Fin 8320 → Fin 128 → EReal) (s t : Fin 8320) (h : t.val < s.val) : ds KA QA VA DA s t = 0 := by
  unfold ds wt; rw [if_neg (by omega), zero_mul]

/-! ## A tile replaced -/

theorem tile80_apply {F : FTy → Type} [FloatOps F] {e : EltTy} (x : Vec F S1x13x80x640 e) (i : Fin 13) (r : Fin 80) (s : Fin 640) :
    tile80 x i.val (ix4 0 0 r s) = x (ix4 0 i r s) :=
  congrArg x (funext fun a => match a with
    | ⟨0, _⟩ => rfl
    | ⟨1, _⟩ => Fin.ext (Nat.mod_eq_of_lt i.isLt)
    | ⟨2, _⟩ => rfl
    | ⟨3, _⟩ => rfl)

theorem tile64_apply {F : FTy → Type} [FloatOps F] {e : EltTy} (x : Vec F S1x13x64x640 e) (i : Fin 13) (r : Fin 64) (s : Fin 640) :
    tile64 x i.val (ix4 0 0 r s) = x (ix4 0 i r s) :=
  congrArg x (funext fun a => match a with
    | ⟨0, _⟩ => rfl
    | ⟨1, _⟩ => Fin.ext (Nat.mod_eq_of_lt i.isLt)
    | ⟨2, _⟩ => rfl
    | ⟨3, _⟩ => rfl)

theorem rows_apply {F : FTy → Type} [FloatOps F] (x : Vec F S1x8320x128 .bf16) (j : ℕ) (s : Fin 640) (l : Fin 128) :
    rows x j (ix3 0 s l) = x (ix3 0 (pos j s) l) :=
  congrArg x (funext fun a => match a with
    | ⟨0, _⟩ => rfl
    | ⟨1, _⟩ => rfl
    | ⟨2, _⟩ => rfl)

theorem put80_apply (a : Vec Ideal S1x13x80x640 .f32) (j : ℕ) (hj : j < 13) (w : Vec Ideal S1x1x80x640 .f32) (i : Fin 13) (r : Fin 80) (s : Fin 640) :
    (VecWindow.put a ![0, j, 0, 0] S1x1x80x640.size w : Vec Ideal S1x13x80x640 .f32) (ix4 0 i r s)
      = if i.val = j then w (ix4 0 0 r s) else a (ix4 0 i r s) := by
  rw [← tile80_apply (VecWindow.put a ![0, j, 0, 0] S1x1x80x640.size w : Vec Ideal S1x13x80x640 .f32) i r s]
  by_cases h : i.val = j
  · rw [if_pos h, h]
    have inb : ∀ a, (![0, j, 0, 0] : Fin 4 → ℕ) a + S1x1x80x640.size a ≤ S1x13x80x640.size a := by
      intro a
      fin_cases a
      · show 0 + 1 ≤ 1; omega
      · show j + 1 ≤ 13; omega
      · show 0 + 80 ≤ 80; omega
      · show 0 + 640 ≤ 640; omega
    rw [← window_tile80 _ j inb]
    exact congrFun (VecWindow.window_put_same a _ _ inb w) _
  · rw [if_neg h, tile80_put a j i.val w hj i.isLt (Ne.symm h), tile80_apply]

theorem put64_apply (a : Vec Ideal S1x13x64x640 .f32) (j : ℕ) (hj : j < 13) (w : Vec Ideal S1x1x64x640 .f32) (i : Fin 13) (r : Fin 64) (s : Fin 640) :
    (VecWindow.put a ![0, j, 0, 0] S1x1x64x640.size w : Vec Ideal S1x13x64x640 .f32) (ix4 0 i r s)
      = if i.val = j then w (ix4 0 0 r s) else a (ix4 0 i r s) := by
  rw [← tile64_apply (VecWindow.put a ![0, j, 0, 0] S1x1x64x640.size w : Vec Ideal S1x13x64x640 .f32) i r s]
  by_cases h : i.val = j
  · rw [if_pos h, h]
    have inb : ∀ a, (![0, j, 0, 0] : Fin 4 → ℕ) a + S1x1x64x640.size a ≤ S1x13x64x640.size a := by
      intro a
      fin_cases a
      · show 0 + 1 ≤ 1; omega
      · show j + 1 ≤ 13; omega
      · show 0 + 64 ≤ 64; omega
      · show 0 + 640 ≤ 640; omega
    rw [← window_tile64 _ j inb]
    exact congrFun (VecWindow.window_put_same a _ _ inb w) _
  · rw [if_neg h, tile64_put a j i.val w hj i.isLt (Ne.symm h), tile64_apply]

/-! ## A grid point -/

/-- What the buffers of the query block `j` hold, in terms of the padded rows. -/
structure At (KA QA VA DA : Fin 8320 → Fin 128 → EReal) (KT QO : Fin 8320 → Fin 80 → EReal) (DO : Fin 8320 → Fin 64 → EReal) (j : ℕ)
    (x2 x3 x4 : Vec Ideal S1x64x640 .bf16) (x5 x6 : Vec Ideal S1x1x640 .f32) (x7 x8 : Vec Ideal S1x8320x128 .bf16) (x9 : Vec Ideal S1x13x80x640 .bf16) : Prop where
  h7 : ∀ u l, x7 (ix3 0 u l) = KA u l
  h8 : ∀ u l, x8 (ix3 0 u l) = VA u l
  h9 : ∀ (i : Fin 13) r s, x9 (ix4 0 i r s) = KT (pos i.val s) r
  hq : ∀ l t, qAug (F := Ideal) x2 x5 x6 (ix2 l t) = QA (pos j t) l
  hd : ∀ l t, doAug (F := Ideal) x3 x4 (ix2 l t) = DA (pos j t) l
  ho : ∀ r t, qOnes (F := Ideal) x2 (ix2 r t) = QO (pos j t) r
  h4 : ∀ d t, k0_pay51 (F := Ideal) x4 (ix2 d t) = DO (pos j t) d

variable {KA QA VA DA : Fin 8320 → Fin 128 → EReal} {KT QO : Fin 8320 → Fin 80 → EReal} {DO : Fin 8320 → Fin 64 → EReal} {j : ℕ}
  {x2 x3 x4 : Vec Ideal S1x64x640 .bf16} {x5 x6 : Vec Ideal S1x1x640 .f32} {x7 x8 : Vec Ideal S1x8320x128 .bf16} {x9 : Vec Ideal S1x13x80x640 .bf16}
  (H : At KA QA VA DA KT QO DO j x2 x3 x4 x5 x6 x7 x8 x9)

include H

theorem At.score (i : ℕ) (s t : Fin 640) :
    k0_pay2 (F := Ideal) (qAug x2 x5 x6) (rows x7 i) (ix2 s t) = Ideal.exp (inner KA QA (pos i s) (pos j t)) := by
  rw [hpay2]
  exact congrArg Ideal.exp (Finset.sum_congr rfl fun l _ => by rw [rows_apply, H.h7, H.hq])

theorem At.weight (i : ℕ) (hi : i < j) (hj : j < 13) (s t : Fin 640) :
    k0_pay2 (F := Ideal) (qAug x2 x5 x6) (rows x7 i) (ix2 s t) = wt KA QA (pos i s) (pos j t) := by
  rw [H.score, wt, if_pos (by rw [pos_val i (by omega), pos_val j hj]; omega)]

theorem At.other (i : ℕ) (s t : Fin 640) :
    ∑ x, rows x8 i (ix3 0 s x) * doAug (F := Ideal) x3 x4 (ix2 x t) = inner VA DA (pos i s) (pos j t) :=
  Finset.sum_congr rfl fun l _ => by rw [rows_apply, H.h8, H.hd]

theorem At.grad (i : ℕ) (hi : i < j) (hj : j < 13) (s t : Fin 640) :
    k0_pay3 (F := Ideal) (qAug x2 x5 x6) (doAug x3 x4) (rows x7 i) (rows x8 i) (ix2 s t) = ds KA QA VA DA (pos i s) (pos j t) := by
  rw [hpay3, H.weight i hi hj, H.other, ds]

theorem At.weightDiag (hj : j < 13) (s t : Fin 640) :
    k0_pay67 (F := Ideal) (qAug x2 x5 x6) (rows x7 j) (ix2 s t) = wt KA QA (pos j s) (pos j t) := by
  rw [hpay67, H.score, wt]
  exact if_congr (by rw [pos_val j hj, pos_val j hj]; omega) rfl rfl

theorem At.gradDiag (hj : j < 13) (s t : Fin 640) :
    dsDiag (F := Ideal) j x2 x3 x4 x5 x6 x7 x8 x9 (ix2 s t) = ds KA QA VA DA (pos j s) (pos j t) := by
  rw [dsDiag, hpay68, H.weightDiag hj, H.other, ds]

/-! ### dq -/

theorem At.dqRun (hj : j < 13) (n : ℕ) (hn : n ≤ j) (r : Fin 80) (t : Fin 640) :
    run (dqStep (F := Ideal) (qAug x2 x5 x6) (doAug x3 x4) x7 x8 x9) n k0_pay58 (ix2 r t)
      = ∑ i ∈ Finset.range n, ∑ s, KT (pos i s) r * ds KA QA VA DA (pos i s) (pos j t) := by
  induction n with
  | zero => rw [Finset.sum_range_zero]; exact hpay58 r t
  | succ n ih =>
    rw [Finset.sum_range_succ, ← ih (by omega), run_succ]
    unfold dqStep
    rw [hpay6]
    refine congrArg _ (Finset.sum_congr rfl fun s _ => ?_)
    rw [H.grad n (by omega) hj]
    refine congrArg (fun y => y * _) ?_
    exact (tile80_apply x9 ⟨n, by omega⟩ r s).trans (H.h9 ⟨n, by omega⟩ r s)

theorem At.dq (hj : j < 13) (r : Fin 80) (t : Fin 640) :
    k0_pay71 (F := Ideal) (Cert.Attn.dqRun j x2 x3 x4 x5 x6 x7 x8 x9) (dsDiag j x2 x3 x4 x5 x6 x7 x8 x9) (tile80 x9 j) (ix2 r t)
      = ∑ u, KT u r * ds KA QA VA DA u (pos j t) := by
  rw [hpay71, Cert.Attn.dqRun, H.dqRun hj j le_rfl, ← sum_pos]
  rw [show (∑ s, tile80 x9 j (ix4 0 0 r s) * dsDiag (F := Ideal) j x2 x3 x4 x5 x6 x7 x8 x9 (ix2 s t))
      = ∑ s, KT (pos j s) r * ds KA QA VA DA (pos j s) (pos j t) from Finset.sum_congr rfl fun s _ => by
        rw [H.gradDiag hj]
        refine congrArg (fun y => y * _) ?_
        exact (tile80_apply x9 ⟨j, hj⟩ r s).trans (H.h9 ⟨j, hj⟩ r s)]
  rw [← Finset.sum_range_succ (fun i => ∑ s, KT (pos i s) r * ds KA QA VA DA (pos i s) (pos j t))]
  refine Finset.sum_subset (Finset.range_subset_range.mpr hj) fun i hi hi' => Finset.sum_eq_zero fun s _ => ?_
  have h1 := Finset.mem_range.mp hi
  have h2 : ¬ i < j + 1 := fun h => hi' (Finset.mem_range.mpr h)
  rw [ds_later _ _ _ _ _ _ (by rw [pos_val i h1, pos_val j hj]; omega), mul_zero]

/-! ### dk -/

theorem At.dkRun (hj : j < 13) (n : ℕ) (hn : n ≤ j) (a : Vec Ideal S1x13x80x640 .f32) (i : Fin 13) (r : Fin 80) (s : Fin 640) :
    run (dkStep (F := Ideal) (qAug x2 x5 x6) (doAug x3 x4) (qOnes x2) x7 x8) n a (ix4 0 i r s)
      = if i.val < n then a (ix4 0 i r s) + ∑ t, QO (pos j t) r * ds KA QA VA DA (pos i.val s) (pos j t) else a (ix4 0 i r s) := by
  induction n with
  | zero => rw [if_neg (by omega)]; rfl
  | succ n ih =>
    rw [run_succ]
    unfold dkStep at ih ⊢
    rw [put80_apply _ n (by omega)]
    by_cases h : i.val = n
    · subst h
      rw [if_pos rfl, if_pos (by omega), hpay5, tile80_apply, ih (by omega), if_neg (by omega)]
      exact congrArg _ (Finset.sum_congr rfl fun t _ => by rw [H.ho, H.grad i.val (by omega) hj])
    · rw [if_neg h, ih (by omega)]
      exact if_congr (by omega) rfl rfl

theorem At.dk (hj : j < 13) (a : Vec Ideal S1x13x80x640 .f32) (i : Fin 13) (r : Fin 80) (s : Fin 640) :
    out12 (F := Ideal) j x2 x3 x4 x5 x6 x7 x8 x9 a (ix4 0 i r s)
      = a (ix4 0 i r s) + ∑ t, QO (pos j t) r * ds KA QA VA DA (pos i.val s) (pos j t) := by
  rw [out12, put80_apply _ j hj]
  by_cases h : i.val = j
  · rw [if_pos h, hpay70, ← h, tile80_apply, h, Cert.Attn.dkRun, H.dkRun hj j le_rfl, if_neg (by omega)]
    exact congrArg _ (Finset.sum_congr rfl fun t _ => by rw [H.ho, H.gradDiag hj])
  · rw [if_neg h, Cert.Attn.dkRun, H.dkRun hj j le_rfl]
    by_cases h' : i.val < j
    · rw [if_pos h']
    · rw [if_neg h', Finset.sum_eq_zero fun t _ => by
        rw [ds_later _ _ _ _ _ _ (by rw [pos_val i.val i.isLt, pos_val j hj]; omega), mul_zero], add_zero]

/-! ### dv -/

theorem At.dvRun (hj : j < 13) (n : ℕ) (hn : n ≤ j) (b : Vec Ideal S1x13x64x640 .f32) (i : Fin 13) (r : Fin 64) (s : Fin 640) :
    run (dvStep (F := Ideal) (k0_pay51 x4) (qAug x2 x5 x6) x7) n b (ix4 0 i r s)
      = if i.val < n then b (ix4 0 i r s) + ∑ t, DO (pos j t) r * wt KA QA (pos i.val s) (pos j t) else b (ix4 0 i r s) := by
  induction n with
  | zero => rw [if_neg (by omega)]; rfl
  | succ n ih =>
    rw [run_succ]
    unfold dvStep at ih ⊢
    rw [put64_apply _ n (by omega)]
    by_cases h : i.val = n
    · subst h
      rw [if_pos rfl, if_pos (by omega), hpay4, tile64_apply, ih (by omega), if_neg (by omega)]
      exact congrArg _ (Finset.sum_congr rfl fun t _ => by rw [H.h4, H.weight i.val (by omega) hj])
    · rw [if_neg h, ih (by omega)]
      exact if_congr (by omega) rfl rfl

theorem At.dv (hj : j < 13) (b : Vec Ideal S1x13x64x640 .f32) (i : Fin 13) (r : Fin 64) (s : Fin 640) :
    out13 (F := Ideal) j x2 x3 x4 x5 x6 x7 x8 x9 b (ix4 0 i r s)
      = b (ix4 0 i r s) + ∑ t, DO (pos j t) r * wt KA QA (pos i.val s) (pos j t) := by
  rw [out13, put64_apply _ j hj]
  by_cases h : i.val = j
  · rw [if_pos h, hpay69, ← h, tile64_apply, h, Cert.Attn.dvRun, H.dvRun hj j le_rfl, if_neg (by omega)]
    exact congrArg _ (Finset.sum_congr rfl fun t _ => by rw [H.h4, H.weightDiag hj])
  · rw [if_neg h, Cert.Attn.dvRun, H.dvRun hj j le_rfl]
    by_cases h' : i.val < j
    · rw [if_pos h']
    · rw [if_neg h', Finset.sum_eq_zero fun t _ => by
        rw [wt, if_neg (by rw [pos_val i.val i.isLt, pos_val j hj]; omega), mul_zero], add_zero]

end Cert.Attn

end
-- ==== Proof.Attn.Run.lean ====
/-
  The attention backward kernel over its grid: its blocks, and what dk and dv hold after each grid point, in terms of the eight arrays it is given.
-/
module

public import proofs.«01_k».proof.Proof.Attn.Acc
public import Idealize.ShloMosaic.Lib.Pipeline.ReadBack

@[expose] public section

set_option maxRecDepth 16384

noncomputable section

namespace Cert.Attn

open Idealize.ShloMosaic Idealize.ShloMosaic.TcCoe Idealize.SL.Sem
open Cert.AttnBwdIdeal Cert.AttnBwdIdeal.Gen Cert.Math Cert.AttnModel
open Idealize.ShloMosaic.Pipeline (Dat)

variable (m : (ℓ : Loc nD τ sig) → Buf (Elt Ideal) ℓ)

theorem idx : ∀ t : Fin cfg0.N,
    (win0_0.index t = ![t.val / 13, 0, t.val % 13] ∧ win0_1.index t = ![t.val / 13, 0, t.val % 13] ∧ win0_2.index t = ![t.val / 13, 0, t.val % 13]
    ∧ win0_3.index t = ![t.val / 13, 0, t.val % 13] ∧ win0_4.index t = ![t.val / 13, 0, t.val % 13])
    ∧ (win0_5.index t = ![t.val / 13, 0, 0] ∧ win0_6.index t = ![t.val / 13, 0, 0] ∧ win0_7.index t = ![t.val / 13, 0, 0, 0])
    ∧ win0_8.index t = ![t.val / 13, 0, t.val % 13] ∧ win0_9.index t = ![t.val / 13, 0, t.val % 13]
    ∧ win0_10.index t = ![t.val / 13, 0, 0, 0] ∧ win0_11.index t = ![t.val / 13, 0, 0, 0] :=
  (by decide +kernel : ∀ t : Fin grid0.N, _)
theorem lt_N (t : Fin cfg0.N) : t.val < 208 := lt_of_lt_of_eq t.isLt (show cfg0.N = 208 from N_0)

/-- A grid point's head. -/
def headOf (t : Fin cfg0.N) : Fin 16 := ⟨t.val / 13, by have := lt_N t; omega⟩

/-- The arrays the region is given: queries, outputs, gradients by channel; the rows' log-sums and gates; the two
    operands by key; the keys' tiles. -/
abbrev rQ (c : Dev nD) : FVec Ideal S16x64x8320 .bf16 := V m c main_v73
abbrev rO (c : Dev nD) : FVec Ideal S16x64x8320 .bf16 := V m c main_v77
abbrev rG (c : Dev nD) : FVec Ideal S16x64x8320 .bf16 := V m c main_v81
abbrev rE (c : Dev nD) : FVec Ideal S16x1x8320 .f32 := V m c main_v86
abbrev rC (c : Dev nD) : FVec Ideal S16x1x8320 .f32 := V m c main_v89
abbrev rKA (c : Dev nD) : FVec Ideal S16x8320x128 .bf16 := V m c main_v53
abbrev rVA (c : Dev nD) : FVec Ideal S16x8320x128 .bf16 := V m c main_v59
abbrev rKT (c : Dev nD) : FVec Ideal S16x13x80x640 .bf16 := V m c main_v69

/-- The same, of one head and by row. -/
def KA (c : Dev nD) (h : Fin 16) (u : Fin 8320) (l : Fin 128) : EReal := rKA m c (ix3 h u l)
def VA (c : Dev nD) (h : Fin 16) (u : Fin 8320) (l : Fin 128) : EReal := rVA m c (ix3 h u l)
def KT (c : Dev nD) (h : Fin 16) (u : Fin 8320) (r : Fin 80) : EReal :=
  rKT m c (ix4 h ⟨u.val / 640, by omega⟩ r ⟨u.val % 640, by omega⟩)
def QA (c : Dev nD) (h : Fin 16) (t : Fin 8320) (l : Fin 128) : EReal :=
  if e : l.val < 64 then rQ m c (ix3 h ⟨l.val, e⟩ t) * e8 else if l.val = 64 then rC m c (ix3 h 0 t) - rE m c (ix3 h 0 t)
  else if 67 ≤ l.val ∧ l.val < 70 then 1 else 0
def DA (c : Dev nD) (h : Fin 16) (t : Fin 8320) (l : Fin 128) : EReal :=
  if e : l.val < 64 then rG m c (ix3 h ⟨l.val, e⟩ t) else if l.val = 64 then 0 - ∑ d, rG m c (ix3 h d t) * rO m c (ix3 h d t) else 0
def QO (c : Dev nD) (h : Fin 16) (t : Fin 8320) (r : Fin 80) : EReal :=
  if e : r.val < 64 then rQ m c (ix3 h ⟨r.val, e⟩ t) * e8 else if r.val = 64 then 1 else 0
def DO (c : Dev nD) (h : Fin 16) (t : Fin 8320) (d : Fin 64) : EReal := rG m c (ix3 h d t)

abbrev Wt (c : Dev nD) (h : Fin 16) : Fin 8320 → Fin 8320 → EReal := wt (KA m c h) (QA m c h)
abbrev Ds (c : Dev nD) (h : Fin 16) : Fin 8320 → Fin 8320 → EReal := ds (KA m c h) (QA m c h) (VA m c h) (DA m c h)

/-! ## The blocks -/

theorem blk0 (c : Dev nD) (t : Fin cfg0.N) (d : Fin 64) (s : Fin 640) :
    (iblk m c 0 t : FVec Ideal S1x64x640 .bf16) (ix3 0 d s) = rQ m c (ix3 (headOf t) d (pos (t.val % 13) s)) := by
  have e : (iblk m c 0 t : FVec Ideal S1x64x640 .bf16) (ix3 0 d s) = rQ m c (ix3 ⟨t.val / 13, by have := lt_N t; omega⟩ d ⟨t.val % 13 * 640 + s.val, by omega⟩) := by
    blk_ext [iblk, idx t]
  rw [e]
  exact congrArg (fun z => rQ m c (ix3 (headOf t) d z)) (Fin.ext (by rw [pos_val _ (by omega)]; dsimp only; omega))
theorem blk1 (c : Dev nD) (t : Fin cfg0.N) (d : Fin 64) (s : Fin 640) :
    (iblk m c 1 t : FVec Ideal S1x64x640 .bf16) (ix3 0 d s) = rO m c (ix3 (headOf t) d (pos (t.val % 13) s)) := by
  have e : (iblk m c 1 t : FVec Ideal S1x64x640 .bf16) (ix3 0 d s) = rO m c (ix3 ⟨t.val / 13, by have := lt_N t; omega⟩ d ⟨t.val % 13 * 640 + s.val, by omega⟩) := by
    blk_ext [iblk, idx t]
  rw [e]
  exact congrArg (fun z => rO m c (ix3 (headOf t) d z)) (Fin.ext (by rw [pos_val _ (by omega)]; dsimp only; omega))
theorem blk2 (c : Dev nD) (t : Fin cfg0.N) (d : Fin 64) (s : Fin 640) :
    (iblk m c 2 t : FVec Ideal S1x64x640 .bf16) (ix3 0 d s) = rG m c (ix3 (headOf t) d (pos (t.val % 13) s)) := by
  have e : (iblk m c 2 t : FVec Ideal S1x64x640 .bf16) (ix3 0 d s) = rG m c (ix3 ⟨t.val / 13, by have := lt_N t; omega⟩ d ⟨t.val % 13 * 640 + s.val, by omega⟩) := by
    blk_ext [iblk, idx t]
  rw [e]
  exact congrArg (fun z => rG m c (ix3 (headOf t) d z)) (Fin.ext (by rw [pos_val _ (by omega)]; dsimp only; omega))
theorem blk3 (c : Dev nD) (t : Fin cfg0.N) (s : Fin 640) :
    (iblk m c 3 t : FVec Ideal S1x1x640 .f32) (ix3 0 0 s) = rE m c (ix3 (headOf t) 0 (pos (t.val % 13) s)) := by
  have e : (iblk m c 3 t : FVec Ideal S1x1x640 .f32) (ix3 0 0 s) = rE m c (ix3 ⟨t.val / 13, by have := lt_N t; omega⟩ 0 ⟨t.val % 13 * 640 + s.val, by omega⟩) := by
    blk_ext [iblk, idx t]
  rw [e]
  exact congrArg (fun z => rE m c (ix3 (headOf t) 0 z)) (Fin.ext (by rw [pos_val _ (by omega)]; dsimp only; omega))
theorem blk4 (c : Dev nD) (t : Fin cfg0.N) (s : Fin 640) :
    (iblk m c 4 t : FVec Ideal S1x1x640 .f32) (ix3 0 0 s) = rC m c (ix3 (headOf t) 0 (pos (t.val % 13) s)) := by
  have e : (iblk m c 4 t : FVec Ideal S1x1x640 .f32) (ix3 0 0 s) = rC m c (ix3 ⟨t.val / 13, by have := lt_N t; omega⟩ 0 ⟨t.val % 13 * 640 + s.val, by omega⟩) := by
    blk_ext [iblk, idx t]
  rw [e]
  exact congrArg (fun z => rC m c (ix3 (headOf t) 0 z)) (Fin.ext (by rw [pos_val _ (by omega)]; dsimp only; omega))
theorem blk5 (c : Dev nD) (t : Fin cfg0.N) (u : Fin 8320) (l : Fin 128) :
    (iblk m c 5 t : FVec Ideal S1x8320x128 .bf16) (ix3 0 u l) = KA m c (headOf t) u l := by
  have e : (iblk m c 5 t : FVec Ideal S1x8320x128 .bf16) (ix3 0 u l) = rKA m c (ix3 ⟨t.val / 13, by have := lt_N t; omega⟩ u l) := by
    blk_ext [iblk, idx t]
  exact e
theorem blk6 (c : Dev nD) (t : Fin cfg0.N) (u : Fin 8320) (l : Fin 128) :
    (iblk m c 6 t : FVec Ideal S1x8320x128 .bf16) (ix3 0 u l) = VA m c (headOf t) u l := by
  have e : (iblk m c 6 t : FVec Ideal S1x8320x128 .bf16) (ix3 0 u l) = rVA m c (ix3 ⟨t.val / 13, by have := lt_N t; omega⟩ u l) := by
    blk_ext [iblk, idx t]
  exact e
theorem blk7 (c : Dev nD) (t : Fin cfg0.N) (i : Fin 13) (r : Fin 80) (s : Fin 640) :
    (iblk m c 7 t : FVec Ideal S1x13x80x640 .bf16) (ix4 0 i r s) = KT m c (headOf t) (pos i.val s) r := by
  have e : (iblk m c 7 t : FVec Ideal S1x13x80x640 .bf16) (ix4 0 i r s) = rKT m c (ix4 ⟨t.val / 13, by have := lt_N t; omega⟩ i r s) := by
    blk_ext [iblk, idx t]
  rw [e]
  have hp := pos_val i.val i.isLt s
  exact congrArg₂ (fun z w => rKT m c (ix4 (headOf t) z r w)) (Fin.ext (by dsimp only; omega)) (Fin.ext (by dsimp only; omega))

theorem sum_of_blocks (a b : FVec Ideal S1x64x640 .bf16) (f g : Fin 64 → EReal) (s : Fin 640) (ha : ∀ d, a (ix3 0 d s) = f d) (hb : ∀ d, b (ix3 0 d s) = g d) :
    ∑ d, a (ix3 0 d s) * b (ix3 0 d s) = ∑ d, f d * g d :=
  Finset.sum_congr rfl fun d _ => by rw [ha, hb]

/-- The rows' gates less their log-sums, and the outputs' inner products with their gradients, are real numbers. -/
structure Fine (c : Dev nD) : Prop where
  hE : ∀ h t, Real (rC m c (ix3 h 0 t) - rE m c (ix3 h 0 t))
  hD : ∀ h t, Real (0 - ∑ d, rG m c (ix3 h d t) * rO m c (ix3 h d t))

variable {m} {c : Dev nD} (fine : Fine m c)
include fine

theorem at_ (t : Fin cfg0.N) :
    At (KA m c (headOf t)) (QA m c (headOf t)) (VA m c (headOf t)) (DA m c (headOf t)) (KT m c (headOf t)) (QO m c (headOf t)) (DO m c (headOf t))
      (t.val % 13) (iblk m c 0 t) (iblk m c 1 t) (iblk m c 2 t) (iblk m c 3 t) (iblk m c 4 t) (iblk m c 5 t) (iblk m c 6 t) (iblk m c 7 t) where
  h7 := blk5 m c t
  h8 := blk6 m c t
  h9 := blk7 m c t
  hq l s := by
    refine (hqAug _ _ _ l s ?_).trans ?_
    · rw [blk3, blk4]; exact fine.hE _ _
    · rw [blk3, blk4]; unfold QA
      exact dite_congr rfl (fun e => by rw [blk0]) fun _ => rfl
  hd l s := by
    have e := sum_of_blocks (iblk m c 2 t) (iblk m c 1 t) _ _ s (fun d => blk2 m c t d s) (fun d => blk1 m c t d s)
    refine (hdoAug _ _ l s ?_).trans ?_
    · rw [e]; exact fine.hD _ _
    · rw [e]; unfold DA
      exact dite_congr rfl (fun e => by rw [blk2]) fun _ => rfl
  ho r s := by
    refine (hqOnes _ r s).trans ?_
    unfold QO
    exact dite_congr rfl (fun e => by rw [blk0]) fun _ => rfl
  h4 d s := (hpay51 _ d s).trans (blk2 m c t d s)

/-! ## dk and dv, point by point -/

/-- A head's dk and dv after its query blocks up to `j`. -/
theorem acc (n : ℕ) : ∀ hn : n < cfg0.N,
    (∀ (i : Fin 13) r s, (accAB m c n hn).1 (ix4 0 i r s)
      = ∑ j ∈ Finset.range (n % 13 + 1), ∑ t, QO m c (headOf ⟨n, hn⟩) (pos j t) r * Ds m c (headOf ⟨n, hn⟩) (pos i.val s) (pos j t)) ∧
    (∀ (i : Fin 13) r s, (accAB m c n hn).2 (ix4 0 i r s)
      = ∑ j ∈ Finset.range (n % 13 + 1), ∑ t, DO m c (headOf ⟨n, hn⟩) (pos j t) r * Wt m c (headOf ⟨n, hn⟩) (pos i.val s) (pos j t)) := by
  induction n with
  | zero =>
    intro hn
    have H := at_ fine ⟨0, hn⟩
    have e := accAB_first m c ⟨0, hn⟩ rfl (k0_pay48 (F := Ideal), k0_pay49 (F := Ideal))
    dsimp only at e
    rw [e]; unfold stepAB; dsimp only
    have h0 : (grid0.coords ⟨0, hn⟩ 1).val = 0 := (coords1 ⟨0, hn⟩).trans rfl
    rw [if_pos h0, if_pos h0, coords1]
    refine ⟨fun i r s => ?_, fun i r s => ?_⟩
    · rw [H.dk (Nat.mod_lt _ (by decide)), hpay48, zero_add, Finset.sum_range_one]; rfl
    · rw [H.dv (Nat.mod_lt _ (by decide)), hpay49, zero_add, Finset.sum_range_one]; rfl
  | succ n ih =>
    intro hn
    have H := at_ fine ⟨n + 1, hn⟩
    have hj : (n + 1) % 13 < 13 := Nat.mod_lt _ (by decide)
    by_cases h : (n + 1) % 13 = 0
    · have e := accAB_first m c ⟨n + 1, hn⟩ h (k0_pay48 (F := Ideal), k0_pay49 (F := Ideal))
      dsimp only at e
      rw [e]; unfold stepAB; dsimp only
      rw [if_pos ((coords1 _).trans h), if_pos ((coords1 _).trans h), coords1]
      refine ⟨fun i r s => ?_, fun i r s => ?_⟩
      · rw [H.dk hj, hpay48, zero_add, h, Finset.sum_range_one]
      · rw [H.dv hj, hpay49, zero_add, h, Finset.sum_range_one]
    · have e := accAB_next m c ⟨n + 1, hn⟩ h
      obtain ⟨i1, i2⟩ := ih (by omega)
      have hm : n % 13 + 1 = (n + 1) % 13 := by omega
      have hh : headOf ⟨n, by omega⟩ = headOf ⟨n + 1, hn⟩ := Fin.ext (by unfold headOf; dsimp only; omega)
      simp only [Nat.add_sub_cancel] at e
      rw [e]; unfold stepAB; dsimp only
      rw [if_neg (fun h' => h ((coords1 _).symm.trans h')), if_neg (fun h' => h ((coords1 _).symm.trans h')), coords1]
      refine ⟨fun i r s => ?_, fun i r s => ?_⟩
      · rw [H.dk hj, i1, hm, hh, Finset.sum_range_succ]
      · rw [H.dv hj, i2, hm, hh, Finset.sum_range_succ]

end Cert.Attn

end
-- ==== Proof.Attn.Ref.lean ====
/-
  The reference's derivative of the attention block, read at an index.
-/
module

public import proofs.«01_k».proof.Proof.Gen.AttnRefIdeal.Read
public import proofs.«01_k».proof.Proof.Attn.Model

@[expose] public section

set_option maxRecDepth 16384

noncomputable section

namespace Cert.AttnRefIdeal.Read

open Cert.AttnRefIdeal Idealize.ShloMosaic Idealize.ShloMosaic.TcCoe Cert.Math Cert.AttnModel

variable (q k v : FVec Ideal S8208x1024 .f32) (c : FVec Ideal S8208x16 .f32) (g : FVec Ideal S8208x1024 .f32)

/-- The column of a head's channel. -/
def col (h : Fin 16) (d : Fin 64) : Fin 1024 := ⟨64 * h.val + d.val, by omega⟩

theorem v1_apply (h : Fin 16) (t : Fin 8208) (d : Fin 64) : val_main_v1 (F := Ideal) v (ix3 h t d) = v (ix2 t (col h d)) := by
  pointwise [val_main_v1, val_main_v0]
  exact congrArg (fun y => v (ix2 t y)) (Fin.ext (by show h.val * 64 + d.val = 64 * h.val + d.val; omega))

theorem v3_apply (h : Fin 16) (t : Fin 8208) (d : Fin 64) : val_main_v3 (F := Ideal) q (ix3 h t d) = q (ix2 t (col h d)) := by
  pointwise [val_main_v3, val_main_v2]
  exact congrArg (fun y => q (ix2 t y)) (Fin.ext (by show h.val * 64 + d.val = 64 * h.val + d.val; omega))

theorem v5_apply (h : Fin 16) (t : Fin 8208) (d : Fin 64) : val_main_v5 (F := Ideal) k (ix3 h t d) = k (ix2 t (col h d)) := by
  pointwise [val_main_v5, val_main_v4]
  exact congrArg (fun y => k (ix2 t y)) (Fin.ext (by show h.val * 64 + d.val = 64 * h.val + d.val; omega))

theorem v56_apply (h : Fin 16) (t : Fin 8208) (d : Fin 64) : val_main_v56 (F := Ideal) g (ix3 h t d) = g (ix2 t (col h d)) := by
  pointwise [val_main_v56, val_main_v55, val_main_v54, val_main_v53, val_main_v52]
  exact congrArg (fun y => g (ix2 t y)) (Fin.ext (by show h.val * 64 + d.val = 64 * h.val + d.val; omega))

theorem v16_apply (h : Fin 16) (t s : Fin 8208) :
    val_main_v16 (F := Ideal) q k c (ix3 h t s) = (∑ d, val_main_v3 (F := Ideal) q (ix3 h t d) * val_main_v5 (F := Ideal) k (ix3 h s d)) * Ideal.ofBits .f32 1040187392#32 + c (ix2 t h) - c (ix2 s h) := by
  pointwise [val_main_v16, val_main_v15, val_main_v14, val_main_v13, val_main_v12, val_main_v11, val_main_v10, val_main_v9, val_main_v8, val_main_v7, val_main_v6, val_main_cst]

theorem v23_apply (h : Fin 16) (t s : Fin 8208) :
    val_main_v23_0 (F := Ideal) q k c (ix3 h t s) = if s.val ≤ t.val then val_main_v16 (F := Ideal) q k c (ix3 h t s) else ⊥ := by
  pointwise [val_main_v23_0, val_main_v23_1, val_main_call0_v2, val_main_v22, val_main_v21, val_main_v20, val_main_v19, val_main_v18, val_main_v17, val_main_cst_0]
  rw [select_le _ _ (by omega) (by omega), show val_main_call0_v0 (F := Ideal) ix0 = (⊥ : EReal) from ofBits_neg_inf]

theorem v31_apply (h : Fin 16) (t : Fin 8208) :
    val_main_v31 (F := Ideal) q k c (ix2 h t) = max ⊥ (val_main_v24 (F := Ideal) q k c (ix2 h t)) := by
  rw [val_main_v31_apply, val_main_v30_apply]
  generalize val_main_v24 (F := Ideal) q k c (ix2 h t) = y
  exact congrArg (fun b : EReal => max b y) ofBits_neg_inf

theorem v43_apply (h : Fin 16) (t s : Fin 8208) :
    val_main_v43 (F := Ideal) q k c (ix3 h t s) = val_main_v23_0 (F := Ideal) q k c (ix3 h t s) - max ⊥ (val_main_v24 (F := Ideal) q k c (ix2 h t)) := by
  rw [← v31_apply]
  pointwise [val_main_v43, val_main_v42, val_main_v41]

theorem v44_apply (h : Fin 16) (t s : Fin 8208) :
    val_main_v44 (F := Ideal) q k c (ix3 h t s) = Ideal.exp (val_main_v43 (F := Ideal) q k c (ix3 h t s)) := by
  pointwise [val_main_v44]

theorem v46_apply (h : Fin 16) (t : Fin 8208) (z : Fin 1) :
    val_main_v46 (F := Ideal) q k c (ix3 h t z) = ∑ s, val_main_v44 (F := Ideal) q k c (ix3 h t s) := by
  pointwise [val_main_v46, val_main_v45, val_main_cst_9]

theorem v48_apply (h : Fin 16) (t s : Fin 8208) :
    val_main_v48 (F := Ideal) q k c (ix3 h t s) = Ideal.div (val_main_v44 (F := Ideal) q k c (ix3 h t s)) (val_main_v46 (F := Ideal) q k c (ix3 h t 0)) := by
  pointwise [val_main_v48, val_main_v47]

theorem v59_apply (h : Fin 16) (t s : Fin 8208) :
    val_main_v59 (F := Ideal) v g (ix3 h t s) = ∑ d, val_main_v56 (F := Ideal) g (ix3 h t d) * val_main_v1 (F := Ideal) v (ix3 h s d) := by
  pointwise [val_main_v59]

theorem v51_apply (h : Fin 16) (t : Fin 8208) (z : Fin 1) :
    val_main_v51 (F := Ideal) q k c (ix3 h t z) = Ideal.div 1 (val_main_v46 (F := Ideal) q k c (ix3 h t z) * val_main_v46 (F := Ideal) q k c (ix3 h t z)) := by
  pointwise [val_main_v51, val_main_v50, val_main_v49, val_main_cst_10]

theorem v65_apply (h : Fin 16) (t : Fin 8208) (z : Fin 1) :
    val_main_v65 (F := Ideal) q k v c g (ix3 h t z) = -(∑ s, val_main_v59 (F := Ideal) v g (ix3 h t s) * val_main_v51 (F := Ideal) q k c (ix3 h t 0) * val_main_v44 (F := Ideal) q k c (ix3 h t s)) := by
  pointwise [val_main_v65, val_main_v64, val_main_v63, val_main_v62, val_main_v61, val_main_v60, val_main_cst_11]

theorem v71_apply (h : Fin 16) (t s : Fin 8208) :
    val_main_v71 (F := Ideal) q k v c g (ix3 h t s) = (Ideal.div (val_main_v59 (F := Ideal) v g (ix3 h t s)) (val_main_v46 (F := Ideal) q k c (ix3 h t 0)) + val_main_v65 (F := Ideal) q k v c g (ix3 h t 0)) * val_main_v44 (F := Ideal) q k c (ix3 h t s) := by
  pointwise [val_main_v71, val_main_v70, val_main_v69, val_main_v68, val_main_v67, val_main_v66, val_main_cst_12]
  simp only [Fin.sum_univ_one]

theorem v72_apply (h : Fin 16) (t s : Fin 8208) :
    val_main_v72 (F := Ideal) q k v c g (ix3 h t s) = if s.val ≤ t.val then val_main_v71 (F := Ideal) q k v c g (ix3 h t s) else 0 := by
  pointwise [val_main_v72, val_main_v23_1, val_main_call1_v0, val_main_call1_cst, val_main_v22, val_main_v21, val_main_v20, val_main_v19, val_main_v18, val_main_v17]
  rw [select_le _ _ (by omega) (by omega)]

theorem v76_apply (h : Fin 16) (s : Fin 8208) :
    val_main_v76 (F := Ideal) q k v c g (ix2 h s) = ∑ t, -(val_main_v72 (F := Ideal) q k v c g (ix3 h t s)) := by
  pointwise [val_main_v76, val_main_v75, val_main_v74, val_main_v73, val_main_cst_13, val_main_cst_14]
  simp only [Fin.sum_univ_one]

theorem v79_apply (h : Fin 16) (t : Fin 8208) :
    val_main_v79 (F := Ideal) q k v c g (ix2 h t) = ∑ s, val_main_v72 (F := Ideal) q k v c g (ix3 h t s) := by
  pointwise [val_main_v79, val_main_v78, val_main_v77, val_main_cst_15, val_main_cst_16]
  simp only [Fin.sum_univ_one]

theorem v82_apply (h : Fin 16) (s : Fin 8208) (d : Fin 64) :
    val_main_v82 (F := Ideal) q k v c g (ix3 h s d) = ∑ t, val_main_v72 (F := Ideal) q k v c g (ix3 h t s) * Ideal.ofBits .f32 1040187392#32 * val_main_v3 (F := Ideal) q (ix3 h t d) := by
  pointwise [val_main_v82, val_main_v81, val_main_v80, val_main_cst_17]

theorem v83_apply (h : Fin 16) (t : Fin 8208) (d : Fin 64) :
    val_main_v83 (F := Ideal) q k v c g (ix3 h t d) = ∑ s, val_main_v72 (F := Ideal) q k v c g (ix3 h t s) * Ideal.ofBits .f32 1040187392#32 * val_main_v5 (F := Ideal) k (ix3 h s d) := by
  pointwise [val_main_v83, val_main_v81, val_main_v80, val_main_cst_17]

theorem v58_apply (h : Fin 16) (s : Fin 8208) (d : Fin 64) :
    val_main_v58 (F := Ideal) q k c g (ix3 h s d) = ∑ t, val_main_v56 (F := Ideal) g (ix3 h t d) * val_main_v48 (F := Ideal) q k c (ix3 h t s) := by
  pointwise [val_main_v58, val_main_v57]

end Cert.AttnRefIdeal.Read

end
-- ==== Proof.Attn.Host.lean ====
/-
  What the host lines hand the attention backward kernel, read at an index.
-/
module

public import proofs.«01_k».proof.Proof.Attn.Frame
public import proofs.«01_k».proof.Proof.Attn.Ref

@[expose] public section

set_option maxRecDepth 16384

noncomputable section

namespace Cert.Attn

open Idealize.ShloMosaic Idealize.ShloMosaic.TcCoe
open Cert.AttnBwdIdeal Cert.AttnBwdIdeal.Gen Cert.Math Cert.AttnModel
open Cert.AttnRefIdeal.Read (col val_main_v23_0 val_main_v1)

/-! ## The lines as functions of the arguments -/

abbrev zeroS : FVec Ideal S_ .f32 := sitofp .f32 (constantI S_ 32 0#32)

abbrev gates (x : FVec Ideal S8208x16 .f32) : FVec Ideal S16x8208 .f32 := transpose S16x8208 [1, 0] x transposes_S8208x16_S16x8208_1_0

/-- A head at a time, and the scores and their mask. -/
abbrev heads (x : FVec Ideal S8208x1024 .f32) : FVec Ideal S16x8208x64 .f32 :=
  transpose S16x8208x64 [1, 0, 2] (shapeCast S8208x16x64 x shapeCasts_S8208x1024_S8208x16x64) transposes_S8208x16x64_S16x8208x64_1_0_2
abbrev scoresOf (q k : FVec Ideal S16x8208x64 .f32) (c : FVec Ideal S16x8208 .f32) : FVec Ideal S16x8208x8208 .f32 :=
  subf (addf (mulf (Host.dotGeneral dot_S16x8208x64_S16x8208x64_S16x8208x8208_2_2_1_1_0_0 none q k)
      (broadcastInDim S16x8208x8208 ![] bcast_S_S16x8208x8208 (constant S_ .f32 0x3E000000#32 : FVec Ideal S_ .f32)))
    (broadcastInDim S16x8208x8208 ![0, 1, 2] bcast_S16x8208x1_S16x8208x8208_0_1_2 (broadcastInDim S16x8208x1 ![0, 1] bcast_S16x8208_S16x8208x1_0_1 c)))
    (broadcastInDim S16x8208x8208 ![0, 1, 2] bcast_S16x1x8208_S16x8208x8208_0_1_2 (broadcastInDim S16x1x8208 ![0, 2] bcast_S16x8208_S16x1x8208_0_2 c))
abbrev causal : IVec S8208x8208 1 :=
  cmpi .sle (broadcastInDim S8208x8208 ![0, 1] bcast_S1x8208_S8208x8208_0_1 (broadcastInDim S1x8208 ![1] bcast_S8208_S1x8208_1 (iotaInDim S8208 32 0)))
    (broadcastInDim S8208x8208 ![0, 1] bcast_S8208x1_S8208x8208_0_1 (broadcastInDim S8208x1 ![0] bcast_S8208_S8208x1_0 (iotaInDim S8208 32 0)))
abbrev maskOf (p : IVec S8208x8208 1) (s : FVec Ideal S16x8208x8208 .f32) : FVec Ideal S16x8208x8208 .f32 :=
  select (broadcastInDim S16x8208x8208 ![1, 2] bcast_S8208x8208_S16x8208x8208_1_2 p) s (broadcastInDim S16x8208x8208 ![] bcast_S_S16x8208x8208 (constant S_ .f32 0xFF800000#32 : FVec Ideal S_ .f32))

/-- A row's greatest score, the exponentials, their sum, and the logarithm of the sum with the maximum added back. -/
abbrev hMax (s : FVec Ideal S16x8208x8208 .f32) : FVec Ideal S16x8208 .f32 :=
  Host.reduce FloatOps.maximumf s (constant S_ .f32 0xFF800000#32) reducesTo_S16x8208x8208_S16x8208_d2 h_S_
abbrev maxCol (y : FVec Ideal S16x8208 .f32) : FVec Ideal S16x8208x1 .f32 := broadcastInDim S16x8208x1 ![0, 1] bcast_S16x8208_S16x8208x1_0_1 y
abbrev expOf (s : FVec Ideal S16x8208x8208 .f32) (y : FVec Ideal S16x8208 .f32) : FVec Ideal S16x8208x8208 .f32 :=
  Host.exp (subf s (broadcastInDim S16x8208x8208 ![0, 1, 2] bcast_S16x8208x1_S16x8208x8208_0_1_2 (maxCol y)))
abbrev hExp (s : FVec Ideal S16x8208x8208 .f32) : FVec Ideal S16x8208x8208 .f32 := expOf s (hMax s)
abbrev sumOf (x : FVec Ideal S16x8208x8208 .f32) : FVec Ideal S16x8208x1 .f32 :=
  broadcastInDim S16x8208x1 ![0, 1] bcast_S16x8208_S16x8208x1_0_1 (Host.reduceAdd x (constant S_ .f32 0x00000000#32 : FVec Ideal S_ .f32) reducesTo_S16x8208x8208_S16x8208_d2 h_S_)
abbrev hSum (s : FVec Ideal S16x8208x8208 .f32) : FVec Ideal S16x8208x1 .f32 := sumOf (hExp s)
abbrev outOf (x : FVec Ideal S16x8208x8208 .f32) (w : FVec Ideal S16x8208x1 .f32) (v : FVec Ideal S16x8208x64 .f32) : FVec Ideal S8208x1024 .f32 :=
  shapeCast S8208x1024 (transpose S8208x16x64 [1, 0, 2] (Host.dotGeneral dot_S16x8208x8208_S16x8208x64_S16x8208x64_2_1_1_2_0_0 none
    (Host.divf x (broadcastInDim S16x8208x8208 ![0, 1, 2] bcast_S16x8208x1_S16x8208x8208_0_1_2 w)) v)
    transposes_S16x8208x64_S8208x16x64_1_0_2) shapeCasts_S8208x16x64_S8208x1024
abbrev hOut (s : FVec Ideal S16x8208x8208 .f32) (v : FVec Ideal S16x8208x64 .f32) : FVec Ideal S8208x1024 .f32 := outOf (hExp s) (hSum s) v
abbrev lseOf (y : FVec Ideal S16x8208 .f32) (w : FVec Ideal S16x8208x1 .f32) : FVec Ideal S16x8208 .f32 :=
  shapeCast S16x8208 (addf (maxCol y) (Host.log w)) shapeCasts_S16x8208x1_S16x8208
abbrev hLse (s : FVec Ideal S16x8208x8208 .f32) : FVec Ideal S16x8208 .f32 := lseOf (hMax s) (hSum s)

/-- Rows laid out channels first, a head at a time, padded. -/
abbrev chPad (x : FVec Ideal S8208x1024 .f32) : FVec Ideal S1024x8320 .f32 :=
  pad S1024x8320 ![0, 0] ![0, 112] ![0, 0] (transpose S1024x8208 [1, 0] x transposes_S8208x1024_S1024x8208_1_0) zeroS pads_S1024x8208_S1024x8320_000_01120 h_S_
abbrev chans (x : FVec Ideal S8208x1024 .f32) : FVec Ideal S16x64x8320 .f32 := shapeCast S16x64x8320 (chPad x) shapeCasts_S1024x8320_S16x64x8320
abbrev chansB (x : FVec Ideal S8208x1024 .f32) : FVec Ideal S16x64x8320 .bf16 := truncf .bf16 (chans x) bitsLt_bf16_f32
/-- A number per row and head, padded. -/
abbrev linePad (x : FVec Ideal S16x8208 .f32) : FVec Ideal S16x8320 .f32 :=
  pad S16x8320 ![0, 0] ![0, 112] ![0, 0] x zeroS pads_S16x8208_S16x8320_000_01120 h_S_
abbrev line (x : FVec Ideal S16x8208 .f32) : FVec Ideal S16x1x8320 .f32 := broadcastInDim S16x1x8320 ![0, 2] bcast_S16x8320_S16x1x8320_0_2 (linePad x)
abbrev column (x : FVec Ideal S16x8208 .f32) : FVec Ideal S16x8320x1 .f32 := broadcastInDim S16x8320x1 ![0, 1] bcast_S16x8320_S16x8320x1_0_1 (linePad x)
/-- Rows, a head at a time, padded. -/
abbrev rowPad (x : FVec Ideal S8208x1024 .f32) : FVec Ideal S8320x1024 .f32 :=
  pad S8320x1024 ![0, 0] ![112, 0] ![0, 0] x zeroS pads_S8208x1024_S8320x1024_01120_000 h_S_
abbrev rowsB (x : FVec Ideal S8208x1024 .f32) : FVec Ideal S16x8320x64 .bf16 :=
  truncf .bf16 (transpose S16x8320x64 [1, 0, 2] (shapeCast S8320x16x64 (rowPad x) shapeCasts_S8320x1024_S8320x16x64) transposes_S8320x16x64_S16x8320x64_1_0_2) bitsLt_bf16_f32
abbrev ones3 : FVec Ideal S16x8320x3 .bf16 := broadcastInDim S16x8320x3 ![] bcast_S_S16x8320x3 (constant S_ .bf16 0x3F80#16 : FVec Ideal S_ .bf16)
/-- A column's leading part and what is left of it. -/
abbrev lead (x : FVec Ideal S16x8320x1 .f32) : FVec Ideal S16x8320x1 .bf16 := truncf .bf16 x bitsLt_bf16_f32
abbrev left (x : FVec Ideal S16x8320x1 .f32) : FVec Ideal S16x8320x1 .f32 := subf x (extf .f32 (lead x) bitsLt_bf16_f32)
abbrev kCat (a : FVec Ideal S16x8320x64 .bf16) (b : FVec Ideal S16x8320x3 .bf16) (x y z : FVec Ideal S16x8320x1 .bf16) (w : FVec Ideal S16x8320x58 .bf16) : FVec Ideal S16x8320x128 .bf16 :=
  concatenate S16x8320x128 2 [⟨S16x8320x64, a⟩, ⟨S16x8320x3, b⟩, ⟨S16x8320x1, x⟩, ⟨S16x8320x1, y⟩, ⟨S16x8320x1, z⟩, ⟨S16x8320x58, w⟩] concatenates_S16x8320x64_S16x8320x3_S16x8320x1_S16x8320x1_S16x8320x1_S16x8320x58_S16x8320x128_d2
abbrev zeros58 : FVec Ideal S16x8320x58 .bf16 := broadcastInDim S16x8320x58 ![] bcast_S_S16x8320x58 (constant S_ .bf16 0x0000#16 : FVec Ideal S_ .bf16)
abbrev zeros61 : FVec Ideal S16x8320x61 .bf16 := broadcastInDim S16x8320x61 ![] bcast_S_S16x8320x61 (constant S_ .bf16 0x0000#16 : FVec Ideal S_ .bf16)
abbrev kAug (k : FVec Ideal S8208x1024 .f32) (c : FVec Ideal S16x8208 .f32) : FVec Ideal S16x8320x128 .bf16 :=
  kCat (rowsB k) ones3 (lead (column (Host.negf c))) (lead (left (column (Host.negf c)))) (lead (left (left (column (Host.negf c))))) zeros58
abbrev vCat (a : FVec Ideal S16x8320x64 .bf16) (b : FVec Ideal S16x8320x3 .bf16) (w : FVec Ideal S16x8320x61 .bf16) : FVec Ideal S16x8320x128 .bf16 :=
  concatenate S16x8320x128 2 [⟨S16x8320x64, a⟩, ⟨S16x8320x3, b⟩, ⟨S16x8320x61, w⟩] concatenates_S16x8320x64_S16x8320x3_S16x8320x61_S16x8320x128_d2
abbrev vAug (v : FVec Ideal S8208x1024 .f32) : FVec Ideal S16x8320x128 .bf16 := vCat (rowsB v) ones3 zeros61
abbrev ones1 : FVec Ideal S16x1x8320 .f32 := broadcastInDim S16x1x8320 ![] bcast_S_S16x1x8320 (constant S_ .f32 0x3F800000#32 : FVec Ideal S_ .f32)
abbrev zeros15 : FVec Ideal S16x15x8320 .f32 := broadcastInDim S16x15x8320 ![] bcast_S_S16x15x8320 (constant S_ .f32 0x00000000#32 : FVec Ideal S_ .f32)
abbrev tCat (a : FVec Ideal S16x1x8320 .f32) (b : FVec Ideal S16x15x8320 .f32) : FVec Ideal S16x16x8320 .f32 :=
  concatenate S16x16x8320 1 [⟨S16x1x8320, a⟩, ⟨S16x15x8320, b⟩] concatenates_S16x1x8320_S16x15x8320_S16x16x8320_d1
abbrev kTCat (a : FVec Ideal S16x64x8320 .f32) (b : FVec Ideal S16x16x8320 .f32) : FVec Ideal S16x80x8320 .f32 :=
  concatenate S16x80x8320 1 [⟨S16x64x8320, a⟩, ⟨S16x16x8320, b⟩] concatenates_S16x64x8320_S16x16x8320_S16x80x8320_d1
abbrev kTiles (x : FVec Ideal S16x80x8320 .f32) : FVec Ideal S16x13x80x640 .bf16 :=
  truncf .bf16 (transpose S16x13x80x640 [0, 2, 1, 3] (shapeCast S16x80x13x640 x shapeCasts_S16x80x8320_S16x80x13x640) transposes_S16x80x13x640_S16x13x80x640_0_2_1_3) bitsLt_bf16_f32
abbrev kT (k : FVec Ideal S8208x1024 .f32) : FVec Ideal S16x13x80x640 .bf16 := kTiles (kTCat (chans k) (tCat ones1 zeros15))

/-! ## Read at an index -/

theorem chPad_apply (x : FVec Ideal S8208x1024 .f32) (l : Fin 1024) (t : Fin 8320) : chPad x (ix2 l t) = if h : t.val < 8208 then x (ix2 ⟨t.val, h⟩ l) else 0 := by
  pointwise [chPad]
  rw [sitofp_zero]

theorem linePad_apply (x : FVec Ideal S16x8208 .f32) (h : Fin 16) (t : Fin 8320) : linePad x (ix2 h t) = if ht : t.val < 8208 then x (ix2 h ⟨t.val, ht⟩) else 0 := by
  pointwise [linePad]
  rw [sitofp_zero]

theorem rowPad_apply (x : FVec Ideal S8208x1024 .f32) (t : Fin 8320) (l : Fin 1024) : rowPad x (ix2 t l) = if ht : t.val < 8208 then x (ix2 ⟨t.val, ht⟩ l) else 0 := by
  pointwise [rowPad]
  rw [sitofp_zero]

theorem chans_apply (x : FVec Ideal S8208x1024 .f32) (h : Fin 16) (d : Fin 64) (t : Fin 8320) : chans x (ix3 h d t) = if ht : t.val < 8208 then x (ix2 ⟨t.val, ht⟩ (col h d)) else 0 := by
  rw [← chPad_apply]
  unfold chans
  generalize chPad x = y
  pointwise
  exact congrArg (fun z => y (ix2 z t)) (Fin.ext (by show h.val * 64 + d.val = 64 * h.val + d.val; omega))

theorem rowsB_apply (x : FVec Ideal S8208x1024 .f32) (h : Fin 16) (t : Fin 8320) (d : Fin 64) : rowsB x (ix3 h t d) = if ht : t.val < 8208 then x (ix2 ⟨t.val, ht⟩ (col h d)) else 0 := by
  rw [← rowPad_apply]
  unfold rowsB
  generalize rowPad x = y
  pointwise
  exact congrArg (fun z => y (ix2 t z)) (Fin.ext (by show h.val * 64 + d.val = 64 * h.val + d.val; omega))

theorem line_apply (x : FVec Ideal S16x8208 .f32) (h : Fin 16) (z : Fin 1) (t : Fin 8320) : line x (ix3 h z t) = if ht : t.val < 8208 then x (ix2 h ⟨t.val, ht⟩) else 0 := by
  rw [← linePad_apply]
  unfold line
  generalize linePad x = y
  pointwise

theorem column_apply (x : FVec Ideal S16x8208 .f32) (h : Fin 16) (t : Fin 8320) (z : Fin 1) : column x (ix3 h t z) = if ht : t.val < 8208 then x (ix2 h ⟨t.val, ht⟩) else 0 := by
  rw [← linePad_apply]
  unfold column
  generalize linePad x = y
  pointwise

theorem kCat_apply (a : FVec Ideal S16x8320x64 .bf16) (b : FVec Ideal S16x8320x3 .bf16) (x y z : FVec Ideal S16x8320x1 .bf16) (w : FVec Ideal S16x8320x58 .bf16) (h : Fin 16) (s : Fin 8320) (l : Fin 128) :
    kCat a b x y z w (ix3 h s l) = if e : l.val < 64 then a (ix3 h s ⟨l.val, e⟩) else if e : l.val - 64 < 3 then b (ix3 h s ⟨l.val - 64, e⟩)
      else if e : l.val - 64 - 3 < 1 then x (ix3 h s ⟨l.val - 64 - 3, e⟩) else if e : l.val - 64 - 3 - 1 < 1 then y (ix3 h s ⟨l.val - 64 - 3 - 1, e⟩)
      else if e : l.val - 64 - 3 - 1 - 1 < 1 then z (ix3 h s ⟨l.val - 64 - 3 - 1 - 1, e⟩) else w (ix3 h s ⟨l.val - 64 - 3 - 1 - 1 - 1, by omega⟩) := by
  pointwise [kCat]

theorem vCat_apply (a : FVec Ideal S16x8320x64 .bf16) (b : FVec Ideal S16x8320x3 .bf16) (w : FVec Ideal S16x8320x61 .bf16) (h : Fin 16) (s : Fin 8320) (l : Fin 128) :
    vCat a b w (ix3 h s l) = if e : l.val < 64 then a (ix3 h s ⟨l.val, e⟩) else if e : l.val - 64 < 3 then b (ix3 h s ⟨l.val - 64, e⟩) else w (ix3 h s ⟨l.val - 64 - 3, by omega⟩) := by
  pointwise [vCat]

theorem kTCat_apply (a : FVec Ideal S16x64x8320 .f32) (b : FVec Ideal S16x16x8320 .f32) (h : Fin 16) (r : Fin 80) (s : Fin 8320) :
    kTCat a b (ix3 h r s) = if e : r.val < 64 then a (ix3 h ⟨r.val, e⟩ s) else b (ix3 h ⟨r.val - 64, by omega⟩ s) := by
  pointwise [kTCat]

theorem kTiles_apply (x : FVec Ideal S16x80x8320 .f32) (h : Fin 16) (j : Fin 13) (r : Fin 80) (s : Fin 640) :
    kTiles x (ix4 h j r s) = x (ix3 h r ⟨640 * j.val + s.val, by omega⟩) := by
  pointwise [kTiles]
  exact congrArg (fun y => x (ix3 h r y)) (Fin.ext (by show j.val * 640 + s.val = 640 * j.val + s.val; omega))

theorem tail_apply (h : Fin 16) (r : Fin 16) (s : Fin 8320) : tCat ones1 zeros15 (ix3 h r s) = if r.val = 0 then 1 else 0 := by
  pointwise [tCat, ones1, zeros15]
  exact dite_congr (by simp) (fun _ => rfl) fun _ => rfl

theorem ones3_apply (h : Fin 16) (s : Fin 8320) (z : Fin 3) : ones3 (ix3 h s z) = 1 := by
  pointwise [ones3]
theorem zeros58_apply (h : Fin 16) (s : Fin 8320) (z : Fin 58) : zeros58 (ix3 h s z) = 0 := by
  pointwise [zeros58]
theorem zeros61_apply (h : Fin 16) (s : Fin 8320) (z : Fin 61) : zeros61 (ix3 h s z) = 0 := by
  pointwise [zeros61]

/-- A head's padded rows, and a number per row, padded. -/
def padX (x : FVec Ideal S8208x1024 .f32) (h : Fin 16) (s : Fin 8320) (d : Fin 64) : EReal := if hs : s.val < 8208 then x (ix2 ⟨s.val, hs⟩ (col h d)) else 0
def padL (x : FVec Ideal S16x8208 .f32) (h : Fin 16) (s : Fin 8320) : EReal := if hs : s.val < 8208 then x (ix2 h ⟨s.val, hs⟩) else 0

theorem padL_real (x : FVec Ideal S16x8208 .f32) (h : Fin 16) (s : Fin 8320) (hx : ∀ s, Real (x (ix2 h s))) : Real (padL x h s) := by
  unfold padL; split
  · exact hx _
  · exact ⟨0, rfl⟩

theorem left_zero (x : FVec Ideal S16x8320x1 .f32) (i) (h : Real (x i)) : left x i = 0 := by
  show x i - x i = 0
  exact h.sub_self

/-- The augmented keys: the keys, three ones, the negated gates and zeros. -/
theorem kAug_apply (k : FVec Ideal S8208x1024 .f32) (c : FVec Ideal S16x8208 .f32) (h : Fin 16) (hc : ∀ s, Real (c (ix2 h s))) (s : Fin 8320) (l : Fin 128) :
    kAug k c (ix3 h s l) = if e : l.val < 64 then padX k h s ⟨l.val, e⟩ else if l.val < 67 then 1 else if l.val = 67 then padL (Host.negf c) h s else 0 := by
  have hr : Real (column (Host.negf c) (ix3 h s 0)) := by
    rw [column_apply]
    split
    · exact (hc _).neg
    · exact ⟨0, rfl⟩
  have z1 := left_zero _ _ hr
  have z2 : left (left (column (Host.negf c))) (ix3 h s 0) = 0 := left_zero _ _ (by rw [z1]; exact ⟨0, rfl⟩)
  refine (kCat_apply _ _ _ _ _ _ h s l).trans ?_
  by_cases e1 : l.val < 64
  · rw [dif_pos e1, dif_pos e1, rowsB_apply]; rfl
  rw [dif_neg e1, dif_neg e1]
  by_cases e2 : l.val < 67
  · rw [dif_pos (by omega), if_pos e2, ones3_apply]
  rw [dif_neg (by omega), if_neg e2]
  by_cases e3 : l.val = 67
  · rw [dif_pos (by omega), if_pos e3]
    exact (congrArg (fun z => column (Host.negf c) (ix3 h s z)) (Subsingleton.elim _ (0 : Fin 1))).trans (column_apply _ h s 0)
  rw [dif_neg (by omega), if_neg e3]
  by_cases e4 : l.val = 68
  · rw [dif_pos (by omega)]
    exact (congrArg (fun z => left (column (Host.negf c)) (ix3 h s z)) (Subsingleton.elim _ (0 : Fin 1))).trans z1
  rw [dif_neg (by omega)]
  by_cases e5 : l.val = 69
  · rw [dif_pos (by omega)]
    exact (congrArg (fun z => left (left (column (Host.negf c))) (ix3 h s z)) (Subsingleton.elim _ (0 : Fin 1))).trans z2
  rw [dif_neg (by omega), zeros58_apply]

/-- The augmented values: the values, three ones and zeros. -/
theorem vAug_apply (v : FVec Ideal S8208x1024 .f32) (h : Fin 16) (s : Fin 8320) (l : Fin 128) :
    vAug v (ix3 h s l) = if e : l.val < 64 then padX v h s ⟨l.val, e⟩ else if l.val < 67 then 1 else 0 := by
  refine (vCat_apply _ _ _ h s l).trans ?_
  by_cases e1 : l.val < 64
  · rw [dif_pos e1, dif_pos e1, rowsB_apply]; rfl
  rw [dif_neg e1, dif_neg e1]
  by_cases e2 : l.val < 67
  · rw [dif_pos (by omega), if_pos e2, ones3_apply]
  rw [dif_neg (by omega), if_neg e2, zeros61_apply]

/-- The keys' channels over a row of ones and zeros. -/
theorem kT_apply (k : FVec Ideal S8208x1024 .f32) (h : Fin 16) (j : Fin 13) (r : Fin 80) (s : Fin 640) :
    kT k (ix4 h j r s) = if e : r.val < 64 then padX k h ⟨640 * j.val + s.val, by omega⟩ ⟨r.val, e⟩ else if r.val = 64 then 1 else 0 := by
  refine (kTiles_apply _ h j r s).trans ((kTCat_apply _ _ h r _).trans ?_)
  by_cases e1 : r.val < 64
  · rw [dif_pos e1, dif_pos e1, chans_apply]; rfl
  rw [dif_neg e1, dif_neg e1, tail_apply]
  exact if_congr (by show r.val - 64 = 0 ↔ _; omega) rfl rfl

/-! ## The scores' lines -/

theorem expOf_apply (s : FVec Ideal S16x8208x8208 .f32) (y : FVec Ideal S16x8208 .f32) (h : Fin 16) (t x : Fin 8208) : expOf s y (ix3 h t x) = Ideal.exp (s (ix3 h t x) - y (ix2 h t)) := by
  pointwise [expOf, maxCol]

theorem sumOf_apply (x : FVec Ideal S16x8208x8208 .f32) (h : Fin 16) (t : Fin 8208) (z : Fin 1) : sumOf x (ix3 h t z) = ∑ s, x (ix3 h t s) := by
  pointwise [sumOf]

theorem lseOf_apply (y : FVec Ideal S16x8208 .f32) (w : FVec Ideal S16x8208x1 .f32) (h : Fin 16) (t : Fin 8208) : lseOf y w (ix2 h t) = y (ix2 h t) + Ideal.log (w (ix3 h t 0)) := by
  pointwise [lseOf, maxCol]

theorem outOf_apply (x : FVec Ideal S16x8208x8208 .f32) (w : FVec Ideal S16x8208x1 .f32) (v : FVec Ideal S16x8208x64 .f32) (h : Fin 16) (t : Fin 8208) (d : Fin 64) :
    outOf x w v (ix2 t (col h d)) = ∑ s, Ideal.div (x (ix3 h t s)) (w (ix3 h t 0)) * v (ix3 h s d) := by
  pointwise [outOf]
  have e1 : ∀ p, (⟨(col h d).val / 64, p⟩ : Fin 16) = h := fun p => Fin.ext (by simp only [col]; omega)
  have e2 : ∀ p, (⟨(col h d).val % 64, p⟩ : Fin 64) = d := fun p => Fin.ext (by simp only [col]; omega)
  exact Finset.sum_congr rfl fun s _ => congrArg₂ (fun a b => Ideal.div (x (ix3 a t s)) (w (ix3 a t 0)) * v (ix3 a s b)) (e1 _) (e2 _)

theorem gates_apply (x : FVec Ideal S8208x16 .f32) (h : Fin 16) (t : Fin 8208) : gates x (ix2 h t) = x (ix2 t h) := by
  pointwise [gates]

theorem heads_apply (x : FVec Ideal S8208x1024 .f32) (h : Fin 16) (t : Fin 8208) (d : Fin 64) : heads x (ix3 h t d) = x (ix2 t (col h d)) := by
  pointwise [heads]
  exact congrArg (fun y => x (ix2 t y)) (Fin.ext (by show h.val * 64 + d.val = 64 * h.val + d.val; omega))

theorem scoresOf_apply (q k : FVec Ideal S16x8208x64 .f32) (c : FVec Ideal S16x8208 .f32) (h : Fin 16) (t s : Fin 8208) :
    scoresOf q k c (ix3 h t s) = (∑ d, q (ix3 h t d) * k (ix3 h s d)) * Ideal.ofBits .f32 1040187392#32 + c (ix2 h t) - c (ix2 h s) := by
  pointwise [scoresOf]

theorem causal_apply (t s : Fin 8208) : causal (ix2 t s) = IntOp.cmpi .sle (BitVec.ofNat 32 s.val) (BitVec.ofNat 32 t.val) := by
  pointwise [causal]

theorem maskOf_apply (p : IVec S8208x8208 1) (x : FVec Ideal S16x8208x8208 .f32) (h : Fin 16) (t s : Fin 8208) :
    maskOf p x (ix3 h t s) = Scalar.select (p (ix2 t s)) (x (ix3 h t s)) (⊥ : EReal) := by
  pointwise [maskOf]
  rw [ofBits_neg_inf]

/-- The masked scores are the reference's. -/
theorem scores_eq (q k : FVec Ideal S8208x1024 .f32) (c : FVec Ideal S8208x16 .f32) :
    maskOf causal (scoresOf (heads q) (heads k) (gates c)) = val_main_v23_0 (F := Ideal) q k c := by
  funext i
  obtain ⟨h, t, s, rfl⟩ : ∃ h t s, i = ix3 h t s := ⟨i 0, i 1, i 2, funext fun a => match a with | ⟨0, _⟩ => rfl | ⟨1, _⟩ => rfl | ⟨2, _⟩ => rfl⟩
  rw [maskOf_apply, causal_apply, scoresOf_apply, select_le _ _ (by omega) (by omega)]
  refine Eq.trans ?_ (Cert.AttnRefIdeal.Read.v23_apply q k c h t s).symm
  rw [Cert.AttnRefIdeal.Read.v16_apply]
  simp only [heads_apply, gates_apply, Cert.AttnRefIdeal.Read.v3_apply, Cert.AttnRefIdeal.Read.v5_apply]

/-- A row's greatest score is a number, if every score is one or −∞ and one of them is a number. -/
theorem max_real (s : FVec Ideal S16x8208x8208 .f32) (h : Fin 16) (t : Fin 8208) (hs : ∀ x, s (ix3 h t x) < ⊤) (x : Fin 8208) (hx : ⊥ < s (ix3 h t x)) :
    Real (hMax s (ix2 h t)) := by
  have hd : ∀ i : S16x8208x8208.Idx, reducesTo_S16x8208x8208_S16x8208_d2.drop i = ix2 (i 0) (i 1) := fun i =>
    funext fun a => match a with | ⟨0, _⟩ => rfl | ⟨1, _⟩ => rfl
  unfold hMax
  have e := Host.reduce_eq_fold (α := EReal) max s (constant S_ .f32 0xFF800000#32 : FVec Ideal S_ .f32) reducesTo_S16x8208x8208_S16x8208_d2 h_S_ (ix2 h t)
  refine (congrArg Real e).mpr ?_
  rw [show (constant S_ .f32 0xFF800000#32 : FVec Ideal S_ .f32) (Shape.Idx.first h_S_) = (⊥ : EReal) from ofBits_neg_inf]
  refine real_fold_max _ _ (fun i hi => ?_) (ix3 h t x) ?_ hx
  · have hi := (Finset.mem_filter.mp hi).2
    rw [hd] at hi
    have e0 : i 0 = h := congrFun hi 0
    have e1 : i 1 = t := congrFun hi 1
    have : i = ix3 h t (i 2) := funext fun a => match a with | ⟨0, _⟩ => e0 | ⟨1, _⟩ => e1 | ⟨2, _⟩ => rfl
    rw [this]; exact hs _
  · exact Finset.mem_filter.mpr ⟨Finset.mem_univ _, hd _⟩

/-! ## The buffers the kernel reads -/

variable (m : (ℓ : Loc nD τ sig) → Buf (Elt Ideal) ℓ)

abbrev aQ (c : Dev nD) : FVec Ideal S8208x1024 .f32 := m ((c : Thread nD τ).loc main_arg0)
abbrev aK (c : Dev nD) : FVec Ideal S8208x1024 .f32 := m ((c : Thread nD τ).loc main_arg1)
abbrev aV (c : Dev nD) : FVec Ideal S8208x1024 .f32 := m ((c : Thread nD τ).loc main_arg2)
abbrev aC (c : Dev nD) : FVec Ideal S8208x16 .f32 := m ((c : Thread nD τ).loc main_arg3)
abbrev aG (c : Dev nD) : FVec Ideal S8208x1024 .f32 := m ((c : Thread nD τ).loc main_arg4)
/-- The masked scores. -/
abbrev aS (c : Dev nD) : FVec Ideal S16x8208x8208 .f32 := maskOf causal (scoresOf (heads (aQ m c)) (heads (aK m c)) (gates (aC m c)))

end Cert.Attn

end
-- ==== Proof.Attn.HostV.lean ====
/-
  The buffers the attention backward kernel reads, as the host lines leave them.
-/
module

public import proofs.«01_k».proof.Proof.Attn.Host

@[expose] public section

set_option maxRecDepth 16384
set_option maxHeartbeats 4000000

noncomputable section

namespace Cert.Attn

open Idealize.ShloMosaic Idealize.ShloMosaic.TcCoe
open Cert.AttnBwdIdeal Cert.AttnBwdIdeal.Gen Cert.Math Cert.AttnModel
open Cert.AttnRefIdeal.Read (col val_main_v23_0 val_main_v1)

variable (m : (ℓ : Loc nD τ sig) → Buf (Elt Ideal) ℓ)

theorem V_v1 (c : Dev nD) : V m c main_v1 = heads (aQ m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v3 (c : Dev nD) : V m c main_v3 = heads (aK m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v4 (c : Dev nD) : V m c main_v4 = gates (aC m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v5 (c : Dev nD) : V m c main_v5 = gates (aC m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v32 (c : Dev nD) : V m c main_v32 = heads (aV m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v14 (c : Dev nD) : V m c main_v14 = scoresOf (V m c main_v1) (V m c main_v3) (V m c main_v4) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v20 (c : Dev nD) : V m c main_v20 = causal := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v21 (c : Dev nD) : V m c main_v21 = maskOf (V m c main_v20) (V m c main_v14) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v22 (c : Dev nD) : V m c main_v22 = hMax (V m c main_v21) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v26 (c : Dev nD) : V m c main_v26 = expOf (V m c main_v21) (V m c main_v22) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v28 (c : Dev nD) : V m c main_v28 = sumOf (V m c main_v26) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v35 (c : Dev nD) : V m c main_v35 = outOf (V m c main_v26) (V m c main_v28) (V m c main_v32) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v84 (c : Dev nD) : V m c main_v84 = lseOf (V m c main_v22) (V m c main_v28) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v77 (c : Dev nD) : V m c main_v77 = chansB (V m c main_v35) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v73 (c : Dev nD) : V m c main_v73 = chansB (aQ m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v81 (c : Dev nD) : V m c main_v81 = chansB (aG m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v89 (c : Dev nD) : V m c main_v89 = line (gates (aC m c)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v53 (c : Dev nD) : V m c main_v53 = kAug (aK m c) (gates (aC m c)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v59 (c : Dev nD) : V m c main_v59 = vAug (aV m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v69 (c : Dev nD) : V m c main_v69 = kT (aK m c) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

theorem V_v86 (c : Dev nD) : V m c main_v86 = line (V m c main_v84) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.cons_append, List.nil_append]
  after_results_simp
  try simp -implicitDefEqProofs only [StableHlo.TRef.toBuf, StableHlo.TRef.ofBuf, cast_cast, cast_eq, id_eq]
  try rfl

end Cert.Attn

end
-- ==== Proof.Attn.RefOut.lean ====
/-
  The reference's results in the kernel's layout: channels first, heads and key blocks apart, and padded.
-/
module

public import proofs.«01_k».proof.Proof.Attn.Ref

@[expose] public section

set_option maxRecDepth 16384

noncomputable section

namespace Cert.AttnRefIdeal.Read

open Cert.AttnRefIdeal Idealize.ShloMosaic Idealize.ShloMosaic.TcCoe Cert.Math

variable (q k v : FVec Ideal S8208x1024 .f32) (c : FVec Ideal S8208x16 .f32) (g : FVec Ideal S8208x1024 .f32)

theorem col_eq (h : Fin 16) (d : Fin 64) : (⟨h.val * 64 + d.val, by omega⟩ : Fin 1024) = col h d :=
  Fin.ext (by show h.val * 64 + d.val = 64 * h.val + d.val; omega)

theorem v89_apply (h : Fin 16) (t : Fin 8208) (d : Fin 64) :
    val_main_v89 (F := Ideal) q k v c g (ix2 t (col h d)) = val_main_v83 (F := Ideal) q k v c g (ix3 h t d) := by
  pointwise [val_main_v89, val_main_v88]
  exact congrArg₂ (fun a b => val_main_v83 (F := Ideal) q k v c g (ix3 a t b)) (Fin.ext (by simp only [col]; omega)) (Fin.ext (by simp only [col]; omega))

theorem v104_apply (h : Fin 16) (d : Fin 64) (t : Fin 8320) :
    val_main_v104 (F := Ideal) q k v c g (ix3 h d t) = if ht : t.val < 8208 then val_main_v89 (F := Ideal) q k v c g (ix2 ⟨t.val, ht⟩ (col h d)) else 0 := by
  pointwise [val_main_v104, val_main_v103, val_main_v102, val_main_v101, val_main_call4_v0]
  by_cases ht : t.val < 8208
  · rw [dif_pos ⟨by omega, ht⟩, dif_pos ht]
    exact congrArg (fun y => val_main_v89 (F := Ideal) q k v c g (ix2 ⟨t.val, ht⟩ y)) (col_eq h d)
  · rw [dif_neg (fun h => ht h.2), dif_neg ht]
    exact sitofp_zero

theorem v107_apply (h : Fin 16) (t : Fin 8320) (z : Fin 1) :
    val_main_v107 (F := Ideal) q k v c g (ix3 h z t) = if ht : t.val < 8208 then val_main_v79 (F := Ideal) q k v c g (ix2 h ⟨t.val, ht⟩) else 0 := by
  pointwise [val_main_v107, val_main_v106, val_main_v105, val_main_call5_v0, val_main_v85]
  by_cases ht : t.val < 8208
  · rw [dif_pos ht, dif_pos ht]
  · rw [dif_neg ht, dif_neg ht]
    exact sitofp_zero

theorem v112_apply (h : Fin 16) (d : Fin 64) (t : Fin 8320) :
    val_main_v112 (F := Ideal) q k c g (ix3 h d t) = if ht : t.val < 8208 then val_main_v91 (F := Ideal) q k c g (ix2 ⟨t.val, ht⟩ (col h d)) else 0 := by
  pointwise [val_main_v112, val_main_v111, val_main_v110, val_main_call6_v0]
  by_cases ht : t.val < 8208
  · rw [dif_pos ⟨by omega, ht⟩, dif_pos ht]
    exact congrArg (fun y => val_main_v91 (F := Ideal) q k c g (ix2 ⟨t.val, ht⟩ y)) (col_eq h d)
  · rw [dif_neg (fun h => ht h.2), dif_neg ht]
    exact sitofp_zero

theorem v91_apply (h : Fin 16) (t : Fin 8208) (d : Fin 64) :
    val_main_v91 (F := Ideal) q k c g (ix2 t (col h d)) = val_main_v58 (F := Ideal) q k c g (ix3 h t d) := by
  pointwise [val_main_v91, val_main_v90]
  exact congrArg₂ (fun a b => val_main_v58 (F := Ideal) q k c g (ix3 a t b)) (Fin.ext (by simp only [col]; omega)) (Fin.ext (by simp only [col]; omega))

theorem v114_apply (h : Fin 16) (j : Fin 13) (d : Fin 64) (s : Fin 640) :
    val_main_v114 (F := Ideal) q k c g (ix4 h j d s) = val_main_v112 (F := Ideal) q k c g (ix3 h d ⟨640 * j.val + s.val, by omega⟩) := by
  pointwise [val_main_v114, val_main_v113]
  exact congrArg (fun y => val_main_v112 (F := Ideal) q k c g (ix3 h d y)) (Fin.ext (by show j.val * 640 + s.val = 640 * j.val + s.val; omega))

theorem v109_apply (h : Fin 16) (j : Fin 13) (d : Fin 80) (s : Fin 640) :
    val_main_v109 (F := Ideal) q k v c g (ix4 h j d s) = val_main_v100 (F := Ideal) q k v c g (ix3 h d ⟨640 * j.val + s.val, by omega⟩) := by
  pointwise [val_main_v109, val_main_v108]
  exact congrArg (fun y => val_main_v100 (F := Ideal) q k v c g (ix3 h d y)) (Fin.ext (by show j.val * 640 + s.val = 640 * j.val + s.val; omega))

theorem v94_apply (h : Fin 16) (d : Fin 64) (t : Fin 8320) :
    val_main_v94 (F := Ideal) q k v c g (ix3 h d t) = if ht : t.val < 8208 then val_main_v87 (F := Ideal) q k v c g (ix2 ⟨t.val, ht⟩ (col h d)) else 0 := by
  pointwise [val_main_v94, val_main_v93, val_main_v92, val_main_call2_v0]
  by_cases ht : t.val < 8208
  · rw [dif_pos ⟨by omega, ht⟩, dif_pos ht]
    exact congrArg (fun y => val_main_v87 (F := Ideal) q k v c g (ix2 ⟨t.val, ht⟩ y)) (col_eq h d)
  · rw [dif_neg (fun h => ht h.2), dif_neg ht]
    exact sitofp_zero

theorem v87_apply (h : Fin 16) (t : Fin 8208) (d : Fin 64) :
    val_main_v87 (F := Ideal) q k v c g (ix2 t (col h d)) = val_main_v82 (F := Ideal) q k v c g (ix3 h t d) := by
  pointwise [val_main_v87, val_main_v86]
  exact congrArg₂ (fun a b => val_main_v82 (F := Ideal) q k v c g (ix3 a t b)) (Fin.ext (by simp only [col]; omega)) (Fin.ext (by simp only [col]; omega))

theorem v98_apply (h : Fin 16) (t : Fin 8320) (z : Fin 1) :
    val_main_v98 (F := Ideal) q k v c g (ix3 h z t) = if ht : t.val < 8208 then -(val_main_v76 (F := Ideal) q k v c g (ix2 h ⟨t.val, ht⟩)) else 0 := by
  pointwise [val_main_v98, val_main_v97, val_main_v96, val_main_v95, val_main_v84, val_main_call3_v0]
  by_cases ht : t.val < 8208
  · rw [dif_pos ht, dif_pos ht]
  · rw [dif_neg ht, dif_neg ht]
    exact sitofp_zero

theorem v100_apply (h : Fin 16) (r : Fin 80) (t : Fin 8320) :
    val_main_v100 (F := Ideal) q k v c g (ix3 h r t) = if hr : r.val < 64 then val_main_v94 (F := Ideal) q k v c g (ix3 h ⟨r.val, hr⟩ t) else if r.val = 64 then val_main_v98 (F := Ideal) q k v c g (ix3 h 0 t) else 0 := by
  pointwise [val_main_v100, val_main_v99, val_main_cst_19]
  by_cases hr : r.val < 64
  · rw [dif_pos hr, dif_pos hr]
  · rw [dif_neg hr, dif_neg hr]
    by_cases h1 : r.val = 64
    · rw [dif_pos (by omega), if_pos h1]
      exact congrArg (fun y => val_main_v98 (F := Ideal) q k v c g (ix3 h y t)) (Fin.ext (by show r.val - 64 = 0; omega))
    · rw [dif_neg (by omega), if_neg h1]

end Cert.AttnRefIdeal.Read

end
-- ==== Proof.Attn.RefReal.lean ====
/-
  The reference's derivative over the real numbers.
-/
module

public import proofs.«01_k».proof.Proof.Attn.RefOut
public import proofs.«01_k».proof.Proof.Attn.Host

@[expose] public section

set_option maxRecDepth 16384

noncomputable section

namespace Cert.AttnRefIdeal.Read

open Cert.AttnRefIdeal Idealize.ShloMosaic Idealize.ShloMosaic.TcCoe Cert.Math Cert.AttnModel

/-- One head's columns of a real array, and its gates. -/
def hd (x : Fin 8208 → Fin 1024 → ℝ) (h : Fin 16) (t : Fin 8208) (d : Fin 64) : ℝ := x t (col h d)
def gt (c : Fin 8208 → Fin 16 → ℝ) (h : Fin 16) (t : Fin 8208) : ℝ := c t h

theorem ofBits_eighth : Ideal.ofBits .f32 1040187392#32 = ((1 / 8 : ℝ) : EReal) := by
  simp [Ideal.ofBits, Ideal.ieee]
  rw [← EReal.coe_mul]
  norm_num

theorem coe_sub (x y : ℝ) : (x : EReal) - (y : EReal) = ((x - y : ℝ) : EReal) := (EReal.coe_sub x y).symm

variable (q k v : FVec Ideal S8208x1024 .f32) (c : FVec Ideal S8208x16 .f32) (g : FVec Ideal S8208x1024 .f32)
variable (qr kr vr gr : Fin 8208 → Fin 1024 → ℝ) (cr : Fin 8208 → Fin 16 → ℝ)

/-- The scores are the model's. -/
theorem scores (hq : ∀ t x, q (ix2 t x) = (qr t x : EReal)) (hk : ∀ t x, k (ix2 t x) = (kr t x : EReal)) (hc : ∀ t x, c (ix2 t x) = (cr t x : EReal))
    (h : Fin 16) (t s : Fin 8208) : val_main_v16 (F := Ideal) q k c (ix3 h t s) = ((sc (hd qr h) (hd kr h) (gt cr h) t s : ℝ) : EReal) := by
  rw [v16_apply]
  simp only [v3_apply, v5_apply, hq, hk, hc, ofBits_eighth, ← EReal.coe_mul, ← coe_sum]
  rw [← EReal.coe_add, ← EReal.coe_sub]
  rfl

theorem masked (hq : ∀ t x, q (ix2 t x) = (qr t x : EReal)) (hk : ∀ t x, k (ix2 t x) = (kr t x : EReal)) (hc : ∀ t x, c (ix2 t x) = (cr t x : EReal))
    (h : Fin 16) (t s : Fin 8208) : val_main_v23_0 (F := Ideal) q k c (ix3 h t s) = if s.val ≤ t.val then ((sc (hd qr h) (hd kr h) (gt cr h) t s : ℝ) : EReal) else ⊥ := by
  rw [v23_apply, scores q k c qr kr cr hq hk hc]

/-- A row's greatest score is a number. -/
theorem max_real (hq : ∀ t x, q (ix2 t x) = (qr t x : EReal)) (hk : ∀ t x, k (ix2 t x) = (kr t x : EReal)) (hc : ∀ t x, c (ix2 t x) = (cr t x : EReal))
    (h : Fin 16) (t : Fin 8208) : Real (Cert.Attn.hMax (val_main_v23_0 (F := Ideal) q k c) (ix2 h t)) := by
  refine Cert.Attn.max_real _ h t (fun x => ?_) t ?_
  · rw [masked q k c qr kr cr hq hk hc]
    split
    · exact EReal.coe_lt_top _
    · exact bot_lt_top
  · rw [masked q k c qr kr cr hq hk hc, if_pos (le_refl _)]
    exact EReal.bot_lt_coe _

/-- A masked exponential with a number taken off. -/
theorem exp_masked (P : Prop) [Decidable P] (x M : ℝ) : Ideal.exp ((if P then (x : EReal) else ⊥) - (M : EReal)) = ((if P then Real.exp (x - M) else 0 : ℝ) : EReal) := by
  split
  · rw [coe_sub]; rfl
  · rw [show (⊥ : EReal) - (M : EReal) = ⊥ from rfl, Ideal.exp_bot]; rfl

/-- The scores' gradient, on and off the mask, and the weights. -/
theorem grads (hq : ∀ t x, q (ix2 t x) = (qr t x : EReal)) (hk : ∀ t x, k (ix2 t x) = (kr t x : EReal)) (hv : ∀ t x, v (ix2 t x) = (vr t x : EReal))
    (hc : ∀ t x, c (ix2 t x) = (cr t x : EReal)) (hg : ∀ t x, g (ix2 t x) = (gr t x : EReal)) (h : Fin 16) (t s : Fin 8208) :
    val_main_v72 (F := Ideal) q k v c g (ix3 h t s) = ((DS (hd qr h) (hd kr h) (hd vr h) (hd gr h) (gt cr h) t s : ℝ) : EReal)
    ∧ val_main_v48 (F := Ideal) q k c (ix3 h t s) = ((Y (hd qr h) (hd kr h) (gt cr h) t s : ℝ) : EReal) := by
  obtain ⟨M, hM⟩ := max_real q k c qr kr cr hq hk hc h t
  have e44 : ∀ s, val_main_v44 (F := Ideal) q k c (ix3 h t s) = ((E (hd qr h) (hd kr h) (gt cr h) M t s : ℝ) : EReal) := fun s => by
    rw [v44_apply, v43_apply, show val_main_v24 (F := Ideal) q k c (ix2 h t) = (M : EReal) from hM, max_eq_right bot_le, masked q k c qr kr cr hq hk hc, exp_masked]
    rfl
  have e46 : ∀ z, val_main_v46 (F := Ideal) q k c (ix3 h t z) = ((∑ s, E (hd qr h) (hd kr h) (gt cr h) M t s : ℝ) : EReal) := fun z => by
    rw [v46_apply]; simp only [e44, coe_sum]
  have hL := (sum_E_pos (hd qr h) (hd kr h) (gt cr h) M t).ne'
  have e59 : ∀ s, val_main_v59 (F := Ideal) v g (ix3 h t s) = ((G (hd vr h) (hd gr h) t s : ℝ) : EReal) := fun s => by
    rw [v59_apply]; simp only [v56_apply, v1_apply, hg, hv, ← EReal.coe_mul, coe_sum]; rfl
  have e51 : ∀ z, val_main_v51 (F := Ideal) q k c (ix3 h t z) = ((1 * (1 / ((∑ s, E (hd qr h) (hd kr h) (gt cr h) M t s) * (∑ s, E (hd qr h) (hd kr h) (gt cr h) M t s))) : ℝ) : EReal) := fun z => by
    rw [v51_apply, e46, ← EReal.coe_mul, Ideal.div_coe (mul_ne_zero hL hL), EReal.coe_mul, EReal.coe_one]
  have e65 : ∀ z, val_main_v65 (F := Ideal) q k v c g (ix3 h t z) = ((-(∑ s', G (hd vr h) (hd gr h) t s' * (1 * (1 / ((∑ s, E (hd qr h) (hd kr h) (gt cr h) M t s) * (∑ s, E (hd qr h) (hd kr h) (gt cr h) M t s)))) * E (hd qr h) (hd kr h) (gt cr h) M t s') : ℝ) : EReal) := fun z => by
    rw [v65_apply]; simp only [e59, e51, e44, ← EReal.coe_mul, ← coe_sum]; rw [← EReal.coe_neg]
  refine ⟨?_, ?_⟩
  · rw [v72_apply, v71_apply, e59, e46, e65, e44, Ideal.div_coe hL, ← EReal.coe_mul, ← EReal.coe_add, ← EReal.coe_mul, DS_lines]
    split
    · rfl
    · rename_i hs; rw [DS_masked _ _ _ _ _ t s hs]; rfl
  · rw [v48_apply, e44, e46, Ideal.div_coe hL, ← EReal.coe_mul, E_div]

end Cert.AttnRefIdeal.Read

end
-- ==== Proof.Attn.Exact.lean ====
/-
  The attention backward kernel's arrays and its inner products as real numbers, the arguments being real numbers.
-/
module

public import proofs.«01_k».proof.Proof.Attn.Run
public import proofs.«01_k».proof.Proof.Attn.HostV
public import proofs.«01_k».proof.Proof.Attn.RefReal

@[expose] public section

set_option maxRecDepth 16384

noncomputable section

namespace Cert.Attn

open Idealize.ShloMosaic Idealize.ShloMosaic.TcCoe
open Cert.AttnBwdIdeal Cert.AttnBwdIdeal.Gen Cert.Math Cert.AttnModel
open Cert.AttnRefIdeal.Read (hd gt col ofBits_eighth coe_sub exp_masked masked)

theorem e8_eq : e8 = ((1 / 8 : ℝ) : EReal) := by
  simp [Ideal.ofBits, Ideal.ieee]
  rw [← EReal.coe_mul]
  norm_num

/-! ## The host's softmax -/

section Host

variable (q k v : Fin 16 → Fin 8208 → Fin 64 → ℝ) (g : Fin 16 → Fin 8208 → ℝ) (M : Fin 16 → Fin 8208 → ℝ)
  (S : FVec Ideal S16x8208x8208 .f32) (y : FVec Ideal S16x8208 .f32) (x : FVec Ideal S16x8208x64 .f32)
  (hS : ∀ h t s, S (ix3 h t s) = if s.val ≤ t.val then ((sc (q h) (k h) (g h) t s : ℝ) : EReal) else ⊥)
  (hy : ∀ h t, y (ix2 h t) = (M h t : EReal)) (hx : ∀ h t d, x (ix3 h t d) = (v h t d : EReal))

include hS hy in
theorem host_exp (h : Fin 16) (t s : Fin 8208) : expOf S y (ix3 h t s) = ((E (q h) (k h) (g h) (M h t) t s : ℝ) : EReal) := by
  rw [expOf_apply, hS, hy, exp_masked]; rfl

include hS hy in
theorem host_sum (h : Fin 16) (t : Fin 8208) (z : Fin 1) : sumOf (expOf S y) (ix3 h t z) = ((∑ s, E (q h) (k h) (g h) (M h t) t s : ℝ) : EReal) := by
  rw [sumOf_apply, coe_sum]; exact Finset.sum_congr rfl fun s _ => host_exp q k g M S y hS hy h t s

include hS hy in
theorem host_lse (h : Fin 16) (t : Fin 8208) :
    lseOf y (sumOf (expOf S y)) (ix2 h t) = ((M h t + Real.log (∑ s, E (q h) (k h) (g h) (M h t) t s) : ℝ) : EReal) := by
  rw [lseOf_apply, host_sum q k g M S y hS hy, hy, Ideal.log_coe, if_neg (not_le.mpr (sum_E_pos (q h) (k h) (g h) (M h t) t)), ← EReal.coe_add]

include hS hy hx in
theorem host_out (h : Fin 16) (t : Fin 8208) (d : Fin 64) :
    outOf (expOf S y) (sumOf (expOf S y)) x (ix2 t (col h d)) = ((O (q h) (k h) (v h) (g h) t d : ℝ) : EReal) := by
  rw [outOf_apply, O, coe_sum]
  refine Finset.sum_congr rfl fun s _ => ?_
  rw [host_exp q k g M S y hS hy, host_sum q k g M S y hS hy, hx, Ideal.div_coe (sum_E_pos (q h) (k h) (g h) (M h t) t).ne',
    ← EReal.coe_mul, ← EReal.coe_mul, E_div]

end Host

/-! ## The arrays -/

/-- Rows of a head with zeros after the last. -/
def pd (x : Fin 8208 → Fin 64 → ℝ) (t : Fin 8320) (d : Fin 64) : ℝ := if ht : t.val < 8208 then x ⟨t.val, ht⟩ d else 0
def pl (x : Fin 8208 → ℝ) (t : Fin 8320) : ℝ := if ht : t.val < 8208 then x ⟨t.val, ht⟩ else 0

theorem coe_dite {P : Prop} [Decidable P] (f : P → ℝ) : ((if h : P then f h else 0 : ℝ) : EReal) = if h : P then ((f h : ℝ) : EReal) else 0 := by
  split <;> rfl

/-- The arguments are real numbers. -/
structure Reals (m : (ℓ : Loc nD τ sig) → Buf (Elt Ideal) ℓ) (c : Dev nD) (qr kr vr gr : Fin 8208 → Fin 1024 → ℝ) (cr : Fin 8208 → Fin 16 → ℝ) : Prop where
  hq : ∀ t x, aQ m c (ix2 t x) = (qr t x : EReal)
  hk : ∀ t x, aK m c (ix2 t x) = (kr t x : EReal)
  hv : ∀ t x, aV m c (ix2 t x) = (vr t x : EReal)
  hc : ∀ t x, aC m c (ix2 t x) = (cr t x : EReal)
  hg : ∀ t x, aG m c (ix2 t x) = (gr t x : EReal)

variable {m : (ℓ : Loc nD τ sig) → Buf (Elt Ideal) ℓ} {c : Dev nD} {qr kr vr gr : Fin 8208 → Fin 1024 → ℝ} {cr : Fin 8208 → Fin 16 → ℝ}
  (R : Reals m c qr kr vr gr cr)

theorem chansB_real (x : FVec Ideal S8208x1024 .f32) (xr : Fin 16 → Fin 8208 → Fin 64 → ℝ) (h : Fin 16) (hx : ∀ t d, x (ix2 t (col h d)) = (xr h t d : EReal)) (d : Fin 64) (t : Fin 8320) :
    chansB x (ix3 h d t) = (pd (xr h) t d : EReal) := by
  refine (chans_apply x h d t).trans ?_
  rw [pd, coe_dite]
  exact dite_congr rfl (fun ht => hx _ d) fun _ => rfl

theorem line_real (x : FVec Ideal S16x8208 .f32) (xr : Fin 16 → Fin 8208 → ℝ) (h : Fin 16) (hx : ∀ t, x (ix2 h t) = (xr h t : EReal)) (t : Fin 8320) :
    line x (ix3 h 0 t) = (pl (xr h) t : EReal) := by
  rw [line_apply, pl, coe_dite]
  exact dite_congr rfl (fun ht => hx _) fun _ => rfl

theorem padX_real (x : FVec Ideal S8208x1024 .f32) (xr : Fin 8208 → Fin 1024 → ℝ) (hx : ∀ t l, x (ix2 t l) = (xr t l : EReal)) (h : Fin 16) (s : Fin 8320) (d : Fin 64) :
    padX x h s d = (pd (hd xr h) s d : EReal) := by
  rw [padX, pd, coe_dite]
  exact dite_congr rfl (fun ht => hx _ _) fun _ => rfl

include R

theorem gates_real (h : Fin 16) (t : Fin 8208) : gates (aC m c) (ix2 h t) = (gt cr h t : EReal) := (gates_apply _ h t).trans (R.hc t h)

theorem scores_at (h : Fin 16) (t s : Fin 8208) :
    (V m c main_v21 : FVec Ideal S16x8208x8208 .f32) (ix3 h t s) = if s.val ≤ t.val then ((sc (hd qr h) (hd kr h) (gt cr h) t s : ℝ) : EReal) else ⊥ := by
  rw [V_v21, V_v20, V_v14, V_v1, V_v3, V_v4, scores_eq]
  exact masked _ _ _ qr kr cr R.hq R.hk R.hc h t s

theorem max_at (h : Fin 16) (t : Fin 8208) : Real ((V m c main_v22 : FVec Ideal S16x8208 .f32) (ix2 h t)) := by
  rw [V_v22, V_v21, V_v20, V_v14, V_v1, V_v3, V_v4, scores_eq]
  exact Cert.AttnRefIdeal.Read.max_real _ _ _ qr kr cr R.hq R.hk R.hc h t

/-- The rows' greatest scores. -/
theorem exists_max : ∃ M : Fin 16 → Fin 8208 → ℝ, ∀ h t, (V m c main_v22 : FVec Ideal S16x8208 .f32) (ix2 h t) = (M h t : EReal) := by
  choose M hM using fun h t => max_at R h t
  exact ⟨M, hM⟩

theorem rQ_real (h : Fin 16) (d : Fin 64) (t : Fin 8320) : rQ m c (ix3 h d t) = (pd (hd qr h) t d : EReal) := by
  unfold rQ; rw [V_v73]
  exact chansB_real _ (hd qr) h (fun t d => R.hq _ _) d t

theorem rG_real (h : Fin 16) (d : Fin 64) (t : Fin 8320) : rG m c (ix3 h d t) = (pd (hd gr h) t d : EReal) := by
  unfold rG; rw [V_v81]
  exact chansB_real _ (hd gr) h (fun t d => R.hg _ _) d t

theorem rC_real (h : Fin 16) (t : Fin 8320) : rC m c (ix3 h 0 t) = (pl (gt cr h) t : EReal) := by
  unfold rC; rw [V_v89]
  exact line_real _ (gt cr) h (gates_real R h) t

theorem rO_real (h : Fin 16) (d : Fin 64) (t : Fin 8320) : rO m c (ix3 h d t) = (pd (O (hd qr h) (hd kr h) (hd vr h) (gt cr h)) t d : EReal) := by
  obtain ⟨M, hM⟩ := exists_max R
  unfold rO; rw [V_v77, V_v35, V_v28, V_v26, V_v32]
  refine chansB_real _ (fun h => O (hd qr h) (hd kr h) (hd vr h) (gt cr h)) h (fun t d => ?_) d t
  exact host_out (hd qr) (hd kr) (hd vr) (gt cr) M _ _ _ (scores_at R) hM (fun h t d => (heads_apply _ h t d).trans (R.hv _ _)) h t d

/-- The rows' log-sums. -/
theorem rE_real : ∃ M : Fin 16 → Fin 8208 → ℝ, ∀ h t, rE m c (ix3 h 0 t)
    = (pl (fun t => M h t + Real.log (∑ s, E (hd qr h) (hd kr h) (gt cr h) (M h t) t s)) t : EReal) := by
  obtain ⟨M, hM⟩ := exists_max R
  refine ⟨M, fun h t => ?_⟩
  unfold rE; rw [V_v86, V_v84, V_v28, V_v26]
  refine line_real _ (fun h t => M h t + Real.log (∑ s, E (hd qr h) (hd kr h) (gt cr h) (M h t) t s)) h (fun t => ?_) t
  exact host_lse (hd qr) (hd kr) (gt cr) M _ _ (scores_at R) hM h t

theorem fine : Fine m c where
  hE h t := by
    obtain ⟨M, hM⟩ := rE_real R
    rw [hM, rC_real R]; exact (Real.coe _).sub (Real.coe _)
  hD h t := Real.zero.sub (Real.sum _ fun d _ => by rw [rG_real R, rO_real R]; exact (Real.coe _).mul (Real.coe _))

theorem KA_eq (h : Fin 16) (u : Fin 8320) (l : Fin 128) :
    KA m c h u l = if e : l.val < 64 then (pd (hd kr h) u ⟨l.val, e⟩ : EReal) else if l.val < 67 then 1 else if l.val = 67 then ((-(pl (gt cr h) u) : ℝ) : EReal) else 0 := by
  unfold KA rKA; rw [V_v53, kAug_apply _ _ _ (fun s => ⟨_, gates_real R h s⟩)]
  refine dite_congr rfl (fun e => padX_real _ _ R.hk h u _) fun _ => ?_
  split
  · rfl
  split
  · rw [padL]
    by_cases hs : u.val < 8208
    · rw [dif_pos hs, pl, dif_pos hs, EReal.coe_neg, ← gates_real R]; rfl
    · rw [dif_neg hs, pl, dif_neg hs, neg_zero]; rfl
  · rfl

theorem VA_eq (h : Fin 16) (u : Fin 8320) (l : Fin 128) :
    VA m c h u l = if e : l.val < 64 then (pd (hd vr h) u ⟨l.val, e⟩ : EReal) else if l.val < 67 then 1 else 0 := by
  unfold VA rVA; rw [V_v59, vAug_apply]
  exact dite_congr rfl (fun e => padX_real _ _ R.hv h u _) fun _ => rfl

theorem KT_eq (h : Fin 16) (u : Fin 8320) (r : Fin 80) :
    KT m c h u r = if e : r.val < 64 then (pd (hd kr h) u ⟨r.val, e⟩ : EReal) else if r.val = 64 then 1 else 0 := by
  unfold KT rKT; rw [V_v69, kT_apply]
  refine dite_congr rfl (fun e => ?_) fun _ => rfl
  refine (congrArg (fun s => padX (aK m c) h s ⟨r.val, e⟩) (Fin.ext (by dsimp only; omega))).trans (padX_real _ _ R.hk h u _)

theorem QO_eq (h : Fin 16) (t : Fin 8320) (r : Fin 80) :
    QO m c h t r = if e : r.val < 64 then ((pd (hd qr h) t ⟨r.val, e⟩ * (1 / 8) : ℝ) : EReal) else if r.val = 64 then 1 else 0 := by
  unfold QO
  refine dite_congr rfl (fun e => ?_) fun _ => rfl
  rw [rQ_real R, e8_eq, ← EReal.coe_mul]

/-! ## The inner products -/

/-- A key's channels against a query's: the score less the row's log-sum. -/
theorem innerK : ∃ M : Fin 16 → Fin 8208 → ℝ, ∀ h s t, inner (KA m c h) (QA m c h) s t
    = (((∑ d, pd (hd kr h) s d * (pd (hd qr h) t d * (1 / 8))) + (pl (gt cr h) t - pl (fun t => M h t + Real.log (∑ s, E (hd qr h) (hd kr h) (gt cr h) (M h t) t s)) t) + -pl (gt cr h) s : ℝ) : EReal) := by
  obtain ⟨M, hM⟩ := rE_real R
  refine ⟨M, fun h s t => ?_⟩
  rw [inner, EReal.coe_add, EReal.coe_add, coe_sum]
  refine sum128 _ _ _ _ (fun d => ?_) ?_ ?_ fun x hx hx' => ?_
  · rw [KA_eq R, dif_pos d.isLt, QA, dif_pos d.isLt, rQ_real R, e8_eq, ← EReal.coe_mul, ← EReal.coe_mul]
  · rw [KA_eq R, dif_neg (by decide), if_pos (by decide), QA, dif_neg (by decide), if_pos (by decide), one_mul, rC_real R, hM, coe_sub]
  · rw [KA_eq R, dif_neg (by decide), if_neg (by decide), if_pos (by decide), QA, dif_neg (by decide), if_neg (by decide), if_pos (by decide), mul_one]
  · by_cases e : x.val < 67
    · rw [show QA m c h t x = 0 by rw [QA, dif_neg (by omega), if_neg (by omega), if_neg (by omega)], mul_zero]
    · rw [KA_eq R, dif_neg (by omega), if_neg e, if_neg hx', zero_mul]

/-- A value's channels against a gradient's. -/
theorem innerV (h : Fin 16) (s t : Fin 8320) : inner (VA m c h) (DA m c h) s t
    = ((∑ d, pd (hd vr h) s d * pd (hd gr h) t d + (0 - ∑ d, pd (hd gr h) t d * pd (O (hd qr h) (hd kr h) (hd vr h) (gt cr h)) t d) + 0 : ℝ) : EReal) := by
  rw [inner, EReal.coe_add, EReal.coe_add, coe_sum]
  refine sum128 _ _ _ _ (fun d => ?_) ?_ ?_ fun x hx hx' => ?_
  · rw [VA_eq R, dif_pos d.isLt, DA, dif_pos d.isLt, rG_real R, ← EReal.coe_mul]
  · rw [VA_eq R, dif_neg (by decide), if_pos (by decide), DA, dif_neg (by decide), if_pos (by decide), one_mul, EReal.coe_sub, coe_sum]
    simp only [rG_real R, rO_real R, ← EReal.coe_mul]
    rfl
  · rw [VA_eq R, dif_neg (by decide), if_neg (by decide), zero_mul]; rfl
  · rw [DA, dif_neg (by omega), if_neg (by omega), mul_zero]

/-- The weights of a row are the model's. -/
theorem Wt_eq (h : Fin 16) (s t : Fin 8320) (ht : t.val < 8208) :
    Wt m c h s t = if hs : s.val < 8208 then ((Y (hd qr h) (hd kr h) (gt cr h) ⟨t.val, ht⟩ ⟨s.val, hs⟩ : ℝ) : EReal) else 0 := by
  obtain ⟨M, hM⟩ := innerK R
  rw [Wt, wt]
  by_cases e : s.val ≤ t.val
  · have hs : s.val < 8208 := by omega
    rw [if_pos e, dif_pos hs, hM, ← exp_lse (hd qr h) (hd kr h) (gt cr h) (M h ⟨t.val, ht⟩) ⟨t.val, ht⟩ ⟨s.val, hs⟩ e]
    simp only [pd, pl, dif_pos hs, dif_pos ht]
    rfl
  · rw [if_neg e]
    split
    · rename_i hs; exact (congrArg (fun y : ℝ => (y : EReal)) (Y_masked _ _ _ ⟨t.val, ht⟩ ⟨s.val, hs⟩ e)).symm
    · rfl

/-- The scores' gradient is the model's. -/
theorem Ds_eq (h : Fin 16) (s t : Fin 8320) :
    Ds m c h s t = if e : s.val < 8208 ∧ t.val < 8208 then ((DS (hd qr h) (hd kr h) (hd vr h) (hd gr h) (gt cr h) ⟨t.val, e.2⟩ ⟨s.val, e.1⟩ : ℝ) : EReal) else 0 := by
  rw [Ds, ds]
  by_cases ht : t.val < 8208
  · rw [show wt (KA m c h) (QA m c h) s t = Wt m c h s t from rfl, Wt_eq R h s t ht]
    by_cases hs : s.val < 8208
    · rw [dif_pos hs, dif_pos ⟨hs, ht⟩, innerV R, ← EReal.coe_mul, DS, ← delta]
      simp only [pd, dif_pos hs, dif_pos ht]
      refine congrArg (fun y : ℝ => (y : EReal)) ?_
      rw [add_zero, zero_sub, ← sub_eq_add_neg, G]
      refine congrArg (fun y => _ * (y - _)) (Finset.sum_congr rfl fun d _ => mul_comm _ _)
    · rw [dif_neg hs, zero_mul, dif_neg fun h => hs h.1]
  · rw [dif_neg fun h => ht h.2, innerV R]
    simp only [pd, dif_neg ht]
    simp

end Cert.Attn

end
-- ==== Proof.Attn.Out.lean ====
/-
  The attention backward kernel over its grid: the four results' arrays, in terms of the eight arrays it is given.
-/
module

public import proofs.«01_k».proof.Proof.Attn.Run
public import Idealize.ShloMosaic.Lib.Pipeline.ReadBack

@[expose] public section

set_option maxRecDepth 16384

noncomputable section

namespace Cert.Attn

open Idealize.ShloMosaic Idealize.ShloMosaic.TcCoe Idealize.SL.Sem
open Cert.AttnBwdIdeal Cert.AttnBwdIdeal.Gen Cert.Math Cert.AttnModel
open Idealize.ShloMosaic.Pipeline (Dat)

variable {m : (ℓ : Loc nD τ sig) → Buf (Elt Ideal) ℓ} {c : Dev nD} (fine : Fine m c)

/-! ## The results -/

/-- The results' arrays. -/
def Dq (m : (ℓ : Loc nD τ sig) → Buf (Elt Ideal) ℓ) (c : Dev nD) : FVec Ideal S16x64x8320 .bf16 := fun y =>
  (∑ u, KT m c (y 0) u ⟨(y 1).val, Nat.lt_trans (y 1).isLt (by decide)⟩ * Ds m c (y 0) u (y 2)) * e8f
def Dcq (m : (ℓ : Loc nD τ sig) → Buf (Elt Ideal) ℓ) (c : Dev nD) : FVec Ideal S16x1x8320 .f32 := fun y =>
  ∑ u, KT m c (y 0) u 64 * Ds m c (y 0) u (y 2)
def Dk (m : (ℓ : Loc nD τ sig) → Buf (Elt Ideal) ℓ) (c : Dev nD) : FVec Ideal S16x13x80x640 .f32 := fun y =>
  ∑ t, QO m c (y 0) t (y 2) * Ds m c (y 0) (pos (y 1).val (y 3)) t
def Dv (m : (ℓ : Loc nD τ sig) → Buf (Elt Ideal) ℓ) (c : Dev nD) : FVec Ideal S16x13x64x640 .f32 := fun y =>
  ∑ t, DO m c (y 0) t (y 2) * Wt m c (y 0) (pos (y 1).val (y 3)) t

include fine

set_option maxHeartbeats 4000000 in
theorem result8 : (dats m 0 c).arrAt 8 cfg0.N = Dq m c := by
  refine (dats m 0 c).arrAt_eq_of_covers 8 _ (by decide +kernel) fun t hf y => ?_
  blk_simp
  rw [after8]
  idx_vars y
  obtain rfl : y0 = 0 := Subsingleton.elim _ _
  have hN := lt_N t
  have e : ((View.whole main_v90_0).slice (win0_8.rect t)).emb (ix3 0 y1 y2) = (ix3 ⟨t.val / 13, by omega⟩ y1 ⟨t.val % 13 * 640 + y2.val, by omega⟩ : S16x64x8320.Idx) := by
    blk_ext [idx t]
  have ep : (⟨t.val % 13 * 640 + y2.val, by omega⟩ : Fin 8320) = pos (t.val % 13) y2 := Fin.ext (by rw [pos_val _ (by omega)]; dsimp only; omega)
  rw [e, ep, coords1]
  refine (hpay72 _ _ _ y1 y2).trans ?_
  rw [(at_ fine t).dq (by omega)]
  rfl

set_option maxHeartbeats 4000000 in
theorem result9 : (dats m 0 c).arrAt 9 cfg0.N = Dcq m c := by
  refine (dats m 0 c).arrAt_eq_of_covers 9 _ (by decide +kernel) fun t hf y => ?_
  blk_simp
  rw [after9]
  idx_vars y
  obtain rfl : y0 = 0 := Subsingleton.elim _ _
  obtain rfl : y1 = 0 := Subsingleton.elim _ _
  have hN := lt_N t
  have e : ((View.whole main_v90_1).slice (win0_9.rect t)).emb (ix3 0 0 y2) = (ix3 ⟨t.val / 13, by omega⟩ 0 ⟨t.val % 13 * 640 + y2.val, by omega⟩ : S16x1x8320.Idx) := by
    blk_ext [idx t]
  have ep : (⟨t.val % 13 * 640 + y2.val, by omega⟩ : Fin 8320) = pos (t.val % 13) y2 := Fin.ext (by rw [pos_val _ (by omega)]; dsimp only; omega)
  rw [e, ep, coords1]
  refine (hpay73 _ _ _ y2).trans ?_
  rw [(at_ fine t).dq (by omega)]
  rfl

set_option maxHeartbeats 4000000 in
theorem result10 : (dats m 0 c).arrAt 10 cfg0.N = Dk m c := by
  refine (dats m 0 c).arrAt_eq_of_covers 10 _ (by decide +kernel) fun t hf y => ?_
  blk_simp
  rw [after10]
  idx_vars y
  obtain rfl : y0 = 0 := Subsingleton.elim _ _
  have hN := lt_N t
  have e : ((View.whole main_v90_2).slice (win0_10.rect t)).emb (ix4 0 y1 y2 y3) = (ix4 ⟨t.val / 13, by omega⟩ y1 y2 y3 : S16x13x80x640.Idx) := by
    blk_ext [idx t]
  rw [e]
  refine ((acc fine t.val t.isLt).1 y1 y2 y3).trans ?_
  rw [(flush0_10 t).mp hf]
  exact sum_pos fun u => QO m c (headOf t) u y2 * Ds m c (headOf t) (pos y1.val y3) u

set_option maxHeartbeats 4000000 in
theorem result11 : (dats m 0 c).arrAt 11 cfg0.N = Dv m c := by
  refine (dats m 0 c).arrAt_eq_of_covers 11 _ (by decide +kernel) fun t hf y => ?_
  blk_simp
  rw [after11]
  idx_vars y
  obtain rfl : y0 = 0 := Subsingleton.elim _ _
  have hN := lt_N t
  have e : ((View.whole main_v90_3).slice (win0_11.rect t)).emb (ix4 0 y1 y2 y3) = (ix4 ⟨t.val / 13, by omega⟩ y1 y2 y3 : S16x13x64x640.Idx) := by
    blk_ext [idx t]
  rw [e]
  refine ((acc fine t.val t.isLt).2 y1 y2 y3).trans ?_
  rw [(flush0_11 t).mp hf]
  exact sum_pos fun u => DO m c (headOf t) u y2 * Wt m c (headOf t) (pos y1.val y3) u

end Cert.Attn

end
-- ==== Proof.Attn.Match.lean ====
/-
  The attention backward kernel's four results are the reference's.
-/
module

public import proofs.«01_k».proof.Proof.Attn.Exact
public import proofs.«01_k».proof.Proof.Attn.Out
public import proofs.«01_k».proof.Proof.Attn.RefOut

@[expose] public section

set_option maxRecDepth 16384

noncomputable section

namespace Cert.Attn

open Idealize.ShloMosaic Idealize.ShloMosaic.TcCoe
open Cert.AttnBwdIdeal Cert.AttnBwdIdeal.Gen Cert.Math Cert.AttnModel
open Cert.AttnRefIdeal.Read

/-- A sum over the padded rows whose terms vanish after the last row. -/
theorem sum_pad (f : Fin 8320 → EReal) (g : Fin 8208 → EReal) (h : ∀ s : Fin 8208, f ⟨s.val, by omega⟩ = g s) (hz : ∀ u : Fin 8320, ¬u.val < 8208 → f u = 0) :
    ∑ u, f u = ∑ s, g s := by
  have e := Fin.sum_univ_add (a := 8208) (b := 112) (fun x : Fin (8208 + 112) => f x)
  refine e.trans ?_
  rw [show ∑ i : Fin 112, f (Fin.natAdd 8208 i) = 0 from Finset.sum_eq_zero fun x _ => hz _ (by simp), add_zero]
  exact Finset.sum_congr rfl fun s _ => h s

variable {m : (ℓ : Loc nD τ sig) → Buf (Elt Ideal) ℓ} {c : Dev nD} {qr kr vr gr : Fin 8208 → Fin 1024 → ℝ} {cr : Fin 8208 → Fin 16 → ℝ}
  (R : Reals m c qr kr vr gr cr)

include R

/-- The reference's gradient of the scores, and its weights. -/
theorem ref_ds (h : Fin 16) (t s : Fin 8208) :
    val_main_v72 (F := Ideal) (aQ m c) (aK m c) (aV m c) (aC m c) (aG m c) (ix3 h t s) = ((DS (hd qr h) (hd kr h) (hd vr h) (hd gr h) (gt cr h) t s : ℝ) : EReal) :=
  (grads _ _ _ _ _ qr kr vr gr cr R.hq R.hk R.hv R.hc R.hg h t s).1
theorem ref_y (h : Fin 16) (t s : Fin 8208) :
    val_main_v48 (F := Ideal) (aQ m c) (aK m c) (aC m c) (ix3 h t s) = ((Y (hd qr h) (hd kr h) (gt cr h) t s : ℝ) : EReal) :=
  (grads _ _ _ _ _ qr kr vr gr cr R.hq R.hk R.hv R.hc R.hg h t s).2

theorem dq_ref : Dq m c = val_main_v104 (F := Ideal) (aQ m c) (aK m c) (aV m c) (aC m c) (aG m c) := by
  funext y
  idx_vars y
  rw [v104_apply]
  show (∑ u, KT m c y0 u ⟨y1.val, by omega⟩ * Ds m c y0 u y2) * e8f = _
  by_cases ht : y2.val < 8208
  · rw [dif_pos ht, v89_apply, v83_apply]
    rw [sum_pad _ (fun s => ((hd kr y0 s y1 * DS (hd qr y0) (hd kr y0) (hd vr y0) (hd gr y0) (gt cr y0) ⟨y2.val, ht⟩ s : ℝ) : EReal)) (fun s => by
        rw [KT_eq R, dif_pos y1.isLt, Ds_eq R, dif_pos ⟨s.isLt, ht⟩, pd, dif_pos s.isLt, ← EReal.coe_mul]) (fun u hu => by
        rw [Ds_eq R, dif_neg fun h => hu h.1, mul_zero])]
    simp only [ref_ds R, v5_apply, R.hk, ofBits_eighth, ← EReal.coe_mul, ← coe_sum]
    refine congrArg (fun y : ℝ => (y : EReal)) ?_
    rw [Finset.sum_mul]
    exact Finset.sum_congr rfl fun s _ => by unfold hd; ring
  · rw [dif_neg ht, Finset.sum_eq_zero fun u _ => by rw [Ds_eq R, dif_neg fun h => ht h.2, mul_zero], zero_mul]

theorem dcq_ref : Dcq m c = val_main_v107 (F := Ideal) (aQ m c) (aK m c) (aV m c) (aC m c) (aG m c) := by
  funext y
  idx_vars y
  rw [v107_apply]
  show ∑ u, KT m c y0 u 64 * Ds m c y0 u y2 = _
  by_cases ht : y2.val < 8208
  · rw [dif_pos ht, v79_apply]
    refine sum_pad _ _ (fun s => ?_) fun u hu => by rw [Ds_eq R, dif_neg fun h => hu h.1, mul_zero]
    rw [KT_eq R, dif_neg (by decide), if_pos (by decide), one_mul, Ds_eq R, dif_pos ⟨s.isLt, ht⟩, ref_ds R]
  · rw [dif_neg ht, Finset.sum_eq_zero fun u _ => by rw [Ds_eq R, dif_neg fun h => ht h.2, mul_zero]]

theorem dk_ref : Dk m c = val_main_v109 (F := Ideal) (aQ m c) (aK m c) (aV m c) (aC m c) (aG m c) := by
  funext y
  idx_vars y
  rw [v109_apply]
  show ∑ t, QO m c y0 t y2 * Ds m c y0 (pos y1.val y3) t = _
  have hp : pos y1.val y3 = ⟨640 * y1.val + y3.val, by omega⟩ := Fin.ext (pos_val _ y1.isLt _)
  rw [hp, v100_apply]
  by_cases hs : 640 * y1.val + y3.val < 8208
  · by_cases hr : y2.val < 64
    · rw [dif_pos hr, v94_apply, dif_pos hs, v87_apply, v82_apply]
      refine sum_pad _ _ (fun t => ?_) fun u hu => by rw [Ds_eq R, dif_neg fun h => hu h.2, mul_zero]
      rw [QO_eq R, dif_pos hr, Ds_eq R, dif_pos ⟨hs, t.isLt⟩, pd, dif_pos t.isLt, ref_ds R, v3_apply, R.hq, ofBits_eighth, ← EReal.coe_mul, ← EReal.coe_mul, ← EReal.coe_mul]
      refine congrArg (fun y : ℝ => (y : EReal)) ?_
      unfold hd; ring
    · rw [dif_neg hr]
      by_cases hr' : y2.val = 64
      · rw [if_pos hr', v98_apply, dif_pos hs, v76_apply]
        simp only [ref_ds R, ← EReal.coe_neg, ← coe_sum]
        rw [Finset.sum_neg_distrib, neg_neg, coe_sum]
        refine sum_pad _ _ (fun t => ?_) fun u hu => by rw [Ds_eq R, dif_neg fun h => hu h.2, mul_zero]
        rw [QO_eq R, dif_neg hr, if_pos hr', one_mul, Ds_eq R, dif_pos ⟨hs, t.isLt⟩]
      · rw [if_neg hr']
        exact Finset.sum_eq_zero fun t _ => by rw [QO_eq R, dif_neg hr, if_neg hr', zero_mul]
  · rw [Finset.sum_eq_zero fun t _ => by rw [Ds_eq R, dif_neg fun h => hs h.1, mul_zero]]
    split
    · rw [v94_apply, dif_neg hs]
    · split
      · rw [v98_apply, dif_neg hs]
      · rfl

theorem dv_ref : Dv m c = val_main_v114 (F := Ideal) (aQ m c) (aK m c) (aC m c) (aG m c) := by
  funext y
  idx_vars y
  rw [v114_apply, v112_apply]
  show ∑ t, DO m c y0 t y2 * Wt m c y0 (pos y1.val y3) t = _
  have hp : pos y1.val y3 = ⟨640 * y1.val + y3.val, by omega⟩ := Fin.ext (pos_val _ y1.isLt _)
  rw [hp]
  have hz : ∀ u : Fin 8320, ¬u.val < 8208 → DO m c y0 u y2 = 0 := fun u hu => by
    rw [DO, rG_real R, pd, dif_neg hu]; rfl
  by_cases hs : 640 * y1.val + y3.val < 8208
  · rw [dif_pos hs, v91_apply, v58_apply]
    refine sum_pad _ _ (fun t => ?_) fun u hu => by rw [hz u hu, zero_mul]
    rw [DO, rG_real R, pd, dif_pos t.isLt, Wt_eq R _ _ _ t.isLt, dif_pos hs, v56_apply, R.hg, ref_y R]
    rfl
  · rw [dif_neg hs]
    refine Finset.sum_eq_zero fun t _ => ?_
    by_cases ht : t.val < 8208
    · rw [Wt_eq R _ _ _ ht, dif_neg hs, mul_zero]
    · rw [hz t ht, zero_mul]

end Cert.Attn

end
-- ==== Proof.Attn.Claim.lean ====
/-
  The attention call's backward pass: the kernel's results are the reference's, over the extended reals.
-/
module

public import proofs.«01_k».proof.Proof.Attn.Frames
public import proofs.«01_k».proof.Proof.Attn.Match
public import proofs.«01_k».proof.Proof.Gen.Pre_attn_finite
public import Idealize.ShloMosaic.Lib.Claim
public import Idealize.ShloMosaic.Lib.ReduceAll

@[expose] public section

set_option maxRecDepth 16384

noncomputable section

namespace Cert.Attn

open Idealize.ShloMosaic Idealize.ShloMosaic.TcCoe Idealize.SL.Sem

open Cert.AttnBwdIdeal Cert.AttnBwdIdeal.Gen Cert.Math in
/-- The precondition says that the arguments are real numbers. -/
theorem reals (m : (ℓ : Loc nD τ sig) → Buf (Elt Ideal) ℓ) (h : Cert.Pre_AttnBwdIdeal_attn_finite m) (c : Dev nD) :
    ∃ qr kr vr gr cr, Reals m c qr kr vr gr cr := by
  have h1 := congrFun (h c) (fun a => a.elim0)
  obtain ⟨h1, h4⟩ := and_one _ _ _ h1
  obtain ⟨h1, h3⟩ := and_one _ _ _ h1
  obtain ⟨h1, h2⟩ := and_one _ _ _ h1
  obtain ⟨h0, h1⟩ := and_one _ _ _ h1
  have r0 : ∀ i, Real (aQ m c i) := fun i => Real.of_cmp _ _ _ ofBits_inf (Host.reduce_andi_all _ _ _ _ _ h0 i)
  have r1 : ∀ i, Real (aK m c i) := fun i => Real.of_cmp _ _ _ ofBits_inf (Host.reduce_andi_all _ _ _ _ _ h1 i)
  have r2 : ∀ i, Real (aV m c i) := fun i => Real.of_cmp _ _ _ ofBits_inf (Host.reduce_andi_all _ _ _ _ _ h2 i)
  have r3 : ∀ i, Real (aC m c i) := fun i => Real.of_cmp _ _ _ ofBits_inf (Host.reduce_andi_all _ _ _ _ _ h3 i)
  have r4 : ∀ i, Real (aG m c i) := fun i => Real.of_cmp _ _ _ ofBits_inf (Host.reduce_andi_all _ _ _ _ _ h4 i)
  choose f0 e0 using r0
  choose f1 e1 using r1
  choose f2 e2 using r2
  choose f3 e3 using r3
  choose f4 e4 using r4
  exact ⟨fun t x => f0 (ix2 t x), fun t x => f1 (ix2 t x), fun t x => f2 (ix2 t x), fun t x => f4 (ix2 t x), fun t x => f3 (ix2 t x),
    fun t x => e0 _, fun t x => e1 _, fun t x => e2 _, fun t x => e3 _, fun t x => e4 _⟩

set_option maxHeartbeats 4000000 in
theorem value : Cert.algebraic_AttnBwdIdeal_AttnRefIdeal_pre_attn_finite := by
  pair_intro
  · run_from Cert.Attn.run_main m g
    · exact Cert.AttnBwdIdeal.Gen.V_main_arg0 m c
    · exact Cert.AttnBwdIdeal.Gen.V_main_arg1 m c
    · exact Cert.AttnBwdIdeal.Gen.V_main_arg2 m c
    · exact Cert.AttnBwdIdeal.Gen.V_main_arg3 m c
    · exact Cert.AttnBwdIdeal.Gen.V_main_arg4 m c
  · run_from Cert.AttnRefIdeal.Value.run m' g'
    all_goals obtain ⟨e0, e1, e2, e3, e4⟩ := hagree c
    all_goals obtain ⟨qr, kr, vr, gr, cr, R⟩ := reals m hpre c
    · rw [Cert.AttnRefIdeal.Read.val_main_v104_eq, e0, e1, e2, e3, e4]
      exact ((result8 (fine R)).trans (dq_ref R)).symm
    · rw [Cert.AttnRefIdeal.Read.val_main_v107_eq, e0, e1, e2, e3, e4]
      exact ((result9 (fine R)).trans (dcq_ref R)).symm
    · rw [Cert.AttnRefIdeal.Read.val_main_v109_eq, e0, e1, e2, e3, e4]
      exact ((result10 (fine R)).trans (dk_ref R)).symm
    · rw [Cert.AttnRefIdeal.Read.val_main_v114_eq, e0, e1, e3, e4]
      exact ((result11 (fine R)).trans (dv_ref R)).symm

end Cert.Attn

end
-- ==== Proof.Pool.Claim.lean ====
/-
  The multi-scale pool mixer's backward kernel, as printed and idealized, and its reference are quiet.
-/
module

public import proofs.«01_k».proof.Defs
public import proofs.«01_k».proof.Proof.Gen.PoolBwd.Frame
public import proofs.«01_k».proof.Proof.Gen.PoolBwdIdeal.Frame
public import proofs.«01_k».proof.Proof.Gen.PoolRefIdeal.Run
public import Idealize.ShloMosaic.Lib.Claim

@[expose] public section

set_option maxRecDepth 16384

noncomputable section

namespace Cert.Pool

open Idealize.ShloMosaic Idealize.ShloMosaic.TcCoe Idealize.SL.Sem

theorem frame_bits : Cert.quiescent_PoolBwd := fun m ρ _ => Cert.PoolBwd.Gen.frame m ρ

theorem frame_ideal : Cert.quiescent_PoolBwdIdeal := fun m ρ _ => Cert.PoolBwdIdeal.Gen.frame m ρ

theorem frame_ref : Cert.quiescent_PoolRefIdeal := fun m g _ =>
  (θ_run Cert.PoolRefIdeal.defs _ _).mono (fun r h => ⟨fun c => (h c).2.2.2, sem_eq_zero_of_no_sems (by decide) r.2⟩)
    (Cert.PoolRefIdeal.Value.run (F := Ideal) m g)

end Cert.Pool

end
-- ==== Proof.Conv.Claim.lean ====
/-
  The causal convolution and gate's backward kernel, as printed and idealized, and its reference are quiet.
-/
module

public import proofs.«01_k».proof.Defs
public import proofs.«01_k».proof.Proof.Gen.ConvBwd.Frame
public import proofs.«01_k».proof.Proof.Gen.ConvBwdIdeal.Frame
public import proofs.«01_k».proof.Proof.Gen.ConvRefIdeal.Run
public import Idealize.ShloMosaic.Lib.Claim

@[expose] public section

set_option maxRecDepth 16384

noncomputable section

namespace Cert.Conv

open Idealize.ShloMosaic Idealize.ShloMosaic.TcCoe Idealize.SL.Sem

theorem frame_bits : Cert.quiescent_ConvBwd := fun m ρ _ => Cert.ConvBwd.Gen.frame m ρ

theorem frame_ideal : Cert.quiescent_ConvBwdIdeal := fun m ρ _ => Cert.ConvBwdIdeal.Gen.frame m ρ

theorem frame_ref : Cert.quiescent_ConvRefIdeal := fun m g _ =>
  (θ_run Cert.ConvRefIdeal.defs _ _).mono (fun r h => ⟨fun c => (h c).2.2.2, sem_eq_zero_of_no_sems (by decide) r.2⟩)
    (Cert.ConvRefIdeal.Value.run (F := Ideal) m g)

end Cert.Conv

end
-- ==== Proof.AttnFwd.Blocks.lean ====
/-
  The attention forward kernel's blocks: the rows of one key block of one head, its tile of transposed values, what
  the kernel does with one key block - a new running maximum and a new weighted sum - and the loops over the blocks
  before the diagonal as that step taken once per block.
-/
module

public import proofs.«01_k».proof.Proof.Gen.AttnFwdIdeal.Loops
public import proofs.«01_k».proof.Proof.Attn.Blocks
public import Idealize.ShloMosaic.Lib.VecWindow

@[expose] public section

set_option maxRecDepth 16384

noncomputable section

namespace Cert.AttnFwd

open Idealize.ShloMosaic Idealize.ShloMosaic.TcCoe Idealize.ShloMosaic.Tactic
open Cert.AttnFwdIdeal Cert.AttnFwdIdeal.Gen
open Cert.Attn (run run_succ)

variable {F : FTy → Type} [FloatOps F] [Named F]

/-! ## Where the loops read -/

theorem off1 : ∀ (i : grid0.Coords) (k : Fin (k0_t1_loop i).trips) (w : Fin 4),
    k0_off1 i k (BitVec.ofNat 32 w.val) = ![0, 640 * (4 * k.val + w.val), 0] := by decide +kernel
theorem off2 : ∀ (i : grid0.Coords) (k : Fin (k0_t1_loop i).trips) (w : Fin 4),
    k0_off2 i k (BitVec.ofNat 32 w.val) = ![0, 4 * k.val + w.val, 0, 0] := by decide +kernel
theorem off3 : ∀ (i : grid0.Coords) (k : Fin (k0_t1_loop i).trips) (w : Fin 4),
    k0_off3 i k (BitVec.ofNat 32 w.val) = ![1, 640 * (4 * k.val + w.val), 0] := by decide +kernel
theorem off4 : ∀ (i : grid0.Coords) (k : Fin (k0_t1_loop i).trips) (w : Fin 4),
    k0_off4 i k (BitVec.ofNat 32 w.val) = ![1, 4 * k.val + w.val, 0, 0] := by decide +kernel
theorem trips1 : ∀ i : grid0.Coords, (k0_t1_loop i).trips = (i 1).val / 4 := by decide +kernel
theorem trips2 : ∀ i : grid0.Coords, (k0_t2_loop i).trips = 0 := by decide +kernel
theorem trips3 : ∀ i : grid0.Coords, (k0_t3_loop i).trips = (i 1).val % 4 := by decide +kernel
theorem trips4 : ∀ i : grid0.Coords, (k0_t4_loop i).trips = 0 := by decide +kernel
theorem off9 : ∀ (i : grid0.Coords) (k : Fin (k0_t3_loop i).trips),
    k0_off9 i k = ![0, 640 * (4 * ((i 1).val / 4) + k.val), 0] := by decide +kernel
theorem off10 : ∀ (i : grid0.Coords) (k : Fin (k0_t3_loop i).trips),
    k0_off10 i k = ![0, 4 * ((i 1).val / 4) + k.val, 0, 0] := by decide +kernel
theorem off11 : ∀ (i : grid0.Coords) (k : Fin (k0_t3_loop i).trips),
    k0_off11 i k = ![1, 640 * (4 * ((i 1).val / 4) + k.val), 0] := by decide +kernel
theorem off12 : ∀ (i : grid0.Coords) (k : Fin (k0_t3_loop i).trips),
    k0_off12 i k = ![1, 4 * ((i 1).val / 4) + k.val, 0, 0] := by decide +kernel
theorem off17 : ∀ i : grid0.Coords, k0_off17 i = ![0, 640 * (i 1).val, 0] := by decide +kernel
theorem off18 : ∀ i : grid0.Coords, k0_off18 i = ![0, (i 1).val, 0, 0] := by decide +kernel
theorem off19 : ∀ i : grid0.Coords, k0_off19 i = ![1, 640 * (i 1).val, 0] := by decide +kernel
theorem off20 : ∀ i : grid0.Coords, k0_off20 i = ![1, (i 1).val, 0, 0] := by decide +kernel

/-! ## The blocks -/

/-- The 640 rows of head `e`'s key block `j`. -/
def rows (x : Vec F S2x8320x128 .bf16) (e : Fin 2) (j : ℕ) : Vec F S1x640x128 .bf16 :=
  fun y => x (fun a => match a with
    | ⟨0, _⟩ => e
    | ⟨1, _⟩ => ⟨(640 * j + (y 1).val) % 8320, Nat.mod_lt _ (by decide)⟩
    | ⟨2, _⟩ => y 2)

/-- Head `e`'s tile of key block `j`. -/
def tile (x : Vec F S2x13x80x640 .bf16) (e : Fin 2) (j : ℕ) : Vec F S1x1x80x640 .bf16 :=
  fun y => x (fun a => match a with
    | ⟨0, _⟩ => e
    | ⟨1, _⟩ => ⟨j % 13, Nat.mod_lt _ (by decide)⟩
    | ⟨2, _⟩ => y 2
    | ⟨3, _⟩ => y 3)

theorem window_rows (x : Vec F S2x8320x128 .bf16) (e : Fin 2) (j : ℕ) (inb) :
    VecWindow.window x ![e.val, 640 * j, 0] S1x640x128.size inb = rows x e j := by
  funext y
  refine congrArg x (funext fun a => Fin.ext ?_)
  have h := inb 1
  fin_cases a
  · show e.val + 1 * (y 0).val = e.val
    have h3 : (y 0).val < 1 := (y 0).isLt
    omega
  · show 640 * j + 1 * (y 1).val = (640 * j + (y 1).val) % 8320
    have h2 : 640 * j + 640 ≤ 8320 := h
    have h3 : (y 1).val < 640 := (y 1).isLt
    omega
  · show 0 + 1 * (y 2).val = (y 2).val; omega

theorem window_tile (x : Vec F S2x13x80x640 .bf16) (e : Fin 2) (j : ℕ) (inb) :
    VecWindow.window x ![e.val, j, 0, 0] S1x1x80x640.size inb = tile x e j := by
  funext y
  refine congrArg x (funext fun a => Fin.ext ?_)
  have h := inb 1
  fin_cases a
  · show e.val + 1 * (y 0).val = e.val
    have h3 : (y 0).val < 1 := (y 0).isLt
    omega
  · show j + 1 * (y 1).val = j % 13
    have h2 : j + 1 ≤ 13 := h
    have h3 : (y 1).val < 1 := (y 1).isLt
    omega
  · show 0 + 1 * (y 2).val = (y 2).val; omega
  · show 0 + 1 * (y 3).val = (y 3).val; omega

theorem read_rows {o : Fin S2x8320x128.rank → ℕ} (e : Fin 2) {j : ℕ} (h : o = ![e.val, 640 * j, 0]) (m : Memref sig .tc .vmem S2x8320x128 .bf16) (f : m.view.ty.Contents (Elt F)) (inb) :
    View.readAt (Elt F) m.view (Rect.unit (s := S2x8320x128) o S1x640x128.size inb).toLoadRect f = rows (m.view.read (Elt F) f) e j := by
  subst h
  exact (View.readAt_unit _ _ _ rfl inb).trans (window_rows _ e _ _)

theorem read_rows' {o : Fin S2x8320x128.rank → ℕ} (e : Fin 2) {j : ℕ} (h : o = ![e.val, 640 * j, 0]) (m : Memref sig .tc .vmem S2x8320x128 .bf16) (f : m.view.ty.Contents (Elt F)) (inb) :
    View.readAt (Elt F) m.view (Rect.unit (s := S2x8320x128) o ![1, 640, 128] inb).toLoadRect f = rows (m.view.read (Elt F) f) e j :=
  read_rows e h m f inb

theorem read_tile {o : Fin S2x13x80x640.rank → ℕ} (e : Fin 2) {j : ℕ} (h : o = ![e.val, j, 0, 0]) (m : Memref sig .tc .vmem S2x13x80x640 .bf16) (f : m.view.ty.Contents (Elt F)) (inb) :
    View.readAt (Elt F) m.view (Rect.unit (s := S2x13x80x640) o S1x1x80x640.size inb).toLoadRect f = tile (m.view.read (Elt F) f) e j := by
  subst h
  exact (View.readAt_unit _ _ _ rfl inb).trans (window_tile _ e _ _)

theorem read_tile' {o : Fin S2x13x80x640.rank → ℕ} (e : Fin 2) {j : ℕ} (h : o = ![e.val, j, 0, 0]) (m : Memref sig .tc .vmem S2x13x80x640 .bf16) (f : m.view.ty.Contents (Elt F)) (inb) :
    View.readAt (Elt F) m.view (Rect.unit (s := S2x13x80x640) o ![1, 1, 80, 640] inb).toLoadRect f = tile (m.view.read (Elt F) f) e j :=
  read_tile e h m f inb

/-! ## One key block -/

/-- What the loops carry: each head's running maximum and weighted sum. -/
abbrev Carry (F : FTy → Type) : Type := FVec F S1x640 .f32 × FVec F S80x640 .f32 × FVec F S1x640 .f32 × FVec F S80x640 .f32

/-- One key block before the diagonal, for both heads. -/
def step (a b : FVec F S128x640 .bf16) (k : Vec F S2x8320x128 .bf16) (v : Vec F S2x13x80x640 .bf16) (j : ℕ) (x : Carry F) : Carry F :=
  (k0_pay61 a x.1 (rows k 0 j), k0_pay62 a x.1 x.2.1 (rows k 0 j) (tile v 0 j),
    k0_pay61 b x.2.2.1 (rows k 1 j), k0_pay62 b x.2.2.1 x.2.2.2 (rows k 1 j) (tile v 1 j))

/-- Four blocks, one after another, from block `n`. -/
def run4 {α : Type} (f : ℕ → α → α) (n : ℕ) (a : α) : α := f (n + 3) (f (n + 2) (f (n + 1) (f (n + 0) a)))

theorem off1_0 (i : grid0.Coords) (k : Fin (k0_t1_loop i).trips) : k0_off1 i k 0#32 = ![((0 : Fin 2)).val, 640 * (4 * k.val + 0), 0] := off1 i k 0
theorem off2_0 (i : grid0.Coords) (k : Fin (k0_t1_loop i).trips) : k0_off2 i k 0#32 = ![((0 : Fin 2)).val, 4 * k.val + 0, 0, 0] := off2 i k 0
theorem off3_0 (i : grid0.Coords) (k : Fin (k0_t1_loop i).trips) : k0_off3 i k 0#32 = ![((1 : Fin 2)).val, 640 * (4 * k.val + 0), 0] := off3 i k 0
theorem off4_0 (i : grid0.Coords) (k : Fin (k0_t1_loop i).trips) : k0_off4 i k 0#32 = ![((1 : Fin 2)).val, 4 * k.val + 0, 0, 0] := off4 i k 0
theorem off1_1 (i : grid0.Coords) (k : Fin (k0_t1_loop i).trips) : k0_off1 i k 1#32 = ![((0 : Fin 2)).val, 640 * (4 * k.val + 1), 0] := off1 i k 1
theorem off2_1 (i : grid0.Coords) (k : Fin (k0_t1_loop i).trips) : k0_off2 i k 1#32 = ![((0 : Fin 2)).val, 4 * k.val + 1, 0, 0] := off2 i k 1
theorem off3_1 (i : grid0.Coords) (k : Fin (k0_t1_loop i).trips) : k0_off3 i k 1#32 = ![((1 : Fin 2)).val, 640 * (4 * k.val + 1), 0] := off3 i k 1
theorem off4_1 (i : grid0.Coords) (k : Fin (k0_t1_loop i).trips) : k0_off4 i k 1#32 = ![((1 : Fin 2)).val, 4 * k.val + 1, 0, 0] := off4 i k 1
theorem off1_2 (i : grid0.Coords) (k : Fin (k0_t1_loop i).trips) : k0_off1 i k 2#32 = ![((0 : Fin 2)).val, 640 * (4 * k.val + 2), 0] := off1 i k 2
theorem off2_2 (i : grid0.Coords) (k : Fin (k0_t1_loop i).trips) : k0_off2 i k 2#32 = ![((0 : Fin 2)).val, 4 * k.val + 2, 0, 0] := off2 i k 2
theorem off3_2 (i : grid0.Coords) (k : Fin (k0_t1_loop i).trips) : k0_off3 i k 2#32 = ![((1 : Fin 2)).val, 640 * (4 * k.val + 2), 0] := off3 i k 2
theorem off4_2 (i : grid0.Coords) (k : Fin (k0_t1_loop i).trips) : k0_off4 i k 2#32 = ![((1 : Fin 2)).val, 4 * k.val + 2, 0, 0] := off4 i k 2
theorem off1_3 (i : grid0.Coords) (k : Fin (k0_t1_loop i).trips) : k0_off1 i k 3#32 = ![((0 : Fin 2)).val, 640 * (4 * k.val + 3), 0] := off1 i k 3
theorem off2_3 (i : grid0.Coords) (k : Fin (k0_t1_loop i).trips) : k0_off2 i k 3#32 = ![((0 : Fin 2)).val, 4 * k.val + 3, 0, 0] := off2 i k 3
theorem off3_3 (i : grid0.Coords) (k : Fin (k0_t1_loop i).trips) : k0_off3 i k 3#32 = ![((1 : Fin 2)).val, 640 * (4 * k.val + 3), 0] := off3 i k 3
theorem off4_3 (i : grid0.Coords) (k : Fin (k0_t1_loop i).trips) : k0_off4 i k 3#32 = ![((1 : Fin 2)).val, 4 * k.val + 3, 0, 0] := off4 i k 3

/-! ## The trip over four blocks, block by block -/

theorem m0_0 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v176 (F := F) i arg4 v X4 k acc = k0_pay61 v acc.1 (rows (arg4.view.read (Elt F) X4) 0 (4 * k.val + 0)) :=
  congrArg (k0_pay61 v acc.1) (read_rows 0 (off1_0 i k) arg4 X4 (k0_off1_inb i k 0))

theorem a0_0 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v189 (F := F) i arg4 arg5 v X4 X5 k acc = k0_pay62 v acc.1 acc.2.1 (rows (arg4.view.read (Elt F) X4) 0 (4 * k.val + 0)) (tile (arg5.view.read (Elt F) X5) 0 (4 * k.val + 0)) :=
  congrArg₂ (k0_pay62 v acc.1 acc.2.1) (read_rows 0 (off1_0 i k) arg4 X4 (k0_off1_inb i k 0)) (read_tile 0 (off2_0 i k) arg5 X5 (k0_off2_inb i k 0))

theorem m0_1 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v220 (F := F) i arg4 v X4 k acc = k0_pay61 v (trip_k0_t1.sl.v176 (F := F) i arg4 v X4 k acc) (rows (arg4.view.read (Elt F) X4) 0 (4 * k.val + 1)) :=
  congrArg (k0_pay61 v (trip_k0_t1.sl.v176 (F := F) i arg4 v X4 k acc)) (read_rows 0 (off1_1 i k) arg4 X4 (k0_off1_inb i k 1))

theorem a0_1 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v233 (F := F) i arg4 arg5 v X4 X5 k acc = k0_pay62 v (trip_k0_t1.sl.v176 (F := F) i arg4 v X4 k acc) (trip_k0_t1.sl.v189 (F := F) i arg4 arg5 v X4 X5 k acc) (rows (arg4.view.read (Elt F) X4) 0 (4 * k.val + 1)) (tile (arg5.view.read (Elt F) X5) 0 (4 * k.val + 1)) :=
  congrArg₂ (k0_pay62 v (trip_k0_t1.sl.v176 (F := F) i arg4 v X4 k acc) (trip_k0_t1.sl.v189 (F := F) i arg4 arg5 v X4 X5 k acc)) (read_rows 0 (off1_1 i k) arg4 X4 (k0_off1_inb i k 1)) (read_tile 0 (off2_1 i k) arg5 X5 (k0_off2_inb i k 1))

theorem m0_2 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v264 (F := F) i arg4 v X4 k acc = k0_pay61 v (trip_k0_t1.sl.v220 (F := F) i arg4 v X4 k acc) (rows (arg4.view.read (Elt F) X4) 0 (4 * k.val + 2)) :=
  congrArg (k0_pay61 v (trip_k0_t1.sl.v220 (F := F) i arg4 v X4 k acc)) (read_rows 0 (off1_2 i k) arg4 X4 (k0_off1_inb i k 2))

theorem a0_2 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v277 (F := F) i arg4 arg5 v X4 X5 k acc = k0_pay62 v (trip_k0_t1.sl.v220 (F := F) i arg4 v X4 k acc) (trip_k0_t1.sl.v233 (F := F) i arg4 arg5 v X4 X5 k acc) (rows (arg4.view.read (Elt F) X4) 0 (4 * k.val + 2)) (tile (arg5.view.read (Elt F) X5) 0 (4 * k.val + 2)) :=
  congrArg₂ (k0_pay62 v (trip_k0_t1.sl.v220 (F := F) i arg4 v X4 k acc) (trip_k0_t1.sl.v233 (F := F) i arg4 arg5 v X4 X5 k acc)) (read_rows 0 (off1_2 i k) arg4 X4 (k0_off1_inb i k 2)) (read_tile 0 (off2_2 i k) arg5 X5 (k0_off2_inb i k 2))

theorem m0_3 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v308 (F := F) i arg4 v X4 k acc = k0_pay61 v (trip_k0_t1.sl.v264 (F := F) i arg4 v X4 k acc) (rows (arg4.view.read (Elt F) X4) 0 (4 * k.val + 3)) :=
  congrArg (k0_pay61 v (trip_k0_t1.sl.v264 (F := F) i arg4 v X4 k acc)) (read_rows 0 (off1_3 i k) arg4 X4 (k0_off1_inb i k 3))

theorem a0_3 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v321 (F := F) i arg4 arg5 v X4 X5 k acc = k0_pay62 v (trip_k0_t1.sl.v264 (F := F) i arg4 v X4 k acc) (trip_k0_t1.sl.v277 (F := F) i arg4 arg5 v X4 X5 k acc) (rows (arg4.view.read (Elt F) X4) 0 (4 * k.val + 3)) (tile (arg5.view.read (Elt F) X5) 0 (4 * k.val + 3)) :=
  congrArg₂ (k0_pay62 v (trip_k0_t1.sl.v264 (F := F) i arg4 v X4 k acc) (trip_k0_t1.sl.v277 (F := F) i arg4 arg5 v X4 X5 k acc)) (read_rows 0 (off1_3 i k) arg4 X4 (k0_off1_inb i k 3)) (read_tile 0 (off2_3 i k) arg5 X5 (k0_off2_inb i k 3))

theorem m1_0 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v196 (F := F) i arg4 v X4 k acc = k0_pay61 v acc.2.2.1 (rows (arg4.view.read (Elt F) X4) 1 (4 * k.val + 0)) :=
  congrArg (k0_pay61 v acc.2.2.1) (read_rows 1 (off3_0 i k) arg4 X4 (k0_off3_inb i k 0))

theorem a1_0 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v209 (F := F) i arg4 arg5 v X4 X5 k acc = k0_pay62 v acc.2.2.1 acc.2.2.2 (rows (arg4.view.read (Elt F) X4) 1 (4 * k.val + 0)) (tile (arg5.view.read (Elt F) X5) 1 (4 * k.val + 0)) :=
  congrArg₂ (k0_pay62 v acc.2.2.1 acc.2.2.2) (read_rows 1 (off3_0 i k) arg4 X4 (k0_off3_inb i k 0)) (read_tile 1 (off4_0 i k) arg5 X5 (k0_off4_inb i k 0))

theorem m1_1 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v240 (F := F) i arg4 v X4 k acc = k0_pay61 v (trip_k0_t1.sl.v196 (F := F) i arg4 v X4 k acc) (rows (arg4.view.read (Elt F) X4) 1 (4 * k.val + 1)) :=
  congrArg (k0_pay61 v (trip_k0_t1.sl.v196 (F := F) i arg4 v X4 k acc)) (read_rows 1 (off3_1 i k) arg4 X4 (k0_off3_inb i k 1))

theorem a1_1 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v253 (F := F) i arg4 arg5 v X4 X5 k acc = k0_pay62 v (trip_k0_t1.sl.v196 (F := F) i arg4 v X4 k acc) (trip_k0_t1.sl.v209 (F := F) i arg4 arg5 v X4 X5 k acc) (rows (arg4.view.read (Elt F) X4) 1 (4 * k.val + 1)) (tile (arg5.view.read (Elt F) X5) 1 (4 * k.val + 1)) :=
  congrArg₂ (k0_pay62 v (trip_k0_t1.sl.v196 (F := F) i arg4 v X4 k acc) (trip_k0_t1.sl.v209 (F := F) i arg4 arg5 v X4 X5 k acc)) (read_rows 1 (off3_1 i k) arg4 X4 (k0_off3_inb i k 1)) (read_tile 1 (off4_1 i k) arg5 X5 (k0_off4_inb i k 1))

theorem m1_2 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v284 (F := F) i arg4 v X4 k acc = k0_pay61 v (trip_k0_t1.sl.v240 (F := F) i arg4 v X4 k acc) (rows (arg4.view.read (Elt F) X4) 1 (4 * k.val + 2)) :=
  congrArg (k0_pay61 v (trip_k0_t1.sl.v240 (F := F) i arg4 v X4 k acc)) (read_rows 1 (off3_2 i k) arg4 X4 (k0_off3_inb i k 2))

theorem a1_2 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v297 (F := F) i arg4 arg5 v X4 X5 k acc = k0_pay62 v (trip_k0_t1.sl.v240 (F := F) i arg4 v X4 k acc) (trip_k0_t1.sl.v253 (F := F) i arg4 arg5 v X4 X5 k acc) (rows (arg4.view.read (Elt F) X4) 1 (4 * k.val + 2)) (tile (arg5.view.read (Elt F) X5) 1 (4 * k.val + 2)) :=
  congrArg₂ (k0_pay62 v (trip_k0_t1.sl.v240 (F := F) i arg4 v X4 k acc) (trip_k0_t1.sl.v253 (F := F) i arg4 arg5 v X4 X5 k acc)) (read_rows 1 (off3_2 i k) arg4 X4 (k0_off3_inb i k 2)) (read_tile 1 (off4_2 i k) arg5 X5 (k0_off4_inb i k 2))

theorem m1_3 (i : grid0.Coords) (arg4 : Memref sig .tc .vmem S2x8320x128 .bf16) (arg5 : Memref sig .tc .vmem S2x13x80x640 .bf16) (v : FVec F S128x640 .bf16) (X4 : BufTy.Contents (Elt F) arg4.view.ty) (X5 : BufTy.Contents (Elt F) arg5.view.ty) (k : Fin (k0_t1_loop i).trips) (acc : Carry F) :
    trip_k0_t1.sl.v328 (F := F) i arg4 v X4 k acc = k0_pay61 v (trip_k0_t1.sl.v284 (F := F) i arg4 v X4 k acc) (rows (arg4.view.read (Elt F) X4) 1 (4 * k.val + 3)) :=
  congrArg (k0_pay61 v (trip_k0_t1.sl.v284 (F := F) i arg4 v X4 k acc)) (read_rows 1 (off3_3 i k) arg4 X4 (k0_off3_inb i k 3))

set_option maxHeartbeats 4000000 in
/-- One trip over four blocks. -/
theorem trip1 (𝒱 : Variants) (c : Dev nD) (bd : Option 𝒱.V) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole) (arg1 : BitVec 32) (v17 v34 : FVec F S128x640 .bf16) (v35 : FVec F S1x640 .f32) (v36 : FVec F S80x640 .f32) (X4 : BufTy.Contents (Elt F) arg4.view.ty) (X5 : BufTy.Contents (Elt F) arg5.view.ty) (k : Fin (k0_t1_loop i).trips) (acc : Carry F) :
    tripR_k0_t1 (F := F) 𝒱 c bd i arg2 harg2 arg3 harg3 arg4 harg4 arg5 harg5 arg6 harg6 arg7 harg7 arg1 v17 v34 v35 v36 X4 X5 k acc
      = run4 (step v17 v34 (arg4.view.read (Elt F) X4) (arg5.view.read (Elt F) X5)) (4 * k.val) acc := by
  unfold tripR_k0_t1 trip_k0_t1
  dsimp only
  refine (show _ = (trip_k0_t1.sl.v308 (F := F) i arg4 v17 X4 k acc, trip_k0_t1.sl.v321 (F := F) i arg4 arg5 v17 X4 X5 k acc, trip_k0_t1.sl.v328 (F := F) i arg4 v34 X4 k acc,
    k0_pay62 v34 (trip_k0_t1.sl.v284 (F := F) i arg4 v34 X4 k acc) (trip_k0_t1.sl.v297 (F := F) i arg4 arg5 v34 X4 X5 k acc) (View.readAt (Elt F) arg4.view (Rect.unit (s := S2x8320x128) (k0_off3 i k 3#32) S1x640x128.size (k0_off3_inb i k 3)).toLoadRect X4) (View.readAt (Elt F) arg5.view (Rect.unit (s := S2x13x80x640) (k0_off4 i k 3#32) S1x1x80x640.size (k0_off4_inb i k 3)).toLoadRect X5)) from rfl).trans ?_
  rw [read_rows 1 (off3_3 i k), read_tile 1 (off4_3 i k),
    m0_3 i arg4 arg5 v17 X4 X5, a0_3, m0_2 i arg4 arg5 v17 X4 X5, a0_2, m0_1 i arg4 arg5 v17 X4 X5, a0_1, m0_0 i arg4 arg5 v17 X4 X5, a0_0,
    m1_3 i arg4 arg5 v34 X4 X5, m1_2 i arg4 arg5 v34 X4 X5, a1_2, m1_1 i arg4 arg5 v34 X4 X5, a1_1, m1_0 i arg4 arg5 v34 X4 X5, a1_0]
  rfl

/-- The loop over groups of four: every block before its end, one after another. -/
theorem loop1 (𝒱 : Variants) (c : Dev nD) (bd : Option 𝒱.V) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole) (arg1 : BitVec 32) (v17 v34 : FVec F S128x640 .bf16) (v35 : FVec F S1x640 .f32) (v36 : FVec F S80x640 .f32) (X4 : BufTy.Contents (Elt F) arg4.view.ty) (X5 : BufTy.Contents (Elt F) arg5.view.ty) (x : Carry F) (n : ℕ) (hn : n ≤ (k0_t1_loop i).trips) :
    st_k0_t1 (F := F) 𝒱 c bd i arg2 harg2 arg3 harg3 arg4 harg4 arg5 harg5 arg6 harg6 arg7 harg7 arg1 v17 v34 v35 v36 X4 X5 x n
      = run (step v17 v34 (arg4.view.read (Elt F) X4) (arg5.view.read (Elt F) X5)) (4 * n) x := by
  induction n with
  | zero => exact st_k0_t1_zero ..
  | succ n ih =>
    rw [st_k0_t1_succ (F := F) 𝒱 c bd i arg2 harg2 arg3 harg3 arg4 harg4 arg5 harg5 arg6 harg6 arg7 harg7 arg1 v17 v34 v35 v36 X4 X5 x ⟨n, hn⟩, trip1, ih (by omega)]
    rfl

set_option maxHeartbeats 4000000 in
/-- One trip over one block. -/
theorem trip3 (𝒱 : Variants) (c : Dev nD) (bd : Option 𝒱.V) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole) (arg1 : BitVec 32) (v17 v34 : FVec F S128x640 .bf16) (m0 : FVec F S1x640 .f32) (a0 : FVec F S80x640 .f32) (m1 : FVec F S1x640 .f32) (a1 : FVec F S80x640 .f32) (w : BitVec 32) (b : BitVec 1) (w' : BitVec 32)
    (X4 : BufTy.Contents (Elt F) arg4.view.ty) (X5 : BufTy.Contents (Elt F) arg5.view.ty) (k : Fin (k0_t3_loop i).trips) (acc : Carry F) :
    tripR_k0_t3 (F := F) 𝒱 c bd i arg2 harg2 arg3 harg3 arg4 harg4 arg5 harg5 arg6 harg6 arg7 harg7 arg1 v17 v34 m0 a0 m1 a1 w b w' X4 X5 k acc
      = step v17 v34 (arg4.view.read (Elt F) X4) (arg5.view.read (Elt F) X5) (4 * ((i 1).val / 4) + k.val) acc := by
  unfold tripR_k0_t3 trip_k0_t3
  dsimp only
  refine (show _ = (k0_pay61 v17 acc.1 (View.readAt (Elt F) arg4.view (Rect.unit (s := S2x8320x128) (k0_off9 i k) S1x640x128.size (k0_off9_inb i k)).toLoadRect X4), k0_pay62 v17 acc.1 acc.2.1 (View.readAt (Elt F) arg4.view (Rect.unit (s := S2x8320x128) (k0_off9 i k) S1x640x128.size (k0_off9_inb i k)).toLoadRect X4) (View.readAt (Elt F) arg5.view (Rect.unit (s := S2x13x80x640) (k0_off10 i k) S1x1x80x640.size (k0_off10_inb i k)).toLoadRect X5),
    k0_pay61 v34 acc.2.2.1 (View.readAt (Elt F) arg4.view (Rect.unit (s := S2x8320x128) (k0_off11 i k) S1x640x128.size (k0_off11_inb i k)).toLoadRect X4), k0_pay62 v34 acc.2.2.1 acc.2.2.2 (View.readAt (Elt F) arg4.view (Rect.unit (s := S2x8320x128) (k0_off11 i k) S1x640x128.size (k0_off11_inb i k)).toLoadRect X4) (View.readAt (Elt F) arg5.view (Rect.unit (s := S2x13x80x640) (k0_off12 i k) S1x1x80x640.size (k0_off12_inb i k)).toLoadRect X5)) from rfl).trans ?_
  rw [read_rows 0 (off9 i k), read_tile 0 (off10 i k), read_rows 1 (off11 i k), read_tile 1 (off12 i k)]
  rfl

/-- The loop over the blocks left before the diagonal. -/
theorem loop3 (𝒱 : Variants) (c : Dev nD) (bd : Option 𝒱.V) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole) (arg1 : BitVec 32) (v17 v34 : FVec F S128x640 .bf16) (m0 : FVec F S1x640 .f32) (a0 : FVec F S80x640 .f32) (m1 : FVec F S1x640 .f32) (a1 : FVec F S80x640 .f32) (w : BitVec 32) (b : BitVec 1) (w' : BitVec 32)
    (X4 : BufTy.Contents (Elt F) arg4.view.ty) (X5 : BufTy.Contents (Elt F) arg5.view.ty) (x : Carry F) (n : ℕ) (hn : n ≤ (k0_t3_loop i).trips) :
    st_k0_t3 (F := F) 𝒱 c bd i arg2 harg2 arg3 harg3 arg4 harg4 arg5 harg5 arg6 harg6 arg7 harg7 arg1 v17 v34 m0 a0 m1 a1 w b w' X4 X5 (run (step v17 v34 (arg4.view.read (Elt F) X4) (arg5.view.read (Elt F) X5)) (4 * ((i 1).val / 4)) x) n
      = run (step v17 v34 (arg4.view.read (Elt F) X4) (arg5.view.read (Elt F) X5)) (4 * ((i 1).val / 4) + n) x := by
  induction n with
  | zero => exact st_k0_t3_zero ..
  | succ n ih =>
    rw [st_k0_t3_succ (F := F) 𝒱 c bd i arg2 harg2 arg3 harg3 arg4 harg4 arg5 harg5 arg6 harg6 arg7 harg7 arg1 v17 v34 m0 a0 m1 a1 w b w' X4 X5 _ ⟨n, hn⟩, trip3, ih (by omega)]
    rfl

end Cert.AttnFwd
-- ==== Proof.AttnFwd.End.lean ====
/-
  What one run of the attention forward kernel's body leaves in its two output buffers: the running maximum and
  weighted sum over every block before the diagonal, then the diagonal block with the future masked, then the
  quotient and the logarithm.
-/
module

public import proofs.«01_k».proof.Proof.AttnFwd.Blocks
public import proofs.«01_k».proof.Proof.Gen.AttnFwdIdeal.Frame

@[expose] public section

set_option maxRecDepth 16384

noncomputable section

namespace Cert.AttnFwd

open Idealize.ShloMosaic Idealize.ShloMosaic.TcCoe Idealize.ShloMosaic.Tactic
open Cert.AttnFwdIdeal Cert.AttnFwdIdeal.Gen
open Cert.Attn (run run_succ)

variable {F : FTy → Type} [FloatOps F] [Named F]

theorem eta (p : Carry F) : (p.1, p.2.1, p.2.2.1, p.2.2.2) = p := rfl

theorem after2 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    (kernelRun0_A.sl.r_2 (F := F) c i arg2 harg2 arg3 harg3 arg4 harg4 arg5 harg5 arg6 harg6 arg7 harg7 x0 x1 x2 x3, kernelRun0_A.sl.r_3 (F := F) c i arg2 harg2 arg3 harg3 arg4 harg4 arg5 harg5 arg6 harg6 arg7 harg7 x0 x1 x2 x3, kernelRun0_A.sl.r_4 (F := F) c i arg2 harg2 arg3 harg3 arg4 harg4 arg5 harg5 arg6 harg6 arg7 harg7 x0 x1 x2 x3, kernelRun0_A.sl.r_5 (F := F) c i arg2 harg2 arg3 harg3 arg4 harg4 arg5 harg5 arg6 harg6 arg7 harg7 x0 x1 x2 x3) = (run (step (kernelRun0_A.sl.r (F := F) c arg2 harg2 arg3 harg3 x0 x1) (kernelRun0_A.sl.r_1 (F := F) c arg2 harg2 arg3 harg3 x0 x1) x2 x3) (4 * ((i 1).val / 4)) (k0_pay75, k0_pay76, k0_pay77, k0_pay78)) := by
  refine (show _ = ((st_k0_t2 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (kernelRun0_A.sl.v60 i) (harg4.unread x2) (harg5.unread x3) (st_k0_t1 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (harg4.unread x2) (harg5.unread x3) (k0_pay75, k0_pay76, k0_pay77, k0_pay78) (k0_t1_loop i).trips) (k0_t2_loop i).trips).1, (st_k0_t2 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (kernelRun0_A.sl.v60 i) (harg4.unread x2) (harg5.unread x3) (st_k0_t1 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (harg4.unread x2) (harg5.unread x3) (k0_pay75, k0_pay76, k0_pay77, k0_pay78) (k0_t1_loop i).trips) (k0_t2_loop i).trips).2.1, (st_k0_t2 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (kernelRun0_A.sl.v60 i) (harg4.unread x2) (harg5.unread x3) (st_k0_t1 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (harg4.unread x2) (harg5.unread x3) (k0_pay75, k0_pay76, k0_pay77, k0_pay78) (k0_t1_loop i).trips) (k0_t2_loop i).trips).2.2.1, (st_k0_t2 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (kernelRun0_A.sl.v60 i) (harg4.unread x2) (harg5.unread x3) (st_k0_t1 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (harg4.unread x2) (harg5.unread x3) (k0_pay75, k0_pay76, k0_pay77, k0_pay78) (k0_t1_loop i).trips) (k0_t2_loop i).trips).2.2.2) from rfl).trans ?_
  refine (eta _).trans ?_
  rw [trips2]
  refine (st_k0_t2_zero ..).trans ?_
  refine (loop1 Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) k0_pay75 k0_pay76 (harg4.unread x2) (harg5.unread x3) (k0_pay75, k0_pay76, k0_pay77, k0_pay78) _ le_rfl).trans ?_
  rw [trips1, harg4.read_unread, harg5.read_unread]

theorem after4 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    (st_k0_t4 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v85 i) (harg4.unread x2) (harg5.unread x3) (st_k0_t3 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v80 i) (harg4.unread x2) (harg5.unread x3) (kernelRun0_A.sl.r_2 (F := F) c i arg2 harg2 arg3 harg3 arg4 harg4 arg5 harg5 arg6 harg6 arg7 harg7 x0 x1 x2 x3, kernelRun0_A.sl.r_3 (F := F) c i arg2 harg2 arg3 harg3 arg4 harg4 arg5 harg5 arg6 harg6 arg7 harg7 x0 x1 x2 x3, kernelRun0_A.sl.r_4 (F := F) c i arg2 harg2 arg3 harg3 arg4 harg4 arg5 harg5 arg6 harg6 arg7 harg7 x0 x1 x2 x3, kernelRun0_A.sl.r_5 (F := F) c i arg2 harg2 arg3 harg3 arg4 harg4 arg5 harg5 arg6 harg6 arg7 harg7 x0 x1 x2 x3) (k0_t3_loop i).trips) (k0_t4_loop i).trips) = (run (step (kernelRun0_A.sl.r (F := F) c arg2 harg2 arg3 harg3 x0 x1) (kernelRun0_A.sl.r_1 (F := F) c arg2 harg2 arg3 harg3 x0 x1) x2 x3) ((i 1).val) (k0_pay75, k0_pay76, k0_pay77, k0_pay78)) := by
  rw [trips4]
  refine (st_k0_t4_zero ..).trans ?_
  rw [after2]
  have h := loop3 Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v80 i) (harg4.unread x2) (harg5.unread x3) (k0_pay75, k0_pay76, k0_pay77, k0_pay78) _ le_rfl
  rw [harg4.read_unread, harg5.read_unread] at h
  refine h.trans ?_
  rw [trips3, Nat.div_add_mod]

/-- The first head's maximum and weighted sum, and the second's before the diagonal. -/
theorem r8 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    kernelRun0_A.sl.r_8 (F := F) c i arg2 harg2 arg3 harg3 arg4 harg4 arg5 harg5 arg6 harg6 arg7 harg7 x0 x1 x2 x3 = k0_pay82 (kernelRun0_A.sl.r (F := F) c arg2 harg2 arg3 harg3 x0 x1) (run (step (kernelRun0_A.sl.r (F := F) c arg2 harg2 arg3 harg3 x0 x1) (kernelRun0_A.sl.r_1 (F := F) c arg2 harg2 arg3 harg3 x0 x1) x2 x3) ((i 1).val) (k0_pay75, k0_pay76, k0_pay77, k0_pay78)).1 (rows x2 0 (i 1).val) := by
  rw [← after4 c i arg2 harg2 arg3 harg3 arg4 harg4 arg5 harg5 arg6 harg6 arg7 harg7 x0 x1 x2 x3]
  refine (show _ = k0_pay82 (kernelRun0_A.sl.r (F := F) c arg2 harg2 arg3 harg3 x0 x1) (st_k0_t4 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v85 i) (harg4.unread x2) (harg5.unread x3) (st_k0_t3 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v80 i) (harg4.unread x2) (harg5.unread x3) (kernelRun0_A.sl.r_2 (F := F) c i arg2 harg2 arg3 harg3 arg4 harg4 arg5 harg5 arg6 harg6 arg7 harg7 x0 x1 x2 x3, kernelRun0_A.sl.r_3 (F := F) c i arg2 harg2 arg3 harg3 arg4 harg4 arg5 harg5 arg6 harg6 arg7 harg7 x0 x1 x2 x3, kernelRun0_A.sl.r_4 (F := F) c i arg2 harg2 arg3 harg3 arg4 harg4 arg5 harg5 arg6 harg6 arg7 harg7 x0 x1 x2 x3, kernelRun0_A.sl.r_5 (F := F) c i arg2 harg2 arg3 harg3 arg4 harg4 arg5 harg5 arg6 harg6 arg7 harg7 x0 x1 x2 x3) (k0_t3_loop i).trips) (k0_t4_loop i).trips).1 (View.readAt (Elt F) arg4.view (Rect.unit (s := S2x8320x128) (k0_off17 i) S1x640x128.size (k0_off17_inb i)).toLoadRect (harg4.unread x2)) from rfl).trans ?_
  rw [read_rows 0 (off17 i), harg4.read_unread]

theorem r9 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    kernelRun0_A.sl.r_9 (F := F) c i arg2 harg2 arg3 harg3 arg4 harg4 arg5 harg5 arg6 harg6 arg7 harg7 x0 x1 x2 x3 = k0_pay83 (kernelRun0_A.sl.r (F := F) c arg2 harg2 arg3 harg3 x0 x1) (run (step (kernelRun0_A.sl.r (F := F) c arg2 harg2 arg3 harg3 x0 x1) (kernelRun0_A.sl.r_1 (F := F) c arg2 harg2 arg3 harg3 x0 x1) x2 x3) ((i 1).val) (k0_pay75, k0_pay76, k0_pay77, k0_pay78)).1 (run (step (kernelRun0_A.sl.r (F := F) c arg2 harg2 arg3 harg3 x0 x1) (kernelRun0_A.sl.r_1 (F := F) c arg2 harg2 arg3 harg3 x0 x1) x2 x3) ((i 1).val) (k0_pay75, k0_pay76, k0_pay77, k0_pay78)).2.1 (rows x2 0 (i 1).val) (tile x3 0 (i 1).val) := by
  rw [← after4 c i arg2 harg2 arg3 harg3 arg4 harg4 arg5 harg5 arg6 harg6 arg7 harg7 x0 x1 x2 x3]
  refine (show _ = k0_pay83 (kernelRun0_A.sl.r (F := F) c arg2 harg2 arg3 harg3 x0 x1) (st_k0_t4 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v85 i) (harg4.unread x2) (harg5.unread x3) (st_k0_t3 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v80 i) (harg4.unread x2) (harg5.unread x3) (kernelRun0_A.sl.r_2 (F := F) c i arg2 harg2 arg3 harg3 arg4 harg4 arg5 harg5 arg6 harg6 arg7 harg7 x0 x1 x2 x3, kernelRun0_A.sl.r_3 (F := F) c i arg2 harg2 arg3 harg3 arg4 harg4 arg5 harg5 arg6 harg6 arg7 harg7 x0 x1 x2 x3, kernelRun0_A.sl.r_4 (F := F) c i arg2 harg2 arg3 harg3 arg4 harg4 arg5 harg5 arg6 harg6 arg7 harg7 x0 x1 x2 x3, kernelRun0_A.sl.r_5 (F := F) c i arg2 harg2 arg3 harg3 arg4 harg4 arg5 harg5 arg6 harg6 arg7 harg7 x0 x1 x2 x3) (k0_t3_loop i).trips) (k0_t4_loop i).trips).1 (st_k0_t4 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v85 i) (harg4.unread x2) (harg5.unread x3) (st_k0_t3 (F := F) Variants.none c none i arg2 harg2 arg3 harg3 arg4 harg4 arg5 harg5 arg6 harg6 arg7 harg7 (BitVec.ofNat 32 (i 1).val) (kernelRun0_A.sl.r (F := F) c arg2 harg2 arg3 harg3 x0 x1) (kernelRun0_A.sl.r_1 (F := F) c arg2 harg2 arg3 harg3 x0 x1) (kernelRun0_A.sl.r_2 (F := F) c i arg2 harg2 arg3 harg3 arg4 harg4 arg5 harg5 arg6 harg6 arg7 harg7 x0 x1 x2 x3) (kernelRun0_A.sl.r_3 (F := F) c i arg2 harg2 arg3 harg3 arg4 harg4 arg5 harg5 arg6 harg6 arg7 harg7 x0 x1 x2 x3) (kernelRun0_A.sl.r_4 (F := F) c i arg2 harg2 arg3 harg3 arg4 harg4 arg5 harg5 arg6 harg6 arg7 harg7 x0 x1 x2 x3) (kernelRun0_A.sl.r_5 (F := F) c i arg2 harg2 arg3 harg3 arg4 harg4 arg5 harg5 arg6 harg6 arg7 harg7 x0 x1 x2 x3) (kernelRun0_A.sl.v63 i) (kernelRun0_A.sl.v77 i) (kernelRun0_A.sl.v80 i) (harg4.unread x2) (harg5.unread x3) (kernelRun0_A.sl.r_2 (F := F) c i arg2 harg2 arg3 harg3 arg4 harg4 arg5 harg5 arg6 harg6 arg7 harg7 x0 x1 x2 x3, kernelRun0_A.sl.r_3 (F := F) c i arg2 harg2 arg3 harg3 arg4 harg4 arg5 harg5 arg6 harg6 arg7 harg7 x0 x1 x2 x3, kernelRun0_A.sl.r_4 (F := F) c i arg2 harg2 arg3 harg3 arg4 harg4 arg5 harg5 arg6 harg6 arg7 harg7 x0 x1 x2 x3, kernelRun0_A.sl.r_5 (F := F) c i arg2 harg2 arg3 harg3 arg4 harg4 arg5 harg5 arg6 harg6 arg7 harg7 x0 x1 x2 x3) (k0_t3_loop i).trips) (k0_t4_loop i).trips).2.1 (View.readAt (Elt F) arg4.view (Rect.unit (s := S2x8320x128) (k0_off17 i) S1x640x128.size (k0_off17_inb i)).toLoadRect (harg4.unread x2)) (View.readAt (Elt F) arg5.view (Rect.unit (s := S2x13x80x640) (k0_off18 i) S1x1x80x640.size (k0_off18_inb i)).toLoadRect (harg5.unread x3)) from rfl).trans ?_
  rw [read_rows 0 (off17 i), read_tile 0 (off18 i), harg4.read_unread, harg5.read_unread]

theorem r6 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    kernelRun0_A.sl.r_6 (F := F) c i arg2 harg2 arg3 harg3 arg4 harg4 arg5 harg5 arg6 harg6 arg7 harg7 x0 x1 x2 x3 = (run (step (kernelRun0_A.sl.r (F := F) c arg2 harg2 arg3 harg3 x0 x1) (kernelRun0_A.sl.r_1 (F := F) c arg2 harg2 arg3 harg3 x0 x1) x2 x3) ((i 1).val) (k0_pay75, k0_pay76, k0_pay77, k0_pay78)).2.2.1 :=
  congrArg (fun p : Carry F => p.2.2.1) (after4 c i arg2 harg2 arg3 harg3 arg4 harg4 arg5 harg5 arg6 harg6 arg7 harg7 x0 x1 x2 x3)

theorem r7 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    kernelRun0_A.sl.r_7 (F := F) c i arg2 harg2 arg3 harg3 arg4 harg4 arg5 harg5 arg6 harg6 arg7 harg7 x0 x1 x2 x3 = (run (step (kernelRun0_A.sl.r (F := F) c arg2 harg2 arg3 harg3 x0 x1) (kernelRun0_A.sl.r_1 (F := F) c arg2 harg2 arg3 harg3 x0 x1) x2 x3) ((i 1).val) (k0_pay75, k0_pay76, k0_pay77, k0_pay78)).2.2.2 :=
  congrArg (fun p : Carry F => p.2.2.2) (after4 c i arg2 harg2 arg3 harg3 arg4 harg4 arg5 harg5 arg6 harg6 arg7 harg7 x0 x1 x2 x3)

theorem r10 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    kernelRun0_A.sl.r_10 (F := F) c i arg2 harg2 arg3 harg3 arg4 harg4 x0 x1 x2 = k0_pay84 (kernelRun0_A.sl.r_1 (F := F) c arg2 harg2 arg3 harg3 x0 x1) (rows x2 1 (i 1).val) := by
  refine (show _ = k0_pay84 (kernelRun0_A.sl.r_1 (F := F) c arg2 harg2 arg3 harg3 x0 x1) (View.readAt (Elt F) arg4.view (Rect.unit (s := S2x8320x128) (k0_off19 i) S1x640x128.size (k0_off19_inb i)).toLoadRect (harg4.unread x2)) from rfl).trans ?_
  rw [read_rows 1 (off19 i), harg4.read_unread]

/-- Head `e`'s part of the queries and of the gate. -/
def q1 (x : Vec F S2x64x640 .bf16) (e : Fin 2) : Vec F S1x64x640 .bf16 :=
  fun y => x (fun a => match a with | ⟨0, _⟩ => e | ⟨1, _⟩ => y 1 | ⟨2, _⟩ => y 2)
def c1 (x : Vec F S2x1x640 .f32) (e : Fin 2) : Vec F S1x1x640 .f32 :=
  fun y => x (fun a => match a with | ⟨0, _⟩ => e | ⟨1, _⟩ => y 1 | ⟨2, _⟩ => y 2)

theorem window_q (x : Vec F S2x64x640 .bf16) (e : Fin 2) (inb) : VecWindow.window x ![e.val, 0, 0] S1x64x640.size inb = q1 x e := by
  funext y
  refine congrArg x (funext fun a => Fin.ext ?_)
  fin_cases a
  · show e.val + 1 * (y 0).val = e.val
    have h3 : (y 0).val < 1 := (y 0).isLt
    omega
  · show 0 + 1 * (y 1).val = (y 1).val; omega
  · show 0 + 1 * (y 2).val = (y 2).val; omega

theorem window_c (x : Vec F S2x1x640 .f32) (e : Fin 2) (inb) : VecWindow.window x ![e.val, 0, 0] S1x1x640.size inb = c1 x e := by
  funext y
  refine congrArg x (funext fun a => Fin.ext ?_)
  fin_cases a
  · show e.val + 1 * (y 0).val = e.val
    have h3 : (y 0).val < 1 := (y 0).isLt
    omega
  · show 0 + 1 * (y 1).val = (y 1).val; omega
  · show 0 + 1 * (y 2).val = (y 2).val; omega

theorem qa (c : Dev nD) (arg2 : Memref sig .tc .vmem S2x64x640 .bf16) (harg2 : arg2.IsWhole) (arg3 : Memref sig .tc .vmem S2x1x640 .f32) (harg3 : arg3.IsWhole) (x0 : Vec F S2x64x640 .bf16) (x1 : Vec F S2x1x640 .f32) :
    (kernelRun0_A.sl.r (F := F) c arg2 harg2 arg3 harg3 x0 x1) = k0_pay73 (q1 x0 0) (c1 x1 0) :=
  congrArg₂ k0_pay73 (((View.readAt_unit _ _ _ rfl _).trans (window_q _ 0 _)).trans (by rw [harg2.read_unread]))
    (((View.readAt_unit _ _ _ rfl _).trans (window_c _ 0 _)).trans (by rw [harg3.read_unread]))

theorem qb (c : Dev nD) (arg2 : Memref sig .tc .vmem S2x64x640 .bf16) (harg2 : arg2.IsWhole) (arg3 : Memref sig .tc .vmem S2x1x640 .f32) (harg3 : arg3.IsWhole) (x0 : Vec F S2x64x640 .bf16) (x1 : Vec F S2x1x640 .f32) :
    (kernelRun0_A.sl.r_1 (F := F) c arg2 harg2 arg3 harg3 x0 x1) = k0_pay73 (q1 x0 1) (c1 x1 1) :=
  congrArg₂ k0_pay73 (((View.readAt_unit _ _ _ rfl _).trans (window_q _ 1 _)).trans (by rw [harg2.read_unread]))
    (((View.readAt_unit _ _ _ rfl _).trans (window_c _ 1 _)).trans (by rw [harg3.read_unread]))

/-- The carry of one head alone: what the kernel carries for it through the blocks before `n`. -/
def one (a : FVec F S128x640 .bf16) (k : Vec F S2x8320x128 .bf16) (v : Vec F S2x13x80x640 .bf16) (e : Fin 2) (n : ℕ) : FVec F S1x640 .f32 × FVec F S80x640 .f32 :=
  run (fun j x => (k0_pay61 a x.1 (rows k e j), k0_pay62 a x.1 x.2 (rows k e j) (tile v e j))) n (k0_pay75, k0_pay76)

theorem run_one (a b : FVec F S128x640 .bf16) (k : Vec F S2x8320x128 .bf16) (v : Vec F S2x13x80x640 .bf16) (n : ℕ) :
    run (step a b k v) n (k0_pay75, k0_pay76, k0_pay77, k0_pay78) = ((one a k v 0 n).1, (one a k v 0 n).2, (one b k v 1 n).1, (one b k v 1 n).2) := by
  induction n with
  | zero => rfl
  | succ n ih => rw [run_succ, ih]; rfl

/-- The two outputs of one head: the weighted sum over its last row, and the maximum with that row's logarithm. -/
def last (x0 : Vec F S2x64x640 .bf16) (x1 : Vec F S2x1x640 .f32) (k : Vec F S2x8320x128 .bf16) (v : Vec F S2x13x80x640 .bf16) (e : Fin 2) (n : ℕ) : FVec F S1x640 .f32 × FVec F S80x640 .f32 :=
  let a := k0_pay73 (q1 x0 e) (c1 x1 e)
  (k0_pay82 a (one a k v e n).1 (rows k e n), k0_pay83 a (one a k v e n).1 (one a k v e n).2 (rows k e n) (tile v e n))

theorem pieces4 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    (kernelRun0_A (F := F) c i arg2 harg2 arg3 harg3 arg4 harg4 arg5 harg5 arg6 harg6 arg7 harg7 x0 x1 x2 x3).1
      = [⟨Rect.unit (s := S2x64x640) ![1, 0, 0] S1x64x640.size inb_S2x64x640_S1x64x640_1_0_0, k0_pay89 (last x0 x1 x2 x3 1 (i 1).val).2⟩,
         ⟨Rect.unit (s := S2x64x640) ![0, 0, 0] S1x64x640.size inb_S2x64x640_S1x64x640_0_0_0, k0_pay89 (last x0 x1 x2 x3 0 (i 1).val).2⟩] := by
  unfold kernelRun0_A
  dsimp only
  refine congrArg₂ (fun u w => [(⟨Rect.unit (s := S2x64x640) ![1, 0, 0] S1x64x640.size inb_S2x64x640_S1x64x640_1_0_0, u⟩ : View.Piece (Elt F) S2x64x640 .bf16), ⟨Rect.unit (s := S2x64x640) ![0, 0, 0] S1x64x640.size inb_S2x64x640_S1x64x640_0_0_0, w⟩]) ?_ ?_
  · refine (show _ = k0_pay92 (kernelRun0_A.sl.r_6 (F := F) c i arg2 harg2 arg3 harg3 arg4 harg4 arg5 harg5 arg6 harg6 arg7 harg7 x0 x1 x2 x3) (kernelRun0_A.sl.r_7 (F := F) c i arg2 harg2 arg3 harg3 arg4 harg4 arg5 harg5 arg6 harg6 arg7 harg7 x0 x1 x2 x3) (kernelRun0_A.sl.r_10 (F := F) c i arg2 harg2 arg3 harg3 arg4 harg4 x0 x1 x2) kernelRun0_A.sl.v119 (View.readAt (Elt F) arg5.view (Rect.unit (s := S2x13x80x640) (k0_off20 i) S1x1x80x640.size (k0_off20_inb i)).toLoadRect (harg5.unread x3)) from rfl).trans ?_
    rw [read_tile 1 (off20 i), harg5.read_unread, r6, r7, r10 c i arg2 harg2 arg3 harg3 arg4 harg4 arg5 harg5 arg6 harg6 arg7 harg7 x0 x1 x2 x3, run_one, qa, qb]
    rfl
  · rw [r9, run_one, qa, qb]
    rfl

theorem pieces5 (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
    (x0 : Vec F S2x64x640 .bf16) (x1 : Vec F S2x1x640 .f32) (x2 : Vec F S2x8320x128 .bf16) (x3 : Vec F S2x13x80x640 .bf16) :
    (kernelRun0_A (F := F) c i arg2 harg2 arg3 harg3 arg4 harg4 arg5 harg5 arg6 harg6 arg7 harg7 x0 x1 x2 x3).2.1
      = [⟨Rect.unit (s := S2x1x640) ![1, 0, 0] S1x1x640.size inb_S2x1x640_S1x1x640_1_0_0, k0_pay90 (last x0 x1 x2 x3 1 (i 1).val).1 (last x0 x1 x2 x3 1 (i 1).val).2⟩,
         ⟨Rect.unit (s := S2x1x640) ![0, 0, 0] S1x1x640.size inb_S2x1x640_S1x1x640_0_0_0, k0_pay90 (last x0 x1 x2 x3 0 (i 1).val).1 (last x0 x1 x2 x3 0 (i 1).val).2⟩] := by
  unfold kernelRun0_A
  dsimp only
  refine congrArg₂ (fun u w => [(⟨Rect.unit (s := S2x1x640) ![1, 0, 0] S1x1x640.size inb_S2x1x640_S1x1x640_1_0_0, u⟩ : View.Piece (Elt F) S2x1x640 .f32), ⟨Rect.unit (s := S2x1x640) ![0, 0, 0] S1x1x640.size inb_S2x1x640_S1x1x640_0_0_0, w⟩]) ?_ ?_
  · refine (show _ = k0_pay1 (k0_pay86 (kernelRun0_A.sl.r_6 (F := F) c i arg2 harg2 arg3 harg3 arg4 harg4 arg5 harg5 arg6 harg6 arg7 harg7 x0 x1 x2 x3) (kernelRun0_A.sl.r_10 (F := F) c i arg2 harg2 arg3 harg3 arg4 harg4 x0 x1 x2) kernelRun0_A.sl.v119)
      (k0_pay93 (kernelRun0_A.sl.r_6 (F := F) c i arg2 harg2 arg3 harg3 arg4 harg4 arg5 harg5 arg6 harg6 arg7 harg7 x0 x1 x2 x3) (kernelRun0_A.sl.r_7 (F := F) c i arg2 harg2 arg3 harg3 arg4 harg4 arg5 harg5 arg6 harg6 arg7 harg7 x0 x1 x2 x3) (kernelRun0_A.sl.r_10 (F := F) c i arg2 harg2 arg3 harg3 arg4 harg4 x0 x1 x2) kernelRun0_A.sl.v119 (View.readAt (Elt F) arg5.view (Rect.unit (s := S2x13x80x640) (k0_off20 i) S1x1x80x640.size (k0_off20_inb i)).toLoadRect (harg5.unread x3))) from rfl).trans ?_
    rw [read_tile 1 (off20 i), harg5.read_unread, r6, r7, r10 c i arg2 harg2 arg3 harg3 arg4 harg4 arg5 harg5 arg6 harg6 arg7 harg7 x0 x1 x2 x3, run_one, qa, qb]
    rfl
  · rw [r8, r9, run_one, qa, qb]
    rfl

end Cert.AttnFwd
-- ==== Proof.AttnFwd.Pay.lean ====
/-
  The attention forward kernel's vector operations, read at an index, over the extended reals.
-/
module

public import proofs.«01_k».proof.Proof.AttnFwd.End
public import proofs.«01_k».proof.Proof.Attn.Model

@[expose] public section

set_option maxRecDepth 16384

noncomputable section

namespace Cert.AttnFwd

open Idealize.ShloMosaic Idealize.ShloMosaic.TcCoe
open Cert.AttnFwdIdeal Cert.AttnFwdIdeal.Gen Cert.Math Cert.AttnModel

/-- One eighth, as the kernel's literal spells it. -/
abbrev e8 : EReal := Ideal.ofBits .bf16 15872#16

theorem hpay60 (a : FVec Ideal S128x640 .bf16) (k : Vec Ideal S1x640x128 .bf16) (s t : Fin 640) :
    k0_pay60 (F := Ideal) a k (ix2 s t) = ∑ x, k (ix3 0 s x) * a (ix2 x t) := by
  pointwise [k0_pay60]

theorem hpay61 (a : FVec Ideal S128x640 .bf16) (m : FVec Ideal S1x640 .f32) (k : Vec Ideal S1x640x128 .bf16) (t : Fin 640) :
    k0_pay61 (F := Ideal) a m k (ix2 0 t) = max (m (ix2 0 t)) (Finset.univ.fold max ⊥ fun s => k0_pay60 (F := Ideal) a k (ix2 s t)) := by
  pointwise [k0_pay61]
  rw [ofBits_neg_inf]

theorem hpay62 (a : FVec Ideal S128x640 .bf16) (m : FVec Ideal S1x640 .f32) (acc : FVec Ideal S80x640 .f32) (k : Vec Ideal S1x640x128 .bf16) (v : Vec Ideal S1x1x80x640 .bf16) (r : Fin 80) (t : Fin 640) :
    k0_pay62 (F := Ideal) a m acc k v (ix2 r t) = Ideal.exp (m (ix2 0 t) - k0_pay61 (F := Ideal) a m k (ix2 0 t)) * acc (ix2 r t)
      + ∑ s, v (ix4 0 0 r s) * Ideal.exp (k0_pay60 (F := Ideal) a k (ix2 s t) - k0_pay61 (F := Ideal) a m k (ix2 0 t)) := by
  pointwise [k0_pay62]

theorem hpay81 (a : FVec Ideal S128x640 .bf16) (k : Vec Ideal S1x640x128 .bf16) (s t : Fin 640) :
    k0_pay81 (F := Ideal) a k (ix2 s t) = if s.val ≤ t.val then k0_pay60 (F := Ideal) a k (ix2 s t) else ⊥ := by
  pointwise [k0_pay81]
  rw [select_le _ _ (by omega) (by omega)]
  exact if_congr Iff.rfl (hpay60 a k s t).symm rfl

theorem hpay82 (a : FVec Ideal S128x640 .bf16) (m : FVec Ideal S1x640 .f32) (k : Vec Ideal S1x640x128 .bf16) (t : Fin 640) :
    k0_pay82 (F := Ideal) a m k (ix2 0 t) = max (m (ix2 0 t)) (Finset.univ.fold max ⊥ fun s => k0_pay81 (F := Ideal) a k (ix2 s t)) := by
  pointwise [k0_pay82]
  rw [ofBits_neg_inf]

theorem hpay83 (a : FVec Ideal S128x640 .bf16) (m : FVec Ideal S1x640 .f32) (acc : FVec Ideal S80x640 .f32) (k : Vec Ideal S1x640x128 .bf16) (v : Vec Ideal S1x1x80x640 .bf16) (r : Fin 80) (t : Fin 640) :
    k0_pay83 (F := Ideal) a m acc k v (ix2 r t) = Ideal.exp (m (ix2 0 t) - k0_pay82 (F := Ideal) a m k (ix2 0 t)) * acc (ix2 r t)
      + ∑ s, v (ix4 0 0 r s) * Ideal.exp (k0_pay81 (F := Ideal) a k (ix2 s t) - k0_pay82 (F := Ideal) a m k (ix2 0 t)) := by
  pointwise [k0_pay83]

theorem hpay75 (t : Fin 640) : k0_pay75 (F := Ideal) (ix2 0 t) = ⊥ := by
  pointwise [k0_pay75]
  rfl

theorem hpay76 (r : Fin 80) (t : Fin 640) : k0_pay76 (F := Ideal) (ix2 r t) = 0 := by
  pointwise [k0_pay76]

theorem hpay89 (acc : FVec Ideal S80x640 .f32) (d : Fin 64) (t : Fin 640) :
    k0_pay89 (F := Ideal) acc (ix3 0 d t) = Ideal.div (acc (ix2 ⟨d.val, by omega⟩ t)) (acc (ix2 64 t)) := by
  pointwise [k0_pay89, k0_pay88]

theorem hpay90 (m : FVec Ideal S1x640 .f32) (acc : FVec Ideal S80x640 .f32) (t : Fin 640) :
    k0_pay90 (F := Ideal) m acc (ix3 0 0 t) = m (ix2 0 t) + Ideal.log (acc (ix2 64 t)) := by
  pointwise [k0_pay90, k0_pay88]

/-- The scores' second operand: the scaled queries, the query's gate with what rounding left of it, three ones, zeros. -/
theorem hpay73 (x : Vec Ideal S1x64x640 .bf16) (c : Vec Ideal S1x1x640 .f32) (r : Fin 128) (t : Fin 640) (hu : Real (c (ix3 0 0 t))) :
    k0_pay73 (F := Ideal) x c (ix2 r t) = if h : r.val < 64 then x (ix3 0 ⟨r.val, h⟩ t) * e8 else if r.val = 64 then c (ix3 0 0 t) else if 67 ≤ r.val ∧ r.val < 70 then 1 else 0 := by
  pointwise [k0_pay73, k0_pay72]
  generalize c (ix3 0 0 t) = u at hu ⊢
  have z1 : u - u = 0 := hu.sub_self
  rw [z1, sub_zero]
  by_cases e1 : r.val < 64
  · rw [dif_pos e1, dif_pos e1]
  rw [dif_neg e1, dif_neg e1]
  by_cases e2 : r.val - 64 < 16
  · rw [dif_pos e2]
    by_cases e3 : r.val = 64
    · rw [dif_pos (by omega), if_pos e3]
    rw [dif_neg (by omega), if_neg e3]
    by_cases e4 : r.val = 65
    · rw [dif_pos (by omega)]; rw [if_neg (by omega)]
    rw [dif_neg (by omega)]
    by_cases e5 : r.val = 66
    · rw [dif_pos (by omega)]; rw [if_neg (by omega)]
    rw [dif_neg (by omega)]
    exact dite_congr (by rw [eq_iff_iff]; omega) (fun _ => rfl) fun _ => rfl
  · rw [dif_neg e2, if_neg (by omega)]; rw [if_neg (by omega)]

end Cert.AttnFwd

end
-- ==== Proof.AttnFwd.Acc.lean ====
/-
  One head of one grid point of the attention forward kernel over the extended reals: whatever number the running
  maximum is, the carried sums are those of the exponentials with that number taken off, and the two results do not
  depend on it.
-/
module

public import proofs.«01_k».proof.Proof.AttnFwd.Pay
public import proofs.«01_k».proof.Proof.Attn.Acc

@[expose] public section

set_option maxRecDepth 16384

noncomputable section

namespace Cert.AttnFwd

open Idealize.ShloMosaic Idealize.ShloMosaic.TcCoe
open Cert.AttnFwdIdeal Cert.AttnFwdIdeal.Gen Cert.Math Cert.AttnModel
open Cert.Attn (pos pos_val sum_pos run run_succ)

theorem coe_sub' (x y : ℝ) : (x : EReal) - (y : EReal) = ((x - y : ℝ) : EReal) := (EReal.coe_sub x y).symm
theorem exp_sub' (x y : ℝ) : Ideal.exp ((x : EReal) - (y : EReal)) = ((Real.exp (x - y) : ℝ) : EReal) := by rw [coe_sub']; rfl

/-- A running maximum is a number after a block with a number in it. -/
theorem max_fold (m : EReal) (f : Fin 640 → EReal) (hm : m < ⊤) (hf : ∀ s, f s < ⊤) (s : Fin 640) (hs : ⊥ < f s) :
    Real (max m (Finset.univ.fold max ⊥ f)) := by
  obtain ⟨x, hx⟩ := real_fold_max Finset.univ f (fun i _ => hf i) s (Finset.mem_univ s) hs
  rw [hx]
  have h1 : max m (x : EReal) < ⊤ := max_lt hm (EReal.coe_lt_top x)
  have h2 : ⊥ < max m (x : EReal) := lt_max_of_lt_right (EReal.bot_lt_coe x)
  exact ⟨_, (EReal.coe_toReal h1.ne h2.ne').symm⟩

variable (a : FVec Ideal S128x640 .bf16) (K : Vec Ideal S2x8320x128 .bf16) (V : Vec Ideal S2x13x80x640 .bf16) (e : Fin 2)
variable (S : Fin 8320 → Fin 640 → ℝ) (W : Fin 8320 → Fin 80 → ℝ)

/-- The weighted sum over the blocks before `n`, with `M` taken off. -/
def part (t : Fin 640) (n : ℕ) (M : ℝ) (r : Fin 80) : ℝ := ∑ j ∈ Finset.range n, ∑ s : Fin 640, W (pos j s) r * Real.exp (S (pos j s) t - M)

theorem part_shift (t : Fin 640) (n : ℕ) (M M' : ℝ) (r : Fin 80) : Real.exp (M - M') * part S W t n M r = part S W t n M' r := by
  unfold part
  simp only [Finset.mul_sum]
  refine Finset.sum_congr rfl fun j _ => Finset.sum_congr rfl fun s _ => ?_
  rw [show S (pos j s) t - M' = (M - M') + (S (pos j s) t - M) by ring, Real.exp_add]
  ring

/-- What the carry is for one query: the sums are exact up to the maximum's own factor. -/
def Inv (t : Fin 640) (n : ℕ) (x : FVec Ideal S1x640 .f32 × FVec Ideal S80x640 .f32) : Prop :=
  x.1 (ix2 0 t) < ⊤ ∧ ∀ (M : ℝ) (r : Fin 80), Ideal.exp (x.1 (ix2 0 t) - (M : EReal)) * x.2 (ix2 r t) = ((part S W t n M r : ℝ) : EReal)

variable (hS : ∀ j < 13, ∀ s t, k0_pay60 (F := Ideal) a (rows K e j) (ix2 s t) = ((S (pos j s) t : ℝ) : EReal))
variable (hW : ∀ j < 13, ∀ r s, tile V e j (ix4 0 0 r s) = ((W (pos j s) r : ℝ) : EReal))
include hS hW

theorem inv (t : Fin 640) (n : ℕ) (hn : n ≤ 13) : Inv S W t n (one a K V e n) := by
  induction n with
  | zero =>
    refine ⟨(congrArg (· < ⊤) (hpay75 t)).mpr bot_lt_top, fun M r => ?_⟩
    rw [show (one a K V e 0).2 (ix2 r t) = 0 from hpay76 r t, mul_zero]
    unfold part
    rw [Finset.sum_range_zero]; rfl
  | succ n ih =>
    obtain ⟨h1, h2⟩ := ih (by omega)
    have hs := hS n (by omega)
    have hw := hW n (by omega)
    have e1 : (one a K V e (n + 1)).1 = k0_pay61 a (one a K V e n).1 (rows K e n) := rfl
    have e2 : (one a K V e (n + 1)).2 = k0_pay62 a (one a K V e n).1 (one a K V e n).2 (rows K e n) (tile V e n) := rfl
    obtain ⟨M, hM⟩ : Real ((one a K V e (n + 1)).1 (ix2 0 t)) := by
      rw [e1, hpay61]
      refine max_fold _ _ h1 (fun s => ?_) 0 ?_
      · rw [hs]; exact EReal.coe_lt_top _
      · rw [hs]; exact EReal.bot_lt_coe _
    have ha : ∀ r, (one a K V e (n + 1)).2 (ix2 r t) = ((part S W t (n + 1) M r : ℝ) : EReal) := fun r => by
      rw [e2, hpay62, ← e1, hM, h2]
      simp only [hs, hw, exp_sub', ← EReal.coe_mul, ← coe_sum]
      rw [← EReal.coe_add]
      unfold part
      rw [Finset.sum_range_succ]
    refine ⟨?_, fun M' r => ?_⟩
    · rw [hM]; exact EReal.coe_lt_top _
    · rw [hM, ha, exp_sub', ← EReal.coe_mul, part_shift]

/-- After the diagonal block: the maximum is a number and the sums are those of the exponentials with it taken off,
    over the keys not after the query. -/
theorem last_real (x0 : Vec Ideal S2x64x640 .bf16) (x1 : Vec Ideal S2x1x640 .f32) (ha : a = k0_pay73 (q1 x0 e) (c1 x1 e)) (n : ℕ) (hn : n < 13) (t : Fin 640) :
    ∃ M : ℝ, (last x0 x1 K V e n).1 (ix2 0 t) = (M : EReal)
      ∧ ∀ r, (last x0 x1 K V e n).2 (ix2 r t) = ((∑ u : Fin 8320, W u r * (if u.val ≤ (pos n t).val then Real.exp (S u t - M) else 0) : ℝ) : EReal) := by
  obtain ⟨h1, h2⟩ := inv a K V e S W hS hW t n hn.le
  have hs := hS n hn
  have hw := hW n hn
  have e1 : (last x0 x1 K V e n).1 = k0_pay82 a (one a K V e n).1 (rows K e n) := by rw [ha]; rfl
  have e2 : (last x0 x1 K V e n).2 = k0_pay83 a (one a K V e n).1 (one a K V e n).2 (rows K e n) (tile V e n) := by rw [ha]; rfl
  obtain ⟨M, hM⟩ : Real ((last x0 x1 K V e n).1 (ix2 0 t)) := by
    rw [e1, hpay82]
    refine max_fold _ _ h1 (fun s => ?_) t ?_
    · rw [hpay81]; split
      · rw [hs]; exact EReal.coe_lt_top _
      · exact bot_lt_top
    · rw [hpay81, if_pos (le_refl _), hs]; exact EReal.bot_lt_coe _
  refine ⟨M, hM, fun r => ?_⟩
  have hm : ∀ s : Fin 640, Ideal.exp (k0_pay81 (F := Ideal) a (rows K e n) (ix2 s t) - (M : EReal)) = ((if s.val ≤ t.val then Real.exp (S (pos n s) t - M) else 0 : ℝ) : EReal) := fun s => by
    rw [hpay81]; split
    · rw [hs, exp_sub']
    · rw [show (⊥ : EReal) - (M : EReal) = ⊥ from rfl, Ideal.exp_bot]; rfl
  rw [e2, hpay83, ← e1, hM, h2]
  simp only [hm, hw, ← EReal.coe_mul, ← coe_sum]
  rw [← EReal.coe_add, coe_sum, ← sum_pos, ← Finset.sum_subset (Finset.range_mono (show n + 1 ≤ 13 by omega)) (fun j hj hj' => ?_), Finset.sum_range_succ]
  · rw [EReal.coe_add]
    refine congrArg₂ (· + ·) ?_ ?_
    · unfold part
      rw [coe_sum]
      refine Finset.sum_congr rfl fun j hj => ?_
      have hj : j < n := Finset.mem_range.mp hj
      rw [coe_sum]
      refine Finset.sum_congr rfl fun s _ => ?_
      rw [if_pos (by rw [pos_val j (by omega), pos_val n hn]; omega)]
    · rw [coe_sum]
      refine Finset.sum_congr rfl fun s _ => ?_
      refine congrArg (fun y : ℝ => ((W (pos n s) r * y : ℝ) : EReal)) (if_congr ?_ rfl rfl)
      rw [pos_val n hn, pos_val n hn]; omega
  · have h1 : j < 13 := Finset.mem_range.mp hj
    have h2 : ¬j < n + 1 := fun h => hj' (Finset.mem_range.mpr h)
    refine Finset.sum_eq_zero fun s _ => ?_
    rw [if_neg (by rw [pos_val j h1, pos_val n hn]; omega), mul_zero]; rfl

omit hS hW in
/-- The two results of one query, where the scores and values are the model's: the output and the logarithm of the
    row's sum. -/
theorem results (q k v : Fin 8320 → Fin 64 → ℝ) (c : Fin 8320 → ℝ) (T : Fin 8320) (M : ℝ) (m : FVec Ideal S1x640 .f32) (acc : FVec Ideal S80x640 .f32) (t : Fin 640)
    (hm : m (ix2 0 t) = (M : EReal))
    (h0 : ∀ d : Fin 64, acc (ix2 ⟨d.val, by omega⟩ t) = ((∑ u, v u d * E q k c M T u : ℝ) : EReal))
    (h1 : acc (ix2 64 t) = ((∑ u, E q k c M T u : ℝ) : EReal)) :
    (∀ d, k0_pay89 (F := Ideal) acc (ix3 0 d t) = ((O q k v c T d : ℝ) : EReal)) ∧ k0_pay90 (F := Ideal) m acc (ix3 0 0 t) = ((Real.log (Z q k c T) : ℝ) : EReal) := by
  have hp := sum_E_pos q k c M T
  refine ⟨fun d => ?_, ?_⟩
  · rw [hpay89, h0, h1, Ideal.div_coe hp.ne']
    refine congrArg (fun y : ℝ => (y : EReal)) ?_
    unfold O
    rw [Finset.sum_mul]
    refine Finset.sum_congr rfl fun u _ => ?_
    rw [← E_div q k c M T u]; ring
  · rw [hpay90, hm, h1, Ideal.log_coe, if_neg (not_le.mpr hp), ← EReal.coe_add]
    refine congrArg (fun y : ℝ => (y : EReal)) ?_
    rw [sum_E, Real.log_mul (Z_pos q k c T).ne' (Real.exp_pos _).ne', Real.log_exp]
    ring

end Cert.AttnFwd

end
-- ==== Proof.AttnFwd.Run.lean ====
/-
  The attention forward kernel over its grid: each grid point works on two heads and one block of queries. Its blocks,
  and what its two results hold, in terms of the arrays it is given.
-/
module

public import proofs.«01_k».proof.Proof.AttnFwd.Acc
public import proofs.«01_k».proof.Proof.Gen.AttnFwdIdeal.Value
public import Idealize.ShloMosaic.Lib.Pipeline.ReadBack
public import Idealize.ShloMosaic.Lib.WritesUnit

@[expose] public section

set_option maxRecDepth 16384

noncomputable section

namespace Cert.AttnFwd

open Idealize.ShloMosaic Idealize.ShloMosaic.TcCoe Idealize.SL.Sem
open Cert.AttnFwdIdeal Cert.AttnFwdIdeal.Gen Cert.Math Cert.AttnModel
open Idealize.ShloMosaic.Pipeline (Dat)
open Cert.Attn (pos pos_val)

variable (m : (ℓ : Loc nD τ sig) → Buf (Elt Ideal) ℓ)

theorem idx : ∀ t : Fin cfg0.N,
    (win0_0.index t = ![t.val / 13, 0, t.val % 13] ∧ win0_1.index t = ![t.val / 13, 0, t.val % 13])
    ∧ (win0_2.index t = ![t.val / 13, 0, 0] ∧ win0_3.index t = ![t.val / 13, 0, 0, 0])
    ∧ win0_4.index t = ![t.val / 13, 0, t.val % 13] ∧ win0_5.index t = ![t.val / 13, 0, t.val % 13] :=
  (by decide +kernel : ∀ t : Fin grid0.N, _)
theorem lt_N (t : Fin cfg0.N) : t.val < 104 := lt_of_lt_of_eq t.isLt (show cfg0.N = 104 from N_0)
theorem coords1 (t : Fin cfg0.N) : (grid0.coords t 1).val = t.val % 13 := (by decide +kernel : ∀ t : Fin grid0.N, (grid0.coords t 1).val = t.val % 13) t

/-- A grid point's two heads. -/
def headOf (t : Fin cfg0.N) (e : Fin 2) : Fin 16 := ⟨2 * (t.val / 13) + e.val, by have := lt_N t; omega⟩

/-- The arrays the region is given: queries by channel, gates, the keys' operand, the values' tiles. -/
abbrev rQ (c : Dev nD) : FVec Ideal S16x64x8320 .bf16 := V m c main_v31
abbrev rC (c : Dev nD) : FVec Ideal S16x1x8320 .f32 := V m c main_v34
abbrev rK (c : Dev nD) : FVec Ideal S16x8320x128 .bf16 := V m c main_v17
abbrev rV (c : Dev nD) : FVec Ideal S16x13x80x640 .bf16 := V m c main_v27

/-! ## The blocks -/

theorem blk0 (c : Dev nD) (t : Fin cfg0.N) (e : Fin 2) (d : Fin 64) (s : Fin 640) :
    (iblk m c 0 t : FVec Ideal S2x64x640 .bf16) (ix3 e d s) = rQ m c (ix3 (headOf t e) d (pos (t.val % 13) s)) := by
  have e : (iblk m c 0 t : FVec Ideal S2x64x640 .bf16) (ix3 e d s) = rQ m c (ix3 ⟨t.val / 13 * 2 + e.val, by have := lt_N t; omega⟩ d ⟨t.val % 13 * 640 + s.val, by omega⟩) := by
    blk_ext [iblk, idx t]
  rw [e]
  exact congrArg₂ (fun y z => rQ m c (ix3 y d z)) (Fin.ext (by simp only [headOf]; omega)) (Fin.ext (by rw [pos_val _ (by omega)]; dsimp only; omega))

theorem blk1 (c : Dev nD) (t : Fin cfg0.N) (e : Fin 2) (s : Fin 640) :
    (iblk m c 1 t : FVec Ideal S2x1x640 .f32) (ix3 e 0 s) = rC m c (ix3 (headOf t e) 0 (pos (t.val % 13) s)) := by
  have e : (iblk m c 1 t : FVec Ideal S2x1x640 .f32) (ix3 e 0 s) = rC m c (ix3 ⟨t.val / 13 * 2 + e.val, by have := lt_N t; omega⟩ 0 ⟨t.val % 13 * 640 + s.val, by omega⟩) := by
    blk_ext [iblk, idx t]
  rw [e]
  exact congrArg₂ (fun y z => rC m c (ix3 y 0 z)) (Fin.ext (by simp only [headOf]; omega)) (Fin.ext (by rw [pos_val _ (by omega)]; dsimp only; omega))

theorem blk2 (c : Dev nD) (t : Fin cfg0.N) (e : Fin 2) (u : Fin 8320) (l : Fin 128) :
    (iblk m c 2 t : FVec Ideal S2x8320x128 .bf16) (ix3 e u l) = rK m c (ix3 (headOf t e) u l) := by
  have e : (iblk m c 2 t : FVec Ideal S2x8320x128 .bf16) (ix3 e u l) = rK m c (ix3 ⟨t.val / 13 * 2 + e.val, by have := lt_N t; omega⟩ u l) := by
    blk_ext [iblk, idx t]
  rw [e]
  exact congrArg (fun y => rK m c (ix3 y u l)) (Fin.ext (by simp only [headOf]; omega))

theorem blk3 (c : Dev nD) (t : Fin cfg0.N) (e : Fin 2) (j : Fin 13) (r : Fin 80) (s : Fin 640) :
    (iblk m c 3 t : FVec Ideal S2x13x80x640 .bf16) (ix4 e j r s) = rV m c (ix4 (headOf t e) j r s) := by
  have e : (iblk m c 3 t : FVec Ideal S2x13x80x640 .bf16) (ix4 e j r s) = rV m c (ix4 ⟨t.val / 13 * 2 + e.val, by have := lt_N t; omega⟩ j r s) := by
    blk_ext [iblk, idx t]
  rw [e]
  exact congrArg (fun y => rV m c (ix4 y j r s)) (Fin.ext (by simp only [headOf]; omega))

/-! ## One head's operands -/

theorem rows_apply (x : Vec Ideal S2x8320x128 .bf16) (e : Fin 2) (j : ℕ) (s : Fin 640) (l : Fin 128) : rows x e j (ix3 0 s l) = x (ix3 e (pos j s) l) :=
  congrArg x (funext fun a => match a with | ⟨0, _⟩ => rfl | ⟨1, _⟩ => rfl | ⟨2, _⟩ => rfl)
theorem tile_apply (x : Vec Ideal S2x13x80x640 .bf16) (e : Fin 2) (j : ℕ) (hj : j < 13) (r : Fin 80) (s : Fin 640) : tile x e j (ix4 0 0 r s) = x (ix4 e ⟨j, hj⟩ r s) :=
  congrArg x (funext fun a => match a with | ⟨0, _⟩ => rfl | ⟨1, _⟩ => Fin.ext (Nat.mod_eq_of_lt hj) | ⟨2, _⟩ => rfl | ⟨3, _⟩ => rfl)
theorem q1_apply (x : Vec Ideal S2x64x640 .bf16) (e : Fin 2) (d : Fin 64) (s : Fin 640) : q1 x e (ix3 0 d s) = x (ix3 e d s) :=
  congrArg x (funext fun a => match a with | ⟨0, _⟩ => rfl | ⟨1, _⟩ => rfl | ⟨2, _⟩ => rfl)
theorem c1_apply (x : Vec Ideal S2x1x640 .f32) (e : Fin 2) (s : Fin 640) : c1 x e (ix3 0 0 s) = x (ix3 e 0 s) :=
  congrArg x (funext fun a => match a with | ⟨0, _⟩ => rfl | ⟨1, _⟩ => rfl | ⟨2, _⟩ => rfl)

end Cert.AttnFwd

end
-- ==== Proof.AttnFwd.Out.lean ====
/-
  What the attention forward kernel's two results hold, in terms of what each grid point's body leaves.
-/
module

public import proofs.«01_k».proof.Proof.AttnFwd.Run
public import proofs.«01_k».proof.Proof.Gen.AttnFwdIdeal.Value
public import Idealize.ShloMosaic.Lib.Pipeline.ReadBack
public import Idealize.ShloMosaic.Lib.WritesUnit

@[expose] public section

set_option maxRecDepth 16384

noncomputable section

namespace Cert.AttnFwd

open Idealize.ShloMosaic Idealize.ShloMosaic.TcCoe Idealize.SL.Sem
open Cert.AttnFwdIdeal Cert.AttnFwdIdeal.Gen Cert.Math Cert.AttnModel
open Idealize.ShloMosaic.Pipeline (Dat)
open Cert.Attn (pos pos_val)

variable (m : (ℓ : Loc nD τ sig) → Buf (Elt Ideal) ℓ)

/-! ## Reading a block stored head by head -/

section Read

variable {sig' : RefSig} {κ : Kind} {sp : Space}

theorem two4 (v : View sig' κ sp S2x64x640 .bf16) (f : v.ty.Contents (Elt Ideal)) (A : Fin 2 → Vec Ideal S1x64x640 .bf16) (e : Fin 2) (d : Fin 64) (s : Fin 640) :
    v.read (Elt Ideal) (v.writes (Elt Ideal) f [⟨Rect.unit (s := S2x64x640) ![1, 0, 0] S1x64x640.size inb_S2x64x640_S1x64x640_1_0_0, A 1⟩,
      ⟨Rect.unit (s := S2x64x640) ![0, 0, 0] S1x64x640.size inb_S2x64x640_S1x64x640_0_0_0, A 0⟩]) (ix3 e d s) = A e (ix3 0 d s) := by
  by_cases he : e = 1
  · subst he
    exact View.read_writes_cons_unit_of_mem v f inb_S2x64x640_S1x64x640_1_0_0 (A 1) _ (ix3 1 d s) (ix3 0 d s) rfl
      fun a => match a with | ⟨0, _⟩ => rfl | ⟨1, _⟩ => (Nat.zero_add d.val).symm | ⟨2, _⟩ => (Nat.zero_add s.val).symm
  · obtain rfl : e = 0 := by omega
    refine (View.read_writes_cons_unit_of_not_mem v f inb_S2x64x640_S1x64x640_1_0_0 (A 1) _ (ix3 0 d s) rfl 0 (Or.inl Nat.zero_lt_one)).trans ?_
    exact View.read_writes_cons_unit_of_mem v f inb_S2x64x640_S1x64x640_0_0_0 (A 0) [] (ix3 0 d s) (ix3 0 d s) rfl
      fun a => match a with | ⟨0, _⟩ => rfl | ⟨1, _⟩ => (Nat.zero_add d.val).symm | ⟨2, _⟩ => (Nat.zero_add s.val).symm

theorem two5 (v : View sig' κ sp S2x1x640 .f32) (f : v.ty.Contents (Elt Ideal)) (A : Fin 2 → Vec Ideal S1x1x640 .f32) (e : Fin 2) (s : Fin 640) :
    v.read (Elt Ideal) (v.writes (Elt Ideal) f [⟨Rect.unit (s := S2x1x640) ![1, 0, 0] S1x1x640.size inb_S2x1x640_S1x1x640_1_0_0, A 1⟩,
      ⟨Rect.unit (s := S2x1x640) ![0, 0, 0] S1x1x640.size inb_S2x1x640_S1x1x640_0_0_0, A 0⟩]) (ix3 e 0 s) = A e (ix3 0 0 s) := by
  by_cases he : e = 1
  · subst he
    exact View.read_writes_cons_unit_of_mem v f inb_S2x1x640_S1x1x640_1_0_0 (A 1) _ (ix3 1 0 s) (ix3 0 0 s) rfl
      fun a => match a with | ⟨0, _⟩ => rfl | ⟨1, _⟩ => rfl | ⟨2, _⟩ => (Nat.zero_add s.val).symm
  · obtain rfl : e = 0 := by omega
    refine (View.read_writes_cons_unit_of_not_mem v f inb_S2x1x640_S1x1x640_1_0_0 (A 1) _ (ix3 0 0 s) rfl 0 (Or.inl Nat.zero_lt_one)).trans ?_
    exact View.read_writes_cons_unit_of_mem v f inb_S2x1x640_S1x1x640_0_0_0 (A 0) [] (ix3 0 0 s) (ix3 0 0 s) rfl
      fun a => match a with | ⟨0, _⟩ => rfl | ⟨1, _⟩ => rfl | ⟨2, _⟩ => (Nat.zero_add s.val).symm

end Read

/-! ## What a body leaves in the two output blocks -/

section Body

variable (c : Dev nD) (i : grid0.Coords) (arg2 : Memref sig .tc .vmem S2x64x640 .bf16) (harg2 : arg2.IsWhole) (arg3 : Memref sig .tc .vmem S2x1x640 .f32) (harg3 : arg3.IsWhole) (arg4 : Memref sig .tc .vmem S2x8320x128 .bf16) (harg4 : arg4.IsWhole) (arg5 : Memref sig .tc .vmem S2x13x80x640 .bf16) (harg5 : arg5.IsWhole) (arg6 : Memref sig .tc .vmem S2x64x640 .bf16) (harg6 : arg6.IsWhole) (arg7 : Memref sig .tc .vmem S2x1x640 .f32) (harg7 : arg7.IsWhole)
  (x0 : Vec Ideal S2x64x640 .bf16) (x1 : Vec Ideal S2x1x640 .f32) (x2 : Vec Ideal S2x8320x128 .bf16) (x3 : Vec Ideal S2x13x80x640 .bf16)

theorem out4 (e : Fin 2) (d : Fin 64) (s : Fin 640) :
    out0_A_4 c i arg2 harg2 arg3 harg3 arg4 harg4 arg5 harg5 arg6 harg6 arg7 harg7 x0 x1 x2 x3 (ix3 e d s) = k0_pay89 (last x0 x1 x2 x3 e (i 1).val).2 (ix3 0 d s) := by
  unfold out0_A_4
  rw [pieces4]
  exact two4 _ _ (fun e => k0_pay89 (last x0 x1 x2 x3 e (i 1).val).2) e d s

theorem out5 (e : Fin 2) (s : Fin 640) :
    out0_A_5 c i arg2 harg2 arg3 harg3 arg4 harg4 arg5 harg5 arg6 harg6 arg7 harg7 x0 x1 x2 x3 (ix3 e 0 s) = k0_pay90 (last x0 x1 x2 x3 e (i 1).val).1 (last x0 x1 x2 x3 e (i 1).val).2 (ix3 0 0 s) := by
  unfold out0_A_5
  rw [pieces5]
  exact two5 _ _ (fun e => k0_pay90 (last x0 x1 x2 x3 e (i 1).val).1 (last x0 x1 x2 x3 e (i 1).val).2) e s

end Body

/-! ## The results -/

variable {m} {c : Dev nD} (q k v : Fin 16 → Fin 8320 → Fin 64 → ℝ) (g : Fin 16 → Fin 8320 → ℝ)

/-- The two results' arrays, of padded heads. -/
def Ro : FVec Ideal S16x64x8320 .bf16 := fun y => ((O (q (y 0)) (k (y 0)) (v (y 0)) (g (y 0)) (y 2) (y 1) : ℝ) : EReal)
def Rl : FVec Ideal S16x1x8320 .f32 := fun y => ((Real.log (Z (q (y 0)) (k (y 0)) (g (y 0)) (y 2)) : ℝ) : EReal)

/-- Every grid point's body leaves the model's values in its two blocks. -/
def At (m : (ℓ : Loc nD τ sig) → Buf (Elt Ideal) ℓ) (c : Dev nD) : Prop := ∀ (t : Fin cfg0.N) (e : Fin 2) (s : Fin 640),
  (∀ d, k0_pay89 (last (iblk m c 0 t) (iblk m c 1 t) (iblk m c 2 t) (iblk m c 3 t) e (t.val % 13)).2 (ix3 0 d s)
      = ((O (q (headOf t e)) (k (headOf t e)) (v (headOf t e)) (g (headOf t e)) (pos (t.val % 13) s) d : ℝ) : EReal))
  ∧ k0_pay90 (last (iblk m c 0 t) (iblk m c 1 t) (iblk m c 2 t) (iblk m c 3 t) e (t.val % 13)).1 (last (iblk m c 0 t) (iblk m c 1 t) (iblk m c 2 t) (iblk m c 3 t) e (t.val % 13)).2 (ix3 0 0 s)
      = ((Real.log (Z (q (headOf t e)) (k (headOf t e)) (g (headOf t e)) (pos (t.val % 13) s)) : ℝ) : EReal)

variable {q k v g} (hat : At q k v g m c)
include hat

set_option maxHeartbeats 4000000 in
theorem result4 : (dats m 0 c).arrAt 4 cfg0.N = Ro q k v g := by
  refine (dats m 0 c).arrAt_eq_of_covers 4 _ (by decide +kernel) fun t hf y => ?_
  blk_simp
  idx_vars y
  have hN := lt_N t
  have e : ((View.whole main_v35_0).slice (win0_4.rect t)).emb (ix3 y0 y1 y2) = (ix3 ⟨t.val / 13 * 2 + y0.val, by omega⟩ y1 ⟨t.val % 13 * 640 + y2.val, by omega⟩ : S16x64x8320.Idx) := by
    blk_ext [idx t]
  have ep : (⟨t.val % 13 * 640 + y2.val, by omega⟩ : Fin 8320) = pos (t.val % 13) y2 := Fin.ext (by rw [pos_val _ (by omega)]; dsimp only; omega)
  have eh : (⟨t.val / 13 * 2 + y0.val, by omega⟩ : Fin 16) = headOf t y0 := Fin.ext (by simp only [headOf]; omega)
  rw [e, ep, eh]
  refine (out4 c (grid0.coords t) _ _ _ _ _ _ _ _ _ _ _ _ _ _ _ _ y0 y1 y2).trans ?_
  rw [coords1]
  exact (hat t y0 y2).1 y1

set_option maxHeartbeats 4000000 in
theorem result5 : (dats m 0 c).arrAt 5 cfg0.N = Rl q k g := by
  refine (dats m 0 c).arrAt_eq_of_covers 5 _ (by decide +kernel) fun t hf y => ?_
  blk_simp
  idx_vars y
  obtain rfl : y1 = 0 := Subsingleton.elim _ _
  have hN := lt_N t
  have e : ((View.whole main_v35_1).slice (win0_5.rect t)).emb (ix3 y0 0 y2) = (ix3 ⟨t.val / 13 * 2 + y0.val, by omega⟩ 0 ⟨t.val % 13 * 640 + y2.val, by omega⟩ : S16x1x8320.Idx) := by
    blk_ext [idx t]
  have ep : (⟨t.val % 13 * 640 + y2.val, by omega⟩ : Fin 8320) = pos (t.val % 13) y2 := Fin.ext (by rw [pos_val _ (by omega)]; dsimp only; omega)
  have eh : (⟨t.val / 13 * 2 + y0.val, by omega⟩ : Fin 16) = headOf t y0 := Fin.ext (by simp only [headOf]; omega)
  rw [e, ep, eh]
  refine (out5 c (grid0.coords t) _ _ _ _ _ _ _ _ _ _ _ _ _ _ _ _ y0 y2).trans ?_
  rw [coords1]
  exact (hat t y0 y2).2

end Cert.AttnFwd

end
-- ==== Proof.AttnFwd.HostV.lean ====
/-
  The arrays the attention forward kernel reads, as the host lines leave them.
-/
module

public import proofs.«01_k».proof.Proof.Attn.Host
public import proofs.«01_k».proof.Proof.Gen.AttnFwdIdeal.Frame

@[expose] public section

set_option maxRecDepth 16384
set_option maxHeartbeats 4000000

noncomputable section

namespace Cert.AttnFwd

open Idealize.ShloMosaic Idealize.ShloMosaic.TcCoe
open Cert.AttnFwdIdeal Cert.AttnFwdIdeal.Gen Cert.Math Cert.AttnModel
open Cert.Attn (chansB line gates kAug kT)

variable (m : (ℓ : Loc nD τ sig) → Buf (Elt Ideal) ℓ)

/-- The four arguments. -/
abbrev aQ (c : Dev nD) : FVec Ideal S8208x1024 .f32 := m ((c : Thread nD τ).loc main_arg0)
abbrev aK (c : Dev nD) : FVec Ideal S8208x1024 .f32 := m ((c : Thread nD τ).loc main_arg1)
abbrev aV (c : Dev nD) : FVec Ideal S8208x1024 .f32 := m ((c : Thread nD τ).loc main_arg2)
abbrev aC (c : Dev nD) : FVec Ideal S8208x16 .f32 := m ((c : Thread nD τ).loc main_arg3)

theorem V_v31 (c : Dev nD) : V m c main_v31 = chansB (aQ m c) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append]
  after_results_simp
  try simp -implicitDefEqProofs only [StableHlo.TRef.toBuf, StableHlo.TRef.ofBuf, cast_cast, cast_eq, id_eq]
  try rfl

theorem V_v34 (c : Dev nD) : V m c main_v34 = line (gates (aC m c)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append]
  after_results_simp
  try simp -implicitDefEqProofs only [StableHlo.TRef.toBuf, StableHlo.TRef.ofBuf, cast_cast, cast_eq, id_eq]
  try rfl

theorem V_v17 (c : Dev nD) : V m c main_v17 = kAug (aK m c) (gates (aC m c)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append]
  after_results_simp
  try simp -implicitDefEqProofs only [StableHlo.TRef.toBuf, StableHlo.TRef.ofBuf, cast_cast, cast_eq, id_eq]
  try rfl

theorem V_v27 (c : Dev nD) : V m c main_v27 = kT (aV m c) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append]
  after_results_simp
  try simp -implicitDefEqProofs only [StableHlo.TRef.toBuf, StableHlo.TRef.ofBuf, cast_cast, cast_eq, id_eq]
  try rfl

end Cert.AttnFwd

end
-- ==== Proof.AttnFwd.Ref.lean ====
/-
  The reference of the attention forward call over the real numbers: softmax over the keys not after the query, its
  weighted values, and the logarithm of its denominator.
-/
module

public import proofs.«01_k».proof.Proof.Gen.AttnFwdRefIdeal.Read
public import proofs.«01_k».proof.Proof.Attn.Exact

@[expose] public section

set_option maxRecDepth 16384

noncomputable section

namespace Cert.AttnFwdRefIdeal.Read

open Cert.AttnFwdRefIdeal Cert.AttnFwdRefIdeal.Gen Idealize.ShloMosaic Idealize.ShloMosaic.TcCoe Cert.Math Cert.AttnModel
open Cert.Attn (rowsB rowsB_apply pd pl coe_dite)
open Cert.AttnRefIdeal.Read (hd gt col exp_masked ofBits_eighth)

variable (q k v : FVec Ideal S8208x1024 .f32) (c : FVec Ideal S8208x16 .f32)

/-! ## At an index -/

theorem v5_apply (h : Fin 16) (t : Fin 8320) (d : Fin 64) : val_main_v5 (F := Ideal) q (ix3 h t d) = if ht : t.val < 8208 then q (ix2 ⟨t.val, ht⟩ (col h d)) else 0 :=
  (show _ = rowsB q (ix3 h t d) from rfl).trans (rowsB_apply q h t d)
theorem v7_apply (h : Fin 16) (t : Fin 8320) (d : Fin 64) : val_main_v7 (F := Ideal) k (ix3 h t d) = if ht : t.val < 8208 then k (ix2 ⟨t.val, ht⟩ (col h d)) else 0 :=
  (show _ = rowsB k (ix3 h t d) from rfl).trans (rowsB_apply k h t d)
theorem v38_apply (h : Fin 16) (t : Fin 8320) (d : Fin 64) : val_main_v38 (F := Ideal) v (ix3 h t d) = if ht : t.val < 8208 then v (ix2 ⟨t.val, ht⟩ (col h d)) else 0 :=
  (show _ = rowsB v (ix3 h t d) from rfl).trans (rowsB_apply v h t d)

theorem v3_apply (t : Fin 8320) (h : Fin 16) : val_main_v3 (F := Ideal) c (ix2 t h) = if ht : t.val < 8208 then c (ix2 ⟨t.val, ht⟩ h) else 0 := by
  pointwise [val_main_v3, val_main_call3_v0, val_main_c_2]
  rw [sitofp_zero]

theorem v18_apply (h : Fin 16) (t s : Fin 8320) :
    val_main_v18 (F := Ideal) q k c (ix3 h t s) = (∑ d, val_main_v5 (F := Ideal) q (ix3 h t d) * val_main_v7 (F := Ideal) k (ix3 h s d)) * Ideal.ofBits .f32 1040187392#32 + val_main_v3 (F := Ideal) c (ix2 t h) - val_main_v3 (F := Ideal) c (ix2 s h) := by
  pointwise [val_main_v18, val_main_v17, val_main_v16, val_main_v15, val_main_v14, val_main_v13, val_main_v12, val_main_v11, val_main_v10, val_main_v9, val_main_v8, val_main_cst]

theorem v25_apply (h : Fin 16) (t s : Fin 8320) :
    val_main_v25 (F := Ideal) q k c (ix3 h t s) = if s.val ≤ t.val then val_main_v18 (F := Ideal) q k c (ix3 h t s) else ⊥ := by
  pointwise [val_main_v25, val_main_call4_v2, val_main_call4_v1, val_main_v24, val_main_v23, val_main_v22, val_main_v21, val_main_v20, val_main_v19, val_main_cst_3]
  rw [select_le _ _ (by omega) (by omega), show val_main_call4_v0 (F := Ideal) ix0 = (⊥ : EReal) from ofBits_neg_inf]

theorem v28_apply (h : Fin 16) (t : Fin 8320) :
    val_main_v28 (F := Ideal) q k c (ix2 h t) = max ⊥ (val_main_v26 (F := Ideal) q k c (ix2 h t)) := by
  rw [val_main_v28_apply, val_main_v27_apply]
  generalize val_main_v26 (F := Ideal) q k c (ix2 h t) = y
  exact congrArg (fun b : EReal => max b y) ofBits_neg_inf

theorem v32_apply (h : Fin 16) (t s : Fin 8320) :
    val_main_v32 (F := Ideal) q k c (ix3 h t s) = Ideal.exp (val_main_v25 (F := Ideal) q k c (ix3 h t s) - max ⊥ (val_main_v26 (F := Ideal) q k c (ix2 h t))) := by
  rw [← v28_apply]
  pointwise [val_main_v32, val_main_v31, val_main_v30, val_main_v29]

theorem v34_apply (h : Fin 16) (t : Fin 8320) (z : Fin 1) :
    val_main_v34 (F := Ideal) q k c (ix3 h t z) = ∑ s, val_main_v32 (F := Ideal) q k c (ix3 h t s) := by
  pointwise [val_main_v34, val_main_v33, val_main_cst_6]

theorem v36_apply (h : Fin 16) (t s : Fin 8320) :
    val_main_v36 (F := Ideal) q k c (ix3 h t s) = Ideal.div (val_main_v32 (F := Ideal) q k c (ix3 h t s)) (val_main_v34 (F := Ideal) q k c (ix3 h t 0)) := by
  pointwise [val_main_v36, val_main_v35]

theorem v39_apply (h : Fin 16) (t : Fin 8320) (d : Fin 64) :
    val_main_v39 (F := Ideal) q k v c (ix3 h t d) = ∑ s, val_main_v36 (F := Ideal) q k c (ix3 h t s) * val_main_v38 (F := Ideal) v (ix3 h s d) := by
  pointwise [val_main_v39]

theorem v50_apply (h : Fin 16) (d : Fin 64) (t : Fin 8320) :
    val_main_v50 (F := Ideal) q k v c (ix3 h d t) = val_main_v39 (F := Ideal) q k v c (ix3 h t d) := by
  pointwise [val_main_v50, val_main_v49]

theorem v44_apply (h : Fin 16) (t s : Fin 8320) :
    val_main_v44 (F := Ideal) q k c (ix3 h t s) = Ideal.exp (val_main_v25 (F := Ideal) q k c (ix3 h t s) - val_main_v40 (F := Ideal) q k c (ix2 h t)) := by
  pointwise [val_main_v44, val_main_v43, val_main_v42, val_main_v41]

theorem v46_apply (h : Fin 16) (t : Fin 8320) (z : Fin 1) :
    val_main_v46 (F := Ideal) q k c (ix3 h t z) = ∑ s, val_main_v44 (F := Ideal) q k c (ix3 h t s) := by
  pointwise [val_main_v46, val_main_v45, val_main_cst_8]

theorem v51_apply (h : Fin 16) (t : Fin 8320) :
    val_main_v51 (F := Ideal) q k c (ix3 h 0 t) = val_main_v40 (F := Ideal) q k c (ix2 h t) + Ideal.log (val_main_v46 (F := Ideal) q k c (ix3 h t 0)) := by
  have e1 : idx_main_v51 (ix3 h (0 : Fin 1) t) = ix3 h t (0 : Fin 1) := funext fun a => match a with | ⟨0, _⟩ => rfl | ⟨1, _⟩ => rfl | ⟨2, _⟩ => rfl
  have e2 : idx_main_v41 (ix3 h t (0 : Fin 1)) = ix2 h t := funext fun a => match a with | ⟨0, _⟩ => rfl | ⟨1, _⟩ => rfl
  rw [val_main_v51_apply, e1, val_main_v48_apply, val_main_v47_apply, val_main_v41_apply, e2]
  generalize val_main_v40 (F := Ideal) q k c = x
  generalize val_main_v46 (F := Ideal) q k c = y
  rfl

/-- A row's greatest score is a number, if every score is one or −∞ and one of them is a number. -/
theorem max_real (s : FVec Ideal S16x8320x8320 .f32) (h : Fin 16) (t : Fin 8320) (hs : ∀ x, s (ix3 h t x) < ⊤) (x : Fin 8320) (hx : ⊥ < s (ix3 h t x)) :
    Real ((Host.reduce FloatOps.maximumf s (constant S_ .f32 0xFF800000#32 : FVec Ideal S_ .f32) reducesTo_S16x8320x8320_S16x8320_d2 h_S_ : FVec Ideal S16x8320 .f32) (ix2 h t)) := by
  have hd : ∀ i : S16x8320x8320.Idx, reducesTo_S16x8320x8320_S16x8320_d2.drop i = ix2 (i 0) (i 1) := fun i =>
    funext fun a => match a with | ⟨0, _⟩ => rfl | ⟨1, _⟩ => rfl
  have e := Host.reduce_eq_fold (α := EReal) max s (constant S_ .f32 0xFF800000#32 : FVec Ideal S_ .f32) reducesTo_S16x8320x8320_S16x8320_d2 h_S_ (ix2 h t)
  refine (congrArg Real e).mpr ?_
  rw [show (constant S_ .f32 0xFF800000#32 : FVec Ideal S_ .f32) (Shape.Idx.first h_S_) = (⊥ : EReal) from ofBits_neg_inf]
  refine real_fold_max _ _ (fun i hi => ?_) (ix3 h t x) ?_ hx
  · have hi := (Finset.mem_filter.mp hi).2
    rw [hd] at hi
    have e0 : i 0 = h := congrFun hi 0
    have e1 : i 1 = t := congrFun hi 1
    have : i = ix3 h t (i 2) := funext fun a => match a with | ⟨0, _⟩ => e0 | ⟨1, _⟩ => e1 | ⟨2, _⟩ => rfl
    rw [this]; exact hs _
  · exact Finset.mem_filter.mpr ⟨Finset.mem_univ _, hd _⟩

/-! ## Real arguments -/

variable {q k v c} {qr kr vr : Fin 8208 → Fin 1024 → ℝ} {cr : Fin 8208 → Fin 16 → ℝ}
variable (hq : ∀ t x, q (ix2 t x) = (qr t x : EReal)) (hk : ∀ t x, k (ix2 t x) = (kr t x : EReal)) (hv : ∀ t x, v (ix2 t x) = (vr t x : EReal)) (hc : ∀ t x, c (ix2 t x) = (cr t x : EReal))

/-- A head's rows, zeros after the last. -/
abbrev pq (x : Fin 8208 → Fin 1024 → ℝ) (h : Fin 16) : Fin 8320 → Fin 64 → ℝ := pd (hd x h)
abbrev pg (x : Fin 8208 → Fin 16 → ℝ) (h : Fin 16) : Fin 8320 → ℝ := pl (gt x h)

include hq hk hc in
theorem scores (h : Fin 16) (t s : Fin 8320) : val_main_v18 (F := Ideal) q k c (ix3 h t s) = ((sc (pq qr h) (pq kr h) (pg cr h) t s : ℝ) : EReal) := by
  have e5 : ∀ t d, val_main_v5 (F := Ideal) q (ix3 h t d) = ((pq qr h t d : ℝ) : EReal) := fun t d => by
    rw [v5_apply, pq, pd, coe_dite]; exact dite_congr rfl (fun ht => hq _ _) fun _ => rfl
  have e7 : ∀ t d, val_main_v7 (F := Ideal) k (ix3 h t d) = ((pq kr h t d : ℝ) : EReal) := fun t d => by
    rw [v7_apply, pq, pd, coe_dite]; exact dite_congr rfl (fun ht => hk _ _) fun _ => rfl
  have e3 : ∀ t, val_main_v3 (F := Ideal) c (ix2 t h) = ((pg cr h t : ℝ) : EReal) := fun t => by
    rw [v3_apply, pg, pl, coe_dite]; exact dite_congr rfl (fun ht => hc _ _) fun _ => rfl
  rw [v18_apply]
  simp only [e5, e7, e3, ofBits_eighth, ← EReal.coe_mul, ← coe_sum]
  rw [← EReal.coe_add, ← EReal.coe_sub]
  rfl

include hq hk hc in
theorem masked (h : Fin 16) (t s : Fin 8320) :
    val_main_v25 (F := Ideal) q k c (ix3 h t s) = if s.val ≤ t.val then ((sc (pq qr h) (pq kr h) (pg cr h) t s : ℝ) : EReal) else ⊥ := by
  rw [v25_apply, scores hq hk hc]

include hq hk hc in
theorem top_real (h : Fin 16) (t : Fin 8320) : Real (val_main_v40 (F := Ideal) q k c (ix2 h t)) := by
  refine max_real (val_main_v25 (F := Ideal) q k c) h t (fun x => ?_) t ?_
  · rw [masked hq hk hc]
    split
    · exact EReal.coe_lt_top _
    · exact bot_lt_top
  · rw [masked hq hk hc, if_pos (le_refl _)]
    exact EReal.bot_lt_coe _

include hq hk hv hc in
/-- The two results: the softmax's weighted values and the logarithm of its denominator. -/
theorem values (h : Fin 16) (t : Fin 8320) :
    (∀ d, val_main_v50 (F := Ideal) q k v c (ix3 h d t) = ((O (pq qr h) (pq kr h) (pq vr h) (pg cr h) t d : ℝ) : EReal))
    ∧ val_main_v51 (F := Ideal) q k c (ix3 h 0 t) = ((Real.log (Z (pq qr h) (pq kr h) (pg cr h) t) : ℝ) : EReal) := by
  obtain ⟨M, hM⟩ := top_real hq hk hc h t
  have hM' : val_main_v26 (F := Ideal) q k c (ix2 h t) = (M : EReal) := hM
  have hp := sum_E_pos (pq qr h) (pq kr h) (pg cr h) M t
  have e32 : ∀ s, val_main_v32 (F := Ideal) q k c (ix3 h t s) = ((E (pq qr h) (pq kr h) (pg cr h) M t s : ℝ) : EReal) := fun s => by
    rw [v32_apply, hM', max_eq_right bot_le, masked hq hk hc, exp_masked]; rfl
  have e44 : ∀ s, val_main_v44 (F := Ideal) q k c (ix3 h t s) = ((E (pq qr h) (pq kr h) (pg cr h) M t s : ℝ) : EReal) := fun s => by
    rw [v44_apply, hM, masked hq hk hc, exp_masked]; rfl
  have e38 : ∀ s d, val_main_v38 (F := Ideal) v (ix3 h s d) = ((pq vr h s d : ℝ) : EReal) := fun s d => by
    rw [v38_apply, pq, pd, coe_dite]; exact dite_congr rfl (fun ht => hv _ _) fun _ => rfl
  refine ⟨fun d => ?_, ?_⟩
  · rw [v50_apply, v39_apply, O, coe_sum]
    refine Finset.sum_congr rfl fun s _ => ?_
    rw [v36_apply, v34_apply]
    simp only [e32, e38, ← coe_sum]
    rw [Ideal.div_coe hp.ne', ← EReal.coe_mul, ← EReal.coe_mul, E_div]
  · rw [v51_apply, v46_apply, hM]
    simp only [e44, ← coe_sum]
    rw [Ideal.log_coe, if_neg (not_le.mpr hp), ← EReal.coe_add]
    refine congrArg (fun y : ℝ => (y : EReal)) ?_
    rw [sum_E, Real.log_mul (Z_pos (pq qr h) (pq kr h) (pg cr h) t).ne' (Real.exp_pos _).ne', Real.log_exp]
    ring

end Cert.AttnFwdRefIdeal.Read

end
-- ==== Proof.AttnFwd.Match.lean ====
/-
  The attention forward kernel's arrays as real numbers, the arguments being real numbers, and what every grid point
  leaves in its blocks.
-/
module

public import proofs.«01_k».proof.Proof.AttnFwd.Out
public import proofs.«01_k».proof.Proof.AttnFwd.HostV
public import proofs.«01_k».proof.Proof.AttnFwd.Ref

@[expose] public section

set_option maxRecDepth 16384

noncomputable section

namespace Cert.AttnFwd

open Idealize.ShloMosaic Idealize.ShloMosaic.TcCoe
open Cert.AttnFwdIdeal Cert.AttnFwdIdeal.Gen Cert.Math Cert.AttnModel
open Cert.AttnRefIdeal.Read (hd gt)
open Cert.AttnFwdRefIdeal.Read (pq pg)
open Cert.Attn (pos pos_val pd pl chansB_real line_real padX padX_real padL kAug_apply kT_apply gates gates_apply)

/-- The arguments are real numbers. -/
structure Reals (m : (ℓ : Loc nD τ sig) → Buf (Elt Ideal) ℓ) (c : Dev nD) (qr kr vr : Fin 8208 → Fin 1024 → ℝ) (cr : Fin 8208 → Fin 16 → ℝ) : Prop where
  hq : ∀ t x, aQ m c (ix2 t x) = (qr t x : EReal)
  hk : ∀ t x, aK m c (ix2 t x) = (kr t x : EReal)
  hv : ∀ t x, aV m c (ix2 t x) = (vr t x : EReal)
  hc : ∀ t x, aC m c (ix2 t x) = (cr t x : EReal)

variable {m : (ℓ : Loc nD τ sig) → Buf (Elt Ideal) ℓ} {c : Dev nD} {qr kr vr : Fin 8208 → Fin 1024 → ℝ} {cr : Fin 8208 → Fin 16 → ℝ}
  (R : Reals m c qr kr vr cr)

theorem e8_real : e8 = ((1 / 8 : ℝ) : EReal) := Cert.Attn.e8_eq

include R

theorem gates_real (h : Fin 16) (t : Fin 8208) : gates (aC m c) (ix2 h t) = ((gt cr h t : ℝ) : EReal) := (gates_apply _ h t).trans (R.hc t h)

theorem rQ_real (h : Fin 16) (d : Fin 64) (t : Fin 8320) : rQ m c (ix3 h d t) = ((pq qr h t d : ℝ) : EReal) :=
  (congrFun (V_v31 m c) _).trans (chansB_real _ (hd qr) h (fun t d => R.hq t _) d t)

theorem rC_real (h : Fin 16) (t : Fin 8320) : rC m c (ix3 h 0 t) = ((pg cr h t : ℝ) : EReal) :=
  (congrFun (V_v34 m c) _).trans (line_real _ (gt cr) h (gates_real R h) t)

theorem rK_real (h : Fin 16) (u : Fin 8320) (l : Fin 128) :
    rK m c (ix3 h u l) = if e : l.val < 64 then (pq kr h u ⟨l.val, e⟩ : EReal) else if l.val < 67 then 1 else if l.val = 67 then ((-(pg cr h u) : ℝ) : EReal) else 0 := by
  refine (congrFun (V_v17 m c) _).trans ((kAug_apply _ _ h (fun s => ⟨_, gates_real R h s⟩) u l).trans ?_)
  refine dite_congr rfl (fun e => padX_real _ _ R.hk h u _) fun _ => ?_
  split
  · rfl
  split
  · rw [padL]
    by_cases hs : u.val < 8208
    · rw [dif_pos hs, pg, pl, dif_pos hs, EReal.coe_neg, ← gates_real R]; rfl
    · rw [dif_neg hs, pg, pl, dif_neg hs, neg_zero]; rfl
  · rfl

theorem rV_real (h : Fin 16) (j : Fin 13) (r : Fin 80) (s : Fin 640) :
    rV m c (ix4 h j r s) = ((if e : r.val < 64 then pq vr h (pos j.val s) ⟨r.val, e⟩ else if r.val = 64 then 1 else 0 : ℝ) : EReal) := by
  refine (congrFun (V_v27 m c) _).trans ((kT_apply _ h j r s).trans ?_)
  by_cases e : r.val < 64
  · rw [dif_pos e, dif_pos e]
    refine (congrArg (fun s => padX (aV m c) h s ⟨r.val, e⟩) (Fin.ext ?_)).trans (padX_real _ _ R.hv h (pos j.val s) _)
    rw [pos_val _ j.isLt]
  · rw [dif_neg e, dif_neg e]
    split <;> rfl

variable (t : Fin cfg0.N) (e : Fin 2)

/-- One head's augmented queries at a grid point. -/
abbrev qaug (m : (ℓ : Loc nD τ sig) → Buf (Elt Ideal) ℓ) (c : Dev nD) (t : Fin cfg0.N) (e : Fin 2) : FVec Ideal S128x640 .bf16 :=
  k0_pay73 (q1 (iblk m c 0 t) e) (c1 (iblk m c 1 t) e)

theorem qa_real (l : Fin 128) (T : Fin 640) :
    qaug m c t e (ix2 l T) = if h : l.val < 64 then ((pq qr (headOf t e) (pos (t.val % 13) T) ⟨l.val, h⟩ * (1 / 8) : ℝ) : EReal)
      else if l.val = 64 then ((pg cr (headOf t e) (pos (t.val % 13) T) : ℝ) : EReal) else if 67 ≤ l.val ∧ l.val < 70 then 1 else 0 := by
  have e1 : c1 (iblk m c 1 t) e (ix3 0 0 T) = ((pg cr (headOf t e) (pos (t.val % 13) T) : ℝ) : EReal) := by
    rw [c1_apply, blk1, rC_real R]
  refine (hpay73 _ _ l T ⟨_, e1⟩).trans ?_
  rw [e1]
  refine dite_congr rfl (fun h => ?_) fun _ => rfl
  rw [q1_apply, blk0, rQ_real R, e8_real, ← EReal.coe_mul]

/-- The kernel's scores are the model's. -/
theorem score (j : ℕ) (s T : Fin 640) :
    k0_pay60 (F := Ideal) (qaug m c t e) (rows (iblk m c 2 t) e j) (ix2 s T)
      = ((sc (pq qr (headOf t e)) (pq kr (headOf t e)) (pg cr (headOf t e)) (pos (t.val % 13) T) (pos j s) : ℝ) : EReal) := by
  have es : sc (pq qr (headOf t e)) (pq kr (headOf t e)) (pg cr (headOf t e)) (pos (t.val % 13) T) (pos j s)
      = (∑ d, pq kr (headOf t e) (pos j s) d * (pq qr (headOf t e) (pos (t.val % 13) T) d * (1 / 8))) + pg cr (headOf t e) (pos (t.val % 13) T) + -pg cr (headOf t e) (pos j s) := by
    rw [sc, Finset.sum_mul, ← sub_eq_add_neg]
    refine congrArg (fun y => y + _ - _) (Finset.sum_congr rfl fun d _ => by ring)
  have ek : ∀ l, rows (iblk m c 2 t) e j (ix3 0 s l) = if e' : l.val < 64 then (pq kr (headOf t e) (pos j s) ⟨l.val, e'⟩ : EReal) else if l.val < 67 then 1 else if l.val = 67 then ((-(pg cr (headOf t e) (pos j s)) : ℝ) : EReal) else 0 := fun l => by
    rw [rows_apply, blk2, rK_real R]
  rw [hpay60, es, EReal.coe_add, EReal.coe_add, coe_sum]
  refine sum128 _ _ _ _ (fun d => ?_) ?_ ?_ fun x hx hx' => ?_
  · rw [ek, dif_pos d.isLt, qa_real R, dif_pos d.isLt, ← EReal.coe_mul]
  · rw [ek, dif_neg (by decide), if_pos (by decide), qa_real R, dif_neg (by decide), if_pos (by decide), one_mul]
  · rw [ek, dif_neg (by decide), if_neg (by decide), if_pos (by decide), qa_real R, dif_neg (by decide), if_neg (by decide), if_pos (by decide), mul_one]
  · by_cases e' : x.val < 67
    · rw [qa_real R, dif_neg (by omega), if_neg (by omega), if_neg (by omega), mul_zero]
    · rw [ek, dif_neg (by omega), if_neg e', if_neg hx', zero_mul]

theorem at_ : At (pq qr) (pq kr) (pq vr) (pg cr) m c := fun t e s => by
  have hW : ∀ j < 13, ∀ r s, tile (iblk m c 3 t) e j (ix4 0 0 r s) = (((fun (u : Fin 8320) (r : Fin 80) => if h : r.val < 64 then pq vr (headOf t e) u ⟨r.val, h⟩ else if r.val = 64 then (1 : ℝ) else 0) (pos j s) r : ℝ) : EReal) := fun j hj r s => by
    rw [tile_apply _ e j hj, blk3]
    exact rV_real R (headOf t e) ⟨j, hj⟩ r s
  obtain ⟨M, h0, h1⟩ := last_real (qaug m c t e) (iblk m c 2 t) (iblk m c 3 t) e
    (fun u T => sc (pq qr (headOf t e)) (pq kr (headOf t e)) (pg cr (headOf t e)) (pos (t.val % 13) T) u)
    (fun u r => if h : r.val < 64 then pq vr (headOf t e) u ⟨r.val, h⟩ else if r.val = 64 then 1 else 0)
    (fun j _ s T => score R t e j s T) hW (iblk m c 0 t) (iblk m c 1 t) rfl (t.val % 13) (Nat.mod_lt _ (by decide)) s
  refine results (pq qr (headOf t e)) (pq kr (headOf t e)) (pq vr (headOf t e)) (pg cr (headOf t e)) (pos (t.val % 13) s) M _ _ s h0 (fun d => ?_) ?_
  · rw [h1]
    refine congrArg (fun y : ℝ => (y : EReal)) (Finset.sum_congr rfl fun u _ => ?_)
    rw [dif_pos d.isLt]; rfl
  · rw [h1]
    refine congrArg (fun y : ℝ => (y : EReal)) (Finset.sum_congr rfl fun u _ => ?_)
    rw [dif_neg (by decide), if_pos (by decide), one_mul]; rfl

theorem o_ref : Cert.AttnFwdRefIdeal.Read.val_main_v50 (F := Ideal) (aQ m c) (aK m c) (aV m c) (aC m c) = Ro (pq qr) (pq kr) (pq vr) (pg cr) := by
  funext y
  idx_vars y
  exact (Cert.AttnFwdRefIdeal.Read.values R.hq R.hk R.hv R.hc y0 y2).1 y1

theorem lse_ref : Cert.AttnFwdRefIdeal.Read.val_main_v51 (F := Ideal) (aQ m c) (aK m c) (aC m c) = Rl (pq qr) (pq kr) (pg cr) := by
  funext y
  idx_vars y
  obtain rfl : y1 = 0 := Subsingleton.elim _ _
  exact (Cert.AttnFwdRefIdeal.Read.values R.hq R.hk R.hv R.hc y0 y2).2

end Cert.AttnFwd

end
-- ==== Proof.AttnFwd.Claim.lean ====
/-
  The claims about the attention forward kernel and its reference: both programs are quiet, and their two results agree
  over the extended reals.
-/
module

public import proofs.«01_k».proof.Defs
public import proofs.«01_k».proof.Proof.AttnFwd.Match
public import proofs.«01_k».proof.Proof.Gen.AttnFwd.Frame
public import proofs.«01_k».proof.Proof.Gen.AttnFwdIdeal.Value
public import proofs.«01_k».proof.Proof.Gen.Pre_attn_fwd_finite
public import Idealize.ShloMosaic.Lib.Claim
public import Idealize.ShloMosaic.Lib.ReduceAll

@[expose] public section

set_option maxRecDepth 16384

noncomputable section

namespace Cert.AttnFwd

open Idealize.ShloMosaic Idealize.ShloMosaic.TcCoe Idealize.SL.Sem
open Cert.AttnFwdRefIdeal.Read (pq pg)

open Cert.AttnFwdIdeal Cert.AttnFwdIdeal.Gen Cert.Math in
/-- The precondition says that the arguments are real numbers. -/
theorem reals (m : (ℓ : Loc nD τ sig) → Buf (Elt Ideal) ℓ) (h : Cert.Pre_AttnFwdIdeal_attn_fwd_finite m) (c : Dev nD) :
    ∃ qr kr vr cr, Reals m c qr kr vr cr := by
  have h1 := congrFun (h c) (fun a => a.elim0)
  obtain ⟨h1, h3⟩ := and_one _ _ _ h1
  obtain ⟨h1, h2⟩ := and_one _ _ _ h1
  obtain ⟨h0, h1⟩ := and_one _ _ _ h1
  have r0 : ∀ i, Real (aQ m c i) := fun i => Real.of_cmp _ _ _ ofBits_inf (Host.reduce_andi_all _ _ _ _ _ h0 i)
  have r1 : ∀ i, Real (aK m c i) := fun i => Real.of_cmp _ _ _ ofBits_inf (Host.reduce_andi_all _ _ _ _ _ h1 i)
  have r2 : ∀ i, Real (aV m c i) := fun i => Real.of_cmp _ _ _ ofBits_inf (Host.reduce_andi_all _ _ _ _ _ h2 i)
  have r3 : ∀ i, Real (aC m c i) := fun i => Real.of_cmp _ _ _ ofBits_inf (Host.reduce_andi_all _ _ _ _ _ h3 i)
  choose f0 e0 using r0
  choose f1 e1 using r1
  choose f2 e2 using r2
  choose f3 e3 using r3
  exact ⟨fun t x => f0 (ix2 t x), fun t x => f1 (ix2 t x), fun t x => f2 (ix2 t x), fun t x => f3 (ix2 t x),
    fun t x => e0 _, fun t x => e1 _, fun t x => e2 _, fun t x => e3 _⟩

theorem frame_bits : Cert.quiescent_AttnFwd := fun m ρ _ => Cert.AttnFwd.Gen.frame m ρ

theorem frame_ideal : Cert.quiescent_AttnFwdIdeal := fun m ρ _ => Cert.AttnFwdIdeal.Gen.frame m ρ

theorem frame_ideal_pre : Cert.quiescent_AttnFwdIdeal_pre_attn_fwd_finite := fun m ρ _ => Cert.AttnFwdIdeal.Gen.frame m ρ

theorem frame_ref : Cert.quiescent_AttnFwdRefIdeal := fun m g _ =>
  (θ_run Cert.AttnFwdRefIdeal.defs _ _).mono (fun r h => ⟨fun c => (h c).2.2, sem_eq_zero_of_no_sems (by decide) r.2⟩)
    (Cert.AttnFwdRefIdeal.Value.run (F := Ideal) m g)

theorem frame_ref_pre : Cert.quiescent_AttnFwdRefIdeal_pre_attn_fwd_finite := fun m g _ => frame_ref m g trivial

/-- The mask's literal is named −∞. -/
theorem keeps : Cert.preserves_AttnFwd_AttnFwdIdeal :=
  IdealRules.named_const.statement Cert.AttnFwdIdeal.κ "mask" .f32 0xF149F2CA#32 ⊥ rfl

set_option maxHeartbeats 4000000 in
theorem value : Cert.algebraic_AttnFwdIdeal_AttnFwdRefIdeal_pre_attn_fwd_finite := by
  intro m g m' g' hpre hagree
  choose qr kr vr cr R using fun c => reals m hpre c
  refine ⟨fun c => Ro (pq (qr c)) (pq (kr c)) (pq (vr c)) (pg (cr c)), fun c => Rl (pq (qr c)) (pq (kr c)) (pg (cr c)), ?_, ?_⟩
  · refine θ_run_mono (Cert.AttnFwdIdeal.Value.run_blocks m g) fun r h c => ?_
    obtain ⟨h0, h1, h2⟩ := h c
    exact ⟨h0.trans (result4 (at_ (R c))), h1.trans (result5 (at_ (R c))), h2⟩
  · refine θ_run_mono (Cert.AttnFwdRefIdeal.Value.run m' g') fun r h c => ?_
    obtain ⟨h0, h1, h2⟩ := h c
    obtain ⟨e0, e1, e2, e3⟩ := hagree c
    refine ⟨h0.trans ?_, h1.trans ?_, h2⟩
    · rw [Cert.AttnFwdRefIdeal.Read.val_main_v50_eq, e0, e1, e2, e3]
      exact o_ref (R c)
    · rw [Cert.AttnFwdRefIdeal.Read.val_main_v51_eq, e0, e1, e3]
      exact lse_ref (R c)

end Cert.AttnFwd

end
-- ==== Proof.lean ====
/-
  The claims of the certificate, put together from the modules that prove them.
-/
module

public import proofs.«01_k».proof.Defs
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Pre_gate_finite
public import proofs.«01_k».proof.Proof.Gate.Conjuncts
public import proofs.«01_k».proof.Proof.Gen.FfnLnBwd
public import proofs.«01_k».proof.Proof.Gen.FfnLnBwd.Frame
public import proofs.«01_k».proof.Proof.Gen.FfnLnBwdIdeal
public import proofs.«01_k».proof.Proof.Gen.FfnLnBwdIdeal.Value
public import proofs.«01_k».proof.Proof.Gen.FfnLnRefIdeal
public import proofs.«01_k».proof.Proof.Gen.FfnLnRefIdeal.Run
public import proofs.«01_k».proof.Proof.Gen.FfnLnRefIdeal.Read
public import proofs.«01_k».proof.Proof.Gen.Pre_ffn_ln_finite
public import proofs.«01_k».proof.Proof.Ffn.Claim
public import proofs.«01_k».proof.Proof.Gen.LossBwd
public import proofs.«01_k».proof.Proof.Gen.LossBwd.Frame
public import proofs.«01_k».proof.Proof.Gen.LossBwdIdeal
public import proofs.«01_k».proof.Proof.Gen.LossBwdIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Loss.Claim
public import proofs.«01_k».proof.Proof.Gen.AttnLnBwd
public import proofs.«01_k».proof.Proof.Gen.AttnLnBwd.Frame
public import proofs.«01_k».proof.Proof.Gen.AttnLnBwdIdeal
public import proofs.«01_k».proof.Proof.Gen.AttnLnBwdIdeal.Value
public import proofs.«01_k».proof.Proof.Gen.AttnLnRefIdeal
public import proofs.«01_k».proof.Proof.Gen.AttnLnRefIdeal.Run
public import proofs.«01_k».proof.Proof.Gen.AttnLnRefIdeal.Read
public import proofs.«01_k».proof.Proof.Gen.Pre_attn_ln_finite
public import proofs.«01_k».proof.Proof.AttnLn.Claim
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Attn.Claim
public import proofs.«01_k».proof.Proof.Gen.PoolBwd
public import proofs.«01_k».proof.Proof.Gen.PoolBwd.Frame
public import proofs.«01_k».proof.Proof.Gen.PoolBwdIdeal
public import proofs.«01_k».proof.Proof.Gen.PoolBwdIdeal.Frame
public import proofs.«01_k».proof.Proof.Gen.PoolRefIdeal
public import proofs.«01_k».proof.Proof.Gen.PoolRefIdeal.Run
public import proofs.«01_k».proof.Proof.Pool.Claim
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvRefIdeal
public import proofs.«01_k».proof.Proof.Gen.ConvRefIdeal.Run
public import proofs.«01_k».proof.Proof.Conv.Claim
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attn_fwd_finite
public import proofs.«01_k».proof.Proof.AttnFwd.Claim

@[expose] public section

noncomputable section

namespace Cert.Proof

theorem claim : Cert.Claim :=
  ⟨Cert.GateBwd.Gen.facts, Cert.GateBwdIdeal.Gen.facts, Cert.GateRefIdeal.Gen.facts,
    Cert.FfnLnBwd.Gen.facts, Cert.FfnLnBwdIdeal.Gen.facts, Cert.FfnLnRefIdeal.Gen.facts,
    Cert.LossBwd.Gen.facts, Cert.LossBwdIdeal.Gen.facts, Cert.LossRefIdeal.Gen.facts,
    Cert.AttnLnBwd.Gen.facts, Cert.AttnLnBwdIdeal.Gen.facts, Cert.AttnLnRefIdeal.Gen.facts,
    Cert.AttnBwd.Gen.facts, Cert.AttnBwdIdeal.Gen.facts, Cert.AttnRefIdeal.Gen.facts,
    Cert.PoolBwd.Gen.facts, Cert.PoolBwdIdeal.Gen.facts, Cert.PoolRefIdeal.Gen.facts,
    Cert.ConvBwd.Gen.facts, Cert.ConvBwdIdeal.Gen.facts, Cert.ConvRefIdeal.Gen.facts,
    Cert.AttnFwd.Gen.facts, Cert.AttnFwdIdeal.Gen.facts, Cert.AttnFwdRefIdeal.Gen.facts,
    Cert.Pre_gate_finite.Gen.facts, Cert.Pre_ffn_ln_finite.Gen.facts, Cert.Pre_loss_finite.Gen.facts,
    Cert.Pre_attn_ln_finite.Gen.facts, Cert.Pre_attn_finite.Gen.facts, Cert.Pre_attn_fwd_finite.Gen.facts,
    Cert.Gate.frame_bits, Cert.Gate.frame_ideal, Cert.Gate.frame_ideal_pre, Cert.Gate.frame_ref, Cert.Gate.frame_ref_pre,
    Cert.Ffn.frame_bits, Cert.Ffn.frame_ideal, Cert.Ffn.frame_ideal_pre, Cert.Ffn.frame_ref, Cert.Ffn.frame_ref_pre,
    Cert.Loss.frame_bits, Cert.Loss.frame_ideal, Cert.Loss.frame_ideal_pre, Cert.Loss.frame_ref, Cert.Loss.frame_ref_pre,
    Cert.AttnLn.frame_bits, Cert.AttnLn.frame_ideal, Cert.AttnLn.frame_ideal_pre, Cert.AttnLn.frame_ref, Cert.AttnLn.frame_ref_pre,
    Cert.Attn.frame_bits, Cert.Attn.frame_ideal, Cert.Attn.frame_ideal_pre, Cert.Attn.frame_ref, Cert.Attn.frame_ref_pre,
    Cert.Pool.frame_bits, Cert.Pool.frame_ideal, Cert.Pool.frame_ref,
    Cert.Conv.frame_bits, Cert.Conv.frame_ideal, Cert.Conv.frame_ref,
    Cert.AttnFwd.frame_bits, Cert.AttnFwd.frame_ideal, Cert.AttnFwd.frame_ideal_pre, Cert.AttnFwd.frame_ref, Cert.AttnFwd.frame_ref_pre,
    trivial, Cert.Gate.value,
    trivial, Cert.Ffn.value,
    trivial, Cert.Loss.value,
    trivial, Cert.AttnLn.value,
    trivial, Cert.Attn.value,
    trivial,
    trivial,
    Cert.AttnFwd.keeps, Cert.AttnFwd.value⟩

end Cert.Proof

end
